-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  IdealRules.named_const.Statement Cert.KernelIdeal.κ "cut" .f32 0xC2D00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v10) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v25_0)) (v1 : (c : Dev Cert.Kernel4Ideal.nD) → Buf (Elt Ideal) ((c.tc : Thread Cert.Kernel4Ideal.nD Cert.Kernel4Ideal.τ).loc Cert.Kernel4Ideal.main_v25_1)) (v2 : (c : Dev Cert.Kernel4Ideal.nD) → Buf (Elt Ideal) ((c.tc : Thread Cert.Kernel4Ideal.nD Cert.Kernel4Ideal.τ).loc Cert.Kernel4Ideal.main_v25_2)) (v3 : (c : Dev Cert.Kernel4Ideal.nD) → Buf (Elt Ideal) ((c.tc : Thread Cert.Kernel4Ideal.nD Cert.Kernel4Ideal.τ).loc Cert.Kernel4Ideal.main_v25_3)) (v4 : (c : Dev Cert.Kernel4Ideal.nD) → Buf (Elt Ideal) ((c.tc : Thread Cert.Kernel4Ideal.nD Cert.Kernel4Ideal.τ).loc Cert.Kernel4Ideal.main_v25_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_0) = v0 c
          ∧ r.2.mem ((c.tc : Thread Cert.Kernel4Ideal.nD Cert.Kernel4Ideal.τ).loc Cert.Kernel4Ideal.main_v25_1) = v1 c
          ∧ r.2.mem ((c.tc : Thread Cert.Kernel4Ideal.nD Cert.Kernel4Ideal.τ).loc Cert.Kernel4Ideal.main_v25_2) = v2 c
          ∧ r.2.mem ((c.tc : Thread Cert.Kernel4Ideal.nD Cert.Kernel4Ideal.τ).loc Cert.Kernel4Ideal.main_v25_3) = v3 c
          ∧ r.2.mem ((c.tc : Thread Cert.Kernel4Ideal.nD Cert.Kernel4Ideal.τ).loc Cert.Kernel4Ideal.main_v25_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v64) = v2 c
          ∧ r.2.mem ((c.tc : Thread Cert.Reference4Ideal.nD Cert.Reference4Ideal.τ).loc Cert.Reference4Ideal.main_v67) = v3 c
          ∧ r.2.mem ((c.tc : Thread Cert.Reference4Ideal.nD Cert.Reference4Ideal.τ).loc Cert.Reference4Ideal.main_v70) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6)) (v1 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_v8) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v70) = v0 c
          ∧ r.2.mem ((c.tc : Thread Cert.Reference8Ideal.nD Cert.Reference8Ideal.τ).loc Cert.Reference8Ideal.main_v55) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v10) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v57) = v0 c
          ∧ r.2.mem ((c.tc : Thread Cert.Reference9Ideal.nD Cert.Reference9Ideal.τ).loc Cert.Reference9Ideal.main_v55) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v57) = v0 c
          ∧ r.2.mem ((c.tc : Thread Cert.Reference10Ideal.nD Cert.Reference10Ideal.τ).loc Cert.Reference10Ideal.main_v55) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v9)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v47) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  IdealRules.named_const.Statement Cert.Kernel12Ideal.κ "cut" .f32 0xC2D00000#32 ⊥

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v46) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S2x4x4096x2048 : Shape := ⟨4, ![2, 4, 4096, 2048]⟩
abbrev S2x4x512x4096 : Shape := ⟨4, ![2, 4, 512, 4096]⟩
abbrev S4x4096x512 : Shape := ⟨3, ![4, 4096, 512]⟩
abbrev S1x1x4096x256 : Shape := ⟨4, ![1, 1, 4096, 256]⟩
abbrev S1x1x256x4096 : Shape := ⟨4, ![1, 1, 256, 4096]⟩
abbrev S1x4096x256 : Shape := ⟨3, ![1, 4096, 256]⟩
abbrev S1x1024x128 : Shape := ⟨3, ![1, 1024, 128]⟩
abbrev S1x1024x256 : Shape := ⟨3, ![1, 1024, 256]⟩
abbrev S256x256 : Shape := ⟨2, ![256, 256]⟩
abbrev S1024x256 : Shape := ⟨2, ![1024, 256]⟩
abbrev S1x1x256x256 : Shape := ⟨4, ![1, 1, 256, 256]⟩
abbrev S256x512 : Shape := ⟨2, ![256, 512]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩
abbrev S1 : Shape := ⟨1, ![1]⟩
abbrev S1x1x1 : Shape := ⟨3, ![1, 1, 1]⟩
abbrev S1x256x256 : Shape := ⟨3, ![1, 256, 256]⟩

abbrev nBuf : Space → Nat
  | .hbm => 4
  | .vmem => 10
  | .smem => 0
  | _ => 0

abbrev bufTy : (tb : Table) → Fin (tcTables nBuf tb) → BufTy
  | .hbm, ⟨0, _⟩ => ⟨S2x4x4096x2048, .f32⟩
  | .hbm, ⟨1, _⟩ => ⟨S2x4x512x4096, .f32⟩
  | .hbm, ⟨2, _⟩ => ⟨S2x4x512x4096, .f32⟩
  | .hbm, ⟨3, _⟩ => ⟨S4x4096x512, .bf16⟩
  | .local _ .vmem, ⟨0, _⟩ => ⟨S1x1x4096x256, .f32⟩
  | .local _ .vmem, ⟨1, _⟩ => ⟨S1x1x4096x256, .f32⟩
  | .local _ .vmem, ⟨2, _⟩ => ⟨S1x1x256x4096, .f32⟩
  | .local _ .vmem, ⟨3, _⟩ => ⟨S1x1x256x4096, .f32⟩
  | .local _ .vmem, ⟨4, _⟩ => ⟨S1x1x256x4096, .f32⟩
  | .local _ .vmem, ⟨5, _⟩ => ⟨S1x1x256x4096, .f32⟩
  | .local _ .vmem, ⟨6, _⟩ => ⟨S1x4096x256, .bf16⟩
  | .local _ .vmem, ⟨7, _⟩ => ⟨S1x4096x256, .bf16⟩
  | .local _ .vmem, ⟨8, _⟩ => ⟨S1x1024x128, .f32⟩
  | .local _ .vmem, ⟨9, _⟩ => ⟨S1x1024x256, .f32⟩
  | _, _ => ⟨S2x4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v7 : BitVec 32 := Scalar.muli arg9 c256_i32
  v7
def k0_off1 (k0_t1 : Fin k0_t1_loop.trips) : Fin 4 → Nat :=
  let c0 : Index := 0#32
  let c0_2 : Index := 0#32
  let c0_i32 : BitVec 32 := 0#32
  let c1_i32 : BitVec 32 := 1#32
  let arg9 : BitVec 32 := Scf.iv c0_i32 c1_i32 k0_t1
  let c256_i32 : BitVec 32 := 256#32
  let v7 : BitVec 32 := Scalar.muli arg9 c256_i32
  let v8 : BitVec 32 := v7
  let v9 : Index := Scalar.indexCast v8
  let c0_3 : Index := 0#32
  ![0, 0, v9.toNat, 0]
def k0_mult2 (i : grid0.Coords) (k0_t1 : Fin k0_t1_loop.trips) : BitVec 32 :=
  let arg2 : BitVec 32 := BitVec.ofNat 32 (i 2).val
  let c16_i32_1 : BitVec 32 := 16#32
  let v5 : BitVec 32 := Scalar.muli arg2 c16_i32_1
  let c0_i32 : BitVec 32 := 0#32
  let c1_i32 : BitVec 32 := 1#32
  let arg9 : BitVec 32 := Scf.iv c0_i32 c1_i32 k0_t1
  let v6 : BitVec 32 := Scalar.addi v5 arg9
  let c256_i32_16 : BitVec 32 := 256#32
  let v57 : BitVec 32 := Scalar.muli v6 c256_i32_16
  v57
def k0_mult3 (i : grid0.Coords) (k0_t1 : Fin k0_t1_loop.trips) : BitVec 32 :=
  let arg2 : BitVec 32 := BitVec.ofNat 32 (i 2).val
  let c16_i32_1 : BitVec 32 := 16#32
  let v5 : BitVec 32 := Scalar.muli arg2 c16_i32_1
  let c0_i32 : BitVec 32 := 0#32
  let c1_i32 : BitVec 32 := 1#32
  let arg9 : BitVec 32 := Scf.iv c0_i32 c1_i32 k0_t1
  let v6 : BitVec 32 := Scalar.addi v5 arg9
  let c1_i32_17 : BitVec 32 := 1#32
  let v59 : BitVec 32 := Scalar.subi v6 c1_i32_17
  let c0_i32_18 : BitVec 32 := 0#32
  let v60 : BitVec 32 := Scalar.maxsi v59 c0_i32_18
  let c256_i32_19 : BitVec 32 := 256#32
  let v61 : BitVec 32 := Scalar.muli v60 c256_i32_19
  v61
def k0_off2 (i : grid0.Coords) (k0_t1 : Fin k0_t1_loop.trips) : Fin 4 → Nat :=
  let c0_20 : Index := 0#32
  let c0_21 : Index := 0#32
  let c0_22 : Index := 0#32
  let arg2 : BitVec 32 := BitVec.ofNat 32 (i 2).val
  let c16_i32_1 : BitVec 32 := 16#32
  let v5 : BitVec 32 := Scalar.muli arg2 c16_i32_1
  let c0_i32 : BitVec 32 := 0#32
  let c1_i32 : BitVec 32 := 1#32
  let arg9 : BitVec 32 := Scf.iv c0_i32 c1_i32 k0_t1
  let v6 : BitVec 32 := Scalar.addi v5 arg9
  let c1_i32_17 : BitVec 32 := 1#32
  let v59 : BitVec 32 := Scalar.subi v6 c1_i32_17
  let c0_i32_18 : BitVec 32 := 0#32
  let v60 : BitVec 32 := Scalar.maxsi v59 c0_i32_18
  let c256_i32_19 : BitVec 32 := 256#32
  let v61 : BitVec 32 := Scalar.muli v60 c256_i32_19
  let v62 : BitVec 32 := v61
  let v63 : Index := Scalar.indexCast v62
  ![0, 0, 0, v63.toNat]
def k0_off3 (i : grid0.Coords) (k0_t1 : Fin k0_t1_loop.trips) : Fin 4 → Nat :=
  let c0_23 : Index := 0#32
  let c0_24 : Index := 0#32
  let c0_25 : Index := 0#32
  let arg2 : BitVec 32 := BitVec.ofNat 32 (i 2).val
  let c16_i32_1 : BitVec 32 := 16#32
  let v5 : BitVec 32 := Scalar.muli arg2 c16_i32_1
  let c0_i32 : BitVec 32 := 0#32
  let c1_i32 : BitVec 32 := 1#32
  let arg9 : BitVec 32 := Scf.iv c0_i32 c1_i32 k0_t1
  let v6 : BitVec 32 := Scalar.addi v5 arg9
  let c256_i32_16 : BitVec 32 := 256#32
  let v57 : BitVec 32 := Scalar.muli v6 c256_i32_16
  let v58 : BitVec 32 := v57
  let v66 : Index := Scalar.indexCast v58
  ![0, 0, 0, v66.toNat]
def k0_mult4 (arg10 : BitVec 32) : BitVec 32 :=
  let c256_i32_77 : BitVec 32 := 256#32
  let v203 : BitVec 32 := Scalar.muli arg10 c256_i32_77
  v203

def k0_off4 (arg10 : BitVec 32) : Fin 4 → Nat :=
  let c0_78 : Index := 0#32
  let c0_79 : Index := 0#32
  let c0_80 : Index := 0#32
  let c256_i32_77 : BitVec 32 := 256#32
  let v203 : BitVec 32 := Scalar.muli arg10 c256_i32_77
  let v204 : BitVec 32 := v203
  let v205 : Index := Scalar.indexCast v204
  ![0, 0, 0, v205.toNat]

def k0_chk1 (arg10 : BitVec 32) : Prop :=
  (256 ∣ (k0_mult4 arg10).toNat) ∧
  (∀ a, (k0_off4 arg10) a + S1x1x256x256.size a ≤ S1x1x256x4096.size a)
theorem k0_mult4_dvd : ∀ (arg10 : BitVec 32) (k0_hw1 : k0_chk1 arg10), 256 ∣ (k0_mult4 arg10).toNat := fun arg10 k0_hw1 => k0_hw1.1
theorem k0_off4_inb : ∀ (arg10 : BitVec 32) (k0_hw1 : k0_chk1 arg10), ∀ a, (k0_off4 arg10) a + S1x1x256x256.size a ≤ S1x1x256x4096.size a := fun arg10 k0_hw1 => k0_hw1.2

def k0_off5 (k0_t1 : Fin k0_t1_loop.trips) : Fin 3 → Nat :=
  let c0_75 : Index := 0#32
  let c0_i32 : BitVec 32 := 0#32
  let c1_i32 : BitVec 32 := 1#32
  let arg9 : BitVec 32 := Scf.iv c0_i32 c1_i32 k0_t1
  let c256_i32 : BitVec 32 := 256#32
  let v7 : BitVec 32 := Scalar.muli arg9 c256_i32
  let v8 : BitVec 32 := v7
  let v199 : Index := Scalar.indexCast v8
  let c0_76 : Index := 0#32
  ![0, v199.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c1_i32 : BitVec 32 := 1#32
  let c0_i32 : BitVec 32 := 0#32
  ![c1_i32.toNat, arg0.toNat, arg2.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "cut" => some ⊥
  | _ => none
-- ==== ReferenceIdeal.lean ====
abbrev S2x4x4096x2048 : Shape := ⟨4, ![2, 4, 4096, 2048]⟩
abbrev S2x4x512x4096 : Shape := ⟨4, ![2, 4, 512, 4096]⟩
abbrev S1x4x4096x2048 : Shape := ⟨4, ![1, 4, 4096, 2048]⟩
abbrev S4x4096x2048 : Shape := ⟨3, ![4, 4096, 2048]⟩
abbrev S4x4096x512 : Shape := ⟨3, ![4, 4096, 512]⟩
abbrev S4x4096x8x64 : Shape := ⟨4, ![4, 4096, 8, 64]⟩
abbrev S1x4x512x4096 : Shape := ⟨4, ![1, 4, 512, 4096]⟩
abbrev S4x512x4096 : Shape := ⟨3, ![4, 512, 4096]⟩
abbrev S4096 : Shape := ⟨1, ![4096]⟩
abbrev S4x8x4096x4096 : Shape := ⟨4, ![4, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x8x4096x4095 : Shape := ⟨4, ![4, 8, 4096, 4095]⟩
abbrev S4x8x4096x1 : Shape := ⟨4, ![4, 8, 4096, 1]⟩
abbrev S4x8x64x4096 : Shape := ⟨4, ![4, 8, 64, 4096]⟩

abbrev nBuf : Space → Nat
  | .hbm => 83
  | .vmem => 0
  | .smem => 0
  | _ => 0

abbrev bufTy : (tb : Table) → Fin (tcTables nBuf tb) → BufTy
  | .hbm, ⟨0, _⟩ => ⟨S2x4x4096x2048, .f32⟩
  | .hbm, ⟨1, _⟩ => ⟨S2x4x512x4096, .f32⟩
  | .hbm, ⟨2, _⟩ => ⟨S2x4x512x4096, .f32⟩
  | .hbm, ⟨3, _⟩ => ⟨S1x4x4096x2048, .f32⟩
  | .hbm, ⟨4, _⟩ => ⟨S4x4096x2048, .f32⟩
  | .hbm, ⟨5, _⟩ => ⟨S4x4096x512, .f32⟩
  | .hbm, ⟨6, _⟩ => ⟨S4x4096x8x64, .f32⟩
  | .hbm, ⟨7, _⟩ => ⟨S1x4x512x4096, .f32⟩
  | .hbm, ⟨8, _⟩ => ⟨S4x512x4096, .f32⟩
  | .hbm, ⟨9, _⟩ => ⟨S4x4096x512, .f32⟩
  | .hbm, ⟨10, _⟩ => ⟨S4x4096x8x64, .f32⟩
  | .hbm, ⟨11, _⟩ => ⟨S1x4x512x4096, .f32⟩
  | .hbm, ⟨12, _⟩ => ⟨S4x512x4096, .f32⟩
  | .hbm, ⟨13, _⟩ => ⟨S4x4096x512, .f32⟩
  | .hbm, ⟨14, _⟩ => ⟨S4x4096x8x64, .f32⟩
  | .hbm, ⟨15, _⟩ => ⟨S4096, .i32⟩
  | .hbm, ⟨16, _⟩ => ⟨S4x8x4096x4096, .f32⟩
  | .hbm, ⟨17, _⟩ => ⟨S_, .f32⟩
  | .hbm, ⟨18, _⟩ => ⟨S4x8x4096x4096, .f32⟩
  | .hbm, ⟨19, _⟩ => ⟨S4x8x4096x4096, .f32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S1x1x4096x4096, .i1⟩
  | .hbm, ⟨26, _⟩ => ⟨S4x8x4096x4096, .f32⟩
  | .hbm, ⟨27, _⟩ => ⟨S4x8x4096x4096, .f32⟩
  | .hbm, ⟨28, _⟩ => ⟨S_, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .i1⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S_, .f32⟩
  | .hbm, ⟨44, _⟩ => ⟨S_, .f32⟩
  | .hbm, ⟨45, _⟩ => ⟨S4x8x4096x4096, .i1⟩
  | .hbm, ⟨46, _⟩ => ⟨S4x8x4096x4096, .f32⟩
  | .hbm, ⟨47, _⟩ => ⟨S4x8x4096x4096, .f32⟩
  | .hbm, ⟨48, _⟩ => ⟨S_, .f32⟩
  | .hbm, ⟨49, _⟩ => ⟨S_, .f32⟩
  | .hbm, ⟨50, _⟩ => ⟨S4x8x4096x4096, .f32⟩
  | .hbm, ⟨51, _⟩ => ⟨S4x8x4096x4095, .f32⟩
  | .hbm, ⟨52, _⟩ => ⟨S4x8x4096x1, .f32⟩
  | .hbm, ⟨53, _⟩ => ⟨S_, .f32⟩
  | .hbm, ⟨54, _⟩ => ⟨S4x8x4096x1, .f32⟩
  | .hbm, ⟨55, _⟩ => ⟨S4x8x4096x4096, .f32⟩
  | .hbm, ⟨56, _⟩ => ⟨S4x8x4096x4096, .f32⟩
  | .hbm, ⟨57, _⟩ => ⟨S_, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S4x8x4096x4096, .i1⟩
  | .hbm, ⟨63, _⟩ => ⟨S4x8x4096x4096, .f32⟩
  | .hbm, ⟨64, _⟩ => ⟨S4x8x4096x4096, .f32⟩
  | .hbm, ⟨65, _⟩ => ⟨S4x8x4096x4096, .f32⟩
  | .hbm, ⟨66, _⟩ => ⟨S4x8x4096x4096, .f32⟩
  | .hbm, ⟨67, _⟩ => ⟨S4x8x4096x4096, .f32⟩
  | .hbm, ⟨68, _⟩ => ⟨S4x8x4096x4096, .f32⟩
  | .hbm, ⟨69, _⟩ => ⟨S4x8x4096x4096, .f32⟩
  | .hbm, ⟨70, _⟩ => ⟨S4x8x4096x4096, .f32⟩
  | .hbm, ⟨71, _⟩ => ⟨S4x8x4096x4096, .f32⟩
  | .hbm, ⟨72, _⟩ => ⟨S4x8x4096x4096, .f32⟩
  | .hbm, ⟨73, _⟩ => ⟨S4x8x4096x4096, .f32⟩
  | .hbm, ⟨74, _⟩ => ⟨S_, .f32⟩
  | .hbm, ⟨75, _⟩ => ⟨S_, .f32⟩
  | .hbm, ⟨76, _⟩ => ⟨S4x8x4096x4096, .i1⟩
  | .hbm, ⟨77, _⟩ => ⟨S4x8x4096x4096, .f32⟩
  | .hbm, ⟨78, _⟩ => ⟨S4x8x4096x4096, .f32⟩
  | .hbm, ⟨79, _⟩ => ⟨S4x8x64x4096, .f32⟩
  | .hbm, ⟨80, _⟩ => ⟨S4x4096x8x64, .f32⟩
  | .hbm, ⟨81, _⟩ => ⟨S4x4096x512, .f32⟩
  | .hbm, ⟨82, _⟩ => ⟨S4x4096x512, .bf16⟩
  | _, _ => ⟨S2x4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v23 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_call2_cst : Ref sig .tc := ⟨.hbm, 48, rfl⟩
abbrev main_call2_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_1 : Ref sig .tc := ⟨.hbm, 53, rfl⟩
abbrev main_v28 : Ref sig .tc := ⟨.hbm, 54, rfl⟩
abbrev main_v29 : Ref sig .tc := ⟨.hbm, 55, rfl⟩
abbrev main_call3_v0 : Ref sig .tc := ⟨.hbm, 56, rfl⟩
abbrev main_call3_call0_cst : Ref sig .tc := ⟨.hbm, 57, rfl⟩
abbrev main_call3_call0_v0 : Ref sig .tc := ⟨.hbm, 58, rfl⟩
abbrev main_call3_call0_v1 : Ref sig .tc := ⟨.hbm, 59, rfl⟩
abbrev main_call3_call0_v2 : Ref sig .tc := ⟨.hbm, 60, rfl⟩
abbrev main_call3_call0_v3 : Ref sig .tc := ⟨.hbm, 61, rfl⟩
abbrev main_call3_call0_v4 : Ref sig .tc := ⟨.hbm, 62, rfl⟩
abbrev main_call3_call0_v5 : Ref sig .tc := ⟨.hbm, 63, rfl⟩
abbrev main_call3_call0_v6 : Ref sig .tc := ⟨.hbm, 64, rfl⟩
abbrev main_call3_call0_v7 : Ref sig .tc := ⟨.hbm, 65, rfl⟩
abbrev main_call3_call0_v8 : Ref sig .tc := ⟨.hbm, 66, rfl⟩
abbrev main_call3_call0_v9 : Ref sig .tc := ⟨.hbm, 67, rfl⟩
abbrev main_call3_call0_v10 : Ref sig .tc := ⟨.hbm, 68, rfl⟩
abbrev main_call3_call0_v11 : Ref sig .tc := ⟨.hbm, 69, rfl⟩
abbrev main_call3_v1 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_2 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S1024 : Shape := ⟨1, ![1024]⟩
abbrev S1024x7680 : Shape := ⟨2, ![1024, 7680]⟩
abbrev S3x1024 : Shape := ⟨2, ![3, 1024]⟩
abbrev S3x512x1024 : Shape := ⟨3, ![3, 512, 1024]⟩
abbrev S1024x1024 : Shape := ⟨2, ![1024, 1024]⟩
abbrev S1024x3072 : Shape := ⟨2, ![1024, 3072]⟩
abbrev S16384x1024 : Shape := ⟨2, ![16384, 1024]⟩
abbrev S16384x512 : Shape := ⟨2, ![16384, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 19
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S1024, .f32⟩
  | .hbm, ⟨5, _⟩ => ⟨S1024x7680, .f32⟩
  | .hbm, ⟨6, _⟩ => ⟨S3x1024, .f32⟩
  | .hbm, ⟨7, _⟩ => ⟨S3x512x1024, .f32⟩
  | .hbm, ⟨8, _⟩ => ⟨S1024x1024, .f32⟩
  | .hbm, ⟨9, _⟩ => ⟨S1024x3072, .f32⟩
  | .hbm, ⟨10, _⟩ => ⟨S16384x1024, .f32⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S1024x3072, .bf16⟩
  | .hbm, ⟨15, _⟩ => ⟨S3x512x1024, .bf16⟩
  | .hbm, ⟨16, _⟩ => ⟨S1024x1024, .bf16⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S1024x3072, .bf16⟩
  | .local _ .vmem, ⟨10, _⟩ => ⟨S3x1024, .f32⟩
  | .local _ .vmem, ⟨11, _⟩ => ⟨S3x512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel2Ideal.lean ====
abbrev S4x4096x1024 : Shape := ⟨3, ![4, 4096, 1024]⟩
abbrev S4x4096x512 : Shape := ⟨3, ![4, 4096, 512]⟩
abbrev S1024 : Shape := ⟨1, ![1024]⟩
abbrev S1024x7680 : Shape := ⟨2, ![1024, 7680]⟩
abbrev S3x1024 : Shape := ⟨2, ![3, 1024]⟩
abbrev S3x512x1024 : Shape := ⟨3, ![3, 512, 1024]⟩
abbrev S1024x1024 : Shape := ⟨2, ![1024, 1024]⟩
abbrev S1024x3072 : Shape := ⟨2, ![1024, 3072]⟩
abbrev S16384x1024 : Shape := ⟨2, ![16384, 1024]⟩
abbrev S16384x512 : Shape := ⟨2, ![16384, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 19
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S1024, .f32⟩
  | .hbm, ⟨5, _⟩ => ⟨S1024x7680, .f32⟩
  | .hbm, ⟨6, _⟩ => ⟨S3x1024, .f32⟩
  | .hbm, ⟨7, _⟩ => ⟨S3x512x1024, .f32⟩
  | .hbm, ⟨8, _⟩ => ⟨S1024x1024, .f32⟩
  | .hbm, ⟨9, _⟩ => ⟨S1024x3072, .f32⟩
  | .hbm, ⟨10, _⟩ => ⟨S16384x1024, .f32⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S1024x3072, .bf16⟩
  | .hbm, ⟨15, _⟩ => ⟨S3x512x1024, .bf16⟩
  | .hbm, ⟨16, _⟩ => ⟨S1024x1024, .bf16⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S1024x3072, .bf16⟩
  | .local _ .vmem, ⟨10, _⟩ => ⟨S3x1024, .f32⟩
  | .local _ .vmem, ⟨11, _⟩ => ⟨S3x512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x4096x1024 : Shape := ⟨3, ![4, 4096, 1024]⟩
abbrev S4x4096x512 : Shape := ⟨3, ![4, 4096, 512]⟩
abbrev S1024 : Shape := ⟨1, ![1024]⟩
abbrev S1024x7680 : Shape := ⟨2, ![1024, 7680]⟩
abbrev S3x1024 : Shape := ⟨2, ![3, 1024]⟩
abbrev S3x512x1024 : Shape := ⟨3, ![3, 512, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7680 : Shape := ⟨3, ![4, 4096, 7680]⟩
abbrev S4x4096x3072 : Shape := ⟨3, ![4, 4096, 3072]⟩
abbrev S4x4096x3x1024 : Shape := ⟨4, ![4, 4096, 3, 1024]⟩
abbrev S1x1x3x1024 : Shape := ⟨4, ![1, 1, 3, 1024]⟩
abbrev S4x4096x1x1024 : Shape := ⟨4, ![4, 4096, 1, 1024]⟩
abbrev S1x512x1024 : Shape := ⟨3, ![1, 512, 1024]⟩
abbrev S512x1024 : Shape := ⟨2, ![512, 1024]⟩
abbrev S16384x1024 : Shape := ⟨2, ![16384, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S1024, .f32⟩
  | .hbm, ⟨5, _⟩ => ⟨S1024x7680, .f32⟩
  | .hbm, ⟨6, _⟩ => ⟨S3x1024, .f32⟩
  | .hbm, ⟨7, _⟩ => ⟨S3x512x1024, .f32⟩
  | .hbm, ⟨8, _⟩ => ⟨S1024x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x4096x7680, .f32⟩
  | .hbm, ⟨26, _⟩ => ⟨S4x4096x3072, .f32⟩
  | .hbm, ⟨27, _⟩ => ⟨S4x4096x3x1024, .f32⟩
  | .hbm, ⟨28, _⟩ => ⟨S1x1x3x1024, .f32⟩
  | .hbm, ⟨29, _⟩ => ⟨S4x4096x3x1024, .f32⟩
  | .hbm, ⟨30, _⟩ => ⟨S4x4096x3x1024, .f32⟩
  | .hbm, ⟨31, _⟩ => ⟨S4x4096x3x1024, .f32⟩
  | .hbm, ⟨32, _⟩ => ⟨S4x4096x3x1024, .f32⟩
  | .hbm, ⟨33, _⟩ => ⟨S_, .f32⟩
  | .hbm, ⟨34, _⟩ => ⟨S4x4096x3x1024, .f32⟩
  | .hbm, ⟨35, _⟩ => ⟨S4x4096x3x1024, .f32⟩
  | .hbm, ⟨36, _⟩ => ⟨S_, .f32⟩
  | .hbm, ⟨37, _⟩ => ⟨S4x4096x3x1024, .f32⟩
  | .hbm, ⟨38, _⟩ => ⟨S4x4096x3x1024, .f32⟩
  | .hbm, ⟨39, _⟩ => ⟨S4x4096x1x1024, .f32⟩
  | .hbm, ⟨40, _⟩ => ⟨S4x4096x1024, .f32⟩
  | .hbm, ⟨41, _⟩ => ⟨S1x512x1024, .f32⟩
  | .hbm, ⟨42, _⟩ => ⟨S512x1024, .f32⟩
  | .hbm, ⟨43, _⟩ => ⟨S4x4096x1024, .f32⟩
  | .hbm, ⟨44, _⟩ => ⟨S4x4096x1024, .f32⟩
  | .hbm, ⟨45, _⟩ => ⟨S4x4096x1x1024, .f32⟩
  | .hbm, ⟨46, _⟩ => ⟨S4x4096x1024, .f32⟩
  | .hbm, ⟨47, _⟩ => ⟨S1x512x1024, .f32⟩
  | .hbm, ⟨48, _⟩ => ⟨S512x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1x1024, .f32⟩
  | .hbm, ⟨53, _⟩ => ⟨S4x4096x1024, .f32⟩
  | .hbm, ⟨54, _⟩ => ⟨S1x512x1024, .f32⟩
  | .hbm, ⟨55, _⟩ => ⟨S512x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x2x2816 : Shape := ⟨3, ![4, 2, 2816]⟩
abbrev S16384x1024 : Shape := ⟨2, ![16384, 1024]⟩
abbrev S1024x2816 : Shape := ⟨2, ![1024, 2816]⟩
abbrev S1x1024 : Shape := ⟨2, ![1, 1024]⟩
abbrev S1x2816 : Shape := ⟨2, ![1, 2816]⟩
abbrev S32x2x2816 : Shape := ⟨3, ![32, 2, 2816]⟩
abbrev S512x1024 : Shape := ⟨2, ![512, 1024]⟩
abbrev S16x1024 : Shape := ⟨2, ![16, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x2x1408 : Shape := ⟨3, ![1, 2, 1408]⟩
abbrev S512 : Shape := ⟨1, ![512]⟩
abbrev S512x1 : Shape := ⟨2, ![512, 1]⟩
abbrev S16 : Shape := ⟨1, ![16]⟩
abbrev S16x1 : Shape := ⟨2, ![16, 1]⟩
abbrev S512x1408 : Shape := ⟨2, ![512, 1408]⟩
abbrev S16x1408 : Shape := ⟨2, ![16, 1408]⟩
abbrev S2x1408 : Shape := ⟨2, ![2, 1408]⟩

abbrev nBuf : Space → Nat
  | .hbm => 20
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S4x2x2816, .f32⟩
  | .hbm, ⟨7, _⟩ => ⟨S1024, .f32⟩
  | .hbm, ⟨8, _⟩ => ⟨S16384x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S1x2816, .f32⟩
  | .hbm, ⟨16, _⟩ => ⟨S1x1024, .f32⟩
  | .hbm, ⟨17, _⟩ => ⟨S16384x1024, .f32⟩
  | .hbm, ⟨18, _⟩ => ⟨S32x2x2816, .f32⟩
  | .hbm, ⟨19, _⟩ => ⟨S4x2x2816, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1408x1024, .bf16⟩
  | .local _ .vmem, ⟨14, _⟩ => ⟨S1408x1024, .bf16⟩
  | .local _ .vmem, ⟨15, _⟩ => ⟨S1x2x1408, .f32⟩
  | .local _ .vmem, ⟨16, _⟩ => ⟨S1x2x1408, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x2x1408, .f32⟩
  | .local _ .vmem, ⟨21, _⟩ => ⟨S1x2x1408, .f32⟩
  | .local _ .vmem, ⟨22, _⟩ => ⟨S512x1024, .bf16⟩
  | .local _ .vmem, ⟨23, _⟩ => ⟨S16x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c0_i32_35 : BitVec 32 := 0#32
  let v85 : BitVec 1 := Scalar.cmpi .eq arg1 c0_i32_35
  let v86 : BitVec 32 := Scalar.extui v85
  let c0_i32_36 : BitVec 32 := 0#32
  let v87 : BitVec 1 := Scalar.cmpi .ne v86 c0_i32_36
  v87

def k0_cond3 (i : grid0.Coords) : BitVec 1 :=
  let arg1 : BitVec 32 := BitVec.ofNat 32 (i 1).val
  let c0_i32_37 : BitVec 32 := 0#32
  let v88 : BitVec 1 := Scalar.cmpi .sgt arg1 c0_i32_37
  let c1_i32_38 : BitVec 32 := 1#32
  let v89 : BitVec 1 := Scalar.cmpi .slt arg1 c1_i32_38
  let v90 : BitVec 1 := Scalar.andi v88 v89
  let v91 : BitVec 32 := Scalar.extui v90
  let c0_i32_39 : BitVec 32 := 0#32
  let v92 : BitVec 1 := Scalar.cmpi .ne v91 c0_i32_39
  v92

def k0_cond4 (i : grid0.Coords) : BitVec 1 :=
  let arg1 : BitVec 32 := BitVec.ofNat 32 (i 1).val
  let c0_i32_40 : BitVec 32 := 0#32
  let v93 : BitVec 1 := Scalar.cmpi .sgt arg1 c0_i32_40
  let c1_i32_41 : BitVec 32 := 1#32
  let v94 : BitVec 1 := Scalar.cmpi .eq arg1 c1_i32_41
  let v95 : BitVec 1 := Scalar.andi v93 v94
  let v96 : BitVec 32 := Scalar.extui v95
  let c0_i32_42 : BitVec 32 := 0#32
  let v97 : BitVec 1 := Scalar.cmpi .ne v96 c0_i32_42
  v97

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel3Ideal.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x2x2816 : Shape := ⟨3, ![4, 2, 2816]⟩
abbrev S16384x1024 : Shape := ⟨2, ![16384, 1024]⟩
abbrev S1024x2816 : Shape := ⟨2, ![1024, 2816]⟩
abbrev S1x1024 : Shape := ⟨2, ![1, 1024]⟩
abbrev S1x2816 : Shape := ⟨2, ![1, 2816]⟩
abbrev S32x2x2816 : Shape := ⟨3, ![32, 2, 2816]⟩
abbrev S512x1024 : Shape := ⟨2, ![512, 1024]⟩
abbrev S16x1024 : Shape := ⟨2, ![16, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x2x1408 : Shape := ⟨3, ![1, 2, 1408]⟩
abbrev S512 : Shape := ⟨1, ![512]⟩
abbrev S512x1 : Shape := ⟨2, ![512, 1]⟩
abbrev S16 : Shape := ⟨1, ![16]⟩
abbrev S16x1 : Shape := ⟨2, ![16, 1]⟩
abbrev S512x1408 : Shape := ⟨2, ![512, 1408]⟩
abbrev S16x1408 : Shape := ⟨2, ![16, 1408]⟩
abbrev S2x1408 : Shape := ⟨2, ![2, 1408]⟩

abbrev nBuf : Space → Nat
  | .hbm => 20
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S4x2x2816, .f32⟩
  | .hbm, ⟨7, _⟩ => ⟨S1024, .f32⟩
  | .hbm, ⟨8, _⟩ => ⟨S16384x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S1x2816, .f32⟩
  | .hbm, ⟨16, _⟩ => ⟨S1x1024, .f32⟩
  | .hbm, ⟨17, _⟩ => ⟨S16384x1024, .f32⟩
  | .hbm, ⟨18, _⟩ => ⟨S32x2x2816, .f32⟩
  | .hbm, ⟨19, _⟩ => ⟨S4x2x2816, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1408x1024, .bf16⟩
  | .local _ .vmem, ⟨14, _⟩ => ⟨S1408x1024, .bf16⟩
  | .local _ .vmem, ⟨15, _⟩ => ⟨S1x2x1408, .f32⟩
  | .local _ .vmem, ⟨16, _⟩ => ⟨S1x2x1408, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x2x1408, .f32⟩
  | .local _ .vmem, ⟨21, _⟩ => ⟨S1x2x1408, .f32⟩
  | .local _ .vmem, ⟨22, _⟩ => ⟨S512x1024, .bf16⟩
  | .local _ .vmem, ⟨23, _⟩ => ⟨S16x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c0_i32_35 : BitVec 32 := 0#32
  let v85 : BitVec 1 := Scalar.cmpi .eq arg1 c0_i32_35
  let v86 : BitVec 32 := Scalar.extui v85
  let c0_i32_36 : BitVec 32 := 0#32
  let v87 : BitVec 1 := Scalar.cmpi .ne v86 c0_i32_36
  v87

def k0_cond3 (i : grid0.Coords) : BitVec 1 :=
  let arg1 : BitVec 32 := BitVec.ofNat 32 (i 1).val
  let c0_i32_37 : BitVec 32 := 0#32
  let v88 : BitVec 1 := Scalar.cmpi .sgt arg1 c0_i32_37
  let c1_i32_38 : BitVec 32 := 1#32
  let v89 : BitVec 1 := Scalar.cmpi .slt arg1 c1_i32_38
  let v90 : BitVec 1 := Scalar.andi v88 v89
  let v91 : BitVec 32 := Scalar.extui v90
  let c0_i32_39 : BitVec 32 := 0#32
  let v92 : BitVec 1 := Scalar.cmpi .ne v91 c0_i32_39
  v92

def k0_cond4 (i : grid0.Coords) : BitVec 1 :=
  let arg1 : BitVec 32 := BitVec.ofNat 32 (i 1).val
  let c0_i32_40 : BitVec 32 := 0#32
  let v93 : BitVec 1 := Scalar.cmpi .sgt arg1 c0_i32_40
  let c1_i32_41 : BitVec 32 := 1#32
  let v94 : BitVec 1 := Scalar.cmpi .eq arg1 c1_i32_41
  let v95 : BitVec 1 := Scalar.andi v93 v94
  let v96 : BitVec 32 := Scalar.extui v95
  let c0_i32_42 : BitVec 32 := 0#32
  let v97 : BitVec 1 := Scalar.cmpi .ne v96 c0_i32_42
  v97

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x2x2816 : Shape := ⟨3, ![4, 2, 2816]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S16384x1024 : Shape := ⟨2, ![16384, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S4x2x2816, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x4096x5632, .f32⟩
  | .hbm, ⟨25, _⟩ => ⟨S4x4096x2816, .f32⟩
  | .hbm, ⟨26, _⟩ => ⟨S4x4096x2816, .f32⟩
  | .hbm, ⟨27, _⟩ => ⟨S4x4098x2816, .f32⟩
  | .hbm, ⟨28, _⟩ => ⟨S1x2816, .f32⟩
  | .hbm, ⟨29, _⟩ => ⟨S2816, .f32⟩
  | .hbm, ⟨30, _⟩ => ⟨S4x4096x2816, .f32⟩
  | .hbm, ⟨31, _⟩ => ⟨S1x1x2816, .f32⟩
  | .hbm, ⟨32, _⟩ => ⟨S4x4096x2816, .f32⟩
  | .hbm, ⟨33, _⟩ => ⟨S4x4096x2816, .f32⟩
  | .hbm, ⟨34, _⟩ => ⟨S1x1x2816, .f32⟩
  | .hbm, ⟨35, _⟩ => ⟨S4x4096x2816, .f32⟩
  | .hbm, ⟨36, _⟩ => ⟨S4x4096x2816, .f32⟩
  | .hbm, ⟨37, _⟩ => ⟨S1x2816, .f32⟩
  | .hbm, ⟨38, _⟩ => ⟨S2816, .f32⟩
  | .hbm, ⟨39, _⟩ => ⟨S4x4096x2816, .f32⟩
  | .hbm, ⟨40, _⟩ => ⟨S1x1x2816, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S1x2816, .f32⟩
  | .hbm, ⟨45, _⟩ => ⟨S2816, .f32⟩
  | .hbm, ⟨46, _⟩ => ⟨S4x4096x2816, .f32⟩
  | .hbm, ⟨47, _⟩ => ⟨S1x1x2816, .f32⟩
  | .hbm, ⟨48, _⟩ => ⟨S4x4096x2816, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S_, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x1024, .f32⟩
  | .hbm, ⟨70, _⟩ => ⟨S4x2x2816, .f32⟩
  | .hbm, ⟨71, _⟩ => ⟨S4x4096x1024, .f32⟩
  | .hbm, ⟨72, _⟩ => ⟨S4x4096x1024, .f32⟩
  | .hbm, ⟨73, _⟩ => ⟨S_, .f32⟩
  | .hbm, ⟨74, _⟩ => ⟨S4x4096, .f32⟩
  | .hbm, ⟨75, _⟩ => ⟨S4x4096x1, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S_, .f32⟩
  | .hbm, ⟨80, _⟩ => ⟨S4x4096x1, .f32⟩
  | .hbm, ⟨81, _⟩ => ⟨S4x4096x1, .f32⟩
  | .hbm, ⟨82, _⟩ => ⟨S4x4096x1, .f32⟩
  | .hbm, ⟨83, _⟩ => ⟨S4x4096x1024, .f32⟩
  | .hbm, ⟨84, _⟩ => ⟨S4x4096x1024, .f32⟩
  | .hbm, ⟨85, _⟩ => ⟨S1x1x1024, .f32⟩
  | .hbm, ⟨86, _⟩ => ⟨S4x4096x1024, .f32⟩
  | .hbm, ⟨87, _⟩ => ⟨S4x4096x1024, .f32⟩
  | .hbm, ⟨88, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel4.lean ====
abbrev S4x4096x1024 : Shape := ⟨3, ![4, 4096, 1024]⟩
abbrev S2x1024 : Shape := ⟨2, ![2, 1024]⟩
abbrev S2x1024x7680 : Shape := ⟨3, ![2, 1024, 7680]⟩
abbrev S2x1024x512 : Shape := ⟨3, ![2, 1024, 512]⟩
abbrev S2x1024x2560 : Shape := ⟨3, ![2, 1024, 2560]⟩
abbrev S2x2560x1024 : Shape := ⟨3, ![2, 2560, 1024]⟩
abbrev S16384x1024 : Shape := ⟨2, ![16384, 1024]⟩
abbrev S1x1024 : Shape := ⟨2, ![1, 1024]⟩
abbrev S1024 : Shape := ⟨1, ![1024]⟩
abbrev S1x2560x1024 : Shape := ⟨3, ![1, 2560, 1024]⟩
abbrev S2560x1024 : Shape := ⟨2, ![2560, 1024]⟩
abbrev S2x4x512x4096 : Shape := ⟨4, ![2, 4, 512, 4096]⟩
abbrev S1024x1024 : Shape := ⟨2, ![1024, 1024]⟩
abbrev S1x1x512x1024 : Shape := ⟨4, ![1, 1, 512, 1024]⟩
abbrev S1024x1 : Shape := ⟨2, ![1024, 1]⟩
abbrev S512x1024 : Shape := ⟨2, ![512, 1024]⟩

abbrev nBuf : Space → Nat
  | .hbm => 38
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S2x1024, .f32⟩
  | .hbm, ⟨3, _⟩ => ⟨S2x1024x7680, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S2x1024x2560, .f32⟩
  | .hbm, ⟨14, _⟩ => ⟨S2x2560x1024, .f32⟩
  | .hbm, ⟨15, _⟩ => ⟨S2x2560x1024, .bf16⟩
  | .hbm, ⟨16, _⟩ => ⟨S16384x1024, .f32⟩
  | .hbm, ⟨17, _⟩ => ⟨S1x1024, .f32⟩
  | .hbm, ⟨18, _⟩ => ⟨S1024, .f32⟩
  | .hbm, ⟨19, _⟩ => ⟨S1x2560x1024, .bf16⟩
  | .hbm, ⟨20, _⟩ => ⟨S2560x1024, .bf16⟩
  | .hbm, ⟨21, _⟩ => ⟨S1x1024, .f32⟩
  | .hbm, ⟨22, _⟩ => ⟨S2x4x512x4096, .f32⟩
  | .hbm, ⟨23, _⟩ => ⟨S2x4x512x4096, .f32⟩
  | .hbm, ⟨24, _⟩ => ⟨S2x4x512x4096, .f32⟩
  | .hbm, ⟨25, _⟩ => ⟨S2x4x512x4096, .f32⟩
  | .hbm, ⟨26, _⟩ => ⟨S2x4x512x4096, .f32⟩
  | .hbm, ⟨27, _⟩ => ⟨S16384x1024, .f32⟩
  | .hbm, ⟨28, _⟩ => ⟨S1x1024, .f32⟩
  | .hbm, ⟨29, _⟩ => ⟨S1024, .f32⟩
  | .hbm, ⟨30, _⟩ => ⟨S1x2560x1024, .bf16⟩
  | .hbm, ⟨31, _⟩ => ⟨S2560x1024, .bf16⟩
  | .hbm, ⟨32, _⟩ => ⟨S1x1024, .f32⟩
  | .hbm, ⟨33, _⟩ => ⟨S2x4x512x4096, .f32⟩
  | .hbm, ⟨34, _⟩ => ⟨S2x4x512x4096, .f32⟩
  | .hbm, ⟨35, _⟩ => ⟨S2x4x512x4096, .f32⟩
  | .hbm, ⟨36, _⟩ => ⟨S2x4x512x4096, .f32⟩
  | .hbm, ⟨37, _⟩ => ⟨S2x4x512x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S1x1x512x1024, .f32⟩
  | .local _ .vmem, ⟨5, _⟩ => ⟨S1x1x512x1024, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x512x1024, .f32⟩
  | .local _ .vmem, ⟨9, _⟩ => ⟨S1x1x512x1024, .f32⟩
  | .local _ .vmem, ⟨10, _⟩ => ⟨S1x1x512x1024, .f32⟩
  | .local _ .vmem, ⟨11, _⟩ => ⟨S1x1x512x1024, .f32⟩
  | .local _ .vmem, ⟨12, _⟩ => ⟨S1x1x512x1024, .f32⟩
  | .local _ .vmem, ⟨13, _⟩ => ⟨S1x1x512x1024, .f32⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S2560x1024, .bf16⟩
  | .local _ .vmem, ⟨18, _⟩ => ⟨S1x1x512x1024, .f32⟩
  | .local _ .vmem, ⟨19, _⟩ => ⟨S1x1x512x1024, .f32⟩
  | .local _ .vmem, ⟨20, _⟩ => ⟨S1x1x512x1024, .f32⟩
  | .local _ .vmem, ⟨21, _⟩ => ⟨S1x1x512x1024, .f32⟩
  | .local _ .vmem, ⟨22, _⟩ => ⟨S1x1x512x1024, .f32⟩
  | .local _ .vmem, ⟨23, _⟩ => ⟨S1x1x512x1024, .f32⟩
  | .local _ .vmem, ⟨24, _⟩ => ⟨S1x1x512x1024, .f32⟩
  | .local _ .vmem, ⟨25, _⟩ => ⟨S1x1x512x1024, .f32⟩
  | .local _ .vmem, ⟨26, _⟩ => ⟨S1x1x512x1024, .f32⟩
  | .local _ .vmem, ⟨27, _⟩ => ⟨S1x1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev main_v18_3 : Ref sig .tc := ⟨.hbm, 25, rfl⟩
abbrev main_v18_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc1_transform_9 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc1_transform_10 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc1_transform_11 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc1_transform_12 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2560x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference4Ideal.lean ====
abbrev S4x4096x1024 : Shape := ⟨3, ![4, 4096, 1024]⟩
abbrev S2x1024 : Shape := ⟨2, ![2, 1024]⟩
abbrev S2x1024x7680 : Shape := ⟨3, ![2, 1024, 7680]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x7680 : Shape := ⟨3, ![1, 1024, 7680]⟩
abbrev S1024x7680 : Shape := ⟨2, ![1024, 7680]⟩
abbrev S4x4096x7680 : Shape := ⟨3, ![4, 4096, 7680]⟩
abbrev S4x4096x512 : Shape := ⟨3, ![4, 4096, 512]⟩
abbrev S4x512x4096 : Shape := ⟨3, ![4, 512, 4096]⟩
abbrev S1x4x512x4096 : Shape := ⟨4, ![1, 4, 512, 4096]⟩
abbrev S2x4x512x4096 : Shape := ⟨4, ![2, 4, 512, 4096]⟩

abbrev nBuf : Space → Nat
  | .hbm => 81
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S2x1024, .f32⟩
  | .hbm, ⟨3, _⟩ => ⟨S2x1024x7680, .f32⟩
  | .hbm, ⟨4, _⟩ => ⟨S1x1024, .f32⟩
  | .hbm, ⟨5, _⟩ => ⟨S1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S1x1024x7680, .f32⟩
  | .hbm, ⟨23, _⟩ => ⟨S1024x7680, .f32⟩
  | .hbm, ⟨24, _⟩ => ⟨S4x4096x7680, .f32⟩
  | .hbm, ⟨25, _⟩ => ⟨S4x4096x512, .f32⟩
  | .hbm, ⟨26, _⟩ => ⟨S4x512x4096, .f32⟩
  | .hbm, ⟨27, _⟩ => ⟨S4x4096x512, .f32⟩
  | .hbm, ⟨28, _⟩ => ⟨S4x512x4096, .f32⟩
  | .hbm, ⟨29, _⟩ => ⟨S4x4096x512, .f32⟩
  | .hbm, ⟨30, _⟩ => ⟨S4x512x4096, .f32⟩
  | .hbm, ⟨31, _⟩ => ⟨S4x4096x512, .f32⟩
  | .hbm, ⟨32, _⟩ => ⟨S4x512x4096, .f32⟩
  | .hbm, ⟨33, _⟩ => ⟨S4x4096x512, .f32⟩
  | .hbm, ⟨34, _⟩ => ⟨S4x512x4096, .f32⟩
  | .hbm, ⟨35, _⟩ => ⟨S1x1024, .f32⟩
  | .hbm, ⟨36, _⟩ => ⟨S1024, .f32⟩
  | .hbm, ⟨37, _⟩ => ⟨S4x4096x1024, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x1024, .f32⟩
  | .hbm, ⟨49, _⟩ => ⟨S4x4096x1024, .f32⟩
  | .hbm, ⟨50, _⟩ => ⟨S1x1x1024, .f32⟩
  | .hbm, ⟨51, _⟩ => ⟨S4x4096x1024, .f32⟩
  | .hbm, ⟨52, _⟩ => ⟨S4x4096x1024, .f32⟩
  | .hbm, ⟨53, _⟩ => ⟨S1x1024x7680, .f32⟩
  | .hbm, ⟨54, _⟩ => ⟨S1024x7680, .f32⟩
  | .hbm, ⟨55, _⟩ => ⟨S4x4096x7680, .f32⟩
  | .hbm, ⟨56, _⟩ => ⟨S4x4096x512, .f32⟩
  | .hbm, ⟨57, _⟩ => ⟨S4x512x4096, .f32⟩
  | .hbm, ⟨58, _⟩ => ⟨S4x4096x512, .f32⟩
  | .hbm, ⟨59, _⟩ => ⟨S4x512x4096, .f32⟩
  | .hbm, ⟨60, _⟩ => ⟨S4x4096x512, .f32⟩
  | .hbm, ⟨61, _⟩ => ⟨S4x512x4096, .f32⟩
  | .hbm, ⟨62, _⟩ => ⟨S4x4096x512, .f32⟩
  | .hbm, ⟨63, _⟩ => ⟨S4x512x4096, .f32⟩
  | .hbm, ⟨64, _⟩ => ⟨S4x4096x512, .f32⟩
  | .hbm, ⟨65, _⟩ => ⟨S4x512x4096, .f32⟩
  | .hbm, ⟨66, _⟩ => ⟨S1x4x512x4096, .f32⟩
  | .hbm, ⟨67, _⟩ => ⟨S1x4x512x4096, .f32⟩
  | .hbm, ⟨68, _⟩ => ⟨S2x4x512x4096, .f32⟩
  | .hbm, ⟨69, _⟩ => ⟨S1x4x512x4096, .f32⟩
  | .hbm, ⟨70, _⟩ => ⟨S1x4x512x4096, .f32⟩
  | .hbm, ⟨71, _⟩ => ⟨S2x4x512x4096, .f32⟩
  | .hbm, ⟨72, _⟩ => ⟨S1x4x512x4096, .f32⟩
  | .hbm, ⟨73, _⟩ => ⟨S1x4x512x4096, .f32⟩
  | .hbm, ⟨74, _⟩ => ⟨S2x4x512x4096, .f32⟩
  | .hbm, ⟨75, _⟩ => ⟨S1x4x512x4096, .f32⟩
  | .hbm, ⟨76, _⟩ => ⟨S1x4x512x4096, .f32⟩
  | .hbm, ⟨77, _⟩ => ⟨S2x4x512x4096, .f32⟩
  | .hbm, ⟨78, _⟩ => ⟨S1x4x512x4096, .f32⟩
  | .hbm, ⟨79, _⟩ => ⟨S1x4x512x4096, .f32⟩
  | .hbm, ⟨80, _⟩ => ⟨S2x4x512x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩

abbrev nD : Nat := 1
abbrev τ : Topo := Topo.v7x

variable {F : FTy → Type} [FloatOps F]
-- ==== Kernel5.lean ====
abbrev S4x4096x1024 : Shape := ⟨3, ![4, 4096, 1024]⟩
abbrev S2x1024 : Shape := ⟨2, ![2, 1024]⟩
abbrev S2x1024x7680 : Shape := ⟨3, ![2, 1024, 7680]⟩
abbrev S2x1024x512 : Shape := ⟨3, ![2, 1024, 512]⟩
abbrev S2x1024x2048 : Shape := ⟨3, ![2, 1024, 2048]⟩
abbrev S16384x1024 : Shape := ⟨2, ![16384, 1024]⟩
abbrev S1x1024 : Shape := ⟨2, ![1, 1024]⟩
abbrev S1024 : Shape := ⟨1, ![1024]⟩
abbrev S1x1024x2048 : Shape := ⟨3, ![1, 1024, 2048]⟩
abbrev S1024x2048 : Shape := ⟨2, ![1024, 2048]⟩
abbrev S2x16384x2048 : Shape := ⟨3, ![2, 16384, 2048]⟩
abbrev S2x65536x128 : Shape := ⟨3, ![2, 65536, 128]⟩
abbrev S1024x1024 : Shape := ⟨2, ![1024, 1024]⟩
abbrev S1x4096x128 : Shape := ⟨3, ![1, 4096, 128]⟩
abbrev S1024x1 : Shape := ⟨2, ![1024, 1]⟩
abbrev S1024x128 : Shape := ⟨2, ![1024, 128]⟩
abbrev S1x1024x128 : Shape := ⟨3, ![1, 1024, 128]⟩

abbrev nBuf : Space → Nat
  | .hbm => 31
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S2x1024, .f32⟩
  | .hbm, ⟨3, _⟩ => ⟨S2x1024x7680, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S2x1024x2048, .f32⟩
  | .hbm, ⟨14, _⟩ => ⟨S2x1024x2048, .bf16⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S1x1024x2048, .bf16⟩
  | .hbm, ⟨19, _⟩ => ⟨S1024x2048, .bf16⟩
  | .hbm, ⟨20, _⟩ => ⟨S1x1024, .f32⟩
  | .hbm, ⟨21, _⟩ => ⟨S2x16384x2048, .f32⟩
  | .hbm, ⟨22, _⟩ => ⟨S2x65536x128, .f32⟩
  | .hbm, ⟨23, _⟩ => ⟨S16384x1024, .f32⟩
  | .hbm, ⟨24, _⟩ => ⟨S1x1024, .f32⟩
  | .hbm, ⟨25, _⟩ => ⟨S1024, .f32⟩
  | .hbm, ⟨26, _⟩ => ⟨S1x1024x2048, .bf16⟩
  | .hbm, ⟨27, _⟩ => ⟨S1024x2048, .bf16⟩
  | .hbm, ⟨28, _⟩ => ⟨S1x1024, .f32⟩
  | .hbm, ⟨29, _⟩ => ⟨S2x16384x2048, .f32⟩
  | .hbm, ⟨30, _⟩ => ⟨S2x65536x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024x2048, .f32⟩
  | .local _ .vmem, ⟨5, _⟩ => ⟨S1x1024x2048, .f32⟩
  | .local _ .vmem, ⟨6, _⟩ => ⟨S1x4096x128, .f32⟩
  | .local _ .vmem, ⟨7, _⟩ => ⟨S1x4096x128, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x2048, .bf16⟩
  | .local _ .vmem, ⟨13, _⟩ => ⟨S1x1024x2048, .f32⟩
  | .local _ .vmem, ⟨14, _⟩ => ⟨S1x1024x2048, .f32⟩
  | .local _ .vmem, ⟨15, _⟩ => ⟨S1x4096x128, .f32⟩
  | .local _ .vmem, ⟨16, _⟩ => ⟨S1x4096x128, .f32⟩
  | .local _ .vmem, ⟨17, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24_0 : Ref sig .tc := ⟨.hbm, 29, rfl⟩
abbrev main_v24_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 1], ![false, false]⟩

def k1_cond2 (i : grid1.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc1_transform_6 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 2 → Memref sig .tc .vmem S1x1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== Reference5Ideal.lean ====
abbrev S4x4096x1024 : Shape := ⟨3, ![4, 4096, 1024]⟩
abbrev S2x1024 : Shape := ⟨2, ![2, 1024]⟩
abbrev S2x1024x7680 : Shape := ⟨3, ![2, 1024, 7680]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x7680 : Shape := ⟨3, ![1, 1024, 7680]⟩
abbrev S1024x7680 : Shape := ⟨2, ![1024, 7680]⟩
abbrev S4x4096x7680 : Shape := ⟨3, ![4, 4096, 7680]⟩
abbrev S4x4096x512 : Shape := ⟨3, ![4, 4096, 512]⟩
abbrev S4x4096x2048 : Shape := ⟨3, ![4, 4096, 2048]⟩
abbrev S16384x2048 : Shape := ⟨2, ![16384, 2048]⟩
abbrev S65536x128 : Shape := ⟨2, ![65536, 128]⟩
abbrev S1x16384x2048 : Shape := ⟨3, ![1, 16384, 2048]⟩
abbrev S2x16384x2048 : Shape := ⟨3, ![2, 16384, 2048]⟩
abbrev S1x65536x128 : Shape := ⟨3, ![1, 65536, 128]⟩
abbrev S2x65536x128 : Shape := ⟨3, ![2, 65536, 128]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S2x1024, .f32⟩
  | .hbm, ⟨3, _⟩ => ⟨S2x1024x7680, .f32⟩
  | .hbm, ⟨4, _⟩ => ⟨S1x1024, .f32⟩
  | .hbm, ⟨5, _⟩ => ⟨S1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S1x1024x7680, .f32⟩
  | .hbm, ⟨23, _⟩ => ⟨S1024x7680, .f32⟩
  | .hbm, ⟨24, _⟩ => ⟨S4x4096x7680, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x2048, .f32⟩
  | .hbm, ⟨30, _⟩ => ⟨S16384x2048, .f32⟩
  | .hbm, ⟨31, _⟩ => ⟨S65536x128, .f32⟩
  | .hbm, ⟨32, _⟩ => ⟨S1x1024, .f32⟩
  | .hbm, ⟨33, _⟩ => ⟨S1024, .f32⟩
  | .hbm, ⟨34, _⟩ => ⟨S4x4096x1024, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x1024, .f32⟩
  | .hbm, ⟨46, _⟩ => ⟨S4x4096x1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S1x1024x7680, .f32⟩
  | .hbm, ⟨51, _⟩ => ⟨S1024x7680, .f32⟩
  | .hbm, ⟨52, _⟩ => ⟨S4x4096x7680, .f32⟩
  | .hbm, ⟨53, _⟩ => ⟨S4x4096x512, .f32⟩
  | .hbm, ⟨54, _⟩ => ⟨S4x4096x512, .f32⟩
  | .hbm, ⟨55, _⟩ => ⟨S4x4096x512, .f32⟩
  | .hbm, ⟨56, _⟩ => ⟨S4x4096x512, .f32⟩
  | .hbm, ⟨57, _⟩ => ⟨S4x4096x2048, .f32⟩
  | .hbm, ⟨58, _⟩ => ⟨S16384x2048, .f32⟩
  | .hbm, ⟨59, _⟩ => ⟨S65536x128, .f32⟩
  | .hbm, ⟨60, _⟩ => ⟨S1x16384x2048, .f32⟩
  | .hbm, ⟨61, _⟩ => ⟨S1x16384x2048, .f32⟩
  | .hbm, ⟨62, _⟩ => ⟨S2x16384x2048, .f32⟩
  | .hbm, ⟨63, _⟩ => ⟨S1x65536x128, .f32⟩
  | .hbm, ⟨64, _⟩ => ⟨S1x65536x128, .f32⟩
  | .hbm, ⟨65, _⟩ => ⟨S2x65536x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Kernel6.lean ====
abbrev S32x64x1024 : Shape := ⟨3, ![32, 64, 1024]⟩
abbrev S2x1024 : Shape := ⟨2, ![2, 1024]⟩
abbrev S2x1024x7680 : Shape := ⟨3, ![2, 1024, 7680]⟩
abbrev S2x1024x4608 : Shape := ⟨3, ![2, 1024, 4608]⟩
abbrev S2048x1024 : Shape := ⟨2, ![2048, 1024]⟩
abbrev S1x1024 : Shape := ⟨2, ![1, 1024]⟩
abbrev S1024 : Shape := ⟨1, ![1024]⟩
abbrev S1x1024x4608 : Shape := ⟨3, ![1, 1024, 4608]⟩
abbrev S1024x4608 : Shape := ⟨2, ![1024, 4608]⟩
abbrev S2x2048x4608 : Shape := ⟨3, ![2, 2048, 4608]⟩
abbrev S1024x1024 : Shape := ⟨2, ![1024, 1024]⟩
abbrev S1024x1536 : Shape := ⟨2, ![1024, 1536]⟩
abbrev S1x1024x1536 : Shape := ⟨3, ![1, 1024, 1536]⟩
abbrev S1024x1 : Shape := ⟨2, ![1024, 1]⟩

abbrev nBuf : Space → Nat
  | .hbm => 20
  | .vmem => 16
  | .smem => 0
  | _ => 0

abbrev bufTy : (tb : Table) → Fin (tcTables nBuf tb) → BufTy
  | .hbm, ⟨0, _⟩ => ⟨S32x64x1024, .f32⟩
  | .hbm, ⟨1, _⟩ => ⟨S32x64x1024, .f32⟩
  | .hbm, ⟨2, _⟩ => ⟨S2x1024, .f32⟩
  | .hbm, ⟨3, _⟩ => ⟨S2x1024x7680, .f32⟩
  | .hbm, ⟨4, _⟩ => ⟨S2x1024x4608, .f32⟩
  | .hbm, ⟨5, _⟩ => ⟨S2x1024x4608, .bf16⟩
  | .hbm, ⟨6, _⟩ => ⟨S2048x1024, .f32⟩
  | .hbm, ⟨7, _⟩ => ⟨S1x1024, .f32⟩
  | .hbm, ⟨8, _⟩ => ⟨S1024, .f32⟩
  | .hbm, ⟨9, _⟩ => ⟨S1x1024x4608, .bf16⟩
  | .hbm, ⟨10, _⟩ => ⟨S1024x4608, .bf16⟩
  | .hbm, ⟨11, _⟩ => ⟨S1x1024, .f32⟩
  | .hbm, ⟨12, _⟩ => ⟨S2x2048x4608, .f32⟩
  | .hbm, ⟨13, _⟩ => ⟨S2048x1024, .f32⟩
  | .hbm, ⟨14, _⟩ => ⟨S1x1024, .f32⟩
  | .hbm, ⟨15, _⟩ => ⟨S1024, .f32⟩
  | .hbm, ⟨16, _⟩ => ⟨S1x1024x4608, .bf16⟩
  | .hbm, ⟨17, _⟩ => ⟨S1024x4608, .bf16⟩
  | .hbm, ⟨18, _⟩ => ⟨S1x1024, .f32⟩
  | .hbm, ⟨19, _⟩ => ⟨S2x2048x4608, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1x1024x1536, .f32⟩
  | .local _ .vmem, ⟨6, _⟩ => ⟨S1x1024x1536, .f32⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1536, .bf16⟩
  | .local _ .vmem, ⟨12, _⟩ => ⟨S1024x1536, .bf16⟩
  | .local _ .vmem, ⟨13, _⟩ => ⟨S1x1024x1536, .f32⟩
  | .local _ .vmem, ⟨14, _⟩ => ⟨S1x1024x1536, .f32⟩
  | .local _ .vmem, ⟨15, _⟩ => ⟨S1024x1024, .bf16⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference6Ideal.lean ====
abbrev S32x64x1024 : Shape := ⟨3, ![32, 64, 1024]⟩
abbrev S2x1024 : Shape := ⟨2, ![2, 1024]⟩
abbrev S2x1024x7680 : Shape := ⟨3, ![2, 1024, 7680]⟩
abbrev S1x1024 : Shape := ⟨2, ![1, 1024]⟩
abbrev S1024 : Shape := ⟨1, ![1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S1x1024x7680 : Shape := ⟨3, ![1, 1024, 7680]⟩
abbrev S1024x7680 : Shape := ⟨2, ![1024, 7680]⟩
abbrev S32x64x7680 : Shape := ⟨3, ![32, 64, 7680]⟩
abbrev S32x64x4608 : Shape := ⟨3, ![32, 64, 4608]⟩
abbrev S2048x4608 : Shape := ⟨2, ![2048, 4608]⟩
abbrev S1x2048x4608 : Shape := ⟨3, ![1, 2048, 4608]⟩
abbrev S2x2048x4608 : Shape := ⟨3, ![2, 2048, 4608]⟩

abbrev nBuf : Space → Nat
  | .hbm => 53
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x64x1024, .f32⟩
  | .hbm, ⟨2, _⟩ => ⟨S2x1024, .f32⟩
  | .hbm, ⟨3, _⟩ => ⟨S2x1024x7680, .f32⟩
  | .hbm, ⟨4, _⟩ => ⟨S1x1024, .f32⟩
  | .hbm, ⟨5, _⟩ => ⟨S1024, .f32⟩
  | .hbm, ⟨6, _⟩ => ⟨S32x64x1024, .f32⟩
  | .hbm, ⟨7, _⟩ => ⟨S_, .f32⟩
  | .hbm, ⟨8, _⟩ => ⟨S32x64, .f32⟩
  | .hbm, ⟨9, _⟩ => ⟨S32x64x1, .f32⟩
  | .hbm, ⟨10, _⟩ => ⟨S_, .f32⟩
  | .hbm, ⟨11, _⟩ => ⟨S32x64x1, .f32⟩
  | .hbm, ⟨12, _⟩ => ⟨S32x64x1, .f32⟩
  | .hbm, ⟨13, _⟩ => ⟨S_, .f32⟩
  | .hbm, ⟨14, _⟩ => ⟨S32x64x1, .f32⟩
  | .hbm, ⟨15, _⟩ => ⟨S32x64x1, .f32⟩
  | .hbm, ⟨16, _⟩ => ⟨S32x64x1, .f32⟩
  | .hbm, ⟨17, _⟩ => ⟨S32x64x1024, .f32⟩
  | .hbm, ⟨18, _⟩ => ⟨S32x64x1024, .f32⟩
  | .hbm, ⟨19, _⟩ => ⟨S1x1x1024, .f32⟩
  | .hbm, ⟨20, _⟩ => ⟨S32x64x1024, .f32⟩
  | .hbm, ⟨21, _⟩ => ⟨S32x64x1024, .f32⟩
  | .hbm, ⟨22, _⟩ => ⟨S1x1024x7680, .f32⟩
  | .hbm, ⟨23, _⟩ => ⟨S1024x7680, .f32⟩
  | .hbm, ⟨24, _⟩ => ⟨S32x64x7680, .f32⟩
  | .hbm, ⟨25, _⟩ => ⟨S32x64x4608, .f32⟩
  | .hbm, ⟨26, _⟩ => ⟨S2048x4608, .f32⟩
  | .hbm, ⟨27, _⟩ => ⟨S1x1024, .f32⟩
  | .hbm, ⟨28, _⟩ => ⟨S1024, .f32⟩
  | .hbm, ⟨29, _⟩ => ⟨S32x64x1024, .f32⟩
  | .hbm, ⟨30, _⟩ => ⟨S_, .f32⟩
  | .hbm, ⟨31, _⟩ => ⟨S32x64, .f32⟩
  | .hbm, ⟨32, _⟩ => ⟨S32x64x1, .f32⟩
  | .hbm, ⟨33, _⟩ => ⟨S_, .f32⟩
  | .hbm, ⟨34, _⟩ => ⟨S32x64x1, .f32⟩
  | .hbm, ⟨35, _⟩ => ⟨S32x64x1, .f32⟩
  | .hbm, ⟨36, _⟩ => ⟨S_, .f32⟩
  | .hbm, ⟨37, _⟩ => ⟨S32x64x1, .f32⟩
  | .hbm, ⟨38, _⟩ => ⟨S32x64x1, .f32⟩
  | .hbm, ⟨39, _⟩ => ⟨S32x64x1, .f32⟩
  | .hbm, ⟨40, _⟩ => ⟨S32x64x1024, .f32⟩
  | .hbm, ⟨41, _⟩ => ⟨S32x64x1024, .f32⟩
  | .hbm, ⟨42, _⟩ => ⟨S1x1x1024, .f32⟩
  | .hbm, ⟨43, _⟩ => ⟨S32x64x1024, .f32⟩
  | .hbm, ⟨44, _⟩ => ⟨S32x64x1024, .f32⟩
  | .hbm, ⟨45, _⟩ => ⟨S1x1024x7680, .f32⟩
  | .hbm, ⟨46, _⟩ => ⟨S1024x7680, .f32⟩
  | .hbm, ⟨47, _⟩ => ⟨S32x64x7680, .f32⟩
  | .hbm, ⟨48, _⟩ => ⟨S32x64x4608, .f32⟩
  | .hbm, ⟨49, _⟩ => ⟨S2048x4608, .f32⟩
  | .hbm, ⟨50, _⟩ => ⟨S1x2048x4608, .f32⟩
  | .hbm, ⟨51, _⟩ => ⟨S1x2048x4608, .f32⟩
  | .hbm, ⟨52, _⟩ => ⟨S2x2048x4608, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Kernel7.lean ====
abbrev S2x32x512x8x64 : Shape := ⟨5, ![2, 32, 512, 8, 64]⟩
abbrev S2x32x64x4608 : Shape := ⟨4, ![2, 32, 64, 4608]⟩
abbrev S2x32x8x64x512 : Shape := ⟨5, ![2, 32, 8, 64, 512]⟩
abbrev S2x32x512x512 : Shape := ⟨4, ![2, 32, 512, 512]⟩
abbrev S1x1x512x512 : Shape := ⟨4, ![1, 1, 512, 512]⟩
abbrev S1x1x64x512 : Shape := ⟨4, ![1, 1, 64, 512]⟩
abbrev S512x512 : Shape := ⟨2, ![512, 512]⟩
abbrev S64x512 : Shape := ⟨2, ![64, 512]⟩
abbrev S128x512 : Shape := ⟨2, ![128, 512]⟩
abbrev S512x128 : Shape := ⟨2, ![512, 128]⟩
abbrev S512x384 : Shape := ⟨2, ![512, 384]⟩

abbrev nBuf : Space → Nat
  | .hbm => 13
  | .vmem => 12
  | .smem => 0
  | _ => 0

abbrev bufTy : (tb : Table) → Fin (tcTables nBuf tb) → BufTy
  | .hbm, ⟨0, _⟩ => ⟨S2x32x512x8x64, .f32⟩
  | .hbm, ⟨1, _⟩ => ⟨S2x32x512x8x64, .f32⟩
  | .hbm, ⟨2, _⟩ => ⟨S2x32x64x4608, .f32⟩
  | .hbm, ⟨3, _⟩ => ⟨S2x32x8x64x512, .f32⟩
  | .hbm, ⟨4, _⟩ => ⟨S2x32x512x512, .f32⟩
  | .hbm, ⟨5, _⟩ => ⟨S2x32x8x64x512, .f32⟩
  | .hbm, ⟨6, _⟩ => ⟨S2x32x512x512, .f32⟩
  | .hbm, ⟨7, _⟩ => ⟨S2x32x512x512, .f32⟩
  | .hbm, ⟨8, _⟩ => ⟨S2x32x512x512, .f32⟩
  | .hbm, ⟨9, _⟩ => ⟨S2x32x8x64x512, .f32⟩
  | .hbm, ⟨10, _⟩ => ⟨S2x32x512x8x64, .f32⟩
  | .hbm, ⟨11, _⟩ => ⟨S2x32x8x64x512, .f32⟩
  | .hbm, ⟨12, _⟩ => ⟨S2x32x512x8x64, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x64x512, .f32⟩
  | .local _ .vmem, ⟨5, _⟩ => ⟨S1x1x64x512, .f32⟩
  | .local _ .vmem, ⟨6, _⟩ => ⟨S1x1x64x512, .f32⟩
  | .local _ .vmem, ⟨7, _⟩ => ⟨S1x1x64x512, .f32⟩
  | .local _ .vmem, ⟨8, _⟩ => ⟨S1x1x512x512, .f32⟩
  | .local _ .vmem, ⟨9, _⟩ => ⟨S1x1x512x512, .f32⟩
  | .local _ .vmem, ⟨10, _⟩ => ⟨S1x1x512x512, .f32⟩
  | .local _ .vmem, ⟨11, _⟩ => ⟨S1x1x512x512, .f32⟩
  | _, _ => ⟨S2x32x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, arg1.toNat, c0_i32.toNat, c1_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, arg1.toNat, c0_i32.toNat, c2_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S2x32x512x8x64 : Shape := ⟨5, ![2, 32, 512, 8, 64]⟩
abbrev S2x32x64x4608 : Shape := ⟨4, ![2, 32, 64, 4608]⟩
abbrev S2x32x64x512 : Shape := ⟨4, ![2, 32, 64, 512]⟩
abbrev S2x32x64x8x64 : Shape := ⟨5, ![2, 32, 64, 8, 64]⟩
abbrev S2x32x448x8x64 : Shape := ⟨5, ![2, 32, 448, 8, 64]⟩

abbrev nBuf : Space → Nat
  | .hbm => 11
  | .vmem => 0
  | .smem => 0
  | _ => 0

abbrev bufTy : (tb : Table) → Fin (tcTables nBuf tb) → BufTy
  | .hbm, ⟨0, _⟩ => ⟨S2x32x512x8x64, .f32⟩
  | .hbm, ⟨1, _⟩ => ⟨S2x32x512x8x64, .f32⟩
  | .hbm, ⟨2, _⟩ => ⟨S2x32x64x4608, .f32⟩
  | .hbm, ⟨3, _⟩ => ⟨S2x32x64x512, .f32⟩
  | .hbm, ⟨4, _⟩ => ⟨S2x32x64x8x64, .f32⟩
  | .hbm, ⟨5, _⟩ => ⟨S2x32x64x512, .f32⟩
  | .hbm, ⟨6, _⟩ => ⟨S2x32x64x8x64, .f32⟩
  | .hbm, ⟨7, _⟩ => ⟨S2x32x448x8x64, .f32⟩
  | .hbm, ⟨8, _⟩ => ⟨S2x32x512x8x64, .f32⟩
  | .hbm, ⟨9, _⟩ => ⟨S2x32x448x8x64, .f32⟩
  | .hbm, ⟨10, _⟩ => ⟨S2x32x512x8x64, .f32⟩
  | _, _ => ⟨S2x32x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S32x64x1024 : Shape := ⟨3, ![32, 64, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32x2x2816 : Shape := ⟨3, ![32, 2, 2816]⟩
abbrev S2048x1024 : Shape := ⟨2, ![2048, 1024]⟩
abbrev S1024x2816 : Shape := ⟨2, ![1024, 2816]⟩
abbrev S1x1024 : Shape := ⟨2, ![1, 1024]⟩
abbrev S1x2816 : Shape := ⟨2, ![1, 2816]⟩
abbrev S512x1024 : Shape := ⟨2, ![512, 1024]⟩
abbrev S16x1024 : Shape := ⟨2, ![16, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S8x2x1408 : Shape := ⟨3, ![8, 2, 1408]⟩
abbrev S512 : Shape := ⟨1, ![512]⟩
abbrev S512x1 : Shape := ⟨2, ![512, 1]⟩
abbrev S512x1408 : Shape := ⟨2, ![512, 1408]⟩
abbrev S8x64x1408 : Shape := ⟨3, ![8, 64, 1408]⟩
abbrev S8x1x1408 : Shape := ⟨3, ![8, 1, 1408]⟩
abbrev S1x1x1408 : Shape := ⟨3, ![1, 1, 1408]⟩

abbrev nBuf : Space → Nat
  | .hbm => 19
  | .vmem => 24
  | .smem => 0
  | _ => 0

abbrev bufTy : (tb : Table) → Fin (tcTables nBuf tb) → BufTy
  | .hbm, ⟨0, _⟩ => ⟨S32x64x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S32x2x2816, .f32⟩
  | .hbm, ⟨7, _⟩ => ⟨S1024, .f32⟩
  | .hbm, ⟨8, _⟩ => ⟨S2048x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S1x2816, .f32⟩
  | .hbm, ⟨16, _⟩ => ⟨S1x1024, .f32⟩
  | .hbm, ⟨17, _⟩ => ⟨S2048x1024, .f32⟩
  | .hbm, ⟨18, _⟩ => ⟨S32x2x2816, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1408x1024, .bf16⟩
  | .local _ .vmem, ⟨14, _⟩ => ⟨S1408x1024, .bf16⟩
  | .local _ .vmem, ⟨15, _⟩ => ⟨S8x2x1408, .f32⟩
  | .local _ .vmem, ⟨16, _⟩ => ⟨S8x2x1408, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S8x2x1408, .f32⟩
  | .local _ .vmem, ⟨21, _⟩ => ⟨S8x2x1408, .f32⟩
  | .local _ .vmem, ⟨22, _⟩ => ⟨S512x1024, .bf16⟩
  | .local _ .vmem, ⟨23, _⟩ => ⟨S16x1024, .bf16⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c0_i32_24 : BitVec 32 := 0#32
  let v72 : BitVec 1 := Scalar.cmpi .eq arg1 c0_i32_24
  let v73 : BitVec 32 := Scalar.extui v72
  let c0_i32_25 : BitVec 32 := 0#32
  let v74 : BitVec 1 := Scalar.cmpi .ne v73 c0_i32_25
  v74

def k0_cond3 (i : grid0.Coords) : BitVec 1 :=
  let arg1 : BitVec 32 := BitVec.ofNat 32 (i 1).val
  let c0_i32_26 : BitVec 32 := 0#32
  let v75 : BitVec 1 := Scalar.cmpi .sgt arg1 c0_i32_26
  let c1_i32_27 : BitVec 32 := 1#32
  let v76 : BitVec 1 := Scalar.cmpi .slt arg1 c1_i32_27
  let v77 : BitVec 1 := Scalar.andi v75 v76
  let v78 : BitVec 32 := Scalar.extui v77
  let c0_i32_28 : BitVec 32 := 0#32
  let v79 : BitVec 1 := Scalar.cmpi .ne v78 c0_i32_28
  v79

def k0_cond4 (i : grid0.Coords) : BitVec 1 :=
  let arg1 : BitVec 32 := BitVec.ofNat 32 (i 1).val
  let c0_i32_29 : BitVec 32 := 0#32
  let v80 : BitVec 1 := Scalar.cmpi .sgt arg1 c0_i32_29
  let c1_i32_30 : BitVec 32 := 1#32
  let v81 : BitVec 1 := Scalar.cmpi .eq arg1 c1_i32_30
  let v82 : BitVec 1 := Scalar.andi v80 v81
  let v83 : BitVec 32 := Scalar.extui v82
  let c0_i32_31 : BitVec 32 := 0#32
  let v84 : BitVec 1 := Scalar.cmpi .ne v83 c0_i32_31
  v84

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S8x2x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x2x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference8Ideal.lean ====
abbrev S32x64x1024 : Shape := ⟨3, ![32, 64, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32x2x2816 : Shape := ⟨3, ![32, 2, 2816]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S32x64x5632 : Shape := ⟨3, ![32, 64, 5632]⟩
abbrev S32x64x2816 : Shape := ⟨3, ![32, 64, 2816]⟩
abbrev S32x66x2816 : Shape := ⟨3, ![32, 66, 2816]⟩
abbrev S1x2816 : Shape := ⟨2, ![1, 2816]⟩
abbrev S1x1x2816 : Shape := ⟨3, ![1, 1, 2816]⟩
abbrev S2048x1024 : Shape := ⟨2, ![2048, 1024]⟩

abbrev nBuf : Space → Nat
  | .hbm => 89
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S32x2x2816, .f32⟩
  | .hbm, ⟨7, _⟩ => ⟨S1024, .f32⟩
  | .hbm, ⟨8, _⟩ => ⟨S32x64x1024, .f32⟩
  | .hbm, ⟨9, _⟩ => ⟨S_, .f32⟩
  | .hbm, ⟨10, _⟩ => ⟨S32x64, .f32⟩
  | .hbm, ⟨11, _⟩ => ⟨S32x64x1, .f32⟩
  | .hbm, ⟨12, _⟩ => ⟨S_, .f32⟩
  | .hbm, ⟨13, _⟩ => ⟨S32x64x1, .f32⟩
  | .hbm, ⟨14, _⟩ => ⟨S32x64x1, .f32⟩
  | .hbm, ⟨15, _⟩ => ⟨S_, .f32⟩
  | .hbm, ⟨16, _⟩ => ⟨S32x64x1, .f32⟩
  | .hbm, ⟨17, _⟩ => ⟨S32x64x1, .f32⟩
  | .hbm, ⟨18, _⟩ => ⟨S32x64x1, .f32⟩
  | .hbm, ⟨19, _⟩ => ⟨S32x64x1024, .f32⟩
  | .hbm, ⟨20, _⟩ => ⟨S32x64x1024, .f32⟩
  | .hbm, ⟨21, _⟩ => ⟨S1x1x1024, .f32⟩
  | .hbm, ⟨22, _⟩ => ⟨S32x64x1024, .f32⟩
  | .hbm, ⟨23, _⟩ => ⟨S32x64x1024, .f32⟩
  | .hbm, ⟨24, _⟩ => ⟨S32x64x5632, .f32⟩
  | .hbm, ⟨25, _⟩ => ⟨S32x64x2816, .f32⟩
  | .hbm, ⟨26, _⟩ => ⟨S32x64x2816, .f32⟩
  | .hbm, ⟨27, _⟩ => ⟨S32x66x2816, .f32⟩
  | .hbm, ⟨28, _⟩ => ⟨S1x2816, .f32⟩
  | .hbm, ⟨29, _⟩ => ⟨S2816, .f32⟩
  | .hbm, ⟨30, _⟩ => ⟨S32x64x2816, .f32⟩
  | .hbm, ⟨31, _⟩ => ⟨S1x1x2816, .f32⟩
  | .hbm, ⟨32, _⟩ => ⟨S32x64x2816, .f32⟩
  | .hbm, ⟨33, _⟩ => ⟨S32x64x2816, .f32⟩
  | .hbm, ⟨34, _⟩ => ⟨S1x1x2816, .f32⟩
  | .hbm, ⟨35, _⟩ => ⟨S32x64x2816, .f32⟩
  | .hbm, ⟨36, _⟩ => ⟨S32x64x2816, .f32⟩
  | .hbm, ⟨37, _⟩ => ⟨S1x2816, .f32⟩
  | .hbm, ⟨38, _⟩ => ⟨S2816, .f32⟩
  | .hbm, ⟨39, _⟩ => ⟨S32x64x2816, .f32⟩
  | .hbm, ⟨40, _⟩ => ⟨S1x1x2816, .f32⟩
  | .hbm, ⟨41, _⟩ => ⟨S32x64x2816, .f32⟩
  | .hbm, ⟨42, _⟩ => ⟨S32x64x2816, .f32⟩
  | .hbm, ⟨43, _⟩ => ⟨S32x64x2816, .f32⟩
  | .hbm, ⟨44, _⟩ => ⟨S1x2816, .f32⟩
  | .hbm, ⟨45, _⟩ => ⟨S2816, .f32⟩
  | .hbm, ⟨46, _⟩ => ⟨S32x64x2816, .f32⟩
  | .hbm, ⟨47, _⟩ => ⟨S1x1x2816, .f32⟩
  | .hbm, ⟨48, _⟩ => ⟨S32x64x2816, .f32⟩
  | .hbm, ⟨49, _⟩ => ⟨S32x64x2816, .f32⟩
  | .hbm, ⟨50, _⟩ => ⟨S32x64x2816, .f32⟩
  | .hbm, ⟨51, _⟩ => ⟨S32x64x2816, .f32⟩
  | .hbm, ⟨52, _⟩ => ⟨S32x64x2816, .f32⟩
  | .hbm, ⟨53, _⟩ => ⟨S_, .f32⟩
  | .hbm, ⟨54, _⟩ => ⟨S32x64x2816, .f32⟩
  | .hbm, ⟨55, _⟩ => ⟨S32x64x2816, .f32⟩
  | .hbm, ⟨56, _⟩ => ⟨S32x64x2816, .f32⟩
  | .hbm, ⟨57, _⟩ => ⟨S_, .f32⟩
  | .hbm, ⟨58, _⟩ => ⟨S32x64x2816, .f32⟩
  | .hbm, ⟨59, _⟩ => ⟨S32x64x2816, .f32⟩
  | .hbm, ⟨60, _⟩ => ⟨S32x64x2816, .f32⟩
  | .hbm, ⟨61, _⟩ => ⟨S_, .f32⟩
  | .hbm, ⟨62, _⟩ => ⟨S32x64x2816, .f32⟩
  | .hbm, ⟨63, _⟩ => ⟨S32x64x2816, .f32⟩
  | .hbm, ⟨64, _⟩ => ⟨S_, .f32⟩
  | .hbm, ⟨65, _⟩ => ⟨S32x64x2816, .f32⟩
  | .hbm, ⟨66, _⟩ => ⟨S32x64x2816, .f32⟩
  | .hbm, ⟨67, _⟩ => ⟨S32x64x2816, .f32⟩
  | .hbm, ⟨68, _⟩ => ⟨S32x64x2816, .f32⟩
  | .hbm, ⟨69, _⟩ => ⟨S32x64x1024, .f32⟩
  | .hbm, ⟨70, _⟩ => ⟨S32x2x2816, .f32⟩
  | .hbm, ⟨71, _⟩ => ⟨S32x64x1024, .f32⟩
  | .hbm, ⟨72, _⟩ => ⟨S32x64x1024, .f32⟩
  | .hbm, ⟨73, _⟩ => ⟨S_, .f32⟩
  | .hbm, ⟨74, _⟩ => ⟨S32x64, .f32⟩
  | .hbm, ⟨75, _⟩ => ⟨S32x64x1, .f32⟩
  | .hbm, ⟨76, _⟩ => ⟨S_, .f32⟩
  | .hbm, ⟨77, _⟩ => ⟨S32x64x1, .f32⟩
  | .hbm, ⟨78, _⟩ => ⟨S32x64x1, .f32⟩
  | .hbm, ⟨79, _⟩ => ⟨S_, .f32⟩
  | .hbm, ⟨80, _⟩ => ⟨S32x64x1, .f32⟩
  | .hbm, ⟨81, _⟩ => ⟨S32x64x1, .f32⟩
  | .hbm, ⟨82, _⟩ => ⟨S32x64x1, .f32⟩
  | .hbm, ⟨83, _⟩ => ⟨S32x64x1024, .f32⟩
  | .hbm, ⟨84, _⟩ => ⟨S32x64x1024, .f32⟩
  | .hbm, ⟨85, _⟩ => ⟨S1x1x1024, .f32⟩
  | .hbm, ⟨86, _⟩ => ⟨S32x64x1024, .f32⟩
  | .hbm, ⟨87, _⟩ => ⟨S32x64x1024, .f32⟩
  | .hbm, ⟨88, _⟩ => ⟨S2048x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel9.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x2x2816 : Shape := ⟨3, ![4, 2, 2816]⟩
abbrev S16384x1024 : Shape := ⟨2, ![16384, 1024]⟩
abbrev S1024x2816 : Shape := ⟨2, ![1024, 2816]⟩
abbrev S1x1024 : Shape := ⟨2, ![1, 1024]⟩
abbrev S1x2816 : Shape := ⟨2, ![1, 2816]⟩
abbrev S32x2x2816 : Shape := ⟨3, ![32, 2, 2816]⟩
abbrev S512x1024 : Shape := ⟨2, ![512, 1024]⟩
abbrev S16x1024 : Shape := ⟨2, ![16, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x2x1408 : Shape := ⟨3, ![1, 2, 1408]⟩
abbrev S512 : Shape := ⟨1, ![512]⟩
abbrev S512x1 : Shape := ⟨2, ![512, 1]⟩
abbrev S16 : Shape := ⟨1, ![16]⟩
abbrev S16x1 : Shape := ⟨2, ![16, 1]⟩
abbrev S512x1408 : Shape := ⟨2, ![512, 1408]⟩
abbrev S16x1408 : Shape := ⟨2, ![16, 1408]⟩
abbrev S2x1408 : Shape := ⟨2, ![2, 1408]⟩

abbrev nBuf : Space → Nat
  | .hbm => 20
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S4x2x2816, .f32⟩
  | .hbm, ⟨7, _⟩ => ⟨S1024, .f32⟩
  | .hbm, ⟨8, _⟩ => ⟨S16384x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S1x2816, .f32⟩
  | .hbm, ⟨16, _⟩ => ⟨S1x1024, .f32⟩
  | .hbm, ⟨17, _⟩ => ⟨S16384x1024, .f32⟩
  | .hbm, ⟨18, _⟩ => ⟨S32x2x2816, .f32⟩
  | .hbm, ⟨19, _⟩ => ⟨S4x2x2816, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1408x1024, .bf16⟩
  | .local _ .vmem, ⟨14, _⟩ => ⟨S1408x1024, .bf16⟩
  | .local _ .vmem, ⟨15, _⟩ => ⟨S1x2x1408, .f32⟩
  | .local _ .vmem, ⟨16, _⟩ => ⟨S1x2x1408, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x2x1408, .f32⟩
  | .local _ .vmem, ⟨21, _⟩ => ⟨S1x2x1408, .f32⟩
  | .local _ .vmem, ⟨22, _⟩ => ⟨S512x1024, .bf16⟩
  | .local _ .vmem, ⟨23, _⟩ => ⟨S16x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c0_i32_35 : BitVec 32 := 0#32
  let v85 : BitVec 1 := Scalar.cmpi .eq arg1 c0_i32_35
  let v86 : BitVec 32 := Scalar.extui v85
  let c0_i32_36 : BitVec 32 := 0#32
  let v87 : BitVec 1 := Scalar.cmpi .ne v86 c0_i32_36
  v87

def k0_cond3 (i : grid0.Coords) : BitVec 1 :=
  let arg1 : BitVec 32 := BitVec.ofNat 32 (i 1).val
  let c0_i32_37 : BitVec 32 := 0#32
  let v88 : BitVec 1 := Scalar.cmpi .sgt arg1 c0_i32_37
  let c1_i32_38 : BitVec 32 := 1#32
  let v89 : BitVec 1 := Scalar.cmpi .slt arg1 c1_i32_38
  let v90 : BitVec 1 := Scalar.andi v88 v89
  let v91 : BitVec 32 := Scalar.extui v90
  let c0_i32_39 : BitVec 32 := 0#32
  let v92 : BitVec 1 := Scalar.cmpi .ne v91 c0_i32_39
  v92

def k0_cond4 (i : grid0.Coords) : BitVec 1 :=
  let arg1 : BitVec 32 := BitVec.ofNat 32 (i 1).val
  let c0_i32_40 : BitVec 32 := 0#32
  let v93 : BitVec 1 := Scalar.cmpi .sgt arg1 c0_i32_40
  let c1_i32_41 : BitVec 32 := 1#32
  let v94 : BitVec 1 := Scalar.cmpi .eq arg1 c1_i32_41
  let v95 : BitVec 1 := Scalar.andi v93 v94
  let v96 : BitVec 32 := Scalar.extui v95
  let c0_i32_42 : BitVec 32 := 0#32
  let v97 : BitVec 1 := Scalar.cmpi .ne v96 c0_i32_42
  v97

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel9Ideal.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x2x2816 : Shape := ⟨3, ![4, 2, 2816]⟩
abbrev S16384x1024 : Shape := ⟨2, ![16384, 1024]⟩
abbrev S1024x2816 : Shape := ⟨2, ![1024, 2816]⟩
abbrev S1x1024 : Shape := ⟨2, ![1, 1024]⟩
abbrev S1x2816 : Shape := ⟨2, ![1, 2816]⟩
abbrev S32x2x2816 : Shape := ⟨3, ![32, 2, 2816]⟩
abbrev S512x1024 : Shape := ⟨2, ![512, 1024]⟩
abbrev S16x1024 : Shape := ⟨2, ![16, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x2x1408 : Shape := ⟨3, ![1, 2, 1408]⟩
abbrev S512 : Shape := ⟨1, ![512]⟩
abbrev S512x1 : Shape := ⟨2, ![512, 1]⟩
abbrev S16 : Shape := ⟨1, ![16]⟩
abbrev S16x1 : Shape := ⟨2, ![16, 1]⟩
abbrev S512x1408 : Shape := ⟨2, ![512, 1408]⟩
abbrev S16x1408 : Shape := ⟨2, ![16, 1408]⟩
abbrev S2x1408 : Shape := ⟨2, ![2, 1408]⟩

abbrev nBuf : Space → Nat
  | .hbm => 20
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S4x2x2816, .f32⟩
  | .hbm, ⟨7, _⟩ => ⟨S1024, .f32⟩
  | .hbm, ⟨8, _⟩ => ⟨S16384x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S1x2816, .f32⟩
  | .hbm, ⟨16, _⟩ => ⟨S1x1024, .f32⟩
  | .hbm, ⟨17, _⟩ => ⟨S16384x1024, .f32⟩
  | .hbm, ⟨18, _⟩ => ⟨S32x2x2816, .f32⟩
  | .hbm, ⟨19, _⟩ => ⟨S4x2x2816, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1408x1024, .bf16⟩
  | .local _ .vmem, ⟨14, _⟩ => ⟨S1408x1024, .bf16⟩
  | .local _ .vmem, ⟨15, _⟩ => ⟨S1x2x1408, .f32⟩
  | .local _ .vmem, ⟨16, _⟩ => ⟨S1x2x1408, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x2x1408, .f32⟩
  | .local _ .vmem, ⟨21, _⟩ => ⟨S1x2x1408, .f32⟩
  | .local _ .vmem, ⟨22, _⟩ => ⟨S512x1024, .bf16⟩
  | .local _ .vmem, ⟨23, _⟩ => ⟨S16x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c0_i32_35 : BitVec 32 := 0#32
  let v85 : BitVec 1 := Scalar.cmpi .eq arg1 c0_i32_35
  let v86 : BitVec 32 := Scalar.extui v85
  let c0_i32_36 : BitVec 32 := 0#32
  let v87 : BitVec 1 := Scalar.cmpi .ne v86 c0_i32_36
  v87

def k0_cond3 (i : grid0.Coords) : BitVec 1 :=
  let arg1 : BitVec 32 := BitVec.ofNat 32 (i 1).val
  let c0_i32_37 : BitVec 32 := 0#32
  let v88 : BitVec 1 := Scalar.cmpi .sgt arg1 c0_i32_37
  let c1_i32_38 : BitVec 32 := 1#32
  let v89 : BitVec 1 := Scalar.cmpi .slt arg1 c1_i32_38
  let v90 : BitVec 1 := Scalar.andi v88 v89
  let v91 : BitVec 32 := Scalar.extui v90
  let c0_i32_39 : BitVec 32 := 0#32
  let v92 : BitVec 1 := Scalar.cmpi .ne v91 c0_i32_39
  v92

def k0_cond4 (i : grid0.Coords) : BitVec 1 :=
  let arg1 : BitVec 32 := BitVec.ofNat 32 (i 1).val
  let c0_i32_40 : BitVec 32 := 0#32
  let v93 : BitVec 1 := Scalar.cmpi .sgt arg1 c0_i32_40
  let c1_i32_41 : BitVec 32 := 1#32
  let v94 : BitVec 1 := Scalar.cmpi .eq arg1 c1_i32_41
  let v95 : BitVec 1 := Scalar.andi v93 v94
  let v96 : BitVec 32 := Scalar.extui v95
  let c0_i32_42 : BitVec 32 := 0#32
  let v97 : BitVec 1 := Scalar.cmpi .ne v96 c0_i32_42
  v97

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference9Ideal.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x2x2816 : Shape := ⟨3, ![4, 2, 2816]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S16384x1024 : Shape := ⟨2, ![16384, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S4x2x2816, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x4096x5632, .f32⟩
  | .hbm, ⟨25, _⟩ => ⟨S4x4096x2816, .f32⟩
  | .hbm, ⟨26, _⟩ => ⟨S4x4096x2816, .f32⟩
  | .hbm, ⟨27, _⟩ => ⟨S4x4098x2816, .f32⟩
  | .hbm, ⟨28, _⟩ => ⟨S1x2816, .f32⟩
  | .hbm, ⟨29, _⟩ => ⟨S2816, .f32⟩
  | .hbm, ⟨30, _⟩ => ⟨S4x4096x2816, .f32⟩
  | .hbm, ⟨31, _⟩ => ⟨S1x1x2816, .f32⟩
  | .hbm, ⟨32, _⟩ => ⟨S4x4096x2816, .f32⟩
  | .hbm, ⟨33, _⟩ => ⟨S4x4096x2816, .f32⟩
  | .hbm, ⟨34, _⟩ => ⟨S1x1x2816, .f32⟩
  | .hbm, ⟨35, _⟩ => ⟨S4x4096x2816, .f32⟩
  | .hbm, ⟨36, _⟩ => ⟨S4x4096x2816, .f32⟩
  | .hbm, ⟨37, _⟩ => ⟨S1x2816, .f32⟩
  | .hbm, ⟨38, _⟩ => ⟨S2816, .f32⟩
  | .hbm, ⟨39, _⟩ => ⟨S4x4096x2816, .f32⟩
  | .hbm, ⟨40, _⟩ => ⟨S1x1x2816, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S1x2816, .f32⟩
  | .hbm, ⟨45, _⟩ => ⟨S2816, .f32⟩
  | .hbm, ⟨46, _⟩ => ⟨S4x4096x2816, .f32⟩
  | .hbm, ⟨47, _⟩ => ⟨S1x1x2816, .f32⟩
  | .hbm, ⟨48, _⟩ => ⟨S4x4096x2816, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S_, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x1024, .f32⟩
  | .hbm, ⟨70, _⟩ => ⟨S4x2x2816, .f32⟩
  | .hbm, ⟨71, _⟩ => ⟨S4x4096x1024, .f32⟩
  | .hbm, ⟨72, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel10.lean ====
abbrev S32x64x1024 : Shape := ⟨3, ![32, 64, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32x2x2816 : Shape := ⟨3, ![32, 2, 2816]⟩
abbrev S2048x1024 : Shape := ⟨2, ![2048, 1024]⟩
abbrev S1024x2816 : Shape := ⟨2, ![1024, 2816]⟩
abbrev S1x1024 : Shape := ⟨2, ![1, 1024]⟩
abbrev S1x2816 : Shape := ⟨2, ![1, 2816]⟩
abbrev S512x1024 : Shape := ⟨2, ![512, 1024]⟩
abbrev S16x1024 : Shape := ⟨2, ![16, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S8x2x1408 : Shape := ⟨3, ![8, 2, 1408]⟩
abbrev S512 : Shape := ⟨1, ![512]⟩
abbrev S512x1 : Shape := ⟨2, ![512, 1]⟩
abbrev S512x1408 : Shape := ⟨2, ![512, 1408]⟩
abbrev S8x64x1408 : Shape := ⟨3, ![8, 64, 1408]⟩
abbrev S8x1x1408 : Shape := ⟨3, ![8, 1, 1408]⟩
abbrev S1x1x1408 : Shape := ⟨3, ![1, 1, 1408]⟩

abbrev nBuf : Space → Nat
  | .hbm => 19
  | .vmem => 24
  | .smem => 0
  | _ => 0

abbrev bufTy : (tb : Table) → Fin (tcTables nBuf tb) → BufTy
  | .hbm, ⟨0, _⟩ => ⟨S32x64x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S32x2x2816, .f32⟩
  | .hbm, ⟨7, _⟩ => ⟨S1024, .f32⟩
  | .hbm, ⟨8, _⟩ => ⟨S2048x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S1x2816, .f32⟩
  | .hbm, ⟨16, _⟩ => ⟨S1x1024, .f32⟩
  | .hbm, ⟨17, _⟩ => ⟨S2048x1024, .f32⟩
  | .hbm, ⟨18, _⟩ => ⟨S32x2x2816, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1408x1024, .bf16⟩
  | .local _ .vmem, ⟨14, _⟩ => ⟨S1408x1024, .bf16⟩
  | .local _ .vmem, ⟨15, _⟩ => ⟨S8x2x1408, .f32⟩
  | .local _ .vmem, ⟨16, _⟩ => ⟨S8x2x1408, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S8x2x1408, .f32⟩
  | .local _ .vmem, ⟨21, _⟩ => ⟨S8x2x1408, .f32⟩
  | .local _ .vmem, ⟨22, _⟩ => ⟨S512x1024, .bf16⟩
  | .local _ .vmem, ⟨23, _⟩ => ⟨S16x1024, .bf16⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c0_i32_24 : BitVec 32 := 0#32
  let v72 : BitVec 1 := Scalar.cmpi .eq arg1 c0_i32_24
  let v73 : BitVec 32 := Scalar.extui v72
  let c0_i32_25 : BitVec 32 := 0#32
  let v74 : BitVec 1 := Scalar.cmpi .ne v73 c0_i32_25
  v74

def k0_cond3 (i : grid0.Coords) : BitVec 1 :=
  let arg1 : BitVec 32 := BitVec.ofNat 32 (i 1).val
  let c0_i32_26 : BitVec 32 := 0#32
  let v75 : BitVec 1 := Scalar.cmpi .sgt arg1 c0_i32_26
  let c1_i32_27 : BitVec 32 := 1#32
  let v76 : BitVec 1 := Scalar.cmpi .slt arg1 c1_i32_27
  let v77 : BitVec 1 := Scalar.andi v75 v76
  let v78 : BitVec 32 := Scalar.extui v77
  let c0_i32_28 : BitVec 32 := 0#32
  let v79 : BitVec 1 := Scalar.cmpi .ne v78 c0_i32_28
  v79

def k0_cond4 (i : grid0.Coords) : BitVec 1 :=
  let arg1 : BitVec 32 := BitVec.ofNat 32 (i 1).val
  let c0_i32_29 : BitVec 32 := 0#32
  let v80 : BitVec 1 := Scalar.cmpi .sgt arg1 c0_i32_29
  let c1_i32_30 : BitVec 32 := 1#32
  let v81 : BitVec 1 := Scalar.cmpi .eq arg1 c1_i32_30
  let v82 : BitVec 1 := Scalar.andi v80 v81
  let v83 : BitVec 32 := Scalar.extui v82
  let c0_i32_31 : BitVec 32 := 0#32
  let v84 : BitVec 1 := Scalar.cmpi .ne v83 c0_i32_31
  v84

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S8x2x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x2x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference10Ideal.lean ====
abbrev S32x64x1024 : Shape := ⟨3, ![32, 64, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32x2x2816 : Shape := ⟨3, ![32, 2, 2816]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S32x64x5632 : Shape := ⟨3, ![32, 64, 5632]⟩
abbrev S32x64x2816 : Shape := ⟨3, ![32, 64, 2816]⟩
abbrev S32x66x2816 : Shape := ⟨3, ![32, 66, 2816]⟩
abbrev S1x2816 : Shape := ⟨2, ![1, 2816]⟩
abbrev S1x1x2816 : Shape := ⟨3, ![1, 1, 2816]⟩
abbrev S2048x1024 : Shape := ⟨2, ![2048, 1024]⟩

abbrev nBuf : Space → Nat
  | .hbm => 73
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S32x2x2816, .f32⟩
  | .hbm, ⟨7, _⟩ => ⟨S1024, .f32⟩
  | .hbm, ⟨8, _⟩ => ⟨S32x64x1024, .f32⟩
  | .hbm, ⟨9, _⟩ => ⟨S_, .f32⟩
  | .hbm, ⟨10, _⟩ => ⟨S32x64, .f32⟩
  | .hbm, ⟨11, _⟩ => ⟨S32x64x1, .f32⟩
  | .hbm, ⟨12, _⟩ => ⟨S_, .f32⟩
  | .hbm, ⟨13, _⟩ => ⟨S32x64x1, .f32⟩
  | .hbm, ⟨14, _⟩ => ⟨S32x64x1, .f32⟩
  | .hbm, ⟨15, _⟩ => ⟨S_, .f32⟩
  | .hbm, ⟨16, _⟩ => ⟨S32x64x1, .f32⟩
  | .hbm, ⟨17, _⟩ => ⟨S32x64x1, .f32⟩
  | .hbm, ⟨18, _⟩ => ⟨S32x64x1, .f32⟩
  | .hbm, ⟨19, _⟩ => ⟨S32x64x1024, .f32⟩
  | .hbm, ⟨20, _⟩ => ⟨S32x64x1024, .f32⟩
  | .hbm, ⟨21, _⟩ => ⟨S1x1x1024, .f32⟩
  | .hbm, ⟨22, _⟩ => ⟨S32x64x1024, .f32⟩
  | .hbm, ⟨23, _⟩ => ⟨S32x64x1024, .f32⟩
  | .hbm, ⟨24, _⟩ => ⟨S32x64x5632, .f32⟩
  | .hbm, ⟨25, _⟩ => ⟨S32x64x2816, .f32⟩
  | .hbm, ⟨26, _⟩ => ⟨S32x64x2816, .f32⟩
  | .hbm, ⟨27, _⟩ => ⟨S32x66x2816, .f32⟩
  | .hbm, ⟨28, _⟩ => ⟨S1x2816, .f32⟩
  | .hbm, ⟨29, _⟩ => ⟨S2816, .f32⟩
  | .hbm, ⟨30, _⟩ => ⟨S32x64x2816, .f32⟩
  | .hbm, ⟨31, _⟩ => ⟨S1x1x2816, .f32⟩
  | .hbm, ⟨32, _⟩ => ⟨S32x64x2816, .f32⟩
  | .hbm, ⟨33, _⟩ => ⟨S32x64x2816, .f32⟩
  | .hbm, ⟨34, _⟩ => ⟨S1x1x2816, .f32⟩
  | .hbm, ⟨35, _⟩ => ⟨S32x64x2816, .f32⟩
  | .hbm, ⟨36, _⟩ => ⟨S32x64x2816, .f32⟩
  | .hbm, ⟨37, _⟩ => ⟨S1x2816, .f32⟩
  | .hbm, ⟨38, _⟩ => ⟨S2816, .f32⟩
  | .hbm, ⟨39, _⟩ => ⟨S32x64x2816, .f32⟩
  | .hbm, ⟨40, _⟩ => ⟨S1x1x2816, .f32⟩
  | .hbm, ⟨41, _⟩ => ⟨S32x64x2816, .f32⟩
  | .hbm, ⟨42, _⟩ => ⟨S32x64x2816, .f32⟩
  | .hbm, ⟨43, _⟩ => ⟨S32x64x2816, .f32⟩
  | .hbm, ⟨44, _⟩ => ⟨S1x2816, .f32⟩
  | .hbm, ⟨45, _⟩ => ⟨S2816, .f32⟩
  | .hbm, ⟨46, _⟩ => ⟨S32x64x2816, .f32⟩
  | .hbm, ⟨47, _⟩ => ⟨S1x1x2816, .f32⟩
  | .hbm, ⟨48, _⟩ => ⟨S32x64x2816, .f32⟩
  | .hbm, ⟨49, _⟩ => ⟨S32x64x2816, .f32⟩
  | .hbm, ⟨50, _⟩ => ⟨S32x64x2816, .f32⟩
  | .hbm, ⟨51, _⟩ => ⟨S32x64x2816, .f32⟩
  | .hbm, ⟨52, _⟩ => ⟨S32x64x2816, .f32⟩
  | .hbm, ⟨53, _⟩ => ⟨S_, .f32⟩
  | .hbm, ⟨54, _⟩ => ⟨S32x64x2816, .f32⟩
  | .hbm, ⟨55, _⟩ => ⟨S32x64x2816, .f32⟩
  | .hbm, ⟨56, _⟩ => ⟨S32x64x2816, .f32⟩
  | .hbm, ⟨57, _⟩ => ⟨S_, .f32⟩
  | .hbm, ⟨58, _⟩ => ⟨S32x64x2816, .f32⟩
  | .hbm, ⟨59, _⟩ => ⟨S32x64x2816, .f32⟩
  | .hbm, ⟨60, _⟩ => ⟨S32x64x2816, .f32⟩
  | .hbm, ⟨61, _⟩ => ⟨S_, .f32⟩
  | .hbm, ⟨62, _⟩ => ⟨S32x64x2816, .f32⟩
  | .hbm, ⟨63, _⟩ => ⟨S32x64x2816, .f32⟩
  | .hbm, ⟨64, _⟩ => ⟨S_, .f32⟩
  | .hbm, ⟨65, _⟩ => ⟨S32x64x2816, .f32⟩
  | .hbm, ⟨66, _⟩ => ⟨S32x64x2816, .f32⟩
  | .hbm, ⟨67, _⟩ => ⟨S32x64x2816, .f32⟩
  | .hbm, ⟨68, _⟩ => ⟨S32x64x2816, .f32⟩
  | .hbm, ⟨69, _⟩ => ⟨S32x64x1024, .f32⟩
  | .hbm, ⟨70, _⟩ => ⟨S32x2x2816, .f32⟩
  | .hbm, ⟨71, _⟩ => ⟨S32x64x1024, .f32⟩
  | .hbm, ⟨72, _⟩ => ⟨S2048x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel11.lean ====
abbrev S32x64x1024 : Shape := ⟨3, ![32, 64, 1024]⟩
abbrev S32x64x512 : Shape := ⟨3, ![32, 64, 512]⟩
abbrev S1024 : Shape := ⟨1, ![1024]⟩
abbrev S1024x7680 : Shape := ⟨2, ![1024, 7680]⟩
abbrev S3x1024 : Shape := ⟨2, ![3, 1024]⟩
abbrev S3x512x1024 : Shape := ⟨3, ![3, 512, 1024]⟩
abbrev S1024x1024 : Shape := ⟨2, ![1024, 1024]⟩
abbrev S1024x3072 : Shape := ⟨2, ![1024, 3072]⟩
abbrev S2048x1024 : Shape := ⟨2, ![2048, 1024]⟩
abbrev S2048x512 : Shape := ⟨2, ![2048, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 19
  | .vmem => 15
  | .smem => 0
  | _ => 0

abbrev bufTy : (tb : Table) → Fin (tcTables nBuf tb) → BufTy
  | .hbm, ⟨0, _⟩ => ⟨S32x64x1024, .f32⟩
  | .hbm, ⟨1, _⟩ => ⟨S32x64x512, .bf16⟩
  | .hbm, ⟨2, _⟩ => ⟨S32x64x512, .bf16⟩
  | .hbm, ⟨3, _⟩ => ⟨S32x64x512, .bf16⟩
  | .hbm, ⟨4, _⟩ => ⟨S1024, .f32⟩
  | .hbm, ⟨5, _⟩ => ⟨S1024x7680, .f32⟩
  | .hbm, ⟨6, _⟩ => ⟨S3x1024, .f32⟩
  | .hbm, ⟨7, _⟩ => ⟨S3x512x1024, .f32⟩
  | .hbm, ⟨8, _⟩ => ⟨S1024x1024, .f32⟩
  | .hbm, ⟨9, _⟩ => ⟨S1024x3072, .f32⟩
  | .hbm, ⟨10, _⟩ => ⟨S2048x1024, .f32⟩
  | .hbm, ⟨11, _⟩ => ⟨S2048x512, .bf16⟩
  | .hbm, ⟨12, _⟩ => ⟨S2048x512, .bf16⟩
  | .hbm, ⟨13, _⟩ => ⟨S2048x512, .bf16⟩
  | .hbm, ⟨14, _⟩ => ⟨S1024x3072, .bf16⟩
  | .hbm, ⟨15, _⟩ => ⟨S3x512x1024, .bf16⟩
  | .hbm, ⟨16, _⟩ => ⟨S1024x1024, .bf16⟩
  | .hbm, ⟨17, _⟩ => ⟨S1x1024, .f32⟩
  | .hbm, ⟨18, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S1024x3072, .bf16⟩
  | .local _ .vmem, ⟨10, _⟩ => ⟨S3x1024, .f32⟩
  | .local _ .vmem, ⟨11, _⟩ => ⟨S3x512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S32x64x1024 : Shape := ⟨3, ![32, 64, 1024]⟩
abbrev S32x64x512 : Shape := ⟨3, ![32, 64, 512]⟩
abbrev S1024 : Shape := ⟨1, ![1024]⟩
abbrev S1024x7680 : Shape := ⟨2, ![1024, 7680]⟩
abbrev S3x1024 : Shape := ⟨2, ![3, 1024]⟩
abbrev S3x512x1024 : Shape := ⟨3, ![3, 512, 1024]⟩
abbrev S1024x1024 : Shape := ⟨2, ![1024, 1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S32x64x7680 : Shape := ⟨3, ![32, 64, 7680]⟩
abbrev S32x64x3072 : Shape := ⟨3, ![32, 64, 3072]⟩
abbrev S32x64x3x1024 : Shape := ⟨4, ![32, 64, 3, 1024]⟩
abbrev S1x1x3x1024 : Shape := ⟨4, ![1, 1, 3, 1024]⟩
abbrev S32x64x1x1024 : Shape := ⟨4, ![32, 64, 1, 1024]⟩
abbrev S1x512x1024 : Shape := ⟨3, ![1, 512, 1024]⟩
abbrev S512x1024 : Shape := ⟨2, ![512, 1024]⟩
abbrev S2048x1024 : Shape := ⟨2, ![2048, 1024]⟩

abbrev nBuf : Space → Nat
  | .hbm => 62
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x64x512, .bf16⟩
  | .hbm, ⟨2, _⟩ => ⟨S32x64x512, .bf16⟩
  | .hbm, ⟨3, _⟩ => ⟨S32x64x512, .bf16⟩
  | .hbm, ⟨4, _⟩ => ⟨S1024, .f32⟩
  | .hbm, ⟨5, _⟩ => ⟨S1024x7680, .f32⟩
  | .hbm, ⟨6, _⟩ => ⟨S3x1024, .f32⟩
  | .hbm, ⟨7, _⟩ => ⟨S3x512x1024, .f32⟩
  | .hbm, ⟨8, _⟩ => ⟨S1024x1024, .f32⟩
  | .hbm, ⟨9, _⟩ => ⟨S32x64x1024, .f32⟩
  | .hbm, ⟨10, _⟩ => ⟨S_, .f32⟩
  | .hbm, ⟨11, _⟩ => ⟨S32x64, .f32⟩
  | .hbm, ⟨12, _⟩ => ⟨S32x64x1, .f32⟩
  | .hbm, ⟨13, _⟩ => ⟨S_, .f32⟩
  | .hbm, ⟨14, _⟩ => ⟨S32x64x1, .f32⟩
  | .hbm, ⟨15, _⟩ => ⟨S32x64x1, .f32⟩
  | .hbm, ⟨16, _⟩ => ⟨S_, .f32⟩
  | .hbm, ⟨17, _⟩ => ⟨S32x64x1, .f32⟩
  | .hbm, ⟨18, _⟩ => ⟨S32x64x1, .f32⟩
  | .hbm, ⟨19, _⟩ => ⟨S32x64x1, .f32⟩
  | .hbm, ⟨20, _⟩ => ⟨S32x64x1024, .f32⟩
  | .hbm, ⟨21, _⟩ => ⟨S32x64x1024, .f32⟩
  | .hbm, ⟨22, _⟩ => ⟨S1x1x1024, .f32⟩
  | .hbm, ⟨23, _⟩ => ⟨S32x64x1024, .f32⟩
  | .hbm, ⟨24, _⟩ => ⟨S32x64x1024, .f32⟩
  | .hbm, ⟨25, _⟩ => ⟨S32x64x7680, .f32⟩
  | .hbm, ⟨26, _⟩ => ⟨S32x64x3072, .f32⟩
  | .hbm, ⟨27, _⟩ => ⟨S32x64x3x1024, .f32⟩
  | .hbm, ⟨28, _⟩ => ⟨S1x1x3x1024, .f32⟩
  | .hbm, ⟨29, _⟩ => ⟨S32x64x3x1024, .f32⟩
  | .hbm, ⟨30, _⟩ => ⟨S32x64x3x1024, .f32⟩
  | .hbm, ⟨31, _⟩ => ⟨S32x64x3x1024, .f32⟩
  | .hbm, ⟨32, _⟩ => ⟨S32x64x3x1024, .f32⟩
  | .hbm, ⟨33, _⟩ => ⟨S_, .f32⟩
  | .hbm, ⟨34, _⟩ => ⟨S32x64x3x1024, .f32⟩
  | .hbm, ⟨35, _⟩ => ⟨S32x64x3x1024, .f32⟩
  | .hbm, ⟨36, _⟩ => ⟨S_, .f32⟩
  | .hbm, ⟨37, _⟩ => ⟨S32x64x3x1024, .f32⟩
  | .hbm, ⟨38, _⟩ => ⟨S32x64x3x1024, .f32⟩
  | .hbm, ⟨39, _⟩ => ⟨S32x64x1x1024, .f32⟩
  | .hbm, ⟨40, _⟩ => ⟨S32x64x1024, .f32⟩
  | .hbm, ⟨41, _⟩ => ⟨S1x512x1024, .f32⟩
  | .hbm, ⟨42, _⟩ => ⟨S512x1024, .f32⟩
  | .hbm, ⟨43, _⟩ => ⟨S32x64x1024, .f32⟩
  | .hbm, ⟨44, _⟩ => ⟨S32x64x1024, .f32⟩
  | .hbm, ⟨45, _⟩ => ⟨S32x64x1x1024, .f32⟩
  | .hbm, ⟨46, _⟩ => ⟨S32x64x1024, .f32⟩
  | .hbm, ⟨47, _⟩ => ⟨S1x512x1024, .f32⟩
  | .hbm, ⟨48, _⟩ => ⟨S512x1024, .f32⟩
  | .hbm, ⟨49, _⟩ => ⟨S32x64x1024, .f32⟩
  | .hbm, ⟨50, _⟩ => ⟨S32x64x1024, .f32⟩
  | .hbm, ⟨51, _⟩ => ⟨S32x64x1024, .f32⟩
  | .hbm, ⟨52, _⟩ => ⟨S32x64x1x1024, .f32⟩
  | .hbm, ⟨53, _⟩ => ⟨S32x64x1024, .f32⟩
  | .hbm, ⟨54, _⟩ => ⟨S1x512x1024, .f32⟩
  | .hbm, ⟨55, _⟩ => ⟨S512x1024, .f32⟩
  | .hbm, ⟨56, _⟩ => ⟨S32x64x1024, .f32⟩
  | .hbm, ⟨57, _⟩ => ⟨S32x64x1024, .f32⟩
  | .hbm, ⟨58, _⟩ => ⟨S32x64x1024, .f32⟩
  | .hbm, ⟨59, _⟩ => ⟨S32x64x1024, .f32⟩
  | .hbm, ⟨60, _⟩ => ⟨S32x64x1024, .f32⟩
  | .hbm, ⟨61, _⟩ => ⟨S2048x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel12.lean ====
abbrev S2x32x64x4608 : Shape := ⟨4, ![2, 32, 64, 4608]⟩
abbrev S2x32x1024x8x64 : Shape := ⟨5, ![2, 32, 1024, 8, 64]⟩
abbrev S2x32x8x64x1024 : Shape := ⟨5, ![2, 32, 8, 64, 1024]⟩
abbrev S2x32x512x1024 : Shape := ⟨4, ![2, 32, 512, 1024]⟩
abbrev S32x64x512 : Shape := ⟨3, ![32, 64, 512]⟩
abbrev S1x1x64x512 : Shape := ⟨4, ![1, 1, 64, 512]⟩
abbrev S1x1x512x1024 : Shape := ⟨4, ![1, 1, 512, 1024]⟩
abbrev S1x64x512 : Shape := ⟨3, ![1, 64, 512]⟩
abbrev S1x512x128 : Shape := ⟨3, ![1, 512, 128]⟩
abbrev S1x512x512 : Shape := ⟨3, ![1, 512, 512]⟩
abbrev S64x64 : Shape := ⟨2, ![64, 64]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1 : Shape := ⟨1, ![1]⟩
abbrev S1x1x1 : Shape := ⟨3, ![1, 1, 1]⟩
abbrev S1x1x512x256 : Shape := ⟨4, ![1, 1, 512, 256]⟩
abbrev S512x256 : Shape := ⟨2, ![512, 256]⟩
abbrev S256x256 : Shape := ⟨2, ![256, 256]⟩

abbrev nBuf : Space → Nat
  | .hbm => 8
  | .vmem => 14
  | .smem => 0
  | _ => 0

abbrev bufTy : (tb : Table) → Fin (tcTables nBuf tb) → BufTy
  | .hbm, ⟨0, _⟩ => ⟨S2x32x64x4608, .f32⟩
  | .hbm, ⟨1, _⟩ => ⟨S2x32x1024x8x64, .f32⟩
  | .hbm, ⟨2, _⟩ => ⟨S2x32x1024x8x64, .f32⟩
  | .hbm, ⟨3, _⟩ => ⟨S2x32x8x64x1024, .f32⟩
  | .hbm, ⟨4, _⟩ => ⟨S2x32x512x1024, .f32⟩
  | .hbm, ⟨5, _⟩ => ⟨S2x32x8x64x1024, .f32⟩
  | .hbm, ⟨6, _⟩ => ⟨S2x32x512x1024, .f32⟩
  | .hbm, ⟨7, _⟩ => ⟨S32x64x512, .bf16⟩
  | .local _ .vmem, ⟨0, _⟩ => ⟨S1x1x64x512, .f32⟩
  | .local _ .vmem, ⟨1, _⟩ => ⟨S1x1x64x512, .f32⟩
  | .local _ .vmem, ⟨2, _⟩ => ⟨S1x1x64x512, .f32⟩
  | .local _ .vmem, ⟨3, _⟩ => ⟨S1x1x64x512, .f32⟩
  | .local _ .vmem, ⟨4, _⟩ => ⟨S1x1x64x512, .f32⟩
  | .local _ .vmem, ⟨5, _⟩ => ⟨S1x1x64x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x512x1024, .f32⟩
  | .local _ .vmem, ⟨9, _⟩ => ⟨S1x1x512x1024, .f32⟩
  | .local _ .vmem, ⟨10, _⟩ => ⟨S1x64x512, .bf16⟩
  | .local _ .vmem, ⟨11, _⟩ => ⟨S1x64x512, .bf16⟩
  | .local _ .vmem, ⟨12, _⟩ => ⟨S1x512x128, .f32⟩
  | .local _ .vmem, ⟨13, _⟩ => ⟨S1x512x512, .f32⟩
  | _, _ => ⟨S2x32x64x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c64_i32 : BitVec 32 := 64#32
  let v4 : BitVec 32 := Scalar.muli c0_i32 c64_i32
  v4
def k0_off1 : Fin 4 → Nat :=
  let c0 : Index := 0#32
  let c0_0 : Index := 0#32
  let c0_i32 : BitVec 32 := 0#32
  let c64_i32 : BitVec 32 := 64#32
  let v4 : BitVec 32 := Scalar.muli c0_i32 c64_i32
  let v5 : BitVec 32 := v4
  let v6 : Index := Scalar.indexCast v5
  let c0_1 : Index := 0#32
  ![0, 0, v6.toNat, 0]
def k0_mult2 (arg9 : BitVec 32) : BitVec 32 :=
  let c256_i32 : BitVec 32 := 256#32
  let v196 : BitVec 32 := Scalar.muli arg9 c256_i32
  v196

def k0_off2 (arg9 : BitVec 32) : Fin 4 → Nat :=
  let c0_71 : Index := 0#32
  let c0_72 : Index := 0#32
  let c0_73 : Index := 0#32
  let c256_i32 : BitVec 32 := 256#32
  let v196 : BitVec 32 := Scalar.muli arg9 c256_i32
  let v197 : BitVec 32 := v196
  let v198 : Index := Scalar.indexCast v197
  ![0, 0, 0, v198.toNat]

def k0_chk1 (arg9 : BitVec 32) : Prop :=
  (256 ∣ (k0_mult2 arg9).toNat) ∧
  (∀ a, (k0_off2 arg9) a + S1x1x512x256.size a ≤ S1x1x512x1024.size a)
theorem k0_mult2_dvd : ∀ (arg9 : BitVec 32) (k0_hw1 : k0_chk1 arg9), 256 ∣ (k0_mult2 arg9).toNat := fun arg9 k0_hw1 => k0_hw1.1
theorem k0_off2_inb : ∀ (arg9 : BitVec 32) (k0_hw1 : k0_chk1 arg9), ∀ a, (k0_off2 arg9) a + S1x1x512x256.size a ≤ S1x1x512x1024.size a := fun arg9 k0_hw1 => k0_hw1.2

def k0_off3 : Fin 3 → Nat :=
  let c0_68 : Index := 0#32
  let c0_i32 : BitVec 32 := 0#32
  let c64_i32 : BitVec 32 := 64#32
  let v4 : BitVec 32 := Scalar.muli c0_i32 c64_i32
  let v5 : BitVec 32 := v4
  let v192 : Index := Scalar.indexCast v5
  let c0_69 : Index := 0#32
  ![0, v192.toNat, 0]
def cc0_transform_0 (i : grid0.Coords) : Fin 4 → Nat :=
  let arg0 : BitVec 32 := BitVec.ofNat 32 (i 0).val
  let c1_i32 : BitVec 32 := 1#32
  let c0_i32 : BitVec 32 := 0#32
  let c3_i32 : BitVec 32 := 3#32
  let c0_i32_0 : BitVec 32 := 0#32
  ![c1_i32.toNat, arg0.toNat, c0_i32.toNat, c3_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c4_i32 : BitVec 32 := 4#32
  let c0_i32_0 : BitVec 32 := 0#32
  ![c1_i32.toNat, arg0.toNat, c0_i32.toNat, c4_i32.toNat]

def cc0_transform_2 (i : grid0.Coords) : Fin 4 → Nat :=
  let arg0 : BitVec 32 := BitVec.ofNat 32 (i 0).val
  let c1_i32 : BitVec 32 := 1#32
  let c0_i32 : BitVec 32 := 0#32
  let c5_i32 : BitVec 32 := 5#32
  let c0_i32_0 : BitVec 32 := 0#32
  ![c1_i32.toNat, arg0.toNat, c0_i32.toNat, c5_i32.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel12Ideal.lean ====
variable {F : FTy → Type} [FloatOps F] [Named F]
def κ : String → Option EReal := fun
  | "cut" => some ⊥
  | _ => none
-- ==== Reference12Ideal.lean ====
abbrev S2x32x64x4608 : Shape := ⟨4, ![2, 32, 64, 4608]⟩
abbrev S2x32x1024x8x64 : Shape := ⟨5, ![2, 32, 1024, 8, 64]⟩
abbrev S1x32x64x4608 : Shape := ⟨4, ![1, 32, 64, 4608]⟩
abbrev S32x64x4608 : Shape := ⟨3, ![32, 64, 4608]⟩
abbrev S32x64x512 : Shape := ⟨3, ![32, 64, 512]⟩
abbrev S32x64x8x64 : Shape := ⟨4, ![32, 64, 8, 64]⟩
abbrev S64 : Shape := ⟨1, ![64]⟩
abbrev S_ : Shape := ⟨0, ![]⟩
abbrev S1088 : Shape := ⟨1, ![1088]⟩
abbrev S1x32x1024x8x64 : Shape := ⟨5, ![1, 32, 1024, 8, 64]⟩
abbrev S32x1024x8x64 : Shape := ⟨4, ![32, 1024, 8, 64]⟩
abbrev S32x1088x8x64 : Shape := ⟨4, ![32, 1088, 8, 64]⟩
abbrev S32x8x64x1088 : Shape := ⟨4, ![32, 8, 64, 1088]⟩
abbrev S1x1088 : Shape := ⟨2, ![1, 1088]⟩
abbrev S64x1 : Shape := ⟨2, ![64, 1]⟩
abbrev S64x1088 : Shape := ⟨2, ![64, 1088]⟩
abbrev S1x1x64x1088 : Shape := ⟨4, ![1, 1, 64, 1088]⟩
abbrev S32x8x64x1087 : Shape := ⟨4, ![32, 8, 64, 1087]⟩
abbrev S32x8x64x1 : Shape := ⟨4, ![32, 8, 64, 1]⟩
abbrev S32x8x64x64 : Shape := ⟨4, ![32, 8, 64, 64]⟩

abbrev nBuf : Space → Nat
  | .hbm => 93
  | .vmem => 0
  | .smem => 0
  | _ => 0

abbrev bufTy : (tb : Table) → Fin (tcTables nBuf tb) → BufTy
  | .hbm, ⟨0, _⟩ => ⟨S2x32x64x4608, .f32⟩
  | .hbm, ⟨1, _⟩ => ⟨S2x32x1024x8x64, .f32⟩
  | .hbm, ⟨2, _⟩ => ⟨S2x32x1024x8x64, .f32⟩
  | .hbm, ⟨3, _⟩ => ⟨S1x32x64x4608, .f32⟩
  | .hbm, ⟨4, _⟩ => ⟨S32x64x4608, .f32⟩
  | .hbm, ⟨5, _⟩ => ⟨S32x64x512, .f32⟩
  | .hbm, ⟨6, _⟩ => ⟨S32x64x8x64, .f32⟩
  | .hbm, ⟨7, _⟩ => ⟨S1x32x64x4608, .f32⟩
  | .hbm, ⟨8, _⟩ => ⟨S32x64x4608, .f32⟩
  | .hbm, ⟨9, _⟩ => ⟨S32x64x512, .f32⟩
  | .hbm, ⟨10, _⟩ => ⟨S32x64x8x64, .f32⟩
  | .hbm, ⟨11, _⟩ => ⟨S1x32x64x4608, .f32⟩
  | .hbm, ⟨12, _⟩ => ⟨S32x64x4608, .f32⟩
  | .hbm, ⟨13, _⟩ => ⟨S32x64x512, .f32⟩
  | .hbm, ⟨14, _⟩ => ⟨S32x64x8x64, .f32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S1088, .i32⟩
  | .hbm, ⟨20, _⟩ => ⟨S1x32x1024x8x64, .f32⟩
  | .hbm, ⟨21, _⟩ => ⟨S32x1024x8x64, .f32⟩
  | .hbm, ⟨22, _⟩ => ⟨S32x1088x8x64, .f32⟩
  | .hbm, ⟨23, _⟩ => ⟨S1x32x1024x8x64, .f32⟩
  | .hbm, ⟨24, _⟩ => ⟨S32x1024x8x64, .f32⟩
  | .hbm, ⟨25, _⟩ => ⟨S32x1088x8x64, .f32⟩
  | .hbm, ⟨26, _⟩ => ⟨S32x8x64x1088, .f32⟩
  | .hbm, ⟨27, _⟩ => ⟨S_, .f32⟩
  | .hbm, ⟨28, _⟩ => ⟨S32x8x64x1088, .f32⟩
  | .hbm, ⟨29, _⟩ => ⟨S32x8x64x1088, .f32⟩
  | .hbm, ⟨30, _⟩ => ⟨S1x1088, .i32⟩
  | .hbm, ⟨31, _⟩ => ⟨S64x1, .i32⟩
  | .hbm, ⟨32, _⟩ => ⟨S64x1088, .i32⟩
  | .hbm, ⟨33, _⟩ => ⟨S64x1088, .i32⟩
  | .hbm, ⟨34, _⟩ => ⟨S64x1088, .i1⟩
  | .hbm, ⟨35, _⟩ => ⟨S1x1x64x1088, .i1⟩
  | .hbm, ⟨36, _⟩ => ⟨S32x8x64x1088, .f32⟩
  | .hbm, ⟨37, _⟩ => ⟨S32x8x64x1088, .f32⟩
  | .hbm, ⟨38, _⟩ => ⟨S_, .f32⟩
  | .hbm, ⟨39, _⟩ => ⟨S32x8x64x1088, .f32⟩
  | .hbm, ⟨40, _⟩ => ⟨S32x8x64x1088, .f32⟩
  | .hbm, ⟨41, _⟩ => ⟨S32x8x64x1088, .f32⟩
  | .hbm, ⟨42, _⟩ => ⟨S32x8x64x1088, .f32⟩
  | .hbm, ⟨43, _⟩ => ⟨S32x8x64x1088, .i1⟩
  | .hbm, ⟨44, _⟩ => ⟨S32x8x64x1088, .f32⟩
  | .hbm, ⟨45, _⟩ => ⟨S32x8x64x1088, .f32⟩
  | .hbm, ⟨46, _⟩ => ⟨S32x8x64x1088, .f32⟩
  | .hbm, ⟨47, _⟩ => ⟨S32x8x64x1088, .f32⟩
  | .hbm, ⟨48, _⟩ => ⟨S32x8x64x1088, .f32⟩
  | .hbm, ⟨49, _⟩ => ⟨S32x8x64x1088, .f32⟩
  | .hbm, ⟨50, _⟩ => ⟨S32x8x64x1088, .f32⟩
  | .hbm, ⟨51, _⟩ => ⟨S32x8x64x1088, .f32⟩
  | .hbm, ⟨52, _⟩ => ⟨S32x8x64x1088, .f32⟩
  | .hbm, ⟨53, _⟩ => ⟨S_, .f32⟩
  | .hbm, ⟨54, _⟩ => ⟨S_, .f32⟩
  | .hbm, ⟨55, _⟩ => ⟨S32x8x64x1088, .i1⟩
  | .hbm, ⟨56, _⟩ => ⟨S32x8x64x1088, .f32⟩
  | .hbm, ⟨57, _⟩ => ⟨S32x8x64x1088, .f32⟩
  | .hbm, ⟨58, _⟩ => ⟨S_, .f32⟩
  | .hbm, ⟨59, _⟩ => ⟨S_, .f32⟩
  | .hbm, ⟨60, _⟩ => ⟨S32x8x64x1088, .f32⟩
  | .hbm, ⟨61, _⟩ => ⟨S32x8x64x1087, .f32⟩
  | .hbm, ⟨62, _⟩ => ⟨S32x8x64x1, .f32⟩
  | .hbm, ⟨63, _⟩ => ⟨S_, .f32⟩
  | .hbm, ⟨64, _⟩ => ⟨S32x8x64x1, .f32⟩
  | .hbm, ⟨65, _⟩ => ⟨S32x8x64x1088, .f32⟩
  | .hbm, ⟨66, _⟩ => ⟨S32x8x64x1088, .f32⟩
  | .hbm, ⟨67, _⟩ => ⟨S_, .f32⟩
  | .hbm, ⟨68, _⟩ => ⟨S32x8x64x1088, .f32⟩
  | .hbm, ⟨69, _⟩ => ⟨S32x8x64x1088, .f32⟩
  | .hbm, ⟨70, _⟩ => ⟨S32x8x64x1088, .f32⟩
  | .hbm, ⟨71, _⟩ => ⟨S32x8x64x1088, .f32⟩
  | .hbm, ⟨72, _⟩ => ⟨S32x8x64x1088, .i1⟩
  | .hbm, ⟨73, _⟩ => ⟨S32x8x64x1088, .f32⟩
  | .hbm, ⟨74, _⟩ => ⟨S32x8x64x1088, .f32⟩
  | .hbm, ⟨75, _⟩ => ⟨S32x8x64x1088, .f32⟩
  | .hbm, ⟨76, _⟩ => ⟨S32x8x64x1088, .f32⟩
  | .hbm, ⟨77, _⟩ => ⟨S32x8x64x1088, .f32⟩
  | .hbm, ⟨78, _⟩ => ⟨S32x8x64x1088, .f32⟩
  | .hbm, ⟨79, _⟩ => ⟨S32x8x64x1088, .f32⟩
  | .hbm, ⟨80, _⟩ => ⟨S32x8x64x1088, .f32⟩
  | .hbm, ⟨81, _⟩ => ⟨S32x8x64x1088, .f32⟩
  | .hbm, ⟨82, _⟩ => ⟨S32x8x64x1088, .f32⟩
  | .hbm, ⟨83, _⟩ => ⟨S32x8x64x1088, .f32⟩
  | .hbm, ⟨84, _⟩ => ⟨S_, .f32⟩
  | .hbm, ⟨85, _⟩ => ⟨S_, .f32⟩
  | .hbm, ⟨86, _⟩ => ⟨S32x8x64x1088, .i1⟩
  | .hbm, ⟨87, _⟩ => ⟨S32x8x64x1088, .f32⟩
  | .hbm, ⟨88, _⟩ => ⟨S32x8x64x1088, .f32⟩
  | .hbm, ⟨89, _⟩ => ⟨S32x8x64x64, .f32⟩
  | .hbm, ⟨90, _⟩ => ⟨S32x64x8x64, .f32⟩
  | .hbm, ⟨91, _⟩ => ⟨S32x64x512, .f32⟩
  | .hbm, ⟨92, _⟩ => ⟨S32x64x512, .bf16⟩
  | _, _ => ⟨S2x32x64x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_v1 : Ref sig .tc := ⟨.hbm, 51, rfl⟩
abbrev main_v32 : Ref sig .tc := ⟨.hbm, 52, rfl⟩
abbrev main_cst_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_call2_cst : Ref sig .tc := ⟨.hbm, 58, rfl⟩
abbrev main_call2_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_1 : Ref sig .tc := ⟨.hbm, 63, rfl⟩
abbrev main_v37 : Ref sig .tc := ⟨.hbm, 64, rfl⟩
abbrev main_v38 : Ref sig .tc := ⟨.hbm, 65, rfl⟩
abbrev main_call3_v0 : Ref sig .tc := ⟨.hbm, 66, rfl⟩
abbrev main_call3_call0_cst : Ref sig .tc := ⟨.hbm, 67, rfl⟩
abbrev main_call3_call0_v0 : Ref sig .tc := ⟨.hbm, 68, rfl⟩
abbrev main_call3_call0_v1 : Ref sig .tc := ⟨.hbm, 69, rfl⟩
abbrev main_call3_call0_v2 : Ref sig .tc := ⟨.hbm, 70, rfl⟩
abbrev main_call3_call0_v3 : Ref sig .tc := ⟨.hbm, 71, rfl⟩
abbrev main_call3_call0_v4 : Ref sig .tc := ⟨.hbm, 72, rfl⟩
abbrev main_call3_call0_v5 : Ref sig .tc := ⟨.hbm, 73, rfl⟩
abbrev main_call3_call0_v6 : Ref sig .tc := ⟨.hbm, 74, rfl⟩
abbrev main_call3_call0_v7 : Ref sig .tc := ⟨.hbm, 75, rfl⟩
abbrev main_call3_call0_v8 : Ref sig .tc := ⟨.hbm, 76, rfl⟩
abbrev main_call3_call0_v9 : Ref sig .tc := ⟨.hbm, 77, rfl⟩
abbrev main_call3_call0_v10 : Ref sig .tc := ⟨.hbm, 78, rfl⟩
abbrev main_call3_call0_v11 : Ref sig .tc := ⟨.hbm, 79, rfl⟩
abbrev main_call3_v1 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_2 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩

abbrev nD : Nat := 1
abbrev τ : Topo := Topo.v7x

variable {F : FTy → Type} [FloatOps F]
-- ==== Proof.Owns.lean ====
/-
  Loads and stores through a memref that a thread OWNS (Lib/Memref.lean `owns`: its elements, at the contents
  they read as), for a memref given as a variable: a load reads the contents at the rectangle's indices, an
  unmasked store leaves the payload there and the old contents elsewhere.
-/
module

public import Idealize.ShloMosaic.Lib.Pipeline.Kit
public import Idealize.ShloMosaic.Lib.Memref
public import Idealize.ShloMosaic.Lib.ValueIdx

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- Contents `X` with the elements of the rectangle `r` replaced by `w`. -/
def put {Val : EltTy → Type} {s : Shape} {e : EltTy} (X : s.Idx → Val e) (r : Rect s) (w : r.shape.Idx → Val e) : s.Idx → Val e :=
  fun y => match preimage? r.emb y with
    | some x => w x
    | none => X y

section Put

variable {Val : EltTy → Type} {s : Shape} {e : EltTy} (X : s.Idx → Val e) (r : Rect s) (w : r.shape.Idx → Val e)

/-- Inside the rectangle the new contents are the payload; -/
theorem put_emb (x : r.shape.Idx) : put X r w (r.emb x) = w x := by
  unfold put; rw [preimage?_emb]

/-- outside it they are the old ones. -/
theorem put_of_ne {y : s.Idx} (h : ∀ x, r.emb x ≠ y) : put X r w y = X y := by
  unfold put; rw [preimage?_eq_none h]

end Put

variable {nD : Nat} {τ : Topo} {sig : RefSig} {Val : EltTy → Type}
variable {Ix : Type} [DecidableEq Ix] {Name : Type} [DecidableEq Name] {U : Type} [URA U] {Lvl : Type} [Preorder Lvl]
variable {Λ : Labels} {α : Type} {defs : Defs nD τ sig Val Λ}

local notation "𝕄" => MT nD τ sig Ix Val Name U Lvl

variable (𝒱 : Variants) (c : Thread nD τ) (bd : Option 𝒱.V) (E : Set Name) {Q : α → sProp (MT nD τ sig Ix Val Name U Lvl)}

/-- A load through a rectangle of an owned memref reads its contents there. -/
theorem wp_load_owns {cs : CoreSpace} {s : Shape} {e : EltTy} (m : Memref sig c.2.kind cs s e) (r : Rect s) (X : s.Idx → Val e)
    {hl : m.view.LoadsAt r} {k : (r.shape.Idx → Val e) → Prog (TpuEff nD τ sig Val Λ c.2) α} :
    (owns c m fullShare X : sProp 𝕄)
      ⊢ iprop((owns c m fullShare X -∗ wp frame (wpE defs 𝒱 c bd) E (k (fun x => X (r.emb x))) Q)
        -∗ wp frame (wpE defs 𝒱 c bd) E (.op (.load m r hl) k) Q) := by
  unfold owns
  iintro ⟨%f, %hf, H⟩ Hk
  iapply (wp_load 𝒱 c bd E (m := m) (r := r.toLoadRect) (S := m.view.set) (View.setOn_subset_set _ _)) $$ H
  iintro H
  subst hf
  iapply Hk
  iexists f
  isplitr; · ipureintro; rfl
  iexact H

/-- An unmasked store through a rectangle of an owned memref leaves the payload there. -/
theorem wp_store_owns {cs : CoreSpace} {s : Shape} {e : EltTy} (m : Memref sig c.2.kind cs s e) (r : Rect s) (X : s.Idx → Val e)
    (w : r.shape.Idx → Val e) {hx : (m.access r).Stores Finset.univ} {hm : (Finset.univ : Finset r.shape.Idx) = Finset.univ ∨ ∀ a, r.stride a = 1}
    {k : PUnit → Prog (TpuEff nD τ sig Val Λ c.2) α} :
    (owns c m fullShare X : sProp 𝕄)
      ⊢ iprop((owns c m fullShare (put X r w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (Mk := Finset.univ) (S := m.view.set) (View.set_slice_subset m.view r)) $$ H
  iintro H
  subst hf
  iapply Hk
  iexists _
  isplitr
  swap; · iexact H
  ipureintro
  funext y
  by_cases hy : ∃ x, r.emb x = y
  · obtain ⟨x, rfl⟩ := hy
    rw [put_emb]
    exact View.read_slice_write_emb r f w (Finset.mem_univ x)
  · rw [put_of_ne _ _ _ (fun x hx => hy ⟨x, hx⟩)]
    exact View.read_slice_write_of_not_mem r f w Finset.univ (fun hm' => by
      obtain ⟨x, -, hx⟩ := Finset.mem_map.mp hm'
      exact hy ⟨x, hx⟩)

end Cert.Proof

end
-- ==== Proof.PI.Trip.lean ====
/-
  The idealized kernel, in value form: what one trip of its loop over the 256-row query blocks computes, as
  functions of the three staged arrays (the queries, the keys and the values of one batch row and head group),
  for any float values. The payload names are the generated skeleton's.
-/
module

public import proofs.«01_k».proof.Proof.P.Run
public import proofs.«01_k».proof.Proof.Gen.KernelIdeal
public import proofs.«01_k».proof.Proof.Gen.KernelIdeal.Skeleton
public import Idealize.ShloMosaic.Lib.ValueIdx

@[expose] public section

noncomputable section

namespace Cert.Proof.PI

open Cert.KernelIdeal Cert.KernelIdeal.Gen
open Idealize.ShloMosaic Idealize.ShloMosaic.ValueIdx

variable {F : FTy → Type} [FloatOps F] [Named F]

/-- The running-sum bound below which the sweep stops. -/
abbrev cut : F .f32 := Named.named κ "cut" 0xC2D00000#32

/-- Columns `256j … 256j + 255` of a staged key or value array. -/
def colBlk (X : Vec F S1x1x256x4096 .f32) (j : ℕ) : Vec F S1x1x256x256 .f32 :=
  fun x => X (ix4 (0 : Fin 1) (0 : Fin 1) (⟨(x 2).val, (x 2).isLt⟩ : Fin 256) (⟨(256 * j + (x 3).val) % 4096, Nat.mod_lt _ (by decide)⟩ : Fin 4096))

/-- Rows `256j … 256j + 255` of the staged queries. -/
def rowBlk (X : Vec F S1x1x4096x256 .f32) (j : ℕ) : Vec F S1x1x256x256 .f32 :=
  fun x => X (ix4 (0 : Fin 1) (0 : Fin 1) (⟨(256 * j + (x 2).val) % 4096, Nat.mod_lt _ (by decide)⟩ : Fin 4096) (⟨(x 3).val, (x 3).isLt⟩ : Fin 256))

/-- The four heads' queries of block `k`, stacked: head `h`'s rows keep its own 64 columns. -/
def qst (Q : Vec F S1x1x4096x256 .f32) (k : ℕ) : FVec F S1024x256 .bf16 :=
  k0_pay11 (k0_pay7 (rowBlk Q k)) k0_pay8 (k0_pay9 (rowBlk Q k)) (k0_pay10 (rowBlk Q k))

/-- The key block before block `k` and block `k` itself, side by side; -/
def kcat (K : Vec F S1x1x256x4096 .f32) (k : ℕ) : FVec F S256x512 .bf16 := k0_pay12 (colBlk K (k - 1)) (colBlk K k)

/-- the value blocks likewise. -/
def vcat (V : Vec F S1x1x256x4096 .f32) (k : ℕ) : FVec F S256x512 .bf16 := k0_pay13 (colBlk V (k - 1)) (colBlk V k)

/-- Which of those 512 keys a row attends to. -/
def msk (k : ℕ) : IVec S1024x512 1 := k0_pay14 k0_pay1 (BitVec.ofNat 32 k)

/-- What the two blocks add to each row's result; -/
def acc0 (Q : Vec F S1x1x4096x256 .f32) (K V : Vec F S1x1x256x4096 .f32) (k : ℕ) : Vec F S1x1024x256 .f32 :=
  k0_pay23 (vcat V k) (msk k) (k0_pay18 (qst Q k) (kcat K k))
    (k0_pay22 (qst Q k) (kcat K k) (msk k) k0_pay15 (Scalar.ofBits .f32 0x3F800000#32))

/-- the row sums of the log-keeps over them. -/
def tot0 (Q : Vec F S1x1x4096x256 .f32) (K : Vec F S1x1x256x4096 .f32) (k : ℕ) : FVec F S1024x1 .f32 :=
  k0_pay21 (qst Q k) (kcat K k) (msk k)

/-- Whether some row's running sum is above the bound, as the word the loop carries, after the first two blocks -/
def live0 (Q : Vec F S1x1x4096x256 .f32) (K : Vec F S1x1x256x4096 .f32) (k : ℕ) : BitVec 32 :=
  Scalar.extui (Scalar.cmpf .ogt (k0_pay26 (tot0 Q K k)) cut)

/-- and after one block of the sweep. -/
def live1 (q : FVec F S1024x256 .bf16) (kb : Vec F S1x1x256x256 .f32) (c : Vec F S1x1024x128 .f32) : BitVec 32 :=
  Scalar.extui (Scalar.cmpf .ogt (k0_pay6 (k0_pay36 q kb) c) cut)

/-- The running sums after one block of the sweep; -/
def carry1 (q : FVec F S1024x256 .bf16) (kb : Vec F S1x1x256x256 .f32) (c : Vec F S1x1024x128 .f32) : Vec F S1x1024x128 .f32 :=
  k0_pay5 (k0_pay36 q kb) c

/-- the results after it. -/
def acc1 (q : FVec F S1024x256 .bf16) (kb vb : Vec F S1x1x256x256 .f32) (c : Vec F S1x1024x128 .f32) (a : Vec F S1x1024x256 .f32) :
    Vec F S1x1024x256 .f32 :=
  k0_pay3 (k0_pay30 vb) (k0_pay34 q kb) (k0_pay35 q kb) c a

/-- The sweep over the blocks `n - 1, …, 0`, the live word `l`, the running sums `c` and the results `a` at its
    start: what the results are when it stops. -/
def sweep (K V : Vec F S1x1x256x4096 .f32) (q : FVec F S1024x256 .bf16) :
    ℕ → BitVec 32 → Vec F S1x1024x128 .f32 → Vec F S1x1024x256 .f32 → Vec F S1x1024x256 .f32
  | 0, _, _, a => a
  | n + 1, l, c, a =>
    if Scalar.cmpi .sgt l 0#32 = 1#1 then
      sweep K V q n (live1 q (colBlk K n) c) (carry1 q (colBlk K n) c) (acc1 q (colBlk K n) (colBlk V n) c a)
    else a

/-- The stacked results of query block `k`. -/
def accEnd (Q : Vec F S1x1x4096x256 .f32) (K V : Vec F S1x1x256x4096 .f32) (k : ℕ) : Vec F S1x1024x256 .f32 :=
  sweep K V (qst Q k) (k - 1) (live0 Q K k) (k0_pay25 (tot0 Q K k)) (acc0 Q K V k)

/-- The block trip `k` stores: each column from its own head's rows. -/
def outBlk (Q : Vec F S1x1x4096x256 .f32) (K V : Vec F S1x1x256x4096 .f32) (k : ℕ) : FVec F S1x256x256 .bf16 :=
  k0_pay2 (k0_pay27 (accEnd Q K V k)) (iota .tc S256x256 32 [1] iota_S256x256_d1_w32) 64#32 k0_pay28 k0_pay29
    (Scalar.extui (Scalar.cmpi .sgt 64#32 0#32)) (Scalar.cmpi .slt 64#32 0#32)

/-- The staged result after all sixteen trips. -/
def out (Q : Vec F S1x1x4096x256 .f32) (K V : Vec F S1x1x256x4096 .f32) : Vec F S1x4096x256 .bf16 :=
  fun x => outBlk Q K V ((x 1).val / 256) (ix3 (0 : Fin 1) (⟨(x 1).val % 256, Nat.mod_lt _ (by decide)⟩ : Fin 256) (⟨(x 2).val, (x 2).isLt⟩ : Fin 256))

/-! ## The printed offsets -/

theorem trips_eq : k0_t1_loop.trips = 16 := by decide +kernel

theorem off1_eq : ∀ k : Fin k0_t1_loop.trips, k0_off1 k = ![0, 0, 256 * k.val, 0] := by decide +kernel
theorem off2_eq : ∀ (i : grid0.Coords) (k : Fin k0_t1_loop.trips), k0_off2 i k = ![0, 0, 0, 256 * (k.val - 1)] := by decide +kernel
theorem off3_eq : ∀ (i : grid0.Coords) (k : Fin k0_t1_loop.trips), k0_off3 i k = ![0, 0, 0, 256 * k.val] := by decide +kernel
theorem off4_eq : ∀ n : Fin 16, k0_off4 (BitVec.ofNat 32 n.val) = ![0, 0, 0, 256 * n.val] := by decide +kernel
theorem off5_eq : ∀ k : Fin k0_t1_loop.trips, k0_off5 k = ![0, 256 * k.val, 0] := by decide +kernel

/-- The sweep's block index is in range wherever it runs. -/
theorem chk1 : ∀ n : Fin 16, k0_chk1 (BitVec.ofNat 32 n.val) := by decide +kernel

/-- The block number trip `k` computes is `k`, -/
theorem v6_eq : ∀ (i : grid0.Coords) (k : Fin k0_t1_loop.trips),
    Scalar.addi (Scalar.muli (BitVec.ofNat 32 (i 2).val) 16#32) (Scf.iv 0#32 1#32 k) = BitVec.ofNat 32 k.val := by decide +kernel

end Cert.Proof.PI

end
-- ==== Proof.PI.Sweep.lean ====
/-
  The idealized kernel's sweep: the loop from the block before last down to block 0, on a core that owns the staged
  keys and values and the two scratch buffers, leaves the results `sweep` says, whatever the running sums.
-/
module

public import proofs.«01_k».proof.Proof.PI.Trip
public import proofs.«01_k».proof.Proof.Owns
public import Idealize.ShloMosaic.Rules
public import Idealize.ShloMosaic.Lib.VecWindow
public import Idealize.ShloMosaic.Lib.Pipeline.ValueKit.Geometry

@[expose] public section

noncomputable section

namespace Cert.Proof.PI

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost algebra: the rounds library's over the machine's cells, duties named by `Unit`. -/
abbrev UR (nD : Nat) (τ : Topo) : Type := URounds (GSem nD τ sig) Unit

local notation "𝕄" => MT nD τ sig Unit (Elt F) ℕ (UR nD τ) ℕ

/-- The sweep's runs are bounded by a natural number: the blocks still to come. -/
abbrev 𝒱₀ : Variants := Variants.nat

/-! ## The rectangles the body names -/

section Reads

variable {Val : EltTy → Type}

omit [FloatOps F] [Named F] in
/-- A store through the rectangle of the whole shape replaces everything; -/
theorem put_full {s : Shape} {e : EltTy} {off : Fin s.rank → ℕ} (h : ∀ a, off a + s.size a ≤ s.size a) (X w : s.Idx → Val e) :
    put X (Rect.unit (s := s) off s.size h) w = w := by
  funext y
  have := put_emb X (Rect.unit (s := s) off s.size h) w y
  rwa [Rect.emb_unit_full] at this

/-- a load through it reads everything. -/
theorem ld_full {s : Shape} {e : EltTy} {off : Fin s.rank → ℕ} (h : ∀ a, off a + s.size a ≤ s.size a) (X : s.Idx → Val e) :
    (fun x => X ((Rect.unit (s := s) off s.size h).emb x)) = X := by
  funext y; exact congrArg X (Rect.emb_unit_full h y)

end Reads

omit [FloatOps F] [Named F] in
/-- A key or value block's load. -/
theorem ld_col (X : Vec F S1x1x256x4096 .f32) {off : Fin S1x1x256x4096.rank → ℕ}
    (h : ∀ a, off a + S1x1x256x256.size a ≤ S1x1x256x4096.size a) (j : ℕ) (ho : off = ![0, 0, 0, 256 * j]) :
    (fun x => X ((Rect.unit (s := S1x1x256x4096) off S1x1x256x256.size h).emb x)) = colBlk X j := by
  subst ho
  funext x
  refine congrArg X (funext fun a => Fin.ext ?_)
  have h3 : 256 * j + (x 3).val < 4096 := by
    have h3 := h 3; have := (x 3).isLt
    simp [Shape.size] at h3 this ⊢
    omega
  rw [ValueKit.rect_emb_unit_val]
  match a with
  | ⟨0, _⟩ => have := (x 0).isLt; simp at this ⊢
  | ⟨1, _⟩ => have := (x 1).isLt; simp at this ⊢
  | ⟨2, _⟩ => simp
  | ⟨3, _⟩ => simp [Nat.mod_eq_of_lt h3]

omit [FloatOps F] [Named F] in
/-- A query block's load. -/
theorem ld_row (X : Vec F S1x1x4096x256 .f32) {off : Fin S1x1x4096x256.rank → ℕ}
    (h : ∀ a, off a + S1x1x256x256.size a ≤ S1x1x4096x256.size a) (j : ℕ) (ho : off = ![0, 0, 256 * j, 0]) :
    (fun x => X ((Rect.unit (s := S1x1x4096x256) off S1x1x256x256.size h).emb x)) = rowBlk X j := by
  subst ho
  funext x
  refine congrArg X (funext fun a => Fin.ext ?_)
  have h3 : 256 * j + (x 2).val < 4096 := by
    have h3 := h 2; have := (x 2).isLt
    simp [Shape.size] at h3 this ⊢
    omega
  rw [ValueKit.rect_emb_unit_val]
  match a with
  | ⟨0, _⟩ => have := (x 0).isLt; simp at this ⊢
  | ⟨1, _⟩ => have := (x 1).isLt; simp at this ⊢
  | ⟨2, _⟩ => simp [Nat.mod_eq_of_lt h3]
  | ⟨3, _⟩ => simp

/-! ## The loop -/

/-- The block index the loop carries with `n` blocks to come: `n - 1`, and something negative when none is. -/
def Fits (n : ℕ) (j : BitVec 32) : Prop :=
  (n = 0 ∧ Scalar.cmpi .sge j 0#32 = 0#1) ∨ (0 < n ∧ n ≤ 16 ∧ j = BitVec.ofNat 32 (n - 1))

theorem fits_step : ∀ n : Fin 16, (n.val = 0 → Scalar.cmpi .sge (Scalar.subi (BitVec.ofNat 32 n.val) 1#32) 0#32 = 0#1)
    ∧ (0 < n.val → Scalar.subi (BitVec.ofNat 32 n.val) 1#32 = BitVec.ofNat 32 (n.val - 1))
    ∧ Scalar.cmpi .sge (BitVec.ofNat 32 n.val) 0#32 = 1#1 := by decide +kernel

theorem fits_start : ∀ k : Fin 16, (k.val ≤ 1 → Scalar.cmpi .sge (Scalar.subi (Scalar.subi (BitVec.ofNat 32 k.val) 1#32) 1#32) 0#32 = 0#1)
    ∧ (1 < k.val → Scalar.subi (Scalar.subi (BitVec.ofNat 32 k.val) 1#32) 1#32 = BitVec.ofNat 32 (k.val - 1 - 1)) := by decide +kernel

theorem fits_first (k : Fin k0_t1_loop.trips) : Fits (k.val - 1) (Scalar.subi (Scalar.subi (BitVec.ofNat 32 k.val) 1#32) 1#32) := by
  have hk : k.val < 16 := trips_eq ▸ k.isLt
  have h := fits_start ⟨k.val, hk⟩
  rcases Nat.lt_or_ge 1 k.val with h1 | h1
  · exact .inr ⟨by omega, by omega, h.2 h1⟩
  · exact .inl ⟨by omega, h.1 h1⟩

theorem and_one (a : BitVec 1) : Scalar.andi 1#1 a = a := by revert a; decide
theorem and_zero (a : BitVec 1) : Scalar.andi 0#1 a = 0#1 := by revert a; decide

set_option maxHeartbeats 1000000 in
/-- The sweep with `n` blocks to come. -/
theorem wp_sweep (c : Dev nD) (i : grid0.Coords) (k : Fin k0_t1_loop.trips)
    (arg4 : Memref sig .tc .vmem S1x1x256x4096 .f32) (harg4 : arg4.IsWhole) (arg5 : Memref sig .tc .vmem S1x1x256x4096 .f32) (harg5 : arg5.IsWhole)
    (q : FVec F S1024x256 .bf16) (arg7 : Memref sig .tc .vmem S1x1024x128 .f32) (harg7 : arg7.IsWhole)
    (arg8 : Memref sig .tc .vmem S1x1024x256 .f32) (harg8 : arg8.IsWhole) (K V : Vec F S1x1x256x4096 .f32) :
    ∀ (n : ℕ) (Q : BitVec 32 × BitVec 32 → sProp 𝕄) (j l : BitVec 32) (cy : Vec F S1x1024x128 .f32) (a : Vec F S1x1024x256 .f32), Fits n j →
      iprop(owns (c : Thread nD τ) arg4 fullShare K ∗ owns (c : Thread nD τ) arg5 fullShare V ∗ owns (c : Thread nD τ) arg7 fullShare cy
          ∗ owns (c : Thread nD τ) arg8 fullShare a
          ∗ (∀ x, (owns (c : Thread nD τ) arg4 fullShare K ∗ owns (c : Thread nD τ) arg5 fullShare V
              ∗ (∃ cy', owns (c : Thread nD τ) arg7 fullShare cy') ∗ owns (c : Thread nD τ) arg8 fullShare (sweep K V q n l cy a)) -∗ Q x))
        ⊢ wp frame (wpE (defs₀ (F := F)) 𝒱₀ (c : Thread nD τ) (some n)) Set.univ
            (defs₀ (F := F) .tc 1 ⟨i, k, arg4, harg4, arg5, harg5, q, arg7, harg7, arg8, harg8, j, l⟩) Q := by
  intro n
  induction n with
  | zero =>
    intro Q j l cy a hf
    show _ ⊢ wp frame (wpE (defs₀ (F := F)) 𝒱₀ (c : Thread nD τ) (some 0)) Set.univ
      (cc0_while1 i k arg4 harg4 arg5 harg5 q arg7 harg7 arg8 harg8 j l) Q
    have hj : Scalar.cmpi .sge j 0#32 = 0#1 := by
      rcases hf with ⟨-, h⟩ | ⟨h, -⟩
      · exact h
      · exact absurd h (Nat.lt_irrefl 0)
    simp only [cc0_while1_eq_skeleton]; unfold cc0_while1_skel
    simp only [hj, and_zero, show ((0#1 : BitVec 1) = 1#1) = False from by decide, ↓reduceIte, Prog.pure_eq_ret]
    iintro ⟨H4, H5, H7, H8, Hk⟩
    rw [wp_ret]; imodintro
    iapply Hk
    isplitl [H4]; · iexact H4
    isplitl [H5]; · iexact H5
    isplitl [H7]; · iexists _; iexact H7
    simp only [sweep]
    iexact H8
  | succ n ih =>
    intro Q j l cy a hf
    obtain ⟨hn, rfl⟩ : n < 16 ∧ j = BitVec.ofNat 32 n := by
      rcases hf with ⟨h, -⟩ | ⟨-, h, h'⟩
      · exact absurd h (Nat.succ_ne_zero n)
      · exact ⟨by omega, by simpa using h'⟩
    show _ ⊢ wp frame (wpE (defs₀ (F := F)) 𝒱₀ (c : Thread nD τ) (some (n + 1))) Set.univ
      (cc0_while1 i k arg4 harg4 arg5 harg5 q arg7 harg7 arg8 harg8 (BitVec.ofNat 32 n) l) Q
    obtain ⟨h0, h1, hge⟩ := fits_step ⟨n, hn⟩
    simp only at h0 h1 hge
    have hnext : Fits n (Scalar.subi (BitVec.ofNat 32 n) 1#32) := by
      rcases Nat.eq_zero_or_pos n with h | h
      · exact .inl ⟨h, h0 h⟩
      · exact .inr ⟨h, by omega, h1 h⟩
    simp only [cc0_while1_eq_skeleton]; unfold cc0_while1_skel
    simp only [hge, and_one]
    by_cases hl : Scalar.cmpi .sgt l 0#32 = 1#1
    · rw [if_pos hl]
      simp only [k0_part5_eq_skeleton]; unfold k0_part5_skel
      simp only [Prog.lift, Prog.bind_op, Prog.bind_ret, Prog.pure_eq_ret]
      iintro ⟨H4, H5, H7, H8, Hk⟩
      iapply (wp_assume 𝒱₀ (c : Thread nD τ) (some (n + 1)) Set.univ (chk1 ⟨n, hn⟩))
      iapply (wp_load_owns 𝒱₀ (c : Thread nD τ) (some (n + 1)) Set.univ arg4 _ K) $$ H4; iintro H4
      iapply (wp_load_owns 𝒱₀ (c : Thread nD τ) (some (n + 1)) Set.univ arg5 _ V) $$ H5; iintro H5
      rw [ld_col K _ n (off4_eq ⟨n, hn⟩), ld_col V _ n (off4_eq ⟨n, hn⟩)]
      iapply (wp_load_owns 𝒱₀ (c : Thread nD τ) (some (n + 1)) Set.univ arg7 _ cy) $$ H7; iintro H7
      iapply (wp_load_owns 𝒱₀ (c : Thread nD τ) (some (n + 1)) Set.univ arg8 _ a) $$ H8; iintro H8
      iapply (wp_load_owns 𝒱₀ (c : Thread nD τ) (some (n + 1)) Set.univ arg8 _ a) $$ H8; iintro H8
      iapply (wp_store_owns 𝒱₀ (c : Thread nD τ) (some (n + 1)) Set.univ arg8 _ a _) $$ H8; iintro H8
      iapply (wp_load_owns 𝒱₀ (c : Thread nD τ) (some (n + 1)) Set.univ arg7 _ cy) $$ H7; iintro H7
      iapply (wp_load_owns 𝒱₀ (c : Thread nD τ) (some (n + 1)) Set.univ arg7 _ cy) $$ H7; iintro H7
      iapply (wp_store_owns 𝒱₀ (c : Thread nD τ) (some (n + 1)) Set.univ arg7 _ cy _) $$ H7; iintro H7
      rw [ld_full _ cy, ld_full _ a, put_full, put_full]
      iapply (wp_call 𝒱₀ (c : Thread nD τ) (some (n + 1)) Set.univ n (fun u hu => by cases hu; exact Nat.lt_succ_self n))
      iapply (ih _ _ _ _ _ hnext)
      isplitl [H4]; · iexact H4
      isplitl [H5]; · iexact H5
      isplitl [H7]; · iexact H7
      isplitl [H8]; · iexact H8
      iintro %x Hx
      rw [wp_ret]; imodintro
      iapply Hk
      rw [sweep, if_pos hl]
      iexact Hx
    · rw [if_neg hl]
      simp only [Prog.pure_eq_ret]
      iintro ⟨H4, H5, H7, H8, Hk⟩
      rw [wp_ret]; imodintro
      iapply Hk
      isplitl [H4]; · iexact H4
      isplitl [H5]; · iexact H5
      isplitl [H7]; · iexists _; iexact H7
      rw [sweep, if_neg hl]
      iexact H8

end Cert.Proof.PI

end
-- ==== Proof.SA.Trip.lean ====
/-
  The sample's stick-breaking attention as printed, in value form: what its body computes on one batch row, as functions
  of the five staged arrays (the new tokens' queries, keys and values, and the row's cached keys and values), for any
  float values. The payload names are the generated skeleton's.
-/
module

public import proofs.«01_k».proof.Proof.PI.Sweep
public import proofs.«01_k».proof.Proof.Gen.Kernel12
public import proofs.«01_k».proof.Proof.Gen.Kernel12.Skeleton
public import Idealize.ShloMosaic.Lib.ValueIdx

@[expose] public section

noncomputable section

namespace Cert.Proof.SA

open Cert.Kernel12 Cert.Kernel12.Gen
open Idealize.ShloMosaic Idealize.ShloMosaic.ValueIdx

variable {F : FTy → Type} [FloatOps F]

/-- The running-sum bound below which the sweep stops. -/
abbrev cut : F .f32 := Scalar.ofBits .f32 0xC2D00000#32

/-- Columns `256j … 256j + 255` of the staged cache. -/
def colBlk (X : Vec F S1x1x512x1024 .f32) (j : ℕ) : Vec F S1x1x512x256 .f32 :=
  fun x => X (ix4 (0 : Fin 1) (0 : Fin 1) (⟨(x 2).val, (x 2).isLt⟩ : Fin 512) (⟨(256 * j + (x 3).val) % 1024, Nat.mod_lt _ (by decide)⟩ : Fin 1024))

/-- The eight heads' queries, stacked: head `h`'s rows keep its own 64 columns. -/
def qst (Q : Vec F S1x1x64x512 .f32) : FVec F S512x512 .bf16 :=
  k0_pay11 (k0_pay7 Q) k0_pay8 (k0_pay9 Q) k0_pay10 (Scalar.ofBits .f32 0x00000000#32)

/-- What the new tokens' own keys add to each row's result; -/
def acc0 (Q N W : Vec F S1x1x64x512 .f32) : Vec F S1x512x512 .f32 :=
  k0_pay19 k0_pay6 (qst Q) (k0_pay12 N) (k0_pay13 W) k0_pay14 (Scalar.ofBits .f32 0x00000000#32) k0_pay15

/-- the row sums of the log-keeps over them. -/
def tot0 (Q N : Vec F S1x1x64x512 .f32) : FVec F S512x128 .f32 := k0_pay20 k0_pay6 (qst Q) (k0_pay12 N)

/-- Whether some row's running sum is above the bound, as the word the loop carries, after the own keys -/
def live0 (Q N : Vec F S1x1x64x512 .f32) : BitVec 32 :=
  Scalar.extui (Scalar.cmpf .ogt (k0_pay22 (tot0 Q N)) cut)

/-- and after one block of the sweep. -/
def live1 (q : FVec F S512x512 .bf16) (kb : Vec F S1x1x512x256 .f32) (c : Vec F S1x512x128 .f32) : BitVec 32 :=
  Scalar.extui (Scalar.cmpf .ogt (k0_pay5 (k0_pay33 q kb) c) cut)

/-- The running sums after one block of the sweep; -/
def carry1 (q : FVec F S512x512 .bf16) (kb : Vec F S1x1x512x256 .f32) (c : Vec F S1x512x128 .f32) : Vec F S1x512x128 .f32 :=
  k0_pay4 (k0_pay33 q kb) c

/-- the results after it. -/
def acc1 (q : FVec F S512x512 .bf16) (kb vb : Vec F S1x1x512x256 .f32) (c : Vec F S1x512x128 .f32) (a : Vec F S1x512x512 .f32) :
    Vec F S1x512x512 .f32 :=
  k0_pay2 (k0_pay27 vb) (k0_pay31 q kb) (k0_pay32 q kb) c a

/-- The sweep over the cache's blocks `n - 1, …, 0`, the live word `l`, the running sums `c` and the results `a` at its
    start: what the results are when it stops. -/
def sweep (K V : Vec F S1x1x512x1024 .f32) (q : FVec F S512x512 .bf16) :
    ℕ → BitVec 32 → Vec F S1x512x128 .f32 → Vec F S1x512x512 .f32 → Vec F S1x512x512 .f32
  | 0, _, _, a => a
  | n + 1, l, c, a =>
    if Scalar.cmpi .sgt l 0#32 = 1#1 then
      sweep K V q n (live1 q (colBlk K n) c) (carry1 q (colBlk K n) c) (acc1 q (colBlk K n) (colBlk V n) c a)
    else a

/-- The stacked results. -/
def accEnd (Q N W : Vec F S1x1x64x512 .f32) (K V : Vec F S1x1x512x1024 .f32) : Vec F S1x512x512 .f32 :=
  sweep K V (qst Q) 4 (live0 Q N) (k0_pay21 (tot0 Q N)) (acc0 Q N W)

/-- The staged result: each column from its own head's rows. -/
def out (Q N W : Vec F S1x1x64x512 .f32) (K V : Vec F S1x1x512x1024 .f32) : Vec F S1x64x512 .bf16 :=
  k0_pay1 (k0_pay23 (accEnd Q N W K V)) k0_pay24 (k0_pay25 (accEnd Q N W K V)) k0_pay26

/-! ## The printed offsets -/

theorem off2_eq : ∀ n : Fin 4, k0_off2 (BitVec.ofNat 32 n.val) = ![0, 0, 0, 256 * n.val] := by decide +kernel

/-- The sweep's block index is in range wherever it runs. -/
theorem chk1 : ∀ n : Fin 4, k0_chk1 (BitVec.ofNat 32 n.val) := by decide +kernel

end Cert.Proof.SA

end
-- ==== Proof.Window.lean ====
/-
  A window sum along the last of four axes, padded above, over the extended reals: element by element the sum from an
  element to the end of its row.
-/
module

public import Idealize.ShloMosaic.Lib.Pointwise
public import Idealize.ShloMosaic.Lib.ValueIdx

@[expose] public section

noncomputable section

namespace Cert.Proof.Window

open Idealize.ShloMosaic

theorem foldl_add (n : ℕ) (f : Fin n → EReal) : (List.finRange n).foldl (fun r x => r + f x) 0 = ∑ x, f x := by
  rw [← List.sum_ofFn, List.ofFn_eq_map, List.sum_eq_foldl, List.foldl_map]

variable {A B C D Q : ℕ}

/-- The element `k` places after `s` in its row, zero beyond the row's end. -/
def rest (x : Vec Ideal (⟨4, ![A, B, C, D]⟩ : Shape) .f32) (b : Fin A) (g : Fin B) (p : Fin C) (s : Fin D) (k : ℕ) : EReal :=
  if hk : s.val + k < D then x (ix4 b g p ⟨s.val + k, hk⟩) else 0

/-- One place of the window: inside the row it is the element there, beyond the row's end it is zero. -/
theorem window_elem (x : Vec Ideal (⟨4, ![A, B, C, D]⟩ : Shape) .f32) (b : Fin A) (g : Fin B) (p : Fin C) (s : Fin D)
    (i : (⟨4, ![1, 1, 1, D]⟩ : Shape).Idx) (e : (4 : ℕ) = 4)
    (inst : Decidable (∀ a : Fin 4, ![0, 0, 0, 0] a ≤ (ix4 b g p s (Fin.cast e a)).val * ![1, 1, 1, 1] a + (i a).val
      ∧ (ix4 b g p s (Fin.cast e a)).val * ![1, 1, 1, 1] a + (i a).val - ![0, 0, 0, 0] a < (⟨4, ![A, B, C, D]⟩ : Shape).size a)) :
    (if h : ∀ a : Fin 4, ![0, 0, 0, 0] a ≤ (ix4 b g p s (Fin.cast e a)).val * ![1, 1, 1, 1] a + (i a).val
      ∧ (ix4 b g p s (Fin.cast e a)).val * ![1, 1, 1, 1] a + (i a).val - ![0, 0, 0, 0] a < (⟨4, ![A, B, C, D]⟩ : Shape).size a
      then x (fun a => ⟨(ix4 b g p s (Fin.cast e a)).val * ![1, 1, 1, 1] a + (i a).val - ![0, 0, 0, 0] a, (h a).2⟩)
      else 0) = rest x b g p s (i 3).val := by
  have hi0 : (i 0).val = 0 := Nat.lt_one_iff.mp (i 0).isLt
  have hi1 : (i 1).val = 0 := Nat.lt_one_iff.mp (i 1).isLt
  have hi2 : (i 2).val = 0 := Nat.lt_one_iff.mp (i 2).isLt
  have hb := b.isLt
  have hg := g.isLt
  have hp := p.isLt
  have e0 : (ix4 b g p s (Fin.cast e 0)).val = b.val := rfl
  have e1 : (ix4 b g p s (Fin.cast e 1)).val = g.val := rfl
  have e2 : (ix4 b g p s (Fin.cast e 2)).val = p.val := rfl
  have e3 : (ix4 b g p s (Fin.cast e 3)).val = s.val := rfl
  unfold rest
  by_cases hk : s.val + (i 3).val < D
  · have hin : ∀ a : Fin 4, ![0, 0, 0, 0] a ≤ (ix4 b g p s (Fin.cast e a)).val * ![1, 1, 1, 1] a + (i a).val
        ∧ (ix4 b g p s (Fin.cast e a)).val * ![1, 1, 1, 1] a + (i a).val - ![0, 0, 0, 0] a < (⟨4, ![A, B, C, D]⟩ : Shape).size a := by
      intro a
      refine ⟨by fin_cases a <;> exact Nat.zero_le _, ?_⟩
      fin_cases a
      · show (ix4 b g p s (Fin.cast e 0)).val * 1 + (i 0).val - 0 < A
        omega
      · show (ix4 b g p s (Fin.cast e 1)).val * 1 + (i 1).val - 0 < B
        omega
      · show (ix4 b g p s (Fin.cast e 2)).val * 1 + (i 2).val - 0 < C
        omega
      · show (ix4 b g p s (Fin.cast e 3)).val * 1 + (i 3).val - 0 < D
        omega
    rw [dif_pos hk, dif_pos hin]
    congr 1
    funext a
    apply Fin.ext
    fin_cases a
    · show (ix4 b g p s (Fin.cast e 0)).val * 1 + (i 0).val - 0 = b.val
      omega
    · show (ix4 b g p s (Fin.cast e 1)).val * 1 + (i 1).val - 0 = g.val
      omega
    · show (ix4 b g p s (Fin.cast e 2)).val * 1 + (i 2).val - 0 = p.val
      omega
    · show (ix4 b g p s (Fin.cast e 3)).val * 1 + (i 3).val - 0 = s.val + (i 3).val
      omega
  · rw [dif_neg hk, dif_neg]
    intro hc
    have h3 : (ix4 b g p s (Fin.cast e 3)).val * 1 + (i 3).val - 0 < D := (hc 3).2
    omega

/-- A window along the whole last axis, padded above: the sum from an element to the end of its row. -/
theorem window_apply (x : Vec Ideal (⟨4, ![A, B, C, D]⟩ : Shape) .f32) (b : Fin A) (g : Fin B) (p : Fin C) (s : Fin D)
    (h : (⟨4, ![A, B, C, D]⟩ : Shape).ReduceWindows ![1, 1, 1, D] ![1, 1, 1, 1] ![0, 0, 0, 0] ![0, 0, 0, Q] ⟨4, ![A, B, C, D]⟩) :
    Ideal.hostReduceWindowAdd ![1, 1, 1, D] ![1, 1, 1, 1] ![0, 0, 0, 0] ![0, 0, 0, Q] h x 0 (ix4 b g p s)
      = ∑ k : Fin D, rest x b g p s k.val := by
  unfold Ideal.hostReduceWindowAdd Host.reduceWindow
  refine (foldl_add _ _).trans ?_
  have hF := Equiv.sum_comp (Shape.rowMajor ⟨4, ![1, 1, 1, D]⟩).symm (fun i => rest x b g p s (i 3).val)
  rw [sum_idx4] at hF
  simp only [Finset.univ_unique, Finset.sum_singleton] at hF
  refine Eq.trans (Finset.sum_congr rfl fun n _ => ?_) hF
  exact window_elem x b g p s ((Shape.rowMajor ⟨4, ![1, 1, 1, D]⟩).symm n) _ _

end Cert.Proof.Window

end
-- ==== Proof.SI.Trip.lean ====
/-
  The sample's idealized stick-breaking attention, in value form: what its body computes on one batch row, as functions
  of the five staged arrays (the new tokens' queries, keys and values, and the row's cached keys and values), for any
  float values. The payload names are the generated skeleton's.
-/
module

public import proofs.«01_k».proof.Proof.PI.Sweep
public import proofs.«01_k».proof.Proof.Gen.Kernel12Ideal
public import proofs.«01_k».proof.Proof.Gen.Kernel12Ideal.Skeleton
public import Idealize.ShloMosaic.Lib.ValueIdx

@[expose] public section

noncomputable section

namespace Cert.Proof.SI

open Cert.Kernel12Ideal Cert.Kernel12Ideal.Gen
open Idealize.ShloMosaic Idealize.ShloMosaic.ValueIdx

variable {F : FTy → Type} [FloatOps F] [Named F]

/-- The running-sum bound below which the sweep stops. -/
abbrev cut : F .f32 := Named.named κ "cut" 0xC2D00000#32

/-- Columns `256j … 256j + 255` of the staged cache. -/
def colBlk (X : Vec F S1x1x512x1024 .f32) (j : ℕ) : Vec F S1x1x512x256 .f32 :=
  fun x => X (ix4 (0 : Fin 1) (0 : Fin 1) (⟨(x 2).val, (x 2).isLt⟩ : Fin 512) (⟨(256 * j + (x 3).val) % 1024, Nat.mod_lt _ (by decide)⟩ : Fin 1024))

/-- The eight heads' queries, stacked: head `h`'s rows keep its own 64 columns. -/
def qst (Q : Vec F S1x1x64x512 .f32) : FVec F S512x512 .bf16 :=
  k0_pay11 (k0_pay7 Q) k0_pay8 (k0_pay9 Q) k0_pay10 (Scalar.ofBits .f32 0x00000000#32)

/-- What the new tokens' own keys add to each row's result; -/
def acc0 (Q N W : Vec F S1x1x64x512 .f32) : Vec F S1x512x512 .f32 :=
  k0_pay19 k0_pay6 (qst Q) (k0_pay12 N) (k0_pay13 W) k0_pay14 (Scalar.ofBits .f32 0x00000000#32) k0_pay15

/-- the row sums of the log-keeps over them. -/
def tot0 (Q N : Vec F S1x1x64x512 .f32) : FVec F S512x128 .f32 := k0_pay20 k0_pay6 (qst Q) (k0_pay12 N)

/-- Whether some row's running sum is above the bound, as the word the loop carries, after the own keys -/
def live0 (Q N : Vec F S1x1x64x512 .f32) : BitVec 32 :=
  Scalar.extui (Scalar.cmpf .ogt (k0_pay22 (tot0 Q N)) cut)

/-- and after one block of the sweep. -/
def live1 (q : FVec F S512x512 .bf16) (kb : Vec F S1x1x512x256 .f32) (c : Vec F S1x512x128 .f32) : BitVec 32 :=
  Scalar.extui (Scalar.cmpf .ogt (k0_pay5 (k0_pay33 q kb) c) cut)

/-- The running sums after one block of the sweep; -/
def carry1 (q : FVec F S512x512 .bf16) (kb : Vec F S1x1x512x256 .f32) (c : Vec F S1x512x128 .f32) : Vec F S1x512x128 .f32 :=
  k0_pay4 (k0_pay33 q kb) c

/-- the results after it. -/
def acc1 (q : FVec F S512x512 .bf16) (kb vb : Vec F S1x1x512x256 .f32) (c : Vec F S1x512x128 .f32) (a : Vec F S1x512x512 .f32) :
    Vec F S1x512x512 .f32 :=
  k0_pay2 (k0_pay27 vb) (k0_pay31 q kb) (k0_pay32 q kb) c a

/-- The sweep over the cache's blocks `n - 1, …, 0`, the live word `l`, the running sums `c` and the results `a` at its
    start: what the results are when it stops. -/
def sweep (K V : Vec F S1x1x512x1024 .f32) (q : FVec F S512x512 .bf16) :
    ℕ → BitVec 32 → Vec F S1x512x128 .f32 → Vec F S1x512x512 .f32 → Vec F S1x512x512 .f32
  | 0, _, _, a => a
  | n + 1, l, c, a =>
    if Scalar.cmpi .sgt l 0#32 = 1#1 then
      sweep K V q n (live1 q (colBlk K n) c) (carry1 q (colBlk K n) c) (acc1 q (colBlk K n) (colBlk V n) c a)
    else a

/-- The stacked results. -/
def accEnd (Q N W : Vec F S1x1x64x512 .f32) (K V : Vec F S1x1x512x1024 .f32) : Vec F S1x512x512 .f32 :=
  sweep K V (qst Q) 4 (live0 Q N) (k0_pay21 (tot0 Q N)) (acc0 Q N W)

/-- The staged result: each column from its own head's rows. -/
def out (Q N W : Vec F S1x1x64x512 .f32) (K V : Vec F S1x1x512x1024 .f32) : Vec F S1x64x512 .bf16 :=
  k0_pay1 (k0_pay23 (accEnd Q N W K V)) k0_pay24 (k0_pay25 (accEnd Q N W K V)) k0_pay26

/-! ## The printed offsets -/

theorem off2_eq : ∀ n : Fin 4, k0_off2 (BitVec.ofNat 32 n.val) = ![0, 0, 0, 256 * n.val] := by decide +kernel

/-- The sweep's block index is in range wherever it runs. -/
theorem chk1 : ∀ n : Fin 4, k0_chk1 (BitVec.ofNat 32 n.val) := by decide +kernel

end Cert.Proof.SI

end
-- ==== Proof.SI.Sweep.lean ====
/-
  The sample's idealized stick-breaking attention: its sweep over the cache, from the last block down to block 0, on a core
  that owns the staged arrays and the two scratch buffers.
-/
module

public import proofs.«01_k».proof.Proof.SI.Trip
public import proofs.«01_k».proof.Proof.Owns
public import Idealize.ShloMosaic.Rules
public import Idealize.ShloMosaic.Lib.VecWindow
public import Idealize.ShloMosaic.Lib.Pipeline.ValueKit.Geometry

@[expose] public section

noncomputable section

namespace Cert.Proof.SI

open Cert.Kernel12Ideal Cert.Kernel12Ideal.Gen
open Cert.Proof.PI (put_full ld_full and_one and_zero)
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The sweep's runs are bounded by a natural number: the blocks still to come. -/
abbrev 𝒱₀ : Variants := Variants.nat

omit [FloatOps F] [Named F] in
/-- A cache block's load. -/
theorem ld_col (X : Vec F S1x1x512x1024 .f32) {off : Fin S1x1x512x1024.rank → ℕ}
    (h : ∀ a, off a + S1x1x512x256.size a ≤ S1x1x512x1024.size a) (j : ℕ) (ho : off = ![0, 0, 0, 256 * j]) :
    (fun x => X ((Rect.unit (s := S1x1x512x1024) off S1x1x512x256.size h).emb x)) = colBlk X j := by
  subst ho
  funext x
  refine congrArg X (funext fun a => Fin.ext ?_)
  have h3 : 256 * j + (x 3).val < 1024 := by
    have h3 := h 3; have := (x 3).isLt
    simp [Shape.size] at h3 this ⊢
    omega
  rw [ValueKit.rect_emb_unit_val]
  match a with
  | ⟨0, _⟩ => have := (x 0).isLt; simp at this ⊢
  | ⟨1, _⟩ => have := (x 1).isLt; simp at this ⊢
  | ⟨2, _⟩ => simp
  | ⟨3, _⟩ => simp [Nat.mod_eq_of_lt h3]

/-! ## The loop -/

/-- The block index the loop carries with `n` blocks to come: `n - 1`, and something negative when none is. -/
def Fits (n : ℕ) (j : BitVec 32) : Prop :=
  (n = 0 ∧ Scalar.cmpi .sge j 0#32 = 0#1) ∨ (0 < n ∧ n ≤ 4 ∧ j = BitVec.ofNat 32 (n - 1))

theorem fits_step : ∀ n : Fin 4, (n.val = 0 → Scalar.cmpi .sge (Scalar.subi (BitVec.ofNat 32 n.val) 1#32) 0#32 = 0#1)
    ∧ (0 < n.val → Scalar.subi (BitVec.ofNat 32 n.val) 1#32 = BitVec.ofNat 32 (n.val - 1))
    ∧ Scalar.cmpi .sge (BitVec.ofNat 32 n.val) 0#32 = 1#1 := by decide +kernel

theorem fits_first : Fits 4 3#32 := .inr ⟨by decide, by decide, rfl⟩

set_option maxHeartbeats 1000000 in
/-- The sweep with `n` blocks to come. -/
theorem wp_sweep (c : Dev nD) (i : grid0.Coords)
    (arg4 : Memref sig .tc .vmem S1x1x512x1024 .f32) (harg4 : arg4.IsWhole) (arg5 : Memref sig .tc .vmem S1x1x512x1024 .f32) (harg5 : arg5.IsWhole)
    (q : FVec F S512x512 .bf16) (arg7 : Memref sig .tc .vmem S1x512x128 .f32) (harg7 : arg7.IsWhole)
    (arg8 : Memref sig .tc .vmem S1x512x512 .f32) (harg8 : arg8.IsWhole) (K V : Vec F S1x1x512x1024 .f32) :
    ∀ (n : ℕ) (Q : BitVec 32 × BitVec 32 → sProp 𝕄) (j l : BitVec 32) (cy : Vec F S1x512x128 .f32) (a : Vec F S1x512x512 .f32), Fits n j →
      iprop(owns (c : Thread nD τ) arg4 fullShare K ∗ owns (c : Thread nD τ) arg5 fullShare V ∗ owns (c : Thread nD τ) arg7 fullShare cy
          ∗ owns (c : Thread nD τ) arg8 fullShare a
          ∗ (∀ x, (owns (c : Thread nD τ) arg4 fullShare K ∗ owns (c : Thread nD τ) arg5 fullShare V
              ∗ (∃ cy', owns (c : Thread nD τ) arg7 fullShare cy') ∗ owns (c : Thread nD τ) arg8 fullShare (sweep K V q n l cy a)) -∗ Q x))
        ⊢ wp frame (wpE (defs₀ (F := F)) 𝒱₀ (c : Thread nD τ) (some n)) Set.univ
            (defs₀ (F := F) .tc 1 ⟨i, arg4, harg4, arg5, harg5, q, arg7, harg7, arg8, harg8, j, l⟩) Q := by
  intro n
  induction n with
  | zero =>
    intro Q j l cy a hf
    show _ ⊢ wp frame (wpE (defs₀ (F := F)) 𝒱₀ (c : Thread nD τ) (some 0)) Set.univ
      (cc0_while1 i arg4 harg4 arg5 harg5 q arg7 harg7 arg8 harg8 j l) Q
    have hj : Scalar.cmpi .sge j 0#32 = 0#1 := by
      rcases hf with ⟨-, h⟩ | ⟨h, -⟩
      · exact h
      · exact absurd h (Nat.lt_irrefl 0)
    simp only [cc0_while1_eq_skeleton]; unfold cc0_while1_skel
    simp only [hj, and_zero, show ((0#1 : BitVec 1) = 1#1) = False from by decide, ↓reduceIte, Prog.pure_eq_ret]
    iintro ⟨H4, H5, H7, H8, Hk⟩
    rw [wp_ret]; imodintro
    iapply Hk
    isplitl [H4]; · iexact H4
    isplitl [H5]; · iexact H5
    isplitl [H7]; · iexists _; iexact H7
    simp only [sweep]
    iexact H8
  | succ n ih =>
    intro Q j l cy a hf
    obtain ⟨hn, rfl⟩ : n < 4 ∧ j = BitVec.ofNat 32 n := by
      rcases hf with ⟨h, -⟩ | ⟨-, h, h'⟩
      · exact absurd h (Nat.succ_ne_zero n)
      · exact ⟨by omega, by simpa using h'⟩
    show _ ⊢ wp frame (wpE (defs₀ (F := F)) 𝒱₀ (c : Thread nD τ) (some (n + 1))) Set.univ
      (cc0_while1 i arg4 harg4 arg5 harg5 q arg7 harg7 arg8 harg8 (BitVec.ofNat 32 n) l) Q
    obtain ⟨h0, h1, hge⟩ := fits_step ⟨n, hn⟩
    simp only at h0 h1 hge
    have hnext : Fits n (Scalar.subi (BitVec.ofNat 32 n) 1#32) := by
      rcases Nat.eq_zero_or_pos n with h | h
      · exact .inl ⟨h, h0 h⟩
      · exact .inr ⟨h, by omega, h1 h⟩
    simp only [cc0_while1_eq_skeleton]; unfold cc0_while1_skel
    simp only [hge, and_one]
    by_cases hl : Scalar.cmpi .sgt l 0#32 = 1#1
    · rw [if_pos hl]
      simp only [k0_part5_eq_skeleton]; unfold k0_part5_skel
      simp only [Prog.lift, Prog.bind_op, Prog.bind_ret, Prog.pure_eq_ret]
      iintro ⟨H4, H5, H7, H8, Hk⟩
      iapply (wp_assume 𝒱₀ (c : Thread nD τ) (some (n + 1)) Set.univ (chk1 ⟨n, hn⟩))
      iapply (wp_load_owns 𝒱₀ (c : Thread nD τ) (some (n + 1)) Set.univ arg4 _ K) $$ H4; iintro H4
      iapply (wp_load_owns 𝒱₀ (c : Thread nD τ) (some (n + 1)) Set.univ arg5 _ V) $$ H5; iintro H5
      rw [ld_col K _ n (off2_eq ⟨n, hn⟩), ld_col V _ n (off2_eq ⟨n, hn⟩)]
      iapply (wp_load_owns 𝒱₀ (c : Thread nD τ) (some (n + 1)) Set.univ arg7 _ cy) $$ H7; iintro H7
      iapply (wp_load_owns 𝒱₀ (c : Thread nD τ) (some (n + 1)) Set.univ arg8 _ a) $$ H8; iintro H8
      iapply (wp_load_owns 𝒱₀ (c : Thread nD τ) (some (n + 1)) Set.univ arg8 _ a) $$ H8; iintro H8
      iapply (wp_store_owns 𝒱₀ (c : Thread nD τ) (some (n + 1)) Set.univ arg8 _ a _) $$ H8; iintro H8
      iapply (wp_load_owns 𝒱₀ (c : Thread nD τ) (some (n + 1)) Set.univ arg7 _ cy) $$ H7; iintro H7
      iapply (wp_load_owns 𝒱₀ (c : Thread nD τ) (some (n + 1)) Set.univ arg7 _ cy) $$ H7; iintro H7
      iapply (wp_store_owns 𝒱₀ (c : Thread nD τ) (some (n + 1)) Set.univ arg7 _ cy _) $$ H7; iintro H7
      rw [ld_full _ cy, ld_full _ a, put_full, put_full]
      iapply (wp_call 𝒱₀ (c : Thread nD τ) (some (n + 1)) Set.univ n (fun u hu => by cases hu; exact Nat.lt_succ_self n))
      iapply (ih _ _ _ _ _ hnext)
      isplitl [H4]; · iexact H4
      isplitl [H5]; · iexact H5
      isplitl [H7]; · iexact H7
      isplitl [H8]; · iexact H8
      iintro %x Hx
      rw [wp_ret]; imodintro
      iapply Hk
      rw [sweep, if_pos hl]
      iexact Hx
    · rw [if_neg hl]
      simp only [Prog.pure_eq_ret]
      iintro ⟨H4, H5, H7, H8, Hk⟩
      rw [wp_ret]; imodintro
      iapply Hk
      isplitl [H4]; · iexact H4
      isplitl [H5]; · iexact H5
      isplitl [H7]; · iexists _; iexact H7
      rw [sweep, if_neg hl]
      iexact H8

end Cert.Proof.SI

end
-- ==== Proof.SI.Body.lean ====
/-
  The sample's idealized stick-breaking attention: its whole body, on a core that owns the staged arrays and the two scratch buffers.
-/
module

public import proofs.«01_k».proof.Proof.SI.Sweep
public import Idealize.ShloMosaic.Rules
public import Idealize.ShloMosaic.Lib.VecWindow
public import Idealize.ShloMosaic.Lib.Pipeline.ValueKit.Geometry

@[expose] public section

noncomputable section

namespace Cert.Proof.SI

open Cert.Kernel12Ideal Cert.Kernel12Ideal.Gen
open Cert.Proof.PI (put_full ld_full and_one and_zero)
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 2000000 in
/-- The body: the own keys, the sweep, the store. -/
theorem body_sound (c : Dev nD) (i : grid0.Coords)
    (arg1 : Memref sig .tc .vmem S1x1x64x512 .f32) (harg1 : arg1.IsWhole) (arg2 : Memref sig .tc .vmem S1x1x64x512 .f32) (harg2 : arg2.IsWhole)
    (arg3 : Memref sig .tc .vmem S1x1x64x512 .f32) (harg3 : arg3.IsWhole) (arg4 : Memref sig .tc .vmem S1x1x512x1024 .f32) (harg4 : arg4.IsWhole)
    (arg5 : Memref sig .tc .vmem S1x1x512x1024 .f32) (harg5 : arg5.IsWhole) (arg6 : Memref sig .tc .vmem S1x64x512 .bf16) (harg6 : arg6.IsWhole)
    (arg7 : Memref sig .tc .vmem S1x512x128 .f32) (harg7 : arg7.IsWhole) (arg8 : Memref sig .tc .vmem S1x512x512 .f32) (harg8 : arg8.IsWhole)
    (Q N W : Vec F S1x1x64x512 .f32) (K V : Vec F S1x1x512x1024 .f32) (Ψ : PUnit → sProp 𝕄) :
    iprop(owns (c : Thread nD τ) arg1 fullShare Q ∗ owns (c : Thread nD τ) arg2 fullShare N ∗ owns (c : Thread nD τ) arg3 fullShare W
        ∗ owns (c : Thread nD τ) arg4 fullShare K ∗ owns (c : Thread nD τ) arg5 fullShare V
        ∗ (∃ X, owns (c : Thread nD τ) arg6 fullShare X) ∗ (∃ X, owns (c : Thread nD τ) arg7 fullShare X) ∗ (∃ X, owns (c : Thread nD τ) arg8 fullShare X)
        ∗ ((owns (c : Thread nD τ) arg1 fullShare Q ∗ owns (c : Thread nD τ) arg2 fullShare N ∗ owns (c : Thread nD τ) arg3 fullShare W
            ∗ owns (c : Thread nD τ) arg4 fullShare K ∗ owns (c : Thread nD τ) arg5 fullShare V
            ∗ owns (c : Thread nD τ) arg6 fullShare (out Q N W K V) ∗ (∃ X, owns (c : Thread nD τ) arg7 fullShare X)
            ∗ (∃ X, owns (c : Thread nD τ) arg8 fullShare X)) -∗ Ψ ⟨⟩))
      ⊢ wp frame (wpE (defs₀ (F := F)) 𝒱₀ (c : Thread nD τ) none) Set.univ
          (cc0_stick_attn_sample i arg1 harg1 arg2 harg2 arg3 harg3 arg4 harg4 arg5 harg5 arg6 harg6 arg7 harg7 arg8 harg8) Ψ := by
  simp only [cc0_stick_attn_sample_eq_skeleton]; unfold cc0_stick_attn_sample_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret]
  iintro ⟨H1, H2, H3, H4, H5, ⟨%X, H6⟩, ⟨%cy, H7⟩, ⟨%ac, H8⟩, Hk⟩
  iapply (wp_load_owns 𝒱₀ (c : Thread nD τ) none Set.univ arg1 _ Q) $$ H1; iintro H1
  iapply (wp_load_owns 𝒱₀ (c : Thread nD τ) none Set.univ arg2 _ N) $$ H2; iintro H2
  iapply (wp_load_owns 𝒱₀ (c : Thread nD τ) none Set.univ arg3 _ W) $$ H3; iintro H3
  rw [ld_full _ Q, ld_full _ N, ld_full _ W]
  iapply (wp_load_owns 𝒱₀ (c : Thread nD τ) none Set.univ arg8 _ ac) $$ H8; iintro H8
  iapply (wp_store_owns 𝒱₀ (c : Thread nD τ) none Set.univ arg8 _ ac _) $$ H8; iintro H8
  iapply (wp_load_owns 𝒱₀ (c : Thread nD τ) none Set.univ arg7 _ cy) $$ H7; iintro H7
  iapply (wp_store_owns 𝒱₀ (c : Thread nD τ) none Set.univ arg7 _ cy _) $$ H7; iintro H7
  rw [put_full, put_full]
  iapply (wp_call 𝒱₀ (c : Thread nD τ) none Set.univ 4 (fun u hu => nomatch hu))
  iapply (wp_sweep c i arg4 harg4 arg5 harg5 (qst Q) arg7 harg7 arg8 harg8 K V 4 _ _ _ _ _ fits_first)
  isplitl [H4]; · iexact H4
  isplitl [H5]; · iexact H5
  isplitl [H7]; · iexact H7
  isplitl [H8]; · iexact H8
  iintro %x ⟨H4, H5, ⟨%cy', H7⟩, H8⟩
  iapply (wp_load_owns 𝒱₀ (c : Thread nD τ) none Set.univ arg8 _ _) $$ H8; iintro H8
  rw [ld_full]
  iapply (wp_load_owns 𝒱₀ (c : Thread nD τ) none Set.univ arg6 _ X) $$ H6; iintro H6
  iapply (wp_store_owns 𝒱₀ (c : Thread nD τ) none Set.univ arg6 _ X _) $$ H6; iintro H6
  rw [put_full]
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

end Cert.Proof.SI

end
-- ==== Proof.SI.Run.lean ====
/-
  The sample's idealized stick-breaking attention, its run for any float values: the two caches are laid feature-major by
  the host, then every point of the pipeline runs the body. Every fair execution ends, the three arguments are as they
  were, the result array is what the write-backs of the staged results make it, every semaphore is at zero.
-/
module

public import proofs.«01_k».proof.Proof.SI.Body
public import proofs.«01_k».proof.Proof.Gen.Kernel12Ideal.Launch
public import proofs.«01_k».proof.Proof.Gen.Kernel12Ideal.Points
public import Idealize.ShloMosaic.Lib.Pipeline.FrameBody
public import Idealize.ShloMosaic.Lib.Pipeline.FrameSuffix
public import Idealize.ShloMosaic.Lib.Ring
public import Idealize.ShloMosaic.Lib.Tactic

@[expose] public section

noncomputable section

namespace Cert.Proof.SI

open Cert.Kernel12Ideal
open Cert.Kernel12Ideal.Gen (hostOps0 hostOps0_sub main_chain launch₀0 scopedRest0_eq bigSep_W0 bodyAt0)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- What a buffer holds when the pipeline is entered: the host has laid out the caches. -/
abbrev entry (c : Dev nD) (b : Ref sig .tc) : Buf (Elt F) ((c : Thread nD τ).loc b) :=
  StableHlo.after hostOps0 (fun b => m (c, b)) (Proc.devRef .tc b)

theorem host_fresh : (hostOps0 : List (HloOp τ sig (Elt F))).Forall fun op => op.fresh = ∅ := by
  simp only [List.Forall]; repeat' constructor

theorem entered (𝒱 : Variants) :
    Pipeline.HMain (Ix := Unit) (Name := ℕ) (U := UR sig nD τ) (Lvl := ℕ) cfgs 0 defs₀ 𝒱 m (main (F := F)) (entry m) :=
  Pipeline.hmain_prefix cfgs 0 defs₀ 𝒱 m main hostOps0 hostOps0_sub host_fresh main_chain

/-- The host writes no argument. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The pipeline's proof data -/

/-- Point `t`'s staged inputs: the new tokens' queries, keys and values, the cached keys and values. -/
def blkQ (c : Dev nD) (t : Fin (cfg0 (F := F)).N) : Vec F S1x1x64x512 .f32 := (win0_0.blk t).view.read (Elt F) (entry m c main_arg0)
def blkN (c : Dev nD) (t : Fin (cfg0 (F := F)).N) : Vec F S1x1x64x512 .f32 := (win0_1.blk t).view.read (Elt F) (entry m c main_arg0)
def blkW (c : Dev nD) (t : Fin (cfg0 (F := F)).N) : Vec F S1x1x64x512 .f32 := (win0_2.blk t).view.read (Elt F) (entry m c main_arg0)
def blkK (c : Dev nD) (t : Fin (cfg0 (F := F)).N) : Vec F S1x1x512x1024 .f32 := (win0_3.blk t).view.read (Elt F) (entry m c main_v1)
def blkV (c : Dev nD) (t : Fin (cfg0 (F := F)).N) : Vec F S1x1x512x1024 .f32 := (win0_4.blk t).view.read (Elt F) (entry m c main_v3)

/-- and its staged result. -/
abbrev blkO (c : Dev nD) (t : Fin (cfg0 (F := F)).N) : Vec F S1x64x512 .bf16 :=
  out (blkQ m c t) (blkN m c t) (blkW m c t) (blkK m c t) (blkV m c t)

/-- The proof data of the pipeline on core `c`: the arrays as entered, each input's share of its array; after the body the
    staged inputs as fetched and the staged result at `out` of them; the scratch buffers before and after; nothing owed. -/
def dats (_ : Fin 1) (c : Dev nD) : Dat τ (Elt F) Unit ℕ (UR sig nD τ) ℕ (cfg0 (F := F)) c where
  A w := entry m c (Pipeline.arrRef spec0 w)
  after w t := match w with
    | ⟨0, _⟩ => blkQ m c t
    | ⟨1, _⟩ => blkN m c t
    | ⟨2, _⟩ => blkW m c t
    | ⟨3, _⟩ => blkK m c t
    | ⟨4, _⟩ => blkV m c t
    | ⟨5, _⟩ => blkO m c t
  Φ _ := Pipeline.ΦA spec0 c
  q w := Pipeline.shareOf spec0 w
  owed _ := 0

theorem A_eq (c : Dev nD) (w : Fin (cfg0 (F := F)).W) : (dats m 0 c).A w = entry m c (Pipeline.arrRef spec0 w) := by
  dsimp only [dats]

theorem before_0 (c : Dev nD) (t : Fin (cfg0 (F := F)).N) (d) : (dats m 0 c).before (0 : Fin 6) t d = blkQ m c t := by
  unfold Dat.before; exact (if_pos (Gen.fetch0_0 (F := F) t)).trans rfl
theorem before_1 (c : Dev nD) (t : Fin (cfg0 (F := F)).N) (d) : (dats m 0 c).before (1 : Fin 6) t d = blkN m c t := by
  unfold Dat.before; exact (if_pos (Gen.fetch0_1 (F := F) t)).trans rfl
theorem before_2 (c : Dev nD) (t : Fin (cfg0 (F := F)).N) (d) : (dats m 0 c).before (2 : Fin 6) t d = blkW m c t := by
  unfold Dat.before; exact (if_pos (Gen.fetch0_2 (F := F) t)).trans rfl
theorem before_3 (c : Dev nD) (t : Fin (cfg0 (F := F)).N) (d) : (dats m 0 c).before (3 : Fin 6) t d = blkK m c t := by
  unfold Dat.before; exact (if_pos (Gen.fetch0_3 (F := F) t)).trans rfl
theorem before_4 (c : Dev nD) (t : Fin (cfg0 (F := F)).N) (d) : (dats m 0 c).before (4 : Fin 6) t d = blkV m c t := by
  unfold Dat.before; exact (if_pos (Gen.fetch0_4 (F := F) t)).trans rfl

set_option maxHeartbeats 1000000 in
/-- Every point's body, from the staged inputs to the staged result. -/
theorem body_obligation (c : Dev nD) : BodyObligation (dats (F := F) m 0 c) (defs₀ (F := F)) 𝒱₀ () Set.univ := fun t => by
  rw [bigSep_W0, bigSep_W0]
  show iprop(Pipeline.ΦA spec0 c ∗ (dats m 0 c).owesAt () t.castSucc
      ∗ (∃ d, owns (c : Thread nD τ) (win0_0.stage ((cfg0 (F := F)).slots t 0)) fullShare ((dats m 0 c).before (0 : Fin 6) t d))
      ∗ (∃ d, owns (c : Thread nD τ) (win0_1.stage ((cfg0 (F := F)).slots t 1)) fullShare ((dats m 0 c).before (1 : Fin 6) t d))
      ∗ (∃ d, owns (c : Thread nD τ) (win0_2.stage ((cfg0 (F := F)).slots t 2)) fullShare ((dats m 0 c).before (2 : Fin 6) t d))
      ∗ (∃ d, owns (c : Thread nD τ) (win0_3.stage ((cfg0 (F := F)).slots t 3)) fullShare ((dats m 0 c).before (3 : Fin 6) t d))
      ∗ (∃ d, owns (c : Thread nD τ) (win0_4.stage ((cfg0 (F := F)).slots t 4)) fullShare ((dats m 0 c).before (4 : Fin 6) t d))
      ∗ (∃ d, owns (c : Thread nD τ) (win0_5.stage ((cfg0 (F := F)).slots t 5)) fullShare ((dats m 0 c).before (5 : Fin 6) t d)))
    ⊢ wp frame (wpE (defs₀ (F := F)) 𝒱₀ (c : Thread nD τ) none) Set.univ (bodyAt0 t) fun _ =>
      iprop(Pipeline.ΦA spec0 c ∗ (dats m 0 c).owesAt () t.castSucc
        ∗ owns (c : Thread nD τ) (win0_0.stage ((cfg0 (F := F)).slots t 0)) fullShare (blkQ m c t)
        ∗ owns (c : Thread nD τ) (win0_1.stage ((cfg0 (F := F)).slots t 1)) fullShare (blkN m c t)
        ∗ owns (c : Thread nD τ) (win0_2.stage ((cfg0 (F := F)).slots t 2)) fullShare (blkW m c t)
        ∗ owns (c : Thread nD τ) (win0_3.stage ((cfg0 (F := F)).slots t 3)) fullShare (blkK m c t)
        ∗ owns (c : Thread nD τ) (win0_4.stage ((cfg0 (F := F)).slots t 4)) fullShare (blkV m c t)
        ∗ owns (c : Thread nD τ) (win0_5.stage ((cfg0 (F := F)).slots t 5)) fullShare (blkO m c t))
  unfold Pipeline.ΦA
  simp only [before_0, before_1, before_2, before_3, before_4, scopedRest0_eq]
  iintro ⟨⟨⟨⟨%f7, H7⟩, ⟨%f8, H8⟩⟩, Hg⟩, Ho, ⟨%d0, H1⟩, ⟨%d1, H2⟩, ⟨%d2, H3⟩, ⟨%d3, H4⟩, ⟨%d4, H5⟩, ⟨%d5, H6⟩⟩
  iapply (body_sound c (grid0.coords t) _ _ _ _ _ _ _ _ _ _ _ _ (Memref.whole cc0_scratch0) _ (Memref.whole cc0_scratch1) _
    (blkQ m c t) (blkN m c t) (blkW m c t) (blkK m c t) (blkV m c t))
  isplitl [H1]; · iexact H1
  isplitl [H2]; · iexact H2
  isplitl [H3]; · iexact H3
  isplitl [H4]; · iexact H4
  isplitl [H5]; · iexact H5
  isplitl [H6]; · iexists _; iexact H6
  simp only [owns_whole_eq]
  isplitl [H7]
  · iexists f7; iexists f7
    isplitr; · (ipureintro; rfl)
    iexact H7
  isplitl [H8]
  · iexists f8; iexists f8
    isplitr; · (ipureintro; rfl)
    iexact H8
  iintro ⟨H1, H2, H3, H4, H5, H6, ⟨%X7, %g7, %e7, H7⟩, ⟨%X8, %g8, %e8, H8⟩⟩
  isplitl [H7 H8 Hg]
  · isplitl [H7 H8]
    · isplitl [H7]
      · iexists g7; iexact H7
      iexists g8; iexact H8
    iexact Hg
  isplitl [Ho]; · iexact Ho
  isplitl [H1]; · iexact H1
  isplitl [H2]; · iexact H2
  isplitl [H3]; · iexact H3
  isplitl [H4]; · iexact H4
  isplitl [H5]; · iexact H5
  iexact H6

/-! ## The run -/

-- the launch theorem's implicit arguments are found by unifying its conclusion with this one
set_option backward.isDefEq.respectTransparency.types false in
theorem run_main : θ_run defs (onTc (τ := τ) (main (F := F))) (s₀ m ρ)
    (fun r => (Pipeline.FramePost cfgs (dats m) 0 (entry m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := entry m) (hmain := entered m 𝒱₀) (hA := A_eq m) (hΦ := fun _ _ => rfl)

/-- The run, as the claims state it: the result array named, the arguments unchanged, the semaphores at zero. -/
theorem run_named : θ_run defs (onTc (τ := τ) (main (F := F))) ⟨m, fun _ => 0, ρ⟩ (fun r =>
    (∀ c : Dev nD, r.2.mem ((c : Thread nD τ).loc main_v4) = (dats m 0 c).arrAt (5 : Fin 6) (cfg0 (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs (onTc (τ := τ) (main (F := F))) ⟨m, fun _ => 0, ρ⟩).mono
    (fun _ h => ⟨fun c => ⟨(h.1 c).1 (5 : Fin 6),
      ((h.1 c).1 (0 : Fin 6)).trans (((dats m 0 c).arrAt_in (0 : Fin 6) rfl _).trans ((A_eq m c 0).trans (entry_arg0 m c))),
      ((h.1 c).2 main_arg1 (Pipeline.mem_restRefs_of main_arg1 (by decide) (show ∀ w : Fin 6, (spec0 w).arr.view.ref ≠ main_arg1 by decide))).trans (entry_arg1 m c),
      ((h.1 c).2 main_arg2 (Pipeline.mem_restRefs_of main_arg2 (by decide) (show ∀ w : Fin 6, (spec0 w).arr.view.ref ≠ main_arg2 by decide))).trans (entry_arg2 m c)⟩, h.2⟩) (run_main m ρ)

end Cert.Proof.SI

end
-- ==== Proof.V.Scalar.lean ====
/-
  Stick-breaking on one row, over the extended reals: a score's log-take and log-keep, the sums of log-keeps, the
  weight of a key, and the facts about them that both programs' values rest on.
-/
module

public import Idealize.ShloMosaic.Lib.Pointwise

@[expose] public section

noncomputable section

namespace Cert.Proof.V

open Idealize.ShloMosaic

/-- `log(1 + exp(−|z|))`, the part a log-take and a log-keep share. -/
def lg (z : EReal) : EReal := Ideal.log (1 + Ideal.exp (0 - max z (-z)))

/-- The log of the share of the stick a key of score `z` takes; -/
def takeF (z : EReal) : EReal := min z 0 - lg z

/-- the log of the share it leaves. -/
def keepF (z : EReal) : EReal := 0 - (max z 0 + lg z)

/-- The log-keeps of the keys `a … b − 1` added up. -/
def S (z : ℕ → EReal) (a b : ℕ) : EReal := ∑ s ∈ Finset.Ico a b, keepF (z s)

/-- The weight of key `t` for a row that attends to the keys below `p`. -/
def wt (z : ℕ → EReal) (p t : ℕ) : EReal := Ideal.exp (takeF (z t) + S z (t + 1) p)

/-- The shared part is a non-negative real. -/
theorem lg_real (z : EReal) : ∃ r : ℝ, 0 ≤ r ∧ lg z = r := by
  have h0 : Ideal.log (1 + Ideal.exp ⊥) = ((0 : ℝ) : EReal) := by
    rw [Ideal.exp_bot, add_zero, ← EReal.coe_one, Ideal.log_coe]; simp
  induction z with
  | bot => exact ⟨0, le_rfl, by simpa [lg] using h0⟩
  | top => exact ⟨0, le_rfl, by simpa [lg] using h0⟩
  | coe x =>
    refine ⟨Real.log (1 + Real.exp (0 - max x (-x))), Real.log_nonneg (by have := Real.exp_pos (0 - max x (-x)); linarith), ?_⟩
    have h : (0 - max (x : EReal) (-(x : EReal))) = ((0 - max x (-x) : ℝ) : EReal) := by
      rw [EReal.coe_sub, EReal.coe_zero, EReal.coe_strictMono.monotone.map_max, EReal.coe_neg]
    have hp : ¬ (1 + Real.exp (0 - max x (-x)) ≤ 0) := by have := Real.exp_pos (0 - max x (-x)); linarith
    rw [lg, h, Ideal.exp_coe, ← EReal.coe_one, ← EReal.coe_add, Ideal.log_coe, if_neg hp]

/-- The shared part is even in the score. -/
theorem lg_neg (z : EReal) : lg (-z) = lg z := by rw [lg, lg, neg_neg, max_comm]

/-- A log-keep is at most zero. -/
theorem keepF_le (z : EReal) : keepF z ≤ 0 := by
  obtain ⟨r, hr, h⟩ := lg_real z
  rw [keepF, h, zero_sub]
  have : (0 : EReal) ≤ max z 0 + (r : EReal) := add_nonneg (le_max_right _ _) (by exact_mod_cast hr)
  exact EReal.neg_le_zero.mpr this

theorem keepF_ne_top (z : EReal) : keepF z ≠ ⊤ := ((keepF_le z).trans_lt EReal.zero_lt_top).ne

/-- The negated softplus of `−z` is the log-take of `z`. -/
theorem takeF_eq (z : EReal) : -(max (-z) 0 + lg z) = takeF z := by
  obtain ⟨r, -, h⟩ := lg_real z
  rw [takeF, h, EReal.neg_add (Or.inr (EReal.coe_ne_top r)) (Or.inr (EReal.coe_ne_bot r))]
  congr 1
  rcases le_total z 0 with hz | hz
  · rw [min_eq_left hz, max_eq_left (by simpa using EReal.neg_le_neg_iff.mpr hz), neg_neg]
  · rw [min_eq_right hz, max_eq_right (by simpa using EReal.neg_le_neg_iff.mpr hz), neg_zero]

/-- An extended real other than `+∞` is not changed by its own rounding error added back: over the reals that error
    is `0`, or `−∞` beside `−∞`. -/
theorem add_sub_self' {f : EReal} (h : f ≠ ⊤) : f + (f - f) = f := by
  induction f with
  | bot => simp
  | top => exact absurd rfl h
  | coe x => rw [← EReal.coe_sub, sub_self, EReal.coe_zero, add_zero]

/-- A masked sum of a term and of its rounding error is the masked sum of the term. -/
theorem sum_hi_lo {n : ℕ} (c : Fin n → BitVec 1) (f : Fin n → EReal) (h : ∀ x, f x ≠ ⊤) :
    (∑ x, Scalar.select (c x) (f x) (0 : EReal)) + ∑ x, Scalar.select (c x) (f x - f x) (0 : EReal)
      = ∑ x, Scalar.select (c x) (f x) (0 : EReal) := by
  rw [← Finset.sum_add_distrib]
  refine Finset.sum_congr rfl fun x _ => ?_
  unfold Scalar.select
  split
  · exact add_sub_self' (h x)
  · exact add_zero 0

/-- A sum over the positions `x > s` of a block of `n` keys that begins at key `a`. -/
theorem sum_above (f : ℕ → EReal) (a n s : ℕ) :
    (∑ x : Fin n, if s < x.val then f (a + x.val) else 0) = ∑ t ∈ Finset.Ico (a + s + 1) (a + n), f t := by
  rw [Fin.sum_univ_eq_sum_range (fun x => if s < x then f (a + x) else 0) n, ← Finset.sum_filter]
  refine Finset.sum_bij (fun x _ => a + x) ?_ ?_ ?_ ?_
  · intro x hx; simp only [Finset.mem_filter, Finset.mem_range] at hx; rw [Finset.mem_Ico]; omega
  · intro x _ y _ h; exact Nat.add_left_cancel h
  · intro t ht; rw [Finset.mem_Ico] at ht
    exact ⟨t - a, by simp only [Finset.mem_filter, Finset.mem_range]; omega, by omega⟩
  · intro x _; rfl

/-- A sum over the positions `x < r` of that block. -/
theorem sum_below (f : ℕ → EReal) (a n r : ℕ) (h : r ≤ n) :
    (∑ x : Fin n, if x.val < r then f (a + x.val) else 0) = ∑ t ∈ Finset.Ico a (a + r), f t := by
  rw [Fin.sum_univ_eq_sum_range (fun x => if x < r then f (a + x) else 0) n, ← Finset.sum_filter]
  refine Finset.sum_bij (fun x _ => a + x) ?_ ?_ ?_ ?_
  · intro x hx; simp only [Finset.mem_filter, Finset.mem_range] at hx; rw [Finset.mem_Ico]; omega
  · intro x _ y _ h; exact Nat.add_left_cancel h
  · intro t ht; rw [Finset.mem_Ico] at ht
    exact ⟨t - a, by simp only [Finset.mem_filter, Finset.mem_range]; omega, by omega⟩
  · intro x _; rfl

/-- A sum over the positions `s < x < r` of that block. -/
theorem sum_between (f : ℕ → EReal) (a n s r : ℕ) (h : r ≤ n) :
    (∑ x : Fin n, if s < x.val then (if x.val < r then f (a + x.val) else 0) else 0)
      = ∑ t ∈ Finset.Ico (a + s + 1) (a + r), f t := by
  have h₁ := sum_above (fun t => if t < a + r then f t else 0) a n s
  have h₂ : (∑ x : Fin n, if s < x.val then (if x.val < r then f (a + x.val) else 0) else 0)
      = ∑ x : Fin n, if s < x.val then (if a + x.val < a + r then f (a + x.val) else 0) else 0 :=
    Finset.sum_congr rfl fun x _ => by simp only [Nat.add_lt_add_iff_left]
  rw [h₂, h₁, ← Finset.sum_filter]
  refine Finset.sum_congr ?_ fun _ _ => rfl
  ext t; simp only [Finset.mem_filter, Finset.mem_Ico]; omega

/-- The whole block's sum. -/
theorem sum_block (f : ℕ → EReal) (a n : ℕ) : (∑ x : Fin n, f (a + x.val)) = ∑ t ∈ Finset.Ico a (a + n), f t := by
  have h := sum_below f a n n le_rfl
  rw [← h]
  exact Finset.sum_congr rfl fun x _ => (if_pos x.isLt).symm

/-- Consecutive stretches of keys. -/
theorem S_add (z : ℕ → EReal) {a b c : ℕ} (h₁ : a ≤ b) (h₂ : b ≤ c) : S z a b + S z b c = S z a c :=
  Finset.sum_Ico_consecutive _ h₁ h₂

/-- Where the log-keeps from key `b` on already add up to `−∞`, an earlier key has no weight. -/
theorem wt_eq_zero (z : ℕ → EReal) {p t b : ℕ} (ht : t < b) (hb : b ≤ p) (h : S z b p = ⊥) : wt z p t = 0 := by
  rw [wt, ← S_add z (show t + 1 ≤ b from ht) hb, h, EReal.add_bot, EReal.add_bot, Ideal.exp_bot]

end Cert.Proof.V
-- ==== Proof.V.Step.lean ====
/-
  The idealized kernel over the extended reals: what one block of its sweep adds, and the whole sweep. A row's scores
  are the stacked queries against the staged keys.
-/
module

public import proofs.«01_k».proof.Proof.PI.Trip
public import proofs.«01_k».proof.Proof.V.Scalar
public import Idealize.ShloMosaic.Lib.WordCmp

@[expose] public section

noncomputable section

namespace Cert.Proof.V

open Cert.KernelIdeal Cert.KernelIdeal.Gen Cert.Proof.PI
open Idealize.ShloMosaic

/-- Row `R`'s score against key `s`: the stacked queries by the staged keys. -/
def zrow (q : FVec Ideal S1024x256 .bf16) (K : Vec Ideal S1x1x256x4096 .f32) (R : Fin 1024) (s : ℕ) : EReal :=
  ∑ d : Fin 256, (q (ix2 R d) : EReal) * K (ix4 0 0 d ⟨s % 4096, Nat.mod_lt _ (by decide)⟩)

/-- Channel `ch` of value `t`. -/
def vrow (V : Vec Ideal S1x1x256x4096 .f32) (ch : Fin 256) (t : ℕ) : EReal :=
  V (ix4 0 0 ch ⟨t % 4096, Nat.mod_lt _ (by decide)⟩)

theorem colBlk_apply (X : Vec Ideal S1x1x256x4096 .f32) (j : ℕ) (c e : Fin 256) :
    colBlk X j (ix4 0 0 c e) = X (ix4 0 0 c ⟨(256 * j + e.val) % 4096, Nat.mod_lt _ (by decide)⟩) := rfl

variable (q : FVec Ideal S1024x256 .bf16) (K V : Vec Ideal S1x1x256x4096 .f32)

/-- The block's scores. -/
theorem pay31_apply (n : ℕ) (R : Fin 1024) (x : Fin 256) : k0_pay31 q (colBlk K n) (ix2 R x) = zrow q K R (256 * n + x.val) := by
  pointwise [k0_pay31, colBlk_apply, zrow]

/-- The block's log-takes; -/
theorem pay34_apply (n : ℕ) (R : Fin 1024) (x : Fin 256) :
    k0_pay34 q (colBlk K n) (ix2 R x) = takeF (zrow q K R (256 * n + x.val)) := by
  pointwise [k0_pay34, k0_pay32, pay31_apply, takeF, lg]
  rfl

/-- its log-keeps; -/
theorem pay33_apply (n : ℕ) (R : Fin 1024) (x : Fin 256) :
    k0_pay33 q (colBlk K n) (ix2 R x) = keepF (zrow q K R (256 * n + x.val)) := by
  pointwise [k0_pay33, k0_pay32, pay31_apply, keepF, lg]
  rfl

/-- their sum; -/
theorem pay36_apply (n : ℕ) (R : Fin 1024) :
    k0_pay36 q (colBlk K n) (ix1 R) = S (zrow q K R) (256 * n) (256 * n + 256) := by
  pointwise [k0_pay36, pay33_apply]
  exact sum_block (fun s => keepF (zrow q K R s)) (256 * n) 256

/-- and the sums of the log-keeps after each key inside the block. -/
theorem pay35_apply (n : ℕ) (R : Fin 1024) (x : Fin 256) :
    k0_pay35 q (colBlk K n) (ix2 R x) = S (zrow q K R) (256 * n + x.val + 1) (256 * n + 256) := by
  pointwise [k0_pay35, pay33_apply]
  refine (sum_hi_lo _ _ fun _ => keepF_ne_top _).trans ?_
  refine Eq.trans (Finset.sum_congr rfl fun y _ => ?_) (sum_above (fun s => keepF (zrow q K R s)) (256 * n) 256 x.val)
  rw [WordCmp.cmpi_sgt_ofNat (by omega) (by omega), WordCmp.select_ofBool]
  simp only [decide_eq_true_eq]

/-- Whether the loop goes on: it stops only where every row's running sum is `−∞`. -/
theorem carry1_apply (n : ℕ) (c : Vec Ideal S1x1024x128 .f32) (R : Fin 1024) (j : Fin 128) :
    carry1 q (colBlk K n) c (ix3 0 R j) = c (ix3 0 R j) + S (zrow q K R) (256 * n) (256 * n + 256) := by
  pointwise [carry1, k0_pay5, k0_pay4, pay36_apply]

theorem fold_max_bot {ι : Type} [Fintype ι] (f : ι → EReal) (h : ¬ (⊥ : EReal) < Finset.univ.fold max ⊥ f) (x : ι) : f x = ⊥ := by
  rw [not_lt, le_bot_iff] at h
  exact le_bot_iff.mp (h ▸ (Finset.le_fold_max (f x)).mpr (Or.inr ⟨x, Finset.mem_univ x, le_rfl⟩))

theorem ofBits_neg_inf : Ideal.ofBits .f32 0xFF800000#32 = (⊥ : EReal) := by
  simp [Ideal.ofBits, Ideal.ieee]

theorem cut_eq : (cut : Ideal .f32) = (⊥ : EReal) := IdealRules.named_const.ideal_named_scalar _ _ _ _ rfl

/-- The word a loop carries is positive exactly where its comparison holds. -/
theorem word_pos (x : Ideal .f32) : Scalar.cmpi .sgt (Scalar.extui (Scalar.cmpf .ogt x cut) : BitVec 32) 0#32 = 1#1 ↔ (⊥ : EReal) < x := by
  rw [cut_eq]
  have h : ∀ b : Bool, Scalar.cmpi .sgt (Scalar.extui (BitVec.ofBool b) : BitVec 32) 0#32 = 1#1 ↔ b = true := by decide
  exact (h _).trans decide_eq_true_iff

/-- Where the sweep's word after block `n` is not positive, every running sum is `−∞`. -/
theorem live1_bot (n : ℕ) (c : Vec Ideal S1x1024x128 .f32) (h : ¬ Scalar.cmpi .sgt (live1 q (colBlk K n) c) 0#32 = 1#1)
    (R : Fin 1024) : carry1 q (colBlk K n) c (ix3 0 R 0) = ⊥ := by
  rw [live1, word_pos] at h
  pointwise [k0_pay6, k0_pay4, pay36_apply, ofBits_neg_inf] at h
  rw [carry1_apply]
  exact fold_max_bot _ h (R, 0)

/-- The results after a block: its keys' weights by its values added. -/
theorem acc1_apply (n : ℕ) (c : Vec Ideal S1x1024x128 .f32) (a : Vec Ideal S1x1024x256 .f32) (R : Fin 1024) (ch : Fin 256) (w : EReal)
    (hc : ∀ j, c (ix3 0 R j) = w) :
    acc1 q (colBlk K n) (colBlk V n) c a (ix3 0 R ch) = a (ix3 0 R ch)
      + ∑ x : Fin 256, Ideal.exp (takeF (zrow q K R (256 * n + x.val)) + (S (zrow q K R) (256 * n + x.val + 1) (256 * n + 256) + w))
          * vrow V ch (256 * n + x.val) := by
  pointwise [acc1, k0_pay3, k0_pay30, pay34_apply, pay35_apply, colBlk_apply, hc, vrow]
  congr 1
  exact (Fin.sum_univ_add (a := 128) (b := 128) fun x : Fin 256 =>
    Ideal.exp (takeF (zrow q K R (256 * n + x.val)) + (S (zrow q K R) (256 * n + x.val + 1) (256 * n + 256) + w))
      * vrow V ch (256 * n + x.val)).symm

/-- The whole sweep from block `n − 1` down: the keys below `256n`, each with its weight. Stopping early loses nothing,
    for then every earlier key has weight zero. -/
theorem sweep_apply (p : Fin 1024 → ℕ) : ∀ (n : ℕ) (l : BitVec 32) (c : Vec Ideal S1x1024x128 .f32) (a : Vec Ideal S1x1024x256 .f32),
    (∀ R, 256 * n ≤ p R) → (∀ R j, c (ix3 0 R j) = S (zrow q K R) (256 * n) (p R)) →
    (¬ Scalar.cmpi .sgt l 0#32 = 1#1 → ∀ R, S (zrow q K R) (256 * n) (p R) = ⊥) → ∀ (R : Fin 1024) (ch : Fin 256),
    sweep K V q n l c a (ix3 0 R ch) = a (ix3 0 R ch) + ∑ t ∈ Finset.range (256 * n), wt (zrow q K R) (p R) t * vrow V ch t
  | 0, l, c, a, _, _, _, R, ch => by simp [sweep]
  | n + 1, l, c, a, hp, hc, hl, R, ch => by
    rw [sweep]
    by_cases h : Scalar.cmpi .sgt l 0#32 = 1#1
    · rw [if_pos h]
      have hc' : ∀ R j, carry1 q (colBlk K n) c (ix3 0 R j) = S (zrow q K R) (256 * n) (p R) := fun R j => by
        rw [carry1_apply, hc, add_comm]
        exact S_add _ (by omega) (hp R)
      refine (sweep_apply p n _ _ _ (fun R => by have := hp R; omega) hc' (fun h R => ?_) R ch).trans ?_
      · rw [← hc' R 0]
        exact live1_bot q K n c h R
      · rw [acc1_apply q K V n c a R ch _ (hc R), add_assoc]
        congr 1
        rw [add_comm, show 256 * (n + 1) = 256 * n + 256 from rfl, Finset.range_eq_Ico, Finset.range_eq_Ico,
          ← Finset.sum_Ico_consecutive _ (Nat.zero_le (256 * n)) (Nat.le_add_right (256 * n) 256), ← sum_block]
        congr 1
        refine Finset.sum_congr rfl fun x _ => ?_
        rw [wt, ← S_add (zrow q K R) (show 256 * n + x.val + 1 ≤ 256 * (n + 1) by omega) (hp R)]
        rfl
    · rw [if_neg h, Finset.sum_eq_zero, add_zero]
      intro t ht
      rw [wt_eq_zero _ (Finset.mem_range.mp ht) (hp R) (hl h R), zero_mul]

end Cert.Proof.V
-- ==== Proof.V.Start.lean ====
/-
  The idealized kernel over the extended reals: what the first two blocks — the row's own, below the diagonal, and the
  one before it — leave, before the sweep; and with the sweep, the stacked results of a query block.
-/
module

public import proofs.«01_k».proof.Proof.V.Step

@[expose] public section

noncomputable section

namespace Cert.Proof.V

open Cert.KernelIdeal Cert.KernelIdeal.Gen Cert.Proof.PI
open Idealize.ShloMosaic

/-- How many keys stacked row `R` of query block `k` attends to: those before its own position. -/
def pos (k : ℕ) (R : Fin 1024) : ℕ := 256 * k + R.val % 256

/-- The own block's mask: a row's keys below the diagonal. -/
theorem pay1_apply (R : Fin 1024) (x : Fin 256) : k0_pay1 (ix2 R x) = BitVec.ofBool (decide (x.val < R.val % 256)) := by
  pointwise [k0_pay1]
  split_ifs <;> rw [WordCmp.cmpi_slt_ofNat (by omega) (by omega)] <;> congr 2 <;> congr 1 <;> omega

/-- The near block counts where there is one; -/
theorem msk_near (k : ℕ) (hk : k < 16) (R : Fin 1024) (x : Fin 256) :
    msk k (ix2 R ⟨x.val, by omega⟩) = BitVec.ofBool (decide (1 ≤ k)) := by
  pointwise [msk, k0_pay14]
  exact WordCmp.cmpi_sge_ofNat (w := 32) (a := k) (b := 1) (by omega) (by omega)

/-- the own block below the diagonal. -/
theorem msk_own (k : ℕ) (R : Fin 1024) (x : Fin 256) :
    msk k (ix2 R ⟨256 + x.val, by omega⟩) = BitVec.ofBool (decide (x.val < R.val % 256)) := by
  pointwise [msk, k0_pay14, pay1_apply]

variable (q : FVec Ideal S1024x256 .bf16) (K V : Vec Ideal S1x1x256x4096 .f32)

theorem pay16_near (k : ℕ) (R : Fin 1024) (x : Fin 256) :
    k0_pay16 q (kcat K k) (ix2 R ⟨x.val, by omega⟩) = zrow q K R (256 * (k - 1) + x.val) := by
  pointwise [k0_pay16, kcat, k0_pay12, colBlk_apply, zrow]

theorem pay16_own (k : ℕ) (R : Fin 1024) (x : Fin 256) :
    k0_pay16 q (kcat K k) (ix2 R ⟨256 + x.val, by omega⟩) = zrow q K R (256 * k + x.val) := by
  pointwise [k0_pay16, kcat, k0_pay12, colBlk_apply, zrow]

/-- The log-takes; -/
theorem pay18_near (k : ℕ) (R : Fin 1024) (x : Fin 256) :
    k0_pay18 q (kcat K k) (ix2 R ⟨x.val, by omega⟩) = takeF (zrow q K R (256 * (k - 1) + x.val)) := by
  pointwise [k0_pay18, k0_pay17, pay16_near, takeF, lg]
  rfl

theorem pay18_own (k : ℕ) (R : Fin 1024) (x : Fin 256) :
    k0_pay18 q (kcat K k) (ix2 R ⟨256 + x.val, by omega⟩) = takeF (zrow q K R (256 * k + x.val)) := by
  pointwise [k0_pay18, k0_pay17, pay16_own, takeF, lg]
  rfl

/-- the masked log-keeps; -/
theorem pay19_near (k : ℕ) (hk : k < 16) (R : Fin 1024) (x : Fin 256) :
    k0_pay19 q (kcat K k) (msk k) (ix2 R ⟨x.val, by omega⟩) = if 1 ≤ k then keepF (zrow q K R (256 * (k - 1) + x.val)) else 0 := by
  pointwise [k0_pay19, k0_pay17, pay16_near, msk_near k hk, keepF, lg]
  rfl

theorem pay19_own (k : ℕ) (R : Fin 1024) (x : Fin 256) :
    k0_pay19 q (kcat K k) (msk k) (ix2 R ⟨256 + x.val, by omega⟩)
      = if x.val < R.val % 256 then keepF (zrow q K R (256 * k + x.val)) else 0 := by
  pointwise [k0_pay19, k0_pay17, pay16_own, msk_own, keepF, lg]
  rfl

theorem ite_keepF_ne_top (p : Prop) [Decidable p] (z : EReal) : (if p then keepF z else 0) ≠ ⊤ := by
  split
  · exact keepF_ne_top z
  · exact EReal.zero_ne_top

/-- the own block's total; -/
theorem own_sum (k : ℕ) (R : Fin 1024) :
    (∑ x : Fin 256, if x.val < R.val % 256 then keepF (zrow q K R (256 * k + x.val)) else 0) = S (zrow q K R) (256 * k) (pos k R) :=
  sum_below (fun s => keepF (zrow q K R s)) (256 * k) 256 (R.val % 256) (Nat.mod_lt _ (by decide)).le

/-- The two blocks' totals. -/
theorem tot0_apply (Q : Vec Ideal S1x1x4096x256 .f32) (k : ℕ) (hk : k < 16) (R : Fin 1024) :
    tot0 Q K k (ix2 R 0) = S (zrow (qst Q k) K R) (256 * (k - 1)) (pos k R) := by
  pointwise [tot0, k0_pay21, k0_pay20, pay19_near _ _ _ hk, pay19_own]
  rw [own_sum]
  by_cases h : 1 ≤ k
  · simp only [if_pos h]
    rw [sum_block (fun s => keepF (zrow (qst Q k) K R s)), add_comm, show 256 * (k - 1) + 256 = 256 * k by omega]
    exact S_add _ (by omega) (by unfold pos; omega)
  · simp only [if_neg h, Finset.sum_const_zero, add_zero]
    rw [show k = 0 by omega]

/-- The sums of log-keeps after a near key; -/
theorem pay22_near (k : ℕ) (hk : k < 16) (h : 1 ≤ k) (R : Fin 1024) (x : Fin 256) :
    k0_pay22 q (kcat K k) (msk k) k0_pay15 (Scalar.ofBits .f32 0x3F800000#32) (ix2 R ⟨x.val, by omega⟩)
      = S (zrow q K R) (256 * (k - 1) + x.val + 1) (pos k R) := by
  pointwise [k0_pay22, k0_pay15, k0_pay20, pay19_near _ _ _ hk, pay19_own]
  rw [own_sum]
  refine (congrArg (· + _) (sum_hi_lo _ _ fun _ => ite_keepF_ne_top _ _)).trans ?_
  refine Eq.trans (congrArg (· + _) (Eq.trans (Finset.sum_congr rfl fun y _ => ?_)
    (sum_above (fun s => keepF (zrow q K R s)) (256 * (k - 1)) 256 x.val)))
    (Eq.trans (congrArg (fun e => S (zrow q K R) (256 * (k - 1) + x.val + 1) e + S (zrow q K R) (256 * k) (pos k R))
      (show 256 * (k - 1) + 256 = 256 * k by omega)) (S_add _ (by omega) (by unfold pos; omega)))
  rw [WordCmp.cmpi_sgt_ofNat (by omega) (by omega), WordCmp.select_ofBool, if_pos h]
  simp only [decide_eq_true_eq]

/-- after an own key. -/
theorem pay22_own (k : ℕ) (R : Fin 1024) (x : Fin 256) :
    k0_pay22 q (kcat K k) (msk k) k0_pay15 (Scalar.ofBits .f32 0x3F800000#32) (ix2 R ⟨256 + x.val, by omega⟩)
      = S (zrow q K R) (256 * k + x.val + 1) (pos k R) := by
  pointwise [k0_pay22, k0_pay15, k0_pay20, pay19_own]
  refine (sum_hi_lo _ _ fun _ => ite_keepF_ne_top _ _).trans ?_
  refine Eq.trans (Finset.sum_congr rfl fun y _ => ?_)
    (sum_between (fun s => keepF (zrow q K R s)) (256 * k) 256 x.val (R.val % 256) (Nat.mod_lt _ (by decide)).le)
  rw [WordCmp.cmpi_sgt_ofNat (by omega) (by omega), WordCmp.select_ofBool]
  simp only [decide_eq_true_eq]

theorem vcat_near (k : ℕ) (ch x : Fin 256) : vcat V k (ix2 ch ⟨x.val, by omega⟩) = vrow V ch (256 * (k - 1) + x.val) := by
  pointwise [vcat, k0_pay13, colBlk_apply, vrow]

theorem vcat_own (k : ℕ) (ch x : Fin 256) : vcat V k (ix2 ch ⟨256 + x.val, by omega⟩) = vrow V ch (256 * k + x.val) := by
  pointwise [vcat, k0_pay13, colBlk_apply, vrow]

/-- One of the 512 terms of a row's first product. -/
def term (Q : Vec Ideal S1x1x4096x256 .f32) (k : ℕ) (R : Fin 1024) (ch : Fin 256) (x : Fin 512) : EReal :=
  Scalar.select (msk k (ix2 R x))
    (Ideal.exp (k0_pay18 (qst Q k) (kcat K k) (ix2 R x)
        + k0_pay22 (qst Q k) (kcat K k) (msk k) k0_pay15 (Scalar.ofBits .f32 0x3F800000#32) (ix2 R x))
      * vcat V k (ix2 ch x)) (0 : EReal)

theorem term_near (Q : Vec Ideal S1x1x4096x256 .f32) (k : ℕ) (hk : k < 16) (R : Fin 1024) (ch x : Fin 256) :
    term K V Q k R ch ⟨x.val, by omega⟩
      = if 1 ≤ k then wt (zrow (qst Q k) K R) (pos k R) (256 * (k - 1) + x.val) * vrow V ch (256 * (k - 1) + x.val) else 0 := by
  rw [term, msk_near k hk, WordCmp.select_ofBool, pay18_near, vcat_near]
  by_cases h : 1 ≤ k
  · rw [if_pos (decide_eq_true h), if_pos h, pay22_near _ _ _ hk h, wt]
  · rw [if_neg (by simpa using h), if_neg h]

theorem term_own (Q : Vec Ideal S1x1x4096x256 .f32) (k : ℕ) (R : Fin 1024) (ch x : Fin 256) :
    term K V Q k R ch ⟨256 + x.val, by omega⟩
      = if x.val < R.val % 256 then wt (zrow (qst Q k) K R) (pos k R) (256 * k + x.val) * vrow V ch (256 * k + x.val) else 0 := by
  rw [term, msk_own, WordCmp.select_ofBool, pay18_own, vcat_own, pay22_own, wt]
  simp only [decide_eq_true_eq]

/-- The two blocks' results: their keys before the row's position, each with its weight. -/
theorem acc0_apply (Q : Vec Ideal S1x1x4096x256 .f32) (k : ℕ) (hk : k < 16) (R : Fin 1024) (ch : Fin 256) :
    acc0 Q K V k (ix3 0 R ch)
      = ∑ t ∈ Finset.Ico (256 * (k - 1)) (pos k R), wt (zrow (qst Q k) K R) (pos k R) t * vrow V ch t := by
  have hsum : acc0 Q K V k (ix3 0 R ch) = ∑ x : Fin (256 + 256), term K V Q k R ch x := by
    pointwise [acc0, k0_pay23, term]
  rw [hsum, Fin.sum_univ_add]
  rw [show (∑ x : Fin 256, term K V Q k R ch (Fin.castAdd 256 x)) = _ from Finset.sum_congr rfl fun x _ => term_near K V Q k hk R ch x,
    show (∑ x : Fin 256, term K V Q k R ch (Fin.natAdd 256 x)) = _ from Finset.sum_congr rfl fun x _ => term_own K V Q k R ch x,
    sum_below (fun t => wt (zrow (qst Q k) K R) (pos k R) t * vrow V ch t) (256 * k) 256 (R.val % 256) (Nat.mod_lt _ (by decide)).le]
  by_cases h : 1 ≤ k
  · simp only [if_pos h]
    rw [sum_block (fun t => wt (zrow (qst Q k) K R) (pos k R) t * vrow V ch t), show 256 * (k - 1) + 256 = 256 * k by omega]
    exact Finset.sum_Ico_consecutive _ (by omega) (by omega)
  · simp only [if_neg h, Finset.sum_const_zero, zero_add]
    rw [show k = 0 by omega]
    rfl

/-- The running sums the sweep begins with. -/
theorem pay25_apply (Q : Vec Ideal S1x1x4096x256 .f32) (k : ℕ) (hk : k < 16) (R : Fin 1024) (j : Fin 128) :
    k0_pay25 (tot0 Q K k) (ix3 0 R j) = S (zrow (qst Q k) K R) (256 * (k - 1)) (pos k R) := by
  pointwise [k0_pay25, k0_pay24, tot0_apply K Q k hk]

/-- Where its word is not positive they are all `−∞`. -/
theorem live0_bot (Q : Vec Ideal S1x1x4096x256 .f32) (k : ℕ) (hk : k < 16) (h : ¬ Scalar.cmpi .sgt (live0 Q K k) 0#32 = 1#1) (R : Fin 1024) :
    S (zrow (qst Q k) K R) (256 * (k - 1)) (pos k R) = ⊥ := by
  rw [live0, word_pos] at h
  pointwise [k0_pay26, k0_pay24, ofBits_neg_inf, tot0_apply K Q k hk] at h
  exact fold_max_bot _ h (R, 0)

/-- A query block's stacked results: every key before the row's position, with its weight. -/
theorem accEnd_apply (Q : Vec Ideal S1x1x4096x256 .f32) (k : ℕ) (hk : k < 16) (R : Fin 1024) (ch : Fin 256) :
    accEnd Q K V k (ix3 0 R ch) = ∑ t ∈ Finset.range (pos k R), wt (zrow (qst Q k) K R) (pos k R) t * vrow V ch t := by
  rw [accEnd, sweep_apply (qst Q k) K V (pos k) (k - 1) _ _ _ (fun R => by unfold pos; omega)
    (fun R j => pay25_apply K Q k hk R j) (fun h R => live0_bot K Q k hk h R), acc0_apply K V Q k hk, add_comm,
    Finset.range_eq_Ico, Finset.range_eq_Ico]
  exact Finset.sum_Ico_consecutive _ (Nat.zero_le _) (by unfold pos; omega)

end Cert.Proof.V
-- ==== Proof.V.Head.lean ====
/-
  The idealized kernel over the extended reals: the stacked queries at an index, and which stacked rows a stored column
  takes; with them one element of the staged result.
-/
module

public import proofs.«01_k».proof.Proof.V.Start

@[expose] public section

noncomputable section

namespace Cert.Proof.V

open Cert.KernelIdeal Cert.KernelIdeal.Gen Cert.Proof.PI
open Idealize.ShloMosaic

/-- A column's head: its index over 64. -/
theorem pay8_apply (r c : Fin 256) : k0_pay8 (ix2 r c) = BitVec.ofNat 32 (c.val / 64) := by
  pointwise [k0_pay8]
  revert c
  decide +kernel

/-- The same index, as the store's mask computes it. -/
theorem colHead : ∀ c : Fin 256,
    Scalar.select
      (IntOp.andi
        (IntOp.cmpi CmpIPredicate.ne
          (IntOp.subi (BitVec.setWidth 32 (IntOp.cmpi CmpIPredicate.sgt (BitVec.ofNat 32 c.val) 0#32))
            (BitVec.setWidth 32 (IntOp.cmpi CmpIPredicate.slt (BitVec.ofNat 32 c.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 c.val) 64#32) 0#32))
      (IntOp.subi (IntOp.divsi ArithUnit.vector (BitVec.ofNat 32 c.val) 64#32) 1#32)
      (IntOp.divsi ArithUnit.vector (BitVec.ofNat 32 c.val) 64#32) = BitVec.ofNat 32 (c.val / 64) := by
  decide +kernel

theorem four (c : Fin 256) : c.val / 64 = 0 ∨ c.val / 64 = 1 ∨ c.val / 64 = 2 ∨ c.val / 64 = 3 := by omega

/-- A stored column comes from its own head's rows. -/
theorem outBlk_apply (Q : Vec Ideal S1x1x4096x256 .f32) (K V : Vec Ideal S1x1x256x4096 .f32) (k : ℕ) (r c : Fin 256) :
    outBlk Q K V k (ix3 0 r c) = accEnd Q K V k (ix3 0 ⟨256 * (c.val / 64) + r.val, by omega⟩ c) := by
  pointwise [outBlk, k0_pay2, k0_pay27, k0_pay28, k0_pay29]
  rw [colHead]
  rcases four c with h | h | h | h
  · rw [show (⟨256 * (c.val / 64) + r.val, by omega⟩ : Fin 1024) = ⟨r.val, by omega⟩ from Fin.ext (by simp [h]), h]
    rfl
  · rw [show (⟨256 * (c.val / 64) + r.val, by omega⟩ : Fin 1024) = ⟨256 + r.val, by omega⟩ from Fin.ext (by simp [h]), h]
    rfl
  · rw [show (⟨256 * (c.val / 64) + r.val, by omega⟩ : Fin 1024) = ⟨512 + r.val, by omega⟩ from Fin.ext (by simp [h]), h]
    rfl
  · rw [show (⟨256 * (c.val / 64) + r.val, by omega⟩ : Fin 1024) = ⟨768 + r.val, by omega⟩ from Fin.ext (by simp [h]), h]
    rfl

/-- The scale of the scores, one eighth. -/
abbrev c8 : EReal := Ideal.ofBits .f32 0x3E000000#32

/-- The stacked queries: head `h`'s rows keep its own columns, scaled. -/
theorem qst_apply (Q : Vec Ideal S1x1x4096x256 .f32) (k : ℕ) (h : Fin 4) (r d : Fin 256) :
    qst Q k (ix2 ⟨256 * h.val + r.val, by omega⟩ d)
      = if d.val / 64 = h.val then Q (ix4 0 0 ⟨(256 * k + r.val) % 4096, Nat.mod_lt _ (by decide)⟩ d) * c8 else 0 := by
  have hrow : ∀ r d : Fin 256, rowBlk Q k (ix4 0 0 r d) = Q (ix4 0 0 ⟨(256 * k + r.val) % 4096, Nat.mod_lt _ (by decide)⟩ d) := fun _ _ => rfl
  pointwise [qst, k0_pay11, k0_pay7, k0_pay9, k0_pay10, pay8_apply, hrow]
  have e : ∀ n : ℕ, n < 4 → ∀ x y : EReal, Scalar.select (IntOp.cmpi .eq (BitVec.ofNat 32 (d.val / 64)) (BitVec.ofNat 32 n)) x y
      = if d.val / 64 = n then x else y := fun n hn x y => by
    rw [WordCmp.cmpi_eq_ofNat (by omega) (by omega), WordCmp.select_ofBool]
    simp only [decide_eq_true_eq]
  have e0 := e 0 (by decide)
  have e1 := e 1 (by decide)
  have e2 := e 2 (by decide)
  have e3 := e 3 (by decide)
  simp only [e0, e1, e2, e3]
  obtain ⟨h, hh⟩ := h
  obtain ⟨r, hr⟩ := r
  rcases (by omega : h = 0 ∨ h = 1 ∨ h = 2 ∨ h = 3) with rfl | rfl | rfl | rfl
  · rw [dif_pos (by simpa using hr)]; simp
  · rw [dif_neg (by simp), dif_pos (by simpa using hr)]; simp
  · rw [dif_neg (by simp; omega), dif_neg (by simp; omega), dif_pos (by simp; omega)]
    simp [show 512 + r - 256 - 256 = r by omega]
  · rw [dif_neg (by simp; omega), dif_neg (by simp; omega), dif_neg (by simp; omega)]
    simp [show 768 + r - 256 - 256 - 256 = r by omega]

/-- A sum over 256 columns of which only head `h`'s 64 count. -/
theorem sum_head (h : Fin 4) (f g : Fin 256 → EReal) :
    (∑ d : Fin 256, (if d.val / 64 = h.val then f d else 0) * g d)
      = ∑ e : Fin 64, f ⟨64 * h.val + e.val, by omega⟩ * g ⟨64 * h.val + e.val, by omega⟩ := by
  rw [← (finProdFinEquiv (m := 4) (n := 64)).sum_comp, Fintype.sum_prod_type, Finset.sum_eq_single h]
  · refine Finset.sum_congr rfl fun e _ => ?_
    have he : (finProdFinEquiv (h, e) : Fin (4 * 64)) = ⟨64 * h.val + e.val, by omega⟩ := Fin.ext (by simp [finProdFinEquiv]; omega)
    rw [he, if_pos (by show (64 * h.val + e.val) / 64 = h.val; omega)]
  · intro a _ ha
    refine Finset.sum_eq_zero fun e _ => ?_
    have hv : (finProdFinEquiv (a, e) : Fin (4 * 64)).val = 64 * a.val + e.val := by simp [finProdFinEquiv]; omega
    rw [if_neg (by rw [hv]; intro hc; exact ha (Fin.ext (by omega))), zero_mul]
  · intro hc; exact absurd (Finset.mem_univ h) hc

theorem c8_eq : c8 = ((1 / 8 : ℝ) : EReal) := by
  simp [c8, Ideal.ofBits, Ideal.ieee, -EReal.coe_mul]; norm_num

/-- The scale taken out of a score's sum. -/
theorem sum_scale {n : ℕ} (f g : Fin n → EReal) : (∑ e, f e * c8 * g e) = (∑ e, f e * g e) * c8 := by
  have h₀ : (0 : EReal) ≤ c8 := by rw [c8_eq]; exact_mod_cast (by norm_num : (0 : ℝ) ≤ 1 / 8)
  have h₁ : c8 ≠ ⊤ := by rw [c8_eq]; exact EReal.coe_ne_top _
  have key : ∀ s : Finset (Fin n), (∑ e ∈ s, f e * c8 * g e) = (∑ e ∈ s, f e * g e) * c8 := fun s => by
    induction s using Finset.cons_induction with
    | empty => simp
    | cons a s ha ih =>
      rw [Finset.sum_cons, Finset.sum_cons, ih, EReal.right_distrib_of_nonneg_of_ne_top h₀ h₁, mul_assoc, mul_comm c8, mul_assoc]
  exact key _

/-- Head `h`'s score of query `p` against key `s`. -/
def zh (Q : Vec Ideal S1x1x4096x256 .f32) (K : Vec Ideal S1x1x256x4096 .f32) (h : Fin 4) (p : Fin 4096) (s : ℕ) : EReal :=
  (∑ e : Fin 64, Q (ix4 0 0 p ⟨64 * h.val + e.val, by omega⟩)
    * K (ix4 0 0 ⟨64 * h.val + e.val, by omega⟩ ⟨s % 4096, Nat.mod_lt _ (by decide)⟩)) * c8

theorem zrow_qst (Q : Vec Ideal S1x1x4096x256 .f32) (K : Vec Ideal S1x1x256x4096 .f32) (h : Fin 4) (p : Fin 4096) :
    zrow (qst Q (p.val / 256)) K ⟨256 * h.val + p.val % 256, by omega⟩ = zh Q K h p := by
  funext s
  rw [zrow, zh, ← sum_scale]
  refine Eq.trans (Finset.sum_congr rfl fun d _ => congrArg (· * _) (qst_apply Q (p.val / 256) h ⟨p.val % 256, Nat.mod_lt _ (by decide)⟩ d)) ?_
  rw [show (⟨(256 * (p.val / 256) + p.val % 256) % 4096, Nat.mod_lt _ (by decide)⟩ : Fin 4096) = p from Fin.ext (by show (256 * (p.val / 256) + p.val % 256) % 4096 = p.val; omega)]
  exact sum_head h (fun d => Q (ix4 0 0 p d) * c8) fun d => K (ix4 0 0 d ⟨s % 4096, Nat.mod_lt _ (by decide)⟩)

/-- One element of the staged result: the keys before the query, each with its weight, by one channel of the values. -/
theorem out_apply (Q : Vec Ideal S1x1x4096x256 .f32) (K V : Vec Ideal S1x1x256x4096 .f32) (p : Fin 4096) (c : Fin 256) :
    out Q K V (ix3 0 p c)
      = ∑ t ∈ Finset.range p.val, wt (zh Q K ⟨c.val / 64, by omega⟩ p) p.val t * vrow V c t := by
  have h : out Q K V (ix3 0 p c) = outBlk Q K V (p.val / 256) (ix3 0 ⟨p.val % 256, Nat.mod_lt _ (by decide)⟩ c) := rfl
  have hz := zrow_qst Q K ⟨c.val / 64, by omega⟩ p
  have hp : pos (p.val / 256) ⟨256 * (c.val / 64) + p.val % 256, by omega⟩ = p.val := by
    show 256 * (p.val / 256) + (256 * (c.val / 64) + p.val % 256) % 256 = p.val
    omega
  rw [h, outBlk_apply, accEnd_apply _ _ _ _ (by omega), hp]
  exact Finset.sum_congr rfl fun t _ => by rw [hz]

end Cert.Proof.V
-- ==== Proof.SV.Step.lean ====
/-
  The sample's idealized stick-breaking attention over the extended reals: what the new tokens' own keys leave, what one
  block of the sweep adds, and with the whole sweep the stacked results. A row's keys are the 1024 cached ones and then the
  64 new ones.
-/
module

public import proofs.«01_k».proof.Proof.SI.Trip
public import proofs.«01_k».proof.Proof.V.Head

@[expose] public section

noncomputable section

namespace Cert.Proof.SV

open Cert.Kernel12Ideal Cert.Kernel12Ideal.Gen Cert.Proof.SI
open Cert.Proof.V (S wt takeF keepF lg sum_above sum_below sum_between sum_block S_add wt_eq_zero sum_hi_lo keepF_ne_top
  fold_max_bot ofBits_neg_inf ite_keepF_ne_top)
open Idealize.ShloMosaic

/-- Channel `d` of key or value `s`: of the cache (feature-major) below 1024, of the new tokens from there on. -/
def colAt (X : Vec Ideal S1x1x512x1024 .f32) (N : Vec Ideal S1x1x64x512 .f32) (d : Fin 512) (s : ℕ) : EReal :=
  if s < 1024 then X (ix4 0 0 d ⟨s % 1024, Nat.mod_lt _ (by decide)⟩) else N (ix4 0 0 ⟨(s - 1024) % 64, Nat.mod_lt _ (by decide)⟩ d)

/-- Row `R`'s score against key `s`. -/
def zrow (q : FVec Ideal S512x512 .bf16) (K : Vec Ideal S1x1x512x1024 .f32) (N : Vec Ideal S1x1x64x512 .f32) (R : Fin 512) (s : ℕ) : EReal :=
  ∑ d : Fin 512, (q (ix2 R d) : EReal) * colAt K N d s

/-- How many keys stacked row `R` attends to: the cache and the new tokens before its own. -/
def pos (R : Fin 512) : ℕ := 1024 + R.val % 64

variable (q : FVec Ideal S512x512 .bf16) (K V : Vec Ideal S1x1x512x1024 .f32) (N W : Vec Ideal S1x1x64x512 .f32)

theorem colBlk_apply (n : ℕ) (hn : n < 4) (c : Fin 512) (e : Fin 256) : colBlk K n (ix4 0 0 c e) = colAt K N c (256 * n + e.val) :=
  (if_pos (show 256 * n + e.val < 1024 by omega)).symm

theorem own_apply (c : Fin 512) (x : Fin 64) : N (ix4 0 0 x c) = colAt K N c (1024 + x.val) := by
  rw [colAt, if_neg (by omega)]
  congr 2
  apply Fin.ext
  show x.val = (1024 + x.val - 1024) % 64
  omega

/-! ## One block of the sweep -/

/-- The block's scores. -/
theorem pay28_apply (n : ℕ) (hn : n < 4) (R : Fin 512) (x : Fin 256) :
    k0_pay28 q (colBlk K n) (ix2 R x) = zrow q K N R (256 * n + x.val) := by
  pointwise [k0_pay28, colBlk_apply K N n hn, zrow]

/-- The block's log-takes; -/
theorem pay31_apply (n : ℕ) (hn : n < 4) (R : Fin 512) (x : Fin 256) :
    k0_pay31 q (colBlk K n) (ix2 R x) = takeF (zrow q K N R (256 * n + x.val)) := by
  pointwise [k0_pay31, k0_pay29, pay28_apply q K N n hn, takeF, lg]
  rfl

/-- its log-keeps; -/
theorem pay30_apply (n : ℕ) (hn : n < 4) (R : Fin 512) (x : Fin 256) :
    k0_pay30 q (colBlk K n) (ix2 R x) = keepF (zrow q K N R (256 * n + x.val)) := by
  pointwise [k0_pay30, k0_pay29, pay28_apply q K N n hn, keepF, lg]
  rfl

/-- their sum; -/
theorem pay33_apply (n : ℕ) (hn : n < 4) (R : Fin 512) :
    k0_pay33 q (colBlk K n) (ix1 R) = S (zrow q K N R) (256 * n) (256 * n + 256) := by
  pointwise [k0_pay33, pay30_apply q K N n hn]
  exact sum_block (fun s => keepF (zrow q K N R s)) (256 * n) 256

/-- and the sums of the log-keeps after each key inside the block. -/
theorem pay32_apply (n : ℕ) (hn : n < 4) (R : Fin 512) (x : Fin 256) :
    k0_pay32 q (colBlk K n) (ix2 R x) = S (zrow q K N R) (256 * n + x.val + 1) (256 * n + 256) := by
  pointwise [k0_pay32, pay30_apply q K N n hn]
  refine (sum_hi_lo _ _ fun _ => keepF_ne_top _).trans ?_
  refine Eq.trans (Finset.sum_congr rfl fun y _ => ?_) (sum_above (fun s => keepF (zrow q K N R s)) (256 * n) 256 x.val)
  rw [WordCmp.cmpi_sgt_ofNat (by omega) (by omega), WordCmp.select_ofBool]
  simp only [decide_eq_true_eq]

theorem carry1_apply (n : ℕ) (hn : n < 4) (c : Vec Ideal S1x512x128 .f32) (R : Fin 512) (j : Fin 128) :
    carry1 q (colBlk K n) c (ix3 0 R j) = c (ix3 0 R j) + S (zrow q K N R) (256 * n) (256 * n + 256) := by
  pointwise [carry1, k0_pay4, k0_pay3, pay33_apply q K N n hn]

theorem cut_eq : (cut : Ideal .f32) = (⊥ : EReal) := IdealRules.named_const.ideal_named_scalar _ _ _ _ rfl

/-- The word the loop carries is positive exactly where its comparison holds. -/
theorem word_pos (x : Ideal .f32) : Scalar.cmpi .sgt (Scalar.extui (Scalar.cmpf .ogt x cut) : BitVec 32) 0#32 = 1#1 ↔ (⊥ : EReal) < x := by
  rw [cut_eq]
  have h : ∀ b : Bool, Scalar.cmpi .sgt (Scalar.extui (BitVec.ofBool b) : BitVec 32) 0#32 = 1#1 ↔ b = true := by decide
  exact (h _).trans decide_eq_true_iff

include N in
/-- Where the sweep's word after block `n` is not positive, every running sum is `−∞`. -/
theorem live1_bot (n : ℕ) (hn : n < 4) (c : Vec Ideal S1x512x128 .f32) (h : ¬ Scalar.cmpi .sgt (live1 q (colBlk K n) c) 0#32 = 1#1)
    (R : Fin 512) : carry1 q (colBlk K n) c (ix3 0 R 0) = ⊥ := by
  rw [live1, word_pos] at h
  pointwise [k0_pay5, k0_pay3, pay33_apply q K N n hn, ofBits_neg_inf] at h
  rw [carry1_apply q K N n hn]
  exact fold_max_bot _ h (R, 0)

/-- The results after a block: its keys' weights by its values added. -/
theorem acc1_apply (n : ℕ) (hn : n < 4) (c : Vec Ideal S1x512x128 .f32) (a : Vec Ideal S1x512x512 .f32) (R ch : Fin 512) (w : EReal)
    (hc : ∀ j, c (ix3 0 R j) = w) :
    acc1 q (colBlk K n) (colBlk V n) c a (ix3 0 R ch) = a (ix3 0 R ch)
      + ∑ x : Fin 256, Ideal.exp (takeF (zrow q K N R (256 * n + x.val)) + (S (zrow q K N R) (256 * n + x.val + 1) (256 * n + 256) + w))
          * colAt V W ch (256 * n + x.val) := by
  pointwise [acc1, k0_pay2, k0_pay27, pay31_apply q K N n hn, pay32_apply q K N n hn, colBlk_apply V W n hn, hc]
  congr 1
  exact (Fin.sum_univ_add (a := 128) (b := 128) fun x : Fin 256 =>
    Ideal.exp (takeF (zrow q K N R (256 * n + x.val)) + (S (zrow q K N R) (256 * n + x.val + 1) (256 * n + 256) + w))
      * colAt V W ch (256 * n + x.val)).symm

/-- The whole sweep from block `n − 1` down: the keys below `256n`, each with its weight. Stopping early loses nothing,
    for then every earlier key has weight zero. -/
theorem sweep_apply : ∀ (n : ℕ) (_ : n ≤ 4) (l : BitVec 32) (c : Vec Ideal S1x512x128 .f32) (a : Vec Ideal S1x512x512 .f32),
    (∀ R j, c (ix3 0 R j) = S (zrow q K N R) (256 * n) (pos R)) →
    (¬ Scalar.cmpi .sgt l 0#32 = 1#1 → ∀ R, S (zrow q K N R) (256 * n) (pos R) = ⊥) → ∀ (R ch : Fin 512),
    sweep K V q n l c a (ix3 0 R ch) = a (ix3 0 R ch) + ∑ t ∈ Finset.range (256 * n), wt (zrow q K N R) (pos R) t * colAt V W ch t
  | 0, _, l, c, a, _, _, R, ch => by simp [sweep]
  | n + 1, hn, l, c, a, hc, hl, R, ch => by
    have hp : ∀ R, 256 * (n + 1) ≤ pos R := fun R => by unfold pos; omega
    rw [sweep]
    by_cases h : Scalar.cmpi .sgt l 0#32 = 1#1
    · rw [if_pos h]
      have hc' : ∀ R j, carry1 q (colBlk K n) c (ix3 0 R j) = S (zrow q K N R) (256 * n) (pos R) := fun R j => by
        rw [carry1_apply q K N n (by omega), hc, add_comm]
        exact S_add _ (by omega) (hp R)
      refine (sweep_apply n (by omega) _ _ _ hc' (fun h R => ?_) R ch).trans ?_
      · rw [← hc' R 0]
        exact live1_bot q K N n (by omega) c h R
      · rw [acc1_apply q K V N W n (by omega) c a R ch _ (hc R), add_assoc]
        congr 1
        rw [add_comm, show 256 * (n + 1) = 256 * n + 256 from rfl, Finset.range_eq_Ico, Finset.range_eq_Ico,
          ← Finset.sum_Ico_consecutive _ (Nat.zero_le (256 * n)) (Nat.le_add_right (256 * n) 256), ← sum_block]
        congr 1
        refine Finset.sum_congr rfl fun x _ => ?_
        rw [wt, ← S_add (zrow q K N R) (show 256 * n + x.val + 1 ≤ 256 * (n + 1) by omega) (hp R)]
        rfl
    · rw [if_neg h, Finset.sum_eq_zero, add_zero]
      intro t ht
      rw [wt_eq_zero _ (Finset.mem_range.mp ht) (hp R) (hl h R), zero_mul]

end Cert.Proof.SV

end
-- ==== Proof.SV.Start.lean ====
/-
  The sample's idealized stick-breaking attention over the extended reals: what the new tokens' own keys leave before the
  sweep, and with the sweep the stacked results of a batch row.
-/
module

public import proofs.«01_k».proof.Proof.SV.Step

@[expose] public section

noncomputable section

namespace Cert.Proof.SV

open Cert.Kernel12Ideal Cert.Kernel12Ideal.Gen Cert.Proof.SI
open Cert.Proof.V (S wt takeF keepF lg sum_above sum_below sum_between sum_block S_add wt_eq_zero sum_hi_lo keepF_ne_top
  fold_max_bot ofBits_neg_inf ite_keepF_ne_top)
open Idealize.ShloMosaic

variable (q : FVec Ideal S512x512 .bf16) (K V : Vec Ideal S1x1x512x1024 .f32) (Q N W : Vec Ideal S1x1x64x512 .f32)

/-- The mask's eight copies: a row's own keys below the diagonal. -/
theorem pay6_apply (R : Fin 512) (x : Fin 64) : k0_pay6 (ix2 R x) = BitVec.ofBool (decide (x.val < R.val % 64)) := by
  pointwise [k0_pay6]
  split_ifs <;> rw [WordCmp.cmpi_slt_ofNat (by omega) (by omega)] <;> congr 2 <;> congr 1 <;> omega

/-- The scores against the own keys; -/
theorem pay16_apply (R : Fin 512) (x : Fin 64) : k0_pay16 q (k0_pay12 N) (ix2 R x) = zrow q K N R (1024 + x.val) := by
  pointwise [k0_pay16, k0_pay12, own_apply K N, zrow]

/-- the masked log-keeps. -/
theorem pay18_apply (R : Fin 512) (x : Fin 64) :
    k0_pay18 k0_pay6 q (k0_pay12 N) (ix2 R x) = if x.val < R.val % 64 then keepF (zrow q K N R (1024 + x.val)) else 0 := by
  pointwise [k0_pay18, k0_pay17, pay16_apply q K N, pay6_apply, keepF, lg]
  rfl

/-- The own keys' total. -/
theorem tot0_apply (R : Fin 512) (j : Fin 128) : tot0 Q N (ix2 R j) = S (zrow (qst Q) K N R) 1024 (pos R) := by
  pointwise [tot0, k0_pay20, pay18_apply (qst Q) K N]
  exact sum_below (fun s => keepF (zrow (qst Q) K N R s)) 1024 64 (R.val % 64) (Nat.mod_lt _ (by decide)).le

/-- The own keys' results: those before the row's position, each with its weight. -/
theorem acc0_apply (R ch : Fin 512) :
    acc0 Q N W (ix3 0 R ch) = ∑ t ∈ Finset.Ico 1024 (pos R), wt (zrow (qst Q) K N R) (pos R) t * colAt V W ch t := by
  refine Eq.trans ?_ (sum_below (fun t => wt (zrow (qst Q) K N R) (pos R) t * colAt V W ch t) 1024 64 (R.val % 64) (Nat.mod_lt _ (by decide)).le)
  pointwise [acc0, k0_pay19, k0_pay17, k0_pay14, k0_pay15, k0_pay13, pay16_apply (qst Q) K N, pay18_apply (qst Q) K N, pay6_apply, own_apply V W]
  refine Finset.sum_congr rfl fun x _ => ?_
  by_cases h : x.val < R.val % 64
  · rw [if_pos h, if_pos h, wt]
    congr 3
    refine (sum_hi_lo _ _ fun _ => ite_keepF_ne_top _ _).trans ?_
    refine Eq.trans (Finset.sum_congr rfl fun y _ => ?_)
      (sum_between (fun s => keepF (zrow (qst Q) K N R s)) 1024 64 x.val (R.val % 64) (Nat.mod_lt _ (by decide)).le)
    rw [WordCmp.cmpi_sgt_ofNat (by omega) (by omega), WordCmp.select_ofBool]
    simp only [decide_eq_true_eq]
  · rw [if_neg h, if_neg h, zero_mul]

/-- The running sums the sweep begins with. -/
theorem pay21_apply (R : Fin 512) (j : Fin 128) : k0_pay21 (tot0 Q N) (ix3 0 R j) = S (zrow (qst Q) K N R) 1024 (pos R) := by
  pointwise [k0_pay21, tot0_apply K Q N]

/-- Where its word is not positive they are all `−∞`. -/
theorem live0_bot (h : ¬ Scalar.cmpi .sgt (live0 Q N) 0#32 = 1#1) (R : Fin 512) : S (zrow (qst Q) K N R) 1024 (pos R) = ⊥ := by
  rw [live0, word_pos] at h
  pointwise [k0_pay22, ofBits_neg_inf, tot0_apply K Q N] at h
  exact fold_max_bot _ h (R, 0)

/-- A batch row's stacked results: every key before the row's position, with its weight. -/
theorem accEnd_apply (R ch : Fin 512) :
    accEnd Q N W K V (ix3 0 R ch) = ∑ t ∈ Finset.range (pos R), wt (zrow (qst Q) K N R) (pos R) t * colAt V W ch t := by
  rw [accEnd, sweep_apply (qst Q) K V N W 4 le_rfl _ _ _ (pay21_apply K Q N) (live0_bot K Q N), acc0_apply K V Q N W, add_comm,
    Finset.range_eq_Ico, Finset.range_eq_Ico]
  exact Finset.sum_Ico_consecutive _ (Nat.zero_le _) (by unfold pos; omega)

end Cert.Proof.SV

end
-- ==== Proof.SV.Head.lean ====
/-
  The sample's idealized stick-breaking attention over the extended reals: the stacked queries at an index, and which
  stacked rows a stored column takes; with them one element of the staged result.
-/
module

public import proofs.«01_k».proof.Proof.SV.Start

@[expose] public section

noncomputable section

namespace Cert.Proof.SV

open Cert.Kernel12Ideal Cert.Kernel12Ideal.Gen Cert.Proof.SI
open Cert.Proof.V (S wt c8 sum_scale)
open Idealize.ShloMosaic

/-- A column's head: its index over 64. -/
theorem pay8_apply (r : Fin 64) (c : Fin 512) : k0_pay8 (ix2 r c) = BitVec.ofNat 32 (c.val / 64) := by
  pointwise [k0_pay8]
  revert c
  decide +kernel

/-- The same index, as the store computes it. -/
theorem pay24_apply (r : Fin 64) (c : Fin 512) : k0_pay24 (ix2 r c) = BitVec.ofNat 32 (c.val / 64) := by
  pointwise [k0_pay24]
  revert c
  decide +kernel

theorem eight (c : Fin 512) : c.val / 64 = 0 ∨ c.val / 64 = 1 ∨ c.val / 64 = 2 ∨ c.val / 64 = 3
    ∨ c.val / 64 = 4 ∨ c.val / 64 = 5 ∨ c.val / 64 = 6 ∨ c.val / 64 = 7 := by omega

variable (Q N W : Vec Ideal S1x1x64x512 .f32) (K V : Vec Ideal S1x1x512x1024 .f32)

/-- A stored column comes from its own head's rows. -/
theorem out_row (r : Fin 64) (c : Fin 512) :
    out Q N W K V (ix3 0 r c) = accEnd Q N W K V (ix3 0 ⟨64 * (c.val / 64) + r.val, by omega⟩ c) := by
  pointwise [out, k0_pay1, k0_pay23, k0_pay25, k0_pay26, pay24_apply]
  have e : ∀ n : ℕ, n < 8 → ∀ x y : EReal, Scalar.select (IntOp.cmpi .eq (BitVec.ofNat 32 (c.val / 64)) (BitVec.ofNat 32 n)) x y
      = if c.val / 64 = n then x else y := fun n hn x y => by
    rw [WordCmp.cmpi_eq_ofNat (by omega) (by omega), WordCmp.select_ofBool]
    simp only [decide_eq_true_eq]
  have e0 := e 0 (by decide)
  have e1 := e 1 (by decide)
  have e2 := e 2 (by decide)
  have e3 := e 3 (by decide)
  have e4 := e 4 (by decide)
  have e5 := e 5 (by decide)
  have e6 := e 6 (by decide)
  have e7 := e 7 (by decide)
  simp only [e0, e1, e2, e3, e4, e5, e6, e7]
  generalize accEnd Q N W K V = A
  rcases eight c with h | h | h | h | h | h | h | h <;> simp [h]

/-- The stacked queries: head `h`'s rows keep its own columns, scaled. -/
theorem qst_apply (h : Fin 8) (r : Fin 64) (d : Fin 512) :
    qst Q (ix2 ⟨64 * h.val + r.val, by omega⟩ d) = if d.val / 64 = h.val then Q (ix4 0 0 r d) * c8 else 0 := by
  pointwise [qst, k0_pay11, k0_pay7, k0_pay9, k0_pay10, pay8_apply]
  have e : ∀ n : ℕ, n < 8 → ∀ x y : EReal, Scalar.select (IntOp.cmpi .eq (BitVec.ofNat 32 (d.val / 64)) (BitVec.ofNat 32 n)) x y
      = if d.val / 64 = n then x else y := fun n hn x y => by
    rw [WordCmp.cmpi_eq_ofNat (by omega) (by omega), WordCmp.select_ofBool]
    simp only [decide_eq_true_eq]
  have e0 := e 0 (by decide)
  have e1 := e 1 (by decide)
  have e2 := e 2 (by decide)
  have e3 := e 3 (by decide)
  have e4 := e 4 (by decide)
  have e5 := e 5 (by decide)
  have e6 := e 6 (by decide)
  have e7 := e 7 (by decide)
  simp only [e0, e1, e2, e3, e4, e5, e6, e7]
  obtain ⟨h, hh⟩ := h
  obtain ⟨r, hr⟩ := r
  rcases (by omega : h = 0 ∨ h = 1 ∨ h = 2 ∨ h = 3 ∨ h = 4 ∨ h = 5 ∨ h = 6 ∨ h = 7) with rfl | rfl | rfl | rfl | rfl | rfl | rfl | rfl
  · rw [dif_pos (by simp; omega)]
    simp
  · rw [dif_neg (by simp; try omega), dif_pos (by simp; omega)]
    simp
  · rw [dif_neg (by simp; try omega), dif_neg (by simp; try omega), dif_pos (by simp; omega)]
    simp [show 128 + r - 64 - 64 = r by omega]
  · rw [dif_neg (by simp; try omega), dif_neg (by simp; try omega), dif_neg (by simp; try omega), dif_pos (by simp; omega)]
    simp [show 192 + r - 64 - 64 - 64 = r by omega]
  · rw [dif_neg (by simp; try omega), dif_neg (by simp; try omega), dif_neg (by simp; try omega), dif_neg (by simp; try omega), dif_pos (by simp; omega)]
    simp [show 256 + r - 64 - 64 - 64 - 64 = r by omega]
  · rw [dif_neg (by simp; try omega), dif_neg (by simp; try omega), dif_neg (by simp; try omega), dif_neg (by simp; try omega), dif_neg (by simp; try omega), dif_pos (by simp; omega)]
    simp [show 320 + r - 64 - 64 - 64 - 64 - 64 = r by omega]
  · rw [dif_neg (by simp; try omega), dif_neg (by simp; try omega), dif_neg (by simp; try omega), dif_neg (by simp; try omega), dif_neg (by simp; try omega), dif_neg (by simp; try omega), dif_pos (by simp; omega)]
    simp [show 384 + r - 64 - 64 - 64 - 64 - 64 - 64 = r by omega]
  · rw [dif_neg (by simp; try omega), dif_neg (by simp; try omega), dif_neg (by simp; try omega), dif_neg (by simp; try omega), dif_neg (by simp; try omega), dif_neg (by simp; try omega), dif_neg (by simp; try omega)]
    simp [show 448 + r - 64 - 64 - 64 - 64 - 64 - 64 - 64 = r by omega]

/-- A sum over 512 columns of which only head `h`'s 64 count. -/
theorem sum_head (h : Fin 8) (f g : Fin 512 → EReal) :
    (∑ d : Fin 512, (if d.val / 64 = h.val then f d else 0) * g d)
      = ∑ e : Fin 64, f ⟨64 * h.val + e.val, by omega⟩ * g ⟨64 * h.val + e.val, by omega⟩ := by
  rw [← (finProdFinEquiv (m := 8) (n := 64)).sum_comp, Fintype.sum_prod_type, Finset.sum_eq_single h]
  · refine Finset.sum_congr rfl fun e _ => ?_
    have he : (finProdFinEquiv (h, e) : Fin (8 * 64)) = ⟨64 * h.val + e.val, by omega⟩ := Fin.ext (by simp [finProdFinEquiv]; omega)
    rw [he, if_pos (by show (64 * h.val + e.val) / 64 = h.val; omega)]
  · intro a _ ha
    refine Finset.sum_eq_zero fun e _ => ?_
    have hv : (finProdFinEquiv (a, e) : Fin (8 * 64)).val = 64 * a.val + e.val := by simp [finProdFinEquiv]; omega
    rw [if_neg (by rw [hv]; intro hc; exact ha (Fin.ext (by omega))), zero_mul]
  · intro hc; exact absurd (Finset.mem_univ h) hc

/-- Head `h`'s score of new token `r` against key `s`. -/
def zh (h : Fin 8) (r : Fin 64) (s : ℕ) : EReal :=
  (∑ e : Fin 64, Q (ix4 0 0 r ⟨64 * h.val + e.val, by omega⟩) * colAt K N ⟨64 * h.val + e.val, by omega⟩ s) * c8

theorem zrow_qst (h : Fin 8) (r : Fin 64) : zrow (qst Q) K N ⟨64 * h.val + r.val, by omega⟩ = zh Q N K h r := by
  funext s
  rw [zrow, zh, ← sum_scale]
  refine Eq.trans (Finset.sum_congr rfl fun d _ => congrArg (· * _) (qst_apply Q h r d)) ?_
  exact sum_head h (fun d => Q (ix4 0 0 r d) * c8) fun d => colAt K N d s

/-- One element of the staged result: the keys before the token, each with its weight, by one channel of the values. -/
theorem out_apply (r : Fin 64) (c : Fin 512) :
    out Q N W K V (ix3 0 r c)
      = ∑ t ∈ Finset.range (1024 + r.val), wt (zh Q N K ⟨c.val / 64, by omega⟩ r) (1024 + r.val) t * colAt V W c t := by
  have hz := zrow_qst Q N K ⟨c.val / 64, by omega⟩ r
  have hp : pos ⟨64 * (c.val / 64) + r.val, by omega⟩ = 1024 + r.val := by
    show 1024 + (64 * (c.val / 64) + r.val) % 64 = 1024 + r.val
    omega
  rw [out_row, accEnd_apply, hp]
  exact Finset.sum_congr rfl fun t _ => by rw [hz]

end Cert.Proof.SV

end
-- ==== Proof.SV.Final.lean ====
/-
  The sample's idealized stick-breaking attention over the extended reals: its result array, element by element, as a
  function of its three arguments.
-/
module

public import proofs.«01_k».proof.Proof.SI.Run
public import proofs.«01_k».proof.Proof.SV.Head
public import Idealize.ShloMosaic.Lib.Pipeline.ValueKit
public import Idealize.ShloMosaic.Lib.Pointwise

@[expose] public section

noncomputable section

namespace Cert.Proof.SV

open Cert.Kernel12Ideal Cert.Proof.SI
open Cert.Kernel12Ideal.Gen (hostOps0)
open Cert.Proof.V (S wt c8)
open Idealize.ShloMosaic Idealize.ShloMosaic.TcCoe
open Idealize.ShloMosaic.Pipeline

/-- Channel `d` of key or value `s` of batch row `b`: the layer's cache below 1024, the new tokens' columns from `o` on
    after it. -/
def joint (a : Vec Ideal S2x32x1024x8x64 .f32) (p4 : Vec Ideal S2x32x64x4608 .f32) (o : ℕ) (ho : o ≤ 4096) (b : Fin 32) (d : Fin 512) (s : ℕ) : EReal :=
  if s < 1024 then a (ix5 1 b ⟨s % 1024, Nat.mod_lt _ (by decide)⟩ ⟨d.val / 64, by omega⟩ ⟨d.val % 64, Nat.mod_lt _ (by decide)⟩)
  else p4 (ix4 1 b ⟨(s - 1024) % 64, Nat.mod_lt _ (by decide)⟩ ⟨o + d.val, by omega⟩)

/-- The score of new token `r` against key `s` in batch row `b`, head `g`. -/
def score (p4 : Vec Ideal S2x32x64x4608 .f32) (ck : Vec Ideal S2x32x1024x8x64 .f32) (b : Fin 32) (g : Fin 8) (r : Fin 64) (s : ℕ) : EReal :=
  (∑ e : Fin 64, p4 (ix4 1 b r ⟨1536 + (64 * g.val + e.val), by omega⟩)
    * joint ck p4 2048 (by decide) b ⟨64 * g.val + e.val, by omega⟩ s) * c8

/-- One element of the result: the values of the keys before the token's position, each by its weight. -/
def elt (p4 : Vec Ideal S2x32x64x4608 .f32) (ck cv : Vec Ideal S2x32x1024x8x64 .f32) (b : Fin 32) (r : Fin 64) (C : Fin 512) : EReal :=
  ∑ t ∈ Finset.range (1024 + r.val), wt (score p4 ck b ⟨C.val / 64, by omega⟩ r) (1024 + r.val) t * joint cv p4 2560 (by decide) b C t

/-- The whole result. -/
def res (p4 : Vec Ideal S2x32x64x4608 .f32) (ck cv : Vec Ideal S2x32x1024x8x64 .f32) : Vec Ideal S32x64x512 .bf16 :=
  fun x => elt p4 ck cv (x 0) (x 1) (x 2)

variable (m : (ℓ : Loc nD τ sig) → Buf (Elt Ideal) ℓ) (ρ : Dev nD → PrngReg)

/-- An argument array as launched. -/
abbrev arg (c : Dev nD) (b : Ref sig .tc) : Buf (Elt Ideal) ((c : Thread nD τ).loc b) := m ((c : Thread nD τ).loc b)

theorem lt32 (t : Fin (cfg0 (F := Ideal)).N) : t.val < 32 := lt_of_lt_of_eq t.isLt Gen.N_0

/-- Where the block indices of point `t` point. -/
theorem idx0 : ∀ t : Fin grid0.N, win0_0.index t = ![1, t.val, 0, 3] := by decide +kernel
theorem idx1 : ∀ t : Fin grid0.N, win0_1.index t = ![1, t.val, 0, 4] := by decide +kernel
theorem idx2 : ∀ t : Fin grid0.N, win0_2.index t = ![1, t.val, 0, 5] := by decide +kernel
theorem idx3 : ∀ t : Fin grid0.N, win0_3.index t = ![1, t.val, 0, 0] := by decide +kernel
theorem idx4 : ∀ t : Fin grid0.N, win0_4.index t = ![1, t.val, 0, 0] := by decide +kernel
theorem idx5 : ∀ t : Fin grid0.N, win0_5.index t = ![t.val, 0, 0] := by decide +kernel

/-- Point `t`'s queries; -/
theorem blkQ_apply (c : Dev nD) (t : Fin (cfg0 (F := Ideal)).N) (r : Fin 64) (d : Fin 512) :
    blkQ m c t (ix4 0 0 r d) = arg m c main_arg0 (ix4 1 ⟨t.val, lt32 t⟩ r ⟨1536 + d.val, by omega⟩) := by
  show entry m c main_arg0 _ = _
  rw [entry_arg0]
  congr 1
  funext a
  apply Fin.ext
  refine (Window.rect_emb_val win0_0 t (ix4 0 0 r d) a rfl).trans ?_
  rw [idx0 t]
  fin_cases a <;> simp

/-- its new keys; -/
theorem blkN_apply (c : Dev nD) (t : Fin (cfg0 (F := Ideal)).N) (r : Fin 64) (d : Fin 512) :
    blkN m c t (ix4 0 0 r d) = arg m c main_arg0 (ix4 1 ⟨t.val, lt32 t⟩ r ⟨2048 + d.val, by omega⟩) := by
  show entry m c main_arg0 _ = _
  rw [entry_arg0]
  congr 1
  funext a
  apply Fin.ext
  refine (Window.rect_emb_val win0_1 t (ix4 0 0 r d) a rfl).trans ?_
  rw [idx1 t]
  fin_cases a <;> simp

/-- its new values; -/
theorem blkW_apply (c : Dev nD) (t : Fin (cfg0 (F := Ideal)).N) (r : Fin 64) (d : Fin 512) :
    blkW m c t (ix4 0 0 r d) = arg m c main_arg0 (ix4 1 ⟨t.val, lt32 t⟩ r ⟨2560 + d.val, by omega⟩) := by
  show entry m c main_arg0 _ = _
  rw [entry_arg0]
  congr 1
  funext a
  apply Fin.ext
  refine (Window.rect_emb_val win0_2 t (ix4 0 0 r d) a rfl).trans ?_
  rw [idx2 t]
  fin_cases a <;> simp

/-- The caches as the host lays them out: the heads' channels joined, the positions last. -/
theorem entry_v1 (c : Dev nD) (b : Fin 32) (d : Fin 512) (s : Fin 1024) :
    (entry m c main_v1 : Vec Ideal S2x32x512x1024 .f32) (ix4 1 b d s)
      = arg m c main_arg1 (ix5 1 b s ⟨d.val / 64, by omega⟩ ⟨d.val % 64, Nat.mod_lt _ (by decide)⟩) := by
  unfold SI.entry
  entry_read
  pointwise

theorem entry_v3 (c : Dev nD) (b : Fin 32) (d : Fin 512) (s : Fin 1024) :
    (entry m c main_v3 : Vec Ideal S2x32x512x1024 .f32) (ix4 1 b d s)
      = arg m c main_arg2 (ix5 1 b s ⟨d.val / 64, by omega⟩ ⟨d.val % 64, Nat.mod_lt _ (by decide)⟩) := by
  unfold SI.entry
  entry_read
  pointwise

/-- Its cached keys; -/
theorem blkK_apply (c : Dev nD) (t : Fin (cfg0 (F := Ideal)).N) (d : Fin 512) (s : Fin 1024) :
    blkK m c t (ix4 0 0 d s)
      = arg m c main_arg1 (ix5 1 ⟨t.val, lt32 t⟩ s ⟨d.val / 64, by omega⟩ ⟨d.val % 64, Nat.mod_lt _ (by decide)⟩) := by
  refine Eq.trans ?_ (entry_v1 m c ⟨t.val, lt32 t⟩ d s)
  show entry m c main_v1 _ = _
  congr 1
  funext a
  apply Fin.ext
  refine (Window.rect_emb_val win0_3 t (ix4 0 0 d s) a rfl).trans ?_
  rw [idx3 t]
  fin_cases a <;> simp

/-- its cached values; -/
theorem blkV_apply (c : Dev nD) (t : Fin (cfg0 (F := Ideal)).N) (d : Fin 512) (s : Fin 1024) :
    blkV m c t (ix4 0 0 d s)
      = arg m c main_arg2 (ix5 1 ⟨t.val, lt32 t⟩ s ⟨d.val / 64, by omega⟩ ⟨d.val % 64, Nat.mod_lt _ (by decide)⟩) := by
  refine Eq.trans ?_ (entry_v3 m c ⟨t.val, lt32 t⟩ d s)
  show entry m c main_v3 _ = _
  congr 1
  funext a
  apply Fin.ext
  refine (Window.rect_emb_val win0_4 t (ix4 0 0 d s) a rfl).trans ?_
  rw [idx4 t]
  fin_cases a <;> simp

/-- and where its result goes. -/
theorem emb5_apply (t : Fin (cfg0 (F := Ideal)).N) (r : Fin 64) (d : Fin 512) :
    ((win0_5.blk t).view.emb (ix3 0 r d : S1x64x512.Idx) : S32x64x512.Idx) = ix3 ⟨t.val, lt32 t⟩ r d := by
  funext a
  apply Fin.ext
  refine (Window.rect_emb_val win0_5 t (ix3 0 r d) a rfl).trans ?_
  rw [idx5 t]
  fin_cases a <;> simp

/-- The staged keys, cached and new, are the arrays'; -/
theorem colAt_keys (c : Dev nD) (t : Fin (cfg0 (F := Ideal)).N) (d : Fin 512) (s : ℕ) :
    colAt (blkK m c t) (blkN m c t) d s = joint (arg m c main_arg1) (arg m c main_arg0) 2048 (by decide) ⟨t.val, lt32 t⟩ d s := by
  rw [colAt, joint, blkK_apply, blkN_apply]

/-- so are the values. -/
theorem colAt_values (c : Dev nD) (t : Fin (cfg0 (F := Ideal)).N) (d : Fin 512) (s : ℕ) :
    colAt (blkV m c t) (blkW m c t) d s = joint (arg m c main_arg2) (arg m c main_arg0) 2560 (by decide) ⟨t.val, lt32 t⟩ d s := by
  rw [colAt, joint, blkV_apply, blkW_apply]

/-- A head's scores in its staged blocks are its scores in the arrays. -/
theorem zh_blk (c : Dev nD) (t : Fin (cfg0 (F := Ideal)).N) (g : Fin 8) (r : Fin 64) :
    zh (blkQ m c t) (blkN m c t) (blkK m c t) g r = score (arg m c main_arg0) (arg m c main_arg1) ⟨t.val, lt32 t⟩ g r := by
  funext s
  unfold zh score
  congr 1
  refine Finset.sum_congr rfl fun e _ => ?_
  rw [blkQ_apply, colAt_keys]

/-- A staged result's index has a row and a column. -/
theorem idx_blk (y : S1x64x512.Idx) : ∃ (r : Fin 64) (d : Fin 512), y = ix3 0 r d :=
  ⟨y 1, y 2, (eq_ix3 y).trans (congrArg (fun z : Fin 1 => (ix3 z (y 1) (y 2) : S1x64x512.Idx)) (Subsingleton.elim (α := Fin 1) (y 0) 0))⟩

/-- The result array after the run. -/
theorem final_eq (c : Dev nD) :
    (dats m 0 c).arrAt (5 : Fin 6) (cfg0 (F := Ideal)).N = res (arg m c main_arg0) (arg m c main_arg1) (arg m c main_arg2) := by
  refine (dats m 0 c).arrAt_eq_of_covers (5 : Fin 6) _ (by decide +kernel) fun t hf y => ?_
  have hafter : (dats m 0 c).after (5 : Fin 6) t = blkO m c t := rfl
  rw [hafter]
  blk_simp
  have key : ∀ (r : Fin 64) (d : Fin 512), blkO m c t (ix3 0 r d)
      = res (arg m c main_arg0) (arg m c main_arg1) (arg m c main_arg2) ((win0_5.blk t).view.emb (ix3 0 r d : S1x64x512.Idx)) := fun r d => by
    rw [emb5_apply, blkO, out_apply]
    refine Finset.sum_congr rfl fun u _ => ?_
    rw [zh_blk, colAt_values]
    rfl
  obtain ⟨r, d, hy⟩ := idx_blk y
  have hk := key r d
  rw [← hy] at hk
  exact hk

end Cert.Proof.SV

end
-- ==== Proof.PI.Body.lean ====
/-
  The idealized kernel's body: one trip of its loop from the staged arrays, the sixteen trips, and what the
  pipeline asks of the body at each of its points.
-/
module

public import proofs.«01_k».proof.Proof.PI.Sweep
public import proofs.«01_k».proof.Proof.Gen.KernelIdeal.Points
public import proofs.«01_k».proof.Proof.Gen.KernelIdeal.Launch

@[expose] public section

noncomputable section

namespace Cert.Proof.PI

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR nD τ) ℕ

/-! ## One trip -/

/-- The staged result after `n` trips: the first `256n` rows are as computed. -/
def Done (Q : Vec F S1x1x4096x256 .f32) (K V : Vec F S1x1x256x4096 .f32) (n : ℕ) (X : Vec F S1x4096x256 .bf16) : Prop :=
  ∀ y : S1x4096x256.Idx, (y 1).val < 256 * n → X y = out Q K V y

theorem done_step (Q : Vec F S1x1x4096x256 .f32) (K V : Vec F S1x1x256x4096 .f32) (k : Fin k0_t1_loop.trips) (X : Vec F S1x4096x256 .bf16)
    (h : Done Q K V k.val X) :
    Done Q K V (k.val + 1)
      (put X (Rect.unit (s := S1x4096x256) (k0_off5 k) S1x256x256.size (k0_off5_inb k)) (outBlk Q K V k.val)) := by
  have hval : ∀ (x : S1x256x256.Idx) (a : Fin 3),
      ((Rect.unit (s := S1x4096x256) (k0_off5 k) S1x256x256.size (k0_off5_inb k)).emb x a : Nat) = (![0, 256 * k.val, 0] : Fin 3 → ℕ) a + x a := by
    intro x a
    rw [ValueKit.rect_emb_unit_val]; exact congrArg (fun o : Fin 3 → ℕ => o a + (x a).val) (off5_eq k)
  intro y hy
  by_cases hlt : (y 1).val < 256 * k.val
  · rw [put_of_ne]
    · exact h y hlt
    · intro x hx
      have := hval x 1
      rw [hx] at this
      simp at this
      omega
  · have hr : (y 1).val - 256 * k.val < 256 := by omega
    have he : (Rect.unit (s := S1x4096x256) (k0_off5 k) S1x256x256.size (k0_off5_inb k)).emb
        (ix3 (0 : Fin 1) (⟨(y 1).val - 256 * k.val, hr⟩ : Fin 256) (⟨(y 2).val, (y 2).isLt⟩ : Fin 256)) = y := by
      funext a
      refine Fin.ext ?_
      rw [hval]
      match a with
      | ⟨0, _⟩ => have := (y 0).isLt; simp at this ⊢
      | ⟨1, _⟩ => simp; omega
      | ⟨2, _⟩ => simp
    have hp := put_emb X (Rect.unit (s := S1x4096x256) (k0_off5 k) S1x256x256.size (k0_off5_inb k)) (outBlk Q K V k.val)
      (ix3 (0 : Fin 1) (⟨(y 1).val - 256 * k.val, hr⟩ : Fin 256) (⟨(y 2).val, (y 2).isLt⟩ : Fin 256))
    rw [he] at hp
    rw [hp]
    have hd : (y 1).val / 256 = k.val := by omega
    have hm : (y 1).val % 256 = (y 1).val - 256 * k.val := by omega
    simp only [out, hd, hm]

/-- What the loop holds after `n` trips. -/
def loopInv (c : Dev nD) (arg3 : Memref sig .tc .vmem S1x1x4096x256 .f32) (arg4 arg5 : Memref sig .tc .vmem S1x1x256x4096 .f32)
    (arg6 : Memref sig .tc .vmem S1x4096x256 .bf16) (arg7 : Memref sig .tc .vmem S1x1024x128 .f32) (arg8 : Memref sig .tc .vmem S1x1024x256 .f32)
    (Q : Vec F S1x1x4096x256 .f32) (K V : Vec F S1x1x256x4096 .f32) (n : ℕ) (_ : Unit) : sProp 𝕄 :=
  iprop(owns (c : Thread nD τ) arg3 fullShare Q ∗ owns (c : Thread nD τ) arg4 fullShare K ∗ owns (c : Thread nD τ) arg5 fullShare V
    ∗ (∃ X, ⌜Done Q K V n X⌝ ∗ owns (c : Thread nD τ) arg6 fullShare X)
    ∗ (∃ X, owns (c : Thread nD τ) arg7 fullShare X) ∗ (∃ X, owns (c : Thread nD τ) arg8 fullShare X))

set_option maxHeartbeats 2000000 in
/-- One trip. -/
theorem trip_sound (c : Dev nD) (i : grid0.Coords)
    (arg3 : Memref sig .tc .vmem S1x1x4096x256 .f32) (harg3 : arg3.IsWhole) (arg4 : Memref sig .tc .vmem S1x1x256x4096 .f32) (harg4 : arg4.IsWhole)
    (arg5 : Memref sig .tc .vmem S1x1x256x4096 .f32) (harg5 : arg5.IsWhole) (arg6 : Memref sig .tc .vmem S1x4096x256 .bf16) (harg6 : arg6.IsWhole)
    (arg7 : Memref sig .tc .vmem S1x1024x128 .f32) (harg7 : arg7.IsWhole) (arg8 : Memref sig .tc .vmem S1x1024x256 .f32) (harg8 : arg8.IsWhole)
    (Q : Vec F S1x1x4096x256 .f32) (K V : Vec F S1x1x256x4096 .f32) (k : Fin k0_t1_loop.trips) (u : Unit) :
    loopInv c arg3 arg4 arg5 arg6 arg7 arg8 Q K V k.val u
      ⊢ wp frame (wpE (defs₀ (F := F)) 𝒱₀ (c : Thread nD τ) none) Set.univ
          (k0_t1_body i arg3 harg3 arg4 harg4 arg5 harg5 arg6 harg6 arg7 harg7 arg8 harg8 (BitVec.ofNat 32 (i 2).val) k u)
          (loopInv c arg3 arg4 arg5 arg6 arg7 arg8 Q K V (k.val + 1)) := by
  unfold k0_t1_body
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, v6_eq]
  unfold loopInv
  iintro ⟨H3, H4, H5, ⟨%X, %hX, H6⟩, ⟨%cy, H7⟩, ⟨%ac, H8⟩⟩
  iapply (wp_load_owns 𝒱₀ (c : Thread nD τ) none Set.univ arg3 _ Q) $$ H3; iintro H3
  rw [ld_row Q _ k.val (off1_eq k)]
  iapply (wp_load_owns 𝒱₀ (c : Thread nD τ) none Set.univ arg4 _ K) $$ H4; iintro H4
  rw [ld_col K _ (k.val - 1) (off2_eq i k)]
  iapply (wp_load_owns 𝒱₀ (c : Thread nD τ) none Set.univ arg4 _ K) $$ H4; iintro H4
  rw [ld_col K _ k.val (off3_eq i k)]
  iapply (wp_load_owns 𝒱₀ (c : Thread nD τ) none Set.univ arg5 _ V) $$ H5; iintro H5
  rw [ld_col V _ (k.val - 1) (off2_eq i k)]
  iapply (wp_load_owns 𝒱₀ (c : Thread nD τ) none Set.univ arg5 _ V) $$ H5; iintro H5
  rw [ld_col V _ k.val (off3_eq i k)]
  iapply (wp_load_owns 𝒱₀ (c : Thread nD τ) none Set.univ arg8 _ ac) $$ H8; iintro H8
  iapply (wp_store_owns 𝒱₀ (c : Thread nD τ) none Set.univ arg8 _ ac _) $$ H8; iintro H8
  iapply (wp_load_owns 𝒱₀ (c : Thread nD τ) none Set.univ arg7 _ cy) $$ H7; iintro H7
  iapply (wp_store_owns 𝒱₀ (c : Thread nD τ) none Set.univ arg7 _ cy _) $$ H7; iintro H7
  rw [put_full, put_full]
  iapply (wp_call 𝒱₀ (c : Thread nD τ) none Set.univ (k.val - 1) (fun u hu => nomatch hu))
  iapply (wp_sweep c i k arg4 harg4 arg5 harg5 (qst Q k.val) arg7 harg7 arg8 harg8 K V (k.val - 1) _ _ _ _ _ (fits_first k))
  isplitl [H4]; · iexact H4
  isplitl [H5]; · iexact H5
  isplitl [H7]; · iexact H7
  isplitl [H8]; · iexact H8
  iintro %x ⟨H4, H5, ⟨%cy', H7⟩, H8⟩
  iapply (wp_load_owns 𝒱₀ (c : Thread nD τ) none Set.univ arg8 _ _) $$ H8; iintro H8
  rw [ld_full]
  iapply (wp_load_owns 𝒱₀ (c : Thread nD τ) none Set.univ arg6 _ X) $$ H6; iintro H6
  iapply (wp_store_owns 𝒱₀ (c : Thread nD τ) none Set.univ arg6 _ X _) $$ H6; iintro H6
  rw [wp_ret]; imodintro
  isplitl [H3]; · iexact H3
  isplitl [H4]; · iexact H4
  isplitl [H5]; · iexact H5
  isplitl [H6]
  · iexists _
    isplitr
    swap; · iexact H6
    ipureintro
    exact done_step Q K V k X hX
  isplitl [H7]; · iexists _; iexact H7
  iexists _; iexact H8

/-- All sixteen. -/
theorem body_sound (c : Dev nD) (i : grid0.Coords)
    (arg3 : Memref sig .tc .vmem S1x1x4096x256 .f32) (harg3 : arg3.IsWhole) (arg4 : Memref sig .tc .vmem S1x1x256x4096 .f32) (harg4 : arg4.IsWhole)
    (arg5 : Memref sig .tc .vmem S1x1x256x4096 .f32) (harg5 : arg5.IsWhole) (arg6 : Memref sig .tc .vmem S1x4096x256 .bf16) (harg6 : arg6.IsWhole)
    (arg7 : Memref sig .tc .vmem S1x1024x128 .f32) (harg7 : arg7.IsWhole) (arg8 : Memref sig .tc .vmem S1x1024x256 .f32) (harg8 : arg8.IsWhole)
    (Q : Vec F S1x1x4096x256 .f32) (K V : Vec F S1x1x256x4096 .f32) (Ψ : PUnit → sProp 𝕄) :
    iprop(owns (c : Thread nD τ) arg3 fullShare Q ∗ owns (c : Thread nD τ) arg4 fullShare K ∗ owns (c : Thread nD τ) arg5 fullShare V
        ∗ (∃ X, owns (c : Thread nD τ) arg6 fullShare X) ∗ (∃ X, owns (c : Thread nD τ) arg7 fullShare X) ∗ (∃ X, owns (c : Thread nD τ) arg8 fullShare X)
        ∗ ((owns (c : Thread nD τ) arg3 fullShare Q ∗ owns (c : Thread nD τ) arg4 fullShare K ∗ owns (c : Thread nD τ) arg5 fullShare V
            ∗ owns (c : Thread nD τ) arg6 fullShare (out Q K V) ∗ (∃ X, owns (c : Thread nD τ) arg7 fullShare X)
            ∗ (∃ X, owns (c : Thread nD τ) arg8 fullShare X)) -∗ Ψ ⟨⟩))
      ⊢ wp frame (wpE (defs₀ (F := F)) 𝒱₀ (c : Thread nD τ) none) Set.univ
          (cc0_stick_attn_prompt i arg3 harg3 arg4 harg4 arg5 harg5 arg6 harg6 arg7 harg7 arg8 harg8) Ψ := by
  simp only [cc0_stick_attn_prompt_eq_skeleton]; unfold cc0_stick_attn_prompt_skel
  simp only [Prog.pure_eq_ret]
  iintro ⟨H3, H4, H5, ⟨%X, H6⟩, H7, H8, Hk⟩
  iapply (Scf.wp_for_bind frame (wpE (defs₀ (F := F)) 𝒱₀ (c : Thread nD τ) none) Set.univ k0_t1_loop.lb k0_t1_loop.ub k0_t1_loop.st k0_t1_ok _ _
    (loopInv c arg3 arg4 arg5 arg6 arg7 arg8 Q K V)
    (trip_sound c i arg3 harg3 arg4 harg4 arg5 harg5 arg6 harg6 arg7 harg7 arg8 harg8 Q K V)) $$ [H3 H4 H5 H6 H7 H8]
  · unfold loopInv
    isplitl [H3]; · iexact H3
    isplitl [H4]; · iexact H4
    isplitl [H5]; · iexact H5
    isplitl [H6]
    · iexists X
      isplitr
      · ipureintro; intro y hy; exact absurd hy (Nat.not_lt_zero _)
      iexact H6
    isplitl [H7]; · iexact H7
    iexact H8
  iintro %s Hinv
  unfold loopInv
  icases Hinv with ⟨H3, H4, H5, ⟨%X', %hX', H6⟩, H7, H8⟩
  obtain rfl : X' = out Q K V := by
    funext y
    refine hX' y ?_
    rw [show Scf.trips k0_t1_loop.lb k0_t1_loop.ub k0_t1_loop.st = 16 from trips_eq]
    exact (y 1).isLt
  rw [wp_ret]; imodintro
  iapply Hk
  isplitl [H3]; · iexact H3
  isplitl [H4]; · iexact H4
  isplitl [H5]; · iexact H5
  isplitl [H6]; · iexact H6
  isplitl [H7]; · iexact H7
  iexact H8

/-! ## The pipeline's proof data -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The queries', the keys' and the values' blocks of point `t`. -/
def qblk (c : Dev nD) (t : Fin (cfg0 (F := F)).N) : Vec F S1x1x4096x256 .f32 :=
  (win0_0.blk t).view.read (Elt F) ((s₀ m ρ).mem ((c : Thread nD τ).loc main_arg0))
def kblk (c : Dev nD) (t : Fin (cfg0 (F := F)).N) : Vec F S1x1x256x4096 .f32 :=
  (win0_1.blk t).view.read (Elt F) ((s₀ m ρ).mem ((c : Thread nD τ).loc main_arg1))
def vblk (c : Dev nD) (t : Fin (cfg0 (F := F)).N) : Vec F S1x1x256x4096 .f32 :=
  (win0_2.blk t).view.read (Elt F) ((s₀ m ρ).mem ((c : Thread nD τ).loc main_arg2))

/-- The proof data of the pipeline on core `c`: the arrays at their launch contents; after the body the staged
    inputs as fetched and the staged result at `out` of them; the two scratch buffers before and after; nothing owed. -/
def dats (_ : Fin 1) (c : Dev nD) : Dat τ (Elt F) Unit ℕ (UR nD τ) ℕ (cfg0 (F := F)) c where
  A w := (s₀ m ρ).mem (((cfg0 (F := F)).win w).arr.view.loc (c : Thread nD τ))
  after w t := match w with
    | ⟨0, _⟩ => qblk m ρ c t
    | ⟨1, _⟩ => kblk m ρ c t
    | ⟨2, _⟩ => vblk m ρ c t
    | ⟨3, _⟩ => out (qblk m ρ c t) (kblk m ρ c t) (vblk m ρ c t)
  Φ _ := Pipeline.scopedRest spec0 c
  q _ := fullShare
  owed _ := 0

theorem before_0 (c : Dev nD) (t : Fin (cfg0 (F := F)).N) (d) : (dats m ρ 0 c).before (0 : Fin 4) t d = qblk m ρ c t := by
  unfold Dat.before; exact (if_pos (fetch0_0 (F := F) t)).trans rfl
theorem before_1 (c : Dev nD) (t : Fin (cfg0 (F := F)).N) (d) : (dats m ρ 0 c).before (1 : Fin 4) t d = kblk m ρ c t := by
  unfold Dat.before; exact (if_pos (fetch0_1 (F := F) t)).trans rfl
theorem before_2 (c : Dev nD) (t : Fin (cfg0 (F := F)).N) (d) : (dats m ρ 0 c).before (2 : Fin 4) t d = vblk m ρ c t := by
  unfold Dat.before; exact (if_pos (fetch0_2 (F := F) t)).trans rfl

/-- What the pipeline asks of the body. -/
theorem body_obligation (c : Dev nD) : BodyObligation (dats (F := F) m ρ 0 c) (defs₀ (F := F)) 𝒱₀ () Set.univ := fun t => by
  rw [bigSep_W0, bigSep_W0]
  show iprop(Pipeline.scopedRest spec0 c ∗ (dats m ρ 0 c).owesAt () t.castSucc
      ∗ (∃ d, owns (c : Thread nD τ) (win0_0.stage ((cfg0 (F := F)).slots t 0)) fullShare ((dats m ρ 0 c).before (0 : Fin 4) t d))
      ∗ (∃ d, owns (c : Thread nD τ) (win0_1.stage ((cfg0 (F := F)).slots t 1)) fullShare ((dats m ρ 0 c).before (1 : Fin 4) t d))
      ∗ (∃ d, owns (c : Thread nD τ) (win0_2.stage ((cfg0 (F := F)).slots t 2)) fullShare ((dats m ρ 0 c).before (2 : Fin 4) t d))
      ∗ (∃ d, owns (c : Thread nD τ) (win0_3.stage ((cfg0 (F := F)).slots t 3)) fullShare ((dats m ρ 0 c).before (3 : Fin 4) t d)))
    ⊢ wp frame (wpE (defs₀ (F := F)) 𝒱₀ (c : Thread nD τ) none) Set.univ (bodyAt0 t) fun _ =>
      iprop(Pipeline.scopedRest spec0 c ∗ (dats m ρ 0 c).owesAt () t.castSucc
        ∗ owns (c : Thread nD τ) (win0_0.stage ((cfg0 (F := F)).slots t 0)) fullShare (qblk m ρ c t)
        ∗ owns (c : Thread nD τ) (win0_1.stage ((cfg0 (F := F)).slots t 1)) fullShare (kblk m ρ c t)
        ∗ owns (c : Thread nD τ) (win0_2.stage ((cfg0 (F := F)).slots t 2)) fullShare (vblk m ρ c t)
        ∗ owns (c : Thread nD τ) (win0_3.stage ((cfg0 (F := F)).slots t 3)) fullShare (out (qblk m ρ c t) (kblk m ρ c t) (vblk m ρ c t)))
  simp only [before_0, before_1, before_2, scopedRest0_eq]
  iintro ⟨⟨⟨%f7, H7⟩, ⟨%f8, H8⟩⟩, Ho, ⟨%d0, H3⟩, ⟨%d1, H4⟩, ⟨%d2, H5⟩, ⟨%d3, H6⟩⟩
  iapply (body_sound c (grid0.coords t) _ _ _ _ _ _ _ _ (Memref.whole cc0_scratch0) _ (Memref.whole cc0_scratch1) _ (qblk m ρ c t) (kblk m ρ c t) (vblk m ρ c t))
  isplitl [H3]; · iexact H3
  isplitl [H4]; · iexact H4
  isplitl [H5]; · iexact H5
  isplitl [H6]; · iexists _; iexact H6
  simp only [owns_whole_eq]
  isplitl [H7]
  · iexists f7; iexists f7
    isplitr; · (ipureintro; rfl)
    iexact H7
  isplitl [H8]
  · iexists f8; iexists f8
    isplitr; · (ipureintro; rfl)
    iexact H8
  iintro ⟨H3, H4, H5, H6, ⟨%X7, %g7, %e7, H7⟩, ⟨%X8, %g8, %e8, H8⟩⟩
  isplitl [H7 H8]
  · isplitl [H7]
    · iexists g7; iexact H7
    iexists g8; iexact H8
  isplitl [Ho]; · iexact Ho
  isplitl [H3]; · iexact H3
  isplitl [H4]; · iexact H4
  isplitl [H5]; · iexact H5
  iexact H6

end Cert.Proof.PI

end
-- ==== Proof.PI.Run.lean ====
/-
  The idealized kernel's run, for any float values: every fair execution ends, the three arrays it reads are as they
  were, its result array is what the pipeline's write-backs of the staged results make it, every semaphore is at zero.
-/
module

public import proofs.«01_k».proof.Proof.PI.Body
public import Idealize.ShloMosaic.Lib.Pipeline.KitQuiescent

@[expose] public section

noncomputable section

namespace Cert.Proof.PI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR nD τ) ℕ

/-- The ghost algebra's embedding into the machine's. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- The launch's ghost element: every staging cell's owner and a token per transfer. -/
def u₀ : UR nD τ := initOf (Pipeline.cells (cfgs (F := F)) cellOf_inj) (Pipeline.launchToks (cfgs (F := F)) cellOf_inj)

variable (m : (ℓ : Loc nD τ sig) → Buf (Elt F) ℓ) (ρ : Dev nD → PrngReg)

theorem share_eq (c : Dev nD) (w : Fin (cfg0 (F := F)).W) : (dats m ρ 0 c).share w = fullShare := by
  unfold Dat.share; split <;> rfl

theorem phi_in (c : Dev nD) : iprop(emp ∗ Pipeline.scopedRest spec0 c) ⊢ (dats m ρ 0 c).Φ 0 := by
  rw [show (dats m ρ 0 c).Φ 0 = Pipeline.scopedRest spec0 c from rfl]
  iintro ⟨-, H⟩; iexact H

theorem phi_out (c : Dev nD) : (dats m ρ 0 c).Φ (Fin.last (cfg0 (F := F)).N) ⊢ iprop(emp ∗ Pipeline.scopedRest spec0 c) := by
  rw [show (dats m ρ 0 c).Φ (Fin.last (cfg0 (F := F)).N) = Pipeline.scopedRest spec0 c from rfl]
  iintro H; isplitr; · iempintro
  iexact H

/-- The arrays after the run. -/
def finalA (c : Dev nD) (w : Fin (cfg0 (F := F)).W) : Buf (Elt F) (((cfg0 (F := F)).win w).arr.view.loc (c : Thread nD τ)) :=
  (dats m ρ 0 c).arrAt w (cfg0 (F := F)).N

theorem run_main : θ_run defs (onTc (τ := τ) (main (F := F))) (s₀ m ρ) (fun r =>
    (∀ (c : Dev nD) (w : Fin (cfg0 (F := F)).W), r.2.mem (((cfg0 (F := F)).win w).arr.view.loc (c : Thread nD τ)) = finalA m ρ c w)
      ∧ r.2.sem = fun _ => 0) :=
  Pipeline.θ_run_region_noSem_kit_quiescent cfgs (dats m ρ) () (0 : Fin 1) launch0 EP defs₀ 𝒱₀ m ρ main
    (hbody := body_obligation m ρ) (hshare := share_eq m ρ) (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := phi_in m ρ) (hout := phi_out m ρ)
    (QY := fun _ _ => True)
    (hY := fun c s' => by
      iintro ⟨-, -, HSI⟩; imodintro
      isplitr; · ipureintro; trivial
      iexact HSI)
    (hQ := fun _ h hz => ⟨fun c w => (h c).1 w, hz⟩)

/-- The three arrays it reads hold what they held. -/
theorem finalA_0 (c : Dev nD) : finalA m ρ c (0 : Fin 4) = m ((c : Thread nD τ).loc main_arg0) :=
  (dats (F := F) m ρ 0 c).arrAt_in (0 : Fin 4) rfl _
theorem finalA_1 (c : Dev nD) : finalA m ρ c (1 : Fin 4) = m ((c : Thread nD τ).loc main_arg1) :=
  (dats (F := F) m ρ 0 c).arrAt_in (1 : Fin 4) rfl _
theorem finalA_2 (c : Dev nD) : finalA m ρ c (2 : Fin 4) = m ((c : Thread nD τ).loc main_arg2) :=
  (dats (F := F) m ρ 0 c).arrAt_in (2 : Fin 4) rfl _

/-- The run, as the claims state it: the result array named, the arguments unchanged, the semaphores at zero. -/
theorem run_named : θ_run defs (onTc (τ := τ) (main (F := F))) ⟨m, fun _ => 0, ρ⟩ (fun r =>
    (∀ c : Dev nD, r.2.mem ((c : Thread nD τ).loc main_v0) = finalA m ρ c (3 : Fin 4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs (onTc (τ := τ) (main (F := F))) ⟨m, fun _ => 0, ρ⟩).mono
    (fun _ h => ⟨fun c => ⟨h.1 c (3 : Fin 4), (h.1 c (0 : Fin 4)).trans (finalA_0 m ρ c), (h.1 c (1 : Fin 4)).trans (finalA_1 m ρ c),
      (h.1 c (2 : Fin 4)).trans (finalA_2 m ρ c)⟩, h.2⟩) (run_main m ρ)

end Cert.Proof.PI

end
-- ==== Proof.V.Final.lean ====
/-
  The idealized kernel's result array over the extended reals, element by element, as a function of the three arrays it
  reads.
-/
module

public import proofs.«01_k».proof.Proof.PI.Run
public import proofs.«01_k».proof.Proof.V.Head
public import Idealize.ShloMosaic.Lib.Pipeline.ValueKit

@[expose] public section

noncomputable section

namespace Cert.Proof.V

open Cert.KernelIdeal Cert.KernelIdeal.Gen Cert.Proof.PI
open Idealize.ShloMosaic Idealize.ShloMosaic.TcCoe
open Idealize.ShloMosaic.Pipeline

/-- The score of query `p` against key `s` in batch row `b`, head `g`, from the arrays the projections write. -/
def score (a0 : Vec Ideal S2x4x4096x2048 .f32) (a1 : Vec Ideal S2x4x512x4096 .f32) (b : Fin 4) (g : Fin 8) (p : Fin 4096) (s : ℕ) : EReal :=
  (∑ e : Fin 64, a0 (ix4 1 b p ⟨512 + 64 * g.val + e.val, by omega⟩)
    * a1 (ix4 1 b ⟨64 * g.val + e.val, by omega⟩ ⟨s % 4096, Nat.mod_lt _ (by decide)⟩)) * c8

/-- One element of the attention's result: the values of the keys before `p`, each by its weight. -/
def elt (a0 : Vec Ideal S2x4x4096x2048 .f32) (a1 a2 : Vec Ideal S2x4x512x4096 .f32) (b : Fin 4) (p : Fin 4096) (C : Fin 512) : EReal :=
  ∑ t ∈ Finset.range p.val, wt (score a0 a1 b ⟨C.val / 64, by omega⟩ p) p.val t * a2 (ix4 1 b C ⟨t % 4096, Nat.mod_lt _ (by decide)⟩)

/-- The whole result. -/
def res (a0 : Vec Ideal S2x4x4096x2048 .f32) (a1 a2 : Vec Ideal S2x4x512x4096 .f32) : Vec Ideal S4x4096x512 .bf16 :=
  fun x => elt a0 a1 a2 (x 0) (x 1) (x 2)

variable (m : (ℓ : Loc nD τ sig) → Buf (Elt Ideal) ℓ) (ρ : Dev nD → PrngReg)

theorem lt8 (t : Fin (cfg0 (F := Ideal)).N) : t.val < 8 := t.isLt

/-- Where the block indices of point `t` point. -/
theorem idx0 : ∀ t : Fin grid0.N, win0_0.index t = ![1, t.val / 2, 0, 2 + t.val % 2] := by decide +kernel
theorem idx1 : ∀ t : Fin grid0.N, win0_1.index t = ![1, t.val / 2, t.val % 2, 0] := by decide +kernel
theorem idx2 : ∀ t : Fin grid0.N, win0_2.index t = ![1, t.val / 2, t.val % 2, 0] := by decide +kernel
theorem idx3 : ∀ t : Fin grid0.N, win0_3.index t = ![t.val / 2, 0, t.val % 2] := by decide +kernel

/-- Point `t`'s queries; -/
theorem qblk_apply (c : Dev nD) (t : Fin (cfg0 (F := Ideal)).N) (p : Fin 4096) (d : Fin 256) :
    (qblk m ρ c t : Vec Ideal S1x1x4096x256 .f32) (ix4 0 0 p d)
      = m ((c : Thread nD τ).loc main_arg0) (ix4 1 ⟨t.val / 2, by have := lt8 t; omega⟩ p ⟨(2 + t.val % 2) * 256 + d.val, by omega⟩) := by
  show m ((c : Thread nD τ).loc main_arg0) _ = _
  congr 1
  funext a
  apply Fin.ext
  have h := congrFun (idx0 t) a
  refine (Window.rect_emb_val win0_0 t (ix4 0 0 p d) a rfl).trans ?_
  rw [h]
  fin_cases a <;> simp

/-- its keys; -/
theorem kblk_apply (c : Dev nD) (t : Fin (cfg0 (F := Ideal)).N) (d : Fin 256) (s : Fin 4096) :
    (kblk m ρ c t : Vec Ideal S1x1x256x4096 .f32) (ix4 0 0 d s)
      = m ((c : Thread nD τ).loc main_arg1) (ix4 1 ⟨t.val / 2, by have := lt8 t; omega⟩ ⟨t.val % 2 * 256 + d.val, by omega⟩ s) := by
  show m ((c : Thread nD τ).loc main_arg1) _ = _
  congr 1
  funext a
  apply Fin.ext
  have h := congrFun (idx1 t) a
  refine (Window.rect_emb_val win0_1 t (ix4 0 0 d s) a rfl).trans ?_
  rw [h]
  fin_cases a <;> simp

/-- its values; -/
theorem vblk_apply (c : Dev nD) (t : Fin (cfg0 (F := Ideal)).N) (d : Fin 256) (s : Fin 4096) :
    (vblk m ρ c t : Vec Ideal S1x1x256x4096 .f32) (ix4 0 0 d s)
      = m ((c : Thread nD τ).loc main_arg2) (ix4 1 ⟨t.val / 2, by have := lt8 t; omega⟩ ⟨t.val % 2 * 256 + d.val, by omega⟩ s) := by
  show m ((c : Thread nD τ).loc main_arg2) _ = _
  congr 1
  funext a
  apply Fin.ext
  have h := congrFun (idx2 t) a
  refine (Window.rect_emb_val win0_2 t (ix4 0 0 d s) a rfl).trans ?_
  rw [h]
  fin_cases a <;> simp

/-- and where its result goes. -/
theorem emb3_apply (t : Fin (cfg0 (F := Ideal)).N) (p : Fin 4096) (d : Fin 256) :
    ((win0_3.blk t).view.emb (ix3 0 p d : S1x4096x256.Idx) : S4x4096x512.Idx)
      = ix3 ⟨t.val / 2, by have := lt8 t; omega⟩ p ⟨t.val % 2 * 256 + d.val, by omega⟩ := by
  funext a
  apply Fin.ext
  have h := congrFun (idx3 t) a
  refine (Window.rect_emb_val win0_3 t (ix3 0 p d) a rfl).trans ?_
  rw [h]
  fin_cases a <;> simp

/-- A head's scores in its staged blocks are its scores in the arrays. -/
theorem zh_blk (c : Dev nD) (t : Fin (cfg0 (F := Ideal)).N) (p : Fin 4096) (d : Fin 256) :
    zh (qblk m ρ c t) (kblk m ρ c t) ⟨d.val / 64, by omega⟩ p
      = score (m ((c : Thread nD τ).loc main_arg0)) (m ((c : Thread nD τ).loc main_arg1)) ⟨t.val / 2, by have := lt8 t; omega⟩
          ⟨(t.val % 2 * 256 + d.val) / 64, by omega⟩ p := by
  funext s
  unfold zh score
  congr 1
  refine Finset.sum_congr rfl fun e _ => ?_
  rw [qblk_apply, kblk_apply]
  congr 3 <;> apply Fin.ext <;> simp only <;> omega

/-- A staged result's index has a row and a column. -/
theorem idx_blk (y : S1x4096x256.Idx) : ∃ (p : Fin 4096) (d : Fin 256), y = ix3 0 p d :=
  ⟨y 1, y 2, (eq_ix3 y).trans (congrArg (fun z : Fin 1 => (ix3 z (y 1) (y 2) : S1x4096x256.Idx)) (Subsingleton.elim (α := Fin 1) (y 0) 0))⟩

/-- The result array after the run. -/
theorem final_eq (c : Dev nD) :
    finalA m ρ c (3 : Fin 4) = res (m ((c : Thread nD τ).loc main_arg0)) (m ((c : Thread nD τ).loc main_arg1)) (m ((c : Thread nD τ).loc main_arg2)) := by
  refine (dats m ρ 0 c).arrAt_eq_of_covers (3 : Fin 4) _ (by decide +kernel) fun t hf y => ?_
  have hafter : (dats m ρ 0 c).after (3 : Fin 4) t = out (qblk m ρ c t) (kblk m ρ c t) (vblk m ρ c t) := rfl
  rw [hafter]
  blk_simp
  have key : ∀ (p : Fin 4096) (d : Fin 256), out (qblk m ρ c t) (kblk m ρ c t) (vblk m ρ c t) (ix3 0 p d)
      = res (m ((c : Thread nD τ).loc main_arg0)) (m ((c : Thread nD τ).loc main_arg1)) (m ((c : Thread nD τ).loc main_arg2))
          ((win0_3.blk t).view.emb (ix3 0 p d : S1x4096x256.Idx)) := fun p d => by
    rw [emb3_apply, out_apply]
    refine Finset.sum_congr rfl fun u _ => ?_
    rw [zh_blk, vrow, vblk_apply]
    rfl
  obtain ⟨p, d, hy⟩ := idx_blk y
  have hk := key p d
  rw [← hy] at hk
  exact hk

end Cert.Proof.V
-- ==== Proof.V.Ref.lean ====
/-
  The reference's result over the extended reals, element by element: the same sum of weighted values.
-/
module

public import proofs.«01_k».proof.Proof.Window
public import proofs.«01_k».proof.Proof.Gen.ReferenceIdeal.Read
public import proofs.«01_k».proof.Proof.V.Final

@[expose] public section

noncomputable section

namespace Cert.Proof.V

open Cert.ReferenceIdeal Cert.ReferenceIdeal.Read
open Idealize.ShloMosaic
open Cert.Proof.Window

variable (a0 : Vec Ideal S2x4x4096x2048 .f32) (a1 a2 : Vec Ideal S2x4x512x4096 .f32)

/-- The scores. -/
theorem v15_apply (b : Fin 4) (g : Fin 8) (p s : Fin 4096) : val_main_v15 a0 a1 (ix4 b g p s) = score a0 a1 b g p s.val := by
  pointwise [val_main_v15, val_main_v14, val_main_v13, val_main_v3, val_main_v2, val_main_v1, val_main_v0, val_main_v7, val_main_v6, val_main_v5, val_main_v4, val_main_cst]
  unfold score
  congr 1
  refine Finset.sum_congr rfl fun e _ => ?_
  congr 3 <;> apply Fin.ext <;> simp only <;> omega

/-- The negated softplus as it is printed, of a number that is itself. -/
theorem softplus (x : EReal) : (-if x ≠ x then x else max x 0 + Ideal.log1p (Ideal.exp (-max x (-x)))) = -(max x 0 + lg x) := by
  rw [if_neg (by simp), Ideal.log1p, lg, zero_sub]

/-- The log-keeps; -/
theorem v23_apply (i : S4x8x4096x4096.Idx) : val_main_v23 a0 a1 i = keepF (val_main_v15 a0 a1 i) := by
  pointwise [val_main_v23, val_main_call0_v1, val_main_v22, val_main_call0_v0,  val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst]
  refine (softplus _).trans ?_
  rw [neg_neg, keepF, zero_sub]

/-- the log-takes; -/
theorem v30_apply (i : S4x8x4096x4096.Idx) : val_main_v30 a0 a1 i = takeF (val_main_v15 a0 a1 i) := by
  pointwise [val_main_v30, val_main_call3_v1, val_main_call3_v0,  val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_call0_cst]
  refine (softplus _).trans ?_
  rw [lg_neg, takeF_eq]

/-- (the zeros the two masks put elsewhere) -/
theorem v24_else : val_main_call1_v0 (F := Ideal) ix0 = (0 : EReal) := Ideal.ofBits_zero_f32

theorem v33_else : val_main_call4_v0 (F := Ideal) ix0 = (0 : EReal) := Ideal.ofBits_zero_f32

/-- the log-keeps of the keys before the query; -/
theorem v24_apply (b : Fin 4) (g : Fin 8) (p s : Fin 4096) :
    val_main_v24 a0 a1 (ix4 b g p s) = if s.val < p.val then keepF (score a0 a1 b g p s.val) else 0 := by
  pointwise [val_main_v24, v24_else, val_main_call1_v1, val_main_call1_v2, val_main_v21, val_main_v20, val_main_v19, val_main_v18, val_main_v17, val_main_v16, val_main_v12, v23_apply, v15_apply]
  rw [WordCmp.cmpi_slt_ofNat (by omega) (by omega), WordCmp.select_ofBool]
  simp only [decide_eq_true_eq]

/-- The sums of log-keeps from a key on; -/
theorem v25_apply (b : Fin 4) (g : Fin 8) (p s : Fin 4096) :
    val_main_v25 a0 a1 (ix4 b g p s) = S (score a0 a1 b g p) s.val p.val := by
  have h0 : val_main_call2_v0 (F := Ideal) (Shape.Idx.first Gen.h_S_) = (0 : EReal) := by
    pointwise [val_main_call2_v0, val_main_call2_cst]
  unfold val_main_v25 Host.reduceWindowAdd
  rw [Ideal.hostReduceWindowAdd_def, h0, window_apply]
  have hsum : (∑ k : Fin 4096, if s.val + k.val < p.val then keepF (score a0 a1 b g p (s.val + k.val)) else 0)
      = S (score a0 a1 b g p) s.val p.val := by
    have h := sum_block (fun t => if t < p.val then keepF (score a0 a1 b g p t) else 0) s.val 4096
    rw [h, ← Finset.sum_filter]
    refine Finset.sum_congr ?_ fun _ _ => rfl
    ext t; simp only [Finset.mem_filter, Finset.mem_Ico]; omega
  rw [← hsum]
  refine Finset.sum_congr rfl fun k _ => ?_
  unfold rest
  by_cases hk : s.val + k.val < 4096
  · rw [dif_pos hk, v24_apply]
  · rw [dif_neg hk, if_neg (by omega)]

/-- after it. -/
theorem v29_apply (b : Fin 4) (g : Fin 8) (p s : Fin 4096) :
    val_main_v29 a0 a1 (ix4 b g p s) = S (score a0 a1 b g p) (s.val + 1) p.val := by
  pointwise [val_main_v29, val_main_v28, val_main_v26, val_main_cst_1, v25_apply]
  by_cases h : s.val < 4095
  · rw [dif_pos h, add_comm]
  · rw [dif_neg h, S, Finset.Ico_eq_empty (by omega), Finset.sum_empty]

/-- The reference's result, element by element: the same function of the three arrays. -/
theorem v37_apply (b : Fin 4) (p : Fin 4096) (C : Fin 512) : val_main_v37 a0 a1 a2 (ix3 b p C) = elt a0 a1 a2 b p C := by
  pointwise [val_main_v37, val_main_v36, val_main_v35, val_main_v34, val_main_v33, val_main_v32, val_main_v31, v30_apply, v15_apply, v29_apply, v33_else, val_main_call4_v1, val_main_call4_v2, val_main_v21, val_main_v20, val_main_v19, val_main_v18, val_main_v17, val_main_v16, val_main_v12,val_main_v11, val_main_v10, val_main_v9, val_main_v8]
  have h := sum_below (fun t => wt (score a0 a1 b ⟨C.val / 64, by omega⟩ p) p.val t * a2 (ix4 1 b C ⟨t % 4096, Nat.mod_lt _ (by decide)⟩))
    0 4096 p.val p.isLt.le
  unfold elt
  rw [Finset.range_eq_Ico]
  rw [zero_add] at h
  rw [← h]
  refine Finset.sum_congr rfl fun t _ => ?_
  rw [WordCmp.cmpi_slt_ofNat (by omega) (by omega), WordCmp.select_ofBool]
  simp only [decide_eq_true_eq, zero_add, Nat.mod_eq_of_lt t.isLt]
  by_cases ht : t.val < p.val
  · rw [if_pos ht, if_pos ht, wt, mul_comm]
  · rw [if_neg ht, if_neg ht]

/-- The reference's result array. -/
theorem v37_eq : val_main_v37 a0 a1 a2 = res a0 a1 a2 :=
  funext fun x => (congrArg (val_main_v37 a0 a1 a2) (eq_ix3 x)).trans (v37_apply a0 a1 a2 (x 0) (x 1) (x 2))

end Cert.Proof.V
-- ==== Proof.SV.Ref.lean ====
/-
  The reference of the sample's stick-breaking attention over the extended reals, element by element: the same sum of
  weighted values.
-/
module

public import proofs.«01_k».proof.Proof.Window
public import proofs.«01_k».proof.Proof.Gen.Reference12Ideal.Read
public import proofs.«01_k».proof.Proof.SV.Final
public import proofs.«01_k».proof.Proof.V.Ref

@[expose] public section

noncomputable section

namespace Cert.Proof.SV

open Cert.Reference12Ideal Cert.Reference12Ideal.Read
open Cert.Proof.V (S wt takeF keepF lg lg_neg takeF_eq sum_block sum_below softplus)
open Idealize.ShloMosaic
open Cert.Proof.Window

variable (p4 : Vec Ideal S2x32x64x4608 .f32) (ck cv : Vec Ideal S2x32x1024x8x64 .f32)

/-- The new tokens' queries, by head. -/
theorem v3_apply (b : Fin 32) (r : Fin 64) (g : Fin 8) (e : Fin 64) :
    val_main_v3 p4 (ix4 b r g e) = p4 (ix4 1 b r ⟨1536 + (64 * g.val + e.val), by omega⟩) := by
  pointwise [val_main_v3, val_main_v2, val_main_v1, val_main_v0]
  congr 2 <;> apply Fin.ext <;> simp only <;> omega

/-- Cached and new keys, one after the other; -/
theorem v18_apply (b : Fin 32) (s : Fin 1088) (g : Fin 8) (e : Fin 64) :
    val_main_v18 p4 ck (ix4 b s g e) = joint ck p4 2048 (by decide) b ⟨64 * g.val + e.val, by omega⟩ s.val := by
  pointwise [val_main_v18, val_main_v17, val_main_v16, val_main_v7, val_main_v6, val_main_v5, val_main_v4]
  unfold joint
  by_cases h : s.val < 1024
  · rw [dif_pos h, if_pos h]
    congr 2 <;> apply Fin.ext <;> simp only <;> omega
  · rw [dif_neg h, if_neg h]
    congr 2 <;> apply Fin.ext <;> simp only <;> omega

/-- the values alike. -/
theorem v21_apply (b : Fin 32) (s : Fin 1088) (g : Fin 8) (e : Fin 64) :
    val_main_v21 p4 cv (ix4 b s g e) = joint cv p4 2560 (by decide) b ⟨64 * g.val + e.val, by omega⟩ s.val := by
  pointwise [val_main_v21, val_main_v20, val_main_v19, val_main_v11, val_main_v10, val_main_v9, val_main_v8]
  unfold joint
  by_cases h : s.val < 1024
  · rw [dif_pos h, if_pos h]
    congr 2 <;> apply Fin.ext <;> simp only <;> omega
  · rw [dif_neg h, if_neg h]
    congr 2 <;> apply Fin.ext <;> simp only <;> omega

/-- The scores. -/
theorem v24_apply (b : Fin 32) (g : Fin 8) (r : Fin 64) (s : Fin 1088) : val_main_v24 p4 ck (ix4 b g r s) = score p4 ck b g r s.val := by
  pointwise [val_main_v24, val_main_v23, val_main_v22, val_main_cst, v3_apply, v18_apply]
  rfl

/-- The mask: the keys before the token's position. -/
theorem v30_apply (r : Fin 64) (s : Fin 1088) : val_main_v30 (F := Ideal) (ix4 0 0 r s) = BitVec.ofBool (decide (s.val < 1024 + r.val)) := by
  pointwise [val_main_v30, val_main_v29, val_main_v28, val_main_v27, val_main_v26, val_main_v25, val_main_v15, val_main_v14, val_main_v13, val_main_v12, val_main_c]
  have h : IntOp.addi (1024#32) (BitVec.ofNat 32 r.val) = BitVec.ofNat 32 (1024 + r.val) := (BitVec.ofNat_add 1024 r.val).symm
  rw [h, WordCmp.cmpi_slt_ofNat (by omega) (by omega)]

/-- The log-keeps; -/
theorem v32_apply (i : S32x8x64x1088.Idx) : val_main_v32 p4 ck i = keepF (val_main_v24 p4 ck i) := by
  pointwise [val_main_v32, val_main_call0_v1, val_main_v31, val_main_call0_v0,  val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst]
  refine (softplus _).trans ?_
  rw [neg_neg, keepF, zero_sub]

/-- the log-takes; -/
theorem v39_apply (i : S32x8x64x1088.Idx) : val_main_v39 p4 ck i = takeF (val_main_v24 p4 ck i) := by
  pointwise [val_main_v39, val_main_call3_v1, val_main_call3_v0,  val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_call0_cst]
  refine (softplus _).trans ?_
  rw [lg_neg, takeF_eq]

/-- (the zeros the two masks put elsewhere) -/
theorem v33_else : val_main_call1_v0 (F := Ideal) ix0 = (0 : EReal) := Ideal.ofBits_zero_f32

theorem v42_else : val_main_call4_v0 (F := Ideal) ix0 = (0 : EReal) := Ideal.ofBits_zero_f32

/-- the log-keeps of the keys before the query; -/
theorem v33_apply (b : Fin 32) (g : Fin 8) (r : Fin 64) (s : Fin 1088) :
    val_main_v33 p4 ck (ix4 b g r s) = if s.val < (1024 + r.val) then keepF (score p4 ck b g r s.val) else 0 := by
  pointwise [val_main_v33, v33_else, val_main_call1_v1, val_main_call1_v2, v30_apply, v32_apply, v24_apply]

/-- The sums of log-keeps from a key on; -/
theorem v34_apply (b : Fin 32) (g : Fin 8) (r : Fin 64) (s : Fin 1088) :
    val_main_v34 p4 ck (ix4 b g r s) = S (score p4 ck b g r) s.val (1024 + r.val) := by
  have h0 : val_main_call2_v0 (F := Ideal) (Shape.Idx.first Gen.h_S_) = (0 : EReal) := by
    pointwise [val_main_call2_v0, val_main_call2_cst]
  unfold val_main_v34 Host.reduceWindowAdd
  rw [Ideal.hostReduceWindowAdd_def, h0, window_apply]
  have hsum : (∑ k : Fin 1088, if s.val + k.val < (1024 + r.val) then keepF (score p4 ck b g r (s.val + k.val)) else 0)
      = S (score p4 ck b g r) s.val (1024 + r.val) := by
    have h := sum_block (fun t => if t < (1024 + r.val) then keepF (score p4 ck b g r t) else 0) s.val 1088
    rw [h, ← Finset.sum_filter]
    refine Finset.sum_congr ?_ fun _ _ => rfl
    ext t; simp only [Finset.mem_filter, Finset.mem_Ico]; omega
  rw [← hsum]
  refine Finset.sum_congr rfl fun k _ => ?_
  unfold rest
  by_cases hk : s.val + k.val < 1088
  · rw [dif_pos hk, v33_apply]
  · rw [dif_neg hk, if_neg (by omega)]

/-- after it. -/
theorem v38_apply (b : Fin 32) (g : Fin 8) (r : Fin 64) (s : Fin 1088) :
    val_main_v38 p4 ck (ix4 b g r s) = S (score p4 ck b g r) (s.val + 1) (1024 + r.val) := by
  pointwise [val_main_v38, val_main_v37, val_main_v35, val_main_cst_1, v34_apply]
  by_cases h : s.val < 1087
  · rw [dif_pos h, add_comm]
  · rw [dif_neg h, S, Finset.Ico_eq_empty (by omega), Finset.sum_empty]

/-- The reference's result, element by element: the same function of the three arrays. -/
theorem v46_apply (b : Fin 32) (r : Fin 64) (C : Fin 512) : val_main_v46 p4 ck cv (ix3 b r C) = elt p4 ck cv b r C := by
  pointwise [val_main_v46, val_main_v45, val_main_v44, val_main_v43, val_main_v42, val_main_v41, val_main_v40, v39_apply, v24_apply, v38_apply, v42_else, val_main_call4_v1, val_main_call4_v2, v30_apply, v21_apply]
  have h := sum_below (fun t => wt (score p4 ck b ⟨C.val / 64, by omega⟩ r) (1024 + r.val) t * joint cv p4 2560 (by decide) b C t)
    0 1088 (1024 + r.val) (by omega)
  unfold elt
  rw [Finset.range_eq_Ico]
  rw [zero_add] at h
  rw [← h]
  refine Finset.sum_congr rfl fun t _ => ?_
  simp only [zero_add]
  have hC : (⟨64 * (C.val / 64) + C.val % 64, by omega⟩ : Fin 512) = C := Fin.ext (by show 64 * (C.val / 64) + C.val % 64 = C.val; omega)
  rw [hC]
  by_cases ht : t.val < 1024 + r.val
  · rw [if_pos ht, if_pos ht, wt, mul_comm]
  · rw [if_neg ht, if_neg ht, mul_zero]

/-- The reference's result array. -/
theorem v46_eq : val_main_v46 p4 ck cv = res p4 ck cv :=
  funext fun x => (congrArg (val_main_v46 p4 ck cv) (eq_ix3 x)).trans (v46_apply p4 ck cv (x 0) (x 1) (x 2))

end Cert.Proof.SV
-- ==== Proof.Row.lean ====
/-
  A row divided by its root mean square: the norm both the merge and the conv feed-forward put in front of their matrices.
-/
module

public import Idealize.ShloMosaic.PureOps.Ideal

@[expose] public section

noncomputable section

namespace Cert.Proof

open Idealize.ShloMosaic

/-- A row's norm-scaled element: `x k / rms(x) * g k`. -/
def nrm (x g : Fin 1024 → EReal) (k : Fin 1024) : EReal :=
  x k * Ideal.rsqrt (Ideal.div (∑ j, x j * x j) (Ideal.ofBits FTy.f32 1149239296#32) + Ideal.ofBits FTy.f32 897988541#32) * g k

end Cert.Proof
-- ==== Proof.M.Value.lean ====
/-
  The gated merge: what the idealized kernel's result array holds, element by element.
-/
module

public import proofs.«01_k».proof.Proof.Gen.Kernel2Ideal.Frame
public import proofs.«01_k».proof.Proof.Gen.Kernel2Ideal.Value
public import proofs.«01_k».proof.Proof.Row
public import Idealize.ShloMosaic.Lib.Pipeline.ValueKit
public import Idealize.ShloMosaic.Lib.Pointwise

@[expose] public section

set_option maxRecDepth 16384

noncomputable section

namespace Cert.Proof.M

open Cert.Kernel2Ideal Cert.Kernel2Ideal.Gen
open Idealize.ShloMosaic Idealize.ShloMosaic.TcCoe
open Idealize.ShloMosaic.Pipeline

/-- One branch's share of the merged row: the branch's projection under the logistic gate of the normed row. -/
def branch (n : Fin 1024 → EReal) (o : Fin 512 → EReal) (w : Fin 1024 → Fin 1024 → EReal) (b : Fin 1024 → EReal)
    (p : Fin 512 → Fin 1024 → EReal) (x : Fin 1024) : EReal :=
  Ideal.div (∑ j, o j * p j x) (1 + Ideal.exp (-(∑ k, n k * w k x + b x)))

/-- One element of the merge: the row, plus the three gated branches through the output projection. -/
def mrow (x g : Fin 1024 → EReal) (o0 o1 o2 : Fin 512 → EReal) (w0 w1 w2 : Fin 1024 → Fin 1024 → EReal)
    (b : Fin 3 → Fin 1024 → EReal) (p : Fin 3 → Fin 512 → Fin 1024 → EReal) (wo : Fin 1024 → Fin 1024 → EReal) (d : Fin 1024) : EReal :=
  x d + ∑ e, (branch (nrm x g) o0 w0 (b 0) (p 0) e + branch (nrm x g) o1 w1 (b 1) (p 1) e
    + branch (nrm x g) o2 w2 (b 2) (p 2) e) * wo e d

/-- What the body leaves in its output block. -/
theorem out_apply (x0 : Vec Ideal S512x1024 .f32) (x1 x2 x3 : Vec Ideal S512x512 .bf16) (x4 : Vec Ideal S1x1024 .f32)
    (x5 : Vec Ideal S1024x3072 .bf16) (x6 : Vec Ideal S3x1024 .f32) (x7 : Vec Ideal S3x512x1024 .bf16) (x8 : Vec Ideal S1024x1024 .bf16)
    (r : Fin 512) (d : Fin 1024) :
    out0_9 x0 x1 x2 x3 x4 x5 x6 x7 x8 (ix2 r d) = mrow (fun k => x0 (ix2 r k)) (fun k => x4 (ix2 0 k))
      (fun j => x1 (ix2 r j)) (fun j => x2 (ix2 r j)) (fun j => x3 (ix2 r j))
      (fun k e => x5 (ix2 k ⟨e.val, by omega⟩)) (fun k e => x5 (ix2 k ⟨1024 + e.val, by omega⟩)) (fun k e => x5 (ix2 k ⟨2048 + e.val, by omega⟩))
      (fun n e => x6 (ix2 n e)) (fun n j e => x7 (ix3 n j e)) (fun e d => x8 (ix2 e d)) d := by
  frame_out
  pointwise [k0_pay1, k0_pay2, k0_pay3, k0_pay4, k0_pay5, k0_pay6]
  simp only [zero_sub]
  rfl

/-- The block indices of point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0, 0] ∧ win0_8.index t = ![0, 0] ∧ win0_9.index t = ![t.val, 0] := (by decide +kernel : ∀ t : Fin grid0.N, _)

/-- The whole result, from the arrays the call is given. -/
def res (a0 : Vec Ideal S4x4096x1024 .f32) (a1 a2 a3 : Vec Ideal S4x4096x512 .bf16) (a4 : Vec Ideal S1024 .f32)
    (a5 : Vec Ideal S1024x7680 .f32) (a6 : Vec Ideal S3x1024 .f32) (a7 : Vec Ideal S3x512x1024 .f32) (a8 : Vec Ideal S1024x1024 .f32)
    (r : Fin 16384) (d : Fin 1024) : EReal :=
  mrow (fun k => a0 (ix3 ⟨r.val / 4096, by omega⟩ ⟨r.val % 4096, by omega⟩ k)) (fun k => a4 (ix1 k))
    (fun j => a1 (ix3 ⟨r.val / 4096, by omega⟩ ⟨r.val % 4096, by omega⟩ j))
    (fun j => a2 (ix3 ⟨r.val / 4096, by omega⟩ ⟨r.val % 4096, by omega⟩ j))
    (fun j => a3 (ix3 ⟨r.val / 4096, by omega⟩ ⟨r.val % 4096, by omega⟩ j))
    (fun k e => a5 (ix2 k ⟨4608 + e.val, by omega⟩)) (fun k e => a5 (ix2 k ⟨4608 + (1024 + e.val), by omega⟩))
    (fun k e => a5 (ix2 k ⟨4608 + (2048 + e.val), by omega⟩))
    (fun n e => a6 (ix2 n e)) (fun n j e => a7 (ix3 n j e)) (fun e d => a8 (ix2 e d)) d

variable (m : (ℓ : Loc nD τ sig) → Buf (Elt Ideal) ℓ)

/-- An argument array as launched. -/
abbrev arg (c : Dev nD) (b : Ref sig .tc) : Buf (Elt Ideal) ((c : Thread nD τ).loc b) := m ((c : Thread nD τ).loc b)

theorem lt32 (t : Fin cfg0.N) : t.val < 32 := t.isLt

/-! What each input block of a point reads, in the arrays as launched. -/

theorem read0 (c : Dev nD) (t : Fin cfg0.N) (r : Fin 512) (k : Fin 1024) :
    (iblk m c 0 t : Vec Ideal S512x1024 .f32) (ix2 r k) = (arg m c main_arg0 : Vec Ideal S4x4096x1024 .f32)
      (ix3 ⟨(t.val * 512 + r.val) / 4096, by have := lt32 t; omega⟩ ⟨(t.val * 512 + r.val) % 4096, by omega⟩ k) := by
  blk_simp [iblk, idx t]
  entry_read
  pointwise
  blk_ext [idx t]

theorem read1 (c : Dev nD) (t : Fin cfg0.N) (r k : Fin 512) :
    (iblk m c 1 t : Vec Ideal S512x512 .bf16) (ix2 r k) = (arg m c main_arg1 : Vec Ideal S4x4096x512 .bf16)
      (ix3 ⟨(t.val * 512 + r.val) / 4096, by have := lt32 t; omega⟩ ⟨(t.val * 512 + r.val) % 4096, by omega⟩ k) := by
  blk_simp [iblk, idx t]
  entry_read
  pointwise
  blk_ext [idx t]

theorem read2 (c : Dev nD) (t : Fin cfg0.N) (r k : Fin 512) :
    (iblk m c 2 t : Vec Ideal S512x512 .bf16) (ix2 r k) = (arg m c main_arg2 : Vec Ideal S4x4096x512 .bf16)
      (ix3 ⟨(t.val * 512 + r.val) / 4096, by have := lt32 t; omega⟩ ⟨(t.val * 512 + r.val) % 4096, by omega⟩ k) := by
  blk_simp [iblk, idx t]
  entry_read
  pointwise
  blk_ext [idx t]

theorem read3 (c : Dev nD) (t : Fin cfg0.N) (r k : Fin 512) :
    (iblk m c 3 t : Vec Ideal S512x512 .bf16) (ix2 r k) = (arg m c main_arg3 : Vec Ideal S4x4096x512 .bf16)
      (ix3 ⟨(t.val * 512 + r.val) / 4096, by have := lt32 t; omega⟩ ⟨(t.val * 512 + r.val) % 4096, by omega⟩ k) := by
  blk_simp [iblk, idx t]
  entry_read
  pointwise
  blk_ext [idx t]

theorem read4 (c : Dev nD) (t : Fin cfg0.N) (k : Fin 1024) :
    (iblk m c 4 t : Vec Ideal S1x1024 .f32) (ix2 0 k) = (arg m c main_arg4 : Vec Ideal S1024 .f32) (ix1 k) := by
  blk_simp [iblk, idx t]
  entry_read
  pointwise
  blk_ext [idx t]

theorem read5 (c : Dev nD) (t : Fin cfg0.N) (k : Fin 1024) (e : Fin 3072) :
    (iblk m c 5 t : Vec Ideal S1024x3072 .bf16) (ix2 k e) = (arg m c main_arg5 : Vec Ideal S1024x7680 .f32) (ix2 k ⟨4608 + e.val, by omega⟩) := by
  blk_simp [iblk, idx t]
  entry_read
  pointwise
  blk_ext [idx t]

theorem read6 (c : Dev nD) (t : Fin cfg0.N) (n : Fin 3) (e : Fin 1024) :
    (iblk m c 6 t : Vec Ideal S3x1024 .f32) (ix2 n e) = (arg m c main_arg6 : Vec Ideal S3x1024 .f32) (ix2 n e) := by
  blk_ext [iblk, V, idx t]

theorem read7 (c : Dev nD) (t : Fin cfg0.N) (n : Fin 3) (j : Fin 512) (e : Fin 1024) :
    (iblk m c 7 t : Vec Ideal S3x512x1024 .bf16) (ix3 n j e) = (arg m c main_arg7 : Vec Ideal S3x512x1024 .f32) (ix3 n j e) := by
  blk_simp [iblk, idx t]
  entry_read
  pointwise
  blk_ext [idx t]

theorem read8 (c : Dev nD) (t : Fin cfg0.N) (e d : Fin 1024) :
    (iblk m c 8 t : Vec Ideal S1024x1024 .bf16) (ix2 e d) = (arg m c main_arg8 : Vec Ideal S1024x1024 .f32) (ix2 e d) := by
  blk_simp [iblk, idx t]
  entry_read
  pointwise
  blk_ext [idx t]

/-- Where the result block of point `t` goes. -/
theorem emb9 (t : Fin cfg0.N) (r : Fin 512) (d : Fin 1024) :
    (((View.whole main_v9).slice (win0_9.rect t)).emb (ix2 r d : S512x1024.Idx) : S16384x1024.Idx)
      = ix2 ⟨t.val * 512 + r.val, by have := lt32 t; omega⟩ d := by
  blk_ext [idx t]

/-- Equal reads give equal elements. -/
theorem mrow_congr {x x' g g' : Fin 1024 → EReal} {o0 o0' o1 o1' o2 o2' : Fin 512 → EReal} {w0 w0' w1 w1' w2 w2' : Fin 1024 → Fin 1024 → EReal}
    {b b' : Fin 3 → Fin 1024 → EReal} {p p' : Fin 3 → Fin 512 → Fin 1024 → EReal} {wo wo' : Fin 1024 → Fin 1024 → EReal} (d : Fin 1024)
    (hx : ∀ k, x k = x' k) (hg : ∀ k, g k = g' k) (h0 : ∀ k, o0 k = o0' k) (h1 : ∀ k, o1 k = o1' k) (h2 : ∀ k, o2 k = o2' k)
    (hw0 : ∀ k e, w0 k e = w0' k e) (hw1 : ∀ k e, w1 k e = w1' k e) (hw2 : ∀ k e, w2 k e = w2' k e)
    (hb : ∀ n e, b n e = b' n e) (hp : ∀ n j e, p n j e = p' n j e) (ho : ∀ e d, wo e d = wo' e d) :
    mrow x g o0 o1 o2 w0 w1 w2 b p wo d = mrow x' g' o0' o1' o2' w0' w1' w2' b' p' wo' d := by
  obtain rfl : x = x' := funext hx
  obtain rfl : g = g' := funext hg
  obtain rfl : o0 = o0' := funext h0
  obtain rfl : o1 = o1' := funext h1
  obtain rfl : o2 = o2' := funext h2
  obtain rfl : w0 = w0' := funext fun k => funext (hw0 k)
  obtain rfl : w1 = w1' := funext fun k => funext (hw1 k)
  obtain rfl : w2 = w2' := funext fun k => funext (hw2 k)
  obtain rfl : b = b' := funext fun k => funext (hb k)
  obtain rfl : p = p' := funext fun k => funext fun j => funext (hp k j)
  obtain rfl : wo = wo' := funext fun k => funext (ho k)
  rfl

/-- What point `t` leaves in its result block. -/
theorem point (c : Dev nD) (t : Fin cfg0.N) (r : Fin 512) (d : Fin 1024) :
    out0_9 (iblk m c 0 t) (iblk m c 1 t) (iblk m c 2 t) (iblk m c 3 t) (iblk m c 4 t) (iblk m c 5 t) (iblk m c 6 t) (iblk m c 7 t)
      (iblk m c 8 t) (ix2 r d)
    = res (arg m c main_arg0) (arg m c main_arg1) (arg m c main_arg2) (arg m c main_arg3) (arg m c main_arg4) (arg m c main_arg5)
        (arg m c main_arg6) (arg m c main_arg7) (arg m c main_arg8) ⟨t.val * 512 + r.val, by have := lt32 t; omega⟩ d :=
  (out_apply _ _ _ _ _ _ _ _ _ r d).trans (mrow_congr d (read0 m c t r) (read4 m c t) (read1 m c t r) (read2 m c t r) (read3 m c t r)
    (fun k e => read5 m c t k ⟨e.val, by omega⟩) (fun k e => read5 m c t k ⟨1024 + e.val, by omega⟩)
    (fun k e => read5 m c t k ⟨2048 + e.val, by omega⟩) (read6 m c t) (read7 m c t) (read8 m c t))

/-- The whole result as an array. -/
def resA (a0 : Vec Ideal S4x4096x1024 .f32) (a1 a2 a3 : Vec Ideal S4x4096x512 .bf16) (a4 : Vec Ideal S1024 .f32)
    (a5 : Vec Ideal S1024x7680 .f32) (a6 : Vec Ideal S3x1024 .f32) (a7 : Vec Ideal S3x512x1024 .f32) (a8 : Vec Ideal S1024x1024 .f32) :
    Vec Ideal S16384x1024 .f32 := fun z => res a0 a1 a2 a3 a4 a5 a6 a7 a8 (z 0) (z 1)

/-- The result array after the run. -/
theorem final (c : Dev nD) : (dats m 0 c).arrAt 9 cfg0.N
    = resA (arg m c main_arg0) (arg m c main_arg1) (arg m c main_arg2) (arg m c main_arg3)
        (arg m c main_arg4) (arg m c main_arg5) (arg m c main_arg6) (arg m c main_arg7) (arg m c main_arg8) := by
  refine (dats m 0 c).arrAt_eq_of_covers 9 _ (by decide +kernel) fun t _ y => ?_
  blk_simp
  rw [after0_9]
  idx_vars y
  refine (point m c t _ _).trans ?_
  rw [emb9]
  rfl

end Cert.Proof.M
-- ==== Proof.M.Ref.lean ====
/-
  The gated merge: what the reference's result holds, element by element.
-/
module

public import proofs.«01_k».proof.Proof.Gen.Reference2Ideal.Read
public import proofs.«01_k».proof.Proof.M.Value

@[expose] public section

set_option maxRecDepth 16384

noncomputable section

namespace Cert.Proof.M

open Cert.Reference2Ideal Cert.Reference2Ideal.Read
open Idealize.ShloMosaic Idealize.ShloMosaic.TcCoe

variable (a0 : Vec Ideal S4x4096x1024 .f32) (a1 a2 a3 : Vec Ideal S4x4096x512 .bf16) (a4 : Vec Ideal S1024 .f32)
  (a5 : Vec Ideal S1024x7680 .f32) (a6 : Vec Ideal S3x1024 .f32) (a7 : Vec Ideal S3x512x1024 .f32) (a8 : Vec Ideal S1024x1024 .f32)

/-- The exponential is not negative. -/
theorem exp_nonneg (x : EReal) : 0 ≤ Ideal.exp x := by
  induction x with
  | bot => exact le_refl _
  | top => exact le_top
  | coe r => exact EReal.coe_nonneg.mpr (Real.exp_pos r).le

/-- Multiplying by the logistic gate divides by its denominator. -/
theorem gate_mul (z a : EReal) : Ideal.div 1 (1 + Ideal.exp z) * a = Ideal.div a (1 + Ideal.exp z) := by
  have h : (1 + Ideal.exp z : EReal) ≠ 0 := by
    have h1 : (1 : EReal) ≤ 1 + Ideal.exp z := le_add_of_nonneg_right (exp_nonneg z)
    exact (lt_of_lt_of_le zero_lt_one h1).ne'
  rw [Ideal.div, Ideal.div, if_neg h, if_neg h, one_mul, mul_comm]

/-- The reference's result, element by element. -/
theorem ref_apply (r : Fin 16384) (d : Fin 1024) :
    val_main_v47 a0 a1 a2 a3 a4 a5 a6 a7 a8 (ix2 r d) = res a0 a1 a2 a3 a4 a5 a6 a7 a8 r d := by
  pointwise [val_main_v0,val_main_cst,val_main_v1,val_main_v2,val_main_cst_0,val_main_v3,val_main_v4,val_main_cst_1,val_main_v5,val_main_v6,val_main_v7,val_main_v8,val_main_v9,val_main_v10,val_main_v11,val_main_v12,val_main_v13,val_main_v14,val_main_v15,val_main_v16,val_main_v17,val_main_v18,val_main_v19,val_main_v20,val_main_cst_2,val_main_v21,val_main_v22,val_main_cst_3,val_main_v23,val_main_v24,val_main_v25,val_main_v26,val_main_v27,val_main_v28,val_main_v29,val_main_v30,val_main_v31,val_main_v32,val_main_v33,val_main_v34,val_main_v35,val_main_v36,val_main_v37,val_main_v38,val_main_v39,val_main_v40,val_main_v41,val_main_v42,val_main_v43,val_main_v44,val_main_v45,val_main_v46,val_main_v47]
  simp only [gate_mul]
  rfl

/-- The reference's result as a function. -/
theorem ref_eq : val_main_v47 a0 a1 a2 a3 a4 a5 a6 a7 a8 = resA a0 a1 a2 a3 a4 a5 a6 a7 a8 := by
  funext z
  refine Eq.trans ?_ (ref_apply a0 a1 a2 a3 a4 a5 a6 a7 a8 (z 0) (z 1))
  exact congrArg _ (ValueIdx.eq_ix2 z)

end Cert.Proof.M
-- ==== Proof.MS.Value.lean ====
/-
  The sample's gated merge: what the idealized kernel's result array holds, element by element.
-/
module

public import proofs.«01_k».proof.Proof.Gen.Kernel11Ideal.Frame
public import proofs.«01_k».proof.Proof.Gen.Kernel11Ideal.Value
public import proofs.«01_k».proof.Proof.M.Value
public import Idealize.ShloMosaic.Lib.Pipeline.ValueKit
public import Idealize.ShloMosaic.Lib.Pointwise

@[expose] public section

set_option maxRecDepth 2048

noncomputable section

namespace Cert.Proof.MS

open Cert.Kernel11Ideal Cert.Kernel11Ideal.Gen
open Idealize.ShloMosaic Idealize.ShloMosaic.TcCoe
open Idealize.ShloMosaic.Pipeline
open Cert.Proof.M (mrow mrow_congr)

/-- What the body leaves in its output block. -/
theorem out_apply (x0 : Vec Ideal S512x1024 .f32) (x1 x2 x3 : Vec Ideal S512x512 .bf16) (x4 : Vec Ideal S1x1024 .f32)
    (x5 : Vec Ideal S1024x3072 .bf16) (x6 : Vec Ideal S3x1024 .f32) (x7 : Vec Ideal S3x512x1024 .bf16) (x8 : Vec Ideal S1024x1024 .bf16)
    (r : Fin 512) (d : Fin 1024) :
    out0_9 x0 x1 x2 x3 x4 x5 x6 x7 x8 (ix2 r d) = mrow (fun k => x0 (ix2 r k)) (fun k => x4 (ix2 0 k))
      (fun j => x1 (ix2 r j)) (fun j => x2 (ix2 r j)) (fun j => x3 (ix2 r j))
      (fun k e => x5 (ix2 k ⟨e.val, by omega⟩)) (fun k e => x5 (ix2 k ⟨1024 + e.val, by omega⟩)) (fun k e => x5 (ix2 k ⟨2048 + e.val, by omega⟩))
      (fun n e => x6 (ix2 n e)) (fun n j e => x7 (ix3 n j e)) (fun e d => x8 (ix2 e d)) d := by
  frame_out
  pointwise [k0_pay1, k0_pay2, k0_pay3, k0_pay4, k0_pay5, k0_pay6]
  simp only [zero_sub]
  rfl

/-- The block indices of point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0, 0] ∧ win0_8.index t = ![0, 0] ∧ win0_9.index t = ![t.val, 0] := (by decide +kernel : ∀ t : Fin grid0.N, _)

/-- The whole result, from the arrays the call is given. -/
def res (a0 : Vec Ideal S32x64x1024 .f32) (a1 a2 a3 : Vec Ideal S32x64x512 .bf16) (a4 : Vec Ideal S1024 .f32)
    (a5 : Vec Ideal S1024x7680 .f32) (a6 : Vec Ideal S3x1024 .f32) (a7 : Vec Ideal S3x512x1024 .f32) (a8 : Vec Ideal S1024x1024 .f32)
    (r : Fin 2048) (d : Fin 1024) : EReal :=
  mrow (fun k => a0 (ix3 ⟨r.val / 64, by omega⟩ ⟨r.val % 64, by omega⟩ k)) (fun k => a4 (ix1 k))
    (fun j => a1 (ix3 ⟨r.val / 64, by omega⟩ ⟨r.val % 64, by omega⟩ j))
    (fun j => a2 (ix3 ⟨r.val / 64, by omega⟩ ⟨r.val % 64, by omega⟩ j))
    (fun j => a3 (ix3 ⟨r.val / 64, by omega⟩ ⟨r.val % 64, by omega⟩ j))
    (fun k e => a5 (ix2 k ⟨4608 + e.val, by omega⟩)) (fun k e => a5 (ix2 k ⟨4608 + (1024 + e.val), by omega⟩))
    (fun k e => a5 (ix2 k ⟨4608 + (2048 + e.val), by omega⟩))
    (fun n e => a6 (ix2 n e)) (fun n j e => a7 (ix3 n j e)) (fun e d => a8 (ix2 e d)) d

variable (m : (ℓ : Loc nD τ sig) → Buf (Elt Ideal) ℓ)

/-- An argument array as launched. -/
abbrev arg (c : Dev nD) (b : Ref sig .tc) : Buf (Elt Ideal) ((c : Thread nD τ).loc b) := m ((c : Thread nD τ).loc b)

theorem lt4 (t : Fin cfg0.N) : t.val < 4 := t.isLt

/-! What each input block of a point reads, in the arrays as launched. -/

theorem read0 (c : Dev nD) (t : Fin cfg0.N) (r : Fin 512) (k : Fin 1024) :
    (iblk m c 0 t : Vec Ideal S512x1024 .f32) (ix2 r k) = (arg m c main_arg0 : Vec Ideal S32x64x1024 .f32)
      (ix3 ⟨(t.val * 512 + r.val) / 64, by have := lt4 t; omega⟩ ⟨(t.val * 512 + r.val) % 64, by omega⟩ k) := by
  blk_simp [iblk, idx t]
  entry_read
  pointwise
  blk_ext [idx t]

theorem read1 (c : Dev nD) (t : Fin cfg0.N) (r k : Fin 512) :
    (iblk m c 1 t : Vec Ideal S512x512 .bf16) (ix2 r k) = (arg m c main_arg1 : Vec Ideal S32x64x512 .bf16)
      (ix3 ⟨(t.val * 512 + r.val) / 64, by have := lt4 t; omega⟩ ⟨(t.val * 512 + r.val) % 64, by omega⟩ k) := by
  blk_simp [iblk, idx t]
  entry_read
  pointwise
  blk_ext [idx t]

theorem read2 (c : Dev nD) (t : Fin cfg0.N) (r k : Fin 512) :
    (iblk m c 2 t : Vec Ideal S512x512 .bf16) (ix2 r k) = (arg m c main_arg2 : Vec Ideal S32x64x512 .bf16)
      (ix3 ⟨(t.val * 512 + r.val) / 64, by have := lt4 t; omega⟩ ⟨(t.val * 512 + r.val) % 64, by omega⟩ k) := by
  blk_simp [iblk, idx t]
  entry_read
  pointwise
  blk_ext [idx t]

theorem read3 (c : Dev nD) (t : Fin cfg0.N) (r k : Fin 512) :
    (iblk m c 3 t : Vec Ideal S512x512 .bf16) (ix2 r k) = (arg m c main_arg3 : Vec Ideal S32x64x512 .bf16)
      (ix3 ⟨(t.val * 512 + r.val) / 64, by have := lt4 t; omega⟩ ⟨(t.val * 512 + r.val) % 64, by omega⟩ k) := by
  blk_simp [iblk, idx t]
  entry_read
  pointwise
  blk_ext [idx t]

theorem read4 (c : Dev nD) (t : Fin cfg0.N) (k : Fin 1024) :
    (iblk m c 4 t : Vec Ideal S1x1024 .f32) (ix2 0 k) = (arg m c main_arg4 : Vec Ideal S1024 .f32) (ix1 k) := by
  blk_simp [iblk, idx t]
  entry_read
  pointwise
  blk_ext [idx t]

theorem read5 (c : Dev nD) (t : Fin cfg0.N) (k : Fin 1024) (e : Fin 3072) :
    (iblk m c 5 t : Vec Ideal S1024x3072 .bf16) (ix2 k e) = (arg m c main_arg5 : Vec Ideal S1024x7680 .f32) (ix2 k ⟨4608 + e.val, by omega⟩) := by
  blk_simp [iblk, idx t]
  entry_read
  pointwise
  blk_ext [idx t]

theorem read6 (c : Dev nD) (t : Fin cfg0.N) (n : Fin 3) (e : Fin 1024) :
    (iblk m c 6 t : Vec Ideal S3x1024 .f32) (ix2 n e) = (arg m c main_arg6 : Vec Ideal S3x1024 .f32) (ix2 n e) := by
  blk_ext [iblk, V, idx t]

theorem read7 (c : Dev nD) (t : Fin cfg0.N) (n : Fin 3) (j : Fin 512) (e : Fin 1024) :
    (iblk m c 7 t : Vec Ideal S3x512x1024 .bf16) (ix3 n j e) = (arg m c main_arg7 : Vec Ideal S3x512x1024 .f32) (ix3 n j e) := by
  blk_simp [iblk, idx t]
  entry_read
  pointwise
  blk_ext [idx t]

theorem read8 (c : Dev nD) (t : Fin cfg0.N) (e d : Fin 1024) :
    (iblk m c 8 t : Vec Ideal S1024x1024 .bf16) (ix2 e d) = (arg m c main_arg8 : Vec Ideal S1024x1024 .f32) (ix2 e d) := by
  blk_simp [iblk, idx t]
  entry_read
  pointwise
  blk_ext [idx t]

/-- Where the result block of point `t` goes. -/
theorem emb9 (t : Fin cfg0.N) (r : Fin 512) (d : Fin 1024) :
    (((View.whole main_v9).slice (win0_9.rect t)).emb (ix2 r d : S512x1024.Idx) : S2048x1024.Idx)
      = ix2 ⟨t.val * 512 + r.val, by have := lt4 t; omega⟩ d := by
  blk_ext [idx t]

/-- What point `t` leaves in its result block. -/
theorem point (c : Dev nD) (t : Fin cfg0.N) (r : Fin 512) (d : Fin 1024) :
    out0_9 (iblk m c 0 t) (iblk m c 1 t) (iblk m c 2 t) (iblk m c 3 t) (iblk m c 4 t) (iblk m c 5 t) (iblk m c 6 t) (iblk m c 7 t)
      (iblk m c 8 t) (ix2 r d)
    = res (arg m c main_arg0) (arg m c main_arg1) (arg m c main_arg2) (arg m c main_arg3) (arg m c main_arg4) (arg m c main_arg5)
        (arg m c main_arg6) (arg m c main_arg7) (arg m c main_arg8) ⟨t.val * 512 + r.val, by have := lt4 t; omega⟩ d :=
  (out_apply _ _ _ _ _ _ _ _ _ r d).trans (mrow_congr d (read0 m c t r) (read4 m c t) (read1 m c t r) (read2 m c t r) (read3 m c t r)
    (fun k e => read5 m c t k ⟨e.val, by omega⟩) (fun k e => read5 m c t k ⟨1024 + e.val, by omega⟩)
    (fun k e => read5 m c t k ⟨2048 + e.val, by omega⟩) (read6 m c t) (read7 m c t) (read8 m c t))

/-- The whole result as an array. -/
def resA (a0 : Vec Ideal S32x64x1024 .f32) (a1 a2 a3 : Vec Ideal S32x64x512 .bf16) (a4 : Vec Ideal S1024 .f32)
    (a5 : Vec Ideal S1024x7680 .f32) (a6 : Vec Ideal S3x1024 .f32) (a7 : Vec Ideal S3x512x1024 .f32) (a8 : Vec Ideal S1024x1024 .f32) :
    Vec Ideal S2048x1024 .f32 := fun z => res a0 a1 a2 a3 a4 a5 a6 a7 a8 (z 0) (z 1)

/-- The result array after the run. -/
theorem final (c : Dev nD) : (dats m 0 c).arrAt 9 cfg0.N
    = resA (arg m c main_arg0) (arg m c main_arg1) (arg m c main_arg2) (arg m c main_arg3)
        (arg m c main_arg4) (arg m c main_arg5) (arg m c main_arg6) (arg m c main_arg7) (arg m c main_arg8) := by
  refine (dats m 0 c).arrAt_eq_of_covers 9 _ (by decide +kernel) fun t _ y => ?_
  blk_simp
  rw [after0_9]
  idx_vars y
  refine (point m c t _ _).trans ?_
  rw [emb9]
  rfl

end Cert.Proof.MS
-- ==== Proof.MS.Ref.lean ====
/-
  The sample's gated merge: what the reference's result holds, element by element.
-/
module

public import proofs.«01_k».proof.Proof.Gen.Reference11Ideal.Read
public import proofs.«01_k».proof.Proof.M.Ref
public import proofs.«01_k».proof.Proof.MS.Value

@[expose] public section

set_option maxRecDepth 2048

noncomputable section

namespace Cert.Proof.MS

open Cert.Reference11Ideal Cert.Reference11Ideal.Read
open Idealize.ShloMosaic Idealize.ShloMosaic.TcCoe

open Cert.Proof.M (gate_mul)

variable (a0 : Vec Ideal S32x64x1024 .f32) (a1 a2 a3 : Vec Ideal S32x64x512 .bf16) (a4 : Vec Ideal S1024 .f32)
  (a5 : Vec Ideal S1024x7680 .f32) (a6 : Vec Ideal S3x1024 .f32) (a7 : Vec Ideal S3x512x1024 .f32) (a8 : Vec Ideal S1024x1024 .f32)

/-- The reference's result, element by element. -/
theorem ref_apply (r : Fin 2048) (d : Fin 1024) :
    val_main_v47 a0 a1 a2 a3 a4 a5 a6 a7 a8 (ix2 r d) = res a0 a1 a2 a3 a4 a5 a6 a7 a8 r d := by
  pointwise [val_main_v0,val_main_cst,val_main_v1,val_main_v2,val_main_cst_0,val_main_v3,val_main_v4,val_main_cst_1,val_main_v5,val_main_v6,val_main_v7,val_main_v8,val_main_v9,val_main_v10,val_main_v11,val_main_v12,val_main_v13,val_main_v14,val_main_v15,val_main_v16,val_main_v17,val_main_v18,val_main_v19,val_main_v20,val_main_cst_2,val_main_v21,val_main_v22,val_main_cst_3,val_main_v23,val_main_v24,val_main_v25,val_main_v26,val_main_v27,val_main_v28,val_main_v29,val_main_v30,val_main_v31,val_main_v32,val_main_v33,val_main_v34,val_main_v35,val_main_v36,val_main_v37,val_main_v38,val_main_v39,val_main_v40,val_main_v41,val_main_v42,val_main_v43,val_main_v44,val_main_v45,val_main_v46,val_main_v47]
  simp only [gate_mul]
  rfl

/-- The reference's result as a function. -/
theorem ref_eq : val_main_v47 a0 a1 a2 a3 a4 a5 a6 a7 a8 = resA a0 a1 a2 a3 a4 a5 a6 a7 a8 := by
  funext z
  refine Eq.trans ?_ (ref_apply a0 a1 a2 a3 a4 a5 a6 a7 a8 (z 0) (z 1))
  exact congrArg _ (ValueIdx.eq_ix2 z)

end Cert.Proof.MS
-- ==== Proof.FF.Spec.lean ====
/-
  The conv feed-forward over the extended reals, element by element, from the arrays the call is given.
-/
module

public import proofs.«01_k».proof.Proof.Gen.Kernel3Ideal.Frame
public import proofs.«01_k».proof.Proof.Row
public import Idealize.ShloMosaic.Lib.Pipeline.ValueKit
public import Idealize.ShloMosaic.Lib.Pointwise

@[expose] public section

noncomputable section

namespace Cert.Proof.FF

open Cert.Kernel3Ideal Cert.Kernel3Ideal.Gen
open Idealize.ShloMosaic Idealize.ShloMosaic.TcCoe

/-- The tanh form of gelu, its constants the float words both programs hold. -/
def gelu (c : EReal) : EReal :=
  c * (Ideal.ofBits FTy.f32 1056964608#32 * (1 + Ideal.tanh (Ideal.ofBits FTy.f32 1061962282#32
    * (c + Ideal.ofBits FTy.f32 1027024659#32 * (c * c * c)))))

/-- The convolution of three neighbouring gate values, oldest first. -/
def conv (b w0 w1 w2 p2 p1 p0 : EReal) : EReal := b + w0 * p2 + w1 * p1 + w2 * p0

variable (a0 : Vec Ideal S4x4096x1024 .f32) (a1 : Vec Ideal S1024 .f32) (a2 : Vec Ideal S1024x5632 .f32) (a3 : Vec Ideal S3x2816 .f32)
  (a4 : Vec Ideal S2816 .f32) (a5 : Vec Ideal S2816x1024 .f32) (a6 : Vec Ideal S4x2x2816 .f32) (a7 : Vec Ideal S1024 .f32)

/-- The normed row at position `p` of sequence `b`. -/
def nx (b : Fin 4) (p : Fin 4096) (k : Fin 1024) : EReal := nrm (fun k => a0 (ix3 b p k)) (fun k => a1 (ix1 k)) k

/-- The gate half of the up projection. -/
def gate (b : Fin 4) (p : Fin 4096) (f : Fin 2816) : EReal := ∑ k, nx a0 a1 b p k * a2 (ix2 k ⟨f.val, by omega⟩)

/-- Its other half. -/
def up (b : Fin 4) (p : Fin 4096) (f : Fin 2816) : EReal := ∑ k, nx a0 a1 b p k * a2 (ix2 k ⟨2816 + f.val, by omega⟩)

/-- The gates of a sequence behind the two the state holds. -/
def padded (b : Fin 4) (q : ℕ) (hq : q < 4098) (f : Fin 2816) : EReal :=
  if h : q < 2 then a6 (ix3 b ⟨q, h⟩ f) else gate a0 a1 a2 b ⟨q - 2, by omega⟩ f

/-- The convolved gate. -/
def cgate (b : Fin 4) (p : Fin 4096) (f : Fin 2816) : EReal :=
  conv (a4 (ix1 f)) (a3 (ix2 0 f)) (a3 (ix2 1 f)) (a3 (ix2 2 f)) (padded a0 a1 a2 a6 b p.val (by omega) f)
    (padded a0 a1 a2 a6 b (1 + p.val) (by omega) f) (padded a0 a1 a2 a6 b (2 + p.val) (by omega) f)

/-- The hidden row. -/
def hid (b : Fin 4) (p : Fin 4096) (f : Fin 2816) : EReal := gelu (cgate a0 a1 a2 a3 a4 a6 b p f) * up a0 a1 a2 b p f

/-- The row with the feed-forward added. -/
def added (b : Fin 4) (p : Fin 4096) (d : Fin 1024) : EReal :=
  a0 (ix3 b p d) + ∑ f, hid a0 a1 a2 a3 a4 a6 b p f * a5 (ix2 f d)

/-- The result: that row under the last norm. -/
def res (b : Fin 4) (p : Fin 4096) (d : Fin 1024) : EReal := nrm (added a0 a1 a2 a3 a4 a5 a6 b p) (fun k => a7 (ix1 k)) d

/-- The whole result, the sequences one below the other. -/
def resA : Vec Ideal S16384x1024 .f32 := fun z =>
  res a0 a1 a2 a3 a4 a5 a6 a7 ⟨(z 0).val / 4096, Nat.div_lt_of_lt_mul (z 0).isLt⟩ ⟨(z 0).val % 4096, Nat.mod_lt _ (by decide)⟩ (z 1)

/-- The new state: a sequence's last two gates. -/
def tailA : Vec Ideal S4x2x2816 .f32 := fun z => padded a0 a1 a2 a6 (z 0) (4096 + (z 1).val) (Nat.add_lt_add_left (z 1).isLt 4096) (z 2)

end Cert.Proof.FF
-- ==== Proof.FF.Body.lean ====
/-
  The conv feed-forward: the values the idealized kernel's body computes from the blocks it reads.
-/
module

public import proofs.«01_k».proof.Proof.FF.Spec

@[expose] public section

set_option maxRecDepth 16384

noncomputable section

namespace Cert.Proof.FF

open Cert.Kernel3Ideal Cert.Kernel3Ideal.Gen
open Idealize.ShloMosaic Idealize.ShloMosaic.TcCoe

/-- Whether the tile is a sequence's first, as the body computes it: the tile's number modulo the tiles of a sequence, with the
    sign's correction. -/
def firstBit (n : ℕ) : BitVec 1 :=
  Scalar.cmpi CmpIPredicate.eq
    (Scalar.select
      (Scalar.andi
        (Scalar.xori (Scalar.cmpi CmpIPredicate.slt (Scalar.remsi (BitVec.ofNat 32 n) 8#32) 0#32) 0#1)
        (Scalar.cmpi CmpIPredicate.ne (Scalar.remsi (BitVec.ofNat 32 n) 8#32) 0#32))
      (Scalar.addi (Scalar.remsi (BitVec.ofNat 32 n) 8#32) 8#32)
      (Scalar.remsi (BitVec.ofNat 32 n) 8#32))
    0#32

/-- It is so at every eighth tile. -/
theorem firstBit_eq : ∀ n : Fin 32, firstBit n.val = BitVec.ofBool (decide (n.val % 8 = 0)) := by decide +kernel

/-- The norm of a tile's rows. -/
theorem pay6_apply (x : Vec Ideal S512x1024 .f32) (g : Vec Ideal S1x1024 .f32) (r : Fin 512) (k : Fin 1024) :
    k0_pay6 x g (ix2 r k) = nrm (fun k => x (ix2 r k)) (fun k => g (ix2 0 k)) k := by
  pointwise [k0_pay6]
  rfl

/-- The norm of the sixteen rows before it. -/
theorem pay7_apply (x : Vec Ideal S16x1024 .f32) (g : Vec Ideal S1x1024 .f32) (r : Fin 16) (k : Fin 1024) :
    k0_pay7 x g (ix2 r k) = nrm (fun k => x (ix2 r k)) (fun k => g (ix2 0 k)) k := by
  pointwise [k0_pay7]
  rfl

theorem pay8_apply (x : Vec Ideal S512x1024 .bf16) (w : Vec Ideal S1024x1408 .bf16) (r : Fin 512) (f : Fin 1408) :
    k0_pay8 x w (ix2 r f) = ∑ k : Fin 1024, x (ix2 r k) * w (ix2 k f) := by
  pointwise [k0_pay8]

theorem pay9_apply (x : Vec Ideal S512x1024 .bf16) (w : Vec Ideal S1024x1408 .bf16) (r : Fin 512) (f : Fin 1408) :
    k0_pay9 x w (ix2 r f) = ∑ k : Fin 1024, x (ix2 r k) * w (ix2 k f) := by
  pointwise [k0_pay9]

/-- The value two rows before the tile's first: the state's, or the sixteen rows' last but one. -/
theorem pay12_apply (i : grid0.Coords) (x : Vec Ideal S16x1024 .bf16) (w : Vec Ideal S1024x1408 .bf16) (st : Vec Ideal S1x2x1408 .f32)
    (f : Fin 1408) : k0_pay12 i x w st (ix2 0 f)
      = Scalar.select (firstBit (i 0).val) (st (ix3 0 0 f)) (∑ k : Fin 1024, x (ix2 14 k) * w (ix2 k f)) := by
  pointwise [k0_pay12, k0_pay11, k0_pay10]
  rfl

/-- The value one row before it, from the state, -/
theorem pay13_apply (st : Vec Ideal S1x2x1408 .f32) (f : Fin 1408) : k0_pay13 st (ix2 0 f) = st (ix3 0 1 f) := by
  pointwise [k0_pay13, k0_pay11]

/-- or from the rows. -/
theorem pay14_apply (x : Vec Ideal S16x1024 .bf16) (w : Vec Ideal S1024x1408 .bf16) (f : Fin 1408) :
    k0_pay14 x w (ix2 0 f) = ∑ k : Fin 1024, x (ix2 15 k) * w (ix2 k f) := by
  pointwise [k0_pay14, k0_pay10]

/-- The word comparison of a row's number. -/
theorem sel_row (r : Fin 512) (n : ℕ) (hn : n < 512) (a b : EReal) :
    Scalar.select (IntOp.cmpi CmpIPredicate.eq (BitVec.ofNat 32 r.val) (BitVec.ofNat 32 n)) a b = if r.val = n then a else b := by
  rw [WordCmp.cmpi_eq_ofNat (by omega) (by omega), WordCmp.select_ofBool]
  simp only [decide_eq_true_eq]

/-- The convolution's row, from the tile's gates `G`, the two before it and whether the tile is a sequence's first. -/
theorem pay15_apply (G : FVec Ideal S512x1408 .f32) (p : Prop) [Decidable p] (v29 v30 v31 : FVec Ideal S1x1408 .f32)
    (cw : Vec Ideal S3x1408 .f32) (cb : Vec Ideal S1x1408 .f32) (r : Fin 512) (f : Fin 1408) :
    k0_pay15 G (BitVec.ofBool (decide p)) v29 v30 v31 cw cb (ix2 r f)
      = conv (cb (ix2 0 f)) (cw (ix2 0 f)) (cw (ix2 1 f)) (cw (ix2 2 f))
          (if r.val = 0 then v29 (ix2 0 f) else if r.val = 1 then (if p then v30 (ix2 0 f) else v31 (ix2 0 f))
            else G (ix2 ⟨(r.val + 512 - 2) % 512, by omega⟩ f))
          (if r.val = 0 then (if p then v30 (ix2 0 f) else v31 (ix2 0 f)) else G (ix2 ⟨(r.val + 512 - 1) % 512, by omega⟩ f))
          (G (ix2 r f)) := by
  pointwise [k0_pay15]
  rw [sel_row r 0 (by omega), sel_row r 1 (by omega), sel_row r 0 (by omega)]
  by_cases hp : p
  · simp only [if_pos hp]
    rfl
  · simp only [if_neg hp]
    rfl

/-- The second factor of gelu. -/
theorem pay16_apply (G : FVec Ideal S512x1408 .f32) (b : BitVec 1) (v29 v30 v31 : FVec Ideal S1x1408 .f32)
    (cw : Vec Ideal S3x1408 .f32) (cb : Vec Ideal S1x1408 .f32) (r : Fin 512) (f : Fin 1408) :
    k0_pay15 G b v29 v30 v31 cw cb (ix2 r f) * k0_pay16 G b v29 v30 v31 cw cb (ix2 r f)
      = gelu (k0_pay15 G b v29 v30 v31 cw cb (ix2 r f)) := by
  unfold gelu
  congr 1
  pointwise [k0_pay16]

/-- The first half: the row plus its share of the down projection. -/
theorem pay2_apply (u c s : FVec Ideal S512x1408 .f32) (w : Vec Ideal S1408x1024 .bf16) (x : Vec Ideal S512x1024 .f32) (r : Fin 512)
    (d : Fin 1024) : k0_pay2 u c s w x (ix2 r d) = x (ix2 r d) + ∑ f : Fin 1408, c (ix2 r f) * s (ix2 r f) * u (ix2 r f) * w (ix2 f d) := by
  pointwise [k0_pay2, k0_pay1]

/-- The second half: its share added, then the last norm. -/
theorem pay4_apply (u c s : FVec Ideal S512x1408 .f32) (w : Vec Ideal S1408x1024 .bf16) (x : Vec Ideal S512x1024 .f32)
    (g : Vec Ideal S1x1024 .f32) (r : Fin 512) (d : Fin 1024) : k0_pay4 u c s w x g (ix2 r d)
      = nrm (fun d => x (ix2 r d) + ∑ f : Fin 1408, c (ix2 r f) * s (ix2 r f) * u (ix2 r f) * w (ix2 f d)) (fun k => g (ix2 0 k)) d := by
  pointwise [k0_pay4, k0_pay1]
  rfl

/-- The tile's last two gates. -/
theorem pay5_apply (G : FVec Ideal S512x1408 .f32) (n : Fin 2) (f : Fin 1408) :
    k0_pay5 G (ix3 0 n f) = G (ix2 ⟨510 + n.val, by omega⟩ f) := by
  pointwise [k0_pay5]

end Cert.Proof.FF
-- ==== Proof.FF.Reads.lean ====
/-
  The conv feed-forward: what each input block of a point reads, in the arrays as launched.
-/
module

public import proofs.«01_k».proof.Proof.FF.Spec

@[expose] public section

set_option maxRecDepth 16384

noncomputable section

namespace Cert.Proof.FF

open Cert.Kernel3Ideal Cert.Kernel3Ideal.Gen
open Idealize.ShloMosaic Idealize.ShloMosaic.TcCoe
open Idealize.ShloMosaic.Pipeline

theorem lt64 (t : Fin cfg0.N) : t.val < 64 := t.isLt

/-- The sequence of point `t`'s tile, -/
def bb (t : Fin cfg0.N) : Fin 4 := ⟨t.val / 16, by have := lt64 t; omega⟩

/-- the position of the tile's row `r` in it, -/
def pp (t : Fin cfg0.N) (r : Fin 512) : Fin 4096 := ⟨512 * (t.val / 2 % 8) + r.val, by omega⟩

/-- the position of row `r` of the sixteen before the tile, -/
def qq (t : Fin cfg0.N) (r : Fin 16) : Fin 4096 := ⟨512 * (t.val / 2 % 8) - 16 + r.val, by omega⟩

/-- and the hidden column of the block's column `f`. -/
def cc (t : Fin cfg0.N) (f : Fin 1408) : Fin 2816 := ⟨1408 * (t.val % 2) + f.val, by omega⟩

/-- The block indices of point `t`. -/
theorem idx : ∀ t : Fin cfg0.N, win0_0.index t = ![t.val / 2, 0] ∧ win0_1.index t = ![32 * (t.val / 2) - 1, 0] ∧ win0_2.index t = ![0, 0]
    ∧ win0_3.index t = ![0, t.val % 2] ∧ win0_4.index t = ![0, t.val % 2] ∧ win0_5.index t = ![0, t.val % 2] ∧ win0_6.index t = ![0, t.val % 2]
    ∧ win0_7.index t = ![t.val % 2, 0] ∧ win0_8.index t = ![t.val / 16, 0, t.val % 2] ∧ win0_9.index t = ![0, 0]
    ∧ win0_10.index t = ![t.val / 2, 0] ∧ win0_11.index t = ![t.val / 2, 0, t.val % 2]
    ∧ (grid0.coords t 0).val = t.val / 2 := (by decide +kernel : ∀ t : Fin grid0.N, _)

variable (m : (ℓ : Loc nD τ sig) → Buf (Elt Ideal) ℓ)

/-- An argument array as launched. -/
abbrev arg (c : Dev nD) (b : Ref sig .tc) : Buf (Elt Ideal) ((c : Thread nD τ).loc b) := m ((c : Thread nD τ).loc b)

/-- What the host's lines leave in a buffer before the region. -/
theorem V_host (c : Dev nD) (b : Ref sig .tc) :
    V m c b = StableHlo.after (hostOps0 (F := Ideal)) (fun b => m (c, b)) (Proc.devRef .tc b) := by
  show StableHlo.after (List.flatten [hostOps0]) _ _ = _
  rw [List.flatten_cons, List.flatten_nil, List.append_nil]

theorem read0 (c : Dev nD) (t : Fin cfg0.N) (r : Fin 512) (k : Fin 1024) :
    (iblk m c 0 t : Vec Ideal S512x1024 .f32) (ix2 r k) = (arg m c main_arg0 : Vec Ideal S4x4096x1024 .f32) (ix3 (bb t) (pp t r) k) := by
  simp only [bb, pp]
  blk_simp [iblk, idx t]
  rw [V_host]
  entry_read
  pointwise
  blk_ext [idx t]

theorem read1 (c : Dev nD) (t : Fin cfg0.N) (h : t.val / 2 % 8 ≠ 0) (r : Fin 16) (k : Fin 1024) :
    (iblk m c 1 t : Vec Ideal S16x1024 .f32) (ix2 r k) = (arg m c main_arg0 : Vec Ideal S4x4096x1024 .f32) (ix3 (bb t) (qq t r) k) := by
  simp only [bb, qq]
  blk_simp [iblk, idx t]
  rw [V_host]
  entry_read
  pointwise
  blk_ext [idx t]

theorem read2 (c : Dev nD) (t : Fin cfg0.N) (k : Fin 1024) :
    (iblk m c 2 t : Vec Ideal S1x1024 .f32) (ix2 0 k) = (arg m c main_arg1 : Vec Ideal S1024 .f32) (ix1 k) := by
  blk_simp [iblk, idx t]
  rw [V_host]
  entry_read
  pointwise
  blk_ext [idx t]

theorem read3 (c : Dev nD) (t : Fin cfg0.N) (k : Fin 1024) (f : Fin 1408) :
    (iblk m c 3 t : Vec Ideal S1024x1408 .bf16) (ix2 k f) = (arg m c main_arg2 : Vec Ideal S1024x5632 .f32) (ix2 k ⟨(cc t f).val, by omega⟩) := by
  simp only [cc]
  blk_simp [iblk, idx t]
  rw [V_host]
  entry_read
  pointwise
  blk_ext [idx t]

theorem read4 (c : Dev nD) (t : Fin cfg0.N) (k : Fin 1024) (f : Fin 1408) :
    (iblk m c 4 t : Vec Ideal S1024x1408 .bf16) (ix2 k f) = (arg m c main_arg2 : Vec Ideal S1024x5632 .f32) (ix2 k ⟨2816 + (cc t f).val, by omega⟩) := by
  simp only [cc]
  blk_simp [iblk, idx t]
  rw [V_host]
  entry_read
  pointwise
  blk_ext [idx t]

theorem read5 (c : Dev nD) (t : Fin cfg0.N) (n : Fin 3) (f : Fin 1408) :
    (iblk m c 5 t : Vec Ideal S3x1408 .f32) (ix2 n f) = (arg m c main_arg3 : Vec Ideal S3x2816 .f32) (ix2 n (cc t f)) := by
  simp only [cc]
  blk_ext [iblk, V, idx t]

theorem read6 (c : Dev nD) (t : Fin cfg0.N) (f : Fin 1408) :
    (iblk m c 6 t : Vec Ideal S1x1408 .f32) (ix2 0 f) = (arg m c main_arg4 : Vec Ideal S2816 .f32) (ix1 (cc t f)) := by
  simp only [cc]
  blk_simp [iblk, idx t]
  rw [V_host]
  entry_read
  pointwise
  blk_ext [idx t]

theorem read7 (c : Dev nD) (t : Fin cfg0.N) (f : Fin 1408) (d : Fin 1024) :
    (iblk m c 7 t : Vec Ideal S1408x1024 .bf16) (ix2 f d) = (arg m c main_arg5 : Vec Ideal S2816x1024 .f32) (ix2 (cc t f) d) := by
  simp only [cc]
  blk_simp [iblk, idx t]
  rw [V_host]
  entry_read
  pointwise
  blk_ext [idx t]

theorem read8 (c : Dev nD) (t : Fin cfg0.N) (n : Fin 2) (f : Fin 1408) :
    (iblk m c 8 t : Vec Ideal S1x2x1408 .f32) (ix3 0 n f) = (arg m c main_arg6 : Vec Ideal S4x2x2816 .f32) (ix3 (bb t) n (cc t f)) := by
  simp only [bb, cc]
  blk_ext [iblk, V, idx t]

theorem read9 (c : Dev nD) (t : Fin cfg0.N) (k : Fin 1024) :
    (iblk m c 9 t : Vec Ideal S1x1024 .f32) (ix2 0 k) = (arg m c main_arg7 : Vec Ideal S1024 .f32) (ix1 k) := by
  blk_simp [iblk, idx t]
  rw [V_host]
  entry_read
  pointwise
  blk_ext [idx t]

end Cert.Proof.FF
-- ==== Proof.FF.Tile.lean ====
/-
  The conv feed-forward: a tile's gates, convolved gates and share of the down projection, in the arrays as launched.
-/
module

public import proofs.«01_k».proof.Proof.FF.Body
public import proofs.«01_k».proof.Proof.FF.Reads

@[expose] public section

set_option maxRecDepth 16384

noncomputable section

namespace Cert.Proof.FF

open Cert.Kernel3Ideal Cert.Kernel3Ideal.Gen
open Idealize.ShloMosaic Idealize.ShloMosaic.TcCoe
open Idealize.ShloMosaic.Pipeline

section
variable (a0 : Vec Ideal S4x4096x1024 .f32) (a1 : Vec Ideal S1024 .f32) (a2 : Vec Ideal S1024x5632 .f32) (a6 : Vec Ideal S4x2x2816 .f32)

/-- Behind the state a position holds the state's value, -/
theorem padded_st (b : Fin 4) (q : ℕ) (hq : q < 4098) (f : Fin 2816) (n : Fin 2) (h : q = n.val) :
    padded a0 a1 a2 a6 b q hq f = a6 (ix3 b n f) := by
  subst h
  unfold padded
  rw [dif_pos n.isLt]

/-- and past it the gate of the row two before. -/
theorem padded_row (b : Fin 4) (q : ℕ) (hq : q < 4098) (f : Fin 2816) (p : Fin 4096) (h : q = p.val + 2) :
    padded a0 a1 a2 a6 b q hq f = gate a0 a1 a2 b p f := by
  subst h
  unfold padded
  rw [dif_neg (by omega)]
  rfl
end

variable (m : (ℓ : Loc nD τ sig) → Buf (Elt Ideal) ℓ) (c : Dev nD) (t : Fin cfg0.N)

/-- A block holds the normed rows of the tile. -/
def IsRows (X : Vec Ideal S512x1024 .bf16) : Prop :=
  ∀ (r : Fin 512) (k : Fin 1024), X (ix2 r k) = nx (arg m c main_arg0) (arg m c main_arg1) (bb t) (pp t r) k

/-- A block holds the normed sixteen rows before it, where the tile is not its sequence's first. -/
def IsPrev (Y : Vec Ideal S16x1024 .bf16) : Prop :=
  t.val / 2 % 8 ≠ 0 → ∀ (r : Fin 16) (k : Fin 1024), Y (ix2 r k) = nx (arg m c main_arg0) (arg m c main_arg1) (bb t) (qq t r) k

/-- What the first half's point computes is such; -/
theorem isRows_pay6 : IsRows m c t (k0_pay6 (iblk m c 0 t) (iblk m c 2 t)) := fun r k => by
  rw [pay6_apply]
  exact congrArg₂ (fun x g => nrm x g k) (funext fun k => read0 m c t r k) (funext fun k => read2 m c t k)

theorem isPrev_pay7 : IsPrev m c t (k0_pay7 (iblk m c 1 t) (iblk m c 2 t)) := fun h r k => by
  rw [pay7_apply]
  exact congrArg₂ (fun x g => nrm x g k) (funext fun k => read1 m c t h r k) (funext fun k => read2 m c t k)

variable {m c t} {X : Vec Ideal S512x1024 .bf16} {Y : Vec Ideal S16x1024 .bf16}

/-- The tile's gates; -/
theorem gate_tile (hX : IsRows m c t X) (r : Fin 512) (f : Fin 1408) :
    k0_pay8 X (iblk m c 3 t) (ix2 r f) = gate (arg m c main_arg0) (arg m c main_arg1) (arg m c main_arg2) (bb t) (pp t r) (cc t f) :=
  (pay8_apply X _ r f).trans (Finset.sum_congr rfl fun k _ => congrArg₂ (· * ·) (hX r k) (read3 m c t k f))

/-- the other half; -/
theorem up_tile (hX : IsRows m c t X) (r : Fin 512) (f : Fin 1408) :
    k0_pay9 X (iblk m c 4 t) (ix2 r f) = up (arg m c main_arg0) (arg m c main_arg1) (arg m c main_arg2) (bb t) (pp t r) (cc t f) :=
  (pay9_apply X _ r f).trans (Finset.sum_congr rfl fun k _ => congrArg₂ (· * ·) (hX r k) (read4 m c t k f))

/-- the gates of the rows before it. -/
theorem prev_tile (hY : IsPrev m c t Y) (h : t.val / 2 % 8 ≠ 0) (r : Fin 16) (f : Fin 1408) :
    (∑ k : Fin 1024, Y (ix2 r k) * (iblk m c 3 t : Vec Ideal S1024x1408 .bf16) (ix2 k f))
      = gate (arg m c main_arg0) (arg m c main_arg1) (arg m c main_arg2) (bb t) (qq t r) (cc t f) :=
  Finset.sum_congr rfl fun k _ => congrArg₂ (· * ·) (hY h r k) (read3 m c t k f)

/-- The two gates before the tile: the older, -/
theorem older (hY : IsPrev m c t Y) (f : Fin 1408) (hq : 512 * (t.val / 2 % 8) < 4098) :
    k0_pay12 (grid0.coords t) Y (iblk m c 3 t) (iblk m c 8 t) (ix2 0 f)
      = padded (arg m c main_arg0) (arg m c main_arg1) (arg m c main_arg2) (arg m c main_arg6) (bb t) (512 * (t.val / 2 % 8)) hq (cc t f) := by
  have hi : (grid0.coords t 0).val = t.val / 2 := (idx t).2.2.2.2.2.2.2.2.2.2.2.2
  have h64 := lt64 t
  rw [pay12_apply, hi, firstBit_eq ⟨t.val / 2, by omega⟩, WordCmp.select_ofBool]
  simp only [decide_eq_true_eq]
  by_cases h : t.val / 2 % 8 = 0
  · rw [if_pos h, padded_st _ _ _ _ _ _ _ _ 0 (by simp [h])]
    exact read8 m c t 0 f
  · rw [if_neg h, prev_tile hY h]
    exact (padded_row _ _ _ _ _ _ _ _ (qq t 14) (by simp only [qq]; omega)).symm

/-- and the newer. -/
theorem newer (hY : IsPrev m c t Y) (f : Fin 1408) (hq : 512 * (t.val / 2 % 8) + 1 < 4098) :
    (if t.val / 2 % 8 = 0 then k0_pay13 (iblk m c 8 t) (ix2 0 f) else k0_pay14 Y (iblk m c 3 t) (ix2 0 f))
      = padded (arg m c main_arg0) (arg m c main_arg1) (arg m c main_arg2) (arg m c main_arg6) (bb t) (512 * (t.val / 2 % 8) + 1) hq (cc t f) := by
  by_cases h : t.val / 2 % 8 = 0
  · rw [if_pos h, padded_st _ _ _ _ _ _ _ _ 1 (by simp [h]), pay13_apply]
    exact read8 m c t 1 f
  · rw [if_neg h, pay14_apply, prev_tile hY h]
    exact (padded_row _ _ _ _ _ _ _ _ (qq t 15) (by simp only [qq]; omega)).symm

/-- The convolved gate of a tile's row. -/
theorem cgate_tile (hX : IsRows m c t X) (hY : IsPrev m c t Y) (r : Fin 512) (f : Fin 1408) :
    k0_pay15 (k0_pay8 X (iblk m c 3 t)) (firstBit (grid0.coords t 0).val) (k0_pay12 (grid0.coords t) Y (iblk m c 3 t) (iblk m c 8 t))
        (k0_pay13 (iblk m c 8 t)) (k0_pay14 Y (iblk m c 3 t)) (iblk m c 5 t) (iblk m c 6 t) (ix2 r f)
      = cgate (arg m c main_arg0) (arg m c main_arg1) (arg m c main_arg2) (arg m c main_arg3) (arg m c main_arg4) (arg m c main_arg6)
          (bb t) (pp t r) (cc t f) := by
  have hi : (grid0.coords t 0).val = t.val / 2 := (idx t).2.2.2.2.2.2.2.2.2.2.2.2
  have h64 := lt64 t
  rw [show firstBit (grid0.coords t 0).val = BitVec.ofBool (decide (t.val / 2 % 8 = 0)) by
    rw [hi]; exact firstBit_eq ⟨t.val / 2, by omega⟩, pay15_apply, newer hY f (by omega), older hY f (by omega), gate_tile hX, gate_tile hX, gate_tile hX]
  unfold cgate
  have e0 : (if r.val = 0 then padded (arg m c main_arg0) (arg m c main_arg1) (arg m c main_arg2) (arg m c main_arg6) (bb t) (512 * (t.val / 2 % 8)) (by omega) (cc t f)
      else if r.val = 1 then padded (arg m c main_arg0) (arg m c main_arg1) (arg m c main_arg2) (arg m c main_arg6) (bb t) (512 * (t.val / 2 % 8) + 1) (by omega) (cc t f)
      else gate (arg m c main_arg0) (arg m c main_arg1) (arg m c main_arg2) (bb t) (pp t ⟨(r.val + 512 - 2) % 512, by omega⟩) (cc t f))
      = padded (arg m c main_arg0) (arg m c main_arg1) (arg m c main_arg2) (arg m c main_arg6) (bb t) (pp t r).val (by omega) (cc t f) := by
    split
    · congr 1
      simp only [pp]; omega
    split
    · congr 1
      simp only [pp]; omega
    · exact (padded_row _ _ _ _ _ _ _ _ _ (by simp only [pp]; omega)).symm
  have e1 : (if r.val = 0 then padded (arg m c main_arg0) (arg m c main_arg1) (arg m c main_arg2) (arg m c main_arg6) (bb t) (512 * (t.val / 2 % 8) + 1) (by omega) (cc t f)
      else gate (arg m c main_arg0) (arg m c main_arg1) (arg m c main_arg2) (bb t) (pp t ⟨(r.val + 512 - 1) % 512, by omega⟩) (cc t f))
      = padded (arg m c main_arg0) (arg m c main_arg1) (arg m c main_arg2) (arg m c main_arg6) (bb t) (1 + (pp t r).val) (by omega) (cc t f) := by
    split
    · congr 1
      simp only [pp]; omega
    · exact (padded_row _ _ _ _ _ _ _ _ _ (by simp only [pp]; omega)).symm
  have e2 : gate (arg m c main_arg0) (arg m c main_arg1) (arg m c main_arg2) (bb t) (pp t r) (cc t f)
      = padded (arg m c main_arg0) (arg m c main_arg1) (arg m c main_arg2) (arg m c main_arg6) (bb t) (2 + (pp t r).val) (by omega) (cc t f) :=
    (padded_row _ _ _ _ _ _ _ _ _ (by omega)).symm
  rw [e0, e1, e2, read5 m c t 0 f, read5 m c t 1 f, read5 m c t 2 f, read6 m c t f]

/-- A block's share of the down projection of a tile's row. -/
theorem share_tile (hX : IsRows m c t X) (hY : IsPrev m c t Y) (r : Fin 512) (d : Fin 1024) :
    (∑ f : Fin 1408, k0_pay15 (k0_pay8 X (iblk m c 3 t)) (firstBit (grid0.coords t 0).val) (k0_pay12 (grid0.coords t) Y (iblk m c 3 t) (iblk m c 8 t))
        (k0_pay13 (iblk m c 8 t)) (k0_pay14 Y (iblk m c 3 t)) (iblk m c 5 t) (iblk m c 6 t) (ix2 r f)
      * k0_pay16 (k0_pay8 X (iblk m c 3 t)) (firstBit (grid0.coords t 0).val) (k0_pay12 (grid0.coords t) Y (iblk m c 3 t) (iblk m c 8 t))
        (k0_pay13 (iblk m c 8 t)) (k0_pay14 Y (iblk m c 3 t)) (iblk m c 5 t) (iblk m c 6 t) (ix2 r f)
      * k0_pay9 X (iblk m c 4 t) (ix2 r f) * (iblk m c 7 t : Vec Ideal S1408x1024 .bf16) (ix2 f d))
      = ∑ f : Fin 1408, hid (arg m c main_arg0) (arg m c main_arg1) (arg m c main_arg2) (arg m c main_arg3) (arg m c main_arg4) (arg m c main_arg6)
          (bb t) (pp t r) (cc t f) * (arg m c main_arg5 : Vec Ideal S2816x1024 .f32) (ix2 (cc t f) d) := by
  refine Finset.sum_congr rfl fun f _ => ?_
  rw [pay16_apply, cgate_tile hX hY, up_tile hX]
  exact congrArg₂ (· * ·) rfl (read7 m c t f d)

end Cert.Proof.FF
-- ==== Proof.FF.Final.lean ====
/-
  The conv feed-forward: the idealized kernel's result arrays after the run.
-/
module

public import Idealize.ShloMosaic.Lib.Pipeline.ReadBack
public import proofs.«01_k».proof.Proof.FF.Tile

@[expose] public section

set_option maxRecDepth 16384

noncomputable section

namespace Cert.Proof.FF

open Cert.Kernel3Ideal Cert.Kernel3Ideal.Gen
open Idealize.ShloMosaic Idealize.ShloMosaic.TcCoe
open Idealize.ShloMosaic.Pipeline

variable (m : (ℓ : Loc nD τ sig) → Buf (Elt Ideal) ℓ) (c : Dev nD) (t : Fin cfg0.N)

/-- The residual's entry. -/
def start (a0 : Vec Ideal S4x4096x1024 .f32) (b : Fin 4) (p : Fin 4096) (d : Fin 1024) : EReal := a0 (ix3 b p d)

/-- What a first-half point leaves in the kept rows; -/
theorem even_rows (h : t.val % 2 = 0) : IsRows m c t (outsAt0 m c t.val t.isLt).2.2.1 := fun r k => by
  rw [outsAt0_A m c t h h (by omega)]
  frame_out
  exact isRows_pay6 m c t r k

theorem even_prev (h : t.val % 2 = 0) : IsPrev m c t (outsAt0 m c t.val t.isLt).2.2.2 := fun hn r k => by
  rw [outsAt0_A m c t h h (by omega)]
  frame_out
  exact isPrev_pay7 m c t hn r k

/-- in the result's block; -/
theorem even_out (h : t.val % 2 = 0) (r : Fin 512) (d : Fin 1024) : (outsAt0 m c t.val t.isLt).1 (ix2 r d)
    = start (arg m c main_arg0) (bb t) (pp t r) d
      + ∑ f : Fin 1408, hid (arg m c main_arg0) (arg m c main_arg1) (arg m c main_arg2) (arg m c main_arg3) (arg m c main_arg4) (arg m c main_arg6)
          (bb t) (pp t r) (cc t f) * (arg m c main_arg5 : Vec Ideal S2816x1024 .f32) (ix2 (cc t f) d) := by
  rw [outsAt0_A m c t h h (by omega)]
  frame_out
  refine (pay2_apply _ _ _ _ _ r d).trans ?_
  exact congrArg₂ (· + ·) (read0 m c t r d) (share_tile (isRows_pay6 m c t) (isPrev_pay7 m c t) r d)

/-- and in the tails' block. -/
theorem even_tail (h : t.val % 2 = 0) (n : Fin 2) (f : Fin 1408) : (outsAt0 m c t.val t.isLt).2.1 (ix3 0 n f)
    = gate (arg m c main_arg0) (arg m c main_arg1) (arg m c main_arg2) (bb t) (pp t ⟨510 + n.val, by omega⟩) (cc t f) := by
  rw [outsAt0_A m c t h h (by omega)]
  frame_out
  rw [pay5_apply]
  exact gate_tile (isRows_pay6 m c t) _ f

/-- The point before a second-half point. -/
abbrev pred : Fin cfg0.N := ⟨t.val - 1, Nat.lt_of_le_of_lt (Nat.sub_le _ _) t.isLt⟩

variable {t}

theorem bb_pred (h : t.val % 2 = 1) : bb (pred t) = bb t := by
  simp only [bb, pred, Fin.mk.injEq]; omega

theorem pp_pred (h : t.val % 2 = 1) (r : Fin 512) : pp (pred t) r = pp t r := by
  simp only [pp, pred, Fin.mk.injEq]; omega

theorem qq_pred (h : t.val % 2 = 1) (r : Fin 16) : qq (pred t) r = qq t r := by
  simp only [qq, pred, Fin.mk.injEq]; omega

/-- The rows it kept are the second half's too. -/
theorem odd_rows (h : t.val % 2 = 1) : IsRows m c t (outsAt0 m c (t.val - 1) (Nat.lt_of_le_of_lt (Nat.sub_le _ _) t.isLt)).2.2.1 := fun r k => by
  rw [← bb_pred h, ← pp_pred h]
  exact even_rows m c (pred t) (by simp only [pred]; omega) r k

theorem odd_prev (h : t.val % 2 = 1) : IsPrev m c t (outsAt0 m c (t.val - 1) (Nat.lt_of_le_of_lt (Nat.sub_le _ _) t.isLt)).2.2.2 := fun hn r k => by
  rw [← bb_pred h, ← qq_pred h]
  exact even_prev m c (pred t) (by simp only [pred]; omega) (by simp only [pred]; omega) r k

/-- A sum over the hidden columns is the sum over the first half's and the second's. -/
theorem sum_halves (F : Fin 2816 → EReal) :
    ∑ f, F f = (∑ f : Fin 1408, F ⟨f.val, by omega⟩) + ∑ f : Fin 1408, F ⟨1408 + f.val, by omega⟩ :=
  Fin.sum_univ_add (a := 1408) (b := 1408) F

/-- The whole sum a second-half point has before the last norm. -/
theorem odd_sum (h : t.val % 2 = 1) (r : Fin 512) (d : Fin 1024) :
    (outsAt0 m c (t.val - 1) (Nat.lt_of_le_of_lt (Nat.sub_le _ _) t.isLt)).1 (ix2 r d)
      + ∑ f : Fin 1408, hid (arg m c main_arg0) (arg m c main_arg1) (arg m c main_arg2) (arg m c main_arg3) (arg m c main_arg4) (arg m c main_arg6)
          (bb t) (pp t r) (cc t f) * (arg m c main_arg5 : Vec Ideal S2816x1024 .f32) (ix2 (cc t f) d)
      = added (arg m c main_arg0) (arg m c main_arg1) (arg m c main_arg2) (arg m c main_arg3) (arg m c main_arg4) (arg m c main_arg5) (arg m c main_arg6)
          (bb t) (pp t r) d := by
  have e := even_out m c (pred t) (by simp only [pred]; omega) r d
  rw [bb_pred h, pp_pred h] at e
  have c0 : ∀ f : Fin 1408, cc (pred t) f = ⟨f.val, by omega⟩ := fun f => by simp only [cc, pred, Fin.mk.injEq]; omega
  have c1 : ∀ f : Fin 1408, cc t f = ⟨1408 + f.val, by omega⟩ := fun f => by simp only [cc, Fin.mk.injEq]; omega
  refine (congrArg (· + _) e).trans ?_
  simp only [c0, c1]
  rw [add_assoc]
  unfold added
  rw [sum_halves]
  rfl

/-- What a second-half point leaves in the result's block, -/
theorem odd_out (h : t.val % 2 = 1) (r : Fin 512) (d : Fin 1024) : (outsAt0 m c t.val t.isLt).1 (ix2 r d)
    = res (arg m c main_arg0) (arg m c main_arg1) (arg m c main_arg2) (arg m c main_arg3) (arg m c main_arg4) (arg m c main_arg5) (arg m c main_arg6)
        (arg m c main_arg7) (bb t) (pp t r) d := by
  rw [outsAt0_B m c t (by omega) (by omega) h]
  frame_out
  simp only [read_unread_whole]
  refine (pay4_apply _ _ _ _ _ _ r d).trans ?_
  refine congrArg₂ (fun x g => nrm x g d) (funext fun d => ?_) (funext fun k => read9 m c t k)
  exact (congrArg _ (share_tile (odd_rows m c h) (odd_prev m c h) r d)).trans (odd_sum m c h r d)

/-- and in the tails' block. -/
theorem odd_tail (h : t.val % 2 = 1) (n : Fin 2) (f : Fin 1408) : (outsAt0 m c t.val t.isLt).2.1 (ix3 0 n f)
    = gate (arg m c main_arg0) (arg m c main_arg1) (arg m c main_arg2) (bb t) (pp t ⟨510 + n.val, by omega⟩) (cc t f) := by
  rw [outsAt0_B m c t (by omega) (by omega) h]
  frame_out
  rw [read_unread_whole, pay5_apply]
  exact gate_tile (odd_rows m c h) _ f

/-! ## The arrays after the run -/

/-- The result's block at a point, in the result. -/
theorem emb10 (r : Fin 512) (d : Fin 1024) :
    (((View.whole main_v9_0).slice (win0_10.rect t)).emb (ix2 r d : S512x1024.Idx) : S16384x1024.Idx)
      = ix2 ⟨t.val / 2 * 512 + r.val, by have := lt64 t; omega⟩ d := by
  blk_ext [idx t]

/-- The result. -/
theorem final_y : (dats m 0 c).arrAt 10 cfg0.N
    = resA (arg m c main_arg0) (arg m c main_arg1) (arg m c main_arg2) (arg m c main_arg3)
        (arg m c main_arg4) (arg m c main_arg5) (arg m c main_arg6) (arg m c main_arg7) := by
  refine (dats m 0 c).arrAt_eq_of_covers 10 _ (by decide +kernel) fun t hf y => ?_
  have h := (flush0_10 t).mp hf
  blk_simp
  rw [after0_10]
  idx_vars y
  refine (odd_out m c h y0 y1).trans ?_
  rw [emb10]
  have hb : bb t = ⟨(t.val / 2 * 512 + y0.val) / 4096, by have := lt64 t; omega⟩ := by simp only [bb, Fin.mk.injEq]; omega
  have hp : pp t y0 = ⟨(t.val / 2 * 512 + y0.val) % 4096, Nat.mod_lt _ (by decide)⟩ := by simp only [pp, Fin.mk.injEq]; omega
  rw [hb, hp]
  rfl

/-- Every tile's last two gates. -/
def lastA (a0 : Vec Ideal S4x4096x1024 .f32) (a1 : Vec Ideal S1024 .f32) (a2 : Vec Ideal S1024x5632 .f32) : Vec Ideal S32x2x2816 .f32 := fun z =>
  gate a0 a1 a2 ⟨(z 0).val / 8, Nat.div_lt_of_lt_mul (z 0).isLt⟩ ⟨512 * ((z 0).val % 8) + (510 + (z 1).val), by
    have : (z 1).val < 2 := (z 1).isLt
    omega⟩ (z 2)

/-- The tails' block at a point, in the tails. -/
theorem emb11 (n : Fin 2) (f : Fin 1408) :
    (((View.whole main_v9_1).slice (win0_11.rect t)).emb (ix3 0 n f : S1x2x1408.Idx) : S32x2x2816.Idx)
      = ix3 ⟨t.val / 2, by have := lt64 t; omega⟩ n (cc t f) := by
  have e : cc t f = ⟨t.val % 2 * 1408 + f.val, by omega⟩ := by simp only [cc, Fin.mk.injEq]; omega
  rw [e]
  blk_ext [idx t]

theorem any_tail (n : Fin 2) (f : Fin 1408) : (outsAt0 m c t.val t.isLt).2.1 (ix3 0 n f)
    = gate (arg m c main_arg0) (arg m c main_arg1) (arg m c main_arg2) (bb t) (pp t ⟨510 + n.val, by omega⟩) (cc t f) := by
  rcases Nat.mod_two_eq_zero_or_one t.val with h | h
  · exact even_tail m c t h n f
  · exact odd_tail m c h n f

/-- The tails. -/
theorem final_t : (dats m 0 c).arrAt 11 cfg0.N = lastA (arg m c main_arg0) (arg m c main_arg1) (arg m c main_arg2) := by
  refine (dats m 0 c).arrAt_eq_of_covers 11 _ (by decide +kernel) fun t _ y => ?_
  blk_simp
  rw [after0_11]
  idx_vars y
  obtain rfl : y0 = 0 := Subsingleton.elim _ _
  refine (any_tail m c y1 y2).trans ?_
  rw [emb11]
  have hb : bb t = ⟨t.val / 2 / 8, by have := lt64 t; omega⟩ := by simp only [bb, Fin.mk.injEq]; omega
  have hp : pp t ⟨510 + y1.val, by omega⟩ = ⟨512 * (t.val / 2 % 8) + (510 + y1.val), by omega⟩ := rfl
  rw [hb, hp]
  rfl

/-- A sequence's last tile's tails are its new state. -/
theorem slice_tail (a0 : Vec Ideal S4x4096x1024 .f32) (a1 : Vec Ideal S1024 .f32) (a2 : Vec Ideal S1024x5632 .f32) (a6 : Vec Ideal S4x2x2816 .f32) :
    Host.slice S4x2x2816 ![7, 0, 0] ![8, 1, 1] (lastA a0 a1 a2) = tailA a0 a1 a2 a6 := by
  funext z
  idx_vars z
  have hr : tailA a0 a1 a2 a6 (ix3 z0 z1 z2) = gate a0 a1 a2 z0 ⟨4094 + z1.val, by omega⟩ z2 := by
    refine (dif_neg (show ¬ (4096 + z1.val < 2) by omega)).trans ?_
    exact congrArg (gate a0 a1 a2 z0 · z2) (Fin.ext (by show 4096 + z1.val - 2 = 4094 + z1.val; omega))
  rw [hr]
  pointwise
  have hg : ∀ (i : Fin 32) (j : Fin 2) (k : Fin 2816) , lastA a0 a1 a2 (ix3 i j k)
      = gate a0 a1 a2 ⟨i.val / 8, by omega⟩ ⟨512 * (i.val % 8) + (510 + j.val), by omega⟩ k := fun _ _ _ => rfl
  rw [hg]
  congr 1
  · exact Fin.ext (by show (7 + 8 * z0.val) / 8 = z0.val; omega)
  · exact Fin.ext (by show 512 * ((7 + 8 * z0.val) % 8) + (510 + z1.val) = 4094 + z1.val; omega)

/-! ## The two results after the host's slice -/

/-- The run leaves the result and the new state, and the arguments as they were. -/
theorem run (g : Dev nD → PrngReg) : θ_run defs (onTc (τ := τ) (main (F := Ideal))) ⟨m, fun _ => 0, g⟩ (fun r => ∀ c : Dev nD,
      r.2.mem ((c.tc : Thread nD τ).loc main_v9_0) = resA (arg m c main_arg0) (arg m c main_arg1) (arg m c main_arg2) (arg m c main_arg3)
        (arg m c main_arg4) (arg m c main_arg5) (arg m c main_arg6) (arg m c main_arg7)
      ∧ r.2.mem ((c.tc : Thread nD τ).loc main_v10) = tailA (arg m c main_arg0) (arg m c main_arg1) (arg m c main_arg2) (arg m c main_arg6)) := by
  refine (θ_run defs _ _).mono (fun r h c => ⟨?_, ?_⟩) (run_main m g)
  · exact ((h c).1 10).trans (final_y m c)
  · refine ((h c).2 main_v10 (mem_restRefs_of main_v10 (by decide) (by decide))).trans ?_
    refine Eq.trans ?_ (slice_tail _ _ _ (arg m c main_arg6))
    rw [← final_t m c]
    unfold afterTail₀
    have e : withArrays spec0 c (V0 m c) (fun w => (dats m 0 c).arrAt w cfg0.N) (Proc.devRef .tc main_v9_1) = (dats m 0 c).arrAt 11 cfg0.N :=
      Dat.withArrays_arrAt (dats m 0 c) sharedIn0 (V0 m c) (A_eq m c) 11
    rw [← e]
    unfold hostOps1
    simp only [List.flatten_cons, List.flatten_nil, List.append_nil]
    after_results

end Cert.Proof.FF
-- ==== Proof.FF.Ref.lean ====
/-
  The conv feed-forward: what the reference's results hold.
-/
module

public import proofs.«01_k».proof.Proof.Gen.Reference3Ideal.Read
public import proofs.«01_k».proof.Proof.FF.Spec

@[expose] public section

set_option maxRecDepth 16384

noncomputable section

namespace Cert.Proof.FF

open Cert.Reference3Ideal Cert.Reference3Ideal.Read
open Idealize.ShloMosaic Idealize.ShloMosaic.TcCoe

variable (a0 : Vec Ideal S4x4096x1024 .f32) (a1 : Vec Ideal S1024 .f32) (a2 : Vec Ideal S1024x5632 .f32) (a3 : Vec Ideal S3x2816 .f32)
  (a4 : Vec Ideal S2816 .f32) (a5 : Vec Ideal S2816x1024 .f32) (a6 : Vec Ideal S4x2x2816 .f32) (a7 : Vec Ideal S1024 .f32)

/-- The reference's normed rows. -/
theorem ref_nx (b : Fin 4) (p : Fin 4096) (k : Fin 1024) : val_main_v12 a0 a1 (ix3 b p k) = nx a0 a1 b p k := by
  pointwise [val_main_v0, val_main_cst, val_main_v1, val_main_v2, val_main_cst_0, val_main_v3, val_main_v4, val_main_cst_1, val_main_v5,
    val_main_v6, val_main_v7, val_main_v8, val_main_v9, val_main_v10, val_main_v11, val_main_v12]
  rfl

/-- Its gates; -/
theorem ref_gate (b : Fin 4) (p : Fin 4096) (f : Fin 2816) : val_main_v14 a0 a1 a2 (ix3 b p f) = gate a0 a1 a2 b p f := by
  pointwise [val_main_v14, val_main_v13]
  simp only [ref_nx]
  rfl

/-- the other half; -/
theorem ref_up (b : Fin 4) (p : Fin 4096) (f : Fin 2816) : val_main_v15 a0 a1 a2 (ix3 b p f) = up a0 a1 a2 b p f := by
  pointwise [val_main_v15, val_main_v13]
  simp only [ref_nx]
  rfl

/-- the gates behind the state; -/
theorem ref_padded (b : Fin 4) (q : Fin 4098) (f : Fin 2816) :
    val_main_v16 a0 a1 a2 a6 (ix3 b q f) = padded a0 a1 a2 a6 b q.val q.isLt f := by
  pointwise [val_main_v16]
  simp only [ref_gate]
  rfl

/-- convolved; -/
theorem ref_cgate (b : Fin 4) (p : Fin 4096) (f : Fin 2816) : val_main_v39 a0 a1 a2 a3 a4 a6 (ix3 b p f) = cgate a0 a1 a2 a3 a4 a6 b p f := by
  pointwise [val_main_v17, val_main_v18, val_main_v19, val_main_v20, val_main_v21, val_main_v22, val_main_v23, val_main_v24, val_main_v25,
    val_main_v26, val_main_v27, val_main_v28, val_main_v29, val_main_v30, val_main_v31, val_main_v32, val_main_v33, val_main_v34,
    val_main_v35, val_main_v36, val_main_v37, val_main_v38, val_main_v39]
  simp only [ref_padded]
  rfl

/-- the hidden row; -/
theorem ref_hid (b : Fin 4) (p : Fin 4096) (f : Fin 2816) : val_main_v53 a0 a1 a2 a3 a4 a6 (ix3 b p f) = hid a0 a1 a2 a3 a4 a6 b p f := by
  pointwise [val_main_v40, val_main_v41, val_main_cst_2, val_main_v42, val_main_v43, val_main_v44, val_main_cst_3, val_main_v45,
    val_main_v46, val_main_v47, val_main_cst_4, val_main_v48, val_main_v49, val_main_cst_5, val_main_v50, val_main_v51, val_main_v52, val_main_v53]
  simp only [ref_cgate, ref_up]
  rfl

/-- the sum with the row; -/
theorem ref_added (b : Fin 4) (p : Fin 4096) (d : Fin 1024) :
    val_main_v56 a0 a1 a2 a3 a4 a5 a6 (ix3 b p d) = added a0 a1 a2 a3 a4 a5 a6 b p d := by
  pointwise [val_main_v54, val_main_v56]
  simp only [ref_hid]
  rfl

/-- and the result. -/
theorem ref_res (b : Fin 4) (p : Fin 4096) (d : Fin 1024) :
    val_main_v69 a0 a1 a2 a3 a4 a5 a6 a7 (ix3 b p d) = res a0 a1 a2 a3 a4 a5 a6 a7 b p d := by
  pointwise [val_main_v57, val_main_cst_6, val_main_v58, val_main_v59, val_main_cst_7, val_main_v60, val_main_v61, val_main_cst_8,
    val_main_v62, val_main_v63, val_main_v64, val_main_v65, val_main_v66, val_main_v67, val_main_v68, val_main_v69]
  simp only [ref_added]
  rfl

/-- The reference's first result. -/
theorem ref_eq : val_main_v70 a0 a1 a2 a3 a4 a5 a6 a7 = resA a0 a1 a2 a3 a4 a5 a6 a7 := by
  funext z
  obtain ⟨r, d, rfl⟩ : ∃ (r : Fin 16384) (d : Fin 1024), z = ix2 r d := ⟨z 0, z 1, ValueIdx.eq_ix2 z⟩
  pointwise [val_main_v70]
  refine (ref_res a0 a1 a2 a3 a4 a5 a6 a7 _ _ _).trans ?_
  rfl

/-- Its second. -/
theorem ref_tail : val_main_v55 a0 a1 a2 a6 = tailA a0 a1 a2 a6 := by
  funext z
  obtain ⟨b, n, f, rfl⟩ : ∃ (b : Fin 4) (n : Fin 2) (f : Fin 2816), z = ix3 b n f := ⟨z 0, z 1, z 2, ValueIdx.eq_ix3 z⟩
  pointwise [val_main_v55]
  refine (ref_padded a0 a1 a2 a6 _ _ _).trans ?_
  rfl

end Cert.Proof.FF
-- ==== Proof.KV.Spec.lean ====
/-
  The feature-major columns of the combined projection over the extended reals, element by element.
-/
module

public import proofs.«01_k».proof.Proof.Gen.Kernel4Ideal.Frame
public import proofs.«01_k».proof.Proof.Row
public import Idealize.ShloMosaic.Lib.Pipeline.ValueKit
public import Idealize.ShloMosaic.Lib.Pipeline.ValueKit.Partial
public import Idealize.ShloMosaic.Lib.Pointwise

@[expose] public section

noncomputable section

namespace Cert.Proof.KV

open Cert.Kernel4Ideal Cert.Kernel4Ideal.Gen
open Idealize.ShloMosaic Idealize.ShloMosaic.TcCoe

/-- Column `q` of layer `l`'s projection of the rows `x`, at position `p` of sequence `b`. -/
def proj (x : Vec Ideal S4x4096x1024 .f32) (nm : Vec Ideal S2x1024 .f32) (w : Vec Ideal S2x1024x7680 .f32) (l : Fin 2) (b : Fin 4)
    (p : Fin 4096) (q : Fin 7680) : EReal :=
  ∑ k : Fin 1024, nrm (fun k => x (ix3 b p k)) (fun k => nm (ix2 l k)) k * w (ix3 l k q)

/-- One layer's part of the columns from `off` on, feature-major. -/
def layer (x : Vec Ideal S4x4096x1024 .f32) (nm : Vec Ideal S2x1024 .f32) (w : Vec Ideal S2x1024x7680 .f32) (l : Fin 2)
    (off : ℕ) (h : off + 512 ≤ 7680) : Vec Ideal S2x4x512x4096 .f32 := fun z =>
  proj x nm w l (z 1) (z 3) ⟨off + (z 2).val, Nat.lt_of_lt_of_le (Nat.add_lt_add_left (z 2).isLt off) h⟩

theorem layer_apply (x : Vec Ideal S4x4096x1024 .f32) (nm : Vec Ideal S2x1024 .f32) (w : Vec Ideal S2x1024x7680 .f32) (l : Fin 2)
    (off : ℕ) (h : off + 512 ≤ 7680) (a : Fin 2) (b : Fin 4) (f : Fin 512) (p : Fin 4096) :
    layer x nm w l off h (ix4 a b f p) = ∑ k : Fin 1024, nrm (fun k => x (ix3 b p k)) (fun k => nm (ix2 l k)) k
      * w (ix3 l k ⟨off + f.val, Nat.lt_of_lt_of_le (Nat.add_lt_add_left f.isLt off) h⟩) := rfl

/-- Both layers' parts, stacked. -/
def stackA (x0 x1 : Vec Ideal S4x4096x1024 .f32) (nm : Vec Ideal S2x1024 .f32) (w : Vec Ideal S2x1024x7680 .f32)
    (off : ℕ) (h : off + 512 ≤ 7680) : Vec Ideal S2x4x512x4096 .f32 := fun z =>
  if (z 0).val = 1 then layer x1 nm w 1 off h z else layer x0 nm w 0 off h z

end Cert.Proof.KV
-- ==== Proof.KV.Body.lean ====
/-
  The feature-major projection: what the two calls' bodies compute, element by element.
-/
module

public import proofs.«01_k».proof.Proof.KV.Spec

@[expose] public section

set_option maxRecDepth 16384

noncomputable section

namespace Cert.Proof.KV

open Cert.Kernel4Ideal Cert.Kernel4Ideal.Gen
open Idealize.ShloMosaic Idealize.ShloMosaic.TcCoe
open Idealize.ShloMosaic.Pipeline

/-- The norm of a tile's rows. -/
theorem norm0_apply (x : Vec Ideal S1024x1024 .f32) (g : Vec Ideal S1x1024 .f32) (r k : Fin 1024) :
    k0_pay4 x g (ix2 r k) = nrm (fun k => x (ix2 r k)) (fun k => g (ix2 0 k)) k := by
  pointwise [k0_pay4]
  rfl

theorem col0_0 (x : Vec Ideal S1024x1024 .f32) (g : Vec Ideal S1x1024 .f32) (w : Vec Ideal S512x1024 .bf16) (f : Fin 512) (r : Fin 1024) :
    k0_pay5 x g w (ix4 0 0 f r) = ∑ k : Fin 1024, w (ix2 f k) * nrm (fun k => x (ix2 r k)) (fun k => g (ix2 0 k)) k := by
  pointwise [k0_pay4, k0_pay5, k0_pay6, k0_pay7, k0_pay1, k0_pay2, k0_pay3]
  rfl

theorem col0_1 (x : Vec Ideal S1024x1024 .f32) (g : Vec Ideal S1x1024 .f32) (w : Vec Ideal S512x1024 .bf16) (f : Fin 512) (r : Fin 1024) :
    k0_pay6 x g w (ix4 0 0 f r) = ∑ k : Fin 1024, w (ix2 f k) * nrm (fun k => x (ix2 r k)) (fun k => g (ix2 0 k)) k := by
  pointwise [k0_pay4, k0_pay5, k0_pay6, k0_pay7, k0_pay1, k0_pay2, k0_pay3]
  rfl

theorem col0_2 (x : Vec Ideal S1024x1024 .f32) (g : Vec Ideal S1x1024 .f32) (w : Vec Ideal S512x1024 .bf16) (f : Fin 512) (r : Fin 1024) :
    k0_pay1 (k0_pay7 x g w) (ix4 0 0 f r) = ∑ k : Fin 1024, w (ix2 f k) * nrm (fun k => x (ix2 r k)) (fun k => g (ix2 0 k)) k := by
  pointwise [k0_pay4, k0_pay5, k0_pay6, k0_pay7, k0_pay1, k0_pay2, k0_pay3]
  rfl

theorem col0_3 (x : Vec Ideal S1024x1024 .f32) (g : Vec Ideal S1x1024 .f32) (w : Vec Ideal S512x1024 .bf16) (f : Fin 512) (r : Fin 1024) :
    k0_pay2 (k0_pay4 x g) w (ix4 0 0 f r) = ∑ k : Fin 1024, w (ix2 f k) * nrm (fun k => x (ix2 r k)) (fun k => g (ix2 0 k)) k := by
  pointwise [k0_pay4, k0_pay5, k0_pay6, k0_pay7, k0_pay1, k0_pay2, k0_pay3]
  rfl

theorem col0_4 (x : Vec Ideal S1024x1024 .f32) (g : Vec Ideal S1x1024 .f32) (w : Vec Ideal S512x1024 .bf16) (f : Fin 512) (r : Fin 1024) :
    k0_pay3 (k0_pay4 x g) w (ix4 0 0 f r) = ∑ k : Fin 1024, w (ix2 f k) * nrm (fun k => x (ix2 r k)) (fun k => g (ix2 0 k)) k := by
  pointwise [k0_pay4, k0_pay5, k0_pay6, k0_pay7, k0_pay1, k0_pay2, k0_pay3]
  rfl

/-- The norm of a tile's rows. -/
theorem norm1_apply (x : Vec Ideal S1024x1024 .f32) (g : Vec Ideal S1x1024 .f32) (r k : Fin 1024) :
    k1_pay4 x g (ix2 r k) = nrm (fun k => x (ix2 r k)) (fun k => g (ix2 0 k)) k := by
  pointwise [k1_pay4]
  rfl

theorem col1_0 (x : Vec Ideal S1024x1024 .f32) (g : Vec Ideal S1x1024 .f32) (w : Vec Ideal S512x1024 .bf16) (f : Fin 512) (r : Fin 1024) :
    k1_pay5 x g w (ix4 0 0 f r) = ∑ k : Fin 1024, w (ix2 f k) * nrm (fun k => x (ix2 r k)) (fun k => g (ix2 0 k)) k := by
  pointwise [k1_pay4, k1_pay5, k1_pay6, k1_pay7, k1_pay1, k1_pay2, k1_pay3]
  rfl

theorem col1_1 (x : Vec Ideal S1024x1024 .f32) (g : Vec Ideal S1x1024 .f32) (w : Vec Ideal S512x1024 .bf16) (f : Fin 512) (r : Fin 1024) :
    k1_pay6 x g w (ix4 0 0 f r) = ∑ k : Fin 1024, w (ix2 f k) * nrm (fun k => x (ix2 r k)) (fun k => g (ix2 0 k)) k := by
  pointwise [k1_pay4, k1_pay5, k1_pay6, k1_pay7, k1_pay1, k1_pay2, k1_pay3]
  rfl

theorem col1_2 (x : Vec Ideal S1024x1024 .f32) (g : Vec Ideal S1x1024 .f32) (w : Vec Ideal S512x1024 .bf16) (f : Fin 512) (r : Fin 1024) :
    k1_pay1 (k1_pay7 x g w) (ix4 0 0 f r) = ∑ k : Fin 1024, w (ix2 f k) * nrm (fun k => x (ix2 r k)) (fun k => g (ix2 0 k)) k := by
  pointwise [k1_pay4, k1_pay5, k1_pay6, k1_pay7, k1_pay1, k1_pay2, k1_pay3]
  rfl

theorem col1_3 (x : Vec Ideal S1024x1024 .f32) (g : Vec Ideal S1x1024 .f32) (w : Vec Ideal S512x1024 .bf16) (f : Fin 512) (r : Fin 1024) :
    k1_pay2 (k1_pay4 x g) w (ix4 0 0 f r) = ∑ k : Fin 1024, w (ix2 f k) * nrm (fun k => x (ix2 r k)) (fun k => g (ix2 0 k)) k := by
  pointwise [k1_pay4, k1_pay5, k1_pay6, k1_pay7, k1_pay1, k1_pay2, k1_pay3]
  rfl

theorem col1_4 (x : Vec Ideal S1024x1024 .f32) (g : Vec Ideal S1x1024 .f32) (w : Vec Ideal S512x1024 .bf16) (f : Fin 512) (r : Fin 1024) :
    k1_pay3 (k1_pay4 x g) w (ix4 0 0 f r) = ∑ k : Fin 1024, w (ix2 f k) * nrm (fun k => x (ix2 r k)) (fun k => g (ix2 0 k)) k := by
  pointwise [k1_pay4, k1_pay5, k1_pay6, k1_pay7, k1_pay1, k1_pay2, k1_pay3]
  rfl

end Cert.Proof.KV
-- ==== Proof.KV.Reads.lean ====
/-
  The feature-major projection: what each input block of a point reads, in the arrays as launched.
-/
module

public import proofs.«01_k».proof.Proof.KV.Body

@[expose] public section

set_option maxRecDepth 16384

noncomputable section

namespace Cert.Proof.KV

open Cert.Kernel4Ideal Cert.Kernel4Ideal.Gen
open Idealize.ShloMosaic Idealize.ShloMosaic.TcCoe
open Idealize.ShloMosaic.Pipeline

theorem lt16 (t : Fin cfg0.N) : t.val < 16 := t.isLt
theorem lt16' (t : Fin cfg1.N) : t.val < 16 := t.isLt

/-- The block indices of the first layer's points, -/
theorem idx0 : ∀ t : Fin cfg0.N, win0_0.index t = ![t.val, 0] ∧ win0_1.index t = ![0, 0] ∧ win0_2.index t = ![0, 0]
    ∧ win0_3.index t = ![0, t.val / 4, 0, t.val % 4]
    ∧ win0_4.index t = ![0, t.val / 4, 0, t.val % 4]
    ∧ win0_5.index t = ![0, t.val / 4, 0, t.val % 4]
    ∧ win0_6.index t = ![0, t.val / 4, 0, t.val % 4]
    ∧ win0_7.index t = ![0, t.val / 4, 0, t.val % 4] := (by decide +kernel : ∀ t : Fin grid0.N, _)

/-- and of the second layer's. -/
theorem idx1 : ∀ t : Fin cfg1.N, win1_0.index t = ![t.val, 0] ∧ win1_1.index t = ![0, 0] ∧ win1_2.index t = ![0, 0]
    ∧ win1_3.index t = ![1, t.val / 4, 0, t.val % 4]
    ∧ win1_4.index t = ![1, t.val / 4, 0, t.val % 4]
    ∧ win1_5.index t = ![1, t.val / 4, 0, t.val % 4]
    ∧ win1_6.index t = ![1, t.val / 4, 0, t.val % 4]
    ∧ win1_7.index t = ![1, t.val / 4, 0, t.val % 4] := (by decide +kernel : ∀ t : Fin grid1.N, _)

section Blocks

variable (V : (c : Dev nD) → (b : Ref sig .tc) → Buf (Elt Ideal) ((c : Thread nD τ).loc b)) (c : Dev nD)

theorem blkx0 (t : Fin cfg0.N) (r k : Fin 1024) : (iblk0 V c 0 t : Vec Ideal S1024x1024 .f32) (ix2 r k)
    = (V c main_v12 : Vec Ideal S16384x1024 .f32) (ix2 ⟨t.val * 1024 + r.val, by have : t.val < 16 := t.isLt; omega⟩ k) := by
  blk_simp [iblk0, idx0 t]
  refine congrArg _ ?_
  blk_ext [idx0 t]

theorem blkg0 (t : Fin cfg0.N) (k : Fin 1024) : (iblk0 V c 1 t : Vec Ideal S1x1024 .f32) (ix2 0 k)
    = (V c main_v17 : Vec Ideal S1x1024 .f32) (ix2 0 k) := by
  blk_simp [iblk0, idx0 t]
  refine congrArg _ ?_
  blk_ext [idx0 t]

theorem blkw0 (t : Fin cfg0.N) (q : Fin 2560) (k : Fin 1024) : (iblk0 V c 2 t : Vec Ideal S2560x1024 .bf16) (ix2 q k)
    = (V c main_v16 : Vec Ideal S2560x1024 .bf16) (ix2 q k) := by
  blk_simp [iblk0, idx0 t]
  refine congrArg _ ?_
  blk_ext [idx0 t]

theorem blkx1 (t : Fin cfg1.N) (r k : Fin 1024) : (iblk1 V c 0 t : Vec Ideal S1024x1024 .f32) (ix2 r k)
    = (V c main_v19 : Vec Ideal S16384x1024 .f32) (ix2 ⟨t.val * 1024 + r.val, by have : t.val < 16 := t.isLt; omega⟩ k) := by
  blk_simp [iblk1, idx1 t]
  refine congrArg _ ?_
  blk_ext [idx1 t]

theorem blkg1 (t : Fin cfg1.N) (k : Fin 1024) : (iblk1 V c 1 t : Vec Ideal S1x1024 .f32) (ix2 0 k)
    = (V c main_v24 : Vec Ideal S1x1024 .f32) (ix2 0 k) := by
  blk_simp [iblk1, idx1 t]
  refine congrArg _ ?_
  blk_ext [idx1 t]

theorem blkw1 (t : Fin cfg1.N) (q : Fin 2560) (k : Fin 1024) : (iblk1 V c 2 t : Vec Ideal S2560x1024 .bf16) (ix2 q k)
    = (V c main_v23 : Vec Ideal S2560x1024 .bf16) (ix2 q k) := by
  blk_simp [iblk1, idx1 t]
  refine congrArg _ ?_
  blk_ext [idx1 t]

end Blocks

variable (m : (ℓ : Loc nD τ sig) → Buf (Elt Ideal) ℓ) (g : Dev nD → PrngReg) (c : Dev nD)

theorem V1_host (b : Ref sig .tc) : V1 m g c b = StableHlo.after (hostOps0 (F := Ideal)) (W0 m g c) (Proc.devRef .tc b) := rfl

theorem V3_host (b : Ref sig .tc) : V3 m g c b = StableHlo.after (hostOps1 (F := Ideal)) (W2 m g c) (Proc.devRef .tc b) := rfl

/-- An argument array as launched. -/
abbrev arg (b : Ref sig .tc) : Buf (Elt Ideal) ((c : Thread nD τ).loc b) := m ((c : Thread nD τ).loc b)

/-- A concatenation of five operands, each operand's contents at its own reference. -/
theorem nary5 {τ : Topo} {sig : RefSig} {Val : EltTy → Type} {x a b e d y : Ref sig .tc}
    (f : ((k : Fin 5) → ((![x, a, b, e, d] : Fin 5 → Ref sig .tc) k).ty.Contents Val) → y.ty.Contents Val) (hxs hy)
    (F : Valuation τ sig Val) :
    (StableHlo.nary (τ := τ) ![x, a, b, e, d] y f hxs hy).result F (Proc.devRef .tc y)
      = f (Fin.cons (F (Proc.devRef .tc x)) (Fin.cons (F (Proc.devRef .tc a)) (Fin.cons (F (Proc.devRef .tc b))
          (Fin.cons (F (Proc.devRef .tc e)) (Fin.cons (F (Proc.devRef .tc d)) (fun i => i.elim0)))))) := by
  rw [StableHlo.nary_result]; congr 1; funext k; fin_cases k <;> rfl

/-- Five column groups side by side, transposed and rounded. -/
def wide (a0 a1 a2 a3 a4 : FVec Ideal S2x1024x512 .f32) : FVec Ideal S2x2560x1024 .bf16 :=
  truncf .bf16 (transpose S2x2560x1024 [0, 2, 1] (concatenate S2x1024x2560 2
    [⟨S2x1024x512, a0⟩, ⟨S2x1024x512, a1⟩, ⟨S2x1024x512, a2⟩, ⟨S2x1024x512, a3⟩, ⟨S2x1024x512, a4⟩]
    concatenates_S2x1024x512_S2x1024x512_S2x1024x512_S2x1024x512_S2x1024x512_S2x1024x2560_d2)
    transposes_S2x1024x2560_S2x2560x1024_0_2_1) bitsLt_bf16_f32

theorem wide_0 (a0 a1 a2 a3 a4 : FVec Ideal S2x1024x512 .f32) (l : Fin 2) (f : Fin 512) (k : Fin 1024) :
    wide a0 a1 a2 a3 a4 (ix3 l ⟨0 + f.val, by omega⟩ k) = a0 (ix3 l k f) := by
  pointwise [wide]

theorem wide_1 (a0 a1 a2 a3 a4 : FVec Ideal S2x1024x512 .f32) (l : Fin 2) (f : Fin 512) (k : Fin 1024) :
    wide a0 a1 a2 a3 a4 (ix3 l ⟨512 + f.val, by omega⟩ k) = a1 (ix3 l k f) := by
  pointwise [wide]

theorem wide_2 (a0 a1 a2 a3 a4 : FVec Ideal S2x1024x512 .f32) (l : Fin 2) (f : Fin 512) (k : Fin 1024) :
    wide a0 a1 a2 a3 a4 (ix3 l ⟨1024 + f.val, by omega⟩ k) = a2 (ix3 l k f) := by
  pointwise [wide]
  split_ifs <;> first | omega | (congr 2; apply Fin.ext; dsimp only; omega)

theorem wide_3 (a0 a1 a2 a3 a4 : FVec Ideal S2x1024x512 .f32) (l : Fin 2) (f : Fin 512) (k : Fin 1024) :
    wide a0 a1 a2 a3 a4 (ix3 l ⟨1536 + f.val, by omega⟩ k) = a3 (ix3 l k f) := by
  pointwise [wide]
  split_ifs <;> first | omega | (congr 2; apply Fin.ext; dsimp only; omega)

theorem wide_4 (a0 a1 a2 a3 a4 : FVec Ideal S2x1024x512 .f32) (l : Fin 2) (f : Fin 512) (k : Fin 1024) :
    wide a0 a1 a2 a3 a4 (ix3 l ⟨2048 + f.val, by omega⟩ k) = a4 (ix3 l k f) := by
  pointwise [wide]
  split_ifs <;> first | omega | (congr 2; apply Fin.ext; dsimp only; omega)

/-- The columns of the projection's weights from an offset on. -/
abbrev part (off : Fin 3 → ℕ) (h : S2x1024x7680.Slices off S2x1024x512) : Vec Ideal S2x1024x512 .f32 :=
  extractStridedSlice S2x1024x512 off (arg m c main_arg3 : Vec Ideal S2x1024x7680 .f32) h

/-- The weights as the call takes them. -/
theorem v11 : V1 m g c main_v11 = wide
      (part m c ![0, 0, 512] slices_S2x1024x7680_S2x1024x512_0_0_512)
      (part m c ![0, 0, 1024] slices_S2x1024x7680_S2x1024x512_0_0_1024)
      (part m c ![0, 0, 2048] slices_S2x1024x7680_S2x1024x512_0_0_2048)
      (part m c ![0, 0, 2560] slices_S2x1024x7680_S2x1024x512_0_0_2560)
      (part m c ![0, 0, 3584] slices_S2x1024x7680_S2x1024x512_0_0_3584) := by
  rw [V1_host]
  unfold hostOps0
  simp only [StableHlo.after_cons, StableHlo.after_nil]
  repeat (first
    | (rw [StableHlo.reshape_result_ne]; rotate_left; decide)
    | rw [StableHlo.unary_result]
    | (rw [StableHlo.unary_result_ne]; rotate_left; decide))
  rw [nary5]
  repeat (first
    | rw [StableHlo.unary_result]
    | (rw [StableHlo.unary_result_ne]; rotate_left; decide))
  rfl

/-- The transposed weights' rows from 0 on are the columns from 512 on. -/
theorem wt_0 (l : Fin 2) (f : Fin 512) (k : Fin 1024) :
    (V1 m g c main_v11 : Vec Ideal S2x2560x1024 .bf16) (ix3 l ⟨0 + f.val, by omega⟩ k)
      = (arg m c main_arg3 : Vec Ideal S2x1024x7680 .f32) (ix3 l k ⟨512 + f.val, by omega⟩) := by
  rw [v11, wide_0]
  pointwise [part]

/-- The transposed weights' rows from 512 on are the columns from 1024 on. -/
theorem wt_1 (l : Fin 2) (f : Fin 512) (k : Fin 1024) :
    (V1 m g c main_v11 : Vec Ideal S2x2560x1024 .bf16) (ix3 l ⟨512 + f.val, by omega⟩ k)
      = (arg m c main_arg3 : Vec Ideal S2x1024x7680 .f32) (ix3 l k ⟨1024 + f.val, by omega⟩) := by
  rw [v11, wide_1]
  pointwise [part]

/-- The transposed weights' rows from 1024 on are the columns from 2048 on. -/
theorem wt_2 (l : Fin 2) (f : Fin 512) (k : Fin 1024) :
    (V1 m g c main_v11 : Vec Ideal S2x2560x1024 .bf16) (ix3 l ⟨1024 + f.val, by omega⟩ k)
      = (arg m c main_arg3 : Vec Ideal S2x1024x7680 .f32) (ix3 l k ⟨2048 + f.val, by omega⟩) := by
  rw [v11, wide_2]
  pointwise [part]

/-- The transposed weights' rows from 1536 on are the columns from 2560 on. -/
theorem wt_3 (l : Fin 2) (f : Fin 512) (k : Fin 1024) :
    (V1 m g c main_v11 : Vec Ideal S2x2560x1024 .bf16) (ix3 l ⟨1536 + f.val, by omega⟩ k)
      = (arg m c main_arg3 : Vec Ideal S2x1024x7680 .f32) (ix3 l k ⟨2560 + f.val, by omega⟩) := by
  rw [v11, wide_3]
  pointwise [part]

/-- The transposed weights' rows from 2048 on are the columns from 3584 on. -/
theorem wt_4 (l : Fin 2) (f : Fin 512) (k : Fin 1024) :
    (V1 m g c main_v11 : Vec Ideal S2x2560x1024 .bf16) (ix3 l ⟨2048 + f.val, by omega⟩ k)
      = (arg m c main_arg3 : Vec Ideal S2x1024x7680 .f32) (ix3 l k ⟨3584 + f.val, by omega⟩) := by
  rw [v11, wide_4]
  pointwise [part]

/-- The first layer's half of the weights, -/
theorem half0 (q : Fin 2560) (k : Fin 1024) : (V1 m g c main_v16 : Vec Ideal S2560x1024 .bf16) (ix2 q k)
    = (V1 m g c main_v11 : Vec Ideal S2x2560x1024 .bf16) (ix3 0 q k) := by
  have e : (V1 m g c main_v16 : Vec Ideal S2560x1024 .bf16) = shapeCast S2560x1024
      (extractStridedSlice S1x2560x1024 ![0, 0, 0] (V1 m g c main_v11 : Vec Ideal S2x2560x1024 .bf16) slices_S2x2560x1024_S1x2560x1024_0_0_0)
      shapeCasts_S1x2560x1024_S2560x1024 := by
    rw [V1_host, V1_host]
    unfold hostOps0
    simp only [StableHlo.after_cons, StableHlo.after_nil]
    repeat (first
      | (rw [StableHlo.reshape_result_ne]; rotate_left; decide)
      | rw [StableHlo.reshape_result]
      | rw [StableHlo.unary_result]
      | (rw [StableHlo.unary_result_ne]; rotate_left; decide))
    rfl
  rw [e]
  generalize (V1 m g c main_v11 : Vec Ideal S2x2560x1024 .bf16) = B
  pointwise

theorem rows0 (R : Fin 16384) (k : Fin 1024) : (V1 m g c main_v12 : Vec Ideal S16384x1024 .f32) (ix2 R k)
    = (arg m c main_arg0 : Vec Ideal S4x4096x1024 .f32) (ix3 ⟨R.val / 4096, by omega⟩ ⟨R.val % 4096, by omega⟩ k) := by
  rw [V1_host]
  entry_read
  pointwise

theorem gain0 (k : Fin 1024) : (V1 m g c main_v17 : Vec Ideal S1x1024 .f32) (ix2 0 k)
    = (arg m c main_arg2 : Vec Ideal S2x1024 .f32) (ix2 0 k) := by
  rw [V1_host]
  entry_read
  pointwise

/-- and the second layer's rows, gains and weights: the first region leaves them as they were. -/
theorem rows1 (R : Fin 16384) (k : Fin 1024) : (V3 m g c main_v19 : Vec Ideal S16384x1024 .f32) (ix2 R k)
    = (arg m c main_arg1 : Vec Ideal S4x4096x1024 .f32) (ix3 ⟨R.val / 4096, by omega⟩ ⟨R.val % 4096, by omega⟩ k) := by
  rw [V3_host]
  entry_read
  pointwise
  rw [W2_args m g c main_arg1 (by decide)]

theorem gain1 (k : Fin 1024) : (V3 m g c main_v24 : Vec Ideal S1x1024 .f32) (ix2 0 k)
    = (arg m c main_arg2 : Vec Ideal S2x1024 .f32) (ix2 1 k) := by
  rw [V3_host]
  entry_read
  pointwise
  rw [W2_args m g c main_arg2 (by decide)]

theorem half1 (q : Fin 2560) (k : Fin 1024) : (V3 m g c main_v23 : Vec Ideal S2560x1024 .bf16) (ix2 q k)
    = (V1 m g c main_v11 : Vec Ideal S2x2560x1024 .bf16) (ix3 1 q k) := by
  rw [V3_host]
  entry_read
  pointwise
  rw [W2_of_ne m g c main_v11 (by decide)]

end Cert.Proof.KV
-- ==== Proof.KV.Tiles0.lean ====
/-
  The feature-major projection: each layer's blocks, over the arrays as launched.
-/
module

public import proofs.«01_k».proof.Proof.KV.Reads

@[expose] public section

set_option maxRecDepth 16384

noncomputable section

namespace Cert.Proof.KV

open Cert.Kernel4Ideal Cert.Kernel4Ideal.Gen
open Idealize.ShloMosaic Idealize.ShloMosaic.TcCoe
open Idealize.ShloMosaic.Pipeline

variable (m : (ℓ : Loc nD τ sig) → Buf (Elt Ideal) ℓ) (g : Dev nD → PrngReg) (c : Dev nD)

/-- The tile's norm, of the blocks whole. -/
theorem pay8 (x0 : Vec Ideal S1024x1024 .f32) (x1 : Vec Ideal S1x1024 .f32) (x2 : Vec Ideal S2560x1024 .bf16) :
    k0_pay8 x0 x1 x2 = k0_pay4 x0 x1 := by
  unfold k0_pay8
  exact congrArg₂ k0_pay4 (View.ld_unit_zero (by funext i; fin_cases i <;> rfl) _ _)
    (View.ld_unit_zero (by funext i; fin_cases i <;> rfl) _ _)

/-- Layer 0's norm of a tile's row is that of the row as launched. -/
theorem nrm0 (t : Fin cfg0.N) (r k : Fin 1024) :
    nrm (fun k => (iblk0 (V1 m g) c 0 t : Vec Ideal S1024x1024 .f32) (ix2 r k)) (fun k => (iblk0 (V1 m g) c 1 t : Vec Ideal S1x1024 .f32) (ix2 0 k)) k
      = nrm (fun k => (arg m c main_arg0 : Vec Ideal S4x4096x1024 .f32)
          (ix3 ⟨t.val / 4, by have : t.val < 16 := t.isLt; omega⟩ ⟨t.val % 4 * 1024 + r.val, by omega⟩ k))
          (fun k => (arg m c main_arg2 : Vec Ideal S2x1024 .f32) (ix2 0 k)) k := by
  have ht : t.val < 16 := t.isLt
  congr 1
  · funext k
    rw [blkx0, rows0]
    exact congrArg₂ (fun a b => (arg m c main_arg0 : Vec Ideal S4x4096x1024 .f32) (ix3 a b k))
      (Fin.ext (by show (t.val * 1024 + r.val) / 4096 = t.val / 4; omega))
      (Fin.ext (by show (t.val * 1024 + r.val) % 4096 = t.val % 4 * 1024 + r.val; omega))
  · funext k
    rw [blkg0, gain0]

/-- Layer 0's block of the columns from 512 on, at a point. -/
theorem tile0_0 (t : Fin cfg0.N) (f : Fin 512) (r : Fin 1024) :
    ((dat0 (V1 m g) c).after 3 t : Vec Ideal S1x1x512x1024 .f32) (ix4 0 0 f r)
      = layer (arg m c main_arg0) (arg m c main_arg2) (arg m c main_arg3) 0 512 (by omega)
          (ix4 0 ⟨t.val / 4, by have : t.val < 16 := t.isLt; omega⟩ f ⟨t.val % 4 * 1024 + r.val, by omega⟩) := by
  rw [after0_3]
  frame_out

  rw [layer_apply]
  refine (col0_0 _ _ _ f r).trans (Finset.sum_congr rfl fun k _ => ?_)
  rw [mul_comm, nrm0]
  congr 1
  refine Eq.trans (b := (iblk0 (V1 m g) c 2 t : Vec Ideal S2560x1024 .bf16) (ix2 ⟨0 + f.val, by omega⟩ k)) ?_ ?_
  · exact View.ld_unit_apply_of _ _ _ _ _ _ fun a => by fin_cases a <;> first | rfl | exact (Nat.zero_add _).symm
  · rw [blkw0, half0, wt_0]

/-- Layer 0's block of the columns from 1024 on, at a point. -/
theorem tile0_1 (t : Fin cfg0.N) (f : Fin 512) (r : Fin 1024) :
    ((dat0 (V1 m g) c).after 4 t : Vec Ideal S1x1x512x1024 .f32) (ix4 0 0 f r)
      = layer (arg m c main_arg0) (arg m c main_arg2) (arg m c main_arg3) 0 1024 (by omega)
          (ix4 0 ⟨t.val / 4, by have : t.val < 16 := t.isLt; omega⟩ f ⟨t.val % 4 * 1024 + r.val, by omega⟩) := by
  rw [after0_4]
  frame_out

  rw [layer_apply]
  refine (col0_1 _ _ _ f r).trans (Finset.sum_congr rfl fun k _ => ?_)
  rw [mul_comm, nrm0]
  congr 1
  refine Eq.trans (b := (iblk0 (V1 m g) c 2 t : Vec Ideal S2560x1024 .bf16) (ix2 ⟨512 + f.val, by omega⟩ k)) ?_ ?_
  · exact View.ld_unit_apply_of _ _ _ _ _ _ fun a => by fin_cases a <;> first | rfl | exact (Nat.zero_add _).symm
  · rw [blkw0, half0, wt_1]

/-- Layer 0's block of the columns from 2048 on, at a point. -/
theorem tile0_2 (t : Fin cfg0.N) (f : Fin 512) (r : Fin 1024) :
    ((dat0 (V1 m g) c).after 5 t : Vec Ideal S1x1x512x1024 .f32) (ix4 0 0 f r)
      = layer (arg m c main_arg0) (arg m c main_arg2) (arg m c main_arg3) 0 2048 (by omega)
          (ix4 0 ⟨t.val / 4, by have : t.val < 16 := t.isLt; omega⟩ f ⟨t.val % 4 * 1024 + r.val, by omega⟩) := by
  rw [after0_5]
  frame_out

  rw [layer_apply]
  refine (col0_2 _ _ _ f r).trans (Finset.sum_congr rfl fun k _ => ?_)
  rw [mul_comm, nrm0]
  congr 1
  refine Eq.trans (b := (iblk0 (V1 m g) c 2 t : Vec Ideal S2560x1024 .bf16) (ix2 ⟨1024 + f.val, by omega⟩ k)) ?_ ?_
  · exact View.ld_unit_apply_of _ _ _ _ _ _ fun a => by fin_cases a <;> first | rfl | exact (Nat.zero_add _).symm
  · rw [blkw0, half0, wt_2]

/-- Layer 0's block of the columns from 2560 on, at a point. -/
theorem tile0_3 (t : Fin cfg0.N) (f : Fin 512) (r : Fin 1024) :
    ((dat0 (V1 m g) c).after 6 t : Vec Ideal S1x1x512x1024 .f32) (ix4 0 0 f r)
      = layer (arg m c main_arg0) (arg m c main_arg2) (arg m c main_arg3) 0 2560 (by omega)
          (ix4 0 ⟨t.val / 4, by have : t.val < 16 := t.isLt; omega⟩ f ⟨t.val % 4 * 1024 + r.val, by omega⟩) := by
  rw [after0_6]
  frame_out
  rw [pay8]
  rw [layer_apply]
  refine (col0_3 _ _ _ f r).trans (Finset.sum_congr rfl fun k _ => ?_)
  rw [mul_comm, nrm0]
  congr 1
  refine Eq.trans (b := (iblk0 (V1 m g) c 2 t : Vec Ideal S2560x1024 .bf16) (ix2 ⟨1536 + f.val, by omega⟩ k)) ?_ ?_
  · exact View.ld_unit_apply_of _ _ _ _ _ _ fun a => by fin_cases a <;> first | rfl | exact (Nat.zero_add _).symm
  · rw [blkw0, half0, wt_3]

/-- Layer 0's block of the columns from 3584 on, at a point. -/
theorem tile0_4 (t : Fin cfg0.N) (f : Fin 512) (r : Fin 1024) :
    ((dat0 (V1 m g) c).after 7 t : Vec Ideal S1x1x512x1024 .f32) (ix4 0 0 f r)
      = layer (arg m c main_arg0) (arg m c main_arg2) (arg m c main_arg3) 0 3584 (by omega)
          (ix4 0 ⟨t.val / 4, by have : t.val < 16 := t.isLt; omega⟩ f ⟨t.val % 4 * 1024 + r.val, by omega⟩) := by
  rw [after0_7]
  frame_out
  rw [pay8]
  rw [layer_apply]
  refine (col0_4 _ _ _ f r).trans (Finset.sum_congr rfl fun k _ => ?_)
  rw [mul_comm, nrm0]
  congr 1
  refine Eq.trans (b := (iblk0 (V1 m g) c 2 t : Vec Ideal S2560x1024 .bf16) (ix2 ⟨2048 + f.val, by omega⟩ k)) ?_ ?_
  · exact View.ld_unit_apply_of _ _ _ _ _ _ fun a => by fin_cases a <;> first | rfl | exact (Nat.zero_add _).symm
  · rw [blkw0, half0, wt_4]

end Cert.Proof.KV
-- ==== Proof.KV.Tiles1.lean ====
/-
  The feature-major projection: each layer's blocks, over the arrays as launched.
-/
module

public import proofs.«01_k».proof.Proof.KV.Reads

@[expose] public section

set_option maxRecDepth 16384

noncomputable section

namespace Cert.Proof.KV

open Cert.Kernel4Ideal Cert.Kernel4Ideal.Gen
open Idealize.ShloMosaic Idealize.ShloMosaic.TcCoe
open Idealize.ShloMosaic.Pipeline

variable (m : (ℓ : Loc nD τ sig) → Buf (Elt Ideal) ℓ) (g : Dev nD → PrngReg) (c : Dev nD)

/-- Layer 1's norm of a tile's row is that of the row as launched. -/
theorem nrm1 (t : Fin cfg1.N) (r k : Fin 1024) :
    nrm (fun k => (iblk1 (V3 m g) c 0 t : Vec Ideal S1024x1024 .f32) (ix2 r k)) (fun k => (iblk1 (V3 m g) c 1 t : Vec Ideal S1x1024 .f32) (ix2 0 k)) k
      = nrm (fun k => (arg m c main_arg1 : Vec Ideal S4x4096x1024 .f32)
          (ix3 ⟨t.val / 4, by have : t.val < 16 := t.isLt; omega⟩ ⟨t.val % 4 * 1024 + r.val, by omega⟩ k))
          (fun k => (arg m c main_arg2 : Vec Ideal S2x1024 .f32) (ix2 1 k)) k := by
  have ht : t.val < 16 := t.isLt
  congr 1
  · funext k
    rw [blkx1, rows1]
    exact congrArg₂ (fun a b => (arg m c main_arg1 : Vec Ideal S4x4096x1024 .f32) (ix3 a b k))
      (Fin.ext (by show (t.val * 1024 + r.val) / 4096 = t.val / 4; omega))
      (Fin.ext (by show (t.val * 1024 + r.val) % 4096 = t.val % 4 * 1024 + r.val; omega))
  · funext k
    rw [blkg1, gain1]

/-- Layer 1's block of the columns from 512 on, at a point. -/
theorem tile1_0 (t : Fin cfg1.N) (f : Fin 512) (r : Fin 1024) :
    ((dat1 (V3 m g) c).after 3 t : Vec Ideal S1x1x512x1024 .f32) (ix4 0 0 f r)
      = layer (arg m c main_arg1) (arg m c main_arg2) (arg m c main_arg3) 1 512 (by omega)
          (ix4 1 ⟨t.val / 4, by have : t.val < 16 := t.isLt; omega⟩ f ⟨t.val % 4 * 1024 + r.val, by omega⟩) := by
  rw [after1_3]
  unfold outsAt1
  dsimp only
  frame_out

  rw [layer_apply]
  refine (col1_0 _ _ _ f r).trans (Finset.sum_congr rfl fun k _ => ?_)
  rw [mul_comm, nrm1]
  congr 1
  refine Eq.trans (b := (iblk1 (V3 m g) c 2 t : Vec Ideal S2560x1024 .bf16) (ix2 ⟨0 + f.val, by omega⟩ k)) ?_ ?_
  · exact View.ld_unit_apply_of _ _ _ _ _ _ fun a => by fin_cases a <;> first | rfl | exact (Nat.zero_add _).symm
  · rw [blkw1, half1, wt_0]

/-- Layer 1's block of the columns from 1024 on, at a point. -/
theorem tile1_1 (t : Fin cfg1.N) (f : Fin 512) (r : Fin 1024) :
    ((dat1 (V3 m g) c).after 4 t : Vec Ideal S1x1x512x1024 .f32) (ix4 0 0 f r)
      = layer (arg m c main_arg1) (arg m c main_arg2) (arg m c main_arg3) 1 1024 (by omega)
          (ix4 1 ⟨t.val / 4, by have : t.val < 16 := t.isLt; omega⟩ f ⟨t.val % 4 * 1024 + r.val, by omega⟩) := by
  rw [after1_4]
  frame_out

  rw [layer_apply]
  refine (col1_1 _ _ _ f r).trans (Finset.sum_congr rfl fun k _ => ?_)
  rw [mul_comm, nrm1]
  congr 1
  refine Eq.trans (b := (iblk1 (V3 m g) c 2 t : Vec Ideal S2560x1024 .bf16) (ix2 ⟨512 + f.val, by omega⟩ k)) ?_ ?_
  · exact View.ld_unit_apply_of _ _ _ _ _ _ fun a => by fin_cases a <;> first | rfl | exact (Nat.zero_add _).symm
  · rw [blkw1, half1, wt_1]

/-- Layer 1's block of the columns from 2048 on, at a point. -/
theorem tile1_2 (t : Fin cfg1.N) (f : Fin 512) (r : Fin 1024) :
    ((dat1 (V3 m g) c).after 5 t : Vec Ideal S1x1x512x1024 .f32) (ix4 0 0 f r)
      = layer (arg m c main_arg1) (arg m c main_arg2) (arg m c main_arg3) 1 2048 (by omega)
          (ix4 1 ⟨t.val / 4, by have : t.val < 16 := t.isLt; omega⟩ f ⟨t.val % 4 * 1024 + r.val, by omega⟩) := by
  rw [after1_5]
  frame_out

  rw [layer_apply]
  refine (col1_2 _ _ _ f r).trans (Finset.sum_congr rfl fun k _ => ?_)
  rw [mul_comm, nrm1]
  congr 1
  refine Eq.trans (b := (iblk1 (V3 m g) c 2 t : Vec Ideal S2560x1024 .bf16) (ix2 ⟨1024 + f.val, by omega⟩ k)) ?_ ?_
  · exact View.ld_unit_apply_of _ _ _ _ _ _ fun a => by fin_cases a <;> first | rfl | exact (Nat.zero_add _).symm
  · rw [blkw1, half1, wt_2]

/-- Layer 1's block of the columns from 2560 on, at a point. -/
theorem tile1_3 (t : Fin cfg1.N) (f : Fin 512) (r : Fin 1024) :
    ((dat1 (V3 m g) c).after 6 t : Vec Ideal S1x1x512x1024 .f32) (ix4 0 0 f r)
      = layer (arg m c main_arg1) (arg m c main_arg2) (arg m c main_arg3) 1 2560 (by omega)
          (ix4 1 ⟨t.val / 4, by have : t.val < 16 := t.isLt; omega⟩ f ⟨t.val % 4 * 1024 + r.val, by omega⟩) := by
  rw [after1_6]
  frame_out

  rw [layer_apply]
  refine (col1_3 _ _ _ f r).trans (Finset.sum_congr rfl fun k _ => ?_)
  rw [mul_comm, nrm1]
  congr 1
  refine Eq.trans (b := (iblk1 (V3 m g) c 2 t : Vec Ideal S2560x1024 .bf16) (ix2 ⟨1536 + f.val, by omega⟩ k)) ?_ ?_
  · exact View.ld_unit_apply_of _ _ _ _ _ _ fun a => by fin_cases a <;> first | rfl | exact (Nat.zero_add _).symm
  · rw [blkw1, half1, wt_3]

/-- Layer 1's block of the columns from 3584 on, at a point. -/
theorem tile1_4 (t : Fin cfg1.N) (f : Fin 512) (r : Fin 1024) :
    ((dat1 (V3 m g) c).after 7 t : Vec Ideal S1x1x512x1024 .f32) (ix4 0 0 f r)
      = layer (arg m c main_arg1) (arg m c main_arg2) (arg m c main_arg3) 1 3584 (by omega)
          (ix4 1 ⟨t.val / 4, by have : t.val < 16 := t.isLt; omega⟩ f ⟨t.val % 4 * 1024 + r.val, by omega⟩) := by
  rw [after1_7]
  frame_out

  rw [layer_apply]
  refine (col1_4 _ _ _ f r).trans (Finset.sum_congr rfl fun k _ => ?_)
  rw [mul_comm, nrm1]
  congr 1
  refine Eq.trans (b := (iblk1 (V3 m g) c 2 t : Vec Ideal S2560x1024 .bf16) (ix2 ⟨2048 + f.val, by omega⟩ k)) ?_ ?_
  · exact View.ld_unit_apply_of _ _ _ _ _ _ fun a => by fin_cases a <;> first | rfl | exact (Nat.zero_add _).symm
  · rw [blkw1, half1, wt_4]

end Cert.Proof.KV
-- ==== Proof.KV.Final.lean ====
/-
  The feature-major projection: the five result arrays after both regions.
-/
module

public import proofs.«01_k».proof.Proof.KV.Tiles0
public import proofs.«01_k».proof.Proof.KV.Tiles1
public import Idealize.ShloMosaic.Lib.Pipeline.ValueKit.Partial

@[expose] public section

set_option maxRecDepth 16384

noncomputable section

namespace Cert.Proof.KV

open Cert.Kernel4Ideal Cert.Kernel4Ideal.Gen
open Idealize.ShloMosaic Idealize.ShloMosaic.TcCoe
open Idealize.ShloMosaic.Pipeline

variable (m : (ℓ : Loc nD τ sig) → Buf (Elt Ideal) ℓ) (g : Dev nD → PrngReg) (c : Dev nD)

/-- Layer 0's part is what that region writes into array 0; the rest of the array stays as the region found it. -/
theorem arr0_0 : (dat0 (V1 m g) c).arrAt 3 cfg0.N = fun i : S2x4x512x4096.Idx => if ((i 0).val / 1 : ℕ) = 0
    then layer (arg m c main_arg0) (arg m c main_arg2) (arg m c main_arg3) 0 512 (by omega) i
    else (V1 m g c main_v18_0 : Vec Ideal S2x4x512x4096 .f32) i := by
  refine ((dat0 (V1 m g) c).arrAt_eq_of_coversWhere 3 (layer (arg m c main_arg0) (arg m c main_arg2) (arg m c main_arg3) 0 512 (by omega))
    (P := fun i : S2x4x512x4096.Idx => ((i 0).val / 1 : ℕ) = 0)
    (fun β => β (0 : Fin _) = 0) (by decide +kernel) (fun t hf y => ?_) (fun j => Iff.rfl)).trans ?_
  · blk_simp
    idx_vars y
    obtain rfl : y0 = 0 := Subsingleton.elim _ _
    obtain rfl : y1 = 0 := Subsingleton.elim _ _
    refine (tile0_0 m g c t y2 y3).trans ?_
    refine congrArg (layer (arg m c main_arg0) (arg m c main_arg2) (arg m c main_arg3) 0 512 (by omega)) ?_
    symm
    blk_ext [idx0 t]
  · rfl

/-- Layer 1's part is what that region writes into array 0; the rest of the array stays as the region found it. -/
theorem arr1_0 : (dat1 (V3 m g) c).arrAt 3 cfg1.N = fun i : S2x4x512x4096.Idx => if ((i 0).val / 1 : ℕ) = 1
    then layer (arg m c main_arg1) (arg m c main_arg2) (arg m c main_arg3) 1 512 (by omega) i
    else (V3 m g c main_v25_0 : Vec Ideal S2x4x512x4096 .f32) i := by
  refine ((dat1 (V3 m g) c).arrAt_eq_of_coversWhere 3 (layer (arg m c main_arg1) (arg m c main_arg2) (arg m c main_arg3) 1 512 (by omega))
    (P := fun i : S2x4x512x4096.Idx => ((i 0).val / 1 : ℕ) = 1)
    (fun β => β (0 : Fin _) = 1) (by decide +kernel) (fun t hf y => ?_) (fun j => Iff.rfl)).trans ?_
  · blk_simp
    idx_vars y
    obtain rfl : y0 = 0 := Subsingleton.elim _ _
    obtain rfl : y1 = 0 := Subsingleton.elim _ _
    refine (tile1_0 m g c t y2 y3).trans ?_
    refine congrArg (layer (arg m c main_arg1) (arg m c main_arg2) (arg m c main_arg3) 1 512 (by omega)) ?_
    symm
    blk_ext [idx1 t]
  · rfl

/-- The second region finds array 0 as the first leaves it, -/
theorem copy_0 : V3 m g c main_v25_0 = (dat0 (V1 m g) c).arrAt 3 cfg0.N := by
  refine Eq.trans ?_ (W2_arr m g c 3)
  rw [V3_host]
  unfold hostOps1
  simp only [StableHlo.after_cons, StableHlo.after_nil]
  repeat (first
    | (rw [StableHlo.unary_result_ne]; rotate_left; decide)
    | rw [StableHlo.unary_result]
    | (rw [StableHlo.reshape_result_ne]; rotate_left; decide))
  rfl

/-- so array 0 ends with both layers' parts. -/
theorem final_0 : W4 m g c (Proc.devRef .tc main_v25_0)
    = stackA (arg m c main_arg0) (arg m c main_arg1) (arg m c main_arg2) (arg m c main_arg3) 512 (by omega) := by
  refine (W4_arr m g c 3).trans ?_
  rw [arr1_0, copy_0, arr0_0]
  funext z
  have hz : (z 0).val < 2 := (z 0).isLt
  simp only [Nat.div_one, stackA]
  by_cases h : (z 0).val = 1
  · rw [if_pos h, if_pos h]
  · rw [if_neg h, if_neg h, if_pos (by omega)]

/-- Layer 0's part is what that region writes into array 1; the rest of the array stays as the region found it. -/
theorem arr0_1 : (dat0 (V1 m g) c).arrAt 4 cfg0.N = fun i : S2x4x512x4096.Idx => if ((i 0).val / 1 : ℕ) = 0
    then layer (arg m c main_arg0) (arg m c main_arg2) (arg m c main_arg3) 0 1024 (by omega) i
    else (V1 m g c main_v18_1 : Vec Ideal S2x4x512x4096 .f32) i := by
  refine ((dat0 (V1 m g) c).arrAt_eq_of_coversWhere 4 (layer (arg m c main_arg0) (arg m c main_arg2) (arg m c main_arg3) 0 1024 (by omega))
    (P := fun i : S2x4x512x4096.Idx => ((i 0).val / 1 : ℕ) = 0)
    (fun β => β (0 : Fin _) = 0) (by decide +kernel) (fun t hf y => ?_) (fun j => Iff.rfl)).trans ?_
  · blk_simp
    idx_vars y
    obtain rfl : y0 = 0 := Subsingleton.elim _ _
    obtain rfl : y1 = 0 := Subsingleton.elim _ _
    refine (tile0_1 m g c t y2 y3).trans ?_
    refine congrArg (layer (arg m c main_arg0) (arg m c main_arg2) (arg m c main_arg3) 0 1024 (by omega)) ?_
    symm
    blk_ext [idx0 t]
  · rfl

/-- Layer 1's part is what that region writes into array 1; the rest of the array stays as the region found it. -/
theorem arr1_1 : (dat1 (V3 m g) c).arrAt 4 cfg1.N = fun i : S2x4x512x4096.Idx => if ((i 0).val / 1 : ℕ) = 1
    then layer (arg m c main_arg1) (arg m c main_arg2) (arg m c main_arg3) 1 1024 (by omega) i
    else (V3 m g c main_v25_1 : Vec Ideal S2x4x512x4096 .f32) i := by
  refine ((dat1 (V3 m g) c).arrAt_eq_of_coversWhere 4 (layer (arg m c main_arg1) (arg m c main_arg2) (arg m c main_arg3) 1 1024 (by omega))
    (P := fun i : S2x4x512x4096.Idx => ((i 0).val / 1 : ℕ) = 1)
    (fun β => β (0 : Fin _) = 1) (by decide +kernel) (fun t hf y => ?_) (fun j => Iff.rfl)).trans ?_
  · blk_simp
    idx_vars y
    obtain rfl : y0 = 0 := Subsingleton.elim _ _
    obtain rfl : y1 = 0 := Subsingleton.elim _ _
    refine (tile1_1 m g c t y2 y3).trans ?_
    refine congrArg (layer (arg m c main_arg1) (arg m c main_arg2) (arg m c main_arg3) 1 1024 (by omega)) ?_
    symm
    blk_ext [idx1 t]
  · rfl

/-- The second region finds array 1 as the first leaves it, -/
theorem copy_1 : V3 m g c main_v25_1 = (dat0 (V1 m g) c).arrAt 4 cfg0.N := by
  refine Eq.trans ?_ (W2_arr m g c 4)
  rw [V3_host]
  unfold hostOps1
  simp only [StableHlo.after_cons, StableHlo.after_nil]
  repeat (first
    | (rw [StableHlo.unary_result_ne]; rotate_left; decide)
    | rw [StableHlo.unary_result]
    | (rw [StableHlo.reshape_result_ne]; rotate_left; decide))
  rfl

/-- so array 1 ends with both layers' parts. -/
theorem final_1 : W4 m g c (Proc.devRef .tc main_v25_1)
    = stackA (arg m c main_arg0) (arg m c main_arg1) (arg m c main_arg2) (arg m c main_arg3) 1024 (by omega) := by
  refine (W4_arr m g c 4).trans ?_
  rw [arr1_1, copy_1, arr0_1]
  funext z
  have hz : (z 0).val < 2 := (z 0).isLt
  simp only [Nat.div_one, stackA]
  by_cases h : (z 0).val = 1
  · rw [if_pos h, if_pos h]
  · rw [if_neg h, if_neg h, if_pos (by omega)]

/-- Layer 0's part is what that region writes into array 2; the rest of the array stays as the region found it. -/
theorem arr0_2 : (dat0 (V1 m g) c).arrAt 5 cfg0.N = fun i : S2x4x512x4096.Idx => if ((i 0).val / 1 : ℕ) = 0
    then layer (arg m c main_arg0) (arg m c main_arg2) (arg m c main_arg3) 0 2048 (by omega) i
    else (V1 m g c main_v18_2 : Vec Ideal S2x4x512x4096 .f32) i := by
  refine ((dat0 (V1 m g) c).arrAt_eq_of_coversWhere 5 (layer (arg m c main_arg0) (arg m c main_arg2) (arg m c main_arg3) 0 2048 (by omega))
    (P := fun i : S2x4x512x4096.Idx => ((i 0).val / 1 : ℕ) = 0)
    (fun β => β (0 : Fin _) = 0) (by decide +kernel) (fun t hf y => ?_) (fun j => Iff.rfl)).trans ?_
  · blk_simp
    idx_vars y
    obtain rfl : y0 = 0 := Subsingleton.elim _ _
    obtain rfl : y1 = 0 := Subsingleton.elim _ _
    refine (tile0_2 m g c t y2 y3).trans ?_
    refine congrArg (layer (arg m c main_arg0) (arg m c main_arg2) (arg m c main_arg3) 0 2048 (by omega)) ?_
    symm
    blk_ext [idx0 t]
  · rfl

/-- Layer 1's part is what that region writes into array 2; the rest of the array stays as the region found it. -/
theorem arr1_2 : (dat1 (V3 m g) c).arrAt 5 cfg1.N = fun i : S2x4x512x4096.Idx => if ((i 0).val / 1 : ℕ) = 1
    then layer (arg m c main_arg1) (arg m c main_arg2) (arg m c main_arg3) 1 2048 (by omega) i
    else (V3 m g c main_v25_2 : Vec Ideal S2x4x512x4096 .f32) i := by
  refine ((dat1 (V3 m g) c).arrAt_eq_of_coversWhere 5 (layer (arg m c main_arg1) (arg m c main_arg2) (arg m c main_arg3) 1 2048 (by omega))
    (P := fun i : S2x4x512x4096.Idx => ((i 0).val / 1 : ℕ) = 1)
    (fun β => β (0 : Fin _) = 1) (by decide +kernel) (fun t hf y => ?_) (fun j => Iff.rfl)).trans ?_
  · blk_simp
    idx_vars y
    obtain rfl : y0 = 0 := Subsingleton.elim _ _
    obtain rfl : y1 = 0 := Subsingleton.elim _ _
    refine (tile1_2 m g c t y2 y3).trans ?_
    refine congrArg (layer (arg m c main_arg1) (arg m c main_arg2) (arg m c main_arg3) 1 2048 (by omega)) ?_
    symm
    blk_ext [idx1 t]
  · rfl

/-- The second region finds array 2 as the first leaves it, -/
theorem copy_2 : V3 m g c main_v25_2 = (dat0 (V1 m g) c).arrAt 5 cfg0.N := by
  refine Eq.trans ?_ (W2_arr m g c 5)
  rw [V3_host]
  unfold hostOps1
  simp only [StableHlo.after_cons, StableHlo.after_nil]
  repeat (first
    | (rw [StableHlo.unary_result_ne]; rotate_left; decide)
    | rw [StableHlo.unary_result]
    | (rw [StableHlo.reshape_result_ne]; rotate_left; decide))
  rfl

/-- so array 2 ends with both layers' parts. -/
theorem final_2 : W4 m g c (Proc.devRef .tc main_v25_2)
    = stackA (arg m c main_arg0) (arg m c main_arg1) (arg m c main_arg2) (arg m c main_arg3) 2048 (by omega) := by
  refine (W4_arr m g c 5).trans ?_
  rw [arr1_2, copy_2, arr0_2]
  funext z
  have hz : (z 0).val < 2 := (z 0).isLt
  simp only [Nat.div_one, stackA]
  by_cases h : (z 0).val = 1
  · rw [if_pos h, if_pos h]
  · rw [if_neg h, if_neg h, if_pos (by omega)]

/-- Layer 0's part is what that region writes into array 3; the rest of the array stays as the region found it. -/
theorem arr0_3 : (dat0 (V1 m g) c).arrAt 6 cfg0.N = fun i : S2x4x512x4096.Idx => if ((i 0).val / 1 : ℕ) = 0
    then layer (arg m c main_arg0) (arg m c main_arg2) (arg m c main_arg3) 0 2560 (by omega) i
    else (V1 m g c main_v18_3 : Vec Ideal S2x4x512x4096 .f32) i := by
  refine ((dat0 (V1 m g) c).arrAt_eq_of_coversWhere 6 (layer (arg m c main_arg0) (arg m c main_arg2) (arg m c main_arg3) 0 2560 (by omega))
    (P := fun i : S2x4x512x4096.Idx => ((i 0).val / 1 : ℕ) = 0)
    (fun β => β (0 : Fin _) = 0) (by decide +kernel) (fun t hf y => ?_) (fun j => Iff.rfl)).trans ?_
  · blk_simp
    idx_vars y
    obtain rfl : y0 = 0 := Subsingleton.elim _ _
    obtain rfl : y1 = 0 := Subsingleton.elim _ _
    refine (tile0_3 m g c t y2 y3).trans ?_
    refine congrArg (layer (arg m c main_arg0) (arg m c main_arg2) (arg m c main_arg3) 0 2560 (by omega)) ?_
    symm
    blk_ext [idx0 t]
  · rfl

/-- Layer 1's part is what that region writes into array 3; the rest of the array stays as the region found it. -/
theorem arr1_3 : (dat1 (V3 m g) c).arrAt 6 cfg1.N = fun i : S2x4x512x4096.Idx => if ((i 0).val / 1 : ℕ) = 1
    then layer (arg m c main_arg1) (arg m c main_arg2) (arg m c main_arg3) 1 2560 (by omega) i
    else (V3 m g c main_v25_3 : Vec Ideal S2x4x512x4096 .f32) i := by
  refine ((dat1 (V3 m g) c).arrAt_eq_of_coversWhere 6 (layer (arg m c main_arg1) (arg m c main_arg2) (arg m c main_arg3) 1 2560 (by omega))
    (P := fun i : S2x4x512x4096.Idx => ((i 0).val / 1 : ℕ) = 1)
    (fun β => β (0 : Fin _) = 1) (by decide +kernel) (fun t hf y => ?_) (fun j => Iff.rfl)).trans ?_
  · blk_simp
    idx_vars y
    obtain rfl : y0 = 0 := Subsingleton.elim _ _
    obtain rfl : y1 = 0 := Subsingleton.elim _ _
    refine (tile1_3 m g c t y2 y3).trans ?_
    refine congrArg (layer (arg m c main_arg1) (arg m c main_arg2) (arg m c main_arg3) 1 2560 (by omega)) ?_
    symm
    blk_ext [idx1 t]
  · rfl

/-- The second region finds array 3 as the first leaves it, -/
theorem copy_3 : V3 m g c main_v25_3 = (dat0 (V1 m g) c).arrAt 6 cfg0.N := by
  refine Eq.trans ?_ (W2_arr m g c 6)
  rw [V3_host]
  unfold hostOps1
  simp only [StableHlo.after_cons, StableHlo.after_nil]
  repeat (first
    | (rw [StableHlo.unary_result_ne]; rotate_left; decide)
    | rw [StableHlo.unary_result]
    | (rw [StableHlo.reshape_result_ne]; rotate_left; decide))
  rfl

/-- so array 3 ends with both layers' parts. -/
theorem final_3 : W4 m g c (Proc.devRef .tc main_v25_3)
    = stackA (arg m c main_arg0) (arg m c main_arg1) (arg m c main_arg2) (arg m c main_arg3) 2560 (by omega) := by
  refine (W4_arr m g c 6).trans ?_
  rw [arr1_3, copy_3, arr0_3]
  funext z
  have hz : (z 0).val < 2 := (z 0).isLt
  simp only [Nat.div_one, stackA]
  by_cases h : (z 0).val = 1
  · rw [if_pos h, if_pos h]
  · rw [if_neg h, if_neg h, if_pos (by omega)]

/-- Layer 0's part is what that region writes into array 4; the rest of the array stays as the region found it. -/
theorem arr0_4 : (dat0 (V1 m g) c).arrAt 7 cfg0.N = fun i : S2x4x512x4096.Idx => if ((i 0).val / 1 : ℕ) = 0
    then layer (arg m c main_arg0) (arg m c main_arg2) (arg m c main_arg3) 0 3584 (by omega) i
    else (V1 m g c main_v18_4 : Vec Ideal S2x4x512x4096 .f32) i := by
  refine ((dat0 (V1 m g) c).arrAt_eq_of_coversWhere 7 (layer (arg m c main_arg0) (arg m c main_arg2) (arg m c main_arg3) 0 3584 (by omega))
    (P := fun i : S2x4x512x4096.Idx => ((i 0).val / 1 : ℕ) = 0)
    (fun β => β (0 : Fin _) = 0) (by decide +kernel) (fun t hf y => ?_) (fun j => Iff.rfl)).trans ?_
  · blk_simp
    idx_vars y
    obtain rfl : y0 = 0 := Subsingleton.elim _ _
    obtain rfl : y1 = 0 := Subsingleton.elim _ _
    refine (tile0_4 m g c t y2 y3).trans ?_
    refine congrArg (layer (arg m c main_arg0) (arg m c main_arg2) (arg m c main_arg3) 0 3584 (by omega)) ?_
    symm
    blk_ext [idx0 t]
  · rfl

/-- Layer 1's part is what that region writes into array 4; the rest of the array stays as the region found it. -/
theorem arr1_4 : (dat1 (V3 m g) c).arrAt 7 cfg1.N = fun i : S2x4x512x4096.Idx => if ((i 0).val / 1 : ℕ) = 1
    then layer (arg m c main_arg1) (arg m c main_arg2) (arg m c main_arg3) 1 3584 (by omega) i
    else (V3 m g c main_v25_4 : Vec Ideal S2x4x512x4096 .f32) i := by
  refine ((dat1 (V3 m g) c).arrAt_eq_of_coversWhere 7 (layer (arg m c main_arg1) (arg m c main_arg2) (arg m c main_arg3) 1 3584 (by omega))
    (P := fun i : S2x4x512x4096.Idx => ((i 0).val / 1 : ℕ) = 1)
    (fun β => β (0 : Fin _) = 1) (by decide +kernel) (fun t hf y => ?_) (fun j => Iff.rfl)).trans ?_
  · blk_simp
    idx_vars y
    obtain rfl : y0 = 0 := Subsingleton.elim _ _
    obtain rfl : y1 = 0 := Subsingleton.elim _ _
    refine (tile1_4 m g c t y2 y3).trans ?_
    refine congrArg (layer (arg m c main_arg1) (arg m c main_arg2) (arg m c main_arg3) 1 3584 (by omega)) ?_
    symm
    blk_ext [idx1 t]
  · rfl

/-- The second region finds array 4 as the first leaves it, -/
theorem copy_4 : V3 m g c main_v25_4 = (dat0 (V1 m g) c).arrAt 7 cfg0.N := by
  refine Eq.trans ?_ (W2_arr m g c 7)
  rw [V3_host]
  unfold hostOps1
  simp only [StableHlo.after_cons, StableHlo.after_nil]
  repeat (first
    | (rw [StableHlo.unary_result_ne]; rotate_left; decide)
    | rw [StableHlo.unary_result]
    | (rw [StableHlo.reshape_result_ne]; rotate_left; decide))
  rfl

/-- so array 4 ends with both layers' parts. -/
theorem final_4 : W4 m g c (Proc.devRef .tc main_v25_4)
    = stackA (arg m c main_arg0) (arg m c main_arg1) (arg m c main_arg2) (arg m c main_arg3) 3584 (by omega) := by
  refine (W4_arr m g c 7).trans ?_
  rw [arr1_4, copy_4, arr0_4]
  funext z
  have hz : (z 0).val < 2 := (z 0).isLt
  simp only [Nat.div_one, stackA]
  by_cases h : (z 0).val = 1
  · rw [if_pos h, if_pos h]
  · rw [if_neg h, if_neg h, if_pos (by omega)]

end Cert.Proof.KV
-- ==== Proof.KV.Run.lean ====
/-
  The feature-major projection's run: both regions, one after the other, and what every buffer holds at the end.
-/
module

public import proofs.«01_k».proof.Proof.KV.Final

@[expose] public section

set_option maxRecDepth 16384

noncomputable section

namespace Cert.Proof.KV

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable (m : (ℓ : Loc nD τ sig) → Buf (Elt Ideal) ℓ) (g : Dev nD → PrngReg)

set_option backward.isDefEq.respectTransparency.types false in
/-- Every weakly fair run ends with every unscoped buffer holding what the two regions leave there. -/
theorem run_all : θ_run defs (onTc (τ := τ) (main (F := Ideal))) ⟨m, fun _ => 0, g⟩
    (fun r => ∀ c : Dev nD, ∀ b ∈ ucRefs τ sig, r.2.mem ((c : Thread nD τ).1, b) = W4 m g c b) :=
  θ_run_regions_kit_sems (pcfgs (F := Ideal)) adm (pdats m g) () cellOf_inj emb₁ defs₀ 𝒱₀ L lv m g main (segs m g)
    (fun c Q => by rw [main_run m g c])
    (by simp only [segs, Seg.pipes_host, Seg.pipes_region, Seg.pipes_nil]; decide)
    (O₀ := 0) (hL := fun _ _ => rfl) (G := fun _ => iprop(emp))
    (u₀ := initOf (cells cfgs cellOf_inj) (launchToks cfgs cellOf_inj))
    (hu₀ := by
      iintro Hu; imodintro
      isplitl [Hu]
      · iapply (show (ownU (initOf (cells cfgs cellOf_inj) (launchToks cfgs cellOf_inj)) : sProp (MT nD τ sig Unit (Elt Ideal) ℕ (UR sig nD τ) ℕ))
            ⊢ BI.own (emb₁ (initOf (cells cfgs cellOf_inj) (launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (ucRefs τ sig) (W0 m g c) ∗ R c)) (Tₙ := Tₙ m g)
    (hch := ⟨fun _ => .rfl, fun _ => .rfl, fun _ => .rfl, fun _ => .rfl, fun _ => .rfl⟩)
    (hinit := by
      refine initEach L lv fun c => ?_
      rw [show unscopedBufs c (fun b => m ((c : Thread nD τ).loc b)) = StableHlo.held (c : Thread nD τ) (ucRefs τ sig) (W0 m g c)
        from unscopedBufs_held c (W0 m g c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = W4 m g c b)
    (hfin := fun c s' => by
      iintro ⟨⟨Hh, -⟩, HSI⟩
      unfold StableHlo.held
      imodintro
      iapply (pointsTo_read_all (ucRefs τ sig) (fun b => (((c : Thread nD τ)).1, b)) (W4 m g c) s')
      isplitl [Hh] <;> iassumption)
    (hQ := fun s h _ => h)

/-- So the five result arrays end with both layers' columns, and the arguments as launched. -/
theorem run : θ_run defs (onTc (τ := τ) (main (F := Ideal))) ⟨m, fun _ => 0, g⟩ (fun r => ∀ c : Dev nD,
    r.2.mem ((c.tc : Thread nD τ).loc main_v25_0) = stackA (arg m c main_arg0) (arg m c main_arg1) (arg m c main_arg2) (arg m c main_arg3) 512 (by omega)
    ∧ r.2.mem ((c.tc : Thread nD τ).loc main_v25_1) = stackA (arg m c main_arg0) (arg m c main_arg1) (arg m c main_arg2) (arg m c main_arg3) 1024 (by omega)
    ∧ r.2.mem ((c.tc : Thread nD τ).loc main_v25_2) = stackA (arg m c main_arg0) (arg m c main_arg1) (arg m c main_arg2) (arg m c main_arg3) 2048 (by omega)
    ∧ r.2.mem ((c.tc : Thread nD τ).loc main_v25_3) = stackA (arg m c main_arg0) (arg m c main_arg1) (arg m c main_arg2) (arg m c main_arg3) 2560 (by omega)
    ∧ r.2.mem ((c.tc : Thread nD τ).loc main_v25_4) = stackA (arg m c main_arg0) (arg m c main_arg1) (arg m c main_arg2) (arg m c main_arg3) 3584 (by omega)) :=
  (θ_run defs _ _).mono (fun _ h c =>
    ⟨(h c _ (mem_uc main_v25_0 (by decide))).trans (final_0 m g c),
     (h c _ (mem_uc main_v25_1 (by decide))).trans (final_1 m g c),
     (h c _ (mem_uc main_v25_2 (by decide))).trans (final_2 m g c),
     (h c _ (mem_uc main_v25_3 (by decide))).trans (final_3 m g c),
     (h c _ (mem_uc main_v25_4 (by decide))).trans (final_4 m g c)⟩) (run_all m g)

end Cert.Proof.KV
-- ==== Proof.KV.Ref.lean ====
/-
  The feature-major projection: what the reference's results hold.
-/
module

public import proofs.«01_k».proof.Proof.Gen.Reference4Ideal.Read
public import proofs.«01_k».proof.Proof.KV.Spec

@[expose] public section

set_option maxRecDepth 16384

noncomputable section

namespace Cert.Proof.KV

open Cert.Reference4Ideal Cert.Reference4Ideal.Read
open Idealize.ShloMosaic Idealize.ShloMosaic.TcCoe

variable (x0 x1 : Vec Ideal S4x4096x1024 .f32) (x2 : Vec Ideal S2x1024 .f32) (x3 : Vec Ideal S2x1024x7680 .f32)

/-- The reference's norm of layer 0's rows, -/
theorem ref_norm0 (b : Fin 4) (p : Fin 4096) (k : Fin 1024) :
    val_main_v14 x0 x2 (ix3 b p k) = nrm (fun k => x0 (ix3 b p k)) (fun k => x2 (ix2 0 k)) k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  rfl

/-- and its projection. -/
theorem ref_proj0 (b : Fin 4) (p : Fin 4096) (q : Fin 7680) :
    val_main_v17 x0 x2 x3 (ix3 b p q) = proj x0 x2 x3 0 b p q := by
  pointwise [val_main_v15, val_main_v16, val_main_v17]
  simp only [ref_norm0]
  rfl

/-- The reference's norm of layer 1's rows, -/
theorem ref_norm1 (b : Fin 4) (p : Fin 4096) (k : Fin 1024) :
    val_main_v42 x1 x2 (ix3 b p k) = nrm (fun k => x1 (ix3 b p k)) (fun k => x2 (ix2 1 k)) k := by
  pointwise [val_main_v28, val_main_v29, val_main_v30, val_main_v31, val_main_v32, val_main_v33, val_main_v34, val_main_v35, val_main_v36, val_main_v37, val_main_v38, val_main_v39, val_main_v40, val_main_v41, val_main_v42, val_main_cst_2, val_main_cst_3, val_main_cst_4]
  rfl

/-- and its projection. -/
theorem ref_proj1 (b : Fin 4) (p : Fin 4096) (q : Fin 7680) :
    val_main_v45 x1 x2 x3 (ix3 b p q) = proj x1 x2 x3 1 b p q := by
  pointwise [val_main_v43, val_main_v44, val_main_v45]
  simp only [ref_norm1]
  rfl

/-- The reference's result 0. -/
theorem ref_0 : val_main_v58 x0 x1 x2 x3 = stackA x0 x1 x2 x3 512 (by omega) := by
  funext z
  idx_vars z
  pointwise [val_main_v18, val_main_v19, val_main_v46, val_main_v47, val_main_v56, val_main_v57, val_main_v58]
  simp only [ref_proj0, ref_proj1]
  by_cases h : z0.val = 1
  · rw [dif_neg (by omega)]
    exact (if_pos h : stackA x0 x1 x2 x3 512 (by omega) (ix4 z0 z1 z2 z3) = _).symm
  · rw [dif_pos (by omega)]
    exact (if_neg h : stackA x0 x1 x2 x3 512 (by omega) (ix4 z0 z1 z2 z3) = _).symm

/-- The reference's result 1. -/
theorem ref_1 : val_main_v61 x0 x1 x2 x3 = stackA x0 x1 x2 x3 1024 (by omega) := by
  funext z
  idx_vars z
  pointwise [val_main_v20, val_main_v21, val_main_v48, val_main_v49, val_main_v59, val_main_v60, val_main_v61]
  simp only [ref_proj0, ref_proj1]
  by_cases h : z0.val = 1
  · rw [dif_neg (by omega)]
    exact (if_pos h : stackA x0 x1 x2 x3 1024 (by omega) (ix4 z0 z1 z2 z3) = _).symm
  · rw [dif_pos (by omega)]
    exact (if_neg h : stackA x0 x1 x2 x3 1024 (by omega) (ix4 z0 z1 z2 z3) = _).symm

/-- The reference's result 2. -/
theorem ref_2 : val_main_v64 x0 x1 x2 x3 = stackA x0 x1 x2 x3 2048 (by omega) := by
  funext z
  idx_vars z
  pointwise [val_main_v22, val_main_v23, val_main_v50, val_main_v51, val_main_v62, val_main_v63, val_main_v64]
  simp only [ref_proj0, ref_proj1]
  by_cases h : z0.val = 1
  · rw [dif_neg (by omega)]
    exact (if_pos h : stackA x0 x1 x2 x3 2048 (by omega) (ix4 z0 z1 z2 z3) = _).symm
  · rw [dif_pos (by omega)]
    exact (if_neg h : stackA x0 x1 x2 x3 2048 (by omega) (ix4 z0 z1 z2 z3) = _).symm

/-- The reference's result 3. -/
theorem ref_3 : val_main_v67 x0 x1 x2 x3 = stackA x0 x1 x2 x3 2560 (by omega) := by
  funext z
  idx_vars z
  pointwise [val_main_v24, val_main_v25, val_main_v52, val_main_v53, val_main_v65, val_main_v66, val_main_v67]
  simp only [ref_proj0, ref_proj1]
  by_cases h : z0.val = 1
  · rw [dif_neg (by omega)]
    exact (if_pos h : stackA x0 x1 x2 x3 2560 (by omega) (ix4 z0 z1 z2 z3) = _).symm
  · rw [dif_pos (by omega)]
    exact (if_neg h : stackA x0 x1 x2 x3 2560 (by omega) (ix4 z0 z1 z2 z3) = _).symm

/-- The reference's result 4. -/
theorem ref_4 : val_main_v70 x0 x1 x2 x3 = stackA x0 x1 x2 x3 3584 (by omega) := by
  funext z
  idx_vars z
  pointwise [val_main_v26, val_main_v27, val_main_v54, val_main_v55, val_main_v68, val_main_v69, val_main_v70]
  simp only [ref_proj0, ref_proj1]
  by_cases h : z0.val = 1
  · rw [dif_neg (by omega)]
    exact (if_pos h : stackA x0 x1 x2 x3 3584 (by omega) (ix4 z0 z1 z2 z3) = _).symm
  · rw [dif_pos (by omega)]
    exact (if_neg h : stackA x0 x1 x2 x3 3584 (by omega) (ix4 z0 z1 z2 z3) = _).symm

end Cert.Proof.KV
-- ==== Proof.NP.Body.lean ====
/-
  The row-major projection's body, for any float values: from the staged rows, gain and weights it leaves the
  product's block in the first result's buffer and, through four stores that each take every fourth row, the four
  value heads of every position in the second's.
-/
module

public import proofs.«01_k».proof.Proof.Owns
public import proofs.«01_k».proof.Proof.Gen.Kernel5Ideal.Skeleton
public import proofs.«01_k».proof.Proof.Gen.Kernel5Ideal.Points
public import proofs.«01_k».proof.Proof.Gen.Kernel5Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.NP

open Cert.Kernel5Ideal Cert.Kernel5Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole rectangles, and the rectangles of every fourth row -/

section Rects

variable {Val : EltTy → Type}

/-- A store through the rectangle of the whole shape replaces everything; -/
theorem put_whole {s : Shape} {e : EltTy} {off : Fin s.rank → ℕ} (h : ∀ a, off a + s.size a ≤ s.size a) (X w : s.Idx → Val e) :
    put X (Rect.unit (s := s) off s.size h) w = w := by
  funext y
  have := put_emb X (Rect.unit (s := s) off s.size h) w y
  rwa [Rect.emb_unit_full] at this

/-- a load through it reads everything. -/
theorem ld_whole {s : Shape} {e : EltTy} {off : Fin s.rank → ℕ} (h : ∀ a, off a + s.size a ≤ s.size a) (X : s.Idx → Val e) :
    (fun x => X ((Rect.unit (s := s) off s.size h).emb x)) = X := by
  funext y; exact congrArg X (Rect.emb_unit_full h y)

end Rects

/-- The rows `h`, `h + 4`, `h + 8`, … of the value heads' block. -/
abbrev every4 (h : ℕ) (hi : ∀ a, S1x1024x128.size a = 0 ∨ (![0, h, 0] : Fin 3 → ℕ) a + (![1, 4, 1] : Fin 3 → ℕ) a * (S1x1024x128.size a - 1) < S1x4096x128.size a) :
    Rect S1x4096x128 := ⟨(⟨![0, h, 0], S1x1024x128.size, ![1, 4, 1], hi⟩ : LoadRect S1x4096x128), spos_1_4_1⟩

/-- The place, among every fourth row, of a row of the value heads' block. -/
def quarter (y : S1x4096x128.Idx) : S1x1024x128.Idx :=
  ix3 (0 : Fin 1) (⟨(y 1).val / 4, by have := (y 1).isLt; simp [Shape.size] at this; omega⟩ : Fin 1024) (⟨(y 2).val, (y 2).isLt⟩ : Fin 128)

/-- A store through every fourth row replaces those rows and leaves the others. -/
theorem put_every4 {Val : EltTy → Type} {e : EltTy} (X : S1x4096x128.Idx → Val e) (h : ℕ) (hh : h < 4) (hi) (w : S1x1024x128.Idx → Val e) (y : S1x4096x128.Idx) :
    put X (every4 h hi) w y = if (y 1).val % 4 = h then w (quarter y) else X y := by
  have hv : ∀ (x : S1x1024x128.Idx) (a : Fin 3), ((every4 h hi).emb x a : ℕ) = (![0, h, 0] : Fin 3 → ℕ) a + (![1, 4, 1] : Fin 3 → ℕ) a * (x a).val :=
    fun x a => rfl
  split
  · rename_i hy
    have he : (every4 h hi).emb (quarter y) = y := by
      funext a
      refine Fin.ext ?_
      rw [hv]
      match a with
      | ⟨0, _⟩ => have := (y 0).isLt; simp at this; simp [quarter]; omega
      | ⟨1, _⟩ => simp [quarter]; omega
      | ⟨2, _⟩ => simp [quarter]
    have := put_emb X (every4 h hi) w (quarter y)
    rwa [he] at this
  · rename_i hy
    refine put_of_ne _ _ _ fun x hx => hy ?_
    have := hv x 1
    rw [hx] at this
    simp at this
    omega

/-! ## What the body leaves -/

/-- The product's block. -/
def rowsOut (x : Vec F S1024x1024 .f32) (g : Vec F S1x1024 .f32) (w : Vec F S1024x2048 .bf16) : Vec F S1x1024x2048 .f32 :=
  k0_pay3 (k0_pay1 x g) w

/-- The value heads' block: row `4 r + h` is head `h` of position `r`. -/
def valsOut (x : Vec F S1024x1024 .f32) (g : Vec F S1x1024 .f32) (w : Vec F S1024x2048 .bf16) : Vec F S1x4096x128 .f32 := fun y =>
  if (y 1).val % 4 = 3 then k0_pay7 (k0_pay1 x g) w (quarter y)
  else if (y 1).val % 4 = 2 then k0_pay6 (k0_pay1 x g) w (quarter y)
  else if (y 1).val % 4 = 1 then k0_pay5 (k0_pay1 x g) w (quarter y)
  else k0_pay4 (k0_pay1 x g) w (quarter y)

theorem cond1 (i : grid0.Coords) :
    Scalar.cmpi .ne (Scalar.extui (Scalar.cmpi .eq (BitVec.ofNat 32 (i 1).val) 0#32) : BitVec 32) 0#32 = 1#1 := by
  have h : (i 1).val = 0 := by have := (i 1).isLt; simp at this; omega
  rw [h]; decide

theorem cond2 (i : grid0.Coords) : k0_cond2 i = 1#1 := cond1 i

set_option maxHeartbeats 2000000 in
/-- The first call's body. -/
theorem body_sound0 (c : Dev nD) (i : grid0.Coords)
    (arg2 : Memref sig .tc .vmem S1024x1024 .f32) (harg2 : arg2.IsWhole) (arg3 : Memref sig .tc .vmem S1x1024 .f32) (harg3 : arg3.IsWhole)
    (arg4 : Memref sig .tc .vmem S1024x2048 .bf16) (harg4 : arg4.IsWhole) (arg5 : Memref sig .tc .vmem S1x1024x2048 .f32) (harg5 : arg5.IsWhole)
    (arg6 : Memref sig .tc .vmem S1x4096x128 .f32) (harg6 : arg6.IsWhole) (arg7 : Memref sig .tc .vmem S1024x1024 .bf16) (harg7 : arg7.IsWhole)
    (x : Vec F S1024x1024 .f32) (g : Vec F S1x1024 .f32) (w : Vec F S1024x2048 .bf16) (Ψ : PUnit → sProp 𝕄) :
    iprop(owns (c : Thread nD τ) arg2 fullShare x ∗ owns (c : Thread nD τ) arg3 fullShare g ∗ owns (c : Thread nD τ) arg4 fullShare w
        ∗ (∃ X, owns (c : Thread nD τ) arg5 fullShare X) ∗ (∃ X, owns (c : Thread nD τ) arg6 fullShare X) ∗ (∃ X, owns (c : Thread nD τ) arg7 fullShare X)
        ∗ ((owns (c : Thread nD τ) arg2 fullShare x ∗ owns (c : Thread nD τ) arg3 fullShare g ∗ owns (c : Thread nD τ) arg4 fullShare w
            ∗ owns (c : Thread nD τ) arg5 fullShare (rowsOut x g w) ∗ owns (c : Thread nD τ) arg6 fullShare (valsOut x g w)
            ∗ (∃ X, owns (c : Thread nD τ) arg7 fullShare X)) -∗ Ψ ⟨⟩))
      ⊢ wp frame (wpE (defs₀ (F := F)) Variants.none (c : Thread nD τ) none) Set.univ
          (cc0_norm_proj i arg2 harg2 arg3 harg3 arg4 harg4 arg5 harg5 arg6 harg6 arg7 harg7) Ψ := by
  rw [cc0_norm_proj_eq_skeleton]; unfold cc0_norm_proj_skel
  simp only [dif_pos (cond1 i), dif_pos (cond2 i), Prog.lift, Prog.bind_op, Prog.bind_ret, Prog.pure_eq_ret]
  iintro ⟨H2, H3, H4, ⟨%X5, H5⟩, ⟨%X6, H6⟩, ⟨%X7, H7⟩, Hk⟩
  iapply (wp_load_owns Variants.none (c : Thread nD τ) none Set.univ arg2 _ x) $$ H2; iintro H2
  iapply (wp_load_owns Variants.none (c : Thread nD τ) none Set.univ arg3 _ g) $$ H3; iintro H3
  iapply (wp_load_owns Variants.none (c : Thread nD τ) none Set.univ arg7 _ X7) $$ H7; iintro H7
  iapply (wp_store_owns Variants.none (c : Thread nD τ) none Set.univ arg7 _ X7 _) $$ H7; iintro H7
  rw [put_whole, ld_whole, ld_whole]
  iapply (wp_load_owns Variants.none (c : Thread nD τ) none Set.univ arg7 _ _) $$ H7; iintro H7
  iapply (wp_load_owns Variants.none (c : Thread nD τ) none Set.univ arg4 _ w) $$ H4; iintro H4
  rw [ld_whole _ w, ld_whole (Val := Elt F) (s := S1024x1024) (e := .bf16) _ (k0_pay1 x g)]
  iapply (wp_load_owns Variants.none (c : Thread nD τ) none Set.univ arg5 _ X5) $$ H5; iintro H5
  iapply (wp_store_owns Variants.none (c : Thread nD τ) none Set.univ arg5 _ X5 _) $$ H5; iintro H5
  rw [put_whole]
  iapply (wp_load_owns Variants.none (c : Thread nD τ) none Set.univ arg6 (every4 0 inb_S1x4096x128_S1x1024x128_0_0_0_s_1_4_1) X6) $$ H6; iintro H6
  iapply (wp_store_owns Variants.none (c : Thread nD τ) none Set.univ arg6 (every4 0 inb_S1x4096x128_S1x1024x128_0_0_0_s_1_4_1) X6 _) $$ H6; iintro H6
  iapply (wp_load_owns Variants.none (c : Thread nD τ) none Set.univ arg6 (every4 1 inb_S1x4096x128_S1x1024x128_0_1_0_s_1_4_1) _) $$ H6; iintro H6
  iapply (wp_store_owns Variants.none (c : Thread nD τ) none Set.univ arg6 (every4 1 inb_S1x4096x128_S1x1024x128_0_1_0_s_1_4_1) _ _) $$ H6; iintro H6
  iapply (wp_load_owns Variants.none (c : Thread nD τ) none Set.univ arg6 (every4 2 inb_S1x4096x128_S1x1024x128_0_2_0_s_1_4_1) _) $$ H6; iintro H6
  iapply (wp_store_owns Variants.none (c : Thread nD τ) none Set.univ arg6 (every4 2 inb_S1x4096x128_S1x1024x128_0_2_0_s_1_4_1) _ _) $$ H6; iintro H6
  iapply (wp_load_owns Variants.none (c : Thread nD τ) none Set.univ arg6 (every4 3 inb_S1x4096x128_S1x1024x128_0_3_0_s_1_4_1) _) $$ H6; iintro H6
  iapply (wp_store_owns Variants.none (c : Thread nD τ) none Set.univ arg6 (every4 3 inb_S1x4096x128_S1x1024x128_0_3_0_s_1_4_1) _ _) $$ H6; iintro H6
  rw [wp_ret]; imodintro
  iapply Hk
  isplitl [H2]; · iexact H2
  isplitl [H3]; · iexact H3
  isplitl [H4]; · iexact H4
  isplitl [H5]; · iexact H5
  isplitl [H6]
  · rw [show valsOut x g w = put (put (put (put X6 (every4 0 inb_S1x4096x128_S1x1024x128_0_0_0_s_1_4_1) (k0_pay4 (k0_pay1 x g) w))
        (every4 1 inb_S1x4096x128_S1x1024x128_0_1_0_s_1_4_1) (k0_pay5 (k0_pay1 x g) w))
        (every4 2 inb_S1x4096x128_S1x1024x128_0_2_0_s_1_4_1) (k0_pay6 (k0_pay1 x g) w))
        (every4 3 inb_S1x4096x128_S1x1024x128_0_3_0_s_1_4_1) (k0_pay7 (k0_pay1 x g) w) from ?_]
    · iexact H6
    funext y
    rw [put_every4 _ 3 (by omega), put_every4 _ 2 (by omega), put_every4 _ 1 (by omega), put_every4 _ 0 (by omega)]
    unfold valsOut
    split_ifs <;> first | rfl | (exfalso; omega)
  iexists _; iexact H7

/-- The second call's body is the first's: the arrays it goes on from are not touched. -/
theorem body1_eq (i : grid0.Coords)
    (arg2 : Memref sig .tc .vmem S1024x1024 .f32) (harg2 : arg2.IsWhole) (arg3 : Memref sig .tc .vmem S1x1024 .f32) (harg3 : arg3.IsWhole)
    (arg4 : Memref sig .tc .vmem S1024x2048 .bf16) (harg4 : arg4.IsWhole) (p : Memref sig .tc .hbm S2x16384x2048 .f32) (hp : p.IsWhole)
    (q : Memref sig .tc .hbm S2x65536x128 .f32) (hq : q.IsWhole) (arg5 : Memref sig .tc .vmem S1x1024x2048 .f32) (harg5 : arg5.IsWhole)
    (arg6 : Memref sig .tc .vmem S1x4096x128 .f32) (harg6 : arg6.IsWhole) (arg7 : Memref sig .tc .vmem S1024x1024 .bf16) (harg7 : arg7.IsWhole) :
    cc1_norm_proj (F := F) i arg2 harg2 arg3 harg3 arg4 harg4 p hp q hq arg5 harg5 arg6 harg6 arg7 harg7
      = cc0_norm_proj i arg2 harg2 arg3 harg3 arg4 harg4 arg5 harg5 arg6 harg6 arg7 harg7 := rfl

end Cert.Proof.NP

end
-- ==== Proof.NP.Dat.lean ====
/-
  The two projection calls as pipelines, for any float values: what each staging buffer holds before and after the
  body at every point, and that the body does that.
-/
module

public import proofs.«01_k».proof.Proof.NP.Body

@[expose] public section

set_option maxRecDepth 16384

noncomputable section

namespace Cert.Proof.NP

open Cert.Kernel5Ideal Cert.Kernel5Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers' contents when a call is entered. -/
abbrev Bufs (F : FTy → Type) : Type := (c : Dev nD) → (b : Ref sig .tc) → Buf (Elt F) ((c : Thread nD τ).loc b)

variable (V : Bufs F)

/-! ## Call 0 -/

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The call's proof data: the arrays as the call finds them; after the body the staged inputs as fetched and the two
    results at what the body leaves; the buffers the pipeline does not stage untouched between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => rowsOut (iblk0 V c 0 t) (iblk0 V c 1 t) (iblk0 V c 2 t)
    | ⟨4, _⟩ => valsOut (iblk0 V c 0 t) (iblk0 V c 1 t) (iblk0 V c 2 t)
  Φ _ := Pipeline.ΦA spec0 c
  q _ := fullShare
  owed _ := 0

theorem arrs0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = rowsOut (iblk0 V c 0 t) (iblk0 V c 1 t) (iblk0 V c 2 t) := by
  dsimp only [dat0]
theorem after0_4 (c : Dev nD) (t : Fin cfg0.N) : (dat0 V c).after 4 t = valsOut (iblk0 V c 0 t) (iblk0 V c 1 t) (iblk0 V c 2 t) := by
  dsimp only [dat0]

/-- Each input's staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [arrs0]; try rfl) t d).trans
    (by unfold Dat.fetched Dat.blockOf iblk0; rw [arrs0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [arrs0]; try rfl) t d).trans
    (by unfold Dat.fetched Dat.blockOf iblk0; rw [arrs0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [arrs0]; try rfl) t d).trans
    (by unfold Dat.fetched Dat.blockOf iblk0; rw [arrs0]; try rfl)

/-- What the body is run with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it gives back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).Φ t.succ = (dat0 V c).Φ t.castSucc from rfl,
    show (dat0 V c).owesAt () t.succ = (dat0 V c).owesAt () t.castSucc from rfl,
    show (dat0 V c).Φ t.castSucc = Pipeline.ΦA spec0 c from rfl,
    after0_0, after0_1, after0_2, after0_3, after0_4]
  unfold Pipeline.ΦA
  simp only [scopedRest0_eq]
  iintro ⟨⟨⟨⟨%f, Hs⟩, R1, R2, R3, R4, R5, R6, R7, R8, R9⟩, Hp⟩, Ho, ⟨%d0, H0⟩, ⟨%d1, H1⟩, ⟨%d2, H2⟩, ⟨%d3, H3⟩, ⟨%d4, H4⟩⟩
  iapply (body_sound0 c (grid0.coords t) _ _ _ _ _ _ _ _ _ _ (Memref.whole cc0_scratch0) _ (iblk0 V c 0 t) (iblk0 V c 1 t) (iblk0 V c 2 t))
  isplitl [H0]; · iexact H0
  isplitl [H1]; · iexact H1
  isplitl [H2]; · iexact H2
  isplitl [H3]; · iexists _; iexact H3
  isplitl [H4]; · iexists _; iexact H4
  simp only [owns_whole_eq]
  isplitl [Hs]
  · iexists f; iexists f
    isplitr; · (ipureintro; rfl)
    iexact Hs
  iintro ⟨H0, H1, H2, H3, H4, ⟨%X, %f', %e', Hs⟩⟩
  isplitl [Hs R1 R2 R3 R4 R5 R6 R7 R8 R9 Hp]
  · isplitl [Hs R1 R2 R3 R4 R5 R6 R7 R8 R9]
    · isplitl [Hs]; · (iexists f'; iexact Hs)
      isplitl [R1]; · (iexact R1)
      isplitl [R2]; · (iexact R2)
      isplitl [R3]; · (iexact R3)
      isplitl [R4]; · (iexact R4)
      isplitl [R5]; · (iexact R5)
      isplitl [R6]; · (iexact R6)
      isplitl [R7]; · (iexact R7)
      isplitl [R8]; · (iexact R8)
      iexact R9
    iexact Hp
  isplitl [Ho]; · iexact Ho
  isplitl [H0]; · iexact H0
  isplitl [H1]; · iexact H1
  isplitl [H2]; · iexact H2
  isplitl [H3]; · iexact H3
  iexact H4

theorem row0 (t : Fin cfg0.N) :
    defs₀ (F := F) .tc cfg0.body (cfg0.bodyArgs t (cfg0.slots t)) = bodyAt0 t := by
  unfold defs₀; rw [Defs.onTc_tc]

/-- The value heads' window is stored into at every point. -/
theorem live0 (i : grid0.Coords) : idle0 4 i = false := by
  show (!(k0_cond2 i == 1#1)) = false
  rw [show k0_cond2 i = 1#1 from cond2 i]; rfl

/-- What the pipeline asks of the body. -/
theorem obligation0 (c : Dev nD) : BodyObligation (dat0 (F := F) V c) (defs₀ (F := F)) Variants.none () Set.univ := fun t => by
  rw [bigSep_W0, bigSep_W0, row0]
  refine triple_restated (point0 V c t) rfl .rfl fun _ => ?_
  have hl : idle0 4 (grid0.coords t) = false := live0 _
  dsimp only
  split
  · rename_i h; exact absurd (h.symm.trans hl) (by decide)
  · exact .rfl

/-! ## Call 1 -/

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The call's proof data: the arrays as the call finds them; after the body the staged inputs as fetched and the two
    results at what the body leaves; the buffers the pipeline does not stage untouched between points; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => rowsOut (iblk1 V c 0 t) (iblk1 V c 1 t) (iblk1 V c 2 t)
    | ⟨4, _⟩ => valsOut (iblk1 V c 0 t) (iblk1 V c 1 t) (iblk1 V c 2 t)
  Φ _ := Pipeline.ΦA spec1 c
  q _ := fullShare
  owed _ := 0

theorem arrs1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = rowsOut (iblk1 V c 0 t) (iblk1 V c 1 t) (iblk1 V c 2 t) := by
  dsimp only [dat1]
theorem after1_4 (c : Dev nD) (t : Fin cfg1.N) : (dat1 V c).after 4 t = valsOut (iblk1 V c 0 t) (iblk1 V c 1 t) (iblk1 V c 2 t) := by
  dsimp only [dat1]

/-- Each input's staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [arrs1]; try rfl) t d).trans
    (by unfold Dat.fetched Dat.blockOf iblk1; rw [arrs1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [arrs1]; try rfl) t d).trans
    (by unfold Dat.fetched Dat.blockOf iblk1; rw [arrs1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [arrs1]; try rfl) t d).trans
    (by unfold Dat.fetched Dat.blockOf iblk1; rw [arrs1]; try rfl)

/-- What the body is run with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it gives back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2]
  rw [show (dat1 V c).Φ t.succ = (dat1 V c).Φ t.castSucc from rfl,
    show (dat1 V c).owesAt () t.succ = (dat1 V c).owesAt () t.castSucc from rfl,
    show (dat1 V c).Φ t.castSucc = Pipeline.ΦA spec1 c from rfl,
    after1_0, after1_1, after1_2, after1_3, after1_4]
  unfold Pipeline.ΦA
  simp only [scopedRest1_eq]
  iintro ⟨⟨⟨R0, R1, R2, R3, R4, R5, R6, R7, R8, ⟨%f, Hs⟩⟩, Hp⟩, Ho, ⟨%d0, H0⟩, ⟨%d1, H1⟩, ⟨%d2, H2⟩, ⟨%d3, H3⟩, ⟨%d4, H4⟩⟩
  rw [body1_eq]
  iapply (body_sound0 c (grid1.coords t) _ _ _ _ _ _ _ _ _ _ (Memref.whole cc1_scratch0) _ (iblk1 V c 0 t) (iblk1 V c 1 t) (iblk1 V c 2 t))
  isplitl [H0]; · iexact H0
  isplitl [H1]; · iexact H1
  isplitl [H2]; · iexact H2
  isplitl [H3]; · iexists _; iexact H3
  isplitl [H4]; · iexists _; iexact H4
  simp only [owns_whole_eq]
  isplitl [Hs]
  · iexists f; iexists f
    isplitr; · (ipureintro; rfl)
    iexact Hs
  iintro ⟨H0, H1, H2, H3, H4, ⟨%X, %f', %e', Hs⟩⟩
  isplitl [Hs R0 R1 R2 R3 R4 R5 R6 R7 R8 Hp]
  · isplitl [Hs R0 R1 R2 R3 R4 R5 R6 R7 R8]
    · isplitl [R0]; · (iexact R0)
      isplitl [R1]; · (iexact R1)
      isplitl [R2]; · (iexact R2)
      isplitl [R3]; · (iexact R3)
      isplitl [R4]; · (iexact R4)
      isplitl [R5]; · (iexact R5)
      isplitl [R6]; · (iexact R6)
      isplitl [R7]; · (iexact R7)
      isplitl [R8]; · (iexact R8)
      iexists f'; iexact Hs
    iexact Hp
  isplitl [Ho]; · iexact Ho
  isplitl [H0]; · iexact H0
  isplitl [H1]; · iexact H1
  isplitl [H2]; · iexact H2
  isplitl [H3]; · iexact H3
  iexact H4

theorem row1 (t : Fin cfg1.N) :
    defs₀ (F := F) .tc cfg1.body (cfg1.bodyArgs t (cfg1.slots t)) = bodyAt1 t := by
  unfold defs₀; rw [Defs.onTc_tc]

/-- The value heads' window is stored into at every point. -/
theorem live1 (i : grid1.Coords) : idle1 4 i = false := by
  show (!(k1_cond2 i == 1#1)) = false
  rw [show k1_cond2 i = 1#1 from cond2 i]; rfl

/-- What the pipeline asks of the body. -/
theorem obligation1 (c : Dev nD) : BodyObligation (dat1 (F := F) V c) (defs₀ (F := F)) Variants.none () Set.univ := fun t => by
  rw [bigSep_W1, bigSep_W1, row1]
  refine triple_restated (point1 V c t) rfl .rfl fun _ => ?_
  have hl : idle1 4 (grid1.coords t) = false := live1 _
  dsimp only
  split
  · rename_i h; exact absurd (h.symm.trans hl) (by decide)
  · exact .rfl

end Cert.Proof.NP

end
-- ==== Proof.NP.Run.lean ====
/-
  The two projection calls run one after the other, for any float values: what every buffer holds between them and at
  the end, that every weakly fair run ends there, and that the arguments are left as they were.
-/
module

public import proofs.«01_k».proof.Proof.NP.Dat

@[expose] public section

set_option maxRecDepth 16384

noncomputable section

namespace Cert.Proof.NP

open Cert.Kernel5Ideal
open Cert.Kernel5Ideal.Gen (hostOps0 hostOps1 hostOps0_W hostOps1_W hostOps0_writes hostOps1_writes hostOps0_sub hostOps1_sub
  hostOps0_fresh hostOps1_fresh launch0 launch1 cellOf_inj main_chain)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] (m : (ℓ : Loc nD τ sig) → Buf (Elt F) ℓ) (ρ : Dev nD → PrngReg)

local notation "𝕄" => MT nD τ sig Unit (Elt F) ℕ (UR sig nD τ) ℕ

/-! ## What the buffers hold at each stage -/

/-- At launch, -/
abbrev B0 : Dev nD → Valuation τ sig (Elt F) := fun c b => m ((c : Dev nD), b)
/-- when the first call is entered, -/
abbrev B1 : Dev nD → Valuation τ sig (Elt F) := fun c => StableHlo.after hostOps0 (B0 m c)
abbrev at1 : Bufs F := fun c b => B1 m c b
/-- when it is left, -/
def B2 (c : Dev nD) : Valuation τ sig (Elt F) := withArrays spec0 c (B1 m c) fun w => (dat0 (at1 m) c).arrAt w cfg0.N
/-- when the second call is entered, -/
abbrev B3 : Dev nD → Valuation τ sig (Elt F) := fun c => StableHlo.after hostOps1 (B2 m c)
abbrev at3 : Bufs F := fun c b => B3 m c b
/-- and at the end. -/
def B4 (c : Dev nD) : Valuation τ sig (Elt F) := withArrays spec1 c (B3 m c) fun w => (dat1 (at3 m) c).arrAt w cfg1.N

/-- A call leaves in its arrays what its pipeline leaves there, and every other buffer alone. -/
theorem B2_arr (c : Dev nD) (w : Fin cfg0.W) :
    B2 m c (Proc.devRef .tc (arrRef spec0 w)) = (dat0 (at1 m) c).arrAt w cfg0.N := by
  unfold B2; exact withArrays_arr spec0 launch0.win.arr_inj c _ _ w

theorem B2_of_ne (c : Dev nD) (b : Ref sig .tc) (hb : ∀ w, arrRef spec0 w ≠ b) :
    B2 m c (Proc.devRef .tc b) = B1 m c (Proc.devRef .tc b) := by
  unfold B2; exact withArrays_of_ne spec0 c _ _ b hb

/-- An input's array is left as it was. -/
theorem B2_in (c : Dev nD) (w : Fin cfg0.W) (h : (cfg0.win w).isOut = false) :
    B2 m c (Proc.devRef .tc (arrRef spec0 w)) = B1 m c (Proc.devRef .tc (arrRef spec0 w)) :=
  (B2_arr m c w).trans (((dat0 (at1 m) c).arrAt_in w h _).trans (arrs0 (at1 m) c w))

/-- A call leaves in its arrays what its pipeline leaves there, and every other buffer alone. -/
theorem B4_arr (c : Dev nD) (w : Fin cfg1.W) :
    B4 m c (Proc.devRef .tc (arrRef spec1 w)) = (dat1 (at3 m) c).arrAt w cfg1.N := by
  unfold B4; exact withArrays_arr spec1 launch1.win.arr_inj c _ _ w

theorem B4_of_ne (c : Dev nD) (b : Ref sig .tc) (hb : ∀ w, arrRef spec1 w ≠ b) :
    B4 m c (Proc.devRef .tc b) = B3 m c (Proc.devRef .tc b) := by
  unfold B4; exact withArrays_of_ne spec1 c _ _ b hb

/-- An input's array is left as it was. -/
theorem B4_in (c : Dev nD) (w : Fin cfg1.W) (h : (cfg1.win w).isOut = false) :
    B4 m c (Proc.devRef .tc (arrRef spec1 w)) = B3 m c (Proc.devRef .tc (arrRef spec1 w)) :=
  (B4_arr m c w).trans (((dat1 (at3 m) c).arrAt_in w h _).trans (arrs1 (at3 m) c w))

/-- A buffer that no host operation and no call writes holds at the end what it held at launch. -/
theorem B4_kept (c : Dev nD) (a : Ref sig .tc) (h0 : a ∉ hostOps0_W) (h1 : a ∉ hostOps1_W)
    (hr0 : ∀ w, arrRef spec0 w ≠ a) (hr1 : ∀ w, arrRef spec1 w ≠ a) :
    B4 m c (Proc.devRef .tc a) = m ((c : Thread nD τ).loc a) :=
  (B4_of_ne m c a hr1).trans
    ((StableHlo.after_of_writes_sub hostOps1 _ hostOps1_writes h1).trans
      ((B2_of_ne m c a hr0).trans (StableHlo.after_of_writes_sub hostOps0 _ hostOps0_writes h0)))

/-! ## The calls as segments of the program -/

abbrev noTables : (p : Fin 2) → (pcfgs (F := F) p).Adm := fun p => (cfgs p).toPCfg_adm

/-- Both calls' proof data. -/
def pdats : (p : Fin 2) → (c : Dev nD) → Dat τ (Elt F) Unit ℕ (UR sig nD τ) ℕ (pin (pcfgs (F := F)) noTables p) c
  | ⟨0, _⟩ => fun c => dat0 (at1 m) c
  | ⟨1, _⟩ => fun c => dat1 (at3 m) c

/-- Nobody waits on another: no levels. -/
abbrev Lv : GSem nD τ sig → Finset Unit := fun _ => ∅
abbrev lvl : GSem nD τ sig → Unit → ℕ := fun _ _ => 0

/-- What goes along beside the buffers: the generator register at some state, and nothing owed. -/
abbrev beside (c : Dev nD) : sProp 𝕄 := iprop((∃ r, prngReg c r) ∗ ∃ W, owes (c : Thread nD τ) (0 : CellTallies nD τ sig Unit) W)

/-- All unscoped buffers at given contents. -/
abbrev bufsAt (c : Dev nD) (σ : Valuation τ sig (Elt F)) : sProp 𝕄 := StableHlo.held (c : Thread nD τ) (ucRefs τ sig) σ

/-- A run of host operations as a segment. -/
abbrev hostSeg (ops : List (HloOp τ sig (Elt F))) (hsub : ops.Forall fun op => op.bufs ⊆ StableHlo.tcRefs τ sig)
    (hfresh : ops.Forall fun op => op.fresh = ∅) (σ : Dev nD → Valuation τ sig (Elt F)) :
    HostSeg (Name := ℕ) (U := UR sig nD τ) (pcfgs (F := F)) defs₀ Variants.none Lv lvl :=
  HostSeg.ofOps _ _ _ _ _ (ucRefs τ sig) ops
    (fun op h => sub_ucRefs op ((List.forall_iff_forall_mem.mp hsub) op h))
    (fun op h => (List.forall_iff_forall_mem.mp hfresh) op h) σ beside

set_option backward.isDefEq.respectTransparency.types false in
/-- Call 0: entered with the buffers at `B1`, left with them at `B2`. -/
def call0 : RegionSeg (pcfgs (F := F)) noTables (pdats m) () defs₀ Variants.none Lv lvl 0 where
  win := launch0.win.to₀
  block_pos := launch0.block_pos
  stage_whole := launch0.stage_whole
  K := PEmpty
  osem k := k.elim
  ho := OwnSemFacts.none _
  hbody c := (obligation0 (at1 m) c).loose
  hwaits := hwaits_of_owed_zero _ _ _ _ Lv lvl 0 fun _ _ => rfl
  pre c := iprop(bufsAt c (B1 m c) ∗ beside c)
  post c := iprop(bufsAt c (B2 m c) ∗ beside c)
  X c := iprop(∃ r, prngReg c r)
  Y c := iprop(∃ r, prngReg c r)
  Z c := unscopedRest (Ix := Unit) (Name := ℕ) (U := UR sig nD τ) (Lvl := ℕ) spec0 c (at1 m c)
  hentry c := by
    rw [ownSems0_none]
    have hsplit := arrays_of_unscopedBufs (p := 0) (pcfgs (F := F)) noTables (pdats m) launch0.win launch0.arr_whole c
      ((pdats m 0 c).share_full fun _ => rfl) (at1 m c) (arrs0 (at1 m) c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin
      icases HO with ⟨%W, HO⟩; iexists W; isplitr; · ipureintro; exact fun _ _ => Or.inl trivial
      iexact HO
    isplitl [Hp]; · iexact Hp
    iexact Hrest
  hin c := by
    rw [show (pdats m 0 c).Φ 0 = ΦA spec0 c from rfl]; unfold ΦA
    iintro ⟨Hp, -, Hr⟩
    isplitl [Hr]; · iexact Hr
    iexact Hp
  hout c := by
    rw [ownSems0_none, show (pdats m 0 c).Φ (Fin.last _) = ΦA spec0 c from rfl]; unfold ΦA
    iintro ⟨Hr, Hp⟩
    isplitl [Hp]; · iexact Hp
    isplitr; · iempintro
    iexact Hr
  hexit c := by
    have hjoin := unscopedBufs_of_arrays (p := 0) (pcfgs (F := F)) noTables (Ix := Unit) (Name := ℕ) (U := UR sig nD τ) (Lvl := ℕ)
      launch0.win launch0.arr_whole c (pdats m) ((pdats m 0 c).share_full fun _ => rfl)
      (at1 m c) (fun b => B2 m c b) ((pdats m 0 c).arrAt · cfg0.N) (fun w => (B2_arr m c w).symm)
      (fun b hb => B2_of_ne m c b fun w e => hb (Finset.mem_image.mpr ⟨w, Finset.mem_univ _, e⟩))
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    icases HO with ⟨%W, -, HO⟩; iexists W; iexact HO

set_option backward.isDefEq.respectTransparency.types false in
/-- Call 1: entered with the buffers at `B3`, left with them at `B4`. -/
def call1 : RegionSeg (pcfgs (F := F)) noTables (pdats m) () defs₀ Variants.none Lv lvl 1 where
  win := launch1.win.to₀
  block_pos := launch1.block_pos
  stage_whole := launch1.stage_whole
  K := PEmpty
  osem k := k.elim
  ho := OwnSemFacts.none _
  hbody c := (obligation1 (at3 m) c).loose
  hwaits := hwaits_of_owed_zero _ _ _ _ Lv lvl 1 fun _ _ => rfl
  pre c := iprop(bufsAt c (B3 m c) ∗ beside c)
  post c := iprop((bufsAt c (B4 m c) ∗ ∃ r, prngReg c r) ∗ ∃ W, owes (c : Thread nD τ) (0 : CellTallies nD τ sig Unit) W)
  X c := iprop(∃ r, prngReg c r)
  Y c := iprop(∃ r, prngReg c r)
  Z c := unscopedRest (Ix := Unit) (Name := ℕ) (U := UR sig nD τ) (Lvl := ℕ) spec1 c (at3 m c)
  hentry c := by
    rw [ownSems0_none]
    have hsplit := arrays_of_unscopedBufs (p := 1) (pcfgs (F := F)) noTables (pdats m) launch1.win launch1.arr_whole c
      ((pdats m 1 c).share_full fun _ => rfl) (at3 m c) (arrs1 (at3 m) c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin
      icases HO with ⟨%W, HO⟩; iexists W; isplitr; · ipureintro; exact fun _ _ => Or.inl trivial
      iexact HO
    isplitl [Hp]; · iexact Hp
    iexact Hrest
  hin c := by
    rw [show (pdats m 1 c).Φ 0 = ΦA spec1 c from rfl]; unfold ΦA
    iintro ⟨Hp, -, Hr⟩
    isplitl [Hr]; · iexact Hr
    iexact Hp
  hout c := by
    rw [ownSems0_none, show (pdats m 1 c).Φ (Fin.last _) = ΦA spec1 c from rfl]; unfold ΦA
    iintro ⟨Hr, Hp⟩
    isplitl [Hp]; · iexact Hp
    isplitr; · iempintro
    iexact Hr
  hexit c := by
    have hjoin := unscopedBufs_of_arrays (p := 1) (pcfgs (F := F)) noTables (Ix := Unit) (Name := ℕ) (U := UR sig nD τ) (Lvl := ℕ)
      launch1.win launch1.arr_whole c (pdats m) ((pdats m 1 c).share_full fun _ => rfl)
      (at3 m c) (fun b => B4 m c b) ((pdats m 1 c).arrAt · cfg1.N) (fun w => (B4_arr m c w).symm)
      (fun b hb => B4_of_ne m c b fun w e => hb (Finset.mem_image.mpr ⟨w, Finset.mem_univ _, e⟩))
    rw [unscopedBufs_held] at hjoin
    iintro ⟨Ha, HO, HY, Hrest⟩
    imodintro
    isplitl [Ha Hrest HY]
    · isplitl [Ha Hrest]
      · iapply hjoin; isplitl [Ha] <;> iassumption
      iexact HY
    unfold Dat.owesAt owesWithin
    icases HO with ⟨%W, -, HO⟩; iexists W; iexact HO

/-- The program is its four segments, one after the other. -/
abbrev parts : List (Seg (pcfgs (F := F)) noTables (pdats m) () defs₀ Variants.none Lv lvl) :=
  [ .host (hostSeg hostOps0 hostOps0_sub hostOps0_fresh (B0 m)),
    .region (call0 m),
    .host (hostSeg hostOps1 hostOps1_sub hostOps1_fresh (B2 m)),
    .region (call1 m) ]

theorem main_parts (c : Dev nD) : main (F := F) c = Seg.run (parts m) := (main_chain c).trans (by chain_rfl)

theorem mem_uc (b : Ref sig .tc) (h : ¬ (Proc.devRef .tc b : DevRef τ sig).isScoped) : Proc.devRef .tc b ∈ ucRefs τ sig :=
  Finset.mem_filter.mpr ⟨StableHlo.devRef_mem_tcRefs b, h⟩

theorem all_scoped : ∀ sm : SemLoc sig, sm.isScoped .tc = true := by decide

set_option backward.isDefEq.respectTransparency.types false in
/-- Every weakly fair run ends, with every unscoped buffer at `B4` and every semaphore at zero. -/
theorem run_all : θ_run defs (onTc (τ := τ) (main (F := F))) ⟨m, fun _ => 0, ρ⟩
    (fun r => (∀ c : Dev nD, ∀ b ∈ ucRefs τ sig, r.2.mem ((c : Thread nD τ).1, b) = B4 m c b) ∧ r.2.sem = fun _ => 0) :=
  θ_run_regions_kit_sems (pcfgs (F := F)) noTables (pdats m) () cellOf_inj emb₁ defs₀ Variants.none Lv lvl m ρ main (parts m)
    (fun c Q => by rw [main_parts m c])
    (by simp only [parts, Seg.pipes_host, Seg.pipes_region, Seg.pipes_nil]; decide)
    (O₀ := 0) (hL := fun _ _ => rfl) (G := fun _ => iprop(emp))
    (u₀ := initOf (cells cfgs cellOf_inj) (launchToks cfgs cellOf_inj))
    (hu₀ := by
      iintro Hu; imodintro
      isplitl [Hu]
      · iapply (show (ownU (initOf (cells cfgs cellOf_inj) (launchToks cfgs cellOf_inj)) : sProp 𝕄)
            ⊢ BI.own (emb₁ (initOf (cells cfgs cellOf_inj) (launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(bufsAt c (B0 m c) ∗ beside c)) (Tₙ := fun c => iprop(bufsAt c (B4 m c) ∗ ∃ r, prngReg c r))
    (hch := ⟨fun _ => .rfl, fun _ => .rfl, fun _ => .rfl, fun _ => .rfl, fun _ => .rfl⟩)
    (hinit := by
      refine initEach Lv lvl fun c => ?_
      rw [show unscopedBufs c (fun b => m ((c : Thread nD τ).loc b)) = bufsAt c (B0 m c) from unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = B4 m c b)
    (hfin := fun c s' => by
      iintro ⟨⟨Hh, -⟩, HSI⟩
      unfold bufsAt StableHlo.held
      imodintro
      iapply (pointsTo_read_all (ucRefs τ sig) (fun b => (((c : Thread nD τ)).1, b)) (B4 m c) s')
      isplitl [Hh] <;> iassumption)
    (hQ := fun _ h hz => ⟨h, funext fun g => hz g (.inr (all_scoped g.2))⟩)

/-- The arguments at the end. -/
theorem B4_arg (c : Dev nD) : ∀ a ∈ [main_arg0, main_arg1, main_arg2, main_arg3],
    B4 m c (Proc.devRef .tc a) = m ((c : Thread nD τ).loc a) := by
  have h : ∀ a ∈ [main_arg0, main_arg1, main_arg2, main_arg3], a ∉ hostOps0_W ∧ a ∉ hostOps1_W
      ∧ (∀ w, arrRef spec0 w ≠ a) ∧ (∀ w, arrRef spec1 w ≠ a) := by decide +kernel
  exact fun a ha => B4_kept m c a (h a ha).1 (h a ha).2.1 (h a ha).2.2.1 (h a ha).2.2.2

/-- Every weakly fair run ends with the arguments as they were and every semaphore at zero. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c =>
    ⟨(h.1 c _ (mem_uc main_arg0 (by decide))).trans (B4_arg m c _ (by decide)),
     (h.1 c _ (mem_uc main_arg1 (by decide))).trans (B4_arg m c _ (by decide)),
     (h.1 c _ (mem_uc main_arg2 (by decide))).trans (B4_arg m c _ (by decide)),
     (h.1 c _ (mem_uc main_arg3 (by decide))).trans (B4_arg m c _ (by decide))⟩, h.2⟩) (run_all m ρ)

end Cert.Proof.NP

end
-- ==== Proof.NP.Spec.lean ====
/-
  The row-major columns of the combined projection over the extended reals, and what a call's body computes, element by
  element.
-/
module

public import proofs.«01_k».proof.Proof.NP.Run
public import proofs.«01_k».proof.Proof.Row
public import Idealize.ShloMosaic.Lib.Pipeline.ValueKit
public import Idealize.ShloMosaic.Lib.Pipeline.ValueKit.Partial
public import Idealize.ShloMosaic.Lib.Pointwise

@[expose] public section

set_option maxRecDepth 16384

noncomputable section

namespace Cert.Proof.NP

open Cert.Kernel5Ideal Cert.Kernel5Ideal.Gen
open Idealize.ShloMosaic Idealize.ShloMosaic.TcCoe

/-- Column `q` of layer `l`'s projection of the rows `x`, at position `p` of sequence `b`. -/
def col (x : Vec Ideal S4x4096x1024 .f32) (nm : Vec Ideal S2x1024 .f32) (w : Vec Ideal S2x1024x7680 .f32) (l : Fin 2) (b : Fin 4)
    (p : Fin 4096) (q : Fin 7680) : EReal :=
  ∑ k : Fin 1024, nrm (fun k => x (ix3 b p k)) (fun k => nm (ix2 l k)) k * w (ix3 l k q)

/-- Where the column `q` of the row-major columns stands in the projection: 512 columns each from 0, 1536, 3072 and 4096. -/
def src (q : Fin 2048) : Fin 7680 :=
  ⟨if q.val < 512 then q.val else if q.val < 1024 then q.val + 1024 else if q.val < 1536 then q.val + 2048 else q.val + 2560,
    by have := q.isLt; split_ifs <;> omega⟩

/-- One layer's row-major columns, all positions of all sequences below one another. -/
def rowsL (x : Vec Ideal S4x4096x1024 .f32) (nm : Vec Ideal S2x1024 .f32) (w : Vec Ideal S2x1024x7680 .f32) (l : Fin 2) :
    Vec Ideal S2x16384x2048 .f32 := fun z =>
  col x nm w l ⟨(z 1).val / 4096, by have : (z 1).val < 16384 := (z 1).isLt; omega⟩ ⟨(z 1).val % 4096, Nat.mod_lt _ (by omega)⟩ (src (z 2))

/-- One layer's value heads: four rows of 128 to a position. -/
def valsL (x : Vec Ideal S4x4096x1024 .f32) (nm : Vec Ideal S2x1024 .f32) (w : Vec Ideal S2x1024x7680 .f32) (l : Fin 2) :
    Vec Ideal S2x65536x128 .f32 := fun z =>
  col x nm w l ⟨(z 1).val / 16384, by have : (z 1).val < 65536 := (z 1).isLt; omega⟩ ⟨(z 1).val / 4 % 4096, Nat.mod_lt _ (by omega)⟩
    ⟨4096 + ((z 1).val % 4 * 128 + (z 2).val), by have : (z 2).val < 128 := (z 2).isLt; omega⟩

/-- Both layers', stacked. -/
def stacked {s : Shape} (h : 0 < s.rank) (A B : s.Idx → EReal) : s.Idx → EReal := fun z =>
  if (z ⟨0, h⟩).val = 1 then B z else A z

/-! ## The body -/

theorem norm_apply (x : Vec Ideal S1024x1024 .f32) (g : Vec Ideal S1x1024 .f32) (r k : Fin 1024) :
    k0_pay1 x g (ix2 r k) = nrm (fun k => x (ix2 r k)) (fun k => g (ix2 0 k)) k := by
  pointwise [k0_pay1]
  rfl

/-- The product. -/
def dotted (x : Vec Ideal S1024x1024 .f32) (g : Vec Ideal S1x1024 .f32) (w : Vec Ideal S1024x2048 .bf16) (r : Fin 1024) (q : Fin 2048) : EReal :=
  ∑ k : Fin 1024, nrm (fun k => x (ix2 r k)) (fun k => g (ix2 0 k)) k * w (ix2 k q)

theorem rowsOut_apply (x : Vec Ideal S1024x1024 .f32) (g : Vec Ideal S1x1024 .f32) (w : Vec Ideal S1024x2048 .bf16) (r : Fin 1024) (q : Fin 2048) :
    rowsOut x g w (ix3 0 r q) = dotted x g w r q := by
  unfold rowsOut dotted
  pointwise [k0_pay3, k0_pay2]
  simp only [norm_apply]
  try rfl

theorem head0 (x : Vec Ideal S1024x1024 .f32) (g : Vec Ideal S1x1024 .f32) (w : Vec Ideal S1024x2048 .bf16) (r : Fin 1024) (e : Fin 128) :
    k0_pay4 (k0_pay1 x g) w (ix3 0 r e) = dotted x g w r ⟨1536 + e.val, by omega⟩ := by
  unfold dotted
  pointwise [k0_pay4, k0_pay2]
  simp only [norm_apply]
  try rfl

theorem head1 (x : Vec Ideal S1024x1024 .f32) (g : Vec Ideal S1x1024 .f32) (w : Vec Ideal S1024x2048 .bf16) (r : Fin 1024) (e : Fin 128) :
    k0_pay5 (k0_pay1 x g) w (ix3 0 r e) = dotted x g w r ⟨1664 + e.val, by omega⟩ := by
  unfold dotted
  pointwise [k0_pay5, k0_pay2]
  simp only [norm_apply]
  try rfl

theorem head2 (x : Vec Ideal S1024x1024 .f32) (g : Vec Ideal S1x1024 .f32) (w : Vec Ideal S1024x2048 .bf16) (r : Fin 1024) (e : Fin 128) :
    k0_pay6 (k0_pay1 x g) w (ix3 0 r e) = dotted x g w r ⟨1792 + e.val, by omega⟩ := by
  unfold dotted
  pointwise [k0_pay6, k0_pay2]
  simp only [norm_apply]
  try rfl

theorem head3 (x : Vec Ideal S1024x1024 .f32) (g : Vec Ideal S1x1024 .f32) (w : Vec Ideal S1024x2048 .bf16) (r : Fin 1024) (e : Fin 128) :
    k0_pay7 (k0_pay1 x g) w (ix3 0 r e) = dotted x g w r ⟨1920 + e.val, by omega⟩ := by
  unfold dotted
  pointwise [k0_pay7, k0_pay2]
  simp only [norm_apply]
  try rfl

/-- The value heads' block: row `R` is head `R % 4` of the tile's row `R / 4`. -/
theorem valsOut_apply (x : Vec Ideal S1024x1024 .f32) (g : Vec Ideal S1x1024 .f32) (w : Vec Ideal S1024x2048 .bf16) (R : Fin 4096) (e : Fin 128) :
    valsOut x g w (ix3 0 R e) = dotted x g w ⟨R.val / 4, by omega⟩ ⟨1536 + (R.val % 4 * 128 + e.val), by omega⟩ := by
  have hq : quarter (ix3 0 R e) = ix3 0 (⟨R.val / 4, by omega⟩ : Fin 1024) e := rfl
  unfold valsOut
  rw [hq]
  show (if R.val % 4 = 3 then _ else if R.val % 4 = 2 then _ else if R.val % 4 = 1 then _ else _) = _
  split_ifs with h3 h2 h1
  · rw [head3]; congr 1; apply Fin.ext; show _ = 1536 + (R.val % 4 * 128 + e.val); rw [h3]; show 1920 + e.val = _; omega
  · rw [head2]; congr 1; apply Fin.ext; show _ = 1536 + (R.val % 4 * 128 + e.val); rw [h2]; show 1792 + e.val = _; omega
  · rw [head1]; congr 1; apply Fin.ext; show _ = 1536 + (R.val % 4 * 128 + e.val); rw [h1]; show 1664 + e.val = _; omega
  · have h0 : R.val % 4 = 0 := by omega
    rw [head0]; congr 1; apply Fin.ext; show _ = 1536 + (R.val % 4 * 128 + e.val); rw [h0]; show 1536 + e.val = _; omega

end Cert.Proof.NP

end
-- ==== Proof.NP.Reads.lean ====
/-
  The row-major projection: what each input block of a point reads, in the arrays as launched.
-/
module

public import proofs.«01_k».proof.Proof.NP.Spec

@[expose] public section

set_option maxRecDepth 16384

noncomputable section

namespace Cert.Proof.NP

open Cert.Kernel5Ideal Cert.Kernel5Ideal.Gen
open Idealize.ShloMosaic Idealize.ShloMosaic.TcCoe
open Idealize.ShloMosaic.Pipeline

/-- The block indices of the first layer's points, -/
theorem idx0 : ∀ t : Fin cfg0.N, win0_0.index t = ![t.val, 0] ∧ win0_1.index t = ![0, 0] ∧ win0_2.index t = ![0, 0]
    ∧ win0_3.index t = ![0, t.val, 0]
    ∧ win0_4.index t = ![0, t.val, 0] := (by decide +kernel : ∀ t : Fin grid0.N, _)

/-- and of the second layer's. -/
theorem idx1 : ∀ t : Fin cfg1.N, win1_0.index t = ![t.val, 0] ∧ win1_1.index t = ![0, 0] ∧ win1_2.index t = ![0, 0]
    ∧ win1_3.index t = ![1, t.val, 0]
    ∧ win1_4.index t = ![1, t.val, 0] := (by decide +kernel : ∀ t : Fin grid1.N, _)

section Blocks

variable (V : Bufs Ideal) (c : Dev nD)

theorem blkx0 (t : Fin cfg0.N) (r k : Fin 1024) : (iblk0 V c 0 t : Vec Ideal S1024x1024 .f32) (ix2 r k)
    = (V c main_v11 : Vec Ideal S16384x1024 .f32) (ix2 ⟨t.val * 1024 + r.val, by have : t.val < 16 := t.isLt; omega⟩ k) := by
  blk_simp [iblk0, idx0 t]
  refine congrArg _ ?_
  blk_ext [idx0 t]

theorem blkg0 (t : Fin cfg0.N) (k : Fin 1024) : (iblk0 V c 1 t : Vec Ideal S1x1024 .f32) (ix2 0 k)
    = (V c main_v16 : Vec Ideal S1x1024 .f32) (ix2 0 k) := by
  blk_simp [iblk0, idx0 t]
  refine congrArg _ ?_
  blk_ext [idx0 t]

theorem blkw0 (t : Fin cfg0.N) (k : Fin 1024) (q : Fin 2048) : (iblk0 V c 2 t : Vec Ideal S1024x2048 .bf16) (ix2 k q)
    = (V c main_v15 : Vec Ideal S1024x2048 .bf16) (ix2 k q) := by
  blk_simp [iblk0, idx0 t]
  refine congrArg _ ?_
  blk_ext [idx0 t]

theorem blkx1 (t : Fin cfg1.N) (r k : Fin 1024) : (iblk1 V c 0 t : Vec Ideal S1024x1024 .f32) (ix2 r k)
    = (V c main_v18 : Vec Ideal S16384x1024 .f32) (ix2 ⟨t.val * 1024 + r.val, by have : t.val < 16 := t.isLt; omega⟩ k) := by
  blk_simp [iblk1, idx1 t]
  refine congrArg _ ?_
  blk_ext [idx1 t]

theorem blkg1 (t : Fin cfg1.N) (k : Fin 1024) : (iblk1 V c 1 t : Vec Ideal S1x1024 .f32) (ix2 0 k)
    = (V c main_v23 : Vec Ideal S1x1024 .f32) (ix2 0 k) := by
  blk_simp [iblk1, idx1 t]
  refine congrArg _ ?_
  blk_ext [idx1 t]

theorem blkw1 (t : Fin cfg1.N) (k : Fin 1024) (q : Fin 2048) : (iblk1 V c 2 t : Vec Ideal S1024x2048 .bf16) (ix2 k q)
    = (V c main_v22 : Vec Ideal S1024x2048 .bf16) (ix2 k q) := by
  blk_simp [iblk1, idx1 t]
  refine congrArg _ ?_
  blk_ext [idx1 t]

end Blocks

variable (m : (ℓ : Loc nD τ sig) → Buf (Elt Ideal) ℓ) (c : Dev nD)

theorem at1_host (b : Ref sig .tc) : at1 m c b = StableHlo.after (hostOps0 (F := Ideal)) (B0 m c) (Proc.devRef .tc b) := rfl

theorem at3_host (b : Ref sig .tc) : at3 m c b = StableHlo.after (hostOps1 (F := Ideal)) (B2 m c) (Proc.devRef .tc b) := rfl

/-- An argument array as launched. -/
abbrev arg (b : Ref sig .tc) : Buf (Elt Ideal) ((c : Thread nD τ).loc b) := m ((c : Thread nD τ).loc b)

/-- Four column groups side by side, rounded. -/
def wide (a0 a1 a2 a3 : FVec Ideal S2x1024x512 .f32) : FVec Ideal S2x1024x2048 .bf16 :=
  truncf .bf16 (concatenate S2x1024x2048 2
    [⟨S2x1024x512, a0⟩, ⟨S2x1024x512, a1⟩, ⟨S2x1024x512, a2⟩, ⟨S2x1024x512, a3⟩]
    concatenates_S2x1024x512_S2x1024x512_S2x1024x512_S2x1024x512_S2x1024x2048_d2) bitsLt_bf16_f32

/-- The columns of the projection's weights from an offset on. -/
abbrev part (off : Fin 3 → ℕ) (h : S2x1024x7680.Slices off S2x1024x512) : Vec Ideal S2x1024x512 .f32 :=
  extractStridedSlice S2x1024x512 off (arg m c main_arg3 : Vec Ideal S2x1024x7680 .f32) h

theorem v10 : at1 m c main_v10 = wide
      (part m c ![0, 0, 0] slices_S2x1024x7680_S2x1024x512_0_0_0)
      (part m c ![0, 0, 1536] slices_S2x1024x7680_S2x1024x512_0_0_1536)
      (part m c ![0, 0, 3072] slices_S2x1024x7680_S2x1024x512_0_0_3072)
      (part m c ![0, 0, 4096] slices_S2x1024x7680_S2x1024x512_0_0_4096) := by
  rw [at1_host]
  unfold hostOps0
  simp only [StableHlo.after_cons, StableHlo.after_nil]
  repeat (first
    | (rw [StableHlo.reshape_result_ne]; rotate_left; decide)
    | rw [StableHlo.unary_result]
    | (rw [StableHlo.unary_result_ne]; rotate_left; decide))
  rw [StableHlo.nary4_result]
  repeat (first
    | rw [StableHlo.unary_result]
    | (rw [StableHlo.unary_result_ne]; rotate_left; decide))
  rfl

/-- The weights as the calls take them. -/
theorem weights (l : Fin 2) (k : Fin 1024) (q : Fin 2048) : (at1 m c main_v10 : Vec Ideal S2x1024x2048 .bf16) (ix3 l k q)
    = (arg m c main_arg3 : Vec Ideal S2x1024x7680 .f32) (ix3 l k (src q)) := by
  rw [v10]
  pointwise [wide, part]
  unfold src
  split_ifs <;> first | omega | ((refine congrArg (fun q => (arg m c main_arg3 : Vec Ideal S2x1024x7680 .f32) (ix3 l k q)) (Fin.ext ?_); try dsimp only) <;> (split_ifs <;> omega))

/-- The first layer's half of the weights, -/
theorem half0 (k : Fin 1024) (q : Fin 2048) : (at1 m c main_v15 : Vec Ideal S1024x2048 .bf16) (ix2 k q)
    = (arg m c main_arg3 : Vec Ideal S2x1024x7680 .f32) (ix3 0 k (src q)) := by
  have e : (at1 m c main_v15 : Vec Ideal S1024x2048 .bf16) = shapeCast S1024x2048
      (extractStridedSlice S1x1024x2048 ![0, 0, 0] (at1 m c main_v10 : Vec Ideal S2x1024x2048 .bf16) slices_S2x1024x2048_S1x1024x2048_0_0_0)
      shapeCasts_S1x1024x2048_S1024x2048 := by
    rw [at1_host, at1_host]
    unfold hostOps0
    simp only [StableHlo.after_cons, StableHlo.after_nil]
    repeat (first
      | (rw [StableHlo.reshape_result_ne]; rotate_left; decide)
      | rw [StableHlo.reshape_result]
      | rw [StableHlo.unary_result]
      | (rw [StableHlo.unary_result_ne]; rotate_left; decide))
    rfl
  rw [e, ← weights]
  generalize (at1 m c main_v10 : Vec Ideal S2x1024x2048 .bf16) = B
  pointwise

theorem rows0 (R : Fin 16384) (k : Fin 1024) : (at1 m c main_v11 : Vec Ideal S16384x1024 .f32) (ix2 R k)
    = (arg m c main_arg0 : Vec Ideal S4x4096x1024 .f32) (ix3 ⟨R.val / 4096, by omega⟩ ⟨R.val % 4096, by omega⟩ k) := by
  rw [at1_host]
  entry_read
  pointwise

theorem gain0 (k : Fin 1024) : (at1 m c main_v16 : Vec Ideal S1x1024 .f32) (ix2 0 k)
    = (arg m c main_arg2 : Vec Ideal S2x1024 .f32) (ix2 0 k) := by
  rw [at1_host]
  entry_read
  pointwise

/-- What no host operation and no window of the first call touches is as launched when the second is prepared. -/
theorem B2_arg : ∀ a ∈ [main_arg0, main_arg1, main_arg2, main_arg3], B2 m c (Proc.devRef .tc a) = m ((c : Thread nD τ).loc a) := by
  have h : ∀ a ∈ [main_arg0, main_arg1, main_arg2, main_arg3], a ∉ Gen.hostOps0_W ∧ (∀ w, arrRef spec0 w ≠ a) := by decide +kernel
  exact fun a ha => (B2_of_ne m c a (h a ha).2).trans (StableHlo.after_of_writes_sub hostOps0 _ Gen.hostOps0_writes (h a ha).1)

/-- and the second layer's rows, gains and weights: the first call leaves them as they were. -/
theorem rows1 (R : Fin 16384) (k : Fin 1024) : (at3 m c main_v18 : Vec Ideal S16384x1024 .f32) (ix2 R k)
    = (arg m c main_arg1 : Vec Ideal S4x4096x1024 .f32) (ix3 ⟨R.val / 4096, by omega⟩ ⟨R.val % 4096, by omega⟩ k) := by
  rw [at3_host]
  entry_read
  pointwise
  rw [B2_arg m c main_arg1 (by decide)]

theorem gain1 (k : Fin 1024) : (at3 m c main_v23 : Vec Ideal S1x1024 .f32) (ix2 0 k)
    = (arg m c main_arg2 : Vec Ideal S2x1024 .f32) (ix2 1 k) := by
  rw [at3_host]
  entry_read
  pointwise
  rw [B2_arg m c main_arg2 (by decide)]

theorem half1 (k : Fin 1024) (q : Fin 2048) : (at3 m c main_v22 : Vec Ideal S1024x2048 .bf16) (ix2 k q)
    = (arg m c main_arg3 : Vec Ideal S2x1024x7680 .f32) (ix3 1 k (src q)) := by
  rw [← weights, at3_host]
  entry_read
  pointwise
  rw [B2_of_ne m c main_v10 (by decide)]

end Cert.Proof.NP

end
-- ==== Proof.NP.Final.lean ====
/-
  The row-major projection: the tiles the two calls write, and what the result arrays hold at the end.
-/
module

public import proofs.«01_k».proof.Proof.NP.Reads

@[expose] public section

set_option maxRecDepth 16384

noncomputable section

namespace Cert.Proof.NP

open Cert.Kernel5Ideal
open Cert.Kernel5Ideal.Gen (hostOps0 hostOps1)
open Idealize.ShloMosaic Idealize.ShloMosaic.TcCoe
open Idealize.ShloMosaic.Pipeline

variable (m : (ℓ : Loc nD τ sig) → Buf (Elt Ideal) ℓ) (g : Dev nD → PrngReg) (c : Dev nD)

/-- The column of the value heads from 1536 on stand from 4096 on in the projection. -/
theorem src_val (j : ℕ) (h : j < 512) : src ⟨1536 + j, by omega⟩ = ⟨4096 + j, by omega⟩ := by
  unfold src
  apply Fin.ext
  dsimp only
  split_ifs <;> omega

/-! ## Layer 0 -/

/-- A tile's product is the projection of the rows as launched. -/
theorem tile0 (t : Fin cfg0.N) (r : Fin 1024) (q : Fin 2048) :
    dotted (iblk0 (at1 m) c 0 t) (iblk0 (at1 m) c 1 t) (iblk0 (at1 m) c 2 t) r q
      = col (arg m c main_arg0) (arg m c main_arg2) (arg m c main_arg3) 0 ⟨t.val / 4, by have : t.val < 16 := t.isLt; omega⟩
          ⟨t.val % 4 * 1024 + r.val, by omega⟩ (src q) := by
  have ht : t.val < 16 := t.isLt
  unfold dotted col
  refine Finset.sum_congr rfl fun k _ => ?_
  congr 1
  · congr 1
    · funext k
      rw [blkx0, rows0]
      exact congrArg₂ (fun a b => (arg m c main_arg0 : Vec Ideal S4x4096x1024 .f32) (ix3 a b k))
        (Fin.ext (by show (t.val * 1024 + r.val) / 4096 = t.val / 4; omega))
        (Fin.ext (by show (t.val * 1024 + r.val) % 4096 = t.val % 4 * 1024 + r.val; omega))
    · funext k
      rw [blkg0, gain0]
  · rw [blkw0, half0]

/-- Layer 0's part is what its call writes into the rows; the rest stays as the call found it. -/
theorem rowsArr0 : (dat0 (at1 m) c).arrAt 3 cfg0.N = fun i : S2x16384x2048.Idx => if ((i 0).val / 1 : ℕ) = 0
    then rowsL (arg m c main_arg0) (arg m c main_arg2) (arg m c main_arg3) 0 i
    else (at1 m c main_v17_0 : Vec Ideal S2x16384x2048 .f32) i := by
  refine ((dat0 (at1 m) c).arrAt_eq_of_coversWhere 3 (rowsL (arg m c main_arg0) (arg m c main_arg2) (arg m c main_arg3) 0)
    (P := fun i : S2x16384x2048.Idx => ((i 0).val / 1 : ℕ) = 0)
    (fun β => β (0 : Fin _) = 0) (by decide +kernel) (fun t hf y => ?_) (fun j => Iff.rfl)).trans ?_
  · blk_simp
    idx_vars y
    obtain rfl : y0 = 0 := Subsingleton.elim _ _
    have ht : t.val < 16 := t.isLt
    rw [after0_3]
    refine (rowsOut_apply _ _ _ y1 y2).trans ((tile0 m c t y1 y2).trans ?_)
    refine Eq.trans (b := rowsL (arg m c main_arg0) (arg m c main_arg2) (arg m c main_arg3) 0 (ix3 0 ⟨t.val * 1024 + y1.val, by omega⟩ y2)) ?_ ?_
    · unfold rowsL
      exact congrArg₂ (fun a b => col (arg m c main_arg0) (arg m c main_arg2) (arg m c main_arg3) 0 a b (src y2))
        (Fin.ext (by show t.val / 4 = (t.val * 1024 + y1.val) / 4096; omega))
        (Fin.ext (by show t.val % 4 * 1024 + y1.val = (t.val * 1024 + y1.val) % 4096; omega))
    · refine congrArg (rowsL (arg m c main_arg0) (arg m c main_arg2) (arg m c main_arg3) 0) ?_
      symm
      blk_ext [idx0 t]
  · rfl

/-- Layer 0's part is what its call writes into the value heads; the rest stays as the call found it. -/
theorem valsArr0 : (dat0 (at1 m) c).arrAt 4 cfg0.N = fun i : S2x65536x128.Idx => if ((i 0).val / 1 : ℕ) = 0
    then valsL (arg m c main_arg0) (arg m c main_arg2) (arg m c main_arg3) 0 i
    else (at1 m c main_v17_1 : Vec Ideal S2x65536x128 .f32) i := by
  refine ((dat0 (at1 m) c).arrAt_eq_of_coversWhere 4 (valsL (arg m c main_arg0) (arg m c main_arg2) (arg m c main_arg3) 0)
    (P := fun i : S2x65536x128.Idx => ((i 0).val / 1 : ℕ) = 0)
    (fun β => β (0 : Fin _) = 0) (by decide +kernel) (fun t hf y => ?_) (fun j => Iff.rfl)).trans ?_
  · blk_simp
    idx_vars y
    obtain rfl : y0 = 0 := Subsingleton.elim _ _
    have ht : t.val < 16 := t.isLt
    rw [after0_4]
    refine (valsOut_apply _ _ _ y1 y2).trans ((tile0 m c t _ _).trans ?_)
    rw [src_val _ (by omega)]
    refine Eq.trans (b := valsL (arg m c main_arg0) (arg m c main_arg2) (arg m c main_arg3) 0 (ix3 0 ⟨t.val * 4096 + y1.val, by omega⟩ y2)) ?_ ?_
    · unfold valsL
      congr 1
      · exact Fin.ext (by show t.val / 4 = (t.val * 4096 + y1.val) / 16384; omega)
      · exact Fin.ext (by show t.val % 4 * 1024 + y1.val / 4 = (t.val * 4096 + y1.val) / 4 % 4096; omega)
      · exact Fin.ext (by show 4096 + (y1.val % 4 * 128 + y2.val) = 4096 + ((t.val * 4096 + y1.val) % 4 * 128 + y2.val); omega)
    · refine congrArg (valsL (arg m c main_arg0) (arg m c main_arg2) (arg m c main_arg3) 0) ?_
      symm
      blk_ext [idx0 t]
  · rfl

/-! ## Layer 1 -/

/-- A tile's product is the projection of the rows as launched. -/
theorem tile1 (t : Fin cfg1.N) (r : Fin 1024) (q : Fin 2048) :
    dotted (iblk1 (at3 m) c 0 t) (iblk1 (at3 m) c 1 t) (iblk1 (at3 m) c 2 t) r q
      = col (arg m c main_arg1) (arg m c main_arg2) (arg m c main_arg3) 1 ⟨t.val / 4, by have : t.val < 16 := t.isLt; omega⟩
          ⟨t.val % 4 * 1024 + r.val, by omega⟩ (src q) := by
  have ht : t.val < 16 := t.isLt
  unfold dotted col
  refine Finset.sum_congr rfl fun k _ => ?_
  congr 1
  · congr 1
    · funext k
      rw [blkx1, rows1]
      exact congrArg₂ (fun a b => (arg m c main_arg1 : Vec Ideal S4x4096x1024 .f32) (ix3 a b k))
        (Fin.ext (by show (t.val * 1024 + r.val) / 4096 = t.val / 4; omega))
        (Fin.ext (by show (t.val * 1024 + r.val) % 4096 = t.val % 4 * 1024 + r.val; omega))
    · funext k
      rw [blkg1, gain1]
  · rw [blkw1, half1]

/-- Layer 1's part is what its call writes into the rows; the rest stays as the call found it. -/
theorem rowsArr1 : (dat1 (at3 m) c).arrAt 3 cfg1.N = fun i : S2x16384x2048.Idx => if ((i 0).val / 1 : ℕ) = 1
    then rowsL (arg m c main_arg1) (arg m c main_arg2) (arg m c main_arg3) 1 i
    else (at3 m c main_v24_0 : Vec Ideal S2x16384x2048 .f32) i := by
  refine ((dat1 (at3 m) c).arrAt_eq_of_coversWhere 3 (rowsL (arg m c main_arg1) (arg m c main_arg2) (arg m c main_arg3) 1)
    (P := fun i : S2x16384x2048.Idx => ((i 0).val / 1 : ℕ) = 1)
    (fun β => β (0 : Fin _) = 1) (by decide +kernel) (fun t hf y => ?_) (fun j => Iff.rfl)).trans ?_
  · blk_simp
    idx_vars y
    obtain rfl : y0 = 0 := Subsingleton.elim _ _
    have ht : t.val < 16 := t.isLt
    rw [after1_3]
    refine (rowsOut_apply _ _ _ y1 y2).trans ((tile1 m c t y1 y2).trans ?_)
    refine Eq.trans (b := rowsL (arg m c main_arg1) (arg m c main_arg2) (arg m c main_arg3) 1 (ix3 1 ⟨t.val * 1024 + y1.val, by omega⟩ y2)) ?_ ?_
    · unfold rowsL
      exact congrArg₂ (fun a b => col (arg m c main_arg1) (arg m c main_arg2) (arg m c main_arg3) 1 a b (src y2))
        (Fin.ext (by show t.val / 4 = (t.val * 1024 + y1.val) / 4096; omega))
        (Fin.ext (by show t.val % 4 * 1024 + y1.val = (t.val * 1024 + y1.val) % 4096; omega))
    · refine congrArg (rowsL (arg m c main_arg1) (arg m c main_arg2) (arg m c main_arg3) 1) ?_
      symm
      blk_ext [idx1 t]
  · rfl

/-- Layer 1's part is what its call writes into the value heads; the rest stays as the call found it. -/
theorem valsArr1 : (dat1 (at3 m) c).arrAt 4 cfg1.N = fun i : S2x65536x128.Idx => if ((i 0).val / 1 : ℕ) = 1
    then valsL (arg m c main_arg1) (arg m c main_arg2) (arg m c main_arg3) 1 i
    else (at3 m c main_v24_1 : Vec Ideal S2x65536x128 .f32) i := by
  refine ((dat1 (at3 m) c).arrAt_eq_of_coversWhere 4 (valsL (arg m c main_arg1) (arg m c main_arg2) (arg m c main_arg3) 1)
    (P := fun i : S2x65536x128.Idx => ((i 0).val / 1 : ℕ) = 1)
    (fun β => β (0 : Fin _) = 1) (by decide +kernel) (fun t hf y => ?_) (fun j => Iff.rfl)).trans ?_
  · blk_simp
    idx_vars y
    obtain rfl : y0 = 0 := Subsingleton.elim _ _
    have ht : t.val < 16 := t.isLt
    rw [after1_4]
    refine (valsOut_apply _ _ _ y1 y2).trans ((tile1 m c t _ _).trans ?_)
    rw [src_val _ (by omega)]
    refine Eq.trans (b := valsL (arg m c main_arg1) (arg m c main_arg2) (arg m c main_arg3) 1 (ix3 1 ⟨t.val * 4096 + y1.val, by omega⟩ y2)) ?_ ?_
    · unfold valsL
      congr 1
      · exact Fin.ext (by show t.val / 4 = (t.val * 4096 + y1.val) / 16384; omega)
      · exact Fin.ext (by show t.val % 4 * 1024 + y1.val / 4 = (t.val * 4096 + y1.val) / 4 % 4096; omega)
      · exact Fin.ext (by show 4096 + (y1.val % 4 * 128 + y2.val) = 4096 + ((t.val * 4096 + y1.val) % 4 * 128 + y2.val); omega)
    · refine congrArg (valsL (arg m c main_arg1) (arg m c main_arg2) (arg m c main_arg3) 1) ?_
      symm
      blk_ext [idx1 t]
  · rfl

/-! ## The end -/

/-- The second call finds the rows as the first leaves them, -/
theorem copy_rows : at3 m c main_v24_0 = (dat0 (at1 m) c).arrAt 3 cfg0.N := by
  refine Eq.trans ?_ (B2_arr m c 3)
  rw [at3_host]
  unfold hostOps1
  simp only [StableHlo.after_cons, StableHlo.after_nil]
  repeat (first
    | (rw [StableHlo.unary_result_ne]; rotate_left; decide)
    | rw [StableHlo.unary_result]
    | (rw [StableHlo.reshape_result_ne]; rotate_left; decide))
  rfl

/-- and the value heads. -/
theorem copy_vals : at3 m c main_v24_1 = (dat0 (at1 m) c).arrAt 4 cfg0.N := by
  refine Eq.trans ?_ (B2_arr m c 4)
  rw [at3_host]
  unfold hostOps1
  simp only [StableHlo.after_cons, StableHlo.after_nil]
  repeat (first
    | (rw [StableHlo.unary_result_ne]; rotate_left; decide)
    | rw [StableHlo.unary_result]
    | (rw [StableHlo.reshape_result_ne]; rotate_left; decide))
  rfl

theorem final_rows : B4 m c (Proc.devRef .tc main_v24_0)
    = stacked (s := S2x16384x2048) (by decide) (rowsL (arg m c main_arg0) (arg m c main_arg2) (arg m c main_arg3) 0)
        (rowsL (arg m c main_arg1) (arg m c main_arg2) (arg m c main_arg3) 1) := by
  refine (B4_arr m c 3).trans ?_
  rw [rowsArr1, copy_rows, rowsArr0]
  funext z
  have hz : (z 0).val < 2 := (z 0).isLt
  show _ = if (z 0).val = 1 then _ else _
  simp only [Nat.div_one]
  by_cases h : (z 0).val = 1
  · rw [if_pos h, if_pos h]
  · rw [if_neg h, if_neg h, if_pos (by omega)]

theorem final_vals : B4 m c (Proc.devRef .tc main_v24_1)
    = stacked (s := S2x65536x128) (by decide) (valsL (arg m c main_arg0) (arg m c main_arg2) (arg m c main_arg3) 0)
        (valsL (arg m c main_arg1) (arg m c main_arg2) (arg m c main_arg3) 1) := by
  refine (B4_arr m c 4).trans ?_
  rw [valsArr1, copy_vals, valsArr0]
  funext z
  have hz : (z 0).val < 2 := (z 0).isLt
  show _ = if (z 0).val = 1 then _ else _
  simp only [Nat.div_one]
  by_cases h : (z 0).val = 1
  · rw [if_pos h, if_pos h]
  · rw [if_neg h, if_neg h, if_pos (by omega)]

/-- Every weakly fair run ends with both layers' rows and value heads in the result arrays. -/
theorem run : θ_run defs (onTc (τ := τ) (main (F := Ideal))) ⟨m, fun _ => 0, g⟩ (fun r => ∀ c : Dev nD,
    r.2.mem ((c.tc : Thread nD τ).loc main_v24_0)
      = stacked (s := S2x16384x2048) (by decide) (rowsL (arg m c main_arg0) (arg m c main_arg2) (arg m c main_arg3) 0)
        (rowsL (arg m c main_arg1) (arg m c main_arg2) (arg m c main_arg3) 1)
    ∧ r.2.mem ((c.tc : Thread nD τ).loc main_v24_1)
      = stacked (s := S2x65536x128) (by decide) (valsL (arg m c main_arg0) (arg m c main_arg2) (arg m c main_arg3) 0)
        (valsL (arg m c main_arg1) (arg m c main_arg2) (arg m c main_arg3) 1)) :=
  (θ_run defs _ _).mono (fun _ h c =>
    ⟨(h.1 c _ (mem_uc main_v24_0 (by decide))).trans (final_rows m c),
     (h.1 c _ (mem_uc main_v24_1 (by decide))).trans (final_vals m c)⟩) (run_all m g)

end Cert.Proof.NP

end
-- ==== Proof.NP.Same.lean ====
/-
  The row-major projection and its idealized text are one program: their bodies agree label by label.
-/
module

public import proofs.«01_k».proof.Proof.NP.Run
public import proofs.«01_k».proof.Proof.Gen.Kernel5

@[expose] public section

set_option maxRecDepth 16384

noncomputable section

namespace Cert.Proof.NP

open Idealize.ShloMosaic

variable {F : FTy → Type} [FloatOps F]

theorem bodies_same : Cert.Kernel5.defs₀ (F := F) = Cert.Kernel5Ideal.defs₀ (F := F) := by
  unfold Cert.Kernel5.defs₀ Cert.Kernel5Ideal.defs₀
  refine congrArg Defs.onTc (funext fun l => funext fun a => ?_)
  match l, a with
  | ⟨0, _⟩, (t, s) => rfl
  | ⟨1, _⟩, (t, s) => rfl

theorem defs_same : Cert.Kernel5.defs (F := F) = Cert.Kernel5Ideal.defs (F := F) :=
  congrArg (Pipeline.defs Cert.Kernel5Ideal.pcfgs) bodies_same

end Cert.Proof.NP

end
-- ==== Proof.NP.Ref.lean ====
/-
  The row-major projection: what the reference's results hold.
-/
module

public import proofs.«01_k».proof.Proof.Gen.Reference5Ideal.Read
public import proofs.«01_k».proof.Proof.NP.Spec

@[expose] public section

set_option maxRecDepth 16384

noncomputable section

namespace Cert.Proof.NP

open Cert.Reference5Ideal Cert.Reference5Ideal.Read
open Idealize.ShloMosaic Idealize.ShloMosaic.TcCoe

variable (x0 x1 : Vec Ideal S4x4096x1024 .f32) (x2 : Vec Ideal S2x1024 .f32) (x3 : Vec Ideal S2x1024x7680 .f32)

/-- The reference's norm of layer 0's rows, -/
theorem ref_norm0 (b : Fin 4) (p : Fin 4096) (k : Fin 1024) :
    val_main_v14 x0 x2 (ix3 b p k) = nrm (fun k => x0 (ix3 b p k)) (fun k => x2 (ix2 0 k)) k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  rfl

/-- and its projection. -/
theorem ref_proj0 (b : Fin 4) (p : Fin 4096) (q : Fin 7680) :
    val_main_v17 x0 x2 x3 (ix3 b p q) = col x0 x2 x3 0 b p q := by
  pointwise [val_main_v15, val_main_v16, val_main_v17]
  simp only [ref_norm0]
  rfl

/-- The reference's norm of layer 1's rows, -/
theorem ref_norm1 (b : Fin 4) (p : Fin 4096) (k : Fin 1024) :
    val_main_v39 x1 x2 (ix3 b p k) = nrm (fun k => x1 (ix3 b p k)) (fun k => x2 (ix2 1 k)) k := by
  pointwise [val_main_v25, val_main_v26, val_main_v27, val_main_v28, val_main_v29, val_main_v30, val_main_v31, val_main_v32, val_main_v33, val_main_v34, val_main_v35, val_main_v36, val_main_v37, val_main_v38, val_main_v39, val_main_cst_2, val_main_cst_3, val_main_cst_4]
  rfl

/-- and its projection. -/
theorem ref_proj1 (b : Fin 4) (p : Fin 4096) (q : Fin 7680) :
    val_main_v42 x1 x2 x3 (ix3 b p q) = col x1 x2 x3 1 b p q := by
  pointwise [val_main_v40, val_main_v41, val_main_v42]
  simp only [ref_norm1]
  rfl

/-- Four column groups side by side. -/
theorem ref_cat0 (b : Fin 4) (p : Fin 4096) (q : Fin 2048) :
    val_main_v22 x0 x2 x3 (ix3 b p q) = col x0 x2 x3 0 b p (src q) := by
  pointwise [val_main_v18, val_main_v19, val_main_v20, val_main_v21, val_main_v22]
  simp only [ref_proj0]
  unfold src
  split_ifs <;> first | omega | ((refine congrArg (col _ _ _ _ _ _) (Fin.ext ?_); try dsimp only) <;> (split_ifs <;> omega))

theorem ref_cat1 (b : Fin 4) (p : Fin 4096) (q : Fin 2048) :
    val_main_v47 x1 x2 x3 (ix3 b p q) = col x1 x2 x3 1 b p (src q) := by
  pointwise [val_main_v43, val_main_v44, val_main_v45, val_main_v46, val_main_v47]
  simp only [ref_proj1]
  unfold src
  split_ifs <;> first | omega | ((refine congrArg (col _ _ _ _ _ _) (Fin.ext ?_); try dsimp only) <;> (split_ifs <;> omega))

/-- The reference's rows. -/
theorem ref_rows : val_main_v52 x0 x1 x2 x3 = stacked (s := S2x16384x2048) (by decide) (rowsL x0 x2 x3 0) (rowsL x1 x2 x3 1) := by
  funext z
  idx_vars z
  pointwise [val_main_v23, val_main_v48, val_main_v50, val_main_v51, val_main_v52]
  simp only [ref_cat0, ref_cat1]
  by_cases h : z0.val = 1
  · rw [dif_neg (by omega)]
    exact (if_pos h : stacked (s := S2x16384x2048) (by decide) (rowsL x0 x2 x3 0) (rowsL x1 x2 x3 1) (ix3 z0 z1 z2) = _).symm
  · rw [dif_pos (by omega)]
    exact (if_neg h : stacked (s := S2x16384x2048) (by decide) (rowsL x0 x2 x3 0) (rowsL x1 x2 x3 1) (ix3 z0 z1 z2) = _).symm

/-- The reference's value heads. -/
theorem ref_vals : val_main_v55 x0 x1 x2 x3 = stacked (s := S2x65536x128) (by decide) (valsL x0 x2 x3 0) (valsL x1 x2 x3 1) := by
  funext z
  idx_vars z
  pointwise [val_main_v21, val_main_v46, val_main_v24, val_main_v49, val_main_v53, val_main_v54, val_main_v55]
  simp only [ref_proj0, ref_proj1]
  by_cases h : z0.val = 1
  · rw [dif_neg (by omega)]
    refine Eq.trans ?_ (if_pos h : stacked (s := S2x65536x128) (by decide) (valsL x0 x2 x3 0) (valsL x1 x2 x3 1) (ix3 z0 z1 z2) = _).symm
    unfold valsL
    congr 1 <;> (apply Fin.ext; dsimp only [ix3]; omega)
  · rw [dif_pos (by omega)]
    refine Eq.trans ?_ (if_neg h : stacked (s := S2x65536x128) (by decide) (valsL x0 x2 x3 0) (valsL x1 x2 x3 1) (ix3 z0 z1 z2) = _).symm
    unfold valsL
    congr 1 <;> (apply Fin.ext; dsimp only [ix3]; omega)

end Cert.Proof.NP

end
-- ==== Proof.SP.Body.lean ====
/-
  The body of the sample's projection, for any float values. The first of three points on a block of rows norms the
  rows into a buffer of its own and multiplies them with a third of the weights; the other two multiply the kept rows
  with the other thirds.
-/
module

public import proofs.«01_k».proof.Proof.Owns
public import proofs.«01_k».proof.Proof.Gen.Kernel6Ideal.Skeleton
public import proofs.«01_k».proof.Proof.Gen.Kernel6Ideal.Points
public import proofs.«01_k».proof.Proof.Gen.Kernel6Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.SP

open Cert.Kernel6Ideal Cert.Kernel6Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Rects

variable {Val : EltTy → Type}

/-- A store through the rectangle of the whole shape replaces everything; -/
theorem put_all {s : Shape} {e : EltTy} {off : Fin s.rank → ℕ} (h : ∀ a, off a + s.size a ≤ s.size a) (X w : s.Idx → Val e) :
    put X (Rect.unit (s := s) off s.size h) w = w := by
  funext y
  have := put_emb X (Rect.unit (s := s) off s.size h) w y
  rwa [Rect.emb_unit_full] at this

/-- a load through it reads everything. -/
theorem ld_all {s : Shape} {e : EltTy} {off : Fin s.rank → ℕ} (h : ∀ a, off a + s.size a ≤ s.size a) (X : s.Idx → Val e) :
    (fun x => X ((Rect.unit (s := s) off s.size h).emb x)) = X := by
  funext y; exact congrArg X (Rect.emb_unit_full h y)

end Rects

theorem cond_first (i : grid0.Coords) (h : (i 1).val = 0) :
    Scalar.cmpi .ne (Scalar.extui (Scalar.cmpi .eq (BitVec.ofNat 32 (i 1).val) 0#32) : BitVec 32) 0#32 = 1#1 := by
  rw [h]; decide

theorem cond_later (i : grid0.Coords) (h : (i 1).val ≠ 0) :
    ¬ Scalar.cmpi .ne (Scalar.extui (Scalar.cmpi .eq (BitVec.ofNat 32 (i 1).val) 0#32) : BitVec 32) 0#32 = 1#1 := by
  have h3 : (i 1).val < 3 := (i 1).isLt
  obtain h | h : (i 1).val = 1 ∨ (i 1).val = 2 := by omega
  · rw [h]; decide
  · rw [h]; decide

set_option maxHeartbeats 2000000 in
/-- The first point on a block of rows. -/
theorem body_first (c : Dev nD) (i : grid0.Coords) (hi : (i 1).val = 0)
    (arg2 : Memref sig .tc .vmem S1024x1024 .f32) (harg2 : arg2.IsWhole) (arg3 : Memref sig .tc .vmem S1x1024 .f32) (harg3 : arg3.IsWhole)
    (arg4 : Memref sig .tc .vmem S1024x1536 .bf16) (harg4 : arg4.IsWhole) (arg5 : Memref sig .tc .vmem S1x1024x1536 .f32) (harg5 : arg5.IsWhole)
    (arg6 : Memref sig .tc .vmem S1024x1024 .bf16) (harg6 : arg6.IsWhole)
    (x : Vec F S1024x1024 .f32) (g : Vec F S1x1024 .f32) (w : Vec F S1024x1536 .bf16) (Ψ : PUnit → sProp 𝕄) :
    iprop(owns (c : Thread nD τ) arg2 fullShare x ∗ owns (c : Thread nD τ) arg3 fullShare g ∗ owns (c : Thread nD τ) arg4 fullShare w
        ∗ (∃ X, owns (c : Thread nD τ) arg5 fullShare X) ∗ (∃ X, owns (c : Thread nD τ) arg6 fullShare X)
        ∗ ((owns (c : Thread nD τ) arg2 fullShare x ∗ owns (c : Thread nD τ) arg3 fullShare g ∗ owns (c : Thread nD τ) arg4 fullShare w
            ∗ owns (c : Thread nD τ) arg5 fullShare (k0_pay2 (k0_pay1 x g) w) ∗ owns (c : Thread nD τ) arg6 fullShare (k0_pay1 x g)) -∗ Ψ ⟨⟩))
      ⊢ wp frame (wpE (defs₀ (F := F)) Variants.none (c : Thread nD τ) none) Set.univ
          (cc0_norm_proj i arg2 harg2 arg3 harg3 arg4 harg4 arg5 harg5 arg6 harg6) Ψ := by
  rw [cc0_norm_proj_eq_skeleton]; unfold cc0_norm_proj_skel
  simp only [dif_pos (cond_first i hi), Prog.lift, Prog.bind_op, Prog.bind_ret, Prog.pure_eq_ret]
  iintro ⟨H2, H3, H4, ⟨%X5, H5⟩, ⟨%X6, H6⟩, Hk⟩
  iapply (wp_load_owns Variants.none (c : Thread nD τ) none Set.univ arg2 _ x) $$ H2; iintro H2
  iapply (wp_load_owns Variants.none (c : Thread nD τ) none Set.univ arg3 _ g) $$ H3; iintro H3
  iapply (wp_load_owns Variants.none (c : Thread nD τ) none Set.univ arg6 _ X6) $$ H6; iintro H6
  iapply (wp_store_owns Variants.none (c : Thread nD τ) none Set.univ arg6 _ X6 _) $$ H6; iintro H6
  rw [put_all, ld_all, ld_all]
  iapply (wp_load_owns Variants.none (c : Thread nD τ) none Set.univ arg6 _ _) $$ H6; iintro H6
  iapply (wp_load_owns Variants.none (c : Thread nD τ) none Set.univ arg4 _ w) $$ H4; iintro H4
  rw [ld_all _ w, ld_all (Val := Elt F) (s := S1024x1024) (e := .bf16) _ (k0_pay1 x g)]
  iapply (wp_load_owns Variants.none (c : Thread nD τ) none Set.univ arg5 _ X5) $$ H5; iintro H5
  iapply (wp_store_owns Variants.none (c : Thread nD τ) none Set.univ arg5 _ X5 _) $$ H5; iintro H5
  rw [put_all]
  rw [wp_ret]; imodintro
  iapply Hk
  isplitl [H2]; · iexact H2
  isplitl [H3]; · iexact H3
  isplitl [H4]; · iexact H4
  isplitl [H5]; · iexact H5
  iexact H6

set_option maxHeartbeats 2000000 in
/-- A later point on it: the rows are the kept ones. -/
theorem body_later (c : Dev nD) (i : grid0.Coords) (hi : (i 1).val ≠ 0)
    (arg2 : Memref sig .tc .vmem S1024x1024 .f32) (harg2 : arg2.IsWhole) (arg3 : Memref sig .tc .vmem S1x1024 .f32) (harg3 : arg3.IsWhole)
    (arg4 : Memref sig .tc .vmem S1024x1536 .bf16) (harg4 : arg4.IsWhole) (arg5 : Memref sig .tc .vmem S1x1024x1536 .f32) (harg5 : arg5.IsWhole)
    (arg6 : Memref sig .tc .vmem S1024x1024 .bf16) (harg6 : arg6.IsWhole)
    (w : Vec F S1024x1536 .bf16) (R : Vec F S1024x1024 .bf16) (Ψ : PUnit → sProp 𝕄) :
    iprop(owns (c : Thread nD τ) arg4 fullShare w ∗ (∃ X, owns (c : Thread nD τ) arg5 fullShare X) ∗ owns (c : Thread nD τ) arg6 fullShare R
        ∗ ((owns (c : Thread nD τ) arg4 fullShare w ∗ owns (c : Thread nD τ) arg5 fullShare (k0_pay2 R w)
            ∗ owns (c : Thread nD τ) arg6 fullShare R) -∗ Ψ ⟨⟩))
      ⊢ wp frame (wpE (defs₀ (F := F)) Variants.none (c : Thread nD τ) none) Set.univ
          (cc0_norm_proj i arg2 harg2 arg3 harg3 arg4 harg4 arg5 harg5 arg6 harg6) Ψ := by
  rw [cc0_norm_proj_eq_skeleton]; unfold cc0_norm_proj_skel
  simp only [dif_neg (cond_later i hi), Prog.lift, Prog.bind_op, Prog.bind_ret, Prog.pure_eq_ret]
  iintro ⟨H4, ⟨%X5, H5⟩, H6, Hk⟩
  iapply (wp_load_owns Variants.none (c : Thread nD τ) none Set.univ arg6 _ R) $$ H6; iintro H6
  iapply (wp_load_owns Variants.none (c : Thread nD τ) none Set.univ arg4 _ w) $$ H4; iintro H4
  rw [ld_all _ w, ld_all (Val := Elt F) (s := S1024x1024) (e := .bf16) _ R]
  iapply (wp_load_owns Variants.none (c : Thread nD τ) none Set.univ arg5 _ X5) $$ H5; iintro H5
  iapply (wp_store_owns Variants.none (c : Thread nD τ) none Set.univ arg5 _ X5 _) $$ H5; iintro H5
  rw [put_all]
  rw [wp_ret]; imodintro
  iapply Hk
  isplitl [H4]; · iexact H4
  isplitl [H5]; · iexact H5
  iexact H6

/-- The second call's body is the first's: the array it goes on from is not touched. -/
theorem body1_eq (i : grid0.Coords)
    (arg2 : Memref sig .tc .vmem S1024x1024 .f32) (harg2 : arg2.IsWhole) (arg3 : Memref sig .tc .vmem S1x1024 .f32) (harg3 : arg3.IsWhole)
    (arg4 : Memref sig .tc .vmem S1024x1536 .bf16) (harg4 : arg4.IsWhole) (p : Memref sig .tc .hbm S2x2048x4608 .f32) (hp : p.IsWhole)
    (arg5 : Memref sig .tc .vmem S1x1024x1536 .f32) (harg5 : arg5.IsWhole)
    (arg6 : Memref sig .tc .vmem S1024x1024 .bf16) (harg6 : arg6.IsWhole) :
    cc1_norm_proj (F := F) i arg2 harg2 arg3 harg3 arg4 harg4 p hp arg5 harg5 arg6 harg6
      = cc0_norm_proj i arg2 harg2 arg3 harg3 arg4 harg4 arg5 harg5 arg6 harg6 := rfl

end Cert.Proof.SP

end
-- ==== Proof.SP.Dat.lean ====
/-
  The two calls of the sample's projection as pipelines, for any float values: what each staging buffer and the kept
  rows hold before and after the body at every point, and that the body does that.
-/
module

public import proofs.«01_k».proof.Proof.SP.Body

@[expose] public section

set_option maxRecDepth 16384

noncomputable section

namespace Cert.Proof.SP

open Cert.Kernel6Ideal Cert.Kernel6Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers' contents when a call is entered. -/
abbrev Bufs (F : FTy → Type) : Type := (c : Dev nD) → (b : Ref sig .tc) → Buf (Elt F) ((c : Thread nD τ).loc b)

variable (V : Bufs F)

/-! ## Call 0 -/

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The normed rows of the block staged at point `t`. -/
def rows0 (c : Dev nD) (t : Fin cfg0.N) : Vec F S1024x1024 .bf16 := k0_pay1 (iblk0 V c 0 t) (iblk0 V c 1 t)

/-- The first of the three points on the block of rows that point `t` works on. -/
def first0 (t : Fin cfg0.N) : Fin cfg0.N := ⟨t.val / 3 * 3, Nat.lt_of_le_of_lt (Nat.div_mul_le_self _ _) t.isLt⟩

/-- Before point `k`, unless `k` opens a block of rows, the kept rows are those normed at the block's first point. -/
def Kept0 (c : Dev nD) (k : ℕ) (X : Vec F S1024x1024 .bf16) : Prop :=
  ∀ t : Fin cfg0.N, t.val % 3 = 0 → t.val < k → k < t.val + 3 → X = rows0 V c t

/-- Between points: the kept rows, and the buffers the pipeline does not stage as they were. -/
def phi0 (c : Dev nD) (k : ℕ) : sProp 𝕄 :=
  iprop(∃ X, ⌜Kept0 V c k X⌝ ∗ owns (c : Thread nD τ) (Memref.whole cc0_scratch0) fullShare X
    ∗ ((∃ X, owns (c : Thread nD τ) (Memref.whole cc0_scratch0) fullShare X) -∗ Pipeline.ΦA spec0 c))

/-- At the start nothing is kept; -/
theorem phi0_start (c : Dev nD) : (Pipeline.ΦA spec0 c : sProp 𝕄) ⊢ phi0 V c 0 := by
  unfold phi0 Pipeline.ΦA
  simp only [scopedRest0_eq, owns_whole_eq]
  iintro ⟨⟨⟨%f, Hs⟩, R1, R2, R3, R4, R5, R6, R7, R8⟩, Hp⟩
  iexists f
  isplitr; · (ipureintro; exact fun _ _ h => absurd h (Nat.not_lt_zero _))
  isplitl [Hs]
  · iexists f
    isplitr; · (ipureintro; rfl)
    iexact Hs
  iintro ⟨%X, %f', %e', Hs⟩
  isplitl [Hs R1 R2 R3 R4 R5 R6 R7 R8]
  · isplitl [Hs]; · (iexists f'; iexact Hs)
    isplitl [R1]; · (iexact R1)
    isplitl [R2]; · (iexact R2)
    isplitl [R3]; · (iexact R3)
    isplitl [R4]; · (iexact R4)
    isplitl [R5]; · (iexact R5)
    isplitl [R6]; · (iexact R6)
    isplitl [R7]; · (iexact R7)
    iexact R8
  iexact Hp

/-- at the end what is kept is forgotten. -/
theorem phi0_end (c : Dev nD) (k : ℕ) : phi0 V c k ⊢ (Pipeline.ΦA spec0 c : sProp 𝕄) := by
  unfold phi0
  iintro ⟨%X, %hX, Hs, Hw⟩
  iapply Hw
  iexists X
  iexact Hs

/-- The call's proof data: the arrays as the call finds them; after the body the staged inputs as fetched and the result
    at the product of the kept rows; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay2 (rows0 V c (first0 t)) (iblk0 V c 2 t)
  Φ t := phi0 V c t.val
  q _ := fullShare
  owed _ := 0

theorem arrs0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay2 (rows0 V c (first0 t)) (iblk0 V c 2 t) := by
  dsimp only [dat0]

/-- Each input's staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [arrs0]; try rfl) t d).trans
    (by unfold Dat.fetched Dat.blockOf iblk0; rw [arrs0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [arrs0]; try rfl) t d).trans
    (by unfold Dat.fetched Dat.blockOf iblk0; rw [arrs0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [arrs0]; try rfl) t d).trans
    (by unfold Dat.fetched Dat.blockOf iblk0; rw [arrs0]; try rfl)

/-- A point's second coordinate: its place among the three points on its block of rows. -/
theorem third0 (t : Fin cfg0.N) : (grid0.coords t 1).val = t.val % 3 :=
  (by decide +kernel : ∀ t : Fin grid0.N, (grid0.coords t 1).val = t.val % 3) t

/-- What the body is run with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it gives back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).Φ t.succ = phi0 V c (t.val + 1) from rfl,
    show (dat0 V c).owesAt () t.succ = (dat0 V c).owesAt () t.castSucc from rfl,
    show (dat0 V c).Φ t.castSucc = phi0 V c t.val from rfl,
    after0_0, after0_1, after0_2, after0_3]
  unfold phi0
  iintro ⟨⟨%X, %hX, Hs, Hw⟩, Ho, ⟨%d0, H0⟩, ⟨%d1, H1⟩, ⟨%d2, H2⟩, ⟨%d3, H3⟩⟩
  by_cases h : t.val % 3 = 0
  · have hf : first0 t = t := Fin.ext (by show t.val / 3 * 3 = t.val; omega)
    rw [hf]
    iapply (body_first c (grid0.coords t) ((third0 t).trans h) _ _ _ _ _ _ _ _ (Memref.whole cc0_scratch0) _
      (iblk0 V c 0 t) (iblk0 V c 1 t) (iblk0 V c 2 t))
    isplitl [H0]; · iexact H0
    isplitl [H1]; · iexact H1
    isplitl [H2]; · iexact H2
    isplitl [H3]; · iexists _; iexact H3
    isplitl [Hs]; · iexists _; iexact Hs
    iintro ⟨H0, H1, H2, H3, Hs⟩
    isplitl [Hs Hw]
    · iexists (rows0 V c t)
      isplitr
      · ipureintro
        exact fun s hs _ _ => congrArg (rows0 V c) (Fin.ext (by omega))
      isplitl [Hs]; · iexact Hs
      iexact Hw
    isplitl [Ho]; · iexact Ho
    isplitl [H0]; · iexact H0
    isplitl [H1]; · iexact H1
    isplitl [H2]; · iexact H2
    iexact H3
  · obtain rfl : X = rows0 V c (first0 t) := hX (first0 t) (by show t.val / 3 * 3 % 3 = 0; omega)
      (by show t.val / 3 * 3 < t.val; omega) (by show t.val < t.val / 3 * 3 + 3; omega)
    iapply (body_later c (grid0.coords t) (fun e => h ((third0 t).symm.trans e)) _ _ _ _ _ _ _ _ (Memref.whole cc0_scratch0) _
      (iblk0 V c 2 t) (rows0 V c (first0 t)))
    isplitl [H2]; · iexact H2
    isplitl [H3]; · iexists _; iexact H3
    isplitl [Hs]; · iexact Hs
    iintro ⟨H2, H3, Hs⟩
    isplitl [Hs Hw]
    · iexists (rows0 V c (first0 t))
      isplitr
      · ipureintro
        exact fun s hs _ _ => congrArg (rows0 V c) (Fin.ext (by show t.val / 3 * 3 = s.val; omega))
      isplitl [Hs]; · iexact Hs
      iexact Hw
    isplitl [Ho]; · iexact Ho
    isplitl [H0]; · iexact H0
    isplitl [H1]; · iexact H1
    isplitl [H2]; · iexact H2
    iexact H3

theorem row0 (t : Fin cfg0.N) :
    defs₀ (F := F) .tc cfg0.body (cfg0.bodyArgs t (cfg0.slots t)) = bodyAt0 t := by
  unfold defs₀; rw [Defs.onTc_tc]

/-- What the pipeline asks of the body. -/
theorem obligation0 (c : Dev nD) : BodyObligation (dat0 (F := F) V c) (defs₀ (F := F)) Variants.none () Set.univ := fun t => by
  rw [bigSep_W0, bigSep_W0, row0]
  exact triple_restated (point0 V c t) rfl .rfl fun _ => .rfl

/-! ## Call 1 -/

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The normed rows of the block staged at point `t`. -/
def rows1 (c : Dev nD) (t : Fin cfg1.N) : Vec F S1024x1024 .bf16 := k0_pay1 (iblk1 V c 0 t) (iblk1 V c 1 t)

/-- The first of the three points on the block of rows that point `t` works on. -/
def first1 (t : Fin cfg1.N) : Fin cfg1.N := ⟨t.val / 3 * 3, Nat.lt_of_le_of_lt (Nat.div_mul_le_self _ _) t.isLt⟩

/-- Before point `k`, unless `k` opens a block of rows, the kept rows are those normed at the block's first point. -/
def Kept1 (c : Dev nD) (k : ℕ) (X : Vec F S1024x1024 .bf16) : Prop :=
  ∀ t : Fin cfg1.N, t.val % 3 = 0 → t.val < k → k < t.val + 3 → X = rows1 V c t

/-- Between points: the kept rows, and the buffers the pipeline does not stage as they were. -/
def phi1 (c : Dev nD) (k : ℕ) : sProp 𝕄 :=
  iprop(∃ X, ⌜Kept1 V c k X⌝ ∗ owns (c : Thread nD τ) (Memref.whole cc1_scratch0) fullShare X
    ∗ ((∃ X, owns (c : Thread nD τ) (Memref.whole cc1_scratch0) fullShare X) -∗ Pipeline.ΦA spec1 c))

/-- At the start nothing is kept; -/
theorem phi1_start (c : Dev nD) : (Pipeline.ΦA spec1 c : sProp 𝕄) ⊢ phi1 V c 0 := by
  unfold phi1 Pipeline.ΦA
  simp only [scopedRest1_eq, owns_whole_eq]
  iintro ⟨⟨R0, R1, R2, R3, R4, R5, R6, R7, ⟨%f, Hs⟩⟩, Hp⟩
  iexists f
  isplitr; · (ipureintro; exact fun _ _ h => absurd h (Nat.not_lt_zero _))
  isplitl [Hs]
  · iexists f
    isplitr; · (ipureintro; rfl)
    iexact Hs
  iintro ⟨%X, %f', %e', Hs⟩
  isplitl [Hs R0 R1 R2 R3 R4 R5 R6 R7]
  · isplitl [R0]; · (iexact R0)
    isplitl [R1]; · (iexact R1)
    isplitl [R2]; · (iexact R2)
    isplitl [R3]; · (iexact R3)
    isplitl [R4]; · (iexact R4)
    isplitl [R5]; · (iexact R5)
    isplitl [R6]; · (iexact R6)
    isplitl [R7]; · (iexact R7)
    iexists f'; iexact Hs
  iexact Hp

/-- at the end what is kept is forgotten. -/
theorem phi1_end (c : Dev nD) (k : ℕ) : phi1 V c k ⊢ (Pipeline.ΦA spec1 c : sProp 𝕄) := by
  unfold phi1
  iintro ⟨%X, %hX, Hs, Hw⟩
  iapply Hw
  iexists X
  iexact Hs

/-- The call's proof data: the arrays as the call finds them; after the body the staged inputs as fetched and the result
    at the product of the kept rows; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k0_pay2 (rows1 V c (first1 t)) (iblk1 V c 2 t)
  Φ t := phi1 V c t.val
  q _ := fullShare
  owed _ := 0

theorem arrs1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k0_pay2 (rows1 V c (first1 t)) (iblk1 V c 2 t) := by
  dsimp only [dat1]

/-- Each input's staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [arrs1]; try rfl) t d).trans
    (by unfold Dat.fetched Dat.blockOf iblk1; rw [arrs1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [arrs1]; try rfl) t d).trans
    (by unfold Dat.fetched Dat.blockOf iblk1; rw [arrs1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [arrs1]; try rfl) t d).trans
    (by unfold Dat.fetched Dat.blockOf iblk1; rw [arrs1]; try rfl)

/-- A point's second coordinate: its place among the three points on its block of rows. -/
theorem third1 (t : Fin cfg1.N) : (grid1.coords t 1).val = t.val % 3 :=
  (by decide +kernel : ∀ t : Fin grid1.N, (grid1.coords t 1).val = t.val % 3) t

/-- What the body is run with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it gives back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2]
  rw [show (dat1 V c).Φ t.succ = phi1 V c (t.val + 1) from rfl,
    show (dat1 V c).owesAt () t.succ = (dat1 V c).owesAt () t.castSucc from rfl,
    show (dat1 V c).Φ t.castSucc = phi1 V c t.val from rfl,
    after1_0, after1_1, after1_2, after1_3]
  unfold phi1
  iintro ⟨⟨%X, %hX, Hs, Hw⟩, Ho, ⟨%d0, H0⟩, ⟨%d1, H1⟩, ⟨%d2, H2⟩, ⟨%d3, H3⟩⟩
  by_cases h : t.val % 3 = 0
  · have hf : first1 t = t := Fin.ext (by show t.val / 3 * 3 = t.val; omega)
    rw [hf]
    rw [body1_eq]
    iapply (body_first c (grid1.coords t) ((third1 t).trans h) _ _ _ _ _ _ _ _ (Memref.whole cc1_scratch0) _
      (iblk1 V c 0 t) (iblk1 V c 1 t) (iblk1 V c 2 t))
    isplitl [H0]; · iexact H0
    isplitl [H1]; · iexact H1
    isplitl [H2]; · iexact H2
    isplitl [H3]; · iexists _; iexact H3
    isplitl [Hs]; · iexists _; iexact Hs
    iintro ⟨H0, H1, H2, H3, Hs⟩
    isplitl [Hs Hw]
    · iexists (rows1 V c t)
      isplitr
      · ipureintro
        exact fun s hs _ _ => congrArg (rows1 V c) (Fin.ext (by omega))
      isplitl [Hs]; · iexact Hs
      iexact Hw
    isplitl [Ho]; · iexact Ho
    isplitl [H0]; · iexact H0
    isplitl [H1]; · iexact H1
    isplitl [H2]; · iexact H2
    iexact H3
  · obtain rfl : X = rows1 V c (first1 t) := hX (first1 t) (by show t.val / 3 * 3 % 3 = 0; omega)
      (by show t.val / 3 * 3 < t.val; omega) (by show t.val < t.val / 3 * 3 + 3; omega)
    rw [body1_eq]
    iapply (body_later c (grid1.coords t) (fun e => h ((third1 t).symm.trans e)) _ _ _ _ _ _ _ _ (Memref.whole cc1_scratch0) _
      (iblk1 V c 2 t) (rows1 V c (first1 t)))
    isplitl [H2]; · iexact H2
    isplitl [H3]; · iexists _; iexact H3
    isplitl [Hs]; · iexact Hs
    iintro ⟨H2, H3, Hs⟩
    isplitl [Hs Hw]
    · iexists (rows1 V c (first1 t))
      isplitr
      · ipureintro
        exact fun s hs _ _ => congrArg (rows1 V c) (Fin.ext (by show t.val / 3 * 3 = s.val; omega))
      isplitl [Hs]; · iexact Hs
      iexact Hw
    isplitl [Ho]; · iexact Ho
    isplitl [H0]; · iexact H0
    isplitl [H1]; · iexact H1
    isplitl [H2]; · iexact H2
    iexact H3

theorem row1 (t : Fin cfg1.N) :
    defs₀ (F := F) .tc cfg1.body (cfg1.bodyArgs t (cfg1.slots t)) = bodyAt1 t := by
  unfold defs₀; rw [Defs.onTc_tc]

/-- What the pipeline asks of the body. -/
theorem obligation1 (c : Dev nD) : BodyObligation (dat1 (F := F) V c) (defs₀ (F := F)) Variants.none () Set.univ := fun t => by
  rw [bigSep_W1, bigSep_W1, row1]
  exact triple_restated (point1 V c t) rfl .rfl fun _ => .rfl

end Cert.Proof.SP

end
-- ==== Proof.SP.Run.lean ====
/-
  The two projection calls run one after the other, for any float values: what every buffer holds between them and at
  the end, that every weakly fair run ends there, and that the arguments are left as they were.
-/
module

public import proofs.«01_k».proof.Proof.SP.Dat

@[expose] public section

set_option maxRecDepth 16384

noncomputable section

namespace Cert.Proof.SP

open Cert.Kernel6Ideal
open Cert.Kernel6Ideal.Gen (hostOps0 hostOps1 hostOps0_W hostOps1_W hostOps0_writes hostOps1_writes hostOps0_sub hostOps1_sub
  hostOps0_fresh hostOps1_fresh launch0 launch1 cellOf_inj main_chain)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] (m : (ℓ : Loc nD τ sig) → Buf (Elt F) ℓ) (ρ : Dev nD → PrngReg)

local notation "𝕄" => MT nD τ sig Unit (Elt F) ℕ (UR sig nD τ) ℕ

/-! ## What the buffers hold at each stage -/

/-- At launch, -/
abbrev B0 : Dev nD → Valuation τ sig (Elt F) := fun c b => m ((c : Dev nD), b)
/-- when the first call is entered, -/
abbrev B1 : Dev nD → Valuation τ sig (Elt F) := fun c => StableHlo.after hostOps0 (B0 m c)
abbrev at1 : Bufs F := fun c b => B1 m c b
/-- when it is left, -/
def B2 (c : Dev nD) : Valuation τ sig (Elt F) := withArrays spec0 c (B1 m c) fun w => (dat0 (at1 m) c).arrAt w cfg0.N
/-- when the second call is entered, -/
abbrev B3 : Dev nD → Valuation τ sig (Elt F) := fun c => StableHlo.after hostOps1 (B2 m c)
abbrev at3 : Bufs F := fun c b => B3 m c b
/-- and at the end. -/
def B4 (c : Dev nD) : Valuation τ sig (Elt F) := withArrays spec1 c (B3 m c) fun w => (dat1 (at3 m) c).arrAt w cfg1.N

/-- A call leaves in its arrays what its pipeline leaves there, and every other buffer alone. -/
theorem B2_arr (c : Dev nD) (w : Fin cfg0.W) :
    B2 m c (Proc.devRef .tc (arrRef spec0 w)) = (dat0 (at1 m) c).arrAt w cfg0.N := by
  unfold B2; exact withArrays_arr spec0 launch0.win.arr_inj c _ _ w

theorem B2_of_ne (c : Dev nD) (b : Ref sig .tc) (hb : ∀ w, arrRef spec0 w ≠ b) :
    B2 m c (Proc.devRef .tc b) = B1 m c (Proc.devRef .tc b) := by
  unfold B2; exact withArrays_of_ne spec0 c _ _ b hb

/-- An input's array is left as it was. -/
theorem B2_in (c : Dev nD) (w : Fin cfg0.W) (h : (cfg0.win w).isOut = false) :
    B2 m c (Proc.devRef .tc (arrRef spec0 w)) = B1 m c (Proc.devRef .tc (arrRef spec0 w)) :=
  (B2_arr m c w).trans (((dat0 (at1 m) c).arrAt_in w h _).trans (arrs0 (at1 m) c w))

/-- A call leaves in its arrays what its pipeline leaves there, and every other buffer alone. -/
theorem B4_arr (c : Dev nD) (w : Fin cfg1.W) :
    B4 m c (Proc.devRef .tc (arrRef spec1 w)) = (dat1 (at3 m) c).arrAt w cfg1.N := by
  unfold B4; exact withArrays_arr spec1 launch1.win.arr_inj c _ _ w

theorem B4_of_ne (c : Dev nD) (b : Ref sig .tc) (hb : ∀ w, arrRef spec1 w ≠ b) :
    B4 m c (Proc.devRef .tc b) = B3 m c (Proc.devRef .tc b) := by
  unfold B4; exact withArrays_of_ne spec1 c _ _ b hb

/-- An input's array is left as it was. -/
theorem B4_in (c : Dev nD) (w : Fin cfg1.W) (h : (cfg1.win w).isOut = false) :
    B4 m c (Proc.devRef .tc (arrRef spec1 w)) = B3 m c (Proc.devRef .tc (arrRef spec1 w)) :=
  (B4_arr m c w).trans (((dat1 (at3 m) c).arrAt_in w h _).trans (arrs1 (at3 m) c w))

/-- A buffer that no host operation and no call writes holds at the end what it held at launch. -/
theorem B4_kept (c : Dev nD) (a : Ref sig .tc) (h0 : a ∉ hostOps0_W) (h1 : a ∉ hostOps1_W)
    (hr0 : ∀ w, arrRef spec0 w ≠ a) (hr1 : ∀ w, arrRef spec1 w ≠ a) :
    B4 m c (Proc.devRef .tc a) = m ((c : Thread nD τ).loc a) :=
  (B4_of_ne m c a hr1).trans
    ((StableHlo.after_of_writes_sub hostOps1 _ hostOps1_writes h1).trans
      ((B2_of_ne m c a hr0).trans (StableHlo.after_of_writes_sub hostOps0 _ hostOps0_writes h0)))

/-! ## The calls as segments of the program -/

abbrev noTables : (p : Fin 2) → (pcfgs (F := F) p).Adm := fun p => (cfgs p).toPCfg_adm

/-- Both calls' proof data. -/
def pdats : (p : Fin 2) → (c : Dev nD) → Dat τ (Elt F) Unit ℕ (UR sig nD τ) ℕ (pin (pcfgs (F := F)) noTables p) c
  | ⟨0, _⟩ => fun c => dat0 (at1 m) c
  | ⟨1, _⟩ => fun c => dat1 (at3 m) c

/-- Nobody waits on another: no levels. -/
abbrev Lv : GSem nD τ sig → Finset Unit := fun _ => ∅
abbrev lvl : GSem nD τ sig → Unit → ℕ := fun _ _ => 0

/-- What goes along beside the buffers: the generator register at some state, and nothing owed. -/
abbrev beside (c : Dev nD) : sProp 𝕄 := iprop((∃ r, prngReg c r) ∗ ∃ W, owes (c : Thread nD τ) (0 : CellTallies nD τ sig Unit) W)

/-- All unscoped buffers at given contents. -/
abbrev bufsAt (c : Dev nD) (σ : Valuation τ sig (Elt F)) : sProp 𝕄 := StableHlo.held (c : Thread nD τ) (ucRefs τ sig) σ

/-- A run of host operations as a segment. -/
abbrev hostSeg (ops : List (HloOp τ sig (Elt F))) (hsub : ops.Forall fun op => op.bufs ⊆ StableHlo.tcRefs τ sig)
    (hfresh : ops.Forall fun op => op.fresh = ∅) (σ : Dev nD → Valuation τ sig (Elt F)) :
    HostSeg (Name := ℕ) (U := UR sig nD τ) (pcfgs (F := F)) defs₀ Variants.none Lv lvl :=
  HostSeg.ofOps _ _ _ _ _ (ucRefs τ sig) ops
    (fun op h => sub_ucRefs op ((List.forall_iff_forall_mem.mp hsub) op h))
    (fun op h => (List.forall_iff_forall_mem.mp hfresh) op h) σ beside

set_option backward.isDefEq.respectTransparency.types false in
/-- Call 0: entered with the buffers at `B1`, left with them at `B2`. -/
def call0 : RegionSeg (pcfgs (F := F)) noTables (pdats m) () defs₀ Variants.none Lv lvl 0 where
  win := launch0.win.to₀
  block_pos := launch0.block_pos
  stage_whole := launch0.stage_whole
  K := PEmpty
  osem k := k.elim
  ho := OwnSemFacts.none _
  hbody c := (obligation0 (at1 m) c).loose
  hwaits := hwaits_of_owed_zero _ _ _ _ Lv lvl 0 fun _ _ => rfl
  pre c := iprop(bufsAt c (B1 m c) ∗ beside c)
  post c := iprop(bufsAt c (B2 m c) ∗ beside c)
  X c := iprop(∃ r, prngReg c r)
  Y c := iprop(∃ r, prngReg c r)
  Z c := unscopedRest (Ix := Unit) (Name := ℕ) (U := UR sig nD τ) (Lvl := ℕ) spec0 c (at1 m c)
  hentry c := by
    rw [ownSems0_none]
    have hsplit := arrays_of_unscopedBufs (p := 0) (pcfgs (F := F)) noTables (pdats m) launch0.win launch0.arr_whole c
      ((pdats m 0 c).share_full fun _ => rfl) (at1 m c) (arrs0 (at1 m) c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin
      icases HO with ⟨%W, HO⟩; iexists W; isplitr; · ipureintro; exact fun _ _ => Or.inl trivial
      iexact HO
    isplitl [Hp]; · iexact Hp
    iexact Hrest
  hin c := by
    rw [show (pdats m 0 c).Φ 0 = phi0 (at1 m) c 0 from rfl]
    iintro ⟨Hp, -, Hr⟩
    iapply (phi0_start (at1 m) c)
    unfold ΦA
    isplitl [Hr]; · iexact Hr
    iexact Hp
  hout c := by
    rw [ownSems0_none, show (pdats m 0 c).Φ (Fin.last _) = phi0 (at1 m) c cfg0.N from rfl]
    iintro H
    ihave H := (phi0_end (at1 m) c cfg0.N) $$ H
    unfold ΦA
    icases H with ⟨Hr, Hp⟩
    isplitl [Hp]; · iexact Hp
    isplitr; · iempintro
    iexact Hr
  hexit c := by
    have hjoin := unscopedBufs_of_arrays (p := 0) (pcfgs (F := F)) noTables (Ix := Unit) (Name := ℕ) (U := UR sig nD τ) (Lvl := ℕ)
      launch0.win launch0.arr_whole c (pdats m) ((pdats m 0 c).share_full fun _ => rfl)
      (at1 m c) (fun b => B2 m c b) ((pdats m 0 c).arrAt · cfg0.N) (fun w => (B2_arr m c w).symm)
      (fun b hb => B2_of_ne m c b fun w e => hb (Finset.mem_image.mpr ⟨w, Finset.mem_univ _, e⟩))
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    icases HO with ⟨%W, -, HO⟩; iexists W; iexact HO

set_option backward.isDefEq.respectTransparency.types false in
/-- Call 1: entered with the buffers at `B3`, left with them at `B4`. -/
def call1 : RegionSeg (pcfgs (F := F)) noTables (pdats m) () defs₀ Variants.none Lv lvl 1 where
  win := launch1.win.to₀
  block_pos := launch1.block_pos
  stage_whole := launch1.stage_whole
  K := PEmpty
  osem k := k.elim
  ho := OwnSemFacts.none _
  hbody c := (obligation1 (at3 m) c).loose
  hwaits := hwaits_of_owed_zero _ _ _ _ Lv lvl 1 fun _ _ => rfl
  pre c := iprop(bufsAt c (B3 m c) ∗ beside c)
  post c := iprop((bufsAt c (B4 m c) ∗ ∃ r, prngReg c r) ∗ ∃ W, owes (c : Thread nD τ) (0 : CellTallies nD τ sig Unit) W)
  X c := iprop(∃ r, prngReg c r)
  Y c := iprop(∃ r, prngReg c r)
  Z c := unscopedRest (Ix := Unit) (Name := ℕ) (U := UR sig nD τ) (Lvl := ℕ) spec1 c (at3 m c)
  hentry c := by
    rw [ownSems0_none]
    have hsplit := arrays_of_unscopedBufs (p := 1) (pcfgs (F := F)) noTables (pdats m) launch1.win launch1.arr_whole c
      ((pdats m 1 c).share_full fun _ => rfl) (at3 m c) (arrs1 (at3 m) c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin
      icases HO with ⟨%W, HO⟩; iexists W; isplitr; · ipureintro; exact fun _ _ => Or.inl trivial
      iexact HO
    isplitl [Hp]; · iexact Hp
    iexact Hrest
  hin c := by
    rw [show (pdats m 1 c).Φ 0 = phi1 (at3 m) c 0 from rfl]
    iintro ⟨Hp, -, Hr⟩
    iapply (phi1_start (at3 m) c)
    unfold ΦA
    isplitl [Hr]; · iexact Hr
    iexact Hp
  hout c := by
    rw [ownSems0_none, show (pdats m 1 c).Φ (Fin.last _) = phi1 (at3 m) c cfg1.N from rfl]
    iintro H
    ihave H := (phi1_end (at3 m) c cfg1.N) $$ H
    unfold ΦA
    icases H with ⟨Hr, Hp⟩
    isplitl [Hp]; · iexact Hp
    isplitr; · iempintro
    iexact Hr
  hexit c := by
    have hjoin := unscopedBufs_of_arrays (p := 1) (pcfgs (F := F)) noTables (Ix := Unit) (Name := ℕ) (U := UR sig nD τ) (Lvl := ℕ)
      launch1.win launch1.arr_whole c (pdats m) ((pdats m 1 c).share_full fun _ => rfl)
      (at3 m c) (fun b => B4 m c b) ((pdats m 1 c).arrAt · cfg1.N) (fun w => (B4_arr m c w).symm)
      (fun b hb => B4_of_ne m c b fun w e => hb (Finset.mem_image.mpr ⟨w, Finset.mem_univ _, e⟩))
    rw [unscopedBufs_held] at hjoin
    iintro ⟨Ha, HO, HY, Hrest⟩
    imodintro
    isplitl [Ha Hrest HY]
    · isplitl [Ha Hrest]
      · iapply hjoin; isplitl [Ha] <;> iassumption
      iexact HY
    unfold Dat.owesAt owesWithin
    icases HO with ⟨%W, -, HO⟩; iexists W; iexact HO

/-- The program is its four segments, one after the other. -/
abbrev parts : List (Seg (pcfgs (F := F)) noTables (pdats m) () defs₀ Variants.none Lv lvl) :=
  [ .host (hostSeg hostOps0 hostOps0_sub hostOps0_fresh (B0 m)),
    .region (call0 m),
    .host (hostSeg hostOps1 hostOps1_sub hostOps1_fresh (B2 m)),
    .region (call1 m) ]

theorem main_parts (c : Dev nD) : main (F := F) c = Seg.run (parts m) := (main_chain c).trans (by chain_rfl)

theorem mem_uc (b : Ref sig .tc) (h : ¬ (Proc.devRef .tc b : DevRef τ sig).isScoped) : Proc.devRef .tc b ∈ ucRefs τ sig :=
  Finset.mem_filter.mpr ⟨StableHlo.devRef_mem_tcRefs b, h⟩

theorem all_scoped : ∀ sm : SemLoc sig, sm.isScoped .tc = true := by decide

set_option backward.isDefEq.respectTransparency.types false in
/-- Every weakly fair run ends, with every unscoped buffer at `B4` and every semaphore at zero. -/
theorem run_all : θ_run defs (onTc (τ := τ) (main (F := F))) ⟨m, fun _ => 0, ρ⟩
    (fun r => (∀ c : Dev nD, ∀ b ∈ ucRefs τ sig, r.2.mem ((c : Thread nD τ).1, b) = B4 m c b) ∧ r.2.sem = fun _ => 0) :=
  θ_run_regions_kit_sems (pcfgs (F := F)) noTables (pdats m) () cellOf_inj emb₁ defs₀ Variants.none Lv lvl m ρ main (parts m)
    (fun c Q => by rw [main_parts m c])
    (by simp only [parts, Seg.pipes_host, Seg.pipes_region, Seg.pipes_nil]; decide)
    (O₀ := 0) (hL := fun _ _ => rfl) (G := fun _ => iprop(emp))
    (u₀ := initOf (cells cfgs cellOf_inj) (launchToks cfgs cellOf_inj))
    (hu₀ := by
      iintro Hu; imodintro
      isplitl [Hu]
      · iapply (show (ownU (initOf (cells cfgs cellOf_inj) (launchToks cfgs cellOf_inj)) : sProp 𝕄)
            ⊢ BI.own (emb₁ (initOf (cells cfgs cellOf_inj) (launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(bufsAt c (B0 m c) ∗ beside c)) (Tₙ := fun c => iprop(bufsAt c (B4 m c) ∗ ∃ r, prngReg c r))
    (hch := ⟨fun _ => .rfl, fun _ => .rfl, fun _ => .rfl, fun _ => .rfl, fun _ => .rfl⟩)
    (hinit := by
      refine initEach Lv lvl fun c => ?_
      rw [show unscopedBufs c (fun b => m ((c : Thread nD τ).loc b)) = bufsAt c (B0 m c) from unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = B4 m c b)
    (hfin := fun c s' => by
      iintro ⟨⟨Hh, -⟩, HSI⟩
      unfold bufsAt StableHlo.held
      imodintro
      iapply (pointsTo_read_all (ucRefs τ sig) (fun b => (((c : Thread nD τ)).1, b)) (B4 m c) s')
      isplitl [Hh] <;> iassumption)
    (hQ := fun _ h hz => ⟨h, funext fun g => hz g (.inr (all_scoped g.2))⟩)

/-- The arguments at the end. -/
theorem B4_arg (c : Dev nD) : ∀ a ∈ [main_arg0, main_arg1, main_arg2, main_arg3],
    B4 m c (Proc.devRef .tc a) = m ((c : Thread nD τ).loc a) := by
  have h : ∀ a ∈ [main_arg0, main_arg1, main_arg2, main_arg3], a ∉ hostOps0_W ∧ a ∉ hostOps1_W
      ∧ (∀ w, arrRef spec0 w ≠ a) ∧ (∀ w, arrRef spec1 w ≠ a) := by decide +kernel
  exact fun a ha => B4_kept m c a (h a ha).1 (h a ha).2.1 (h a ha).2.2.1 (h a ha).2.2.2

/-- Every weakly fair run ends with the arguments as they were and every semaphore at zero. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c =>
    ⟨(h.1 c _ (mem_uc main_arg0 (by decide))).trans (B4_arg m c _ (by decide)),
     (h.1 c _ (mem_uc main_arg1 (by decide))).trans (B4_arg m c _ (by decide)),
     (h.1 c _ (mem_uc main_arg2 (by decide))).trans (B4_arg m c _ (by decide)),
     (h.1 c _ (mem_uc main_arg3 (by decide))).trans (B4_arg m c _ (by decide))⟩, h.2⟩) (run_all m ρ)

end Cert.Proof.SP

end
-- ==== Proof.SP.Spec.lean ====
/-
  The sample's projection over the extended reals, and what a call's body computes, element by
  element.
-/
module

public import proofs.«01_k».proof.Proof.SP.Run
public import proofs.«01_k».proof.Proof.Row
public import Idealize.ShloMosaic.Lib.Pipeline.ValueKit
public import Idealize.ShloMosaic.Lib.Pipeline.ValueKit.Partial
public import Idealize.ShloMosaic.Lib.Pointwise

@[expose] public section

set_option maxRecDepth 16384

noncomputable section

namespace Cert.Proof.SP

open Cert.Kernel6Ideal Cert.Kernel6Ideal.Gen
open Idealize.ShloMosaic Idealize.ShloMosaic.TcCoe

/-- Column `q` of layer `l`'s projection of the rows `x`, at position `p` of sequence `b`. -/
def col (x : Vec Ideal S32x64x1024 .f32) (nm : Vec Ideal S2x1024 .f32) (w : Vec Ideal S2x1024x7680 .f32) (l : Fin 2) (b : Fin 32)
    (p : Fin 64) (q : Fin 7680) : EReal :=
  ∑ k : Fin 1024, nrm (fun k => x (ix3 b p k)) (fun k => nm (ix2 l k)) k * w (ix3 l k q)

/-- The first 4608 columns of one layer's, all positions of all sequences below one another. -/
def rowsL (x : Vec Ideal S32x64x1024 .f32) (nm : Vec Ideal S2x1024 .f32) (w : Vec Ideal S2x1024x7680 .f32) (l : Fin 2) :
    Vec Ideal S2x2048x4608 .f32 := fun z =>
  col x nm w l ⟨(z 1).val / 64, by have : (z 1).val < 2048 := (z 1).isLt; omega⟩ ⟨(z 1).val % 64, Nat.mod_lt _ (by omega)⟩
    ⟨(z 2).val, by have : (z 2).val < 4608 := (z 2).isLt; omega⟩

/-- Both layers', stacked. -/
def stacked (A B : Vec Ideal S2x2048x4608 .f32) : Vec Ideal S2x2048x4608 .f32 := fun z => if (z 0).val = 1 then B z else A z

/-! ## The body -/

theorem norm_apply (x : Vec Ideal S1024x1024 .f32) (g : Vec Ideal S1x1024 .f32) (r k : Fin 1024) :
    k0_pay1 x g (ix2 r k) = nrm (fun k => x (ix2 r k)) (fun k => g (ix2 0 k)) k := by
  pointwise [k0_pay1]
  rfl

/-- The product of the normed rows with a third of the weights. -/
theorem out_apply (x : Vec Ideal S1024x1024 .f32) (g : Vec Ideal S1x1024 .f32) (w : Vec Ideal S1024x1536 .bf16) (r : Fin 1024) (q : Fin 1536) :
    k0_pay2 (k0_pay1 x g) w (ix3 0 r q) = ∑ k : Fin 1024, nrm (fun k => x (ix2 r k)) (fun k => g (ix2 0 k)) k * w (ix2 k q) := by
  pointwise [k0_pay2]
  simp only [norm_apply]
  try rfl

end Cert.Proof.SP

end
-- ==== Proof.SP.Reads.lean ====
/-
  The sample's projection: what each input block of a point reads, in the arrays as launched.
-/
module

public import proofs.«01_k».proof.Proof.SP.Spec

@[expose] public section

set_option maxRecDepth 16384

noncomputable section

namespace Cert.Proof.SP

open Cert.Kernel6Ideal Cert.Kernel6Ideal.Gen
open Idealize.ShloMosaic Idealize.ShloMosaic.TcCoe
open Idealize.ShloMosaic.Pipeline

/-- The block indices of the first layer's points, -/
theorem idx0 : ∀ t : Fin cfg0.N, win0_0.index t = ![t.val / 3, 0] ∧ win0_1.index t = ![0, 0] ∧ win0_2.index t = ![0, t.val % 3]
    ∧ win0_3.index t = ![0, t.val / 3, t.val % 3] := (by decide +kernel : ∀ t : Fin grid0.N, _)

/-- and of the second layer's. -/
theorem idx1 : ∀ t : Fin cfg1.N, win1_0.index t = ![t.val / 3, 0] ∧ win1_1.index t = ![0, 0] ∧ win1_2.index t = ![0, t.val % 3]
    ∧ win1_3.index t = ![1, t.val / 3, t.val % 3] := (by decide +kernel : ∀ t : Fin grid1.N, _)

section Blocks

variable (V : Bufs Ideal) (c : Dev nD)

theorem blkx0 (t : Fin cfg0.N) (r k : Fin 1024) : (iblk0 V c 0 t : Vec Ideal S1024x1024 .f32) (ix2 r k)
    = (V c main_v2 : Vec Ideal S2048x1024 .f32) (ix2 ⟨t.val / 3 * 1024 + r.val, by have : t.val < 6 := t.isLt; omega⟩ k) := by
  blk_simp [iblk0, idx0 t]
  refine congrArg _ ?_
  blk_ext [idx0 t]

theorem blkg0 (t : Fin cfg0.N) (k : Fin 1024) : (iblk0 V c 1 t : Vec Ideal S1x1024 .f32) (ix2 0 k)
    = (V c main_v7 : Vec Ideal S1x1024 .f32) (ix2 0 k) := by
  blk_simp [iblk0, idx0 t]
  refine congrArg _ ?_
  blk_ext [idx0 t]

theorem blkw0 (t : Fin cfg0.N) (k : Fin 1024) (q : Fin 1536) : (iblk0 V c 2 t : Vec Ideal S1024x1536 .bf16) (ix2 k q)
    = (V c main_v6 : Vec Ideal S1024x4608 .bf16) (ix2 k ⟨t.val % 3 * 1536 + q.val, by omega⟩) := by
  blk_simp [iblk0, idx0 t]
  refine congrArg _ ?_
  blk_ext [idx0 t]

theorem blkx1 (t : Fin cfg1.N) (r k : Fin 1024) : (iblk1 V c 0 t : Vec Ideal S1024x1024 .f32) (ix2 r k)
    = (V c main_v9 : Vec Ideal S2048x1024 .f32) (ix2 ⟨t.val / 3 * 1024 + r.val, by have : t.val < 6 := t.isLt; omega⟩ k) := by
  blk_simp [iblk1, idx1 t]
  refine congrArg _ ?_
  blk_ext [idx1 t]

theorem blkg1 (t : Fin cfg1.N) (k : Fin 1024) : (iblk1 V c 1 t : Vec Ideal S1x1024 .f32) (ix2 0 k)
    = (V c main_v14 : Vec Ideal S1x1024 .f32) (ix2 0 k) := by
  blk_simp [iblk1, idx1 t]
  refine congrArg _ ?_
  blk_ext [idx1 t]

theorem blkw1 (t : Fin cfg1.N) (k : Fin 1024) (q : Fin 1536) : (iblk1 V c 2 t : Vec Ideal S1024x1536 .bf16) (ix2 k q)
    = (V c main_v13 : Vec Ideal S1024x4608 .bf16) (ix2 k ⟨t.val % 3 * 1536 + q.val, by omega⟩) := by
  blk_simp [iblk1, idx1 t]
  refine congrArg _ ?_
  blk_ext [idx1 t]

end Blocks

variable (m : (ℓ : Loc nD τ sig) → Buf (Elt Ideal) ℓ) (c : Dev nD)

theorem at1_host (b : Ref sig .tc) : at1 m c b = StableHlo.after (hostOps0 (F := Ideal)) (B0 m c) (Proc.devRef .tc b) := rfl

theorem at3_host (b : Ref sig .tc) : at3 m c b = StableHlo.after (hostOps1 (F := Ideal)) (B2 m c) (Proc.devRef .tc b) := rfl

/-- An argument array as launched. -/
abbrev arg (b : Ref sig .tc) : Buf (Elt Ideal) ((c : Thread nD τ).loc b) := m ((c : Thread nD τ).loc b)

/-- The weights as the calls take them: the first 4608 columns, rounded. -/
theorem weights (l : Fin 2) (k : Fin 1024) (q : Fin 4608) : (at1 m c main_v1 : Vec Ideal S2x1024x4608 .bf16) (ix3 l k q)
    = (arg m c main_arg3 : Vec Ideal S2x1024x7680 .f32) (ix3 l k ⟨q.val, by omega⟩) := by
  rw [at1_host]
  entry_read
  pointwise

/-- The first layer's half of the weights, -/
theorem half0 (k : Fin 1024) (q : Fin 4608) : (at1 m c main_v6 : Vec Ideal S1024x4608 .bf16) (ix2 k q)
    = (arg m c main_arg3 : Vec Ideal S2x1024x7680 .f32) (ix3 0 k ⟨q.val, by omega⟩) := by
  rw [at1_host]
  entry_read
  pointwise

theorem rows_arg0 (R : Fin 2048) (k : Fin 1024) : (at1 m c main_v2 : Vec Ideal S2048x1024 .f32) (ix2 R k)
    = (arg m c main_arg0 : Vec Ideal S32x64x1024 .f32) (ix3 ⟨R.val / 64, by omega⟩ ⟨R.val % 64, by omega⟩ k) := by
  rw [at1_host]
  entry_read
  pointwise

theorem gain0 (k : Fin 1024) : (at1 m c main_v7 : Vec Ideal S1x1024 .f32) (ix2 0 k)
    = (arg m c main_arg2 : Vec Ideal S2x1024 .f32) (ix2 0 k) := by
  rw [at1_host]
  entry_read
  pointwise

/-- What no host operation and no window of the first call touches is as launched when the second is prepared. -/
theorem B2_arg : ∀ a ∈ [main_arg0, main_arg1, main_arg2, main_arg3], B2 m c (Proc.devRef .tc a) = m ((c : Thread nD τ).loc a) := by
  have h : ∀ a ∈ [main_arg0, main_arg1, main_arg2, main_arg3], a ∉ Gen.hostOps0_W ∧ (∀ w, arrRef spec0 w ≠ a) := by decide +kernel
  exact fun a ha => (B2_of_ne m c a (h a ha).2).trans (StableHlo.after_of_writes_sub hostOps0 _ Gen.hostOps0_writes (h a ha).1)

/-- and the second layer's rows, gains and weights: the first call leaves them as they were. -/
theorem rows_arg1 (R : Fin 2048) (k : Fin 1024) : (at3 m c main_v9 : Vec Ideal S2048x1024 .f32) (ix2 R k)
    = (arg m c main_arg1 : Vec Ideal S32x64x1024 .f32) (ix3 ⟨R.val / 64, by omega⟩ ⟨R.val % 64, by omega⟩ k) := by
  rw [at3_host]
  entry_read
  pointwise
  rw [B2_arg m c main_arg1 (by decide)]

theorem gain1 (k : Fin 1024) : (at3 m c main_v14 : Vec Ideal S1x1024 .f32) (ix2 0 k)
    = (arg m c main_arg2 : Vec Ideal S2x1024 .f32) (ix2 1 k) := by
  rw [at3_host]
  entry_read
  pointwise
  rw [B2_arg m c main_arg2 (by decide)]

theorem half1 (k : Fin 1024) (q : Fin 4608) : (at3 m c main_v13 : Vec Ideal S1024x4608 .bf16) (ix2 k q)
    = (arg m c main_arg3 : Vec Ideal S2x1024x7680 .f32) (ix3 1 k ⟨q.val, by omega⟩) := by
  rw [← weights, at3_host]
  entry_read
  pointwise
  rw [B2_of_ne m c main_v1 (by decide)]

end Cert.Proof.SP

end
-- ==== Proof.SP.Final.lean ====
/-
  The sample's projection: the tiles the two calls write, and what the result array holds at the end.
-/
module

public import proofs.«01_k».proof.Proof.SP.Reads

@[expose] public section

set_option maxRecDepth 16384

noncomputable section

namespace Cert.Proof.SP

open Cert.Kernel6Ideal
open Cert.Kernel6Ideal.Gen (hostOps0 hostOps1 k0_pay2)
open Idealize.ShloMosaic Idealize.ShloMosaic.TcCoe
open Idealize.ShloMosaic.Pipeline

variable (m : (ℓ : Loc nD τ sig) → Buf (Elt Ideal) ℓ) (g : Dev nD → PrngReg) (c : Dev nD)

/-! ## Layer 0 -/

/-- A tile is the projection of the rows as launched. -/
theorem tile0 (t : Fin cfg0.N) (r : Fin 1024) (q : Fin 1536) :
    k0_pay2 (rows0 (at1 m) c (first0 t)) (iblk0 (at1 m) c 2 t) (ix3 0 r q)
      = rowsL (arg m c main_arg0) (arg m c main_arg2) (arg m c main_arg3) 0
          (ix3 0 ⟨t.val / 3 * 1024 + r.val, by have : t.val < 6 := t.isLt; omega⟩ ⟨t.val % 3 * 1536 + q.val, by omega⟩) := by
  have ht : t.val < 6 := t.isLt
  refine (out_apply _ _ _ r q).trans ?_
  unfold rowsL col
  refine Finset.sum_congr rfl fun k _ => ?_
  congr 1
  · congr 1
    · funext k
      rw [blkx0, rows_arg0]
      exact congrArg₂ (fun a b => (arg m c main_arg0 : Vec Ideal S32x64x1024 .f32) (ix3 a b k))
        (Fin.ext (by show (t.val / 3 * 3 / 3 * 1024 + r.val) / 64 = (t.val / 3 * 1024 + r.val) / 64; omega))
        (Fin.ext (by show (t.val / 3 * 3 / 3 * 1024 + r.val) % 64 = (t.val / 3 * 1024 + r.val) % 64; omega))
    · funext k
      rw [blkg0, gain0]
  · rw [blkw0, half0]
    rfl

/-- Layer 0's part is what its call writes into the array; the rest stays as the call found it. -/
theorem arr0 : (dat0 (at1 m) c).arrAt 3 cfg0.N = fun i : S2x2048x4608.Idx => if ((i 0).val / 1 : ℕ) = 0
    then rowsL (arg m c main_arg0) (arg m c main_arg2) (arg m c main_arg3) 0 i
    else (at1 m c main_v8 : Vec Ideal S2x2048x4608 .f32) i := by
  refine ((dat0 (at1 m) c).arrAt_eq_of_coversWhere 3 (rowsL (arg m c main_arg0) (arg m c main_arg2) (arg m c main_arg3) 0)
    (P := fun i : S2x2048x4608.Idx => ((i 0).val / 1 : ℕ) = 0)
    (fun β => β (0 : Fin _) = 0) (by decide +kernel) (fun t hf y => ?_) (fun j => Iff.rfl)).trans ?_
  · blk_simp
    idx_vars y
    obtain rfl : y0 = 0 := Subsingleton.elim _ _
    have ht : t.val < 6 := t.isLt
    rw [after0_3]
    refine (tile0 m c t y1 y2).trans ?_
    refine congrArg (rowsL (arg m c main_arg0) (arg m c main_arg2) (arg m c main_arg3) 0) ?_
    symm
    blk_ext [idx0 t]
  · rfl

/-! ## Layer 1 -/

/-- A tile is the projection of the rows as launched. -/
theorem tile1 (t : Fin cfg1.N) (r : Fin 1024) (q : Fin 1536) :
    k0_pay2 (rows1 (at3 m) c (first1 t)) (iblk1 (at3 m) c 2 t) (ix3 0 r q)
      = rowsL (arg m c main_arg1) (arg m c main_arg2) (arg m c main_arg3) 1
          (ix3 1 ⟨t.val / 3 * 1024 + r.val, by have : t.val < 6 := t.isLt; omega⟩ ⟨t.val % 3 * 1536 + q.val, by omega⟩) := by
  have ht : t.val < 6 := t.isLt
  refine (out_apply _ _ _ r q).trans ?_
  unfold rowsL col
  refine Finset.sum_congr rfl fun k _ => ?_
  congr 1
  · congr 1
    · funext k
      rw [blkx1, rows_arg1]
      exact congrArg₂ (fun a b => (arg m c main_arg1 : Vec Ideal S32x64x1024 .f32) (ix3 a b k))
        (Fin.ext (by show (t.val / 3 * 3 / 3 * 1024 + r.val) / 64 = (t.val / 3 * 1024 + r.val) / 64; omega))
        (Fin.ext (by show (t.val / 3 * 3 / 3 * 1024 + r.val) % 64 = (t.val / 3 * 1024 + r.val) % 64; omega))
    · funext k
      rw [blkg1, gain1]
  · rw [blkw1, half1]
    rfl

/-- Layer 1's part is what its call writes into the array; the rest stays as the call found it. -/
theorem arr1 : (dat1 (at3 m) c).arrAt 3 cfg1.N = fun i : S2x2048x4608.Idx => if ((i 0).val / 1 : ℕ) = 1
    then rowsL (arg m c main_arg1) (arg m c main_arg2) (arg m c main_arg3) 1 i
    else (at3 m c main_v15 : Vec Ideal S2x2048x4608 .f32) i := by
  refine ((dat1 (at3 m) c).arrAt_eq_of_coversWhere 3 (rowsL (arg m c main_arg1) (arg m c main_arg2) (arg m c main_arg3) 1)
    (P := fun i : S2x2048x4608.Idx => ((i 0).val / 1 : ℕ) = 1)
    (fun β => β (0 : Fin _) = 1) (by decide +kernel) (fun t hf y => ?_) (fun j => Iff.rfl)).trans ?_
  · blk_simp
    idx_vars y
    obtain rfl : y0 = 0 := Subsingleton.elim _ _
    have ht : t.val < 6 := t.isLt
    rw [after1_3]
    refine (tile1 m c t y1 y2).trans ?_
    refine congrArg (rowsL (arg m c main_arg1) (arg m c main_arg2) (arg m c main_arg3) 1) ?_
    symm
    blk_ext [idx1 t]
  · rfl

/-! ## The end -/

/-- The second call finds the array as the first leaves it. -/
theorem copy_rows : at3 m c main_v15 = (dat0 (at1 m) c).arrAt 3 cfg0.N := by
  refine Eq.trans ?_ (B2_arr m c 3)
  rw [at3_host]
  unfold hostOps1
  simp only [StableHlo.after_cons, StableHlo.after_nil]
  repeat (first
    | (rw [StableHlo.unary_result_ne]; rotate_left; decide)
    | rw [StableHlo.unary_result]
    | (rw [StableHlo.reshape_result_ne]; rotate_left; decide))
  rfl

/-- The array at the end: each layer's projection in its half. -/
theorem final_rows : B4 m c (Proc.devRef .tc main_v15)
    = stacked (rowsL (arg m c main_arg0) (arg m c main_arg2) (arg m c main_arg3) 0)
        (rowsL (arg m c main_arg1) (arg m c main_arg2) (arg m c main_arg3) 1) := by
  refine (B4_arr m c 3).trans ?_
  rw [arr1, copy_rows, arr0]
  funext z
  have hz : (z 0).val < 2 := (z 0).isLt
  show _ = if (z 0).val = 1 then _ else _
  simp only [Nat.div_one]
  by_cases h : (z 0).val = 1
  · rw [if_pos h, if_pos h]
  · rw [if_neg h, if_neg h, if_pos (by omega)]

/-- Every weakly fair run ends with both layers' projections in the result array. -/
theorem run : θ_run defs (onTc (τ := τ) (main (F := Ideal))) ⟨m, fun _ => 0, g⟩ (fun r => ∀ c : Dev nD,
    r.2.mem ((c.tc : Thread nD τ).loc main_v15)
      = stacked (rowsL (arg m c main_arg0) (arg m c main_arg2) (arg m c main_arg3) 0)
        (rowsL (arg m c main_arg1) (arg m c main_arg2) (arg m c main_arg3) 1)) :=
  (θ_run defs _ _).mono (fun _ h c => (h.1 c _ (mem_uc main_v15 (by decide))).trans (final_rows m c)) (run_all m g)

end Cert.Proof.SP

end
-- ==== Proof.SP.Same.lean ====
/-
  The sample's projection and its idealized text are one program: their bodies agree label by label.
-/
module

public import proofs.«01_k».proof.Proof.SP.Run
public import proofs.«01_k».proof.Proof.Gen.Kernel6

@[expose] public section

set_option maxRecDepth 16384

noncomputable section

namespace Cert.Proof.SP

open Idealize.ShloMosaic

variable {F : FTy → Type} [FloatOps F]

theorem bodies_same : Cert.Kernel6.defs₀ (F := F) = Cert.Kernel6Ideal.defs₀ (F := F) := by
  unfold Cert.Kernel6.defs₀ Cert.Kernel6Ideal.defs₀
  refine congrArg Defs.onTc (funext fun l => funext fun a => ?_)
  match l, a with
  | ⟨0, _⟩, (t, s) => rfl
  | ⟨1, _⟩, (t, s) => rfl

theorem defs_same : Cert.Kernel6.defs (F := F) = Cert.Kernel6Ideal.defs (F := F) :=
  congrArg (Pipeline.defs Cert.Kernel6Ideal.pcfgs) bodies_same

end Cert.Proof.SP

end
-- ==== Proof.SP.Ref.lean ====
/-
  The sample's projection: what the reference's result holds.
-/
module

public import proofs.«01_k».proof.Proof.Gen.Reference6Ideal.Read
public import proofs.«01_k».proof.Proof.SP.Spec

@[expose] public section

set_option maxRecDepth 16384

noncomputable section

namespace Cert.Proof.SP

open Cert.Reference6Ideal Cert.Reference6Ideal.Read
open Idealize.ShloMosaic Idealize.ShloMosaic.TcCoe

variable (x0 x1 : Vec Ideal S32x64x1024 .f32) (x2 : Vec Ideal S2x1024 .f32) (x3 : Vec Ideal S2x1024x7680 .f32)

/-- The reference's norm of layer 0's rows, -/
theorem ref_norm0 (b : Fin 32) (p : Fin 64) (k : Fin 1024) :
    val_main_v14 x0 x2 (ix3 b p k) = nrm (fun k => x0 (ix3 b p k)) (fun k => x2 (ix2 0 k)) k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  rfl

/-- and its projection. -/
theorem ref_proj0 (b : Fin 32) (p : Fin 64) (q : Fin 7680) :
    val_main_v17 x0 x2 x3 (ix3 b p q) = col x0 x2 x3 0 b p q := by
  pointwise [val_main_v15, val_main_v16, val_main_v17]
  simp only [ref_norm0]
  rfl

/-- The reference's norm of layer 1's rows, -/
theorem ref_norm1 (b : Fin 32) (p : Fin 64) (k : Fin 1024) :
    val_main_v34 x1 x2 (ix3 b p k) = nrm (fun k => x1 (ix3 b p k)) (fun k => x2 (ix2 1 k)) k := by
  pointwise [val_main_v20, val_main_v21, val_main_v22, val_main_v23, val_main_v24, val_main_v25, val_main_v26, val_main_v27, val_main_v28, val_main_v29, val_main_v30, val_main_v31, val_main_v32, val_main_v33, val_main_v34, val_main_cst_2, val_main_cst_3, val_main_cst_4]
  rfl

/-- and its projection. -/
theorem ref_proj1 (b : Fin 32) (p : Fin 64) (q : Fin 7680) :
    val_main_v37 x1 x2 x3 (ix3 b p q) = col x1 x2 x3 1 b p q := by
  pointwise [val_main_v35, val_main_v36, val_main_v37]
  simp only [ref_norm1]
  rfl

/-- The reference's result. -/
theorem ref_rows : val_main_v42 x0 x1 x2 x3 = stacked (rowsL x0 x2 x3 0) (rowsL x1 x2 x3 1) := by
  funext z
  idx_vars z
  pointwise [val_main_v18, val_main_v19, val_main_v38, val_main_v39, val_main_v40, val_main_v41, val_main_v42]
  simp only [ref_proj0, ref_proj1]
  by_cases h : z0.val = 1
  · rw [dif_neg (by omega)]
    exact (if_pos h : stacked (rowsL x0 x2 x3 0) (rowsL x1 x2 x3 1) (ix3 z0 z1 z2) = _).symm
  · rw [dif_pos (by omega)]
    exact (if_neg h : stacked (rowsL x0 x2 x3 0) (rowsL x1 x2 x3 1) (ix3 z0 z1 z2) = _).symm

end Cert.Proof.SP

end
-- ==== Proof.FS.Spec.lean ====
/-
  The conv feed-forward of the sample batch over the extended reals, element by element, from the arrays the call is given.
-/
module

public import proofs.«01_k».proof.Proof.Gen.Kernel8Ideal.Frame
public import proofs.«01_k».proof.Proof.Row
public import Idealize.ShloMosaic.Lib.Pipeline.ValueKit
public import Idealize.ShloMosaic.Lib.Pointwise

@[expose] public section

noncomputable section

namespace Cert.Proof.FS

open Cert.Kernel8Ideal Cert.Kernel8Ideal.Gen
open Idealize.ShloMosaic Idealize.ShloMosaic.TcCoe

/-- The tanh form of gelu, its constants the float words both programs hold. -/
def gelu (c : EReal) : EReal :=
  c * (Ideal.ofBits FTy.f32 1056964608#32 * (1 + Ideal.tanh (Ideal.ofBits FTy.f32 1061962282#32
    * (c + Ideal.ofBits FTy.f32 1027024659#32 * (c * c * c)))))

/-- The convolution of three neighbouring gate values, oldest first. -/
def conv (b w0 w1 w2 p2 p1 p0 : EReal) : EReal := b + w0 * p2 + w1 * p1 + w2 * p0

variable (a0 : Vec Ideal S32x64x1024 .f32) (a1 : Vec Ideal S1024 .f32) (a2 : Vec Ideal S1024x5632 .f32) (a3 : Vec Ideal S3x2816 .f32)
  (a4 : Vec Ideal S2816 .f32) (a5 : Vec Ideal S2816x1024 .f32) (a6 : Vec Ideal S32x2x2816 .f32) (a7 : Vec Ideal S1024 .f32)

/-- The normed row at position `p` of sequence `b`. -/
def nx (b : Fin 32) (p : Fin 64) (k : Fin 1024) : EReal := nrm (fun k => a0 (ix3 b p k)) (fun k => a1 (ix1 k)) k

/-- The gate half of the up projection. -/
def gate (b : Fin 32) (p : Fin 64) (f : Fin 2816) : EReal := ∑ k, nx a0 a1 b p k * a2 (ix2 k ⟨f.val, by omega⟩)

/-- Its other half. -/
def up (b : Fin 32) (p : Fin 64) (f : Fin 2816) : EReal := ∑ k, nx a0 a1 b p k * a2 (ix2 k ⟨2816 + f.val, by omega⟩)

/-- The gates of a sequence behind the two the state holds. -/
def padded (b : Fin 32) (q : ℕ) (hq : q < 66) (f : Fin 2816) : EReal :=
  if h : q < 2 then a6 (ix3 b ⟨q, h⟩ f) else gate a0 a1 a2 b ⟨q - 2, by omega⟩ f

/-- The convolved gate. -/
def cgate (b : Fin 32) (p : Fin 64) (f : Fin 2816) : EReal :=
  conv (a4 (ix1 f)) (a3 (ix2 0 f)) (a3 (ix2 1 f)) (a3 (ix2 2 f)) (padded a0 a1 a2 a6 b p.val (by omega) f)
    (padded a0 a1 a2 a6 b (1 + p.val) (by omega) f) (padded a0 a1 a2 a6 b (2 + p.val) (by omega) f)

/-- The hidden row. -/
def hid (b : Fin 32) (p : Fin 64) (f : Fin 2816) : EReal := gelu (cgate a0 a1 a2 a3 a4 a6 b p f) * up a0 a1 a2 b p f

/-- The row with the feed-forward added. -/
def added (b : Fin 32) (p : Fin 64) (d : Fin 1024) : EReal :=
  a0 (ix3 b p d) + ∑ f, hid a0 a1 a2 a3 a4 a6 b p f * a5 (ix2 f d)

/-- The result: that row under the last norm. -/
def res (b : Fin 32) (p : Fin 64) (d : Fin 1024) : EReal := nrm (added a0 a1 a2 a3 a4 a5 a6 b p) (fun k => a7 (ix1 k)) d

/-- The whole result, the sequences one below the other. -/
def resA : Vec Ideal S2048x1024 .f32 := fun z =>
  res a0 a1 a2 a3 a4 a5 a6 a7 ⟨(z 0).val / 64, Nat.div_lt_of_lt_mul (z 0).isLt⟩ ⟨(z 0).val % 64, Nat.mod_lt _ (by decide)⟩ (z 1)

/-- The new state: a sequence's last two gates. -/
def tailA : Vec Ideal S32x2x2816 .f32 := fun z => padded a0 a1 a2 a6 (z 0) (64 + (z 1).val) (Nat.add_lt_add_left (z 1).isLt 64) (z 2)

end Cert.Proof.FS
-- ==== Proof.FS.Body.lean ====
/-
  The conv feed-forward of the sample batch: the values the idealized kernel's body computes from the blocks it reads.
-/
module

public import proofs.«01_k».proof.Proof.FS.Spec

@[expose] public section

set_option maxRecDepth 16384

noncomputable section

namespace Cert.Proof.FS

open Cert.Kernel8Ideal Cert.Kernel8Ideal.Gen
open Idealize.ShloMosaic Idealize.ShloMosaic.TcCoe

/-- The tile's row of a sequence's position. -/
def row (s : Fin 8) (q : Fin 64) : Fin 512 := ⟨64 * s.val + q.val, by omega⟩

/-- The norm of a tile's rows. -/
theorem pay3_apply (x : Vec Ideal S512x1024 .f32) (g : Vec Ideal S1x1024 .f32) (r : Fin 512) (k : Fin 1024) :
    k0_pay3 x g (ix2 r k) = nrm (fun k => x (ix2 r k)) (fun k => g (ix2 0 k)) k := by
  pointwise [k0_pay3]
  rfl

/-- The gates, -/
theorem pay4_apply (x : Vec Ideal S512x1024 .bf16) (w : Vec Ideal S1024x1408 .bf16) (s : Fin 8) (q : Fin 64) (f : Fin 1408) :
    k0_pay4 x w (ix3 s q f) = ∑ k : Fin 1024, x (ix2 (row s q) k) * w (ix2 k f) := by
  pointwise [k0_pay4]
  refine Finset.sum_congr rfl fun k _ => congrArg₂ (· * ·) (congrArg x (congrArg (ix2 · k) (Fin.ext ?_))) rfl
  show _ = 64 * s.val + q.val
  (try dsimp only); omega

/-- and the other half. -/
theorem pay5_apply (x : Vec Ideal S512x1024 .bf16) (w : Vec Ideal S1024x1408 .bf16) (s : Fin 8) (q : Fin 64) (f : Fin 1408) :
    k0_pay5 x w (ix3 s q f) = ∑ k : Fin 1024, x (ix2 (row s q) k) * w (ix2 k f) := by
  pointwise [k0_pay5]
  refine Finset.sum_congr rfl fun k _ => congrArg₂ (· * ·) (congrArg x (congrArg (ix2 · k) (Fin.ext ?_))) rfl
  show _ = 64 * s.val + q.val
  (try dsimp only); omega

/-- The word comparison of a position. -/
theorem sel_row (r : Fin 64) (n : ℕ) (hn : n < 64) (a b : EReal) :
    Scalar.select (IntOp.cmpi CmpIPredicate.eq (BitVec.ofNat 32 r.val) (BitVec.ofNat 32 n)) a b = if r.val = n then a else b := by
  rw [WordCmp.cmpi_eq_ofNat (by omega) (by omega), WordCmp.select_ofBool]
  simp only [decide_eq_true_eq]

/-- The gate one position before: the state's newer at the first position, else the row's. -/
theorem pay7_apply (x : Vec Ideal S512x1024 .bf16) (w : Vec Ideal S1024x1408 .bf16) (st : Vec Ideal S8x2x1408 .f32) (s : Fin 8) (q : Fin 64)
    (f : Fin 1408) : k0_pay7 x w st (ix3 s q f)
      = if q.val = 0 then st (ix3 s 1 f) else k0_pay4 x w (ix3 s ⟨(q.val + 64 - 1) % 64, by omega⟩ f) := by
  pointwise [k0_pay7, k0_pay6]
  rw [sel_row q 0 (by omega)]

/-- The gate two positions before: the state's two at the first two positions, else the row's. -/
theorem pay8_apply (x : Vec Ideal S512x1024 .bf16) (w : Vec Ideal S1024x1408 .bf16) (st : Vec Ideal S8x2x1408 .f32) (s : Fin 8) (q : Fin 64)
    (f : Fin 1408) : k0_pay8 x w st (ix3 s q f)
      = if q.val = 0 then st (ix3 s 0 f) else if q.val = 1 then st (ix3 s 1 f)
        else k0_pay4 x w (ix3 s ⟨(q.val + 64 - 2) % 64, by omega⟩ f) := by
  pointwise [k0_pay8, k0_pay6]
  rw [sel_row q 0 (by omega), sel_row q 1 (by omega)]

/-- A block's share of the down projection. -/
theorem pay9_apply (G u p1 p2 : FVec Ideal S8x64x1408 .f32) (cw : Vec Ideal S3x1408 .f32) (cb : Vec Ideal S1x1408 .f32)
    (w : Vec Ideal S1408x1024 .bf16) (s : Fin 8) (q : Fin 64) (d : Fin 1024) : k0_pay9 G u p1 p2 cw cb w (ix2 (row s q) d)
      = ∑ f : Fin 1408, gelu (conv (cb (ix2 0 f)) (cw (ix2 0 f)) (cw (ix2 1 f)) (cw (ix2 2 f)) (p2 (ix3 s q f)) (p1 (ix3 s q f)) (G (ix3 s q f)))
          * u (ix3 s q f) * w (ix2 f d) := by
  have e0 : ∀ h, (⟨(row s q).val / 64, h⟩ : Fin 8) = s := fun _ => Fin.ext (by show (64 * s.val + q.val) / 64 = s.val; omega)
  have e1 : ∀ h, (⟨(row s q).val % 64, h⟩ : Fin 64) = q := fun _ => Fin.ext (by show (64 * s.val + q.val) % 64 = q.val; omega)
  pointwise [k0_pay9]
  simp only [e0, e1]
  rfl

/-- The first half: the row plus its share. -/
theorem pay10_apply (G u p1 p2 : FVec Ideal S8x64x1408 .f32) (cw : Vec Ideal S3x1408 .f32) (cb : Vec Ideal S1x1408 .f32)
    (w : Vec Ideal S1408x1024 .bf16) (x : Vec Ideal S512x1024 .f32) (r : Fin 512) (d : Fin 1024) :
    k0_pay10 G u p1 p2 cw cb w x (ix2 r d) = x (ix2 r d) + k0_pay9 G u p1 p2 cw cb w (ix2 r d) := by
  pointwise [k0_pay10]

/-- The second half: its share added, then the last norm. -/
theorem pay1_apply (y x : Vec Ideal S512x1024 .f32) (g : Vec Ideal S1x1024 .f32) (r : Fin 512) (d : Fin 1024) :
    k0_pay1 y x g (ix2 r d) = nrm (fun d => x (ix2 r d) + y (ix2 r d)) (fun k => g (ix2 0 k)) d := by
  pointwise [k0_pay1]
  rfl

/-- The sequences' last two gates. -/
theorem pay2_apply (G : FVec Ideal S8x64x1408 .f32) (s : Fin 8) (n : Fin 2) (f : Fin 1408) :
    k0_pay2 G (ix3 s n f) = G (ix3 s ⟨62 + n.val, by omega⟩ f) := by
  pointwise [k0_pay2]

end Cert.Proof.FS
-- ==== Proof.FS.Reads.lean ====
/-
  The conv feed-forward of the sample batch: what each input block of a point reads, in the arrays as launched.
-/
module

public import proofs.«01_k».proof.Proof.FS.Body

@[expose] public section

set_option maxRecDepth 16384

noncomputable section

namespace Cert.Proof.FS

open Cert.Kernel8Ideal Cert.Kernel8Ideal.Gen
open Idealize.ShloMosaic Idealize.ShloMosaic.TcCoe
open Idealize.ShloMosaic.Pipeline

theorem lt8 (t : Fin cfg0.N) : t.val < 8 := t.isLt

/-- The sequence `s` of point `t`'s tile, -/
def bb (t : Fin cfg0.N) (s : Fin 8) : Fin 32 := ⟨8 * (t.val / 2) + s.val, by have := lt8 t; omega⟩

/-- and the hidden column of the block's column `f`. -/
def cc (t : Fin cfg0.N) (f : Fin 1408) : Fin 2816 := ⟨1408 * (t.val % 2) + f.val, by omega⟩

/-- The block indices of point `t`. -/
theorem idx : ∀ t : Fin cfg0.N, win0_0.index t = ![t.val / 2, 0] ∧ win0_2.index t = ![0, 0]
    ∧ win0_3.index t = ![0, t.val % 2] ∧ win0_4.index t = ![0, t.val % 2] ∧ win0_5.index t = ![0, t.val % 2] ∧ win0_6.index t = ![0, t.val % 2]
    ∧ win0_7.index t = ![t.val % 2, 0] ∧ win0_8.index t = ![t.val / 2, 0, t.val % 2] ∧ win0_9.index t = ![0, 0]
    ∧ win0_10.index t = ![t.val / 2, 0] ∧ win0_11.index t = ![t.val / 2, 0, t.val % 2] := (by decide +kernel : ∀ t : Fin grid0.N, _)

variable (m : (ℓ : Loc nD τ sig) → Buf (Elt Ideal) ℓ)

/-- An argument array as launched. -/
abbrev arg (c : Dev nD) (b : Ref sig .tc) : Buf (Elt Ideal) ((c : Thread nD τ).loc b) := m ((c : Thread nD τ).loc b)

/-- What the host's lines leave in a buffer before the region. -/
theorem V_host (c : Dev nD) (b : Ref sig .tc) :
    V m c b = StableHlo.after (hostOps0 (F := Ideal)) (fun b => m (c, b)) (Proc.devRef .tc b) := by
  show StableHlo.after (List.flatten [hostOps0]) _ _ = _
  rw [List.flatten_cons, List.flatten_nil, List.append_nil]

theorem read0 (c : Dev nD) (t : Fin cfg0.N) (s : Fin 8) (q : Fin 64) (k : Fin 1024) :
    (iblk m c 0 t : Vec Ideal S512x1024 .f32) (ix2 (row s q) k) = (arg m c main_arg0 : Vec Ideal S32x64x1024 .f32) (ix3 (bb t s) q k) := by
  simp only [bb, row]
  blk_simp [iblk, idx t]
  rw [V_host]
  entry_read
  pointwise
  blk_ext [idx t]

theorem read2 (c : Dev nD) (t : Fin cfg0.N) (k : Fin 1024) :
    (iblk m c 2 t : Vec Ideal S1x1024 .f32) (ix2 0 k) = (arg m c main_arg1 : Vec Ideal S1024 .f32) (ix1 k) := by
  blk_simp [iblk, idx t]
  rw [V_host]
  entry_read
  pointwise
  blk_ext [idx t]

theorem read3 (c : Dev nD) (t : Fin cfg0.N) (k : Fin 1024) (f : Fin 1408) :
    (iblk m c 3 t : Vec Ideal S1024x1408 .bf16) (ix2 k f) = (arg m c main_arg2 : Vec Ideal S1024x5632 .f32) (ix2 k ⟨(cc t f).val, by omega⟩) := by
  simp only [cc]
  blk_simp [iblk, idx t]
  rw [V_host]
  entry_read
  pointwise
  blk_ext [idx t]

theorem read4 (c : Dev nD) (t : Fin cfg0.N) (k : Fin 1024) (f : Fin 1408) :
    (iblk m c 4 t : Vec Ideal S1024x1408 .bf16) (ix2 k f) = (arg m c main_arg2 : Vec Ideal S1024x5632 .f32) (ix2 k ⟨2816 + (cc t f).val, by omega⟩) := by
  simp only [cc]
  blk_simp [iblk, idx t]
  rw [V_host]
  entry_read
  pointwise
  blk_ext [idx t]

theorem read5 (c : Dev nD) (t : Fin cfg0.N) (n : Fin 3) (f : Fin 1408) :
    (iblk m c 5 t : Vec Ideal S3x1408 .f32) (ix2 n f) = (arg m c main_arg3 : Vec Ideal S3x2816 .f32) (ix2 n (cc t f)) := by
  simp only [cc]
  blk_ext [iblk, V, idx t]

theorem read6 (c : Dev nD) (t : Fin cfg0.N) (f : Fin 1408) :
    (iblk m c 6 t : Vec Ideal S1x1408 .f32) (ix2 0 f) = (arg m c main_arg4 : Vec Ideal S2816 .f32) (ix1 (cc t f)) := by
  simp only [cc]
  blk_simp [iblk, idx t]
  rw [V_host]
  entry_read
  pointwise
  blk_ext [idx t]

theorem read7 (c : Dev nD) (t : Fin cfg0.N) (f : Fin 1408) (d : Fin 1024) :
    (iblk m c 7 t : Vec Ideal S1408x1024 .bf16) (ix2 f d) = (arg m c main_arg5 : Vec Ideal S2816x1024 .f32) (ix2 (cc t f) d) := by
  simp only [cc]
  blk_simp [iblk, idx t]
  rw [V_host]
  entry_read
  pointwise
  blk_ext [idx t]

theorem read8 (c : Dev nD) (t : Fin cfg0.N) (s : Fin 8) (n : Fin 2) (f : Fin 1408) :
    (iblk m c 8 t : Vec Ideal S8x2x1408 .f32) (ix3 s n f) = (arg m c main_arg6 : Vec Ideal S32x2x2816 .f32) (ix3 (bb t s) n (cc t f)) := by
  simp only [bb, cc]
  blk_ext [iblk, V, idx t]

theorem read9 (c : Dev nD) (t : Fin cfg0.N) (k : Fin 1024) :
    (iblk m c 9 t : Vec Ideal S1x1024 .f32) (ix2 0 k) = (arg m c main_arg7 : Vec Ideal S1024 .f32) (ix1 k) := by
  blk_simp [iblk, idx t]
  rw [V_host]
  entry_read
  pointwise
  blk_ext [idx t]

end Cert.Proof.FS
-- ==== Proof.FS.Tile.lean ====
/-
  The conv feed-forward of the sample batch: a tile's gates, convolved gates and share of the down projection, in the arrays
  as launched.
-/
module

public import proofs.«01_k».proof.Proof.FS.Reads

@[expose] public section

set_option maxRecDepth 16384

noncomputable section

namespace Cert.Proof.FS

open Cert.Kernel8Ideal Cert.Kernel8Ideal.Gen
open Idealize.ShloMosaic Idealize.ShloMosaic.TcCoe
open Idealize.ShloMosaic.Pipeline

section
variable (a0 : Vec Ideal S32x64x1024 .f32) (a1 : Vec Ideal S1024 .f32) (a2 : Vec Ideal S1024x5632 .f32) (a6 : Vec Ideal S32x2x2816 .f32)

/-- Behind the state a position holds the state's value, -/
theorem padded_st (b : Fin 32) (q : ℕ) (hq : q < 66) (f : Fin 2816) (n : Fin 2) (h : q = n.val) :
    padded a0 a1 a2 a6 b q hq f = a6 (ix3 b n f) := by
  subst h
  unfold padded
  rw [dif_pos n.isLt]

/-- and past it the gate of the row two before. -/
theorem padded_row (b : Fin 32) (q : ℕ) (hq : q < 66) (f : Fin 2816) (p : Fin 64) (h : q = p.val + 2) :
    padded a0 a1 a2 a6 b q hq f = gate a0 a1 a2 b p f := by
  subst h
  unfold padded
  rw [dif_neg (by omega)]
  rfl
end

variable (m : (ℓ : Loc nD τ sig) → Buf (Elt Ideal) ℓ) (c : Dev nD) (t : Fin cfg0.N)

/-- A block holds the normed rows of the tile. -/
def IsRows (X : Vec Ideal S512x1024 .bf16) : Prop :=
  ∀ (s : Fin 8) (q : Fin 64) (k : Fin 1024), X (ix2 (row s q) k) = nx (arg m c main_arg0) (arg m c main_arg1) (bb t s) q k

/-- What the first half's point computes is such. -/
theorem isRows_pay3 : IsRows m c t (k0_pay3 (iblk m c 0 t) (iblk m c 2 t)) := fun s q k => by
  rw [pay3_apply]
  exact congrArg₂ (fun x g => nrm x g k) (funext fun k => read0 m c t s q k) (funext fun k => read2 m c t k)

variable {m c t} {X : Vec Ideal S512x1024 .bf16}

/-- The tile's gates; -/
theorem gate_tile (hX : IsRows m c t X) (s : Fin 8) (q : Fin 64) (f : Fin 1408) :
    k0_pay4 X (iblk m c 3 t) (ix3 s q f) = gate (arg m c main_arg0) (arg m c main_arg1) (arg m c main_arg2) (bb t s) q (cc t f) :=
  (pay4_apply X _ s q f).trans (Finset.sum_congr rfl fun k _ => congrArg₂ (· * ·) (hX s q k) (read3 m c t k f))

/-- the other half. -/
theorem up_tile (hX : IsRows m c t X) (s : Fin 8) (q : Fin 64) (f : Fin 1408) :
    k0_pay5 X (iblk m c 4 t) (ix3 s q f) = up (arg m c main_arg0) (arg m c main_arg1) (arg m c main_arg2) (bb t s) q (cc t f) :=
  (pay5_apply X _ s q f).trans (Finset.sum_congr rfl fun k _ => congrArg₂ (· * ·) (hX s q k) (read4 m c t k f))

/-- The gate one position before; -/
theorem newer (hX : IsRows m c t X) (s : Fin 8) (q : Fin 64) (f : Fin 1408) :
    k0_pay7 X (iblk m c 3 t) (iblk m c 8 t) (ix3 s q f)
      = padded (arg m c main_arg0) (arg m c main_arg1) (arg m c main_arg2) (arg m c main_arg6) (bb t s) (1 + q.val) (by omega) (cc t f) := by
  rw [pay7_apply, gate_tile hX]
  split
  · exact (read8 m c t s 1 f).trans (padded_st _ _ _ _ _ _ _ _ 1 (by simp; omega)).symm
  · exact (padded_row _ _ _ _ _ _ _ _ _ (by dsimp only; omega)).symm

/-- two positions before. -/
theorem older (hX : IsRows m c t X) (s : Fin 8) (q : Fin 64) (f : Fin 1408) :
    k0_pay8 X (iblk m c 3 t) (iblk m c 8 t) (ix3 s q f)
      = padded (arg m c main_arg0) (arg m c main_arg1) (arg m c main_arg2) (arg m c main_arg6) (bb t s) q.val (by omega) (cc t f) := by
  rw [pay8_apply, gate_tile hX]
  split
  · exact (read8 m c t s 0 f).trans (padded_st _ _ _ _ _ _ _ _ 0 (by assumption)).symm
  split
  · exact (read8 m c t s 1 f).trans (padded_st _ _ _ _ _ _ _ _ 1 (by assumption)).symm
  · exact (padded_row _ _ _ _ _ _ _ _ _ (by dsimp only; omega)).symm

/-- A block's share of the down projection of a tile's row. -/
theorem share_tile (hX : IsRows m c t X) (s : Fin 8) (q : Fin 64) (d : Fin 1024) :
    k0_pay9 (k0_pay4 X (iblk m c 3 t)) (k0_pay5 X (iblk m c 4 t)) (k0_pay7 X (iblk m c 3 t) (iblk m c 8 t))
        (k0_pay8 X (iblk m c 3 t) (iblk m c 8 t)) (iblk m c 5 t) (iblk m c 6 t) (iblk m c 7 t) (ix2 (row s q) d)
      = ∑ f : Fin 1408, hid (arg m c main_arg0) (arg m c main_arg1) (arg m c main_arg2) (arg m c main_arg3) (arg m c main_arg4) (arg m c main_arg6)
          (bb t s) q (cc t f) * (arg m c main_arg5 : Vec Ideal S2816x1024 .f32) (ix2 (cc t f) d) := by
  rw [pay9_apply]
  refine Finset.sum_congr rfl fun f _ => ?_
  have e2 : gate (arg m c main_arg0) (arg m c main_arg1) (arg m c main_arg2) (bb t s) q (cc t f)
      = padded (arg m c main_arg0) (arg m c main_arg1) (arg m c main_arg2) (arg m c main_arg6) (bb t s) (2 + q.val) (by omega) (cc t f) :=
    (padded_row _ _ _ _ _ _ _ _ _ (by omega)).symm
  rw [older hX, newer hX, gate_tile hX, up_tile hX, e2, read5 m c t 0 f, read5 m c t 1 f, read5 m c t 2 f, read6 m c t f]
  exact congrArg₂ (· * ·) rfl (read7 m c t f d)

end Cert.Proof.FS
-- ==== Proof.FS.Final.lean ====
/-
  The conv feed-forward of the sample batch: the idealized kernel's result arrays after the run.
-/
module

public import Idealize.ShloMosaic.Lib.Pipeline.ReadBack
public import proofs.«01_k».proof.Proof.FS.Tile

@[expose] public section

set_option maxRecDepth 16384

noncomputable section

namespace Cert.Proof.FS

open Cert.Kernel8Ideal Cert.Kernel8Ideal.Gen
open Idealize.ShloMosaic Idealize.ShloMosaic.TcCoe
open Idealize.ShloMosaic.Pipeline

variable (m : (ℓ : Loc nD τ sig) → Buf (Elt Ideal) ℓ) (c : Dev nD) (t : Fin cfg0.N)

/-- The residual's entry. -/
def start (a0 : Vec Ideal S32x64x1024 .f32) (b : Fin 32) (p : Fin 64) (d : Fin 1024) : EReal := a0 (ix3 b p d)

/-- What a first-half point leaves in the kept rows; -/
theorem even_rows (h : t.val % 2 = 0) : IsRows m c t (outsAt0 m c t.val t.isLt).2.2 := fun s q k => by
  rw [outsAt0_A m c t h h (by omega)]
  frame_out
  exact isRows_pay3 m c t s q k

/-- in the result's block; -/
theorem even_out (h : t.val % 2 = 0) (s : Fin 8) (q : Fin 64) (d : Fin 1024) : (outsAt0 m c t.val t.isLt).1 (ix2 (row s q) d)
    = start (arg m c main_arg0) (bb t s) q d
      + ∑ f : Fin 1408, hid (arg m c main_arg0) (arg m c main_arg1) (arg m c main_arg2) (arg m c main_arg3) (arg m c main_arg4) (arg m c main_arg6)
          (bb t s) q (cc t f) * (arg m c main_arg5 : Vec Ideal S2816x1024 .f32) (ix2 (cc t f) d) := by
  rw [outsAt0_A m c t h h (by omega)]
  frame_out
  refine (pay10_apply _ _ _ _ _ _ _ _ _ d).trans ?_
  exact congrArg₂ (· + ·) (read0 m c t s q d) (share_tile (isRows_pay3 m c t) s q d)

/-- and in the tails' block. -/
theorem even_tail (h : t.val % 2 = 0) (s : Fin 8) (n : Fin 2) (f : Fin 1408) : (outsAt0 m c t.val t.isLt).2.1 (ix3 s n f)
    = gate (arg m c main_arg0) (arg m c main_arg1) (arg m c main_arg2) (bb t s) ⟨62 + n.val, by omega⟩ (cc t f) := by
  rw [outsAt0_A m c t h h (by omega)]
  frame_out
  rw [pay2_apply]
  exact gate_tile (isRows_pay3 m c t) s _ f

/-- The point before a second-half point. -/
abbrev pred : Fin cfg0.N := ⟨t.val - 1, Nat.lt_of_le_of_lt (Nat.sub_le _ _) t.isLt⟩

variable {t}

theorem bb_pred (h : t.val % 2 = 1) (s : Fin 8) : bb (pred t) s = bb t s := by
  simp only [bb, pred, Fin.mk.injEq]; omega

/-- The rows it kept are the second half's too. -/
theorem odd_rows (h : t.val % 2 = 1) : IsRows m c t (outsAt0 m c (t.val - 1) (Nat.lt_of_le_of_lt (Nat.sub_le _ _) t.isLt)).2.2 := fun s q k => by
  rw [← bb_pred h]
  exact even_rows m c (pred t) (by simp only [pred]; omega) s q k

/-- A sum over the hidden columns is the sum over the first half's and the second's. -/
theorem sum_halves (F : Fin 2816 → EReal) :
    ∑ f, F f = (∑ f : Fin 1408, F ⟨f.val, by omega⟩) + ∑ f : Fin 1408, F ⟨1408 + f.val, by omega⟩ :=
  Fin.sum_univ_add (a := 1408) (b := 1408) F

/-- The whole sum a second-half point has before the last norm. -/
theorem odd_sum (h : t.val % 2 = 1) (s : Fin 8) (q : Fin 64) (d : Fin 1024) :
    (outsAt0 m c (t.val - 1) (Nat.lt_of_le_of_lt (Nat.sub_le _ _) t.isLt)).1 (ix2 (row s q) d)
      + ∑ f : Fin 1408, hid (arg m c main_arg0) (arg m c main_arg1) (arg m c main_arg2) (arg m c main_arg3) (arg m c main_arg4) (arg m c main_arg6)
          (bb t s) q (cc t f) * (arg m c main_arg5 : Vec Ideal S2816x1024 .f32) (ix2 (cc t f) d)
      = added (arg m c main_arg0) (arg m c main_arg1) (arg m c main_arg2) (arg m c main_arg3) (arg m c main_arg4) (arg m c main_arg5) (arg m c main_arg6)
          (bb t s) q d := by
  have e := even_out m c (pred t) (by simp only [pred]; omega) s q d
  rw [bb_pred h] at e
  have c0 : ∀ f : Fin 1408, cc (pred t) f = ⟨f.val, by omega⟩ := fun f => by simp only [cc, pred, Fin.mk.injEq]; omega
  have c1 : ∀ f : Fin 1408, cc t f = ⟨1408 + f.val, by omega⟩ := fun f => by simp only [cc, Fin.mk.injEq]; omega
  refine (congrArg (· + _) e).trans ?_
  simp only [c0, c1]
  rw [add_assoc]
  unfold added
  rw [sum_halves]
  rfl

/-- What a second-half point leaves in the result's block, -/
theorem odd_out (h : t.val % 2 = 1) (s : Fin 8) (q : Fin 64) (d : Fin 1024) : (outsAt0 m c t.val t.isLt).1 (ix2 (row s q) d)
    = res (arg m c main_arg0) (arg m c main_arg1) (arg m c main_arg2) (arg m c main_arg3) (arg m c main_arg4) (arg m c main_arg5) (arg m c main_arg6)
        (arg m c main_arg7) (bb t s) q d := by
  rw [outsAt0_B m c t (by omega) (by omega) h]
  frame_out
  simp only [read_unread_whole]
  refine (pay1_apply _ _ _ _ d).trans ?_
  refine congrArg₂ (fun x g => nrm x g d) (funext fun d => ?_) (funext fun k => read9 m c t k)
  exact (congrArg _ (share_tile (odd_rows m c h) s q d)).trans (odd_sum m c h s q d)

/-- and in the tails' block. -/
theorem odd_tail (h : t.val % 2 = 1) (s : Fin 8) (n : Fin 2) (f : Fin 1408) : (outsAt0 m c t.val t.isLt).2.1 (ix3 s n f)
    = gate (arg m c main_arg0) (arg m c main_arg1) (arg m c main_arg2) (bb t s) ⟨62 + n.val, by omega⟩ (cc t f) := by
  rw [outsAt0_B m c t (by omega) (by omega) h]
  frame_out
  rw [read_unread_whole, pay2_apply]
  exact gate_tile (odd_rows m c h) s _ f

/-! ## The arrays after the run -/

/-- The result's block at a point, in the result. -/
theorem emb10 (r : Fin 512) (d : Fin 1024) :
    (((View.whole main_v9_0).slice (win0_10.rect t)).emb (ix2 r d : S512x1024.Idx) : S2048x1024.Idx)
      = ix2 ⟨t.val / 2 * 512 + r.val, by have := lt8 t; omega⟩ d := by
  blk_ext [idx t]

/-- The result. -/
theorem final_y : (dats m 0 c).arrAt 10 cfg0.N
    = resA (arg m c main_arg0) (arg m c main_arg1) (arg m c main_arg2) (arg m c main_arg3)
        (arg m c main_arg4) (arg m c main_arg5) (arg m c main_arg6) (arg m c main_arg7) := by
  refine (dats m 0 c).arrAt_eq_of_covers 10 _ (by decide +kernel) fun t hf y => ?_
  have h := (flush0_10 t).mp hf
  blk_simp
  rw [after0_10]
  idx_vars y
  obtain ⟨s, q, rfl⟩ : ∃ (s : Fin 8) (q : Fin 64), y0 = row s q :=
    ⟨⟨y0.val / 64, by omega⟩, ⟨y0.val % 64, by omega⟩, Fin.ext (by simp only [row]; omega)⟩
  refine (odd_out m c h s q y1).trans ?_
  rw [emb10]
  have hb : bb t s = ⟨(t.val / 2 * 512 + (row s q).val) / 64, by have := lt8 t; omega⟩ := by simp only [bb, row, Fin.mk.injEq]; omega
  have hp : q = ⟨(t.val / 2 * 512 + (row s q).val) % 64, Nat.mod_lt _ (by decide)⟩ := Fin.ext (by simp only [row]; omega)
  refine (congrArg₂ (fun b p => res (arg m c main_arg0) (arg m c main_arg1) (arg m c main_arg2) (arg m c main_arg3)
        (arg m c main_arg4) (arg m c main_arg5) (arg m c main_arg6) (arg m c main_arg7) b p y1) hb hp).trans ?_
  rfl

/-- The tails' block at a point, in the tails. -/
theorem emb11 (s : Fin 8) (n : Fin 2) (f : Fin 1408) :
    (((View.whole main_v9_1).slice (win0_11.rect t)).emb (ix3 s n f : S8x2x1408.Idx) : S32x2x2816.Idx) = ix3 (bb t s) n (cc t f) := by
  have e : cc t f = ⟨t.val % 2 * 1408 + f.val, by omega⟩ := by simp only [cc, Fin.mk.injEq]; omega
  have e' : bb t s = ⟨t.val / 2 * 8 + s.val, by have := lt8 t; omega⟩ := by simp only [bb, Fin.mk.injEq]; omega
  rw [e, e']
  blk_ext [idx t]

theorem any_tail (s : Fin 8) (n : Fin 2) (f : Fin 1408) : (outsAt0 m c t.val t.isLt).2.1 (ix3 s n f)
    = gate (arg m c main_arg0) (arg m c main_arg1) (arg m c main_arg2) (bb t s) ⟨62 + n.val, by omega⟩ (cc t f) := by
  rcases Nat.mod_two_eq_zero_or_one t.val with h | h
  · exact even_tail m c t h s n f
  · exact odd_tail m c h s n f

/-- The new state. -/
theorem final_t : (dats m 0 c).arrAt 11 cfg0.N = tailA (arg m c main_arg0) (arg m c main_arg1) (arg m c main_arg2) (arg m c main_arg6) := by
  refine (dats m 0 c).arrAt_eq_of_covers 11 _ (by decide +kernel) fun t _ y => ?_
  blk_simp
  rw [after0_11]
  idx_vars y
  refine (any_tail m c y0 y1 y2).trans ?_
  rw [emb11]
  exact (padded_row _ _ _ _ _ (64 + y1.val) (by omega) _ ⟨62 + y1.val, by omega⟩ (by dsimp only; omega)).symm

/-- The run leaves the result and the new state, and the arguments as they were. -/
theorem run (g : Dev nD → PrngReg) : θ_run defs (onTc (τ := τ) (main (F := Ideal))) ⟨m, fun _ => 0, g⟩ (fun r => ∀ c : Dev nD,
      r.2.mem ((c.tc : Thread nD τ).loc main_v9_0) = resA (arg m c main_arg0) (arg m c main_arg1) (arg m c main_arg2) (arg m c main_arg3)
        (arg m c main_arg4) (arg m c main_arg5) (arg m c main_arg6) (arg m c main_arg7)
      ∧ r.2.mem ((c.tc : Thread nD τ).loc main_v9_1) = tailA (arg m c main_arg0) (arg m c main_arg1) (arg m c main_arg2) (arg m c main_arg6)) := by
  refine (θ_run defs _ _).mono (fun r h c => ⟨?_, ?_⟩) (run_main m g)
  · exact ((h c).1 10).trans (final_y m c)
  · exact ((h c).1 11).trans (final_t m c)

end Cert.Proof.FS
-- ==== Proof.FS.Ref.lean ====
/-
  The conv feed-forward of the sample batch: what the reference's results hold.
-/
module

public import proofs.«01_k».proof.Proof.Gen.Reference8Ideal.Read
public import proofs.«01_k».proof.Proof.FS.Spec

@[expose] public section

set_option maxRecDepth 16384

noncomputable section

namespace Cert.Proof.FS

open Cert.Reference8Ideal Cert.Reference8Ideal.Read
open Idealize.ShloMosaic Idealize.ShloMosaic.TcCoe

variable (a0 : Vec Ideal S32x64x1024 .f32) (a1 : Vec Ideal S1024 .f32) (a2 : Vec Ideal S1024x5632 .f32) (a3 : Vec Ideal S3x2816 .f32)
  (a4 : Vec Ideal S2816 .f32) (a5 : Vec Ideal S2816x1024 .f32) (a6 : Vec Ideal S32x2x2816 .f32) (a7 : Vec Ideal S1024 .f32)

/-- The reference's normed rows. -/
theorem ref_nx (b : Fin 32) (p : Fin 64) (k : Fin 1024) : val_main_v12 a0 a1 (ix3 b p k) = nx a0 a1 b p k := by
  pointwise [val_main_v0, val_main_cst, val_main_v1, val_main_v2, val_main_cst_0, val_main_v3, val_main_v4, val_main_cst_1, val_main_v5,
    val_main_v6, val_main_v7, val_main_v8, val_main_v9, val_main_v10, val_main_v11, val_main_v12]
  rfl

/-- Its gates; -/
theorem ref_gate (b : Fin 32) (p : Fin 64) (f : Fin 2816) : val_main_v14 a0 a1 a2 (ix3 b p f) = gate a0 a1 a2 b p f := by
  pointwise [val_main_v14, val_main_v13]
  simp only [ref_nx]
  rfl

/-- the other half; -/
theorem ref_up (b : Fin 32) (p : Fin 64) (f : Fin 2816) : val_main_v15 a0 a1 a2 (ix3 b p f) = up a0 a1 a2 b p f := by
  pointwise [val_main_v15, val_main_v13]
  simp only [ref_nx]
  rfl

/-- the gates behind the state; -/
theorem ref_padded (b : Fin 32) (q : Fin 66) (f : Fin 2816) :
    val_main_v16 a0 a1 a2 a6 (ix3 b q f) = padded a0 a1 a2 a6 b q.val q.isLt f := by
  pointwise [val_main_v16]
  simp only [ref_gate]
  rfl

/-- convolved; -/
theorem ref_cgate (b : Fin 32) (p : Fin 64) (f : Fin 2816) : val_main_v39 a0 a1 a2 a3 a4 a6 (ix3 b p f) = cgate a0 a1 a2 a3 a4 a6 b p f := by
  pointwise [val_main_v17, val_main_v18, val_main_v19, val_main_v20, val_main_v21, val_main_v22, val_main_v23, val_main_v24, val_main_v25,
    val_main_v26, val_main_v27, val_main_v28, val_main_v29, val_main_v30, val_main_v31, val_main_v32, val_main_v33, val_main_v34,
    val_main_v35, val_main_v36, val_main_v37, val_main_v38, val_main_v39]
  simp only [ref_padded]
  rfl

/-- the hidden row; -/
theorem ref_hid (b : Fin 32) (p : Fin 64) (f : Fin 2816) : val_main_v53 a0 a1 a2 a3 a4 a6 (ix3 b p f) = hid a0 a1 a2 a3 a4 a6 b p f := by
  pointwise [val_main_v40, val_main_v41, val_main_cst_2, val_main_v42, val_main_v43, val_main_v44, val_main_cst_3, val_main_v45,
    val_main_v46, val_main_v47, val_main_cst_4, val_main_v48, val_main_v49, val_main_cst_5, val_main_v50, val_main_v51, val_main_v52, val_main_v53]
  simp only [ref_cgate, ref_up]
  rfl

/-- the sum with the row; -/
theorem ref_added (b : Fin 32) (p : Fin 64) (d : Fin 1024) :
    val_main_v56 a0 a1 a2 a3 a4 a5 a6 (ix3 b p d) = added a0 a1 a2 a3 a4 a5 a6 b p d := by
  pointwise [val_main_v54, val_main_v56]
  simp only [ref_hid]
  rfl

/-- and the result. -/
theorem ref_res (b : Fin 32) (p : Fin 64) (d : Fin 1024) :
    val_main_v69 a0 a1 a2 a3 a4 a5 a6 a7 (ix3 b p d) = res a0 a1 a2 a3 a4 a5 a6 a7 b p d := by
  pointwise [val_main_v57, val_main_cst_6, val_main_v58, val_main_v59, val_main_cst_7, val_main_v60, val_main_v61, val_main_cst_8,
    val_main_v62, val_main_v63, val_main_v64, val_main_v65, val_main_v66, val_main_v67, val_main_v68, val_main_v69]
  simp only [ref_added]
  rfl

/-- The reference's first result. -/
theorem ref_eq : val_main_v70 a0 a1 a2 a3 a4 a5 a6 a7 = resA a0 a1 a2 a3 a4 a5 a6 a7 := by
  funext z
  obtain ⟨r, d, rfl⟩ : ∃ (r : Fin 2048) (d : Fin 1024), z = ix2 r d := ⟨z 0, z 1, ValueIdx.eq_ix2 z⟩
  pointwise [val_main_v70]
  refine (ref_res a0 a1 a2 a3 a4 a5 a6 a7 _ _ _).trans ?_
  rfl

/-- Its second. -/
theorem ref_tail : val_main_v55 a0 a1 a2 a6 = tailA a0 a1 a2 a6 := by
  funext z
  obtain ⟨b, n, f, rfl⟩ : ∃ (b : Fin 32) (n : Fin 2) (f : Fin 2816), z = ix3 b n f := ⟨z 0, z 1, z 2, ValueIdx.eq_ix3 z⟩
  pointwise [val_main_v55]
  refine (ref_padded a0 a1 a2 a6 _ _ _).trans ?_
  rfl

end Cert.Proof.FS
-- ==== Proof.FG.Spec.lean ====
/-
  The conv feed-forward over the extended reals, element by element, from the arrays the call is given.
-/
module

public import proofs.«01_k».proof.Proof.Gen.Kernel9Ideal.Frame
public import proofs.«01_k».proof.Proof.Row
public import Idealize.ShloMosaic.Lib.Pipeline.ValueKit
public import Idealize.ShloMosaic.Lib.Pointwise

@[expose] public section

noncomputable section

namespace Cert.Proof.FG

open Cert.Kernel9Ideal Cert.Kernel9Ideal.Gen
open Idealize.ShloMosaic Idealize.ShloMosaic.TcCoe

/-- The tanh form of gelu, its constants the float words both programs hold. -/
def gelu (c : EReal) : EReal :=
  c * (Ideal.ofBits FTy.f32 1056964608#32 * (1 + Ideal.tanh (Ideal.ofBits FTy.f32 1061962282#32
    * (c + Ideal.ofBits FTy.f32 1027024659#32 * (c * c * c)))))

/-- The convolution of three neighbouring gate values, oldest first. -/
def conv (b w0 w1 w2 p2 p1 p0 : EReal) : EReal := b + w0 * p2 + w1 * p1 + w2 * p0

variable (a0 : Vec Ideal S4x4096x1024 .f32) (a1 : Vec Ideal S1024 .f32) (a2 : Vec Ideal S1024x5632 .f32) (a3 : Vec Ideal S3x2816 .f32)
  (a4 : Vec Ideal S2816 .f32) (a5 : Vec Ideal S2816x1024 .f32) (a6 : Vec Ideal S4x2x2816 .f32)

/-- The normed row at position `p` of sequence `b`. -/
def nx (b : Fin 4) (p : Fin 4096) (k : Fin 1024) : EReal := nrm (fun k => a0 (ix3 b p k)) (fun k => a1 (ix1 k)) k

/-- The gate half of the up projection. -/
def gate (b : Fin 4) (p : Fin 4096) (f : Fin 2816) : EReal := ∑ k, nx a0 a1 b p k * a2 (ix2 k ⟨f.val, by omega⟩)

/-- Its other half. -/
def up (b : Fin 4) (p : Fin 4096) (f : Fin 2816) : EReal := ∑ k, nx a0 a1 b p k * a2 (ix2 k ⟨2816 + f.val, by omega⟩)

/-- The gates of a sequence behind the two the state holds. -/
def padded (b : Fin 4) (q : ℕ) (hq : q < 4098) (f : Fin 2816) : EReal :=
  if h : q < 2 then a6 (ix3 b ⟨q, h⟩ f) else gate a0 a1 a2 b ⟨q - 2, by omega⟩ f

/-- The convolved gate. -/
def cgate (b : Fin 4) (p : Fin 4096) (f : Fin 2816) : EReal :=
  conv (a4 (ix1 f)) (a3 (ix2 0 f)) (a3 (ix2 1 f)) (a3 (ix2 2 f)) (padded a0 a1 a2 a6 b p.val (by omega) f)
    (padded a0 a1 a2 a6 b (1 + p.val) (by omega) f) (padded a0 a1 a2 a6 b (2 + p.val) (by omega) f)

/-- The hidden row. -/
def hid (b : Fin 4) (p : Fin 4096) (f : Fin 2816) : EReal := gelu (cgate a0 a1 a2 a3 a4 a6 b p f) * up a0 a1 a2 b p f

/-- The row with the feed-forward added. -/
def added (b : Fin 4) (p : Fin 4096) (d : Fin 1024) : EReal :=
  a0 (ix3 b p d) + ∑ f, hid a0 a1 a2 a3 a4 a6 b p f * a5 (ix2 f d)

/-- The whole result, the sequences one below the other. -/
def resA : Vec Ideal S16384x1024 .f32 := fun z =>
  added a0 a1 a2 a3 a4 a5 a6 ⟨(z 0).val / 4096, Nat.div_lt_of_lt_mul (z 0).isLt⟩ ⟨(z 0).val % 4096, Nat.mod_lt _ (by decide)⟩ (z 1)

/-- The new state: a sequence's last two gates. -/
def tailA : Vec Ideal S4x2x2816 .f32 := fun z => padded a0 a1 a2 a6 (z 0) (4096 + (z 1).val) (Nat.add_lt_add_left (z 1).isLt 4096) (z 2)

end Cert.Proof.FG
-- ==== Proof.FG.Body.lean ====
/-
  The conv feed-forward: the values the idealized kernel's body computes from the blocks it reads.
-/
module

public import proofs.«01_k».proof.Proof.FG.Spec

@[expose] public section

set_option maxRecDepth 16384

noncomputable section

namespace Cert.Proof.FG

open Cert.Kernel9Ideal Cert.Kernel9Ideal.Gen
open Idealize.ShloMosaic Idealize.ShloMosaic.TcCoe

/-- Whether the tile is a sequence's first, as the body computes it: the tile's number modulo the tiles of a sequence, with the
    sign's correction. -/
def firstBit (n : ℕ) : BitVec 1 :=
  Scalar.cmpi CmpIPredicate.eq
    (Scalar.select
      (Scalar.andi
        (Scalar.xori (Scalar.cmpi CmpIPredicate.slt (Scalar.remsi (BitVec.ofNat 32 n) 8#32) 0#32) 0#1)
        (Scalar.cmpi CmpIPredicate.ne (Scalar.remsi (BitVec.ofNat 32 n) 8#32) 0#32))
      (Scalar.addi (Scalar.remsi (BitVec.ofNat 32 n) 8#32) 8#32)
      (Scalar.remsi (BitVec.ofNat 32 n) 8#32))
    0#32

/-- It is so at every eighth tile. -/
theorem firstBit_eq : ∀ n : Fin 32, firstBit n.val = BitVec.ofBool (decide (n.val % 8 = 0)) := by decide +kernel

/-- The norm of a tile's rows. -/
theorem pay6_apply (x : Vec Ideal S512x1024 .f32) (g : Vec Ideal S1x1024 .f32) (r : Fin 512) (k : Fin 1024) :
    k0_pay6 x g (ix2 r k) = nrm (fun k => x (ix2 r k)) (fun k => g (ix2 0 k)) k := by
  pointwise [k0_pay6]
  rfl

/-- The norm of the sixteen rows before it. -/
theorem pay7_apply (x : Vec Ideal S16x1024 .f32) (g : Vec Ideal S1x1024 .f32) (r : Fin 16) (k : Fin 1024) :
    k0_pay7 x g (ix2 r k) = nrm (fun k => x (ix2 r k)) (fun k => g (ix2 0 k)) k := by
  pointwise [k0_pay7]
  rfl

theorem pay8_apply (x : Vec Ideal S512x1024 .bf16) (w : Vec Ideal S1024x1408 .bf16) (r : Fin 512) (f : Fin 1408) :
    k0_pay8 x w (ix2 r f) = ∑ k : Fin 1024, x (ix2 r k) * w (ix2 k f) := by
  pointwise [k0_pay8]

theorem pay9_apply (x : Vec Ideal S512x1024 .bf16) (w : Vec Ideal S1024x1408 .bf16) (r : Fin 512) (f : Fin 1408) :
    k0_pay9 x w (ix2 r f) = ∑ k : Fin 1024, x (ix2 r k) * w (ix2 k f) := by
  pointwise [k0_pay9]

/-- The value two rows before the tile's first: the state's, or the sixteen rows' last but one. -/
theorem pay12_apply (i : grid0.Coords) (x : Vec Ideal S16x1024 .bf16) (w : Vec Ideal S1024x1408 .bf16) (st : Vec Ideal S1x2x1408 .f32)
    (f : Fin 1408) : k0_pay12 i x w st (ix2 0 f)
      = Scalar.select (firstBit (i 0).val) (st (ix3 0 0 f)) (∑ k : Fin 1024, x (ix2 14 k) * w (ix2 k f)) := by
  pointwise [k0_pay12, k0_pay11, k0_pay10]
  rfl

/-- The value one row before it, from the state, -/
theorem pay13_apply (st : Vec Ideal S1x2x1408 .f32) (f : Fin 1408) : k0_pay13 st (ix2 0 f) = st (ix3 0 1 f) := by
  pointwise [k0_pay13, k0_pay11]

/-- or from the rows. -/
theorem pay14_apply (x : Vec Ideal S16x1024 .bf16) (w : Vec Ideal S1024x1408 .bf16) (f : Fin 1408) :
    k0_pay14 x w (ix2 0 f) = ∑ k : Fin 1024, x (ix2 15 k) * w (ix2 k f) := by
  pointwise [k0_pay14, k0_pay10]

/-- The word comparison of a row's number. -/
theorem sel_row (r : Fin 512) (n : ℕ) (hn : n < 512) (a b : EReal) :
    Scalar.select (IntOp.cmpi CmpIPredicate.eq (BitVec.ofNat 32 r.val) (BitVec.ofNat 32 n)) a b = if r.val = n then a else b := by
  rw [WordCmp.cmpi_eq_ofNat (by omega) (by omega), WordCmp.select_ofBool]
  simp only [decide_eq_true_eq]

/-- The convolution's row, from the tile's gates `G`, the two before it and whether the tile is a sequence's first. -/
theorem pay15_apply (G : FVec Ideal S512x1408 .f32) (p : Prop) [Decidable p] (v29 v30 v31 : FVec Ideal S1x1408 .f32)
    (cw : Vec Ideal S3x1408 .f32) (cb : Vec Ideal S1x1408 .f32) (r : Fin 512) (f : Fin 1408) :
    k0_pay15 G (BitVec.ofBool (decide p)) v29 v30 v31 cw cb (ix2 r f)
      = conv (cb (ix2 0 f)) (cw (ix2 0 f)) (cw (ix2 1 f)) (cw (ix2 2 f))
          (if r.val = 0 then v29 (ix2 0 f) else if r.val = 1 then (if p then v30 (ix2 0 f) else v31 (ix2 0 f))
            else G (ix2 ⟨(r.val + 512 - 2) % 512, by omega⟩ f))
          (if r.val = 0 then (if p then v30 (ix2 0 f) else v31 (ix2 0 f)) else G (ix2 ⟨(r.val + 512 - 1) % 512, by omega⟩ f))
          (G (ix2 r f)) := by
  pointwise [k0_pay15]
  rw [sel_row r 0 (by omega), sel_row r 1 (by omega), sel_row r 0 (by omega)]
  by_cases hp : p
  · simp only [if_pos hp]
    rfl
  · simp only [if_neg hp]
    rfl

/-- The second factor of gelu. -/
theorem pay16_apply (G : FVec Ideal S512x1408 .f32) (b : BitVec 1) (v29 v30 v31 : FVec Ideal S1x1408 .f32)
    (cw : Vec Ideal S3x1408 .f32) (cb : Vec Ideal S1x1408 .f32) (r : Fin 512) (f : Fin 1408) :
    k0_pay15 G b v29 v30 v31 cw cb (ix2 r f) * k0_pay16 G b v29 v30 v31 cw cb (ix2 r f)
      = gelu (k0_pay15 G b v29 v30 v31 cw cb (ix2 r f)) := by
  unfold gelu
  congr 1
  pointwise [k0_pay16]

/-- The first half: the row plus its share of the down projection. -/
theorem pay2_apply (u c s : FVec Ideal S512x1408 .f32) (w : Vec Ideal S1408x1024 .bf16) (x : Vec Ideal S512x1024 .f32) (r : Fin 512)
    (d : Fin 1024) : k0_pay2 u c s w x (ix2 r d) = x (ix2 r d) + ∑ f : Fin 1408, c (ix2 r f) * s (ix2 r f) * u (ix2 r f) * w (ix2 f d) := by
  pointwise [k0_pay2, k0_pay1]

/-- The second half: its share added to what the first left. -/
theorem pay4_apply (u c s : FVec Ideal S512x1408 .f32) (w : Vec Ideal S1408x1024 .bf16) (x : Vec Ideal S512x1024 .f32) (r : Fin 512)
    (d : Fin 1024) : k0_pay4 u c s w x (ix2 r d) = x (ix2 r d) + ∑ f : Fin 1408, c (ix2 r f) * s (ix2 r f) * u (ix2 r f) * w (ix2 f d) := by
  pointwise [k0_pay4, k0_pay1]

/-- The tile's last two gates. -/
theorem pay5_apply (G : FVec Ideal S512x1408 .f32) (n : Fin 2) (f : Fin 1408) :
    k0_pay5 G (ix3 0 n f) = G (ix2 ⟨510 + n.val, by omega⟩ f) := by
  pointwise [k0_pay5]

end Cert.Proof.FG
-- ==== Proof.FG.Reads.lean ====
/-
  The conv feed-forward: what each input block of a point reads, in the arrays as launched.
-/
module

public import proofs.«01_k».proof.Proof.FG.Spec

@[expose] public section

set_option maxRecDepth 16384

noncomputable section

namespace Cert.Proof.FG

open Cert.Kernel9Ideal Cert.Kernel9Ideal.Gen
open Idealize.ShloMosaic Idealize.ShloMosaic.TcCoe
open Idealize.ShloMosaic.Pipeline

theorem lt64 (t : Fin cfg0.N) : t.val < 64 := t.isLt

/-- The sequence of point `t`'s tile, -/
def bb (t : Fin cfg0.N) : Fin 4 := ⟨t.val / 16, by have := lt64 t; omega⟩

/-- the position of the tile's row `r` in it, -/
def pp (t : Fin cfg0.N) (r : Fin 512) : Fin 4096 := ⟨512 * (t.val / 2 % 8) + r.val, by omega⟩

/-- the position of row `r` of the sixteen before the tile, -/
def qq (t : Fin cfg0.N) (r : Fin 16) : Fin 4096 := ⟨512 * (t.val / 2 % 8) - 16 + r.val, by omega⟩

/-- and the hidden column of the block's column `f`. -/
def cc (t : Fin cfg0.N) (f : Fin 1408) : Fin 2816 := ⟨1408 * (t.val % 2) + f.val, by omega⟩

/-- The block indices of point `t`. -/
theorem idx : ∀ t : Fin cfg0.N, win0_0.index t = ![t.val / 2, 0] ∧ win0_1.index t = ![32 * (t.val / 2) - 1, 0] ∧ win0_2.index t = ![0, 0]
    ∧ win0_3.index t = ![0, t.val % 2] ∧ win0_4.index t = ![0, t.val % 2] ∧ win0_5.index t = ![0, t.val % 2] ∧ win0_6.index t = ![0, t.val % 2]
    ∧ win0_7.index t = ![t.val % 2, 0] ∧ win0_8.index t = ![t.val / 16, 0, t.val % 2] ∧ win0_9.index t = ![0, 0]
    ∧ win0_10.index t = ![t.val / 2, 0] ∧ win0_11.index t = ![t.val / 2, 0, t.val % 2]
    ∧ (grid0.coords t 0).val = t.val / 2 := (by decide +kernel : ∀ t : Fin grid0.N, _)

variable (m : (ℓ : Loc nD τ sig) → Buf (Elt Ideal) ℓ)

/-- An argument array as launched. -/
abbrev arg (c : Dev nD) (b : Ref sig .tc) : Buf (Elt Ideal) ((c : Thread nD τ).loc b) := m ((c : Thread nD τ).loc b)

/-- What the host's lines leave in a buffer before the region. -/
theorem V_host (c : Dev nD) (b : Ref sig .tc) :
    V m c b = StableHlo.after (hostOps0 (F := Ideal)) (fun b => m (c, b)) (Proc.devRef .tc b) := by
  show StableHlo.after (List.flatten [hostOps0]) _ _ = _
  rw [List.flatten_cons, List.flatten_nil, List.append_nil]

theorem read0 (c : Dev nD) (t : Fin cfg0.N) (r : Fin 512) (k : Fin 1024) :
    (iblk m c 0 t : Vec Ideal S512x1024 .f32) (ix2 r k) = (arg m c main_arg0 : Vec Ideal S4x4096x1024 .f32) (ix3 (bb t) (pp t r) k) := by
  simp only [bb, pp]
  blk_simp [iblk, idx t]
  rw [V_host]
  entry_read
  pointwise
  blk_ext [idx t]

theorem read1 (c : Dev nD) (t : Fin cfg0.N) (h : t.val / 2 % 8 ≠ 0) (r : Fin 16) (k : Fin 1024) :
    (iblk m c 1 t : Vec Ideal S16x1024 .f32) (ix2 r k) = (arg m c main_arg0 : Vec Ideal S4x4096x1024 .f32) (ix3 (bb t) (qq t r) k) := by
  simp only [bb, qq]
  blk_simp [iblk, idx t]
  rw [V_host]
  entry_read
  pointwise
  blk_ext [idx t]

theorem read2 (c : Dev nD) (t : Fin cfg0.N) (k : Fin 1024) :
    (iblk m c 2 t : Vec Ideal S1x1024 .f32) (ix2 0 k) = (arg m c main_arg1 : Vec Ideal S1024 .f32) (ix1 k) := by
  blk_simp [iblk, idx t]
  rw [V_host]
  entry_read
  pointwise
  blk_ext [idx t]

theorem read3 (c : Dev nD) (t : Fin cfg0.N) (k : Fin 1024) (f : Fin 1408) :
    (iblk m c 3 t : Vec Ideal S1024x1408 .bf16) (ix2 k f) = (arg m c main_arg2 : Vec Ideal S1024x5632 .f32) (ix2 k ⟨(cc t f).val, by omega⟩) := by
  simp only [cc]
  blk_simp [iblk, idx t]
  rw [V_host]
  entry_read
  pointwise
  blk_ext [idx t]

theorem read4 (c : Dev nD) (t : Fin cfg0.N) (k : Fin 1024) (f : Fin 1408) :
    (iblk m c 4 t : Vec Ideal S1024x1408 .bf16) (ix2 k f) = (arg m c main_arg2 : Vec Ideal S1024x5632 .f32) (ix2 k ⟨2816 + (cc t f).val, by omega⟩) := by
  simp only [cc]
  blk_simp [iblk, idx t]
  rw [V_host]
  entry_read
  pointwise
  blk_ext [idx t]

theorem read5 (c : Dev nD) (t : Fin cfg0.N) (n : Fin 3) (f : Fin 1408) :
    (iblk m c 5 t : Vec Ideal S3x1408 .f32) (ix2 n f) = (arg m c main_arg3 : Vec Ideal S3x2816 .f32) (ix2 n (cc t f)) := by
  simp only [cc]
  blk_ext [iblk, V, idx t]

theorem read6 (c : Dev nD) (t : Fin cfg0.N) (f : Fin 1408) :
    (iblk m c 6 t : Vec Ideal S1x1408 .f32) (ix2 0 f) = (arg m c main_arg4 : Vec Ideal S2816 .f32) (ix1 (cc t f)) := by
  simp only [cc]
  blk_simp [iblk, idx t]
  rw [V_host]
  entry_read
  pointwise
  blk_ext [idx t]

theorem read7 (c : Dev nD) (t : Fin cfg0.N) (f : Fin 1408) (d : Fin 1024) :
    (iblk m c 7 t : Vec Ideal S1408x1024 .bf16) (ix2 f d) = (arg m c main_arg5 : Vec Ideal S2816x1024 .f32) (ix2 (cc t f) d) := by
  simp only [cc]
  blk_simp [iblk, idx t]
  rw [V_host]
  entry_read
  pointwise
  blk_ext [idx t]

theorem read8 (c : Dev nD) (t : Fin cfg0.N) (n : Fin 2) (f : Fin 1408) :
    (iblk m c 8 t : Vec Ideal S1x2x1408 .f32) (ix3 0 n f) = (arg m c main_arg6 : Vec Ideal S4x2x2816 .f32) (ix3 (bb t) n (cc t f)) := by
  simp only [bb, cc]
  blk_ext [iblk, V, idx t]

end Cert.Proof.FG
-- ==== Proof.FG.Tile.lean ====
/-
  The conv feed-forward: a tile's gates, convolved gates and share of the down projection, in the arrays as launched.
-/
module

public import proofs.«01_k».proof.Proof.FG.Body
public import proofs.«01_k».proof.Proof.FG.Reads

@[expose] public section

set_option maxRecDepth 16384

noncomputable section

namespace Cert.Proof.FG

open Cert.Kernel9Ideal Cert.Kernel9Ideal.Gen
open Idealize.ShloMosaic Idealize.ShloMosaic.TcCoe
open Idealize.ShloMosaic.Pipeline

section
variable (a0 : Vec Ideal S4x4096x1024 .f32) (a1 : Vec Ideal S1024 .f32) (a2 : Vec Ideal S1024x5632 .f32) (a6 : Vec Ideal S4x2x2816 .f32)

/-- Behind the state a position holds the state's value, -/
theorem padded_st (b : Fin 4) (q : ℕ) (hq : q < 4098) (f : Fin 2816) (n : Fin 2) (h : q = n.val) :
    padded a0 a1 a2 a6 b q hq f = a6 (ix3 b n f) := by
  subst h
  unfold padded
  rw [dif_pos n.isLt]

/-- and past it the gate of the row two before. -/
theorem padded_row (b : Fin 4) (q : ℕ) (hq : q < 4098) (f : Fin 2816) (p : Fin 4096) (h : q = p.val + 2) :
    padded a0 a1 a2 a6 b q hq f = gate a0 a1 a2 b p f := by
  subst h
  unfold padded
  rw [dif_neg (by omega)]
  rfl
end

variable (m : (ℓ : Loc nD τ sig) → Buf (Elt Ideal) ℓ) (c : Dev nD) (t : Fin cfg0.N)

/-- A block holds the normed rows of the tile. -/
def IsRows (X : Vec Ideal S512x1024 .bf16) : Prop :=
  ∀ (r : Fin 512) (k : Fin 1024), X (ix2 r k) = nx (arg m c main_arg0) (arg m c main_arg1) (bb t) (pp t r) k

/-- A block holds the normed sixteen rows before it, where the tile is not its sequence's first. -/
def IsPrev (Y : Vec Ideal S16x1024 .bf16) : Prop :=
  t.val / 2 % 8 ≠ 0 → ∀ (r : Fin 16) (k : Fin 1024), Y (ix2 r k) = nx (arg m c main_arg0) (arg m c main_arg1) (bb t) (qq t r) k

/-- What the first half's point computes is such; -/
theorem isRows_pay6 : IsRows m c t (k0_pay6 (iblk m c 0 t) (iblk m c 2 t)) := fun r k => by
  rw [pay6_apply]
  exact congrArg₂ (fun x g => nrm x g k) (funext fun k => read0 m c t r k) (funext fun k => read2 m c t k)

theorem isPrev_pay7 : IsPrev m c t (k0_pay7 (iblk m c 1 t) (iblk m c 2 t)) := fun h r k => by
  rw [pay7_apply]
  exact congrArg₂ (fun x g => nrm x g k) (funext fun k => read1 m c t h r k) (funext fun k => read2 m c t k)

variable {m c t} {X : Vec Ideal S512x1024 .bf16} {Y : Vec Ideal S16x1024 .bf16}

/-- The tile's gates; -/
theorem gate_tile (hX : IsRows m c t X) (r : Fin 512) (f : Fin 1408) :
    k0_pay8 X (iblk m c 3 t) (ix2 r f) = gate (arg m c main_arg0) (arg m c main_arg1) (arg m c main_arg2) (bb t) (pp t r) (cc t f) :=
  (pay8_apply X _ r f).trans (Finset.sum_congr rfl fun k _ => congrArg₂ (· * ·) (hX r k) (read3 m c t k f))

/-- the other half; -/
theorem up_tile (hX : IsRows m c t X) (r : Fin 512) (f : Fin 1408) :
    k0_pay9 X (iblk m c 4 t) (ix2 r f) = up (arg m c main_arg0) (arg m c main_arg1) (arg m c main_arg2) (bb t) (pp t r) (cc t f) :=
  (pay9_apply X _ r f).trans (Finset.sum_congr rfl fun k _ => congrArg₂ (· * ·) (hX r k) (read4 m c t k f))

/-- the gates of the rows before it. -/
theorem prev_tile (hY : IsPrev m c t Y) (h : t.val / 2 % 8 ≠ 0) (r : Fin 16) (f : Fin 1408) :
    (∑ k : Fin 1024, Y (ix2 r k) * (iblk m c 3 t : Vec Ideal S1024x1408 .bf16) (ix2 k f))
      = gate (arg m c main_arg0) (arg m c main_arg1) (arg m c main_arg2) (bb t) (qq t r) (cc t f) :=
  Finset.sum_congr rfl fun k _ => congrArg₂ (· * ·) (hY h r k) (read3 m c t k f)

/-- The two gates before the tile: the older, -/
theorem older (hY : IsPrev m c t Y) (f : Fin 1408) (hq : 512 * (t.val / 2 % 8) < 4098) :
    k0_pay12 (grid0.coords t) Y (iblk m c 3 t) (iblk m c 8 t) (ix2 0 f)
      = padded (arg m c main_arg0) (arg m c main_arg1) (arg m c main_arg2) (arg m c main_arg6) (bb t) (512 * (t.val / 2 % 8)) hq (cc t f) := by
  have hi : (grid0.coords t 0).val = t.val / 2 := (idx t).2.2.2.2.2.2.2.2.2.2.2.2
  have h64 := lt64 t
  rw [pay12_apply, hi, firstBit_eq ⟨t.val / 2, by omega⟩, WordCmp.select_ofBool]
  simp only [decide_eq_true_eq]
  by_cases h : t.val / 2 % 8 = 0
  · rw [if_pos h, padded_st _ _ _ _ _ _ _ _ 0 (by simp [h])]
    exact read8 m c t 0 f
  · rw [if_neg h, prev_tile hY h]
    exact (padded_row _ _ _ _ _ _ _ _ (qq t 14) (by simp only [qq]; omega)).symm

/-- and the newer. -/
theorem newer (hY : IsPrev m c t Y) (f : Fin 1408) (hq : 512 * (t.val / 2 % 8) + 1 < 4098) :
    (if t.val / 2 % 8 = 0 then k0_pay13 (iblk m c 8 t) (ix2 0 f) else k0_pay14 Y (iblk m c 3 t) (ix2 0 f))
      = padded (arg m c main_arg0) (arg m c main_arg1) (arg m c main_arg2) (arg m c main_arg6) (bb t) (512 * (t.val / 2 % 8) + 1) hq (cc t f) := by
  by_cases h : t.val / 2 % 8 = 0
  · rw [if_pos h, padded_st _ _ _ _ _ _ _ _ 1 (by simp [h]), pay13_apply]
    exact read8 m c t 1 f
  · rw [if_neg h, pay14_apply, prev_tile hY h]
    exact (padded_row _ _ _ _ _ _ _ _ (qq t 15) (by simp only [qq]; omega)).symm

/-- The convolved gate of a tile's row. -/
theorem cgate_tile (hX : IsRows m c t X) (hY : IsPrev m c t Y) (r : Fin 512) (f : Fin 1408) :
    k0_pay15 (k0_pay8 X (iblk m c 3 t)) (firstBit (grid0.coords t 0).val) (k0_pay12 (grid0.coords t) Y (iblk m c 3 t) (iblk m c 8 t))
        (k0_pay13 (iblk m c 8 t)) (k0_pay14 Y (iblk m c 3 t)) (iblk m c 5 t) (iblk m c 6 t) (ix2 r f)
      = cgate (arg m c main_arg0) (arg m c main_arg1) (arg m c main_arg2) (arg m c main_arg3) (arg m c main_arg4) (arg m c main_arg6)
          (bb t) (pp t r) (cc t f) := by
  have hi : (grid0.coords t 0).val = t.val / 2 := (idx t).2.2.2.2.2.2.2.2.2.2.2.2
  have h64 := lt64 t
  rw [show firstBit (grid0.coords t 0).val = BitVec.ofBool (decide (t.val / 2 % 8 = 0)) by
    rw [hi]; exact firstBit_eq ⟨t.val / 2, by omega⟩, pay15_apply, newer hY f (by omega), older hY f (by omega), gate_tile hX, gate_tile hX, gate_tile hX]
  unfold cgate
  have e0 : (if r.val = 0 then padded (arg m c main_arg0) (arg m c main_arg1) (arg m c main_arg2) (arg m c main_arg6) (bb t) (512 * (t.val / 2 % 8)) (by omega) (cc t f)
      else if r.val = 1 then padded (arg m c main_arg0) (arg m c main_arg1) (arg m c main_arg2) (arg m c main_arg6) (bb t) (512 * (t.val / 2 % 8) + 1) (by omega) (cc t f)
      else gate (arg m c main_arg0) (arg m c main_arg1) (arg m c main_arg2) (bb t) (pp t ⟨(r.val + 512 - 2) % 512, by omega⟩) (cc t f))
      = padded (arg m c main_arg0) (arg m c main_arg1) (arg m c main_arg2) (arg m c main_arg6) (bb t) (pp t r).val (by omega) (cc t f) := by
    split
    · congr 1
      simp only [pp]; omega
    split
    · congr 1
      simp only [pp]; omega
    · exact (padded_row _ _ _ _ _ _ _ _ _ (by simp only [pp]; omega)).symm
  have e1 : (if r.val = 0 then padded (arg m c main_arg0) (arg m c main_arg1) (arg m c main_arg2) (arg m c main_arg6) (bb t) (512 * (t.val / 2 % 8) + 1) (by omega) (cc t f)
      else gate (arg m c main_arg0) (arg m c main_arg1) (arg m c main_arg2) (bb t) (pp t ⟨(r.val + 512 - 1) % 512, by omega⟩) (cc t f))
      = padded (arg m c main_arg0) (arg m c main_arg1) (arg m c main_arg2) (arg m c main_arg6) (bb t) (1 + (pp t r).val) (by omega) (cc t f) := by
    split
    · congr 1
      simp only [pp]; omega
    · exact (padded_row _ _ _ _ _ _ _ _ _ (by simp only [pp]; omega)).symm
  have e2 : gate (arg m c main_arg0) (arg m c main_arg1) (arg m c main_arg2) (bb t) (pp t r) (cc t f)
      = padded (arg m c main_arg0) (arg m c main_arg1) (arg m c main_arg2) (arg m c main_arg6) (bb t) (2 + (pp t r).val) (by omega) (cc t f) :=
    (padded_row _ _ _ _ _ _ _ _ _ (by omega)).symm
  rw [e0, e1, e2, read5 m c t 0 f, read5 m c t 1 f, read5 m c t 2 f, read6 m c t f]

/-- A block's share of the down projection of a tile's row. -/
theorem share_tile (hX : IsRows m c t X) (hY : IsPrev m c t Y) (r : Fin 512) (d : Fin 1024) :
    (∑ f : Fin 1408, k0_pay15 (k0_pay8 X (iblk m c 3 t)) (firstBit (grid0.coords t 0).val) (k0_pay12 (grid0.coords t) Y (iblk m c 3 t) (iblk m c 8 t))
        (k0_pay13 (iblk m c 8 t)) (k0_pay14 Y (iblk m c 3 t)) (iblk m c 5 t) (iblk m c 6 t) (ix2 r f)
      * k0_pay16 (k0_pay8 X (iblk m c 3 t)) (firstBit (grid0.coords t 0).val) (k0_pay12 (grid0.coords t) Y (iblk m c 3 t) (iblk m c 8 t))
        (k0_pay13 (iblk m c 8 t)) (k0_pay14 Y (iblk m c 3 t)) (iblk m c 5 t) (iblk m c 6 t) (ix2 r f)
      * k0_pay9 X (iblk m c 4 t) (ix2 r f) * (iblk m c 7 t : Vec Ideal S1408x1024 .bf16) (ix2 f d))
      = ∑ f : Fin 1408, hid (arg m c main_arg0) (arg m c main_arg1) (arg m c main_arg2) (arg m c main_arg3) (arg m c main_arg4) (arg m c main_arg6)
          (bb t) (pp t r) (cc t f) * (arg m c main_arg5 : Vec Ideal S2816x1024 .f32) (ix2 (cc t f) d) := by
  refine Finset.sum_congr rfl fun f _ => ?_
  rw [pay16_apply, cgate_tile hX hY, up_tile hX]
  exact congrArg₂ (· * ·) rfl (read7 m c t f d)

end Cert.Proof.FG
-- ==== Proof.FG.Final.lean ====
/-
  The conv feed-forward: the idealized kernel's result arrays after the run.
-/
module

public import Idealize.ShloMosaic.Lib.Pipeline.ReadBack
public import proofs.«01_k».proof.Proof.FG.Tile

@[expose] public section

set_option maxRecDepth 16384

noncomputable section

namespace Cert.Proof.FG

open Cert.Kernel9Ideal Cert.Kernel9Ideal.Gen
open Idealize.ShloMosaic Idealize.ShloMosaic.TcCoe
open Idealize.ShloMosaic.Pipeline

variable (m : (ℓ : Loc nD τ sig) → Buf (Elt Ideal) ℓ) (c : Dev nD) (t : Fin cfg0.N)

/-- The residual's entry. -/
def start (a0 : Vec Ideal S4x4096x1024 .f32) (b : Fin 4) (p : Fin 4096) (d : Fin 1024) : EReal := a0 (ix3 b p d)

/-- What a first-half point leaves in the kept rows; -/
theorem even_rows (h : t.val % 2 = 0) : IsRows m c t (outsAt0 m c t.val t.isLt).2.2.1 := fun r k => by
  rw [outsAt0_A m c t h h (by omega)]
  frame_out
  exact isRows_pay6 m c t r k

theorem even_prev (h : t.val % 2 = 0) : IsPrev m c t (outsAt0 m c t.val t.isLt).2.2.2 := fun hn r k => by
  rw [outsAt0_A m c t h h (by omega)]
  frame_out
  exact isPrev_pay7 m c t hn r k

/-- in the result's block; -/
theorem even_out (h : t.val % 2 = 0) (r : Fin 512) (d : Fin 1024) : (outsAt0 m c t.val t.isLt).1 (ix2 r d)
    = start (arg m c main_arg0) (bb t) (pp t r) d
      + ∑ f : Fin 1408, hid (arg m c main_arg0) (arg m c main_arg1) (arg m c main_arg2) (arg m c main_arg3) (arg m c main_arg4) (arg m c main_arg6)
          (bb t) (pp t r) (cc t f) * (arg m c main_arg5 : Vec Ideal S2816x1024 .f32) (ix2 (cc t f) d) := by
  rw [outsAt0_A m c t h h (by omega)]
  frame_out
  refine (pay2_apply _ _ _ _ _ r d).trans ?_
  exact congrArg₂ (· + ·) (read0 m c t r d) (share_tile (isRows_pay6 m c t) (isPrev_pay7 m c t) r d)

/-- and in the tails' block. -/
theorem even_tail (h : t.val % 2 = 0) (n : Fin 2) (f : Fin 1408) : (outsAt0 m c t.val t.isLt).2.1 (ix3 0 n f)
    = gate (arg m c main_arg0) (arg m c main_arg1) (arg m c main_arg2) (bb t) (pp t ⟨510 + n.val, by omega⟩) (cc t f) := by
  rw [outsAt0_A m c t h h (by omega)]
  frame_out
  rw [pay5_apply]
  exact gate_tile (isRows_pay6 m c t) _ f

/-- The point before a second-half point. -/
abbrev pred : Fin cfg0.N := ⟨t.val - 1, Nat.lt_of_le_of_lt (Nat.sub_le _ _) t.isLt⟩

variable {t}

theorem bb_pred (h : t.val % 2 = 1) : bb (pred t) = bb t := by
  simp only [bb, pred, Fin.mk.injEq]; omega

theorem pp_pred (h : t.val % 2 = 1) (r : Fin 512) : pp (pred t) r = pp t r := by
  simp only [pp, pred, Fin.mk.injEq]; omega

theorem qq_pred (h : t.val % 2 = 1) (r : Fin 16) : qq (pred t) r = qq t r := by
  simp only [qq, pred, Fin.mk.injEq]; omega

/-- The rows it kept are the second half's too. -/
theorem odd_rows (h : t.val % 2 = 1) : IsRows m c t (outsAt0 m c (t.val - 1) (Nat.lt_of_le_of_lt (Nat.sub_le _ _) t.isLt)).2.2.1 := fun r k => by
  rw [← bb_pred h, ← pp_pred h]
  exact even_rows m c (pred t) (by simp only [pred]; omega) r k

theorem odd_prev (h : t.val % 2 = 1) : IsPrev m c t (outsAt0 m c (t.val - 1) (Nat.lt_of_le_of_lt (Nat.sub_le _ _) t.isLt)).2.2.2 := fun hn r k => by
  rw [← bb_pred h, ← qq_pred h]
  exact even_prev m c (pred t) (by simp only [pred]; omega) (by simp only [pred]; omega) r k

/-- A sum over the hidden columns is the sum over the first half's and the second's. -/
theorem sum_halves (F : Fin 2816 → EReal) :
    ∑ f, F f = (∑ f : Fin 1408, F ⟨f.val, by omega⟩) + ∑ f : Fin 1408, F ⟨1408 + f.val, by omega⟩ :=
  Fin.sum_univ_add (a := 1408) (b := 1408) F

/-- The whole sum a second-half point has before the last norm. -/
theorem odd_sum (h : t.val % 2 = 1) (r : Fin 512) (d : Fin 1024) :
    (outsAt0 m c (t.val - 1) (Nat.lt_of_le_of_lt (Nat.sub_le _ _) t.isLt)).1 (ix2 r d)
      + ∑ f : Fin 1408, hid (arg m c main_arg0) (arg m c main_arg1) (arg m c main_arg2) (arg m c main_arg3) (arg m c main_arg4) (arg m c main_arg6)
          (bb t) (pp t r) (cc t f) * (arg m c main_arg5 : Vec Ideal S2816x1024 .f32) (ix2 (cc t f) d)
      = added (arg m c main_arg0) (arg m c main_arg1) (arg m c main_arg2) (arg m c main_arg3) (arg m c main_arg4) (arg m c main_arg5) (arg m c main_arg6)
          (bb t) (pp t r) d := by
  have e := even_out m c (pred t) (by simp only [pred]; omega) r d
  rw [bb_pred h, pp_pred h] at e
  have c0 : ∀ f : Fin 1408, cc (pred t) f = ⟨f.val, by omega⟩ := fun f => by simp only [cc, pred, Fin.mk.injEq]; omega
  have c1 : ∀ f : Fin 1408, cc t f = ⟨1408 + f.val, by omega⟩ := fun f => by simp only [cc, Fin.mk.injEq]; omega
  refine (congrArg (· + _) e).trans ?_
  simp only [c0, c1]
  rw [add_assoc]
  unfold added
  rw [sum_halves]
  rfl

/-- What a second-half point leaves in the result's block, -/
theorem odd_out (h : t.val % 2 = 1) (r : Fin 512) (d : Fin 1024) : (outsAt0 m c t.val t.isLt).1 (ix2 r d)
    = added (arg m c main_arg0) (arg m c main_arg1) (arg m c main_arg2) (arg m c main_arg3) (arg m c main_arg4) (arg m c main_arg5) (arg m c main_arg6)
        (bb t) (pp t r) d := by
  rw [outsAt0_B m c t (by omega) (by omega) h]
  frame_out
  simp only [read_unread_whole]
  refine (pay4_apply _ _ _ _ _ r d).trans ?_
  exact (congrArg _ (share_tile (odd_rows m c h) (odd_prev m c h) r d)).trans (odd_sum m c h r d)

/-- and in the tails' block. -/
theorem odd_tail (h : t.val % 2 = 1) (n : Fin 2) (f : Fin 1408) : (outsAt0 m c t.val t.isLt).2.1 (ix3 0 n f)
    = gate (arg m c main_arg0) (arg m c main_arg1) (arg m c main_arg2) (bb t) (pp t ⟨510 + n.val, by omega⟩) (cc t f) := by
  rw [outsAt0_B m c t (by omega) (by omega) h]
  frame_out
  rw [read_unread_whole, pay5_apply]
  exact gate_tile (odd_rows m c h) _ f

/-! ## The arrays after the run -/

/-- The result's block at a point, in the result. -/
theorem emb10 (r : Fin 512) (d : Fin 1024) :
    (((View.whole main_v9_0).slice (win0_10.rect t)).emb (ix2 r d : S512x1024.Idx) : S16384x1024.Idx)
      = ix2 ⟨t.val / 2 * 512 + r.val, by have := lt64 t; omega⟩ d := by
  blk_ext [idx t]

/-- The result. -/
theorem final_y : (dats m 0 c).arrAt 10 cfg0.N
    = resA (arg m c main_arg0) (arg m c main_arg1) (arg m c main_arg2) (arg m c main_arg3)
        (arg m c main_arg4) (arg m c main_arg5) (arg m c main_arg6) := by
  refine (dats m 0 c).arrAt_eq_of_covers 10 _ (by decide +kernel) fun t hf y => ?_
  have h := (flush0_10 t).mp hf
  blk_simp
  rw [after0_10]
  idx_vars y
  refine (odd_out m c h y0 y1).trans ?_
  rw [emb10]
  have hb : bb t = ⟨(t.val / 2 * 512 + y0.val) / 4096, by have := lt64 t; omega⟩ := by simp only [bb, Fin.mk.injEq]; omega
  have hp : pp t y0 = ⟨(t.val / 2 * 512 + y0.val) % 4096, Nat.mod_lt _ (by decide)⟩ := by simp only [pp, Fin.mk.injEq]; omega
  rw [hb, hp]
  rfl

/-- Every tile's last two gates. -/
def lastA (a0 : Vec Ideal S4x4096x1024 .f32) (a1 : Vec Ideal S1024 .f32) (a2 : Vec Ideal S1024x5632 .f32) : Vec Ideal S32x2x2816 .f32 := fun z =>
  gate a0 a1 a2 ⟨(z 0).val / 8, Nat.div_lt_of_lt_mul (z 0).isLt⟩ ⟨512 * ((z 0).val % 8) + (510 + (z 1).val), by
    have : (z 1).val < 2 := (z 1).isLt
    omega⟩ (z 2)

/-- The tails' block at a point, in the tails. -/
theorem emb11 (n : Fin 2) (f : Fin 1408) :
    (((View.whole main_v9_1).slice (win0_11.rect t)).emb (ix3 0 n f : S1x2x1408.Idx) : S32x2x2816.Idx)
      = ix3 ⟨t.val / 2, by have := lt64 t; omega⟩ n (cc t f) := by
  have e : cc t f = ⟨t.val % 2 * 1408 + f.val, by omega⟩ := by simp only [cc, Fin.mk.injEq]; omega
  rw [e]
  blk_ext [idx t]

theorem any_tail (n : Fin 2) (f : Fin 1408) : (outsAt0 m c t.val t.isLt).2.1 (ix3 0 n f)
    = gate (arg m c main_arg0) (arg m c main_arg1) (arg m c main_arg2) (bb t) (pp t ⟨510 + n.val, by omega⟩) (cc t f) := by
  rcases Nat.mod_two_eq_zero_or_one t.val with h | h
  · exact even_tail m c t h n f
  · exact odd_tail m c h n f

/-- The tails. -/
theorem final_t : (dats m 0 c).arrAt 11 cfg0.N = lastA (arg m c main_arg0) (arg m c main_arg1) (arg m c main_arg2) := by
  refine (dats m 0 c).arrAt_eq_of_covers 11 _ (by decide +kernel) fun t _ y => ?_
  blk_simp
  rw [after0_11]
  idx_vars y
  obtain rfl : y0 = 0 := Subsingleton.elim _ _
  refine (any_tail m c y1 y2).trans ?_
  rw [emb11]
  have hb : bb t = ⟨t.val / 2 / 8, by have := lt64 t; omega⟩ := by simp only [bb, Fin.mk.injEq]; omega
  have hp : pp t ⟨510 + y1.val, by omega⟩ = ⟨512 * (t.val / 2 % 8) + (510 + y1.val), by omega⟩ := rfl
  rw [hb, hp]
  rfl

/-- A sequence's last tile's tails are its new state. -/
theorem slice_tail (a0 : Vec Ideal S4x4096x1024 .f32) (a1 : Vec Ideal S1024 .f32) (a2 : Vec Ideal S1024x5632 .f32) (a6 : Vec Ideal S4x2x2816 .f32) :
    Host.slice S4x2x2816 ![7, 0, 0] ![8, 1, 1] (lastA a0 a1 a2) = tailA a0 a1 a2 a6 := by
  funext z
  idx_vars z
  have hr : tailA a0 a1 a2 a6 (ix3 z0 z1 z2) = gate a0 a1 a2 z0 ⟨4094 + z1.val, by omega⟩ z2 := by
    refine (dif_neg (show ¬ (4096 + z1.val < 2) by omega)).trans ?_
    exact congrArg (gate a0 a1 a2 z0 · z2) (Fin.ext (by show 4096 + z1.val - 2 = 4094 + z1.val; omega))
  rw [hr]
  pointwise
  have hg : ∀ (i : Fin 32) (j : Fin 2) (k : Fin 2816) , lastA a0 a1 a2 (ix3 i j k)
      = gate a0 a1 a2 ⟨i.val / 8, by omega⟩ ⟨512 * (i.val % 8) + (510 + j.val), by omega⟩ k := fun _ _ _ => rfl
  rw [hg]
  congr 1
  · exact Fin.ext (by show (7 + 8 * z0.val) / 8 = z0.val; omega)
  · exact Fin.ext (by show 512 * ((7 + 8 * z0.val) % 8) + (510 + z1.val) = 4094 + z1.val; omega)

/-! ## The two results after the host's slice -/

/-- The run leaves the result and the new state, and the arguments as they were. -/
theorem run (g : Dev nD → PrngReg) : θ_run defs (onTc (τ := τ) (main (F := Ideal))) ⟨m, fun _ => 0, g⟩ (fun r => ∀ c : Dev nD,
      r.2.mem ((c.tc : Thread nD τ).loc main_v9_0) = resA (arg m c main_arg0) (arg m c main_arg1) (arg m c main_arg2) (arg m c main_arg3)
        (arg m c main_arg4) (arg m c main_arg5) (arg m c main_arg6)
      ∧ r.2.mem ((c.tc : Thread nD τ).loc main_v10) = tailA (arg m c main_arg0) (arg m c main_arg1) (arg m c main_arg2) (arg m c main_arg6)) := by
  refine (θ_run defs _ _).mono (fun r h c => ⟨?_, ?_⟩) (run_main m g)
  · exact ((h c).1 10).trans (final_y m c)
  · refine ((h c).2 main_v10 (mem_restRefs_of main_v10 (by decide) (by decide))).trans ?_
    refine Eq.trans ?_ (slice_tail _ _ _ (arg m c main_arg6))
    rw [← final_t m c]
    unfold afterTail₀
    have e : withArrays spec0 c (V0 m c) (fun w => (dats m 0 c).arrAt w cfg0.N) (Proc.devRef .tc main_v9_1) = (dats m 0 c).arrAt 11 cfg0.N :=
      Dat.withArrays_arrAt (dats m 0 c) sharedIn0 (V0 m c) (A_eq m c) 11
    rw [← e]
    unfold hostOps1
    simp only [List.flatten_cons, List.flatten_nil, List.append_nil]
    after_results

end Cert.Proof.FG
-- ==== Proof.FG.Ref.lean ====
/-
  The conv feed-forward: what the reference's results hold.
-/
module

public import proofs.«01_k».proof.Proof.Gen.Reference9Ideal.Read
public import proofs.«01_k».proof.Proof.FG.Spec

@[expose] public section

set_option maxRecDepth 16384

noncomputable section

namespace Cert.Proof.FG

open Cert.Reference9Ideal Cert.Reference9Ideal.Read
open Idealize.ShloMosaic Idealize.ShloMosaic.TcCoe

variable (a0 : Vec Ideal S4x4096x1024 .f32) (a1 : Vec Ideal S1024 .f32) (a2 : Vec Ideal S1024x5632 .f32) (a3 : Vec Ideal S3x2816 .f32)
  (a4 : Vec Ideal S2816 .f32) (a5 : Vec Ideal S2816x1024 .f32) (a6 : Vec Ideal S4x2x2816 .f32)

/-- The reference's normed rows. -/
theorem ref_nx (b : Fin 4) (p : Fin 4096) (k : Fin 1024) : val_main_v12 a0 a1 (ix3 b p k) = nx a0 a1 b p k := by
  pointwise [val_main_v0, val_main_cst, val_main_v1, val_main_v2, val_main_cst_0, val_main_v3, val_main_v4, val_main_cst_1, val_main_v5,
    val_main_v6, val_main_v7, val_main_v8, val_main_v9, val_main_v10, val_main_v11, val_main_v12]
  rfl

/-- Its gates; -/
theorem ref_gate (b : Fin 4) (p : Fin 4096) (f : Fin 2816) : val_main_v14 a0 a1 a2 (ix3 b p f) = gate a0 a1 a2 b p f := by
  pointwise [val_main_v14, val_main_v13]
  simp only [ref_nx]
  rfl

/-- the other half; -/
theorem ref_up (b : Fin 4) (p : Fin 4096) (f : Fin 2816) : val_main_v15 a0 a1 a2 (ix3 b p f) = up a0 a1 a2 b p f := by
  pointwise [val_main_v15, val_main_v13]
  simp only [ref_nx]
  rfl

/-- the gates behind the state; -/
theorem ref_padded (b : Fin 4) (q : Fin 4098) (f : Fin 2816) :
    val_main_v16 a0 a1 a2 a6 (ix3 b q f) = padded a0 a1 a2 a6 b q.val q.isLt f := by
  pointwise [val_main_v16]
  simp only [ref_gate]
  rfl

/-- convolved; -/
theorem ref_cgate (b : Fin 4) (p : Fin 4096) (f : Fin 2816) : val_main_v39 a0 a1 a2 a3 a4 a6 (ix3 b p f) = cgate a0 a1 a2 a3 a4 a6 b p f := by
  pointwise [val_main_v17, val_main_v18, val_main_v19, val_main_v20, val_main_v21, val_main_v22, val_main_v23, val_main_v24, val_main_v25,
    val_main_v26, val_main_v27, val_main_v28, val_main_v29, val_main_v30, val_main_v31, val_main_v32, val_main_v33, val_main_v34,
    val_main_v35, val_main_v36, val_main_v37, val_main_v38, val_main_v39]
  simp only [ref_padded]
  rfl

/-- the hidden row; -/
theorem ref_hid (b : Fin 4) (p : Fin 4096) (f : Fin 2816) : val_main_v53 a0 a1 a2 a3 a4 a6 (ix3 b p f) = hid a0 a1 a2 a3 a4 a6 b p f := by
  pointwise [val_main_v40, val_main_v41, val_main_cst_2, val_main_v42, val_main_v43, val_main_v44, val_main_cst_3, val_main_v45,
    val_main_v46, val_main_v47, val_main_cst_4, val_main_v48, val_main_v49, val_main_cst_5, val_main_v50, val_main_v51, val_main_v52, val_main_v53]
  simp only [ref_cgate, ref_up]
  rfl

/-- and the sum with the row. -/
theorem ref_added (b : Fin 4) (p : Fin 4096) (d : Fin 1024) :
    val_main_v56 a0 a1 a2 a3 a4 a5 a6 (ix3 b p d) = added a0 a1 a2 a3 a4 a5 a6 b p d := by
  pointwise [val_main_v54, val_main_v56]
  simp only [ref_hid]
  rfl

/-- The reference's first result. -/
theorem ref_eq : val_main_v57 a0 a1 a2 a3 a4 a5 a6 = resA a0 a1 a2 a3 a4 a5 a6 := by
  funext z
  obtain ⟨r, d, rfl⟩ : ∃ (r : Fin 16384) (d : Fin 1024), z = ix2 r d := ⟨z 0, z 1, ValueIdx.eq_ix2 z⟩
  pointwise [val_main_v57]
  refine (ref_added a0 a1 a2 a3 a4 a5 a6 _ _ _).trans ?_
  rfl

/-- Its second. -/
theorem ref_tail : val_main_v55 a0 a1 a2 a6 = tailA a0 a1 a2 a6 := by
  funext z
  obtain ⟨b, n, f, rfl⟩ : ∃ (b : Fin 4) (n : Fin 2) (f : Fin 2816), z = ix3 b n f := ⟨z 0, z 1, z 2, ValueIdx.eq_ix3 z⟩
  pointwise [val_main_v55]
  refine (ref_padded a0 a1 a2 a6 _ _ _).trans ?_
  rfl

end Cert.Proof.FG
-- ==== Proof.FT.Spec.lean ====
/-
  The conv feed-forward of the sample batch over the extended reals, element by element, from the arrays the call is given.
-/
module

public import proofs.«01_k».proof.Proof.Gen.Kernel10Ideal.Frame
public import proofs.«01_k».proof.Proof.Row
public import Idealize.ShloMosaic.Lib.Pipeline.ValueKit
public import Idealize.ShloMosaic.Lib.Pointwise

@[expose] public section

noncomputable section

namespace Cert.Proof.FT

open Cert.Kernel10Ideal Cert.Kernel10Ideal.Gen
open Idealize.ShloMosaic Idealize.ShloMosaic.TcCoe

/-- The tanh form of gelu, its constants the float words both programs hold. -/
def gelu (c : EReal) : EReal :=
  c * (Ideal.ofBits FTy.f32 1056964608#32 * (1 + Ideal.tanh (Ideal.ofBits FTy.f32 1061962282#32
    * (c + Ideal.ofBits FTy.f32 1027024659#32 * (c * c * c)))))

/-- The convolution of three neighbouring gate values, oldest first. -/
def conv (b w0 w1 w2 p2 p1 p0 : EReal) : EReal := b + w0 * p2 + w1 * p1 + w2 * p0

variable (a0 : Vec Ideal S32x64x1024 .f32) (a1 : Vec Ideal S1024 .f32) (a2 : Vec Ideal S1024x5632 .f32) (a3 : Vec Ideal S3x2816 .f32)
  (a4 : Vec Ideal S2816 .f32) (a5 : Vec Ideal S2816x1024 .f32) (a6 : Vec Ideal S32x2x2816 .f32)

/-- The normed row at position `p` of sequence `b`. -/
def nx (b : Fin 32) (p : Fin 64) (k : Fin 1024) : EReal := nrm (fun k => a0 (ix3 b p k)) (fun k => a1 (ix1 k)) k

/-- The gate half of the up projection. -/
def gate (b : Fin 32) (p : Fin 64) (f : Fin 2816) : EReal := ∑ k, nx a0 a1 b p k * a2 (ix2 k ⟨f.val, by omega⟩)

/-- Its other half. -/
def up (b : Fin 32) (p : Fin 64) (f : Fin 2816) : EReal := ∑ k, nx a0 a1 b p k * a2 (ix2 k ⟨2816 + f.val, by omega⟩)

/-- The gates of a sequence behind the two the state holds. -/
def padded (b : Fin 32) (q : ℕ) (hq : q < 66) (f : Fin 2816) : EReal :=
  if h : q < 2 then a6 (ix3 b ⟨q, h⟩ f) else gate a0 a1 a2 b ⟨q - 2, by omega⟩ f

/-- The convolved gate. -/
def cgate (b : Fin 32) (p : Fin 64) (f : Fin 2816) : EReal :=
  conv (a4 (ix1 f)) (a3 (ix2 0 f)) (a3 (ix2 1 f)) (a3 (ix2 2 f)) (padded a0 a1 a2 a6 b p.val (by omega) f)
    (padded a0 a1 a2 a6 b (1 + p.val) (by omega) f) (padded a0 a1 a2 a6 b (2 + p.val) (by omega) f)

/-- The hidden row. -/
def hid (b : Fin 32) (p : Fin 64) (f : Fin 2816) : EReal := gelu (cgate a0 a1 a2 a3 a4 a6 b p f) * up a0 a1 a2 b p f

/-- The row with the feed-forward added. -/
def added (b : Fin 32) (p : Fin 64) (d : Fin 1024) : EReal :=
  a0 (ix3 b p d) + ∑ f, hid a0 a1 a2 a3 a4 a6 b p f * a5 (ix2 f d)

/-- The whole result, the sequences one below the other. -/
def resA : Vec Ideal S2048x1024 .f32 := fun z =>
  added a0 a1 a2 a3 a4 a5 a6 ⟨(z 0).val / 64, Nat.div_lt_of_lt_mul (z 0).isLt⟩ ⟨(z 0).val % 64, Nat.mod_lt _ (by decide)⟩ (z 1)

/-- The new state: a sequence's last two gates. -/
def tailA : Vec Ideal S32x2x2816 .f32 := fun z => padded a0 a1 a2 a6 (z 0) (64 + (z 1).val) (Nat.add_lt_add_left (z 1).isLt 64) (z 2)

end Cert.Proof.FT
-- ==== Proof.FT.Body.lean ====
/-
  The conv feed-forward of the sample batch: the values the idealized kernel's body computes from the blocks it reads.
-/
module

public import proofs.«01_k».proof.Proof.FT.Spec

@[expose] public section

set_option maxRecDepth 16384

noncomputable section

namespace Cert.Proof.FT

open Cert.Kernel10Ideal Cert.Kernel10Ideal.Gen
open Idealize.ShloMosaic Idealize.ShloMosaic.TcCoe

/-- The tile's row of a sequence's position. -/
def row (s : Fin 8) (q : Fin 64) : Fin 512 := ⟨64 * s.val + q.val, by omega⟩

/-- The norm of a tile's rows. -/
theorem pay3_apply (x : Vec Ideal S512x1024 .f32) (g : Vec Ideal S1x1024 .f32) (r : Fin 512) (k : Fin 1024) :
    k0_pay3 x g (ix2 r k) = nrm (fun k => x (ix2 r k)) (fun k => g (ix2 0 k)) k := by
  pointwise [k0_pay3]
  rfl

/-- The gates, -/
theorem pay4_apply (x : Vec Ideal S512x1024 .bf16) (w : Vec Ideal S1024x1408 .bf16) (s : Fin 8) (q : Fin 64) (f : Fin 1408) :
    k0_pay4 x w (ix3 s q f) = ∑ k : Fin 1024, x (ix2 (row s q) k) * w (ix2 k f) := by
  pointwise [k0_pay4]
  refine Finset.sum_congr rfl fun k _ => congrArg₂ (· * ·) (congrArg x (congrArg (ix2 · k) (Fin.ext ?_))) rfl
  show _ = 64 * s.val + q.val
  (try dsimp only); omega

/-- and the other half. -/
theorem pay5_apply (x : Vec Ideal S512x1024 .bf16) (w : Vec Ideal S1024x1408 .bf16) (s : Fin 8) (q : Fin 64) (f : Fin 1408) :
    k0_pay5 x w (ix3 s q f) = ∑ k : Fin 1024, x (ix2 (row s q) k) * w (ix2 k f) := by
  pointwise [k0_pay5]
  refine Finset.sum_congr rfl fun k _ => congrArg₂ (· * ·) (congrArg x (congrArg (ix2 · k) (Fin.ext ?_))) rfl
  show _ = 64 * s.val + q.val
  (try dsimp only); omega

/-- The word comparison of a position. -/
theorem sel_row (r : Fin 64) (n : ℕ) (hn : n < 64) (a b : EReal) :
    Scalar.select (IntOp.cmpi CmpIPredicate.eq (BitVec.ofNat 32 r.val) (BitVec.ofNat 32 n)) a b = if r.val = n then a else b := by
  rw [WordCmp.cmpi_eq_ofNat (by omega) (by omega), WordCmp.select_ofBool]
  simp only [decide_eq_true_eq]

/-- The gate one position before: the state's newer at the first position, else the row's. -/
theorem pay7_apply (x : Vec Ideal S512x1024 .bf16) (w : Vec Ideal S1024x1408 .bf16) (st : Vec Ideal S8x2x1408 .f32) (s : Fin 8) (q : Fin 64)
    (f : Fin 1408) : k0_pay7 x w st (ix3 s q f)
      = if q.val = 0 then st (ix3 s 1 f) else k0_pay4 x w (ix3 s ⟨(q.val + 64 - 1) % 64, by omega⟩ f) := by
  pointwise [k0_pay7, k0_pay6]
  rw [sel_row q 0 (by omega)]

/-- The gate two positions before: the state's two at the first two positions, else the row's. -/
theorem pay8_apply (x : Vec Ideal S512x1024 .bf16) (w : Vec Ideal S1024x1408 .bf16) (st : Vec Ideal S8x2x1408 .f32) (s : Fin 8) (q : Fin 64)
    (f : Fin 1408) : k0_pay8 x w st (ix3 s q f)
      = if q.val = 0 then st (ix3 s 0 f) else if q.val = 1 then st (ix3 s 1 f)
        else k0_pay4 x w (ix3 s ⟨(q.val + 64 - 2) % 64, by omega⟩ f) := by
  pointwise [k0_pay8, k0_pay6]
  rw [sel_row q 0 (by omega), sel_row q 1 (by omega)]

/-- A block's share of the down projection. -/
theorem pay9_apply (G u p1 p2 : FVec Ideal S8x64x1408 .f32) (cw : Vec Ideal S3x1408 .f32) (cb : Vec Ideal S1x1408 .f32)
    (w : Vec Ideal S1408x1024 .bf16) (s : Fin 8) (q : Fin 64) (d : Fin 1024) : k0_pay9 G u p1 p2 cw cb w (ix2 (row s q) d)
      = ∑ f : Fin 1408, gelu (conv (cb (ix2 0 f)) (cw (ix2 0 f)) (cw (ix2 1 f)) (cw (ix2 2 f)) (p2 (ix3 s q f)) (p1 (ix3 s q f)) (G (ix3 s q f)))
          * u (ix3 s q f) * w (ix2 f d) := by
  have e0 : ∀ h, (⟨(row s q).val / 64, h⟩ : Fin 8) = s := fun _ => Fin.ext (by show (64 * s.val + q.val) / 64 = s.val; omega)
  have e1 : ∀ h, (⟨(row s q).val % 64, h⟩ : Fin 64) = q := fun _ => Fin.ext (by show (64 * s.val + q.val) % 64 = q.val; omega)
  pointwise [k0_pay9]
  simp only [e0, e1]
  rfl

/-- The first half: the row plus its share. -/
theorem pay10_apply (G u p1 p2 : FVec Ideal S8x64x1408 .f32) (cw : Vec Ideal S3x1408 .f32) (cb : Vec Ideal S1x1408 .f32)
    (w : Vec Ideal S1408x1024 .bf16) (x : Vec Ideal S512x1024 .f32) (r : Fin 512) (d : Fin 1024) :
    k0_pay10 G u p1 p2 cw cb w x (ix2 r d) = x (ix2 r d) + k0_pay9 G u p1 p2 cw cb w (ix2 r d) := by
  pointwise [k0_pay10]

/-- The second half: its share added to what the first left. -/
theorem pay1_apply (y x : Vec Ideal S512x1024 .f32) (r : Fin 512) (d : Fin 1024) :
    k0_pay1 y x (ix2 r d) = x (ix2 r d) + y (ix2 r d) := by
  pointwise [k0_pay1]

/-- The sequences' last two gates. -/
theorem pay2_apply (G : FVec Ideal S8x64x1408 .f32) (s : Fin 8) (n : Fin 2) (f : Fin 1408) :
    k0_pay2 G (ix3 s n f) = G (ix3 s ⟨62 + n.val, by omega⟩ f) := by
  pointwise [k0_pay2]

end Cert.Proof.FT
-- ==== Proof.FT.Reads.lean ====
/-
  The conv feed-forward of the sample batch: what each input block of a point reads, in the arrays as launched.
-/
module

public import proofs.«01_k».proof.Proof.FT.Body

@[expose] public section

set_option maxRecDepth 16384

noncomputable section

namespace Cert.Proof.FT

open Cert.Kernel10Ideal Cert.Kernel10Ideal.Gen
open Idealize.ShloMosaic Idealize.ShloMosaic.TcCoe
open Idealize.ShloMosaic.Pipeline

theorem lt8 (t : Fin cfg0.N) : t.val < 8 := t.isLt

/-- The sequence `s` of point `t`'s tile, -/
def bb (t : Fin cfg0.N) (s : Fin 8) : Fin 32 := ⟨8 * (t.val / 2) + s.val, by have := lt8 t; omega⟩

/-- and the hidden column of the block's column `f`. -/
def cc (t : Fin cfg0.N) (f : Fin 1408) : Fin 2816 := ⟨1408 * (t.val % 2) + f.val, by omega⟩

/-- The block indices of point `t`. -/
theorem idx : ∀ t : Fin cfg0.N, win0_0.index t = ![t.val / 2, 0] ∧ win0_2.index t = ![0, 0]
    ∧ win0_3.index t = ![0, t.val % 2] ∧ win0_4.index t = ![0, t.val % 2] ∧ win0_5.index t = ![0, t.val % 2] ∧ win0_6.index t = ![0, t.val % 2]
    ∧ win0_7.index t = ![t.val % 2, 0] ∧ win0_8.index t = ![t.val / 2, 0, t.val % 2] ∧ win0_9.index t = ![0, 0]
    ∧ win0_10.index t = ![t.val / 2, 0] ∧ win0_11.index t = ![t.val / 2, 0, t.val % 2] := (by decide +kernel : ∀ t : Fin grid0.N, _)

variable (m : (ℓ : Loc nD τ sig) → Buf (Elt Ideal) ℓ)

/-- An argument array as launched. -/
abbrev arg (c : Dev nD) (b : Ref sig .tc) : Buf (Elt Ideal) ((c : Thread nD τ).loc b) := m ((c : Thread nD τ).loc b)

/-- What the host's lines leave in a buffer before the region. -/
theorem V_host (c : Dev nD) (b : Ref sig .tc) :
    V m c b = StableHlo.after (hostOps0 (F := Ideal)) (fun b => m (c, b)) (Proc.devRef .tc b) := by
  show StableHlo.after (List.flatten [hostOps0]) _ _ = _
  rw [List.flatten_cons, List.flatten_nil, List.append_nil]

theorem read0 (c : Dev nD) (t : Fin cfg0.N) (s : Fin 8) (q : Fin 64) (k : Fin 1024) :
    (iblk m c 0 t : Vec Ideal S512x1024 .f32) (ix2 (row s q) k) = (arg m c main_arg0 : Vec Ideal S32x64x1024 .f32) (ix3 (bb t s) q k) := by
  simp only [bb, row]
  blk_simp [iblk, idx t]
  rw [V_host]
  entry_read
  pointwise
  blk_ext [idx t]

theorem read2 (c : Dev nD) (t : Fin cfg0.N) (k : Fin 1024) :
    (iblk m c 2 t : Vec Ideal S1x1024 .f32) (ix2 0 k) = (arg m c main_arg1 : Vec Ideal S1024 .f32) (ix1 k) := by
  blk_simp [iblk, idx t]
  rw [V_host]
  entry_read
  pointwise
  blk_ext [idx t]

theorem read3 (c : Dev nD) (t : Fin cfg0.N) (k : Fin 1024) (f : Fin 1408) :
    (iblk m c 3 t : Vec Ideal S1024x1408 .bf16) (ix2 k f) = (arg m c main_arg2 : Vec Ideal S1024x5632 .f32) (ix2 k ⟨(cc t f).val, by omega⟩) := by
  simp only [cc]
  blk_simp [iblk, idx t]
  rw [V_host]
  entry_read
  pointwise
  blk_ext [idx t]

theorem read4 (c : Dev nD) (t : Fin cfg0.N) (k : Fin 1024) (f : Fin 1408) :
    (iblk m c 4 t : Vec Ideal S1024x1408 .bf16) (ix2 k f) = (arg m c main_arg2 : Vec Ideal S1024x5632 .f32) (ix2 k ⟨2816 + (cc t f).val, by omega⟩) := by
  simp only [cc]
  blk_simp [iblk, idx t]
  rw [V_host]
  entry_read
  pointwise
  blk_ext [idx t]

theorem read5 (c : Dev nD) (t : Fin cfg0.N) (n : Fin 3) (f : Fin 1408) :
    (iblk m c 5 t : Vec Ideal S3x1408 .f32) (ix2 n f) = (arg m c main_arg3 : Vec Ideal S3x2816 .f32) (ix2 n (cc t f)) := by
  simp only [cc]
  blk_ext [iblk, V, idx t]

theorem read6 (c : Dev nD) (t : Fin cfg0.N) (f : Fin 1408) :
    (iblk m c 6 t : Vec Ideal S1x1408 .f32) (ix2 0 f) = (arg m c main_arg4 : Vec Ideal S2816 .f32) (ix1 (cc t f)) := by
  simp only [cc]
  blk_simp [iblk, idx t]
  rw [V_host]
  entry_read
  pointwise
  blk_ext [idx t]

theorem read7 (c : Dev nD) (t : Fin cfg0.N) (f : Fin 1408) (d : Fin 1024) :
    (iblk m c 7 t : Vec Ideal S1408x1024 .bf16) (ix2 f d) = (arg m c main_arg5 : Vec Ideal S2816x1024 .f32) (ix2 (cc t f) d) := by
  simp only [cc]
  blk_simp [iblk, idx t]
  rw [V_host]
  entry_read
  pointwise
  blk_ext [idx t]

theorem read8 (c : Dev nD) (t : Fin cfg0.N) (s : Fin 8) (n : Fin 2) (f : Fin 1408) :
    (iblk m c 8 t : Vec Ideal S8x2x1408 .f32) (ix3 s n f) = (arg m c main_arg6 : Vec Ideal S32x2x2816 .f32) (ix3 (bb t s) n (cc t f)) := by
  simp only [bb, cc]
  blk_ext [iblk, V, idx t]

end Cert.Proof.FT
-- ==== Proof.FT.Tile.lean ====
/-
  The conv feed-forward of the sample batch: a tile's gates, convolved gates and share of the down projection, in the arrays
  as launched.
-/
module

public import proofs.«01_k».proof.Proof.FT.Reads

@[expose] public section

set_option maxRecDepth 16384

noncomputable section

namespace Cert.Proof.FT

open Cert.Kernel10Ideal Cert.Kernel10Ideal.Gen
open Idealize.ShloMosaic Idealize.ShloMosaic.TcCoe
open Idealize.ShloMosaic.Pipeline

section
variable (a0 : Vec Ideal S32x64x1024 .f32) (a1 : Vec Ideal S1024 .f32) (a2 : Vec Ideal S1024x5632 .f32) (a6 : Vec Ideal S32x2x2816 .f32)

/-- Behind the state a position holds the state's value, -/
theorem padded_st (b : Fin 32) (q : ℕ) (hq : q < 66) (f : Fin 2816) (n : Fin 2) (h : q = n.val) :
    padded a0 a1 a2 a6 b q hq f = a6 (ix3 b n f) := by
  subst h
  unfold padded
  rw [dif_pos n.isLt]

/-- and past it the gate of the row two before. -/
theorem padded_row (b : Fin 32) (q : ℕ) (hq : q < 66) (f : Fin 2816) (p : Fin 64) (h : q = p.val + 2) :
    padded a0 a1 a2 a6 b q hq f = gate a0 a1 a2 b p f := by
  subst h
  unfold padded
  rw [dif_neg (by omega)]
  rfl
end

variable (m : (ℓ : Loc nD τ sig) → Buf (Elt Ideal) ℓ) (c : Dev nD) (t : Fin cfg0.N)

/-- A block holds the normed rows of the tile. -/
def IsRows (X : Vec Ideal S512x1024 .bf16) : Prop :=
  ∀ (s : Fin 8) (q : Fin 64) (k : Fin 1024), X (ix2 (row s q) k) = nx (arg m c main_arg0) (arg m c main_arg1) (bb t s) q k

/-- What the first half's point computes is such. -/
theorem isRows_pay3 : IsRows m c t (k0_pay3 (iblk m c 0 t) (iblk m c 2 t)) := fun s q k => by
  rw [pay3_apply]
  exact congrArg₂ (fun x g => nrm x g k) (funext fun k => read0 m c t s q k) (funext fun k => read2 m c t k)

variable {m c t} {X : Vec Ideal S512x1024 .bf16}

/-- The tile's gates; -/
theorem gate_tile (hX : IsRows m c t X) (s : Fin 8) (q : Fin 64) (f : Fin 1408) :
    k0_pay4 X (iblk m c 3 t) (ix3 s q f) = gate (arg m c main_arg0) (arg m c main_arg1) (arg m c main_arg2) (bb t s) q (cc t f) :=
  (pay4_apply X _ s q f).trans (Finset.sum_congr rfl fun k _ => congrArg₂ (· * ·) (hX s q k) (read3 m c t k f))

/-- the other half. -/
theorem up_tile (hX : IsRows m c t X) (s : Fin 8) (q : Fin 64) (f : Fin 1408) :
    k0_pay5 X (iblk m c 4 t) (ix3 s q f) = up (arg m c main_arg0) (arg m c main_arg1) (arg m c main_arg2) (bb t s) q (cc t f) :=
  (pay5_apply X _ s q f).trans (Finset.sum_congr rfl fun k _ => congrArg₂ (· * ·) (hX s q k) (read4 m c t k f))

/-- The gate one position before; -/
theorem newer (hX : IsRows m c t X) (s : Fin 8) (q : Fin 64) (f : Fin 1408) :
    k0_pay7 X (iblk m c 3 t) (iblk m c 8 t) (ix3 s q f)
      = padded (arg m c main_arg0) (arg m c main_arg1) (arg m c main_arg2) (arg m c main_arg6) (bb t s) (1 + q.val) (by omega) (cc t f) := by
  rw [pay7_apply, gate_tile hX]
  split
  · exact (read8 m c t s 1 f).trans (padded_st _ _ _ _ _ _ _ _ 1 (by simp; omega)).symm
  · exact (padded_row _ _ _ _ _ _ _ _ _ (by dsimp only; omega)).symm

/-- two positions before. -/
theorem older (hX : IsRows m c t X) (s : Fin 8) (q : Fin 64) (f : Fin 1408) :
    k0_pay8 X (iblk m c 3 t) (iblk m c 8 t) (ix3 s q f)
      = padded (arg m c main_arg0) (arg m c main_arg1) (arg m c main_arg2) (arg m c main_arg6) (bb t s) q.val (by omega) (cc t f) := by
  rw [pay8_apply, gate_tile hX]
  split
  · exact (read8 m c t s 0 f).trans (padded_st _ _ _ _ _ _ _ _ 0 (by assumption)).symm
  split
  · exact (read8 m c t s 1 f).trans (padded_st _ _ _ _ _ _ _ _ 1 (by assumption)).symm
  · exact (padded_row _ _ _ _ _ _ _ _ _ (by dsimp only; omega)).symm

/-- A block's share of the down projection of a tile's row. -/
theorem share_tile (hX : IsRows m c t X) (s : Fin 8) (q : Fin 64) (d : Fin 1024) :
    k0_pay9 (k0_pay4 X (iblk m c 3 t)) (k0_pay5 X (iblk m c 4 t)) (k0_pay7 X (iblk m c 3 t) (iblk m c 8 t))
        (k0_pay8 X (iblk m c 3 t) (iblk m c 8 t)) (iblk m c 5 t) (iblk m c 6 t) (iblk m c 7 t) (ix2 (row s q) d)
      = ∑ f : Fin 1408, hid (arg m c main_arg0) (arg m c main_arg1) (arg m c main_arg2) (arg m c main_arg3) (arg m c main_arg4) (arg m c main_arg6)
          (bb t s) q (cc t f) * (arg m c main_arg5 : Vec Ideal S2816x1024 .f32) (ix2 (cc t f) d) := by
  rw [pay9_apply]
  refine Finset.sum_congr rfl fun f _ => ?_
  have e2 : gate (arg m c main_arg0) (arg m c main_arg1) (arg m c main_arg2) (bb t s) q (cc t f)
      = padded (arg m c main_arg0) (arg m c main_arg1) (arg m c main_arg2) (arg m c main_arg6) (bb t s) (2 + q.val) (by omega) (cc t f) :=
    (padded_row _ _ _ _ _ _ _ _ _ (by omega)).symm
  rw [older hX, newer hX, gate_tile hX, up_tile hX, e2, read5 m c t 0 f, read5 m c t 1 f, read5 m c t 2 f, read6 m c t f]
  exact congrArg₂ (· * ·) rfl (read7 m c t f d)

end Cert.Proof.FT
-- ==== Proof.FT.Final.lean ====
/-
  The conv feed-forward of the sample batch: the idealized kernel's result arrays after the run.
-/
module

public import Idealize.ShloMosaic.Lib.Pipeline.ReadBack
public import proofs.«01_k».proof.Proof.FT.Tile

@[expose] public section

set_option maxRecDepth 16384

noncomputable section

namespace Cert.Proof.FT

open Cert.Kernel10Ideal Cert.Kernel10Ideal.Gen
open Idealize.ShloMosaic Idealize.ShloMosaic.TcCoe
open Idealize.ShloMosaic.Pipeline

variable (m : (ℓ : Loc nD τ sig) → Buf (Elt Ideal) ℓ) (c : Dev nD) (t : Fin cfg0.N)

/-- The residual's entry. -/
def start (a0 : Vec Ideal S32x64x1024 .f32) (b : Fin 32) (p : Fin 64) (d : Fin 1024) : EReal := a0 (ix3 b p d)

/-- What a first-half point leaves in the kept rows; -/
theorem even_rows (h : t.val % 2 = 0) : IsRows m c t (outsAt0 m c t.val t.isLt).2.2 := fun s q k => by
  rw [outsAt0_A m c t h h (by omega)]
  frame_out
  exact isRows_pay3 m c t s q k

/-- in the result's block; -/
theorem even_out (h : t.val % 2 = 0) (s : Fin 8) (q : Fin 64) (d : Fin 1024) : (outsAt0 m c t.val t.isLt).1 (ix2 (row s q) d)
    = start (arg m c main_arg0) (bb t s) q d
      + ∑ f : Fin 1408, hid (arg m c main_arg0) (arg m c main_arg1) (arg m c main_arg2) (arg m c main_arg3) (arg m c main_arg4) (arg m c main_arg6)
          (bb t s) q (cc t f) * (arg m c main_arg5 : Vec Ideal S2816x1024 .f32) (ix2 (cc t f) d) := by
  rw [outsAt0_A m c t h h (by omega)]
  frame_out
  refine (pay10_apply _ _ _ _ _ _ _ _ _ d).trans ?_
  exact congrArg₂ (· + ·) (read0 m c t s q d) (share_tile (isRows_pay3 m c t) s q d)

/-- and in the tails' block. -/
theorem even_tail (h : t.val % 2 = 0) (s : Fin 8) (n : Fin 2) (f : Fin 1408) : (outsAt0 m c t.val t.isLt).2.1 (ix3 s n f)
    = gate (arg m c main_arg0) (arg m c main_arg1) (arg m c main_arg2) (bb t s) ⟨62 + n.val, by omega⟩ (cc t f) := by
  rw [outsAt0_A m c t h h (by omega)]
  frame_out
  rw [pay2_apply]
  exact gate_tile (isRows_pay3 m c t) s _ f

/-- The point before a second-half point. -/
abbrev pred : Fin cfg0.N := ⟨t.val - 1, Nat.lt_of_le_of_lt (Nat.sub_le _ _) t.isLt⟩

variable {t}

theorem bb_pred (h : t.val % 2 = 1) (s : Fin 8) : bb (pred t) s = bb t s := by
  simp only [bb, pred, Fin.mk.injEq]; omega

/-- The rows it kept are the second half's too. -/
theorem odd_rows (h : t.val % 2 = 1) : IsRows m c t (outsAt0 m c (t.val - 1) (Nat.lt_of_le_of_lt (Nat.sub_le _ _) t.isLt)).2.2 := fun s q k => by
  rw [← bb_pred h]
  exact even_rows m c (pred t) (by simp only [pred]; omega) s q k

/-- A sum over the hidden columns is the sum over the first half's and the second's. -/
theorem sum_halves (F : Fin 2816 → EReal) :
    ∑ f, F f = (∑ f : Fin 1408, F ⟨f.val, by omega⟩) + ∑ f : Fin 1408, F ⟨1408 + f.val, by omega⟩ :=
  Fin.sum_univ_add (a := 1408) (b := 1408) F

/-- The whole sum a second-half point has before the last norm. -/
theorem odd_sum (h : t.val % 2 = 1) (s : Fin 8) (q : Fin 64) (d : Fin 1024) :
    (outsAt0 m c (t.val - 1) (Nat.lt_of_le_of_lt (Nat.sub_le _ _) t.isLt)).1 (ix2 (row s q) d)
      + ∑ f : Fin 1408, hid (arg m c main_arg0) (arg m c main_arg1) (arg m c main_arg2) (arg m c main_arg3) (arg m c main_arg4) (arg m c main_arg6)
          (bb t s) q (cc t f) * (arg m c main_arg5 : Vec Ideal S2816x1024 .f32) (ix2 (cc t f) d)
      = added (arg m c main_arg0) (arg m c main_arg1) (arg m c main_arg2) (arg m c main_arg3) (arg m c main_arg4) (arg m c main_arg5) (arg m c main_arg6)
          (bb t s) q d := by
  have e := even_out m c (pred t) (by simp only [pred]; omega) s q d
  rw [bb_pred h] at e
  have c0 : ∀ f : Fin 1408, cc (pred t) f = ⟨f.val, by omega⟩ := fun f => by simp only [cc, pred, Fin.mk.injEq]; omega
  have c1 : ∀ f : Fin 1408, cc t f = ⟨1408 + f.val, by omega⟩ := fun f => by simp only [cc, Fin.mk.injEq]; omega
  refine (congrArg (· + _) e).trans ?_
  simp only [c0, c1]
  rw [add_assoc]
  unfold added
  rw [sum_halves]
  rfl

/-- What a second-half point leaves in the result's block, -/
theorem odd_out (h : t.val % 2 = 1) (s : Fin 8) (q : Fin 64) (d : Fin 1024) : (outsAt0 m c t.val t.isLt).1 (ix2 (row s q) d)
    = added (arg m c main_arg0) (arg m c main_arg1) (arg m c main_arg2) (arg m c main_arg3) (arg m c main_arg4) (arg m c main_arg5) (arg m c main_arg6)
        (bb t s) q d := by
  rw [outsAt0_B m c t (by omega) (by omega) h]
  frame_out
  simp only [read_unread_whole]
  refine (pay1_apply _ _ _ d).trans ?_
  exact (congrArg _ (share_tile (odd_rows m c h) s q d)).trans (odd_sum m c h s q d)

/-- and in the tails' block. -/
theorem odd_tail (h : t.val % 2 = 1) (s : Fin 8) (n : Fin 2) (f : Fin 1408) : (outsAt0 m c t.val t.isLt).2.1 (ix3 s n f)
    = gate (arg m c main_arg0) (arg m c main_arg1) (arg m c main_arg2) (bb t s) ⟨62 + n.val, by omega⟩ (cc t f) := by
  rw [outsAt0_B m c t (by omega) (by omega) h]
  frame_out
  rw [read_unread_whole, pay2_apply]
  exact gate_tile (odd_rows m c h) s _ f

/-! ## The arrays after the run -/

/-- The result's block at a point, in the result. -/
theorem emb10 (r : Fin 512) (d : Fin 1024) :
    (((View.whole main_v9_0).slice (win0_10.rect t)).emb (ix2 r d : S512x1024.Idx) : S2048x1024.Idx)
      = ix2 ⟨t.val / 2 * 512 + r.val, by have := lt8 t; omega⟩ d := by
  blk_ext [idx t]

/-- The result. -/
theorem final_y : (dats m 0 c).arrAt 10 cfg0.N
    = resA (arg m c main_arg0) (arg m c main_arg1) (arg m c main_arg2) (arg m c main_arg3)
        (arg m c main_arg4) (arg m c main_arg5) (arg m c main_arg6) := by
  refine (dats m 0 c).arrAt_eq_of_covers 10 _ (by decide +kernel) fun t hf y => ?_
  have h := (flush0_10 t).mp hf
  blk_simp
  rw [after0_10]
  idx_vars y
  obtain ⟨s, q, rfl⟩ : ∃ (s : Fin 8) (q : Fin 64), y0 = row s q :=
    ⟨⟨y0.val / 64, by omega⟩, ⟨y0.val % 64, by omega⟩, Fin.ext (by simp only [row]; omega)⟩
  refine (odd_out m c h s q y1).trans ?_
  rw [emb10]
  have hb : bb t s = ⟨(t.val / 2 * 512 + (row s q).val) / 64, by have := lt8 t; omega⟩ := by simp only [bb, row, Fin.mk.injEq]; omega
  have hp : q = ⟨(t.val / 2 * 512 + (row s q).val) % 64, Nat.mod_lt _ (by decide)⟩ := Fin.ext (by simp only [row]; omega)
  refine (congrArg₂ (fun b p => added (arg m c main_arg0) (arg m c main_arg1) (arg m c main_arg2) (arg m c main_arg3)
        (arg m c main_arg4) (arg m c main_arg5) (arg m c main_arg6) b p y1) hb hp).trans ?_
  rfl

/-- The tails' block at a point, in the tails. -/
theorem emb11 (s : Fin 8) (n : Fin 2) (f : Fin 1408) :
    (((View.whole main_v9_1).slice (win0_11.rect t)).emb (ix3 s n f : S8x2x1408.Idx) : S32x2x2816.Idx) = ix3 (bb t s) n (cc t f) := by
  have e : cc t f = ⟨t.val % 2 * 1408 + f.val, by omega⟩ := by simp only [cc, Fin.mk.injEq]; omega
  have e' : bb t s = ⟨t.val / 2 * 8 + s.val, by have := lt8 t; omega⟩ := by simp only [bb, Fin.mk.injEq]; omega
  rw [e, e']
  blk_ext [idx t]

theorem any_tail (s : Fin 8) (n : Fin 2) (f : Fin 1408) : (outsAt0 m c t.val t.isLt).2.1 (ix3 s n f)
    = gate (arg m c main_arg0) (arg m c main_arg1) (arg m c main_arg2) (bb t s) ⟨62 + n.val, by omega⟩ (cc t f) := by
  rcases Nat.mod_two_eq_zero_or_one t.val with h | h
  · exact even_tail m c t h s n f
  · exact odd_tail m c h s n f

/-- The new state. -/
theorem final_t : (dats m 0 c).arrAt 11 cfg0.N = tailA (arg m c main_arg0) (arg m c main_arg1) (arg m c main_arg2) (arg m c main_arg6) := by
  refine (dats m 0 c).arrAt_eq_of_covers 11 _ (by decide +kernel) fun t _ y => ?_
  blk_simp
  rw [after0_11]
  idx_vars y
  refine (any_tail m c y0 y1 y2).trans ?_
  rw [emb11]
  exact (padded_row _ _ _ _ _ (64 + y1.val) (by omega) _ ⟨62 + y1.val, by omega⟩ (by dsimp only; omega)).symm

/-- The run leaves the result and the new state, and the arguments as they were. -/
theorem run (g : Dev nD → PrngReg) : θ_run defs (onTc (τ := τ) (main (F := Ideal))) ⟨m, fun _ => 0, g⟩ (fun r => ∀ c : Dev nD,
      r.2.mem ((c.tc : Thread nD τ).loc main_v9_0) = resA (arg m c main_arg0) (arg m c main_arg1) (arg m c main_arg2) (arg m c main_arg3)
        (arg m c main_arg4) (arg m c main_arg5) (arg m c main_arg6)
      ∧ r.2.mem ((c.tc : Thread nD τ).loc main_v9_1) = tailA (arg m c main_arg0) (arg m c main_arg1) (arg m c main_arg2) (arg m c main_arg6)) := by
  refine (θ_run defs _ _).mono (fun r h c => ⟨?_, ?_⟩) (run_main m g)
  · exact ((h c).1 10).trans (final_y m c)
  · exact ((h c).1 11).trans (final_t m c)

end Cert.Proof.FT
-- ==== Proof.FT.Ref.lean ====
/-
  The conv feed-forward of the sample batch: what the reference's results hold.
-/
module

public import proofs.«01_k».proof.Proof.Gen.Reference10Ideal.Read
public import proofs.«01_k».proof.Proof.FT.Spec

@[expose] public section

set_option maxRecDepth 16384

noncomputable section

namespace Cert.Proof.FT

open Cert.Reference10Ideal Cert.Reference10Ideal.Read
open Idealize.ShloMosaic Idealize.ShloMosaic.TcCoe

variable (a0 : Vec Ideal S32x64x1024 .f32) (a1 : Vec Ideal S1024 .f32) (a2 : Vec Ideal S1024x5632 .f32) (a3 : Vec Ideal S3x2816 .f32)
  (a4 : Vec Ideal S2816 .f32) (a5 : Vec Ideal S2816x1024 .f32) (a6 : Vec Ideal S32x2x2816 .f32)

/-- The reference's normed rows. -/
theorem ref_nx (b : Fin 32) (p : Fin 64) (k : Fin 1024) : val_main_v12 a0 a1 (ix3 b p k) = nx a0 a1 b p k := by
  pointwise [val_main_v0, val_main_cst, val_main_v1, val_main_v2, val_main_cst_0, val_main_v3, val_main_v4, val_main_cst_1, val_main_v5,
    val_main_v6, val_main_v7, val_main_v8, val_main_v9, val_main_v10, val_main_v11, val_main_v12]
  rfl

/-- Its gates; -/
theorem ref_gate (b : Fin 32) (p : Fin 64) (f : Fin 2816) : val_main_v14 a0 a1 a2 (ix3 b p f) = gate a0 a1 a2 b p f := by
  pointwise [val_main_v14, val_main_v13]
  simp only [ref_nx]
  rfl

/-- the other half; -/
theorem ref_up (b : Fin 32) (p : Fin 64) (f : Fin 2816) : val_main_v15 a0 a1 a2 (ix3 b p f) = up a0 a1 a2 b p f := by
  pointwise [val_main_v15, val_main_v13]
  simp only [ref_nx]
  rfl

/-- the gates behind the state; -/
theorem ref_padded (b : Fin 32) (q : Fin 66) (f : Fin 2816) :
    val_main_v16 a0 a1 a2 a6 (ix3 b q f) = padded a0 a1 a2 a6 b q.val q.isLt f := by
  pointwise [val_main_v16]
  simp only [ref_gate]
  rfl

/-- convolved; -/
theorem ref_cgate (b : Fin 32) (p : Fin 64) (f : Fin 2816) : val_main_v39 a0 a1 a2 a3 a4 a6 (ix3 b p f) = cgate a0 a1 a2 a3 a4 a6 b p f := by
  pointwise [val_main_v17, val_main_v18, val_main_v19, val_main_v20, val_main_v21, val_main_v22, val_main_v23, val_main_v24, val_main_v25,
    val_main_v26, val_main_v27, val_main_v28, val_main_v29, val_main_v30, val_main_v31, val_main_v32, val_main_v33, val_main_v34,
    val_main_v35, val_main_v36, val_main_v37, val_main_v38, val_main_v39]
  simp only [ref_padded]
  rfl

/-- the hidden row; -/
theorem ref_hid (b : Fin 32) (p : Fin 64) (f : Fin 2816) : val_main_v53 a0 a1 a2 a3 a4 a6 (ix3 b p f) = hid a0 a1 a2 a3 a4 a6 b p f := by
  pointwise [val_main_v40, val_main_v41, val_main_cst_2, val_main_v42, val_main_v43, val_main_v44, val_main_cst_3, val_main_v45,
    val_main_v46, val_main_v47, val_main_cst_4, val_main_v48, val_main_v49, val_main_cst_5, val_main_v50, val_main_v51, val_main_v52, val_main_v53]
  simp only [ref_cgate, ref_up]
  rfl

/-- and the sum with the row. -/
theorem ref_added (b : Fin 32) (p : Fin 64) (d : Fin 1024) :
    val_main_v56 a0 a1 a2 a3 a4 a5 a6 (ix3 b p d) = added a0 a1 a2 a3 a4 a5 a6 b p d := by
  pointwise [val_main_v54, val_main_v56]
  simp only [ref_hid]
  rfl

/-- The reference's first result. -/
theorem ref_eq : val_main_v57 a0 a1 a2 a3 a4 a5 a6 = resA a0 a1 a2 a3 a4 a5 a6 := by
  funext z
  obtain ⟨r, d, rfl⟩ : ∃ (r : Fin 2048) (d : Fin 1024), z = ix2 r d := ⟨z 0, z 1, ValueIdx.eq_ix2 z⟩
  pointwise [val_main_v57]
  refine (ref_added a0 a1 a2 a3 a4 a5 a6 _ _ _).trans ?_
  rfl

/-- Its second. -/
theorem ref_tail : val_main_v55 a0 a1 a2 a6 = tailA a0 a1 a2 a6 := by
  funext z
  obtain ⟨b, n, f, rfl⟩ : ∃ (b : Fin 32) (n : Fin 2) (f : Fin 2816), z = ix3 b n f := ⟨z 0, z 1, z 2, ValueIdx.eq_ix3 z⟩
  pointwise [val_main_v55]
  refine (ref_padded a0 a1 a2 a6 _ _ _).trans ?_
  rfl

end Cert.Proof.FT
-- ==== Proof.BR.Spec.lean ====
/-
  The chunk-band caches after the sample rows: the old entries moved down by the new rows' number, the new rows behind them.
-/
module

public import proofs.«01_k».proof.Proof.Gen.Kernel7Ideal.Frame
public import Idealize.ShloMosaic.Lib.Pipeline.ValueKit
public import Idealize.ShloMosaic.Lib.Pointwise

@[expose] public section

set_option maxRecDepth 16384

noncomputable section

namespace Cert.Proof.BR

open Cert.Kernel7Ideal Cert.Kernel7Ideal.Gen
open Idealize.ShloMosaic Idealize.ShloMosaic.TcCoe
open Idealize.ShloMosaic.Pipeline

/-- An entry of the moved cache: an old one 64 places on, or the new row's at its head's columns, `o` on. -/
def moved (a : Vec Ideal S2x32x512x8x64 .f32) (p4 : Vec Ideal S2x32x64x4608 .f32) (o : ℕ) (ho : o ≤ 1024) (l : Fin 2) (b : Fin 32)
    (p : Fin 512) (h : Fin 8) (e : Fin 64) : EReal :=
  if q : p.val < 448 then a (ix5 l b ⟨p.val + 64, by omega⟩ h e)
  else p4 (ix4 l b ⟨p.val - 448, by omega⟩ ⟨o + (64 * h.val + e.val), by omega⟩)

/-- The whole cache. -/
def movedA (a : Vec Ideal S2x32x512x8x64 .f32) (p4 : Vec Ideal S2x32x64x4608 .f32) (o : ℕ) (ho : o ≤ 1024) : Vec Ideal S2x32x512x8x64 .f32 :=
  fun z => moved a p4 o ho (z 0) (z 1) (z 2) (z 3) (z 4)

/-- The same with the positions last and the heads' columns joined, as the region holds it. -/
def movedT (a : Vec Ideal S2x32x512x8x64 .f32) (p4 : Vec Ideal S2x32x64x4608 .f32) (o : ℕ) (ho : o ≤ 1024) : Vec Ideal S2x32x512x512 .f32 :=
  fun z => moved a p4 o ho (z 0) (z 1) (z 3) ⟨(z 2).val / 64, Nat.div_lt_of_lt_mul (z 2).isLt⟩ ⟨(z 2).val % 64, Nat.mod_lt _ (by decide)⟩

/-- The word comparison of a lane's number. -/
theorem sel_lane (n : ℕ) (hn : n < 128) (a b : EReal) :
    Scalar.select (IntOp.cmpi CmpIPredicate.sge (BitVec.ofNat 32 n) 64#32) a b = if 64 ≤ n then a else b := by
  have h : ∀ r : Fin 128, IntOp.cmpi CmpIPredicate.sge (BitVec.ofNat 32 r.val) 64#32 = BitVec.ofBool (decide (64 ≤ r.val)) := by decide +kernel
  rw [h ⟨n, hn⟩, WordCmp.select_ofBool]
  simp only [decide_eq_true_eq]

/-- What the body stores: a feature's row moved, the new rows transposed behind it. -/
theorem pay2_apply (x : Vec Ideal S1x1x512x512 .f32) (y : Vec Ideal S1x1x64x512 .f32) (f p : Fin 512) :
    k0_pay2 x y (ix4 0 0 f p) = if q : p.val < 448 then x (ix4 0 0 f ⟨p.val + 64, by omega⟩) else y (ix4 0 0 ⟨p.val - 448, by omega⟩ f) := by
  pointwise [k0_pay2]
  by_cases h1 : p.val < 384
  · rw [dif_pos h1, dif_pos (show p.val < 448 by omega)]
    exact congrArg x (congrArg (ix4 0 0 f) (Fin.ext (by show (p.val + 512 - 448) % 512 = p.val + 64; omega)))
  rw [dif_neg h1, sel_lane _ (by omega)]
  by_cases h2 : p.val < 448
  · rw [if_neg (by omega), dif_pos h2]
    exact congrArg x (congrArg (ix4 0 0 f) (Fin.ext (by show (384 + (p.val - 384) + 512 - 448) % 512 = p.val + 64; omega)))
  · rw [if_pos (by omega), dif_pos (by omega), dif_neg h2]
    exact congrArg y (congrArg (ix4 0 0 · f) (Fin.ext (by show (p.val - 384 + 128 - 64) % 128 = p.val - 448; omega)))

/-- The second store is the first's over the other blocks. -/
theorem pay1_eq (x : Vec Ideal S1x1x512x512 .f32) (y : Vec Ideal S1x1x64x512 .f32) :
    k0_pay1 (k0_pay3 x) (k0_pay4 y) (iota .tc S512x128 32 [1] iota_S512x128_d1_w32) 64#32 = k0_pay2 x y := rfl

end Cert.Proof.BR
-- ==== Proof.BR.Final.lean ====
/-
  The chunk-band caches after the sample rows: what the blocks of a point read, and the results after the run.
-/
module

public import Idealize.ShloMosaic.Lib.Pipeline.ReadBack
public import proofs.«01_k».proof.Proof.BR.Spec

@[expose] public section

set_option maxRecDepth 16384

noncomputable section

namespace Cert.Proof.BR

open Cert.Kernel7Ideal Cert.Kernel7Ideal.Gen
open Idealize.ShloMosaic Idealize.ShloMosaic.TcCoe
open Idealize.ShloMosaic.Pipeline

theorem lt64 (t : Fin cfg0.N) : t.val < 64 := t.isLt

/-- The layer of a point, -/
def ll (t : Fin cfg0.N) : Fin 2 := ⟨t.val / 32, by have := lt64 t; omega⟩

/-- and its sequence. -/
def bb (t : Fin cfg0.N) : Fin 32 := ⟨t.val % 32, Nat.mod_lt _ (by decide)⟩

/-- The block indices of point `t`. -/
theorem idx : ∀ t : Fin cfg0.N, win0_0.index t = ![t.val / 32, t.val % 32, 0, 0] ∧ win0_1.index t = ![t.val / 32, t.val % 32, 0, 0]
    ∧ win0_2.index t = ![t.val / 32, t.val % 32, 0, 1] ∧ win0_3.index t = ![t.val / 32, t.val % 32, 0, 2]
    ∧ win0_4.index t = ![t.val / 32, t.val % 32, 0, 0] ∧ win0_5.index t = ![t.val / 32, t.val % 32, 0, 0] :=
  (by decide +kernel : ∀ t : Fin grid0.N, _)

variable (m : (ℓ : Loc nD τ sig) → Buf (Elt Ideal) ℓ) (c : Dev nD) (t : Fin cfg0.N)

/-- An argument array as launched. -/
abbrev arg (b : Ref sig .tc) : Buf (Elt Ideal) ((c : Thread nD τ).loc b) := m ((c : Thread nD τ).loc b)

/-- What the host's lines leave in a buffer before the region. -/
theorem V_host (b : Ref sig .tc) :
    V m c b = StableHlo.after (hostOps0 (F := Ideal)) (fun b => m (c, b)) (Proc.devRef .tc b) := by
  show StableHlo.after (List.flatten [hostOps0]) _ _ = _
  rw [List.flatten_cons, List.flatten_nil, List.append_nil]

theorem read0 (f p : Fin 512) : (iblk m c 0 t : Vec Ideal S1x1x512x512 .f32) (ix4 0 0 f p)
    = (arg m c main_arg0 : Vec Ideal S2x32x512x8x64 .f32) (ix5 (ll t) (bb t) p ⟨f.val / 64, by omega⟩ ⟨f.val % 64, by omega⟩) := by
  simp only [ll, bb]
  blk_simp [iblk, idx t]
  rw [V_host]
  entry_read
  pointwise
  blk_ext [idx t]

theorem read1 (f p : Fin 512) : (iblk m c 1 t : Vec Ideal S1x1x512x512 .f32) (ix4 0 0 f p)
    = (arg m c main_arg1 : Vec Ideal S2x32x512x8x64 .f32) (ix5 (ll t) (bb t) p ⟨f.val / 64, by omega⟩ ⟨f.val % 64, by omega⟩) := by
  simp only [ll, bb]
  blk_simp [iblk, idx t]
  rw [V_host]
  entry_read
  pointwise
  blk_ext [idx t]

theorem read2 (q : Fin 64) (f : Fin 512) : (iblk m c 2 t : Vec Ideal S1x1x64x512 .f32) (ix4 0 0 q f)
    = (arg m c main_arg2 : Vec Ideal S2x32x64x4608 .f32) (ix4 (ll t) (bb t) q ⟨512 + f.val, by omega⟩) := by
  simp only [ll, bb]
  blk_ext [iblk, V, idx t]

theorem read3 (q : Fin 64) (f : Fin 512) : (iblk m c 3 t : Vec Ideal S1x1x64x512 .f32) (ix4 0 0 q f)
    = (arg m c main_arg2 : Vec Ideal S2x32x64x4608 .f32) (ix4 (ll t) (bb t) q ⟨1024 + f.val, by omega⟩) := by
  simp only [ll, bb]
  blk_ext [iblk, V, idx t]

/-- From blocks that read so, the moved cache. -/
theorem moved_block (a : Vec Ideal S2x32x512x8x64 .f32) (p4 : Vec Ideal S2x32x64x4608 .f32) (o : ℕ) (ho : o ≤ 1024) (l : Fin 2) (b : Fin 32)
    (x : Vec Ideal S1x1x512x512 .f32) (y : Vec Ideal S1x1x64x512 .f32)
    (hx : ∀ f p : Fin 512, x (ix4 0 0 f p) = a (ix5 l b p ⟨f.val / 64, by omega⟩ ⟨f.val % 64, by omega⟩))
    (hy : ∀ (q : Fin 64) (f : Fin 512), y (ix4 0 0 q f) = p4 (ix4 l b q ⟨o + f.val, by omega⟩)) (f p : Fin 512) :
    k0_pay2 x y (ix4 0 0 f p) = moved a p4 o ho l b p ⟨f.val / 64, by omega⟩ ⟨f.val % 64, by omega⟩ := by
  rw [pay2_apply]
  unfold moved
  by_cases h : p.val < 448
  · rw [dif_pos h, dif_pos h, hx]
  · rw [dif_neg h, dif_neg h, hy]
    exact congrArg p4 (congrArg (ix4 l b _) (Fin.ext (by show o + f.val = o + (64 * (f.val / 64) + f.val % 64); omega)))

/-- The key blocks' positions in the key array, -/
theorem emb4 (f p : Fin 512) :
    (((View.whole main_v4_0).slice (win0_4.rect t)).emb (ix4 0 0 f p : S1x1x512x512.Idx) : S2x32x512x512.Idx) = ix4 (ll t) (bb t) f p := by
  simp only [ll, bb]
  blk_ext [idx t]

/-- and the value blocks'. -/
theorem emb5 (f p : Fin 512) :
    (((View.whole main_v4_1).slice (win0_5.rect t)).emb (ix4 0 0 f p : S1x1x512x512.Idx) : S2x32x512x512.Idx) = ix4 (ll t) (bb t) f p := by
  simp only [ll, bb]
  blk_ext [idx t]

/-- The key array. -/
theorem final_k : (dats m 0 c).arrAt 4 cfg0.N = movedT (arg m c main_arg0) (arg m c main_arg2) 512 (by omega) := by
  refine (dats m 0 c).arrAt_eq_of_covers 4 _ (by decide +kernel) fun t _ y => ?_
  blk_simp
  rw [after0_4]
  idx_vars y
  obtain rfl : y0 = 0 := Subsingleton.elim _ _
  obtain rfl : y1 = 0 := Subsingleton.elim _ _
  rw [emb4]
  unfold out0_4
  frame_out
  exact moved_block (arg m c main_arg0) (arg m c main_arg2) 512 (by omega) (ll t) (bb t) _ _ (read0 m c t) (read2 m c t) y2 y3

/-- The value array. -/
theorem final_v : (dats m 0 c).arrAt 5 cfg0.N = movedT (arg m c main_arg1) (arg m c main_arg2) 1024 (by omega) := by
  refine (dats m 0 c).arrAt_eq_of_covers 5 _ (by decide +kernel) fun t _ y => ?_
  blk_simp
  rw [after0_5]
  idx_vars y
  obtain rfl : y0 = 0 := Subsingleton.elim _ _
  obtain rfl : y1 = 0 := Subsingleton.elim _ _
  rw [emb5]
  unfold out0_5
  frame_out
  rw [pay1_eq]
  exact moved_block (arg m c main_arg1) (arg m c main_arg2) 1024 (by omega) (ll t) (bb t) _ _ (read1 m c t) (read3 m c t) y2 y3

/-- The host's last two lines put the positions back before the heads. -/
theorem back (a : Vec Ideal S2x32x512x8x64 .f32) (p4 : Vec Ideal S2x32x64x4608 .f32) (o : ℕ) (ho : o ≤ 1024) :
    transpose S2x32x512x8x64 [0, 1, 4, 2, 3] (shapeCast S2x32x8x64x512 (movedT a p4 o ho) shapeCasts_S2x32x512x512_S2x32x8x64x512)
      transposes_S2x32x8x64x512_S2x32x512x8x64_0_1_4_2_3 = movedA a p4 o ho := by
  funext z
  idx_vars z
  pointwise
  have hg : ∀ (i : Fin 2) (j : Fin 32) (f p : Fin 512), movedT a p4 o ho (ix4 i j f p)
      = moved a p4 o ho i j p ⟨f.val / 64, by omega⟩ ⟨f.val % 64, by omega⟩ := fun _ _ _ _ => rfl
  rw [hg]
  show _ = moved a p4 o ho z0 z1 z2 z3 z4
  congr 1
  · exact Fin.ext (by dsimp only; omega)
  · exact Fin.ext (by dsimp only; omega)

/-- The run leaves the two moved caches. -/
theorem run (g : Dev nD → PrngReg) : θ_run defs (onTc (τ := τ) (main (F := Ideal))) ⟨m, fun _ => 0, g⟩ (fun r => ∀ c : Dev nD,
      r.2.mem ((c.tc : Thread nD τ).loc main_v6) = movedA (arg m c main_arg0) (arg m c main_arg2) 512 (by omega)
      ∧ r.2.mem ((c.tc : Thread nD τ).loc main_v8) = movedA (arg m c main_arg1) (arg m c main_arg2) 1024 (by omega)) := by
  refine (θ_run defs _ _).mono (fun r h c => ⟨?_, ?_⟩) (run_main m g)
  · refine ((h c).2 main_v6 (mem_restRefs_of main_v6 (by decide) (by decide))).trans ?_
    refine Eq.trans ?_ (back (arg m c main_arg0) (arg m c main_arg2) 512 (by omega))
    rw [← final_k m c]
    unfold afterTail₀
    have e : withArrays spec0 c (V0 m c) (fun w => (dats m 0 c).arrAt w cfg0.N) (Proc.devRef .tc main_v4_0) = (dats m 0 c).arrAt 4 cfg0.N :=
      Dat.withArrays_arrAt (dats m 0 c) sharedIn0 (V0 m c) (A_eq m c) 4
    rw [← e]
    unfold hostOps1
    simp only [List.flatten_cons, List.flatten_nil, List.append_nil]
    after_results
    rfl
  · refine ((h c).2 main_v8 (mem_restRefs_of main_v8 (by decide) (by decide))).trans ?_
    refine Eq.trans ?_ (back (arg m c main_arg1) (arg m c main_arg2) 1024 (by omega))
    rw [← final_v m c]
    unfold afterTail₀
    have e : withArrays spec0 c (V0 m c) (fun w => (dats m 0 c).arrAt w cfg0.N) (Proc.devRef .tc main_v4_1) = (dats m 0 c).arrAt 5 cfg0.N :=
      Dat.withArrays_arrAt (dats m 0 c) sharedIn0 (V0 m c) (A_eq m c) 5
    rw [← e]
    unfold hostOps1
    simp only [List.flatten_cons, List.flatten_nil, List.append_nil]
    after_results
    rfl

end Cert.Proof.BR
-- ==== Proof.BR.Ref.lean ====
/-
  The chunk-band caches after the sample rows: what the reference's results hold.
-/
module

public import proofs.«01_k».proof.Proof.Gen.Reference7Ideal.Read
public import proofs.«01_k».proof.Proof.BR.Spec

@[expose] public section

set_option maxRecDepth 16384

noncomputable section

namespace Cert.Proof.BR

open Cert.Reference7Ideal Cert.Reference7Ideal.Read
open Idealize.ShloMosaic Idealize.ShloMosaic.TcCoe

variable (a v : Vec Ideal S2x32x512x8x64 .f32) (p4 : Vec Ideal S2x32x64x4608 .f32)

/-- The reference's key cache, -/
theorem ref_k : val_main_v5 a p4 = movedA a p4 512 (by omega) := by
  funext z
  idx_vars z
  pointwise [val_main_v5, val_main_v4, val_main_v1, val_main_v0]
  show _ = moved a p4 512 _ z0 z1 z2 z3 z4
  unfold moved
  split
  · exact congrArg a (congrArg (ix5 z0 z1 · z3 z4) (Fin.ext (by dsimp only; omega)))
  · exact congrArg p4 (congrArg (ix4 z0 z1 _) (Fin.ext (by dsimp only; omega)))

/-- and its value cache. -/
theorem ref_v : val_main_v7 v p4 = movedA v p4 1024 (by omega) := by
  funext z
  idx_vars z
  pointwise [val_main_v7, val_main_v6, val_main_v3, val_main_v2]
  show _ = moved v p4 1024 _ z0 z1 z2 z3 z4
  unfold moved
  split
  · exact congrArg v (congrArg (ix5 z0 z1 · z3 z4) (Fin.ext (by dsimp only; omega)))
  · exact congrArg p4 (congrArg (ix4 z0 z1 _) (Fin.ext (by dsimp only; omega)))

end Cert.Proof.BR
-- ==== Proof.lean ====
module

public import proofs.«01_k».proof.Proof.Gen.Kernel9.Frame
public import proofs.«01_k».proof.Proof.Gen.Kernel10.Frame
public import proofs.«01_k».proof.Proof.Gen.Kernel7.Frame
public import proofs.«01_k».proof.Proof.Gen.Kernel8.Frame
public import proofs.«01_k».proof.Defs
public import proofs.«01_k».proof.Proof.Gen.Kernel.Loops
public import proofs.«01_k».proof.Proof.Gen.KernelIdeal.Loops
public import proofs.«01_k».proof.Proof.Gen.Kernel2.Frame
public import proofs.«01_k».proof.Proof.Gen.Kernel3.Frame
public import proofs.«01_k».proof.Proof.Gen.Kernel4.Frame
public import proofs.«01_k».proof.Proof.Gen.Kernel11.Frame
public import proofs.«01_k».proof.Proof.SA.Run
public import proofs.«01_k».proof.Proof.SV.Ref
public import proofs.«01_k».proof.Proof.MS.Ref
public import proofs.«01_k».proof.Proof.FF.Final
public import proofs.«01_k».proof.Proof.FF.Ref
public import proofs.«01_k».proof.Proof.KV.Run
public import proofs.«01_k».proof.Proof.KV.Ref
public import proofs.«01_k».proof.Proof.NP.Final
public import proofs.«01_k».proof.Proof.NP.Same
public import proofs.«01_k».proof.Proof.NP.Ref
public import proofs.«01_k».proof.Proof.SP.Final
public import proofs.«01_k».proof.Proof.SP.Same
public import proofs.«01_k».proof.Proof.SP.Ref
public import proofs.«01_k».proof.Proof.FS.Final
public import proofs.«01_k».proof.Proof.FS.Ref
public import proofs.«01_k».proof.Proof.FG.Final
public import proofs.«01_k».proof.Proof.FG.Ref
public import proofs.«01_k».proof.Proof.FT.Final
public import proofs.«01_k».proof.Proof.FT.Ref
public import proofs.«01_k».proof.Proof.BR.Final
public import proofs.«01_k».proof.Proof.BR.Ref
public import Idealize.ShloMosaic.Adequacy
public import Idealize.ShloMosaic.Init

@[expose] public section

noncomputable section

namespace Cert.Proof

open Idealize.ShloMosaic Idealize.SL.Sem

/-- The kernel runs to its end, its arguments unchanged and its semaphores at zero. -/
theorem frame_P : quiescent_Kernel (hKernel := Kernel.Gen.facts) :=
  fun m g _ => (θ_run Kernel.defs _ _).mono (fun _ h => ⟨fun c => (h.1 c).2, h.2⟩) (P.run_named m g)

/-- So does the idealized kernel. -/
theorem frame_PI : quiescent_KernelIdeal (hKernelIdeal := KernelIdeal.Gen.facts) :=
  fun m g _ => (θ_run KernelIdeal.defs _ _).mono (fun _ h => ⟨fun c => (h.1 c).2, h.2⟩) (PI.run_named m g)

/-- So does the idealized reference. -/
theorem frame_RI : quiescent_ReferenceIdeal (hReferenceIdeal := ReferenceIdeal.Gen.facts) :=
  fun m g _ => (θ_run ReferenceIdeal.defs _ _).mono
    (fun r h => ⟨fun c => (h c).2, sem_eq_zero_of_no_sems (by decide) r.2⟩)
    (ReferenceIdeal.Value.run (F := Ideal) m g)

/-- The cut below which a tile is skipped stands for minus infinity. -/
theorem preserves : preserves_Kernel_KernelIdeal :=
  IdealRules.named_const.statement KernelIdeal.κ "cut" .f32 0xC2D00000#32 ⊥ rfl

/-- Over the reals the kernel and the reference leave the same array. -/
theorem algebraic : algebraic_KernelIdeal_ReferenceIdeal (hKernelIdeal := KernelIdeal.Gen.facts)
    (hReferenceIdeal := ReferenceIdeal.Gen.facts) := by
  intro m g m' g' _ hargs
  refine ⟨fun c => PI.finalA m g c (3 : Fin 4), ?_, ?_⟩
  · exact (θ_run KernelIdeal.defs _ _).mono (fun _ h => h.1) (PI.run_named m g)
  · refine (θ_run ReferenceIdeal.defs _ _).mono (fun r h c => ⟨?_, (h c).2⟩)
      (ReferenceIdeal.Value.run (F := Ideal) m' g')
    obtain ⟨h0, h1, h2⟩ := hargs c
    rw [(h c).1, ReferenceIdeal.Read.val_main_v37_eq, h0, h1, h2]
    exact (V.v37_eq _ _ _).trans (V.final_eq m g c).symm

/-- The merge runs to its end, its arguments unchanged and its semaphores at zero. -/
theorem frame_P2 : quiescent_Kernel2 (hKernel2 := Kernel2.Gen.facts) :=
  fun m g _ => Kernel2.Gen.frame m g

/-- So does the idealized merge. -/
theorem frame_PI2 : quiescent_Kernel2Ideal (hKernel2Ideal := Kernel2Ideal.Gen.facts) :=
  fun m g _ => Kernel2Ideal.Gen.frame m g

/-- So does its idealized reference. -/
theorem frame_RI2 : quiescent_Reference2Ideal (hReference2Ideal := Reference2Ideal.Gen.facts) :=
  fun m g _ => (θ_run Reference2Ideal.defs _ _).mono
    (fun r h => ⟨fun c => (h c).2, sem_eq_zero_of_no_sems (by decide) r.2⟩)
    (Reference2Ideal.Value.run (F := Ideal) m g)

/-- The merge's idealized text is its text. -/
theorem preserves2 : preserves_Kernel2_Kernel2Ideal := trivial

/-- Over the reals the merge and its reference leave the same array. -/
theorem algebraic2 : algebraic_Kernel2Ideal_Reference2Ideal (hKernel2Ideal := Kernel2Ideal.Gen.facts)
    (hReference2Ideal := Reference2Ideal.Gen.facts) := by
  intro m g m' g' _ hargs
  refine ⟨fun c => M.resA (M.arg m c Kernel2Ideal.main_arg0) (M.arg m c Kernel2Ideal.main_arg1) (M.arg m c Kernel2Ideal.main_arg2) (M.arg m c Kernel2Ideal.main_arg3) (M.arg m c Kernel2Ideal.main_arg4) (M.arg m c Kernel2Ideal.main_arg5) (M.arg m c Kernel2Ideal.main_arg6) (M.arg m c Kernel2Ideal.main_arg7) (M.arg m c Kernel2Ideal.main_arg8), ?_, ?_⟩
  · exact (θ_run Kernel2Ideal.defs _ _).mono (fun r h c => ⟨(h c).1.trans (M.final m c), (h c).2⟩)
      (Kernel2Ideal.Value.run_blocks m g)
  · refine (θ_run Reference2Ideal.defs _ _).mono (fun r h c => ⟨?_, (h c).2⟩)
      (Reference2Ideal.Value.run (F := Ideal) m' g')
    obtain ⟨h0, h1, h2, h3, h4, h5, h6, h7, h8⟩ := hargs c
    rw [(h c).1, Reference2Ideal.Read.val_main_v47_eq, h0, h1, h2, h3, h4, h5, h6, h7, h8]
    exact M.ref_eq _ _ _ _ _ _ _ _ _

/-- The feed-forward runs to its end, its arguments unchanged and its semaphores at zero. -/
theorem frame_P3 : quiescent_Kernel3 (hKernel3 := Kernel3.Gen.facts) :=
  fun m g _ => Kernel3.Gen.frame m g

/-- So does the idealized feed-forward. -/
theorem frame_PI3 : quiescent_Kernel3Ideal (hKernel3Ideal := Kernel3Ideal.Gen.facts) :=
  fun m g _ => Kernel3Ideal.Gen.frame m g

/-- So does its idealized reference. -/
theorem frame_RI3 : quiescent_Reference3Ideal (hReference3Ideal := Reference3Ideal.Gen.facts) :=
  fun m g _ => (θ_run Reference3Ideal.defs _ _).mono
    (fun r h => ⟨fun c => (h c).2.2, sem_eq_zero_of_no_sems (by decide) r.2⟩)
    (Reference3Ideal.Value.run (F := Ideal) m g)

/-- The feed-forward's idealized text is its text. -/
theorem preserves3 : preserves_Kernel3_Kernel3Ideal := trivial

/-- Over the reals the feed-forward and its reference leave the same two arrays. -/
theorem algebraic3 : algebraic_Kernel3Ideal_Reference3Ideal (hKernel3Ideal := Kernel3Ideal.Gen.facts)
    (hReference3Ideal := Reference3Ideal.Gen.facts) := by
  intro m g m' g' _ hargs
  refine ⟨fun c => FF.resA (FF.arg m c Kernel3Ideal.main_arg0) (FF.arg m c Kernel3Ideal.main_arg1) (FF.arg m c Kernel3Ideal.main_arg2) (FF.arg m c Kernel3Ideal.main_arg3) (FF.arg m c Kernel3Ideal.main_arg4) (FF.arg m c Kernel3Ideal.main_arg5) (FF.arg m c Kernel3Ideal.main_arg6) (FF.arg m c Kernel3Ideal.main_arg7),
    fun c => FF.tailA (FF.arg m c Kernel3Ideal.main_arg0) (FF.arg m c Kernel3Ideal.main_arg1) (FF.arg m c Kernel3Ideal.main_arg2) (FF.arg m c Kernel3Ideal.main_arg6), ?_, ?_⟩
  · exact (θ_run Kernel3Ideal.defs _ _).mono (fun r h c => ⟨(h.1 c).1, (h.1 c).2, h.2 c⟩)
      (θ_run_and (FF.run m g) (Kernel3Ideal.Gen.unchanged m g))
  · refine (θ_run Reference3Ideal.defs _ _).mono (fun r h c => ⟨?_, ?_, (h c).2.2⟩)
      (Reference3Ideal.Value.run (F := Ideal) m' g')
    · obtain ⟨h0, h1, h2, h3, h4, h5, h6, h7⟩ := hargs c
      rw [(h c).1, Reference3Ideal.Read.val_main_v70_eq, h0, h1, h2, h3, h4, h5, h6, h7]
      exact FF.ref_eq _ _ _ _ _ _ _ _
    · obtain ⟨h0, h1, h2, _, _, _, h6, _⟩ := hargs c
      rw [(h c).2.1]
      refine (Reference3Ideal.Read.val_main_v55_eq _ _ _ _).trans ?_
      rw [h0, h1, h2, h6]
      exact FF.ref_tail _ _ _ _

/-- The projection runs to its end, its arguments unchanged and its semaphores at zero. -/
theorem frame_P4 : quiescent_Kernel4 (hKernel4 := Kernel4.Gen.facts) :=
  fun m g _ => Kernel4.Gen.frame m g

/-- So does the idealized projection. -/
theorem frame_PI4 : quiescent_Kernel4Ideal (hKernel4Ideal := Kernel4Ideal.Gen.facts) :=
  fun m g _ => Kernel4Ideal.Gen.frame m g

/-- So does its idealized reference. -/
theorem frame_RI4 : quiescent_Reference4Ideal (hReference4Ideal := Reference4Ideal.Gen.facts) :=
  fun m g _ => (θ_run Reference4Ideal.defs _ _).mono
    (fun r h => ⟨fun c => (h c).2.2.2.2.2, sem_eq_zero_of_no_sems (by decide) r.2⟩)
    (Reference4Ideal.Value.run (F := Ideal) m g)

/-- The projection's idealized text is its text. -/
theorem preserves4 : preserves_Kernel4_Kernel4Ideal := trivial

/-- Over the reals the projection and its reference leave the same five arrays. -/
theorem algebraic4 : algebraic_Kernel4Ideal_Reference4Ideal (hKernel4Ideal := Kernel4Ideal.Gen.facts)
    (hReference4Ideal := Reference4Ideal.Gen.facts) := by
  intro m g m' g' _ hargs
  refine ⟨fun c => KV.stackA (KV.arg m c Kernel4Ideal.main_arg0) (KV.arg m c Kernel4Ideal.main_arg1) (KV.arg m c Kernel4Ideal.main_arg2) (KV.arg m c Kernel4Ideal.main_arg3) 512 (by omega),
    fun c => KV.stackA (KV.arg m c Kernel4Ideal.main_arg0) (KV.arg m c Kernel4Ideal.main_arg1) (KV.arg m c Kernel4Ideal.main_arg2) (KV.arg m c Kernel4Ideal.main_arg3) 1024 (by omega),
    fun c => KV.stackA (KV.arg m c Kernel4Ideal.main_arg0) (KV.arg m c Kernel4Ideal.main_arg1) (KV.arg m c Kernel4Ideal.main_arg2) (KV.arg m c Kernel4Ideal.main_arg3) 2048 (by omega),
    fun c => KV.stackA (KV.arg m c Kernel4Ideal.main_arg0) (KV.arg m c Kernel4Ideal.main_arg1) (KV.arg m c Kernel4Ideal.main_arg2) (KV.arg m c Kernel4Ideal.main_arg3) 2560 (by omega),
    fun c => KV.stackA (KV.arg m c Kernel4Ideal.main_arg0) (KV.arg m c Kernel4Ideal.main_arg1) (KV.arg m c Kernel4Ideal.main_arg2) (KV.arg m c Kernel4Ideal.main_arg3) 3584 (by omega), ?_, ?_⟩
  · exact (θ_run Kernel4Ideal.defs _ _).mono (fun r h c => ⟨(h.1 c).1, (h.1 c).2.1, (h.1 c).2.2.1, (h.1 c).2.2.2.1, (h.1 c).2.2.2.2, h.2 c⟩)
      (θ_run_and (KV.run m g) (Kernel4Ideal.Gen.unchanged m g))
  · refine (θ_run Reference4Ideal.defs _ _).mono (fun r h c => ?_) (Reference4Ideal.Value.run (F := Ideal) m' g')
    obtain ⟨h0, h1, h2, h3⟩ := hargs c
    refine ⟨?_, ?_, ?_, ?_, ?_, (h c).2.2.2.2.2⟩
    · rw [(h c).1]
      refine (Reference4Ideal.Read.val_main_v58_eq _ _ _ _).trans ?_
      rw [h0, h1, h2, h3]
      exact KV.ref_0 _ _ _ _
    · rw [(h c).2.1]
      refine (Reference4Ideal.Read.val_main_v61_eq _ _ _ _).trans ?_
      rw [h0, h1, h2, h3]
      exact KV.ref_1 _ _ _ _
    · rw [(h c).2.2.1]
      refine (Reference4Ideal.Read.val_main_v64_eq _ _ _ _).trans ?_
      rw [h0, h1, h2, h3]
      exact KV.ref_2 _ _ _ _
    · rw [(h c).2.2.2.1]
      refine (Reference4Ideal.Read.val_main_v67_eq _ _ _ _).trans ?_
      rw [h0, h1, h2, h3]
      exact KV.ref_3 _ _ _ _
    · rw [(h c).2.2.2.2.1]
      refine (Reference4Ideal.Read.val_main_v70_eq _ _ _ _).trans ?_
      rw [h0, h1, h2, h3]
      exact KV.ref_4 _ _ _ _

/-- The row-major projection runs to its end, its arguments unchanged and its semaphores at zero. -/
theorem frame_PI5 : quiescent_Kernel5Ideal (hKernel5Ideal := Kernel5Ideal.Gen.facts) :=
  fun m g _ => NP.run_frame (F := Ideal) m g

/-- So does its text over the machine's floats, which is the same text. -/
theorem frame_P5 : quiescent_Kernel5 (hKernel5 := Kernel5.Gen.facts) := fun m g _ => by
  have h := NP.run_frame (F := Bits) m g
  rw [← NP.defs_same] at h
  exact h

/-- So does its idealized reference. -/
theorem frame_RI5 : quiescent_Reference5Ideal (hReference5Ideal := Reference5Ideal.Gen.facts) :=
  fun m g _ => (θ_run Reference5Ideal.defs _ _).mono
    (fun r h => ⟨fun c => (h c).2.2, sem_eq_zero_of_no_sems (by decide) r.2⟩)
    (Reference5Ideal.Value.run (F := Ideal) m g)

/-- The row-major projection's idealized text is its text. -/
theorem preserves5 : preserves_Kernel5_Kernel5Ideal := trivial

/-- The sample's projection runs to its end, its arguments unchanged and its semaphores at zero. -/
theorem frame_PI6 : quiescent_Kernel6Ideal (hKernel6Ideal := Kernel6Ideal.Gen.facts) :=
  fun m g _ => SP.run_frame (F := Ideal) m g

/-- So does its text over the machine's floats, which is the same text. -/
theorem frame_P6 : quiescent_Kernel6 (hKernel6 := Kernel6.Gen.facts) := fun m g _ => by
  have h := SP.run_frame (F := Bits) m g
  rw [← SP.defs_same] at h
  exact h

/-- So does its idealized reference. -/
theorem frame_RI6 : quiescent_Reference6Ideal (hReference6Ideal := Reference6Ideal.Gen.facts) :=
  fun m g _ => (θ_run Reference6Ideal.defs _ _).mono
    (fun r h => ⟨fun c => (h c).2, sem_eq_zero_of_no_sems (by decide) r.2⟩)
    (Reference6Ideal.Value.run (F := Ideal) m g)

/-- The sample's projection's idealized text is its text. -/
theorem preserves6 : preserves_Kernel6_Kernel6Ideal := trivial

/-- The band's shift runs to its end, its arguments unchanged and its semaphores at zero. -/
theorem frame_P7 : quiescent_Kernel7 (hKernel7 := Kernel7.Gen.facts) :=
  fun m g _ => Kernel7.Gen.frame m g

/-- So does the idealized shift. -/
theorem frame_PI7 : quiescent_Kernel7Ideal (hKernel7Ideal := Kernel7Ideal.Gen.facts) :=
  fun m g _ => Kernel7Ideal.Gen.frame m g

/-- So does its idealized reference. -/
theorem frame_RI7 : quiescent_Reference7Ideal (hReference7Ideal := Reference7Ideal.Gen.facts) :=
  fun m g _ => (θ_run Reference7Ideal.defs _ _).mono
    (fun r h => ⟨fun c => (h c).2.2, sem_eq_zero_of_no_sems (by decide) r.2⟩)
    (Reference7Ideal.Value.run (F := Ideal) m g)

/-- The shift's idealized text is its text. -/
theorem preserves7 : preserves_Kernel7_Kernel7Ideal := trivial

/-- Over the reals the shift and its reference leave the same two arrays. -/
theorem algebraic7 : algebraic_Kernel7Ideal_Reference7Ideal (hKernel7Ideal := Kernel7Ideal.Gen.facts)
    (hReference7Ideal := Reference7Ideal.Gen.facts) := by
  intro m g m' g' _ hargs
  refine ⟨fun c => BR.movedA (BR.arg m c Kernel7Ideal.main_arg0) (BR.arg m c Kernel7Ideal.main_arg2) 512 (by omega),
    fun c => BR.movedA (BR.arg m c Kernel7Ideal.main_arg1) (BR.arg m c Kernel7Ideal.main_arg2) 1024 (by omega), ?_, ?_⟩
  · exact (θ_run Kernel7Ideal.defs _ _).mono (fun r h c => ⟨(h.1 c).1, (h.1 c).2, h.2 c⟩)
      (θ_run_and (BR.run m g) (Kernel7Ideal.Gen.unchanged m g))
  · refine (θ_run Reference7Ideal.defs _ _).mono (fun r h c => ⟨?_, ?_, (h c).2.2⟩)
      (Reference7Ideal.Value.run (F := Ideal) m' g')
    · obtain ⟨h0, _, h2⟩ := hargs c
      rw [(h c).1]
      refine (Reference7Ideal.Read.val_main_v5_eq _ _).trans ?_
      rw [h0, h2]
      exact BR.ref_k _ _
    · obtain ⟨_, h1, h2⟩ := hargs c
      rw [(h c).2.1]
      refine (Reference7Ideal.Read.val_main_v7_eq _ _).trans ?_
      rw [h1, h2]
      exact BR.ref_v _ _

/-- The sample batch's feed-forward runs to its end, its arguments unchanged and its semaphores at zero. -/
theorem frame_P8 : quiescent_Kernel8 (hKernel8 := Kernel8.Gen.facts) :=
  fun m g _ => Kernel8.Gen.frame m g

/-- So does the idealized sample batch's feed-forward. -/
theorem frame_PI8 : quiescent_Kernel8Ideal (hKernel8Ideal := Kernel8Ideal.Gen.facts) :=
  fun m g _ => Kernel8Ideal.Gen.frame m g

/-- So does its idealized reference. -/
theorem frame_RI8 : quiescent_Reference8Ideal (hReference8Ideal := Reference8Ideal.Gen.facts) :=
  fun m g _ => (θ_run Reference8Ideal.defs _ _).mono
    (fun r h => ⟨fun c => (h c).2.2, sem_eq_zero_of_no_sems (by decide) r.2⟩)
    (Reference8Ideal.Value.run (F := Ideal) m g)

/-- The sample batch's feed-forward's idealized text is its text. -/
theorem preserves8 : preserves_Kernel8_Kernel8Ideal := trivial

/-- Over the reals the sample batch's feed-forward and its reference leave the same two arrays. -/
theorem algebraic8 : algebraic_Kernel8Ideal_Reference8Ideal (hKernel8Ideal := Kernel8Ideal.Gen.facts)
    (hReference8Ideal := Reference8Ideal.Gen.facts) := by
  intro m g m' g' _ hargs
  refine ⟨fun c => FS.resA (FS.arg m c Kernel8Ideal.main_arg0) (FS.arg m c Kernel8Ideal.main_arg1) (FS.arg m c Kernel8Ideal.main_arg2) (FS.arg m c Kernel8Ideal.main_arg3) (FS.arg m c Kernel8Ideal.main_arg4) (FS.arg m c Kernel8Ideal.main_arg5) (FS.arg m c Kernel8Ideal.main_arg6) (FS.arg m c Kernel8Ideal.main_arg7),
    fun c => FS.tailA (FS.arg m c Kernel8Ideal.main_arg0) (FS.arg m c Kernel8Ideal.main_arg1) (FS.arg m c Kernel8Ideal.main_arg2) (FS.arg m c Kernel8Ideal.main_arg6), ?_, ?_⟩
  · exact (θ_run Kernel8Ideal.defs _ _).mono (fun r h c => ⟨(h.1 c).1, (h.1 c).2, h.2 c⟩)
      (θ_run_and (FS.run m g) (Kernel8Ideal.Gen.unchanged m g))
  · refine (θ_run Reference8Ideal.defs _ _).mono (fun r h c => ⟨?_, ?_, (h c).2.2⟩)
      (Reference8Ideal.Value.run (F := Ideal) m' g')
    · obtain ⟨h0, h1, h2, h3, h4, h5, h6, h7⟩ := hargs c
      rw [(h c).1, Reference8Ideal.Read.val_main_v70_eq, h0, h1, h2, h3, h4, h5, h6, h7]
      exact FS.ref_eq _ _ _ _ _ _ _ _
    · obtain ⟨h0, h1, h2, _, _, _, h6, _⟩ := hargs c
      rw [(h c).2.1]
      refine (Reference8Ideal.Read.val_main_v55_eq _ _ _ _).trans ?_
      rw [h0, h1, h2, h6]
      exact FS.ref_tail _ _ _ _

/-- The feed-forward of the layers before the last runs to its end, its arguments unchanged and its semaphores at zero. -/
theorem frame_P9 : quiescent_Kernel9 (hKernel9 := Kernel9.Gen.facts) :=
  fun m g _ => Kernel9.Gen.frame m g

/-- So does the idealized feed-forward of the layers before the last. -/
theorem frame_PI9 : quiescent_Kernel9Ideal (hKernel9Ideal := Kernel9Ideal.Gen.facts) :=
  fun m g _ => Kernel9Ideal.Gen.frame m g

/-- So does its idealized reference. -/
theorem frame_RI9 : quiescent_Reference9Ideal (hReference9Ideal := Reference9Ideal.Gen.facts) :=
  fun m g _ => (θ_run Reference9Ideal.defs _ _).mono
    (fun r h => ⟨fun c => (h c).2.2, sem_eq_zero_of_no_sems (by decide) r.2⟩)
    (Reference9Ideal.Value.run (F := Ideal) m g)

/-- The feed-forward of the layers before the last's idealized text is its text. -/
theorem preserves9 : preserves_Kernel9_Kernel9Ideal := trivial

/-- Over the reals the feed-forward of the layers before the last and its reference leave the same two arrays. -/
theorem algebraic9 : algebraic_Kernel9Ideal_Reference9Ideal (hKernel9Ideal := Kernel9Ideal.Gen.facts)
    (hReference9Ideal := Reference9Ideal.Gen.facts) := by
  intro m g m' g' _ hargs
  refine ⟨fun c => FG.resA (FG.arg m c Kernel9Ideal.main_arg0) (FG.arg m c Kernel9Ideal.main_arg1) (FG.arg m c Kernel9Ideal.main_arg2) (FG.arg m c Kernel9Ideal.main_arg3) (FG.arg m c Kernel9Ideal.main_arg4) (FG.arg m c Kernel9Ideal.main_arg5) (FG.arg m c Kernel9Ideal.main_arg6),
    fun c => FG.tailA (FG.arg m c Kernel9Ideal.main_arg0) (FG.arg m c Kernel9Ideal.main_arg1) (FG.arg m c Kernel9Ideal.main_arg2) (FG.arg m c Kernel9Ideal.main_arg6), ?_, ?_⟩
  · exact (θ_run Kernel9Ideal.defs _ _).mono (fun r h c => ⟨(h.1 c).1, (h.1 c).2, h.2 c⟩)
      (θ_run_and (FG.run m g) (Kernel9Ideal.Gen.unchanged m g))
  · refine (θ_run Reference9Ideal.defs _ _).mono (fun r h c => ⟨?_, ?_, (h c).2.2⟩)
      (Reference9Ideal.Value.run (F := Ideal) m' g')
    · obtain ⟨h0, h1, h2, h3, h4, h5, h6, _⟩ := hargs c
      rw [(h c).1, Reference9Ideal.Read.val_main_v57_eq, h0, h1, h2, h3, h4, h5, h6]
      exact FG.ref_eq _ _ _ _ _ _ _
    · obtain ⟨h0, h1, h2, _, _, _, h6, _⟩ := hargs c
      rw [(h c).2.1]
      refine (Reference9Ideal.Read.val_main_v55_eq _ _ _ _).trans ?_
      rw [h0, h1, h2, h6]
      exact FG.ref_tail _ _ _ _

/-- The sample batch's feed-forward of the layers before the last runs to its end, its arguments unchanged and its semaphores at zero. -/
theorem frame_P10 : quiescent_Kernel10 (hKernel10 := Kernel10.Gen.facts) :=
  fun m g _ => Kernel10.Gen.frame m g

/-- So does the idealized sample batch's feed-forward of the layers before the last. -/
theorem frame_PI10 : quiescent_Kernel10Ideal (hKernel10Ideal := Kernel10Ideal.Gen.facts) :=
  fun m g _ => Kernel10Ideal.Gen.frame m g

/-- So does its idealized reference. -/
theorem frame_RI10 : quiescent_Reference10Ideal (hReference10Ideal := Reference10Ideal.Gen.facts) :=
  fun m g _ => (θ_run Reference10Ideal.defs _ _).mono
    (fun r h => ⟨fun c => (h c).2.2, sem_eq_zero_of_no_sems (by decide) r.2⟩)
    (Reference10Ideal.Value.run (F := Ideal) m g)

/-- The sample batch's feed-forward of the layers before the last's idealized text is its text. -/
theorem preserves10 : preserves_Kernel10_Kernel10Ideal := trivial

/-- Over the reals the sample batch's feed-forward of the layers before the last and its reference leave the same two arrays. -/
theorem algebraic10 : algebraic_Kernel10Ideal_Reference10Ideal (hKernel10Ideal := Kernel10Ideal.Gen.facts)
    (hReference10Ideal := Reference10Ideal.Gen.facts) := by
  intro m g m' g' _ hargs
  refine ⟨fun c => FT.resA (FT.arg m c Kernel10Ideal.main_arg0) (FT.arg m c Kernel10Ideal.main_arg1) (FT.arg m c Kernel10Ideal.main_arg2) (FT.arg m c Kernel10Ideal.main_arg3) (FT.arg m c Kernel10Ideal.main_arg4) (FT.arg m c Kernel10Ideal.main_arg5) (FT.arg m c Kernel10Ideal.main_arg6),
    fun c => FT.tailA (FT.arg m c Kernel10Ideal.main_arg0) (FT.arg m c Kernel10Ideal.main_arg1) (FT.arg m c Kernel10Ideal.main_arg2) (FT.arg m c Kernel10Ideal.main_arg6), ?_, ?_⟩
  · exact (θ_run Kernel10Ideal.defs _ _).mono (fun r h c => ⟨(h.1 c).1, (h.1 c).2, h.2 c⟩)
      (θ_run_and (FT.run m g) (Kernel10Ideal.Gen.unchanged m g))
  · refine (θ_run Reference10Ideal.defs _ _).mono (fun r h c => ⟨?_, ?_, (h c).2.2⟩)
      (Reference10Ideal.Value.run (F := Ideal) m' g')
    · obtain ⟨h0, h1, h2, h3, h4, h5, h6, _⟩ := hargs c
      rw [(h c).1, Reference10Ideal.Read.val_main_v57_eq, h0, h1, h2, h3, h4, h5, h6]
      exact FT.ref_eq _ _ _ _ _ _ _
    · obtain ⟨h0, h1, h2, _, _, _, h6, _⟩ := hargs c
      rw [(h c).2.1]
      refine (Reference10Ideal.Read.val_main_v55_eq _ _ _ _).trans ?_
      rw [h0, h1, h2, h6]
      exact FT.ref_tail _ _ _ _

/-- Over the reals the row-major projection and its reference leave the same two arrays. -/
theorem algebraic5 : algebraic_Kernel5Ideal_Reference5Ideal (hKernel5Ideal := Kernel5Ideal.Gen.facts)
    (hReference5Ideal := Reference5Ideal.Gen.facts) := by
  intro m g m' g' _ hargs
  refine ⟨fun c => NP.stacked (s := Kernel5Ideal.S2x16384x2048) (by decide)
      (NP.rowsL (NP.arg m c Kernel5Ideal.main_arg0) (NP.arg m c Kernel5Ideal.main_arg2) (NP.arg m c Kernel5Ideal.main_arg3) 0)
      (NP.rowsL (NP.arg m c Kernel5Ideal.main_arg1) (NP.arg m c Kernel5Ideal.main_arg2) (NP.arg m c Kernel5Ideal.main_arg3) 1),
    fun c => NP.stacked (s := Kernel5Ideal.S2x65536x128) (by decide)
      (NP.valsL (NP.arg m c Kernel5Ideal.main_arg0) (NP.arg m c Kernel5Ideal.main_arg2) (NP.arg m c Kernel5Ideal.main_arg3) 0)
      (NP.valsL (NP.arg m c Kernel5Ideal.main_arg1) (NP.arg m c Kernel5Ideal.main_arg2) (NP.arg m c Kernel5Ideal.main_arg3) 1), ?_, ?_⟩
  · exact (θ_run Kernel5Ideal.defs _ _).mono (fun r h c => ⟨(h.1 c).1, (h.1 c).2, h.2.1 c⟩)
      (θ_run_and (NP.run m g) (NP.run_frame m g))
  · refine (θ_run Reference5Ideal.defs _ _).mono (fun r h c => ?_) (Reference5Ideal.Value.run (F := Ideal) m' g')
    obtain ⟨h0, h1, h2, h3⟩ := hargs c
    refine ⟨?_, ?_, (h c).2.2⟩
    · rw [(h c).1]
      refine (Reference5Ideal.Read.val_main_v52_eq _ _).trans ?_
      rw [h0, h1, h2, h3]
      exact NP.ref_rows _ _ _ _
    · rw [(h c).2.1]
      refine (Reference5Ideal.Read.val_main_v55_eq _ _ _ _).trans ?_
      rw [h0, h1, h2, h3]
      exact NP.ref_vals _ _ _ _

/-- The sample's merge runs to its end, its arguments unchanged and its semaphores at zero. -/
theorem frame_P11 : quiescent_Kernel11 (hKernel11 := Kernel11.Gen.facts) :=
  fun m g _ => Kernel11.Gen.frame m g

/-- So does the idealized sample's merge. -/
theorem frame_PI11 : quiescent_Kernel11Ideal (hKernel11Ideal := Kernel11Ideal.Gen.facts) :=
  fun m g _ => Kernel11Ideal.Gen.frame m g

/-- So does its idealized reference. -/
theorem frame_RI11 : quiescent_Reference11Ideal (hReference11Ideal := Reference11Ideal.Gen.facts) :=
  fun m g _ => (θ_run Reference11Ideal.defs _ _).mono
    (fun r h => ⟨fun c => (h c).2, sem_eq_zero_of_no_sems (by decide) r.2⟩)
    (Reference11Ideal.Value.run (F := Ideal) m g)

/-- The sample's merge's idealized text is its text. -/
theorem preserves11 : preserves_Kernel11_Kernel11Ideal := trivial

/-- Over the reals the sample's merge and its reference leave the same array. -/
theorem algebraic11 : algebraic_Kernel11Ideal_Reference11Ideal (hKernel11Ideal := Kernel11Ideal.Gen.facts)
    (hReference11Ideal := Reference11Ideal.Gen.facts) := by
  intro m g m' g' _ hargs
  refine ⟨fun c => MS.resA (MS.arg m c Kernel11Ideal.main_arg0) (MS.arg m c Kernel11Ideal.main_arg1) (MS.arg m c Kernel11Ideal.main_arg2) (MS.arg m c Kernel11Ideal.main_arg3) (MS.arg m c Kernel11Ideal.main_arg4) (MS.arg m c Kernel11Ideal.main_arg5) (MS.arg m c Kernel11Ideal.main_arg6) (MS.arg m c Kernel11Ideal.main_arg7) (MS.arg m c Kernel11Ideal.main_arg8), ?_, ?_⟩
  · exact (θ_run Kernel11Ideal.defs _ _).mono (fun r h c => ⟨(h c).1.trans (MS.final m c), (h c).2⟩)
      (Kernel11Ideal.Value.run_blocks m g)
  · refine (θ_run Reference11Ideal.defs _ _).mono (fun r h c => ⟨?_, (h c).2⟩)
      (Reference11Ideal.Value.run (F := Ideal) m' g')
    obtain ⟨h0, h1, h2, h3, h4, h5, h6, h7, h8⟩ := hargs c
    rw [(h c).1, Reference11Ideal.Read.val_main_v47_eq, h0, h1, h2, h3, h4, h5, h6, h7, h8]
    exact MS.ref_eq _ _ _ _ _ _ _ _ _

/-- The sample's projection over the extended reals is its reference. -/
theorem algebraic6 : algebraic_Kernel6Ideal_Reference6Ideal (hKernel6Ideal := Kernel6Ideal.Gen.facts)
    (hReference6Ideal := Reference6Ideal.Gen.facts) := by
  intro m g m' g' _ hargs
  refine ⟨fun c => SP.stacked
      (SP.rowsL (SP.arg m c Kernel6Ideal.main_arg0) (SP.arg m c Kernel6Ideal.main_arg2) (SP.arg m c Kernel6Ideal.main_arg3) 0)
      (SP.rowsL (SP.arg m c Kernel6Ideal.main_arg1) (SP.arg m c Kernel6Ideal.main_arg2) (SP.arg m c Kernel6Ideal.main_arg3) 1), ?_, ?_⟩
  · exact (θ_run Kernel6Ideal.defs _ _).mono (fun r h c => ⟨h.1 c, h.2.1 c⟩)
      (θ_run_and (SP.run m g) (SP.run_frame m g))
  · refine (θ_run Reference6Ideal.defs _ _).mono (fun r h c => ?_) (Reference6Ideal.Value.run (F := Ideal) m' g')
    obtain ⟨h0, h1, h2, h3⟩ := hargs c
    refine ⟨?_, (h c).2⟩
    rw [(h c).1]
    refine (Reference6Ideal.Read.val_main_v42_eq _ _ _ _).trans ?_
    rw [h0, h1, h2, h3]
    exact SP.ref_rows _ _ _ _

/-- The sample's stick-breaking attention: its frames, -/
theorem frame_P12 : quiescent_Kernel12 (hKernel12 := Kernel12.Gen.facts) :=
  fun m g _ => (θ_run Kernel12.defs _ _).mono (fun _ h => ⟨fun c => (h.1 c).2, h.2⟩) (SA.run_named m g)

theorem frame_PI12 : quiescent_Kernel12Ideal (hKernel12Ideal := Kernel12Ideal.Gen.facts) :=
  fun m g _ => (θ_run Kernel12Ideal.defs _ _).mono (fun _ h => ⟨fun c => (h.1 c).2, h.2⟩) (SI.run_named m g)

theorem frame_RI12 : quiescent_Reference12Ideal (hReference12Ideal := Reference12Ideal.Gen.facts) :=
  fun m g _ => (θ_run Reference12Ideal.defs _ _).mono
    (fun r h => ⟨fun c => (h c).2, sem_eq_zero_of_no_sems (by decide) r.2⟩) (Reference12Ideal.Value.run (F := Ideal) m g)

/-- the kept meaning, up to the named constant, -/
theorem preserves12 : preserves_Kernel12_Kernel12Ideal :=
  IdealRules.named_const.statement Kernel12Ideal.κ "cut" .f32 0xC2D00000#32 ⊥ rfl

/-- and the equality of its result with the plain mathematics. -/
theorem algebraic12 : algebraic_Kernel12Ideal_Reference12Ideal (hKernel12Ideal := Kernel12Ideal.Gen.facts)
    (hReference12Ideal := Reference12Ideal.Gen.facts) := by
  intro m g m' g' _ hargs
  refine ⟨fun c => SV.res (SV.arg m c Kernel12Ideal.main_arg0) (SV.arg m c Kernel12Ideal.main_arg1)
    (SV.arg m c Kernel12Ideal.main_arg2), ?_, ?_⟩
  · exact (θ_run Kernel12Ideal.defs _ _).mono (fun _ h c => ⟨(h.1 c).1.trans (SV.final_eq m c), (h.1 c).2⟩)
      (SI.run_named m g)
  · refine (θ_run Reference12Ideal.defs _ _).mono (fun r h c => ⟨?_, (h c).2⟩) (Reference12Ideal.Value.run (F := Ideal) m' g')
    obtain ⟨h0, h1, h2⟩ := hargs c
    rw [(h c).1, Reference12Ideal.Read.val_main_v46_eq, h0, h1, h2]
    exact SV.v46_eq _ _ _

theorem claim : Claim := ⟨Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  frame_P, frame_PI, frame_RI, frame_P2, frame_PI2, frame_RI2, frame_P3, frame_PI3, frame_RI3,
  frame_P4, frame_PI4, frame_RI4, frame_P5, frame_PI5, frame_RI5,
  frame_P6, frame_PI6, frame_RI6,
  frame_P7, frame_PI7, frame_RI7,
  frame_P8, frame_PI8, frame_RI8,
  frame_P9, frame_PI9, frame_RI9,
  frame_P10, frame_PI10, frame_RI10,
  frame_P11, frame_PI11, frame_RI11,
  frame_P12, frame_PI12, frame_RI12,
  preserves, algebraic, preserves2, algebraic2, preserves3, algebraic3, preserves4, algebraic4,
  preserves5, algebraic5, preserves6, algebraic6, preserves7, algebraic7, preserves8, algebraic8, preserves9, algebraic9, preserves10, algebraic10, preserves11, algebraic11, preserves12, algebraic12⟩

end Cert.Proof

end
